-- ==== Defs.lean ====
def Pre_ActGrad (m : (ℓ : Loc Cert.ActGrad.nD Cert.ActGrad.τ Cert.ActGrad.sig) → Buf (Elt Bits) ℓ) : Prop :=
  True

def Pre_ActGradIdeal (m : (ℓ : Loc Cert.ActGradIdeal.nD Cert.ActGradIdeal.τ Cert.ActGradIdeal.sig) → Buf (Elt Ideal) ℓ) : Prop :=
  True

def Pre_ActGradIdeal_finite [hPre_finite : Cert.Pre_finite.Facts] (m : (ℓ : Loc Cert.ActGradIdeal.nD Cert.ActGradIdeal.τ Cert.ActGradIdeal.sig) → Buf (Elt Ideal) ℓ) : Prop :=
  ∀ c : Dev Cert.ActGradIdeal.nD,
    (Cert.Pre_finite.fn (F := Ideal) (m ((c.tc : Thread Cert.ActGradIdeal.nD Cert.ActGradIdeal.τ).loc Cert.ActGradIdeal.main_arg0)) (m ((c.tc : Thread Cert.ActGradIdeal.nD Cert.ActGradIdeal.τ).loc Cert.ActGradIdeal.main_arg1)) (m ((c.tc : Thread Cert.ActGradIdeal.nD Cert.ActGradIdeal.τ).loc Cert.ActGradIdeal.main_arg2)) (m ((c.tc : Thread Cert.ActGradIdeal.nD Cert.ActGradIdeal.τ).loc Cert.ActGradIdeal.main_arg3))).1 = (fun _ => 1#1)
    ∧ (Cert.Pre_finite.fn (F := Ideal) (m ((c.tc : Thread Cert.ActGradIdeal.nD Cert.ActGradIdeal.τ).loc Cert.ActGradIdeal.main_arg0)) (m ((c.tc : Thread Cert.ActGradIdeal.nD Cert.ActGradIdeal.τ).loc Cert.ActGradIdeal.main_arg1)) (m ((c.tc : Thread Cert.ActGradIdeal.nD Cert.ActGradIdeal.τ).loc Cert.ActGradIdeal.main_arg2)) (m ((c.tc : Thread Cert.ActGradIdeal.nD Cert.ActGradIdeal.τ).loc Cert.ActGradIdeal.main_arg3))).2.1 = (fun _ => 1#1)
    ∧ (Cert.Pre_finite.fn (F := Ideal) (m ((c.tc : Thread Cert.ActGradIdeal.nD Cert.ActGradIdeal.τ).loc Cert.ActGradIdeal.main_arg0)) (m ((c.tc : Thread Cert.ActGradIdeal.nD Cert.ActGradIdeal.τ).loc Cert.ActGradIdeal.main_arg1)) (m ((c.tc : Thread Cert.ActGradIdeal.nD Cert.ActGradIdeal.τ).loc Cert.ActGradIdeal.main_arg2)) (m ((c.tc : Thread Cert.ActGradIdeal.nD Cert.ActGradIdeal.τ).loc Cert.ActGradIdeal.main_arg3))).2.2 = (fun _ => 1#1)

def Pre_ActGradRefIdeal (m : (ℓ : Loc Cert.ActGradRefIdeal.nD Cert.ActGradRefIdeal.τ Cert.ActGradRefIdeal.sig) → Buf (Elt Ideal) ℓ) : Prop :=
  True

def Pre_ActGradRefIdeal_finite [hPre_finite : Cert.Pre_finite.Facts] (m : (ℓ : Loc Cert.ActGradRefIdeal.nD Cert.ActGradRefIdeal.τ Cert.ActGradRefIdeal.sig) → Buf (Elt Ideal) ℓ) : Prop :=
  ∀ c : Dev Cert.ActGradRefIdeal.nD,
    (Cert.Pre_finite.fn (F := Ideal) (m ((c.tc : Thread Cert.ActGradRefIdeal.nD Cert.ActGradRefIdeal.τ).loc Cert.ActGradRefIdeal.main_arg0)) (m ((c.tc : Thread Cert.ActGradRefIdeal.nD Cert.ActGradRefIdeal.τ).loc Cert.ActGradRefIdeal.main_arg1)) (m ((c.tc : Thread Cert.ActGradRefIdeal.nD Cert.ActGradRefIdeal.τ).loc Cert.ActGradRefIdeal.main_arg2)) (m ((c.tc : Thread Cert.ActGradRefIdeal.nD Cert.ActGradRefIdeal.τ).loc Cert.ActGradRefIdeal.main_arg3))).1 = (fun _ => 1#1)
    ∧ (Cert.Pre_finite.fn (F := Ideal) (m ((c.tc : Thread Cert.ActGradRefIdeal.nD Cert.ActGradRefIdeal.τ).loc Cert.ActGradRefIdeal.main_arg0)) (m ((c.tc : Thread Cert.ActGradRefIdeal.nD Cert.ActGradRefIdeal.τ).loc Cert.ActGradRefIdeal.main_arg1)) (m ((c.tc : Thread Cert.ActGradRefIdeal.nD Cert.ActGradRefIdeal.τ).loc Cert.ActGradRefIdeal.main_arg2)) (m ((c.tc : Thread Cert.ActGradRefIdeal.nD Cert.ActGradRefIdeal.τ).loc Cert.ActGradRefIdeal.main_arg3))).2.1 = (fun _ => 1#1)
    ∧ (Cert.Pre_finite.fn (F := Ideal) (m ((c.tc : Thread Cert.ActGradRefIdeal.nD Cert.ActGradRefIdeal.τ).loc Cert.ActGradRefIdeal.main_arg0)) (m ((c.tc : Thread Cert.ActGradRefIdeal.nD Cert.ActGradRefIdeal.τ).loc Cert.ActGradRefIdeal.main_arg1)) (m ((c.tc : Thread Cert.ActGradRefIdeal.nD Cert.ActGradRefIdeal.τ).loc Cert.ActGradRefIdeal.main_arg2)) (m ((c.tc : Thread Cert.ActGradRefIdeal.nD Cert.ActGradRefIdeal.τ).loc Cert.ActGradRefIdeal.main_arg3))).2.2 = (fun _ => 1#1)

def Pre_FfnWeightGrad (m : (ℓ : Loc Cert.FfnWeightGrad.nD Cert.FfnWeightGrad.τ Cert.FfnWeightGrad.sig) → Buf (Elt Bits) ℓ) : Prop :=
  True

def Pre_FfnWeightGradIdeal (m : (ℓ : Loc Cert.FfnWeightGradIdeal.nD Cert.FfnWeightGradIdeal.τ Cert.FfnWeightGradIdeal.sig) → Buf (Elt Ideal) ℓ) : Prop :=
  True

def Pre_DownWeightRefIdeal (m : (ℓ : Loc Cert.DownWeightRefIdeal.nD Cert.DownWeightRefIdeal.τ Cert.DownWeightRefIdeal.sig) → Buf (Elt Ideal) ℓ) : Prop :=
  True

def Pre_GateWeightRefIdeal (m : (ℓ : Loc Cert.GateWeightRefIdeal.nD Cert.GateWeightRefIdeal.τ Cert.GateWeightRefIdeal.sig) → Buf (Elt Ideal) ℓ) : Prop :=
  True

def Pre_FfnInputGrad (m : (ℓ : Loc Cert.FfnInputGrad.nD Cert.FfnInputGrad.τ Cert.FfnInputGrad.sig) → Buf (Elt Bits) ℓ) : Prop :=
  True

def Pre_FfnInputGradIdeal (m : (ℓ : Loc Cert.FfnInputGradIdeal.nD Cert.FfnInputGradIdeal.τ Cert.FfnInputGradIdeal.sig) → Buf (Elt Ideal) ℓ) : Prop :=
  True

def Pre_FfnInputGradRefIdeal (m : (ℓ : Loc Cert.FfnInputGradRefIdeal.nD Cert.FfnInputGradRefIdeal.τ Cert.FfnInputGradRefIdeal.sig) → Buf (Elt Ideal) ℓ) : Prop :=
  True

def Pre_InWeightGrad (m : (ℓ : Loc Cert.InWeightGrad.nD Cert.InWeightGrad.τ Cert.InWeightGrad.sig) → Buf (Elt Bits) ℓ) : Prop :=
  True

def Pre_InWeightGradIdeal (m : (ℓ : Loc Cert.InWeightGradIdeal.nD Cert.InWeightGradIdeal.τ Cert.InWeightGradIdeal.sig) → Buf (Elt Ideal) ℓ) : Prop :=
  True

def Pre_InWeightGradRefIdeal (m : (ℓ : Loc Cert.InWeightGradRefIdeal.nD Cert.InWeightGradRefIdeal.τ Cert.InWeightGradRefIdeal.sig) → Buf (Elt Ideal) ℓ) : Prop :=
  True

def Pre_InInputGrad (m : (ℓ : Loc Cert.InInputGrad.nD Cert.InInputGrad.τ Cert.InInputGrad.sig) → Buf (Elt Bits) ℓ) : Prop :=
  True

def Pre_InInputGradIdeal (m : (ℓ : Loc Cert.InInputGradIdeal.nD Cert.InInputGradIdeal.τ Cert.InInputGradIdeal.sig) → Buf (Elt Ideal) ℓ) : Prop :=
  True

def Pre_InInputGradRefIdeal (m : (ℓ : Loc Cert.InInputGradRefIdeal.nD Cert.InInputGradRefIdeal.τ Cert.InInputGradRefIdeal.sig) → Buf (Elt Ideal) ℓ) : Prop :=
  True

def Pre_OutWeightGrad (m : (ℓ : Loc Cert.OutWeightGrad.nD Cert.OutWeightGrad.τ Cert.OutWeightGrad.sig) → Buf (Elt Bits) ℓ) : Prop :=
  True

def Pre_OutWeightGradIdeal (m : (ℓ : Loc Cert.OutWeightGradIdeal.nD Cert.OutWeightGradIdeal.τ Cert.OutWeightGradIdeal.sig) → Buf (Elt Ideal) ℓ) : Prop :=
  True

def Pre_OutWeightGradRefIdeal (m : (ℓ : Loc Cert.OutWeightGradRefIdeal.nD Cert.OutWeightGradRefIdeal.τ Cert.OutWeightGradRefIdeal.sig) → Buf (Elt Ideal) ℓ) : Prop :=
  True

def Pre_OutInputGrad (m : (ℓ : Loc Cert.OutInputGrad.nD Cert.OutInputGrad.τ Cert.OutInputGrad.sig) → Buf (Elt Bits) ℓ) : Prop :=
  True

def Pre_OutInputGradIdeal (m : (ℓ : Loc Cert.OutInputGradIdeal.nD Cert.OutInputGradIdeal.τ Cert.OutInputGradIdeal.sig) → Buf (Elt Ideal) ℓ) : Prop :=
  True

def Pre_OutInputGradRefIdeal (m : (ℓ : Loc Cert.OutInputGradRefIdeal.nD Cert.OutInputGradRefIdeal.τ Cert.OutInputGradRefIdeal.sig) → Buf (Elt Ideal) ℓ) : Prop :=
  True

def Pre_FfnUpdate (m : (ℓ : Loc Cert.FfnUpdate.nD Cert.FfnUpdate.τ Cert.FfnUpdate.sig) → Buf (Elt Bits) ℓ) : Prop :=
  True

def Pre_FfnUpdateIdeal (m : (ℓ : Loc Cert.FfnUpdateIdeal.nD Cert.FfnUpdateIdeal.τ Cert.FfnUpdateIdeal.sig) → Buf (Elt Ideal) ℓ) : Prop :=
  True

def Pre_FfnUpdateRefIdeal (m : (ℓ : Loc Cert.FfnUpdateRefIdeal.nD Cert.FfnUpdateRefIdeal.τ Cert.FfnUpdateRefIdeal.sig) → Buf (Elt Ideal) ℓ) : Prop :=
  True

def Pre_OutUpdate (m : (ℓ : Loc Cert.OutUpdate.nD Cert.OutUpdate.τ Cert.OutUpdate.sig) → Buf (Elt Bits) ℓ) : Prop :=
  True

def Pre_OutUpdateIdeal (m : (ℓ : Loc Cert.OutUpdateIdeal.nD Cert.OutUpdateIdeal.τ Cert.OutUpdateIdeal.sig) → Buf (Elt Ideal) ℓ) : Prop :=
  True

def Pre_OutUpdateRefIdeal (m : (ℓ : Loc Cert.OutUpdateRefIdeal.nD Cert.OutUpdateRefIdeal.τ Cert.OutUpdateRefIdeal.sig) → Buf (Elt Ideal) ℓ) : Prop :=
  True

def Pre_InUpdate (m : (ℓ : Loc Cert.InUpdate.nD Cert.InUpdate.τ Cert.InUpdate.sig) → Buf (Elt Bits) ℓ) : Prop :=
  True

def Pre_InUpdateIdeal (m : (ℓ : Loc Cert.InUpdateIdeal.nD Cert.InUpdateIdeal.τ Cert.InUpdateIdeal.sig) → Buf (Elt Ideal) ℓ) : Prop :=
  True

def Pre_InUpdateRefIdeal (m : (ℓ : Loc Cert.InUpdateRefIdeal.nD Cert.InUpdateRefIdeal.τ Cert.InUpdateRefIdeal.sig) → Buf (Elt Ideal) ℓ) : Prop :=
  True

def Pre_GainUpdate (m : (ℓ : Loc Cert.GainUpdate.nD Cert.GainUpdate.τ Cert.GainUpdate.sig) → Buf (Elt Bits) ℓ) : Prop :=
  True

def Pre_GainUpdateIdeal (m : (ℓ : Loc Cert.GainUpdateIdeal.nD Cert.GainUpdateIdeal.τ Cert.GainUpdateIdeal.sig) → Buf (Elt Ideal) ℓ) : Prop :=
  True

def Pre_GainUpdateRefIdeal (m : (ℓ : Loc Cert.GainUpdateRefIdeal.nD Cert.GainUpdateRefIdeal.τ Cert.GainUpdateRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradRefIdeal (m : (ℓ : Loc Cert.NormGradRefIdeal.nD Cert.NormGradRefIdeal.τ Cert.NormGradRefIdeal.sig) → Buf (Elt Ideal) ℓ) : Prop :=
  True

def Pre_LossGrad (m : (ℓ : Loc Cert.LossGrad.nD Cert.LossGrad.τ Cert.LossGrad.sig) → Buf (Elt Bits) ℓ) : Prop :=
  True

def Pre_LossGradIdeal (m : (ℓ : Loc Cert.LossGradIdeal.nD Cert.LossGradIdeal.τ Cert.LossGradIdeal.sig) → Buf (Elt Ideal) ℓ) : Prop :=
  True

def Pre_LossGradRefIdeal (m : (ℓ : Loc Cert.LossGradRefIdeal.nD Cert.LossGradRefIdeal.τ Cert.LossGradRefIdeal.sig) → Buf (Elt Ideal) ℓ) : Prop :=
  True

def Pre_GateProj (m : (ℓ : Loc Cert.GateProj.nD Cert.GateProj.τ Cert.GateProj.sig) → Buf (Elt Bits) ℓ) : Prop :=
  True

def Pre_GateProjIdeal (m : (ℓ : Loc Cert.GateProjIdeal.nD Cert.GateProjIdeal.τ Cert.GateProjIdeal.sig) → Buf (Elt Ideal) ℓ) : Prop :=
  True

def Pre_GateProjRefIdeal (m : (ℓ : Loc Cert.GateProjRefIdeal.nD Cert.GateProjRefIdeal.τ Cert.GateProjRefIdeal.sig) → Buf (Elt Ideal) ℓ) : Prop :=
  True

def Pre_UpAct (m : (ℓ : Loc Cert.UpAct.nD Cert.UpAct.τ Cert.UpAct.sig) → Buf (Elt Bits) ℓ) : Prop :=
  True

def Pre_UpActIdeal (m : (ℓ : Loc Cert.UpActIdeal.nD Cert.UpActIdeal.τ Cert.UpActIdeal.sig) → Buf (Elt Ideal) ℓ) : Prop :=
  True

def Pre_UpActRefIdeal (m : (ℓ : Loc Cert.UpActRefIdeal.nD Cert.UpActRefIdeal.τ Cert.UpActRefIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjRefIdeal (m : (ℓ : Loc Cert.DownProjRefIdeal.nD Cert.DownProjRefIdeal.τ Cert.DownProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_StickHeads (m : (ℓ : Loc Cert.StickHeads.nD Cert.StickHeads.τ Cert.StickHeads.sig) → Buf (Elt Bits) ℓ) : Prop :=
  True

def Pre_StickHeadsIdeal (m : (ℓ : Loc Cert.StickHeadsIdeal.nD Cert.StickHeadsIdeal.τ Cert.StickHeadsIdeal.sig) → Buf (Elt Ideal) ℓ) : Prop :=
  True

def Pre_StickHeadsRefIdeal (m : (ℓ : Loc Cert.StickHeadsRefIdeal.nD Cert.StickHeadsRefIdeal.τ Cert.StickHeadsRefIdeal.sig) → Buf (Elt Ideal) ℓ) : Prop :=
  True

def quiescent_ActGrad [hActGrad : Cert.ActGrad.Facts] : Prop :=
  ∀ (m : (ℓ : Loc Cert.ActGrad.nD Cert.ActGrad.τ Cert.ActGrad.sig) → Buf (Elt Bits) ℓ) (g : Dev Cert.ActGrad.nD → PrngReg), Pre_ActGrad m →
    θ_run (Cert.ActGrad.defs (F := Bits)) (onTc (τ := Cert.ActGrad.τ) (Cert.ActGrad.main (F := Bits))) ⟨m, fun _ => 0, g⟩ (fun r => (∀ c : Dev Cert.ActGrad.nD,
      r.2.mem ((c.tc : Thread Cert.ActGrad.nD Cert.ActGrad.τ).loc Cert.ActGrad.main_arg0) = m ((c.tc : Thread Cert.ActGrad.nD Cert.ActGrad.τ).loc Cert.ActGrad.main_arg0)
      ∧ r.2.mem ((c.tc : Thread Cert.ActGrad.nD Cert.ActGrad.τ).loc Cert.ActGrad.main_arg1) = m ((c.tc : Thread Cert.ActGrad.nD Cert.ActGrad.τ).loc Cert.ActGrad.main_arg1)
      ∧ r.2.mem ((c.tc : Thread Cert.ActGrad.nD Cert.ActGrad.τ).loc Cert.ActGrad.main_arg2) = m ((c.tc : Thread Cert.ActGrad.nD Cert.ActGrad.τ).loc Cert.ActGrad.main_arg2)
      ∧ r.2.mem ((c.tc : Thread Cert.ActGrad.nD Cert.ActGrad.τ).loc Cert.ActGrad.main_arg3) = m ((c.tc : Thread Cert.ActGrad.nD Cert.ActGrad.τ).loc Cert.ActGrad.main_arg3))
      ∧ r.2.sem = fun _ => 0)

def quiescent_ActGradIdeal [hActGradIdeal : Cert.ActGradIdeal.Facts] : Prop :=
  ∀ (m : (ℓ : Loc Cert.ActGradIdeal.nD Cert.ActGradIdeal.τ Cert.ActGradIdeal.sig) → Buf (Elt Ideal) ℓ) (g : Dev Cert.ActGradIdeal.nD → PrngReg), Pre_ActGradIdeal m →
    θ_run (Cert.ActGradIdeal.defs (F := Ideal)) (onTc (τ := Cert.ActGradIdeal.τ) (Cert.ActGradIdeal.main (F := Ideal))) ⟨m, fun _ => 0, g⟩ (fun r => (∀ c : Dev Cert.ActGradIdeal.nD,
      r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
      ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1)
      ∧ r.2.mem ((c.tc : Thread Cert.ActGradIdeal.nD Cert.ActGradIdeal.τ).loc Cert.ActGradIdeal.main_arg2) = m ((c.tc : Thread Cert.ActGradIdeal.nD Cert.ActGradIdeal.τ).loc Cert.ActGradIdeal.main_arg2)
      ∧ r.2.mem ((c.tc : Thread Cert.ActGradIdeal.nD Cert.ActGradIdeal.τ).loc Cert.ActGradIdeal.main_arg3) = m ((c.tc : Thread Cert.ActGradIdeal.nD Cert.ActGradIdeal.τ).loc Cert.ActGradIdeal.main_arg3))
      ∧ r.2.sem = fun _ => 0)

def quiescent_ActGradIdeal_pre_finite [hActGradIdeal : Cert.ActGradIdeal.Facts] [hPre_finite : Cert.Pre_finite.Facts] : Prop :=
  ∀ (m : (ℓ : Loc Cert.ActGradIdeal.nD Cert.ActGradIdeal.τ Cert.ActGradIdeal.sig) → Buf (Elt Ideal) ℓ) (g : Dev Cert.ActGradIdeal.nD → PrngReg), Pre_ActGradIdeal_finite m →
    θ_run (Cert.ActGradIdeal.defs (F := Ideal)) (onTc (τ := Cert.ActGradIdeal.τ) (Cert.ActGradIdeal.main (F := Ideal))) ⟨m, fun _ => 0, g⟩ (fun r => (∀ c : Dev Cert.ActGradIdeal.nD,
      r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
      ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1)
      ∧ r.2.mem ((c.tc : Thread Cert.ActGradIdeal.nD Cert.ActGradIdeal.τ).loc Cert.ActGradIdeal.main_arg2) = m ((c.tc : Thread Cert.ActGradIdeal.nD Cert.ActGradIdeal.τ).loc Cert.ActGradIdeal.main_arg2)
      ∧ r.2.mem ((c.tc : Thread Cert.ActGradIdeal.nD Cert.ActGradIdeal.τ).loc Cert.ActGradIdeal.main_arg3) = m ((c.tc : Thread Cert.ActGradIdeal.nD Cert.ActGradIdeal.τ).loc Cert.ActGradIdeal.main_arg3))
      ∧ r.2.sem = fun _ => 0)

def quiescent_ActGradRefIdeal [hActGradRefIdeal : Cert.ActGradRefIdeal.Facts] : Prop :=
  ∀ (m : (ℓ : Loc Cert.ActGradRefIdeal.nD Cert.ActGradRefIdeal.τ Cert.ActGradRefIdeal.sig) → Buf (Elt Ideal) ℓ) (g : Dev Cert.ActGradRefIdeal.nD → PrngReg), Pre_ActGradRefIdeal m →
    θ_run (Cert.ActGradRefIdeal.defs (F := Ideal)) (onTc (τ := Cert.ActGradRefIdeal.τ) (Cert.ActGradRefIdeal.main (F := Ideal))) ⟨m, fun _ => 0, g⟩ (fun r => (∀ c : Dev Cert.ActGradRefIdeal.nD,
      r.2.mem ((c.tc : Thread Cert.ActGradRefIdeal.nD Cert.ActGradRefIdeal.τ).loc Cert.ActGradRefIdeal.main_arg0) = m ((c.tc : Thread Cert.ActGradRefIdeal.nD Cert.ActGradRefIdeal.τ).loc Cert.ActGradRefIdeal.main_arg0)
      ∧ r.2.mem ((c.tc : Thread Cert.ActGradRefIdeal.nD Cert.ActGradRefIdeal.τ).loc Cert.ActGradRefIdeal.main_arg1) = m ((c.tc : Thread Cert.ActGradRefIdeal.nD Cert.ActGradRefIdeal.τ).loc Cert.ActGradRefIdeal.main_arg1)
      ∧ r.2.mem ((c.tc : Thread Cert.ActGradRefIdeal.nD Cert.ActGradRefIdeal.τ).loc Cert.ActGradRefIdeal.main_arg2) = m ((c.tc : Thread Cert.ActGradRefIdeal.nD Cert.ActGradRefIdeal.τ).loc Cert.ActGradRefIdeal.main_arg2)
      ∧ r.2.mem ((c.tc : Thread Cert.ActGradRefIdeal.nD Cert.ActGradRefIdeal.τ).loc Cert.ActGradRefIdeal.main_arg3) = m ((c.tc : Thread Cert.ActGradRefIdeal.nD Cert.ActGradRefIdeal.τ).loc Cert.ActGradRefIdeal.main_arg3))
      ∧ r.2.sem = fun _ => 0)

def quiescent_ActGradRefIdeal_pre_finite [hActGradRefIdeal : Cert.ActGradRefIdeal.Facts] [hPre_finite : Cert.Pre_finite.Facts] : Prop :=
  ∀ (m : (ℓ : Loc Cert.ActGradRefIdeal.nD Cert.ActGradRefIdeal.τ Cert.ActGradRefIdeal.sig) → Buf (Elt Ideal) ℓ) (g : Dev Cert.ActGradRefIdeal.nD → PrngReg), Pre_ActGradRefIdeal_finite m →
    θ_run (Cert.ActGradRefIdeal.defs (F := Ideal)) (onTc (τ := Cert.ActGradRefIdeal.τ) (Cert.ActGradRefIdeal.main (F := Ideal))) ⟨m, fun _ => 0, g⟩ (fun r => (∀ c : Dev Cert.ActGradRefIdeal.nD,
      r.2.mem ((c.tc : Thread Cert.ActGradRefIdeal.nD Cert.ActGradRefIdeal.τ).loc Cert.ActGradRefIdeal.main_arg0) = m ((c.tc : Thread Cert.ActGradRefIdeal.nD Cert.ActGradRefIdeal.τ).loc Cert.ActGradRefIdeal.main_arg0)
      ∧ r.2.mem ((c.tc : Thread Cert.ActGradRefIdeal.nD Cert.ActGradRefIdeal.τ).loc Cert.ActGradRefIdeal.main_arg1) = m ((c.tc : Thread Cert.ActGradRefIdeal.nD Cert.ActGradRefIdeal.τ).loc Cert.ActGradRefIdeal.main_arg1)
      ∧ r.2.mem ((c.tc : Thread Cert.ActGradRefIdeal.nD Cert.ActGradRefIdeal.τ).loc Cert.ActGradRefIdeal.main_arg2) = m ((c.tc : Thread Cert.ActGradRefIdeal.nD Cert.ActGradRefIdeal.τ).loc Cert.ActGradRefIdeal.main_arg2)
      ∧ r.2.mem ((c.tc : Thread Cert.ActGradRefIdeal.nD Cert.ActGradRefIdeal.τ).loc Cert.ActGradRefIdeal.main_arg3) = m ((c.tc : Thread Cert.ActGradRefIdeal.nD Cert.ActGradRefIdeal.τ).loc Cert.ActGradRefIdeal.main_arg3))
      ∧ r.2.sem = fun _ => 0)

def quiescent_FfnWeightGrad [hFfnWeightGrad : Cert.FfnWeightGrad.Facts] : Prop :=
  ∀ (m : (ℓ : Loc Cert.FfnWeightGrad.nD Cert.FfnWeightGrad.τ Cert.FfnWeightGrad.sig) → Buf (Elt Bits) ℓ) (g : Dev Cert.FfnWeightGrad.nD → PrngReg), Pre_FfnWeightGrad m →
    θ_run (Cert.FfnWeightGrad.defs (F := Bits)) (onTc (τ := Cert.FfnWeightGrad.τ) (Cert.FfnWeightGrad.main (F := Bits))) ⟨m, fun _ => 0, g⟩ (fun r => (∀ c : Dev Cert.FfnWeightGrad.nD,
      r.2.mem ((c.tc : Thread Cert.FfnWeightGrad.nD Cert.FfnWeightGrad.τ).loc Cert.FfnWeightGrad.main_arg0) = m ((c.tc : Thread Cert.FfnWeightGrad.nD Cert.FfnWeightGrad.τ).loc Cert.FfnWeightGrad.main_arg0)
      ∧ r.2.mem ((c.tc : Thread Cert.FfnWeightGrad.nD Cert.FfnWeightGrad.τ).loc Cert.FfnWeightGrad.main_arg1) = m ((c.tc : Thread Cert.FfnWeightGrad.nD Cert.FfnWeightGrad.τ).loc Cert.FfnWeightGrad.main_arg1))
      ∧ r.2.sem = fun _ => 0)

def quiescent_FfnWeightGradIdeal [hFfnWeightGradIdeal : Cert.FfnWeightGradIdeal.Facts] : Prop :=
  ∀ (m : (ℓ : Loc Cert.FfnWeightGradIdeal.nD Cert.FfnWeightGradIdeal.τ Cert.FfnWeightGradIdeal.sig) → Buf (Elt Ideal) ℓ) (g : Dev Cert.FfnWeightGradIdeal.nD → PrngReg), Pre_FfnWeightGradIdeal m →
    θ_run (Cert.FfnWeightGradIdeal.defs (F := Ideal)) (onTc (τ := Cert.FfnWeightGradIdeal.τ) (Cert.FfnWeightGradIdeal.main (F := Ideal))) ⟨m, fun _ => 0, g⟩ (fun r => (∀ c : Dev Cert.FfnWeightGradIdeal.nD,
      r.2.mem ((c.tc : Thread Cert.FfnWeightGradIdeal.nD Cert.FfnWeightGradIdeal.τ).loc Cert.FfnWeightGradIdeal.main_arg0) = m ((c.tc : Thread Cert.FfnWeightGradIdeal.nD Cert.FfnWeightGradIdeal.τ).loc Cert.FfnWeightGradIdeal.main_arg0)
      ∧ r.2.mem ((c.tc : Thread Cert.FfnWeightGradIdeal.nD Cert.FfnWeightGradIdeal.τ).loc Cert.FfnWeightGradIdeal.main_arg1) = m ((c.tc : Thread Cert.FfnWeightGradIdeal.nD Cert.FfnWeightGradIdeal.τ).loc Cert.FfnWeightGradIdeal.main_arg1))
      ∧ r.2.sem = fun _ => 0)

def quiescent_DownWeightRefIdeal [hDownWeightRefIdeal : Cert.DownWeightRefIdeal.Facts] : Prop :=
  ∀ (m : (ℓ : Loc Cert.DownWeightRefIdeal.nD Cert.DownWeightRefIdeal.τ Cert.DownWeightRefIdeal.sig) → Buf (Elt Ideal) ℓ) (g : Dev Cert.DownWeightRefIdeal.nD → PrngReg), Pre_DownWeightRefIdeal m →
    θ_run (Cert.DownWeightRefIdeal.defs (F := Ideal)) (onTc (τ := Cert.DownWeightRefIdeal.τ) (Cert.DownWeightRefIdeal.main (F := Ideal))) ⟨m, fun _ => 0, g⟩ (fun r => (∀ c : Dev Cert.DownWeightRefIdeal.nD,
      r.2.mem ((c.tc : Thread Cert.DownWeightRefIdeal.nD Cert.DownWeightRefIdeal.τ).loc Cert.DownWeightRefIdeal.main_arg0) = m ((c.tc : Thread Cert.DownWeightRefIdeal.nD Cert.DownWeightRefIdeal.τ).loc Cert.DownWeightRefIdeal.main_arg0)
      ∧ r.2.mem ((c.tc : Thread Cert.DownWeightRefIdeal.nD Cert.DownWeightRefIdeal.τ).loc Cert.DownWeightRefIdeal.main_arg1) = m ((c.tc : Thread Cert.DownWeightRefIdeal.nD Cert.DownWeightRefIdeal.τ).loc Cert.DownWeightRefIdeal.main_arg1))
      ∧ r.2.sem = fun _ => 0)

def quiescent_GateWeightRefIdeal [hGateWeightRefIdeal : Cert.GateWeightRefIdeal.Facts] : Prop :=
  ∀ (m : (ℓ : Loc Cert.GateWeightRefIdeal.nD Cert.GateWeightRefIdeal.τ Cert.GateWeightRefIdeal.sig) → Buf (Elt Ideal) ℓ) (g : Dev Cert.GateWeightRefIdeal.nD → PrngReg), Pre_GateWeightRefIdeal m →
    θ_run (Cert.GateWeightRefIdeal.defs (F := Ideal)) (onTc (τ := Cert.GateWeightRefIdeal.τ) (Cert.GateWeightRefIdeal.main (F := Ideal))) ⟨m, fun _ => 0, g⟩ (fun r => (∀ c : Dev Cert.GateWeightRefIdeal.nD,
      r.2.mem ((c.tc : Thread Cert.GateWeightRefIdeal.nD Cert.GateWeightRefIdeal.τ).loc Cert.GateWeightRefIdeal.main_arg0) = m ((c.tc : Thread Cert.GateWeightRefIdeal.nD Cert.GateWeightRefIdeal.τ).loc Cert.GateWeightRefIdeal.main_arg0)
      ∧ r.2.mem ((c.tc : Thread Cert.GateWeightRefIdeal.nD Cert.GateWeightRefIdeal.τ).loc Cert.GateWeightRefIdeal.main_arg1) = m ((c.tc : Thread Cert.GateWeightRefIdeal.nD Cert.GateWeightRefIdeal.τ).loc Cert.GateWeightRefIdeal.main_arg1))
      ∧ r.2.sem = fun _ => 0)

def quiescent_FfnInputGrad [hFfnInputGrad : Cert.FfnInputGrad.Facts] : Prop :=
  ∀ (m : (ℓ : Loc Cert.FfnInputGrad.nD Cert.FfnInputGrad.τ Cert.FfnInputGrad.sig) → Buf (Elt Bits) ℓ) (g : Dev Cert.FfnInputGrad.nD → PrngReg), Pre_FfnInputGrad m →
    θ_run (Cert.FfnInputGrad.defs (F := Bits)) (onTc (τ := Cert.FfnInputGrad.τ) (Cert.FfnInputGrad.main (F := Bits))) ⟨m, fun _ => 0, g⟩ (fun r => (∀ c : Dev Cert.FfnInputGrad.nD,
      r.2.mem ((c.tc : Thread Cert.FfnInputGrad.nD Cert.FfnInputGrad.τ).loc Cert.FfnInputGrad.main_arg0) = m ((c.tc : Thread Cert.FfnInputGrad.nD Cert.FfnInputGrad.τ).loc Cert.FfnInputGrad.main_arg0)
      ∧ r.2.mem ((c.tc : Thread Cert.FfnInputGrad.nD Cert.FfnInputGrad.τ).loc Cert.FfnInputGrad.main_arg1) = m ((c.tc : Thread Cert.FfnInputGrad.nD Cert.FfnInputGrad.τ).loc Cert.FfnInputGrad.main_arg1)
      ∧ r.2.mem ((c.tc : Thread Cert.FfnInputGrad.nD Cert.FfnInputGrad.τ).loc Cert.FfnInputGrad.main_arg2) = m ((c.tc : Thread Cert.FfnInputGrad.nD Cert.FfnInputGrad.τ).loc Cert.FfnInputGrad.main_arg2)
      ∧ r.2.mem ((c.tc : Thread Cert.FfnInputGrad.nD Cert.FfnInputGrad.τ).loc Cert.FfnInputGrad.main_arg3) = m ((c.tc : Thread Cert.FfnInputGrad.nD Cert.FfnInputGrad.τ).loc Cert.FfnInputGrad.main_arg3))
      ∧ r.2.sem = fun _ => 0)

def quiescent_FfnInputGradIdeal [hFfnInputGradIdeal : Cert.FfnInputGradIdeal.Facts] : Prop :=
  ∀ (m : (ℓ : Loc Cert.FfnInputGradIdeal.nD Cert.FfnInputGradIdeal.τ Cert.FfnInputGradIdeal.sig) → Buf (Elt Ideal) ℓ) (g : Dev Cert.FfnInputGradIdeal.nD → PrngReg), Pre_FfnInputGradIdeal m →
    θ_run (Cert.FfnInputGradIdeal.defs (F := Ideal)) (onTc (τ := Cert.FfnInputGradIdeal.τ) (Cert.FfnInputGradIdeal.main (F := Ideal))) ⟨m, fun _ => 0, g⟩ (fun r => (∀ c : Dev Cert.FfnInputGradIdeal.nD,
      r.2.mem ((c.tc : Thread Cert.FfnInputGradIdeal.nD Cert.FfnInputGradIdeal.τ).loc Cert.FfnInputGradIdeal.main_arg0) = m ((c.tc : Thread Cert.FfnInputGradIdeal.nD Cert.FfnInputGradIdeal.τ).loc Cert.FfnInputGradIdeal.main_arg0)
      ∧ r.2.mem ((c.tc : Thread Cert.FfnInputGradIdeal.nD Cert.FfnInputGradIdeal.τ).loc Cert.FfnInputGradIdeal.main_arg1) = m ((c.tc : Thread Cert.FfnInputGradIdeal.nD Cert.FfnInputGradIdeal.τ).loc Cert.FfnInputGradIdeal.main_arg1)
      ∧ r.2.mem ((c.tc : Thread Cert.FfnInputGradIdeal.nD Cert.FfnInputGradIdeal.τ).loc Cert.FfnInputGradIdeal.main_arg2) = m ((c.tc : Thread Cert.FfnInputGradIdeal.nD Cert.FfnInputGradIdeal.τ).loc Cert.FfnInputGradIdeal.main_arg2)
      ∧ r.2.mem ((c.tc : Thread Cert.FfnInputGradIdeal.nD Cert.FfnInputGradIdeal.τ).loc Cert.FfnInputGradIdeal.main_arg3) = m ((c.tc : Thread Cert.FfnInputGradIdeal.nD Cert.FfnInputGradIdeal.τ).loc Cert.FfnInputGradIdeal.main_arg3))
      ∧ r.2.sem = fun _ => 0)

def quiescent_FfnInputGradRefIdeal [hFfnInputGradRefIdeal : Cert.FfnInputGradRefIdeal.Facts] : Prop :=
  ∀ (m : (ℓ : Loc Cert.FfnInputGradRefIdeal.nD Cert.FfnInputGradRefIdeal.τ Cert.FfnInputGradRefIdeal.sig) → Buf (Elt Ideal) ℓ) (g : Dev Cert.FfnInputGradRefIdeal.nD → PrngReg), Pre_FfnInputGradRefIdeal m →
    θ_run (Cert.FfnInputGradRefIdeal.defs (F := Ideal)) (onTc (τ := Cert.FfnInputGradRefIdeal.τ) (Cert.FfnInputGradRefIdeal.main (F := Ideal))) ⟨m, fun _ => 0, g⟩ (fun r => (∀ c : Dev Cert.FfnInputGradRefIdeal.nD,
      r.2.mem ((c.tc : Thread Cert.FfnInputGradRefIdeal.nD Cert.FfnInputGradRefIdeal.τ).loc Cert.FfnInputGradRefIdeal.main_arg0) = m ((c.tc : Thread Cert.FfnInputGradRefIdeal.nD Cert.FfnInputGradRefIdeal.τ).loc Cert.FfnInputGradRefIdeal.main_arg0)
      ∧ r.2.mem ((c.tc : Thread Cert.FfnInputGradRefIdeal.nD Cert.FfnInputGradRefIdeal.τ).loc Cert.FfnInputGradRefIdeal.main_arg1) = m ((c.tc : Thread Cert.FfnInputGradRefIdeal.nD Cert.FfnInputGradRefIdeal.τ).loc Cert.FfnInputGradRefIdeal.main_arg1)
      ∧ r.2.mem ((c.tc : Thread Cert.FfnInputGradRefIdeal.nD Cert.FfnInputGradRefIdeal.τ).loc Cert.FfnInputGradRefIdeal.main_arg2) = m ((c.tc : Thread Cert.FfnInputGradRefIdeal.nD Cert.FfnInputGradRefIdeal.τ).loc Cert.FfnInputGradRefIdeal.main_arg2)
      ∧ r.2.mem ((c.tc : Thread Cert.FfnInputGradRefIdeal.nD Cert.FfnInputGradRefIdeal.τ).loc Cert.FfnInputGradRefIdeal.main_arg3) = m ((c.tc : Thread Cert.FfnInputGradRefIdeal.nD Cert.FfnInputGradRefIdeal.τ).loc Cert.FfnInputGradRefIdeal.main_arg3))
      ∧ r.2.sem = fun _ => 0)

def quiescent_InWeightGrad [hInWeightGrad : Cert.InWeightGrad.Facts] : Prop :=
  ∀ (m : (ℓ : Loc Cert.InWeightGrad.nD Cert.InWeightGrad.τ Cert.InWeightGrad.sig) → Buf (Elt Bits) ℓ) (g : Dev Cert.InWeightGrad.nD → PrngReg), Pre_InWeightGrad m →
    θ_run (Cert.InWeightGrad.defs (F := Bits)) (onTc (τ := Cert.InWeightGrad.τ) (Cert.InWeightGrad.main (F := Bits))) ⟨m, fun _ => 0, g⟩ (fun r => (∀ c : Dev Cert.InWeightGrad.nD,
      r.2.mem ((c.tc : Thread Cert.InWeightGrad.nD Cert.InWeightGrad.τ).loc Cert.InWeightGrad.main_arg0) = m ((c.tc : Thread Cert.InWeightGrad.nD Cert.InWeightGrad.τ).loc Cert.InWeightGrad.main_arg0)
      ∧ r.2.mem ((c.tc : Thread Cert.InWeightGrad.nD Cert.InWeightGrad.τ).loc Cert.InWeightGrad.main_arg1) = m ((c.tc : Thread Cert.InWeightGrad.nD Cert.InWeightGrad.τ).loc Cert.InWeightGrad.main_arg1))
      ∧ r.2.sem = fun _ => 0)

def quiescent_InWeightGradIdeal [hInWeightGradIdeal : Cert.InWeightGradIdeal.Facts] : Prop :=
  ∀ (m : (ℓ : Loc Cert.InWeightGradIdeal.nD Cert.InWeightGradIdeal.τ Cert.InWeightGradIdeal.sig) → Buf (Elt Ideal) ℓ) (g : Dev Cert.InWeightGradIdeal.nD → PrngReg), Pre_InWeightGradIdeal m →
    θ_run (Cert.InWeightGradIdeal.defs (F := Ideal)) (onTc (τ := Cert.InWeightGradIdeal.τ) (Cert.InWeightGradIdeal.main (F := Ideal))) ⟨m, fun _ => 0, g⟩ (fun r => (∀ c : Dev Cert.InWeightGradIdeal.nD,
      r.2.mem ((c.tc : Thread Cert.InWeightGradIdeal.nD Cert.InWeightGradIdeal.τ).loc Cert.InWeightGradIdeal.main_arg0) = m ((c.tc : Thread Cert.InWeightGradIdeal.nD Cert.InWeightGradIdeal.τ).loc Cert.InWeightGradIdeal.main_arg0)
      ∧ r.2.mem ((c.tc : Thread Cert.InWeightGradIdeal.nD Cert.InWeightGradIdeal.τ).loc Cert.InWeightGradIdeal.main_arg1) = m ((c.tc : Thread Cert.InWeightGradIdeal.nD Cert.InWeightGradIdeal.τ).loc Cert.InWeightGradIdeal.main_arg1))
      ∧ r.2.sem = fun _ => 0)

def quiescent_InWeightGradRefIdeal [hInWeightGradRefIdeal : Cert.InWeightGradRefIdeal.Facts] : Prop :=
  ∀ (m : (ℓ : Loc Cert.InWeightGradRefIdeal.nD Cert.InWeightGradRefIdeal.τ Cert.InWeightGradRefIdeal.sig) → Buf (Elt Ideal) ℓ) (g : Dev Cert.InWeightGradRefIdeal.nD → PrngReg), Pre_InWeightGradRefIdeal m →
    θ_run (Cert.InWeightGradRefIdeal.defs (F := Ideal)) (onTc (τ := Cert.InWeightGradRefIdeal.τ) (Cert.InWeightGradRefIdeal.main (F := Ideal))) ⟨m, fun _ => 0, g⟩ (fun r => (∀ c : Dev Cert.InWeightGradRefIdeal.nD,
      r.2.mem ((c.tc : Thread Cert.InWeightGradRefIdeal.nD Cert.InWeightGradRefIdeal.τ).loc Cert.InWeightGradRefIdeal.main_arg0) = m ((c.tc : Thread Cert.InWeightGradRefIdeal.nD Cert.InWeightGradRefIdeal.τ).loc Cert.InWeightGradRefIdeal.main_arg0)
      ∧ r.2.mem ((c.tc : Thread Cert.InWeightGradRefIdeal.nD Cert.InWeightGradRefIdeal.τ).loc Cert.InWeightGradRefIdeal.main_arg1) = m ((c.tc : Thread Cert.InWeightGradRefIdeal.nD Cert.InWeightGradRefIdeal.τ).loc Cert.InWeightGradRefIdeal.main_arg1))
      ∧ r.2.sem = fun _ => 0)

def quiescent_InInputGrad [hInInputGrad : Cert.InInputGrad.Facts] : Prop :=
  ∀ (m : (ℓ : Loc Cert.InInputGrad.nD Cert.InInputGrad.τ Cert.InInputGrad.sig) → Buf (Elt Bits) ℓ) (g : Dev Cert.InInputGrad.nD → PrngReg), Pre_InInputGrad m →
    θ_run (Cert.InInputGrad.defs (F := Bits)) (onTc (τ := Cert.InInputGrad.τ) (Cert.InInputGrad.main (F := Bits))) ⟨m, fun _ => 0, g⟩ (fun r => (∀ c : Dev Cert.InInputGrad.nD,
      r.2.mem ((c.tc : Thread Cert.InInputGrad.nD Cert.InInputGrad.τ).loc Cert.InInputGrad.main_arg0) = m ((c.tc : Thread Cert.InInputGrad.nD Cert.InInputGrad.τ).loc Cert.InInputGrad.main_arg0)
      ∧ r.2.mem ((c.tc : Thread Cert.InInputGrad.nD Cert.InInputGrad.τ).loc Cert.InInputGrad.main_arg1) = m ((c.tc : Thread Cert.InInputGrad.nD Cert.InInputGrad.τ).loc Cert.InInputGrad.main_arg1))
      ∧ r.2.sem = fun _ => 0)

def quiescent_InInputGradIdeal [hInInputGradIdeal : Cert.InInputGradIdeal.Facts] : Prop :=
  ∀ (m : (ℓ : Loc Cert.InInputGradIdeal.nD Cert.InInputGradIdeal.τ Cert.InInputGradIdeal.sig) → Buf (Elt Ideal) ℓ) (g : Dev Cert.InInputGradIdeal.nD → PrngReg), Pre_InInputGradIdeal m →
    θ_run (Cert.InInputGradIdeal.defs (F := Ideal)) (onTc (τ := Cert.InInputGradIdeal.τ) (Cert.InInputGradIdeal.main (F := Ideal))) ⟨m, fun _ => 0, g⟩ (fun r => (∀ c : Dev Cert.InInputGradIdeal.nD,
      r.2.mem ((c.tc : Thread Cert.InInputGradIdeal.nD Cert.InInputGradIdeal.τ).loc Cert.InInputGradIdeal.main_arg0) = m ((c.tc : Thread Cert.InInputGradIdeal.nD Cert.InInputGradIdeal.τ).loc Cert.InInputGradIdeal.main_arg0)
      ∧ r.2.mem ((c.tc : Thread Cert.InInputGradIdeal.nD Cert.InInputGradIdeal.τ).loc Cert.InInputGradIdeal.main_arg1) = m ((c.tc : Thread Cert.InInputGradIdeal.nD Cert.InInputGradIdeal.τ).loc Cert.InInputGradIdeal.main_arg1))
      ∧ r.2.sem = fun _ => 0)

def quiescent_InInputGradRefIdeal [hInInputGradRefIdeal : Cert.InInputGradRefIdeal.Facts] : Prop :=
  ∀ (m : (ℓ : Loc Cert.InInputGradRefIdeal.nD Cert.InInputGradRefIdeal.τ Cert.InInputGradRefIdeal.sig) → Buf (Elt Ideal) ℓ) (g : Dev Cert.InInputGradRefIdeal.nD → PrngReg), Pre_InInputGradRefIdeal m →
    θ_run (Cert.InInputGradRefIdeal.defs (F := Ideal)) (onTc (τ := Cert.InInputGradRefIdeal.τ) (Cert.InInputGradRefIdeal.main (F := Ideal))) ⟨m, fun _ => 0, g⟩ (fun r => (∀ c : Dev Cert.InInputGradRefIdeal.nD,
      r.2.mem ((c.tc : Thread Cert.InInputGradRefIdeal.nD Cert.InInputGradRefIdeal.τ).loc Cert.InInputGradRefIdeal.main_arg0) = m ((c.tc : Thread Cert.InInputGradRefIdeal.nD Cert.InInputGradRefIdeal.τ).loc Cert.InInputGradRefIdeal.main_arg0)
      ∧ r.2.mem ((c.tc : Thread Cert.InInputGradRefIdeal.nD Cert.InInputGradRefIdeal.τ).loc Cert.InInputGradRefIdeal.main_arg1) = m ((c.tc : Thread Cert.InInputGradRefIdeal.nD Cert.InInputGradRefIdeal.τ).loc Cert.InInputGradRefIdeal.main_arg1))
      ∧ r.2.sem = fun _ => 0)

def quiescent_OutWeightGrad [hOutWeightGrad : Cert.OutWeightGrad.Facts] : Prop :=
  ∀ (m : (ℓ : Loc Cert.OutWeightGrad.nD Cert.OutWeightGrad.τ Cert.OutWeightGrad.sig) → Buf (Elt Bits) ℓ) (g : Dev Cert.OutWeightGrad.nD → PrngReg), Pre_OutWeightGrad m →
    θ_run (Cert.OutWeightGrad.defs (F := Bits)) (onTc (τ := Cert.OutWeightGrad.τ) (Cert.OutWeightGrad.main (F := Bits))) ⟨m, fun _ => 0, g⟩ (fun r => (∀ c : Dev Cert.OutWeightGrad.nD,
      r.2.mem ((c.tc : Thread Cert.OutWeightGrad.nD Cert.OutWeightGrad.τ).loc Cert.OutWeightGrad.main_arg0) = m ((c.tc : Thread Cert.OutWeightGrad.nD Cert.OutWeightGrad.τ).loc Cert.OutWeightGrad.main_arg0)
      ∧ r.2.mem ((c.tc : Thread Cert.OutWeightGrad.nD Cert.OutWeightGrad.τ).loc Cert.OutWeightGrad.main_arg1) = m ((c.tc : Thread Cert.OutWeightGrad.nD Cert.OutWeightGrad.τ).loc Cert.OutWeightGrad.main_arg1))
      ∧ r.2.sem = fun _ => 0)

def quiescent_OutWeightGradIdeal [hOutWeightGradIdeal : Cert.OutWeightGradIdeal.Facts] : Prop :=
  ∀ (m : (ℓ : Loc Cert.OutWeightGradIdeal.nD Cert.OutWeightGradIdeal.τ Cert.OutWeightGradIdeal.sig) → Buf (Elt Ideal) ℓ) (g : Dev Cert.OutWeightGradIdeal.nD → PrngReg), Pre_OutWeightGradIdeal m →
    θ_run (Cert.OutWeightGradIdeal.defs (F := Ideal)) (onTc (τ := Cert.OutWeightGradIdeal.τ) (Cert.OutWeightGradIdeal.main (F := Ideal))) ⟨m, fun _ => 0, g⟩ (fun r => (∀ c : Dev Cert.OutWeightGradIdeal.nD,
      r.2.mem ((c.tc : Thread Cert.OutWeightGradIdeal.nD Cert.OutWeightGradIdeal.τ).loc Cert.OutWeightGradIdeal.main_arg0) = m ((c.tc : Thread Cert.OutWeightGradIdeal.nD Cert.OutWeightGradIdeal.τ).loc Cert.OutWeightGradIdeal.main_arg0)
      ∧ r.2.mem ((c.tc : Thread Cert.OutWeightGradIdeal.nD Cert.OutWeightGradIdeal.τ).loc Cert.OutWeightGradIdeal.main_arg1) = m ((c.tc : Thread Cert.OutWeightGradIdeal.nD Cert.OutWeightGradIdeal.τ).loc Cert.OutWeightGradIdeal.main_arg1))
      ∧ r.2.sem = fun _ => 0)

def quiescent_OutWeightGradRefIdeal [hOutWeightGradRefIdeal : Cert.OutWeightGradRefIdeal.Facts] : Prop :=
  ∀ (m : (ℓ : Loc Cert.OutWeightGradRefIdeal.nD Cert.OutWeightGradRefIdeal.τ Cert.OutWeightGradRefIdeal.sig) → Buf (Elt Ideal) ℓ) (g : Dev Cert.OutWeightGradRefIdeal.nD → PrngReg), Pre_OutWeightGradRefIdeal m →
    θ_run (Cert.OutWeightGradRefIdeal.defs (F := Ideal)) (onTc (τ := Cert.OutWeightGradRefIdeal.τ) (Cert.OutWeightGradRefIdeal.main (F := Ideal))) ⟨m, fun _ => 0, g⟩ (fun r => (∀ c : Dev Cert.OutWeightGradRefIdeal.nD,
      r.2.mem ((c.tc : Thread Cert.OutWeightGradRefIdeal.nD Cert.OutWeightGradRefIdeal.τ).loc Cert.OutWeightGradRefIdeal.main_arg0) = m ((c.tc : Thread Cert.OutWeightGradRefIdeal.nD Cert.OutWeightGradRefIdeal.τ).loc Cert.OutWeightGradRefIdeal.main_arg0)
      ∧ r.2.mem ((c.tc : Thread Cert.OutWeightGradRefIdeal.nD Cert.OutWeightGradRefIdeal.τ).loc Cert.OutWeightGradRefIdeal.main_arg1) = m ((c.tc : Thread Cert.OutWeightGradRefIdeal.nD Cert.OutWeightGradRefIdeal.τ).loc Cert.OutWeightGradRefIdeal.main_arg1))
      ∧ r.2.sem = fun _ => 0)

def quiescent_OutInputGrad [hOutInputGrad : Cert.OutInputGrad.Facts] : Prop :=
  ∀ (m : (ℓ : Loc Cert.OutInputGrad.nD Cert.OutInputGrad.τ Cert.OutInputGrad.sig) → Buf (Elt Bits) ℓ) (g : Dev Cert.OutInputGrad.nD → PrngReg), Pre_OutInputGrad m →
    θ_run (Cert.OutInputGrad.defs (F := Bits)) (onTc (τ := Cert.OutInputGrad.τ) (Cert.OutInputGrad.main (F := Bits))) ⟨m, fun _ => 0, g⟩ (fun r => (∀ c : Dev Cert.OutInputGrad.nD,
      r.2.mem ((c.tc : Thread Cert.OutInputGrad.nD Cert.OutInputGrad.τ).loc Cert.OutInputGrad.main_arg0) = m ((c.tc : Thread Cert.OutInputGrad.nD Cert.OutInputGrad.τ).loc Cert.OutInputGrad.main_arg0)
      ∧ r.2.mem ((c.tc : Thread Cert.OutInputGrad.nD Cert.OutInputGrad.τ).loc Cert.OutInputGrad.main_arg1) = m ((c.tc : Thread Cert.OutInputGrad.nD Cert.OutInputGrad.τ).loc Cert.OutInputGrad.main_arg1))
      ∧ r.2.sem = fun _ => 0)

def quiescent_OutInputGradIdeal [hOutInputGradIdeal : Cert.OutInputGradIdeal.Facts] : Prop :=
  ∀ (m : (ℓ : Loc Cert.OutInputGradIdeal.nD Cert.OutInputGradIdeal.τ Cert.OutInputGradIdeal.sig) → Buf (Elt Ideal) ℓ) (g : Dev Cert.OutInputGradIdeal.nD → PrngReg), Pre_OutInputGradIdeal m →
    θ_run (Cert.OutInputGradIdeal.defs (F := Ideal)) (onTc (τ := Cert.OutInputGradIdeal.τ) (Cert.OutInputGradIdeal.main (F := Ideal))) ⟨m, fun _ => 0, g⟩ (fun r => (∀ c : Dev Cert.OutInputGradIdeal.nD,
      r.2.mem ((c.tc : Thread Cert.OutInputGradIdeal.nD Cert.OutInputGradIdeal.τ).loc Cert.OutInputGradIdeal.main_arg0) = m ((c.tc : Thread Cert.OutInputGradIdeal.nD Cert.OutInputGradIdeal.τ).loc Cert.OutInputGradIdeal.main_arg0)
      ∧ r.2.mem ((c.tc : Thread Cert.OutInputGradIdeal.nD Cert.OutInputGradIdeal.τ).loc Cert.OutInputGradIdeal.main_arg1) = m ((c.tc : Thread Cert.OutInputGradIdeal.nD Cert.OutInputGradIdeal.τ).loc Cert.OutInputGradIdeal.main_arg1))
      ∧ r.2.sem = fun _ => 0)

def quiescent_OutInputGradRefIdeal [hOutInputGradRefIdeal : Cert.OutInputGradRefIdeal.Facts] : Prop :=
  ∀ (m : (ℓ : Loc Cert.OutInputGradRefIdeal.nD Cert.OutInputGradRefIdeal.τ Cert.OutInputGradRefIdeal.sig) → Buf (Elt Ideal) ℓ) (g : Dev Cert.OutInputGradRefIdeal.nD → PrngReg), Pre_OutInputGradRefIdeal m →
    θ_run (Cert.OutInputGradRefIdeal.defs (F := Ideal)) (onTc (τ := Cert.OutInputGradRefIdeal.τ) (Cert.OutInputGradRefIdeal.main (F := Ideal))) ⟨m, fun _ => 0, g⟩ (fun r => (∀ c : Dev Cert.OutInputGradRefIdeal.nD,
      r.2.mem ((c.tc : Thread Cert.OutInputGradRefIdeal.nD Cert.OutInputGradRefIdeal.τ).loc Cert.OutInputGradRefIdeal.main_arg0) = m ((c.tc : Thread Cert.OutInputGradRefIdeal.nD Cert.OutInputGradRefIdeal.τ).loc Cert.OutInputGradRefIdeal.main_arg0)
      ∧ r.2.mem ((c.tc : Thread Cert.OutInputGradRefIdeal.nD Cert.OutInputGradRefIdeal.τ).loc Cert.OutInputGradRefIdeal.main_arg1) = m ((c.tc : Thread Cert.OutInputGradRefIdeal.nD Cert.OutInputGradRefIdeal.τ).loc Cert.OutInputGradRefIdeal.main_arg1))
      ∧ r.2.sem = fun _ => 0)

def quiescent_FfnUpdate [hFfnUpdate : Cert.FfnUpdate.Facts] : Prop :=
  ∀ (m : (ℓ : Loc Cert.FfnUpdate.nD Cert.FfnUpdate.τ Cert.FfnUpdate.sig) → Buf (Elt Bits) ℓ) (g : Dev Cert.FfnUpdate.nD → PrngReg), Pre_FfnUpdate m →
    θ_run (Cert.FfnUpdate.defs (F := Bits)) (onTc (τ := Cert.FfnUpdate.τ) (Cert.FfnUpdate.main (F := Bits))) ⟨m, fun _ => 0, g⟩ (fun r => (∀ c : Dev Cert.FfnUpdate.nD,
      r.2.mem ((c.tc : Thread Cert.FfnUpdate.nD Cert.FfnUpdate.τ).loc Cert.FfnUpdate.main_arg0) = m ((c.tc : Thread Cert.FfnUpdate.nD Cert.FfnUpdate.τ).loc Cert.FfnUpdate.main_arg0)
      ∧ r.2.mem ((c.tc : Thread Cert.FfnUpdate.nD Cert.FfnUpdate.τ).loc Cert.FfnUpdate.main_arg1) = m ((c.tc : Thread Cert.FfnUpdate.nD Cert.FfnUpdate.τ).loc Cert.FfnUpdate.main_arg1)
      ∧ r.2.mem ((c.tc : Thread Cert.FfnUpdate.nD Cert.FfnUpdate.τ).loc Cert.FfnUpdate.main_arg2) = m ((c.tc : Thread Cert.FfnUpdate.nD Cert.FfnUpdate.τ).loc Cert.FfnUpdate.main_arg2)
      ∧ r.2.mem ((c.tc : Thread Cert.FfnUpdate.nD Cert.FfnUpdate.τ).loc Cert.FfnUpdate.main_arg3) = m ((c.tc : Thread Cert.FfnUpdate.nD Cert.FfnUpdate.τ).loc Cert.FfnUpdate.main_arg3))
      ∧ r.2.sem = fun _ => 0)

def quiescent_FfnUpdateIdeal [hFfnUpdateIdeal : Cert.FfnUpdateIdeal.Facts] : Prop :=
  ∀ (m : (ℓ : Loc Cert.FfnUpdateIdeal.nD Cert.FfnUpdateIdeal.τ Cert.FfnUpdateIdeal.sig) → Buf (Elt Ideal) ℓ) (g : Dev Cert.FfnUpdateIdeal.nD → PrngReg), Pre_FfnUpdateIdeal m →
    θ_run (Cert.FfnUpdateIdeal.defs (F := Ideal)) (onTc (τ := Cert.FfnUpdateIdeal.τ) (Cert.FfnUpdateIdeal.main (F := Ideal))) ⟨m, fun _ => 0, g⟩ (fun r => (∀ c : Dev Cert.FfnUpdateIdeal.nD,
      r.2.mem ((c.tc : Thread Cert.FfnUpdateIdeal.nD Cert.FfnUpdateIdeal.τ).loc Cert.FfnUpdateIdeal.main_arg0) = m ((c.tc : Thread Cert.FfnUpdateIdeal.nD Cert.FfnUpdateIdeal.τ).loc Cert.FfnUpdateIdeal.main_arg0)
      ∧ r.2.mem ((c.tc : Thread Cert.FfnUpdateIdeal.nD Cert.FfnUpdateIdeal.τ).loc Cert.FfnUpdateIdeal.main_arg1) = m ((c.tc : Thread Cert.FfnUpdateIdeal.nD Cert.FfnUpdateIdeal.τ).loc Cert.FfnUpdateIdeal.main_arg1)
      ∧ r.2.mem ((c.tc : Thread Cert.FfnUpdateIdeal.nD Cert.FfnUpdateIdeal.τ).loc Cert.FfnUpdateIdeal.main_arg2) = m ((c.tc : Thread Cert.FfnUpdateIdeal.nD Cert.FfnUpdateIdeal.τ).loc Cert.FfnUpdateIdeal.main_arg2)
      ∧ r.2.mem ((c.tc : Thread Cert.FfnUpdateIdeal.nD Cert.FfnUpdateIdeal.τ).loc Cert.FfnUpdateIdeal.main_arg3) = m ((c.tc : Thread Cert.FfnUpdateIdeal.nD Cert.FfnUpdateIdeal.τ).loc Cert.FfnUpdateIdeal.main_arg3))
      ∧ r.2.sem = fun _ => 0)

def quiescent_FfnUpdateRefIdeal [hFfnUpdateRefIdeal : Cert.FfnUpdateRefIdeal.Facts] : Prop :=
  ∀ (m : (ℓ : Loc Cert.FfnUpdateRefIdeal.nD Cert.FfnUpdateRefIdeal.τ Cert.FfnUpdateRefIdeal.sig) → Buf (Elt Ideal) ℓ) (g : Dev Cert.FfnUpdateRefIdeal.nD → PrngReg), Pre_FfnUpdateRefIdeal m →
    θ_run (Cert.FfnUpdateRefIdeal.defs (F := Ideal)) (onTc (τ := Cert.FfnUpdateRefIdeal.τ) (Cert.FfnUpdateRefIdeal.main (F := Ideal))) ⟨m, fun _ => 0, g⟩ (fun r => (∀ c : Dev Cert.FfnUpdateRefIdeal.nD,
      r.2.mem ((c.tc : Thread Cert.FfnUpdateRefIdeal.nD Cert.FfnUpdateRefIdeal.τ).loc Cert.FfnUpdateRefIdeal.main_arg0) = m ((c.tc : Thread Cert.FfnUpdateRefIdeal.nD Cert.FfnUpdateRefIdeal.τ).loc Cert.FfnUpdateRefIdeal.main_arg0)
      ∧ r.2.mem ((c.tc : Thread Cert.FfnUpdateRefIdeal.nD Cert.FfnUpdateRefIdeal.τ).loc Cert.FfnUpdateRefIdeal.main_arg1) = m ((c.tc : Thread Cert.FfnUpdateRefIdeal.nD Cert.FfnUpdateRefIdeal.τ).loc Cert.FfnUpdateRefIdeal.main_arg1)
      ∧ r.2.mem ((c.tc : Thread Cert.FfnUpdateRefIdeal.nD Cert.FfnUpdateRefIdeal.τ).loc Cert.FfnUpdateRefIdeal.main_arg2) = m ((c.tc : Thread Cert.FfnUpdateRefIdeal.nD Cert.FfnUpdateRefIdeal.τ).loc Cert.FfnUpdateRefIdeal.main_arg2)
      ∧ r.2.mem ((c.tc : Thread Cert.FfnUpdateRefIdeal.nD Cert.FfnUpdateRefIdeal.τ).loc Cert.FfnUpdateRefIdeal.main_arg3) = m ((c.tc : Thread Cert.FfnUpdateRefIdeal.nD Cert.FfnUpdateRefIdeal.τ).loc Cert.FfnUpdateRefIdeal.main_arg3))
      ∧ r.2.sem = fun _ => 0)

def quiescent_OutUpdate [hOutUpdate : Cert.OutUpdate.Facts] : Prop :=
  ∀ (m : (ℓ : Loc Cert.OutUpdate.nD Cert.OutUpdate.τ Cert.OutUpdate.sig) → Buf (Elt Bits) ℓ) (g : Dev Cert.OutUpdate.nD → PrngReg), Pre_OutUpdate m →
    θ_run (Cert.OutUpdate.defs (F := Bits)) (onTc (τ := Cert.OutUpdate.τ) (Cert.OutUpdate.main (F := Bits))) ⟨m, fun _ => 0, g⟩ (fun r => (∀ c : Dev Cert.OutUpdate.nD,
      r.2.mem ((c.tc : Thread Cert.OutUpdate.nD Cert.OutUpdate.τ).loc Cert.OutUpdate.main_arg0) = m ((c.tc : Thread Cert.OutUpdate.nD Cert.OutUpdate.τ).loc Cert.OutUpdate.main_arg0)
      ∧ r.2.mem ((c.tc : Thread Cert.OutUpdate.nD Cert.OutUpdate.τ).loc Cert.OutUpdate.main_arg1) = m ((c.tc : Thread Cert.OutUpdate.nD Cert.OutUpdate.τ).loc Cert.OutUpdate.main_arg1)
      ∧ r.2.mem ((c.tc : Thread Cert.OutUpdate.nD Cert.OutUpdate.τ).loc Cert.OutUpdate.main_arg2) = m ((c.tc : Thread Cert.OutUpdate.nD Cert.OutUpdate.τ).loc Cert.OutUpdate.main_arg2)
      ∧ r.2.mem ((c.tc : Thread Cert.OutUpdate.nD Cert.OutUpdate.τ).loc Cert.OutUpdate.main_arg3) = m ((c.tc : Thread Cert.OutUpdate.nD Cert.OutUpdate.τ).loc Cert.OutUpdate.main_arg3))
      ∧ r.2.sem = fun _ => 0)

def quiescent_OutUpdateIdeal [hOutUpdateIdeal : Cert.OutUpdateIdeal.Facts] : Prop :=
  ∀ (m : (ℓ : Loc Cert.OutUpdateIdeal.nD Cert.OutUpdateIdeal.τ Cert.OutUpdateIdeal.sig) → Buf (Elt Ideal) ℓ) (g : Dev Cert.OutUpdateIdeal.nD → PrngReg), Pre_OutUpdateIdeal m →
    θ_run (Cert.OutUpdateIdeal.defs (F := Ideal)) (onTc (τ := Cert.OutUpdateIdeal.τ) (Cert.OutUpdateIdeal.main (F := Ideal))) ⟨m, fun _ => 0, g⟩ (fun r => (∀ c : Dev Cert.OutUpdateIdeal.nD,
      r.2.mem ((c.tc : Thread Cert.OutUpdateIdeal.nD Cert.OutUpdateIdeal.τ).loc Cert.OutUpdateIdeal.main_arg0) = m ((c.tc : Thread Cert.OutUpdateIdeal.nD Cert.OutUpdateIdeal.τ).loc Cert.OutUpdateIdeal.main_arg0)
      ∧ r.2.mem ((c.tc : Thread Cert.OutUpdateIdeal.nD Cert.OutUpdateIdeal.τ).loc Cert.OutUpdateIdeal.main_arg1) = m ((c.tc : Thread Cert.OutUpdateIdeal.nD Cert.OutUpdateIdeal.τ).loc Cert.OutUpdateIdeal.main_arg1)
      ∧ r.2.mem ((c.tc : Thread Cert.OutUpdateIdeal.nD Cert.OutUpdateIdeal.τ).loc Cert.OutUpdateIdeal.main_arg2) = m ((c.tc : Thread Cert.OutUpdateIdeal.nD Cert.OutUpdateIdeal.τ).loc Cert.OutUpdateIdeal.main_arg2)
      ∧ r.2.mem ((c.tc : Thread Cert.OutUpdateIdeal.nD Cert.OutUpdateIdeal.τ).loc Cert.OutUpdateIdeal.main_arg3) = m ((c.tc : Thread Cert.OutUpdateIdeal.nD Cert.OutUpdateIdeal.τ).loc Cert.OutUpdateIdeal.main_arg3))
      ∧ r.2.sem = fun _ => 0)

def quiescent_OutUpdateRefIdeal [hOutUpdateRefIdeal : Cert.OutUpdateRefIdeal.Facts] : Prop :=
  ∀ (m : (ℓ : Loc Cert.OutUpdateRefIdeal.nD Cert.OutUpdateRefIdeal.τ Cert.OutUpdateRefIdeal.sig) → Buf (Elt Ideal) ℓ) (g : Dev Cert.OutUpdateRefIdeal.nD → PrngReg), Pre_OutUpdateRefIdeal m →
    θ_run (Cert.OutUpdateRefIdeal.defs (F := Ideal)) (onTc (τ := Cert.OutUpdateRefIdeal.τ) (Cert.OutUpdateRefIdeal.main (F := Ideal))) ⟨m, fun _ => 0, g⟩ (fun r => (∀ c : Dev Cert.OutUpdateRefIdeal.nD,
      r.2.mem ((c.tc : Thread Cert.OutUpdateRefIdeal.nD Cert.OutUpdateRefIdeal.τ).loc Cert.OutUpdateRefIdeal.main_arg0) = m ((c.tc : Thread Cert.OutUpdateRefIdeal.nD Cert.OutUpdateRefIdeal.τ).loc Cert.OutUpdateRefIdeal.main_arg0)
      ∧ r.2.mem ((c.tc : Thread Cert.OutUpdateRefIdeal.nD Cert.OutUpdateRefIdeal.τ).loc Cert.OutUpdateRefIdeal.main_arg1) = m ((c.tc : Thread Cert.OutUpdateRefIdeal.nD Cert.OutUpdateRefIdeal.τ).loc Cert.OutUpdateRefIdeal.main_arg1)
      ∧ r.2.mem ((c.tc : Thread Cert.OutUpdateRefIdeal.nD Cert.OutUpdateRefIdeal.τ).loc Cert.OutUpdateRefIdeal.main_arg2) = m ((c.tc : Thread Cert.OutUpdateRefIdeal.nD Cert.OutUpdateRefIdeal.τ).loc Cert.OutUpdateRefIdeal.main_arg2)
      ∧ r.2.mem ((c.tc : Thread Cert.OutUpdateRefIdeal.nD Cert.OutUpdateRefIdeal.τ).loc Cert.OutUpdateRefIdeal.main_arg3) = m ((c.tc : Thread Cert.OutUpdateRefIdeal.nD Cert.OutUpdateRefIdeal.τ).loc Cert.OutUpdateRefIdeal.main_arg3))
      ∧ r.2.sem = fun _ => 0)

def quiescent_InUpdate [hInUpdate : Cert.InUpdate.Facts] : Prop :=
  ∀ (m : (ℓ : Loc Cert.InUpdate.nD Cert.InUpdate.τ Cert.InUpdate.sig) → Buf (Elt Bits) ℓ) (g : Dev Cert.InUpdate.nD → PrngReg), Pre_InUpdate m →
    θ_run (Cert.InUpdate.defs (F := Bits)) (onTc (τ := Cert.InUpdate.τ) (Cert.InUpdate.main (F := Bits))) ⟨m, fun _ => 0, g⟩ (fun r => (∀ c : Dev Cert.InUpdate.nD,
      r.2.mem ((c.tc : Thread Cert.InUpdate.nD Cert.InUpdate.τ).loc Cert.InUpdate.main_arg0) = m ((c.tc : Thread Cert.InUpdate.nD Cert.InUpdate.τ).loc Cert.InUpdate.main_arg0)
      ∧ r.2.mem ((c.tc : Thread Cert.InUpdate.nD Cert.InUpdate.τ).loc Cert.InUpdate.main_arg1) = m ((c.tc : Thread Cert.InUpdate.nD Cert.InUpdate.τ).loc Cert.InUpdate.main_arg1)
      ∧ r.2.mem ((c.tc : Thread Cert.InUpdate.nD Cert.InUpdate.τ).loc Cert.InUpdate.main_arg2) = m ((c.tc : Thread Cert.InUpdate.nD Cert.InUpdate.τ).loc Cert.InUpdate.main_arg2)
      ∧ r.2.mem ((c.tc : Thread Cert.InUpdate.nD Cert.InUpdate.τ).loc Cert.InUpdate.main_arg3) = m ((c.tc : Thread Cert.InUpdate.nD Cert.InUpdate.τ).loc Cert.InUpdate.main_arg3))
      ∧ r.2.sem = fun _ => 0)

def quiescent_InUpdateIdeal [hInUpdateIdeal : Cert.InUpdateIdeal.Facts] : Prop :=
  ∀ (m : (ℓ : Loc Cert.InUpdateIdeal.nD Cert.InUpdateIdeal.τ Cert.InUpdateIdeal.sig) → Buf (Elt Ideal) ℓ) (g : Dev Cert.InUpdateIdeal.nD → PrngReg), Pre_InUpdateIdeal m →
    θ_run (Cert.InUpdateIdeal.defs (F := Ideal)) (onTc (τ := Cert.InUpdateIdeal.τ) (Cert.InUpdateIdeal.main (F := Ideal))) ⟨m, fun _ => 0, g⟩ (fun r => (∀ c : Dev Cert.InUpdateIdeal.nD,
      r.2.mem ((c.tc : Thread Cert.InUpdateIdeal.nD Cert.InUpdateIdeal.τ).loc Cert.InUpdateIdeal.main_arg0) = m ((c.tc : Thread Cert.InUpdateIdeal.nD Cert.InUpdateIdeal.τ).loc Cert.InUpdateIdeal.main_arg0)
      ∧ r.2.mem ((c.tc : Thread Cert.InUpdateIdeal.nD Cert.InUpdateIdeal.τ).loc Cert.InUpdateIdeal.main_arg1) = m ((c.tc : Thread Cert.InUpdateIdeal.nD Cert.InUpdateIdeal.τ).loc Cert.InUpdateIdeal.main_arg1)
      ∧ r.2.mem ((c.tc : Thread Cert.InUpdateIdeal.nD Cert.InUpdateIdeal.τ).loc Cert.InUpdateIdeal.main_arg2) = m ((c.tc : Thread Cert.InUpdateIdeal.nD Cert.InUpdateIdeal.τ).loc Cert.InUpdateIdeal.main_arg2)
      ∧ r.2.mem ((c.tc : Thread Cert.InUpdateIdeal.nD Cert.InUpdateIdeal.τ).loc Cert.InUpdateIdeal.main_arg3) = m ((c.tc : Thread Cert.InUpdateIdeal.nD Cert.InUpdateIdeal.τ).loc Cert.InUpdateIdeal.main_arg3))
      ∧ r.2.sem = fun _ => 0)

def quiescent_InUpdateRefIdeal [hInUpdateRefIdeal : Cert.InUpdateRefIdeal.Facts] : Prop :=
  ∀ (m : (ℓ : Loc Cert.InUpdateRefIdeal.nD Cert.InUpdateRefIdeal.τ Cert.InUpdateRefIdeal.sig) → Buf (Elt Ideal) ℓ) (g : Dev Cert.InUpdateRefIdeal.nD → PrngReg), Pre_InUpdateRefIdeal m →
    θ_run (Cert.InUpdateRefIdeal.defs (F := Ideal)) (onTc (τ := Cert.InUpdateRefIdeal.τ) (Cert.InUpdateRefIdeal.main (F := Ideal))) ⟨m, fun _ => 0, g⟩ (fun r => (∀ c : Dev Cert.InUpdateRefIdeal.nD,
      r.2.mem ((c.tc : Thread Cert.InUpdateRefIdeal.nD Cert.InUpdateRefIdeal.τ).loc Cert.InUpdateRefIdeal.main_arg0) = m ((c.tc : Thread Cert.InUpdateRefIdeal.nD Cert.InUpdateRefIdeal.τ).loc Cert.InUpdateRefIdeal.main_arg0)
      ∧ r.2.mem ((c.tc : Thread Cert.InUpdateRefIdeal.nD Cert.InUpdateRefIdeal.τ).loc Cert.InUpdateRefIdeal.main_arg1) = m ((c.tc : Thread Cert.InUpdateRefIdeal.nD Cert.InUpdateRefIdeal.τ).loc Cert.InUpdateRefIdeal.main_arg1)
      ∧ r.2.mem ((c.tc : Thread Cert.InUpdateRefIdeal.nD Cert.InUpdateRefIdeal.τ).loc Cert.InUpdateRefIdeal.main_arg2) = m ((c.tc : Thread Cert.InUpdateRefIdeal.nD Cert.InUpdateRefIdeal.τ).loc Cert.InUpdateRefIdeal.main_arg2)
      ∧ r.2.mem ((c.tc : Thread Cert.InUpdateRefIdeal.nD Cert.InUpdateRefIdeal.τ).loc Cert.InUpdateRefIdeal.main_arg3) = m ((c.tc : Thread Cert.InUpdateRefIdeal.nD Cert.InUpdateRefIdeal.τ).loc Cert.InUpdateRefIdeal.main_arg3))
      ∧ r.2.sem = fun _ => 0)

def quiescent_GainUpdate [hGainUpdate : Cert.GainUpdate.Facts] : Prop :=
  ∀ (m : (ℓ : Loc Cert.GainUpdate.nD Cert.GainUpdate.τ Cert.GainUpdate.sig) → Buf (Elt Bits) ℓ) (g : Dev Cert.GainUpdate.nD → PrngReg), Pre_GainUpdate m →
    θ_run (Cert.GainUpdate.defs (F := Bits)) (onTc (τ := Cert.GainUpdate.τ) (Cert.GainUpdate.main (F := Bits))) ⟨m, fun _ => 0, g⟩ (fun r => (∀ c : Dev Cert.GainUpdate.nD,
      r.2.mem ((c.tc : Thread Cert.GainUpdate.nD Cert.GainUpdate.τ).loc Cert.GainUpdate.main_arg0) = m ((c.tc : Thread Cert.GainUpdate.nD Cert.GainUpdate.τ).loc Cert.GainUpdate.main_arg0)
      ∧ r.2.mem ((c.tc : Thread Cert.GainUpdate.nD Cert.GainUpdate.τ).loc Cert.GainUpdate.main_arg1) = m ((c.tc : Thread Cert.GainUpdate.nD Cert.GainUpdate.τ).loc Cert.GainUpdate.main_arg1)
      ∧ r.2.mem ((c.tc : Thread Cert.GainUpdate.nD Cert.GainUpdate.τ).loc Cert.GainUpdate.main_arg2) = m ((c.tc : Thread Cert.GainUpdate.nD Cert.GainUpdate.τ).loc Cert.GainUpdate.main_arg2)
      ∧ r.2.mem ((c.tc : Thread Cert.GainUpdate.nD Cert.GainUpdate.τ).loc Cert.GainUpdate.main_arg3) = m ((c.tc : Thread Cert.GainUpdate.nD Cert.GainUpdate.τ).loc Cert.GainUpdate.main_arg3))
      ∧ r.2.sem = fun _ => 0)

def quiescent_GainUpdateIdeal [hGainUpdateIdeal : Cert.GainUpdateIdeal.Facts] : Prop :=
  ∀ (m : (ℓ : Loc Cert.GainUpdateIdeal.nD Cert.GainUpdateIdeal.τ Cert.GainUpdateIdeal.sig) → Buf (Elt Ideal) ℓ) (g : Dev Cert.GainUpdateIdeal.nD → PrngReg), Pre_GainUpdateIdeal m →
    θ_run (Cert.GainUpdateIdeal.defs (F := Ideal)) (onTc (τ := Cert.GainUpdateIdeal.τ) (Cert.GainUpdateIdeal.main (F := Ideal))) ⟨m, fun _ => 0, g⟩ (fun r => (∀ c : Dev Cert.GainUpdateIdeal.nD,
      r.2.mem ((c.tc : Thread Cert.GainUpdateIdeal.nD Cert.GainUpdateIdeal.τ).loc Cert.GainUpdateIdeal.main_arg0) = m ((c.tc : Thread Cert.GainUpdateIdeal.nD Cert.GainUpdateIdeal.τ).loc Cert.GainUpdateIdeal.main_arg0)
      ∧ r.2.mem ((c.tc : Thread Cert.GainUpdateIdeal.nD Cert.GainUpdateIdeal.τ).loc Cert.GainUpdateIdeal.main_arg1) = m ((c.tc : Thread Cert.GainUpdateIdeal.nD Cert.GainUpdateIdeal.τ).loc Cert.GainUpdateIdeal.main_arg1)
      ∧ r.2.mem ((c.tc : Thread Cert.GainUpdateIdeal.nD Cert.GainUpdateIdeal.τ).loc Cert.GainUpdateIdeal.main_arg2) = m ((c.tc : Thread Cert.GainUpdateIdeal.nD Cert.GainUpdateIdeal.τ).loc Cert.GainUpdateIdeal.main_arg2)
      ∧ r.2.mem ((c.tc : Thread Cert.GainUpdateIdeal.nD Cert.GainUpdateIdeal.τ).loc Cert.GainUpdateIdeal.main_arg3) = m ((c.tc : Thread Cert.GainUpdateIdeal.nD Cert.GainUpdateIdeal.τ).loc Cert.GainUpdateIdeal.main_arg3))
      ∧ r.2.sem = fun _ => 0)

def quiescent_GainUpdateRefIdeal [hGainUpdateRefIdeal : Cert.GainUpdateRefIdeal.Facts] : Prop :=
  ∀ (m : (ℓ : Loc Cert.GainUpdateRefIdeal.nD Cert.GainUpdateRefIdeal.τ Cert.GainUpdateRefIdeal.sig) → Buf (Elt Ideal) ℓ) (g : Dev Cert.GainUpdateRefIdeal.nD → PrngReg), Pre_GainUpdateRefIdeal m →
    θ_run (Cert.GainUpdateRefIdeal.defs (F := Ideal)) (onTc (τ := Cert.GainUpdateRefIdeal.τ) (Cert.GainUpdateRefIdeal.main (F := Ideal))) ⟨m, fun _ => 0, g⟩ (fun r => (∀ c : Dev Cert.GainUpdateRefIdeal.nD,
      r.2.mem ((c.tc : Thread Cert.GainUpdateRefIdeal.nD Cert.GainUpdateRefIdeal.τ).loc Cert.GainUpdateRefIdeal.main_arg0) = m ((c.tc : Thread Cert.GainUpdateRefIdeal.nD Cert.GainUpdateRefIdeal.τ).loc Cert.GainUpdateRefIdeal.main_arg0)
      ∧ r.2.mem ((c.tc : Thread Cert.GainUpdateRefIdeal.nD Cert.GainUpdateRefIdeal.τ).loc Cert.GainUpdateRefIdeal.main_arg1) = m ((c.tc : Thread Cert.GainUpdateRefIdeal.nD Cert.GainUpdateRefIdeal.τ).loc Cert.GainUpdateRefIdeal.main_arg1)
      ∧ r.2.mem ((c.tc : Thread Cert.GainUpdateRefIdeal.nD Cert.GainUpdateRefIdeal.τ).loc Cert.GainUpdateRefIdeal.main_arg2) = m ((c.tc : Thread Cert.GainUpdateRefIdeal.nD Cert.GainUpdateRefIdeal.τ).loc Cert.GainUpdateRefIdeal.main_arg2)
      ∧ r.2.mem ((c.tc : Thread Cert.GainUpdateRefIdeal.nD Cert.GainUpdateRefIdeal.τ).loc Cert.GainUpdateRefIdeal.main_arg3) = m ((c.tc : Thread Cert.GainUpdateRefIdeal.nD Cert.GainUpdateRefIdeal.τ).loc Cert.GainUpdateRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ r.2.sem = fun _ => 0)

def quiescent_NormGradRefIdeal [hNormGradRefIdeal : Cert.NormGradRefIdeal.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3))
      ∧ r.2.sem = fun _ => 0)

def quiescent_LossGrad [hLossGrad : Cert.LossGrad.Facts] : Prop :=
  ∀ (m : (ℓ : Loc Cert.LossGrad.nD Cert.LossGrad.τ Cert.LossGrad.sig) → Buf (Elt Bits) ℓ) (g : Dev Cert.LossGrad.nD → PrngReg), Pre_LossGrad m →
    θ_run (Cert.LossGrad.defs (F := Bits)) (onTc (τ := Cert.LossGrad.τ) (Cert.LossGrad.main (F := Bits))) ⟨m, fun _ => 0, g⟩ (fun r => (∀ c : Dev Cert.LossGrad.nD,
      r.2.mem ((c.tc : Thread Cert.LossGrad.nD Cert.LossGrad.τ).loc Cert.LossGrad.main_arg0) = m ((c.tc : Thread Cert.LossGrad.nD Cert.LossGrad.τ).loc Cert.LossGrad.main_arg0)
      ∧ r.2.mem ((c.tc : Thread Cert.LossGrad.nD Cert.LossGrad.τ).loc Cert.LossGrad.main_arg1) = m ((c.tc : Thread Cert.LossGrad.nD Cert.LossGrad.τ).loc Cert.LossGrad.main_arg1)
      ∧ r.2.mem ((c.tc : Thread Cert.LossGrad.nD Cert.LossGrad.τ).loc Cert.LossGrad.main_arg2) = m ((c.tc : Thread Cert.LossGrad.nD Cert.LossGrad.τ).loc Cert.LossGrad.main_arg2))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
      ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2))
      ∧ r.2.sem = fun _ => 0)

def quiescent_LossGradRefIdeal [hLossGradRefIdeal : Cert.LossGradRefIdeal.Facts] : Prop :=
  ∀ (m : (ℓ : Loc Cert.LossGradRefIdeal.nD Cert.LossGradRefIdeal.τ Cert.LossGradRefIdeal.sig) → Buf (Elt Ideal) ℓ) (g : Dev Cert.LossGradRefIdeal.nD → PrngReg), Pre_LossGradRefIdeal m →
    θ_run (Cert.LossGradRefIdeal.defs (F := Ideal)) (onTc (τ := Cert.LossGradRefIdeal.τ) (Cert.LossGradRefIdeal.main (F := Ideal))) ⟨m, fun _ => 0, g⟩ (fun r => (∀ c : Dev Cert.LossGradRefIdeal.nD,
      r.2.mem ((c.tc : Thread Cert.LossGradRefIdeal.nD Cert.LossGradRefIdeal.τ).loc Cert.LossGradRefIdeal.main_arg0) = m ((c.tc : Thread Cert.LossGradRefIdeal.nD Cert.LossGradRefIdeal.τ).loc Cert.LossGradRefIdeal.main_arg0)
      ∧ r.2.mem ((c.tc : Thread Cert.LossGradRefIdeal.nD Cert.LossGradRefIdeal.τ).loc Cert.LossGradRefIdeal.main_arg1) = m ((c.tc : Thread Cert.LossGradRefIdeal.nD Cert.LossGradRefIdeal.τ).loc Cert.LossGradRefIdeal.main_arg1)
      ∧ r.2.mem ((c.tc : Thread Cert.LossGradRefIdeal.nD Cert.LossGradRefIdeal.τ).loc Cert.LossGradRefIdeal.main_arg2) = m ((c.tc : Thread Cert.LossGradRefIdeal.nD Cert.LossGradRefIdeal.τ).loc Cert.LossGradRefIdeal.main_arg2))
      ∧ r.2.sem = fun _ => 0)

def quiescent_GateProj [hGateProj : Cert.GateProj.Facts] : Prop :=
  ∀ (m : (ℓ : Loc Cert.GateProj.nD Cert.GateProj.τ Cert.GateProj.sig) → Buf (Elt Bits) ℓ) (g : Dev Cert.GateProj.nD → PrngReg), Pre_GateProj m →
    θ_run (Cert.GateProj.defs (F := Bits)) (onTc (τ := Cert.GateProj.τ) (Cert.GateProj.main (F := Bits))) ⟨m, fun _ => 0, g⟩ (fun r => (∀ c : Dev Cert.GateProj.nD,
      r.2.mem ((c.tc : Thread Cert.GateProj.nD Cert.GateProj.τ).loc Cert.GateProj.main_arg0) = m ((c.tc : Thread Cert.GateProj.nD Cert.GateProj.τ).loc Cert.GateProj.main_arg0)
      ∧ r.2.mem ((c.tc : Thread Cert.GateProj.nD Cert.GateProj.τ).loc Cert.GateProj.main_arg1) = m ((c.tc : Thread Cert.GateProj.nD Cert.GateProj.τ).loc Cert.GateProj.main_arg1))
      ∧ r.2.sem = fun _ => 0)

def quiescent_GateProjIdeal [hGateProjIdeal : Cert.GateProjIdeal.Facts] : Prop :=
  ∀ (m : (ℓ : Loc Cert.GateProjIdeal.nD Cert.GateProjIdeal.τ Cert.GateProjIdeal.sig) → Buf (Elt Ideal) ℓ) (g : Dev Cert.GateProjIdeal.nD → PrngReg), Pre_GateProjIdeal m →
    θ_run (Cert.GateProjIdeal.defs (F := Ideal)) (onTc (τ := Cert.GateProjIdeal.τ) (Cert.GateProjIdeal.main (F := Ideal))) ⟨m, fun _ => 0, g⟩ (fun r => (∀ c : Dev Cert.GateProjIdeal.nD,
      r.2.mem ((c.tc : Thread Cert.GateProjIdeal.nD Cert.GateProjIdeal.τ).loc Cert.GateProjIdeal.main_arg0) = m ((c.tc : Thread Cert.GateProjIdeal.nD Cert.GateProjIdeal.τ).loc Cert.GateProjIdeal.main_arg0)
      ∧ r.2.mem ((c.tc : Thread Cert.GateProjIdeal.nD Cert.GateProjIdeal.τ).loc Cert.GateProjIdeal.main_arg1) = m ((c.tc : Thread Cert.GateProjIdeal.nD Cert.GateProjIdeal.τ).loc Cert.GateProjIdeal.main_arg1))
      ∧ r.2.sem = fun _ => 0)

def quiescent_GateProjRefIdeal [hGateProjRefIdeal : Cert.GateProjRefIdeal.Facts] : Prop :=
  ∀ (m : (ℓ : Loc Cert.GateProjRefIdeal.nD Cert.GateProjRefIdeal.τ Cert.GateProjRefIdeal.sig) → Buf (Elt Ideal) ℓ) (g : Dev Cert.GateProjRefIdeal.nD → PrngReg), Pre_GateProjRefIdeal m →
    θ_run (Cert.GateProjRefIdeal.defs (F := Ideal)) (onTc (τ := Cert.GateProjRefIdeal.τ) (Cert.GateProjRefIdeal.main (F := Ideal))) ⟨m, fun _ => 0, g⟩ (fun r => (∀ c : Dev Cert.GateProjRefIdeal.nD,
      r.2.mem ((c.tc : Thread Cert.GateProjRefIdeal.nD Cert.GateProjRefIdeal.τ).loc Cert.GateProjRefIdeal.main_arg0) = m ((c.tc : Thread Cert.GateProjRefIdeal.nD Cert.GateProjRefIdeal.τ).loc Cert.GateProjRefIdeal.main_arg0)
      ∧ r.2.mem ((c.tc : Thread Cert.GateProjRefIdeal.nD Cert.GateProjRefIdeal.τ).loc Cert.GateProjRefIdeal.main_arg1) = m ((c.tc : Thread Cert.GateProjRefIdeal.nD Cert.GateProjRefIdeal.τ).loc Cert.GateProjRefIdeal.main_arg1))
      ∧ r.2.sem = fun _ => 0)

def quiescent_UpAct [hUpAct : Cert.UpAct.Facts] : Prop :=
  ∀ (m : (ℓ : Loc Cert.UpAct.nD Cert.UpAct.τ Cert.UpAct.sig) → Buf (Elt Bits) ℓ) (g : Dev Cert.UpAct.nD → PrngReg), Pre_UpAct m →
    θ_run (Cert.UpAct.defs (F := Bits)) (onTc (τ := Cert.UpAct.τ) (Cert.UpAct.main (F := Bits))) ⟨m, fun _ => 0, g⟩ (fun r => (∀ c : Dev Cert.UpAct.nD,
      r.2.mem ((c.tc : Thread Cert.UpAct.nD Cert.UpAct.τ).loc Cert.UpAct.main_arg0) = m ((c.tc : Thread Cert.UpAct.nD Cert.UpAct.τ).loc Cert.UpAct.main_arg0)
      ∧ r.2.mem ((c.tc : Thread Cert.UpAct.nD Cert.UpAct.τ).loc Cert.UpAct.main_arg1) = m ((c.tc : Thread Cert.UpAct.nD Cert.UpAct.τ).loc Cert.UpAct.main_arg1)
      ∧ r.2.mem ((c.tc : Thread Cert.UpAct.nD Cert.UpAct.τ).loc Cert.UpAct.main_arg2) = m ((c.tc : Thread Cert.UpAct.nD Cert.UpAct.τ).loc Cert.UpAct.main_arg2))
      ∧ r.2.sem = fun _ => 0)

def quiescent_UpActIdeal [hUpActIdeal : Cert.UpActIdeal.Facts] : Prop :=
  ∀ (m : (ℓ : Loc Cert.UpActIdeal.nD Cert.UpActIdeal.τ Cert.UpActIdeal.sig) → Buf (Elt Ideal) ℓ) (g : Dev Cert.UpActIdeal.nD → PrngReg), Pre_UpActIdeal m →
    θ_run (Cert.UpActIdeal.defs (F := Ideal)) (onTc (τ := Cert.UpActIdeal.τ) (Cert.UpActIdeal.main (F := Ideal))) ⟨m, fun _ => 0, g⟩ (fun r => (∀ c : Dev Cert.UpActIdeal.nD,
      r.2.mem ((c.tc : Thread Cert.UpActIdeal.nD Cert.UpActIdeal.τ).loc Cert.UpActIdeal.main_arg0) = m ((c.tc : Thread Cert.UpActIdeal.nD Cert.UpActIdeal.τ).loc Cert.UpActIdeal.main_arg0)
      ∧ r.2.mem ((c.tc : Thread Cert.UpActIdeal.nD Cert.UpActIdeal.τ).loc Cert.UpActIdeal.main_arg1) = m ((c.tc : Thread Cert.UpActIdeal.nD Cert.UpActIdeal.τ).loc Cert.UpActIdeal.main_arg1)
      ∧ r.2.mem ((c.tc : Thread Cert.UpActIdeal.nD Cert.UpActIdeal.τ).loc Cert.UpActIdeal.main_arg2) = m ((c.tc : Thread Cert.UpActIdeal.nD Cert.UpActIdeal.τ).loc Cert.UpActIdeal.main_arg2))
      ∧ r.2.sem = fun _ => 0)

def quiescent_UpActRefIdeal [hUpActRefIdeal : Cert.UpActRefIdeal.Facts] : Prop :=
  ∀ (m : (ℓ : Loc Cert.UpActRefIdeal.nD Cert.UpActRefIdeal.τ Cert.UpActRefIdeal.sig) → Buf (Elt Ideal) ℓ) (g : Dev Cert.UpActRefIdeal.nD → PrngReg), Pre_UpActRefIdeal m →
    θ_run (Cert.UpActRefIdeal.defs (F := Ideal)) (onTc (τ := Cert.UpActRefIdeal.τ) (Cert.UpActRefIdeal.main (F := Ideal))) ⟨m, fun _ => 0, g⟩ (fun r => (∀ c : Dev Cert.UpActRefIdeal.nD,
      r.2.mem ((c.tc : Thread Cert.UpActRefIdeal.nD Cert.UpActRefIdeal.τ).loc Cert.UpActRefIdeal.main_arg0) = m ((c.tc : Thread Cert.UpActRefIdeal.nD Cert.UpActRefIdeal.τ).loc Cert.UpActRefIdeal.main_arg0)
      ∧ r.2.mem ((c.tc : Thread Cert.UpActRefIdeal.nD Cert.UpActRefIdeal.τ).loc Cert.UpActRefIdeal.main_arg1) = m ((c.tc : Thread Cert.UpActRefIdeal.nD Cert.UpActRefIdeal.τ).loc Cert.UpActRefIdeal.main_arg1)
      ∧ r.2.mem ((c.tc : Thread Cert.UpActRefIdeal.nD Cert.UpActRefIdeal.τ).loc Cert.UpActRefIdeal.main_arg2) = m ((c.tc : Thread Cert.UpActRefIdeal.nD Cert.UpActRefIdeal.τ).loc Cert.UpActRefIdeal.main_arg2))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ r.2.sem = fun _ => 0)

def quiescent_DownProjRefIdeal [hDownProjRefIdeal : Cert.DownProjRefIdeal.Facts] : Prop :=
  ∀ (m : (ℓ : Loc Cert.DownProjRefIdeal.nD Cert.DownProjRefIdeal.τ Cert.DownProjRefIdeal.sig) → Buf (Elt Ideal) ℓ) (g : Dev Cert.DownProjRefIdeal.nD → PrngReg), Pre_DownProjRefIdeal m →
    θ_run (Cert.DownProjRefIdeal.defs (F := Ideal)) (onTc (τ := Cert.DownProjRefIdeal.τ) (Cert.DownProjRefIdeal.main (F := Ideal))) ⟨m, fun _ => 0, g⟩ (fun r => (∀ c : Dev Cert.DownProjRefIdeal.nD,
      r.2.mem ((c.tc : Thread Cert.DownProjRefIdeal.nD Cert.DownProjRefIdeal.τ).loc Cert.DownProjRefIdeal.main_arg0) = m ((c.tc : Thread Cert.DownProjRefIdeal.nD Cert.DownProjRefIdeal.τ).loc Cert.DownProjRefIdeal.main_arg0)
      ∧ r.2.mem ((c.tc : Thread Cert.DownProjRefIdeal.nD Cert.DownProjRefIdeal.τ).loc Cert.DownProjRefIdeal.main_arg1) = m ((c.tc : Thread Cert.DownProjRefIdeal.nD Cert.DownProjRefIdeal.τ).loc Cert.DownProjRefIdeal.main_arg1)
      ∧ r.2.mem ((c.tc : Thread Cert.DownProjRefIdeal.nD Cert.DownProjRefIdeal.τ).loc Cert.DownProjRefIdeal.main_arg2) = m ((c.tc : Thread Cert.DownProjRefIdeal.nD Cert.DownProjRefIdeal.τ).loc Cert.DownProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_StickHeads [hStickHeads : Cert.StickHeads.Facts] : Prop :=
  ∀ (m : (ℓ : Loc Cert.StickHeads.nD Cert.StickHeads.τ Cert.StickHeads.sig) → Buf (Elt Bits) ℓ) (g : Dev Cert.StickHeads.nD → PrngReg), Pre_StickHeads m →
    θ_run (Cert.StickHeads.defs (F := Bits)) (onTc (τ := Cert.StickHeads.τ) (Cert.StickHeads.main (F := Bits))) ⟨m, fun _ => 0, g⟩ (fun r => (∀ c : Dev Cert.StickHeads.nD,
      r.2.mem ((c.tc : Thread Cert.StickHeads.nD Cert.StickHeads.τ).loc Cert.StickHeads.main_arg0) = m ((c.tc : Thread Cert.StickHeads.nD Cert.StickHeads.τ).loc Cert.StickHeads.main_arg0)
      ∧ r.2.mem ((c.tc : Thread Cert.StickHeads.nD Cert.StickHeads.τ).loc Cert.StickHeads.main_arg1) = m ((c.tc : Thread Cert.StickHeads.nD Cert.StickHeads.τ).loc Cert.StickHeads.main_arg1)
      ∧ r.2.mem ((c.tc : Thread Cert.StickHeads.nD Cert.StickHeads.τ).loc Cert.StickHeads.main_arg2) = m ((c.tc : Thread Cert.StickHeads.nD Cert.StickHeads.τ).loc Cert.StickHeads.main_arg2))
      ∧ r.2.sem = fun _ => 0)

def quiescent_StickHeadsIdeal [hStickHeadsIdeal : Cert.StickHeadsIdeal.Facts] : Prop :=
  ∀ (m : (ℓ : Loc Cert.StickHeadsIdeal.nD Cert.StickHeadsIdeal.τ Cert.StickHeadsIdeal.sig) → Buf (Elt Ideal) ℓ) (g : Dev Cert.StickHeadsIdeal.nD → PrngReg), Pre_StickHeadsIdeal m →
    θ_run (Cert.StickHeadsIdeal.defs (F := Ideal)) (onTc (τ := Cert.StickHeadsIdeal.τ) (Cert.StickHeadsIdeal.main (F := Ideal))) ⟨m, fun _ => 0, g⟩ (fun r => (∀ c : Dev Cert.StickHeadsIdeal.nD,
      r.2.mem ((c.tc : Thread Cert.StickHeadsIdeal.nD Cert.StickHeadsIdeal.τ).loc Cert.StickHeadsIdeal.main_arg0) = m ((c.tc : Thread Cert.StickHeadsIdeal.nD Cert.StickHeadsIdeal.τ).loc Cert.StickHeadsIdeal.main_arg0)
      ∧ r.2.mem ((c.tc : Thread Cert.StickHeadsIdeal.nD Cert.StickHeadsIdeal.τ).loc Cert.StickHeadsIdeal.main_arg1) = m ((c.tc : Thread Cert.StickHeadsIdeal.nD Cert.StickHeadsIdeal.τ).loc Cert.StickHeadsIdeal.main_arg1)
      ∧ r.2.mem ((c.tc : Thread Cert.StickHeadsIdeal.nD Cert.StickHeadsIdeal.τ).loc Cert.StickHeadsIdeal.main_arg2) = m ((c.tc : Thread Cert.StickHeadsIdeal.nD Cert.StickHeadsIdeal.τ).loc Cert.StickHeadsIdeal.main_arg2))
      ∧ r.2.sem = fun _ => 0)

def quiescent_StickHeadsRefIdeal [hStickHeadsRefIdeal : Cert.StickHeadsRefIdeal.Facts] : Prop :=
  ∀ (m : (ℓ : Loc Cert.StickHeadsRefIdeal.nD Cert.StickHeadsRefIdeal.τ Cert.StickHeadsRefIdeal.sig) → Buf (Elt Ideal) ℓ) (g : Dev Cert.StickHeadsRefIdeal.nD → PrngReg), Pre_StickHeadsRefIdeal m →
    θ_run (Cert.StickHeadsRefIdeal.defs (F := Ideal)) (onTc (τ := Cert.StickHeadsRefIdeal.τ) (Cert.StickHeadsRefIdeal.main (F := Ideal))) ⟨m, fun _ => 0, g⟩ (fun r => (∀ c : Dev Cert.StickHeadsRefIdeal.nD,
      r.2.mem ((c.tc : Thread Cert.StickHeadsRefIdeal.nD Cert.StickHeadsRefIdeal.τ).loc Cert.StickHeadsRefIdeal.main_arg0) = m ((c.tc : Thread Cert.StickHeadsRefIdeal.nD Cert.StickHeadsRefIdeal.τ).loc Cert.StickHeadsRefIdeal.main_arg0)
      ∧ r.2.mem ((c.tc : Thread Cert.StickHeadsRefIdeal.nD Cert.StickHeadsRefIdeal.τ).loc Cert.StickHeadsRefIdeal.main_arg1) = m ((c.tc : Thread Cert.StickHeadsRefIdeal.nD Cert.StickHeadsRefIdeal.τ).loc Cert.StickHeadsRefIdeal.main_arg1)
      ∧ r.2.mem ((c.tc : Thread Cert.StickHeadsRefIdeal.nD Cert.StickHeadsRefIdeal.τ).loc Cert.StickHeadsRefIdeal.main_arg2) = m ((c.tc : Thread Cert.StickHeadsRefIdeal.nD Cert.StickHeadsRefIdeal.τ).loc Cert.StickHeadsRefIdeal.main_arg2))
      ∧ r.2.sem = fun _ => 0)

def preserves_ActGrad_ActGradIdeal : Prop :=
  True

def algebraic_ActGradIdeal_ActGradRefIdeal_pre_finite [hActGradIdeal : Cert.ActGradIdeal.Facts] [hActGradRefIdeal : Cert.ActGradRefIdeal.Facts] [hPre_finite : Cert.Pre_finite.Facts] : Prop :=
  ∀ (m : (ℓ : Loc Cert.ActGradIdeal.nD Cert.ActGradIdeal.τ Cert.ActGradIdeal.sig) → Buf (Elt Ideal) ℓ) (g : Dev Cert.ActGradIdeal.nD → PrngReg)
    (m' : (ℓ : Loc Cert.ActGradRefIdeal.nD Cert.ActGradRefIdeal.τ Cert.ActGradRefIdeal.sig) → Buf (Elt Ideal) ℓ) (g' : Dev Cert.ActGradRefIdeal.nD → PrngReg), Pre_ActGradIdeal_finite m →
    (∀ c : Dev Cert.ActGradIdeal.nD,
      m' ((c.tc : Thread Cert.ActGradRefIdeal.nD Cert.ActGradRefIdeal.τ).loc Cert.ActGradRefIdeal.main_arg0) = m ((c.tc : Thread Cert.ActGradIdeal.nD Cert.ActGradIdeal.τ).loc Cert.ActGradIdeal.main_arg0)
      ∧ m' ((c.tc : Thread Cert.ActGradRefIdeal.nD Cert.ActGradRefIdeal.τ).loc Cert.ActGradRefIdeal.main_arg1) = m ((c.tc : Thread Cert.ActGradIdeal.nD Cert.ActGradIdeal.τ).loc Cert.ActGradIdeal.main_arg1)
      ∧ m' ((c.tc : Thread Cert.ActGradRefIdeal.nD Cert.ActGradRefIdeal.τ).loc Cert.ActGradRefIdeal.main_arg2) = m ((c.tc : Thread Cert.ActGradIdeal.nD Cert.ActGradIdeal.τ).loc Cert.ActGradIdeal.main_arg2)
      ∧ m' ((c.tc : Thread Cert.ActGradRefIdeal.nD Cert.ActGradRefIdeal.τ).loc Cert.ActGradRefIdeal.main_arg3) = m ((c.tc : Thread Cert.ActGradIdeal.nD Cert.ActGradIdeal.τ).loc Cert.ActGradIdeal.main_arg3)) →
    ∃ (v0 : (c : Dev Cert.ActGradIdeal.nD) → Buf (Elt Ideal) ((c.tc : Thread Cert.ActGradIdeal.nD Cert.ActGradIdeal.τ).loc Cert.ActGradIdeal.main_v5_0)) (v1 : (c : Dev Cert.ActGradIdeal.nD) → Buf (Elt Ideal) ((c.tc : Thread Cert.ActGradIdeal.nD Cert.ActGradIdeal.τ).loc Cert.ActGradIdeal.main_v5_1)),
      θ_run (Cert.ActGradIdeal.defs (F := Ideal)) (onTc (τ := Cert.ActGradIdeal.τ) (Cert.ActGradIdeal.main (F := Ideal))) ⟨m, fun _ => 0, g⟩ (fun r => ∀ c : Dev Cert.ActGradIdeal.nD,
          r.2.mem ((c.tc : Thread Cert.ActGradIdeal.nD Cert.ActGradIdeal.τ).loc Cert.ActGradIdeal.main_v5_0) = v0 c
          ∧ r.2.mem ((c.tc : Thread Cert.ActGradIdeal.nD Cert.ActGradIdeal.τ).loc Cert.ActGradIdeal.main_v5_1) = v1 c
          ∧ r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
          ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1)
          ∧ r.2.mem ((c.tc : Thread Cert.ActGradIdeal.nD Cert.ActGradIdeal.τ).loc Cert.ActGradIdeal.main_arg2) = m ((c.tc : Thread Cert.ActGradIdeal.nD Cert.ActGradIdeal.τ).loc Cert.ActGradIdeal.main_arg2)
          ∧ r.2.mem ((c.tc : Thread Cert.ActGradIdeal.nD Cert.ActGradIdeal.τ).loc Cert.ActGradIdeal.main_arg3) = m ((c.tc : Thread Cert.ActGradIdeal.nD Cert.ActGradIdeal.τ).loc Cert.ActGradIdeal.main_arg3))
      ∧ θ_run (Cert.ActGradRefIdeal.defs (F := Ideal)) (onTc (τ := Cert.ActGradRefIdeal.τ) (Cert.ActGradRefIdeal.main (F := Ideal))) ⟨m', fun _ => 0, g'⟩ (fun r => ∀ c : Dev Cert.ActGradRefIdeal.nD,
          r.2.mem ((c.tc : Thread Cert.ActGradRefIdeal.nD Cert.ActGradRefIdeal.τ).loc Cert.ActGradRefIdeal.main_v12) = v0 c
          ∧ r.2.mem ((c.tc : Thread Cert.ActGradRefIdeal.nD Cert.ActGradRefIdeal.τ).loc Cert.ActGradRefIdeal.main_v15) = v1 c
          ∧ r.2.mem ((c.tc : Thread Cert.ActGradRefIdeal.nD Cert.ActGradRefIdeal.τ).loc Cert.ActGradRefIdeal.main_arg0) = m' ((c.tc : Thread Cert.ActGradRefIdeal.nD Cert.ActGradRefIdeal.τ).loc Cert.ActGradRefIdeal.main_arg0)
          ∧ r.2.mem ((c.tc : Thread Cert.ActGradRefIdeal.nD Cert.ActGradRefIdeal.τ).loc Cert.ActGradRefIdeal.main_arg1) = m' ((c.tc : Thread Cert.ActGradRefIdeal.nD Cert.ActGradRefIdeal.τ).loc Cert.ActGradRefIdeal.main_arg1)
          ∧ r.2.mem ((c.tc : Thread Cert.ActGradRefIdeal.nD Cert.ActGradRefIdeal.τ).loc Cert.ActGradRefIdeal.main_arg2) = m' ((c.tc : Thread Cert.ActGradRefIdeal.nD Cert.ActGradRefIdeal.τ).loc Cert.ActGradRefIdeal.main_arg2)
          ∧ r.2.mem ((c.tc : Thread Cert.ActGradRefIdeal.nD Cert.ActGradRefIdeal.τ).loc Cert.ActGradRefIdeal.main_arg3) = m' ((c.tc : Thread Cert.ActGradRefIdeal.nD Cert.ActGradRefIdeal.τ).loc Cert.ActGradRefIdeal.main_arg3))

def preserves_FfnWeightGrad_FfnWeightGradIdeal : Prop :=
  True

def algebraic_FfnWeightGradIdeal_DownWeightRefIdeal [hFfnWeightGradIdeal : Cert.FfnWeightGradIdeal.Facts] [hDownWeightRefIdeal : Cert.DownWeightRefIdeal.Facts] : Prop :=
  ∀ (m : (ℓ : Loc Cert.FfnWeightGradIdeal.nD Cert.FfnWeightGradIdeal.τ Cert.FfnWeightGradIdeal.sig) → Buf (Elt Ideal) ℓ) (g : Dev Cert.FfnWeightGradIdeal.nD → PrngReg)
    (m' : (ℓ : Loc Cert.DownWeightRefIdeal.nD Cert.DownWeightRefIdeal.τ Cert.DownWeightRefIdeal.sig) → Buf (Elt Ideal) ℓ) (g' : Dev Cert.DownWeightRefIdeal.nD → PrngReg), Pre_FfnWeightGradIdeal m →
    (∀ c : Dev Cert.FfnWeightGradIdeal.nD,
      m' ((c.tc : Thread Cert.DownWeightRefIdeal.nD Cert.DownWeightRefIdeal.τ).loc Cert.DownWeightRefIdeal.main_arg0) = m ((c.tc : Thread Cert.FfnWeightGradIdeal.nD Cert.FfnWeightGradIdeal.τ).loc Cert.FfnWeightGradIdeal.main_arg0)
      ∧ m' ((c.tc : Thread Cert.DownWeightRefIdeal.nD Cert.DownWeightRefIdeal.τ).loc Cert.DownWeightRefIdeal.main_arg1) = m ((c.tc : Thread Cert.FfnWeightGradIdeal.nD Cert.FfnWeightGradIdeal.τ).loc Cert.FfnWeightGradIdeal.main_arg1)) →
    ∃ (v0 : (c : Dev Cert.FfnWeightGradIdeal.nD) → Buf (Elt Ideal) ((c.tc : Thread Cert.FfnWeightGradIdeal.nD Cert.FfnWeightGradIdeal.τ).loc Cert.FfnWeightGradIdeal.main_v2)),
      θ_run (Cert.FfnWeightGradIdeal.defs (F := Ideal)) (onTc (τ := Cert.FfnWeightGradIdeal.τ) (Cert.FfnWeightGradIdeal.main (F := Ideal))) ⟨m, fun _ => 0, g⟩ (fun r => ∀ c : Dev Cert.FfnWeightGradIdeal.nD,
          r.2.mem ((c.tc : Thread Cert.FfnWeightGradIdeal.nD Cert.FfnWeightGradIdeal.τ).loc Cert.FfnWeightGradIdeal.main_v2) = v0 c
          ∧ r.2.mem ((c.tc : Thread Cert.FfnWeightGradIdeal.nD Cert.FfnWeightGradIdeal.τ).loc Cert.FfnWeightGradIdeal.main_arg0) = m ((c.tc : Thread Cert.FfnWeightGradIdeal.nD Cert.FfnWeightGradIdeal.τ).loc Cert.FfnWeightGradIdeal.main_arg0)
          ∧ r.2.mem ((c.tc : Thread Cert.FfnWeightGradIdeal.nD Cert.FfnWeightGradIdeal.τ).loc Cert.FfnWeightGradIdeal.main_arg1) = m ((c.tc : Thread Cert.FfnWeightGradIdeal.nD Cert.FfnWeightGradIdeal.τ).loc Cert.FfnWeightGradIdeal.main_arg1))
      ∧ θ_run (Cert.DownWeightRefIdeal.defs (F := Ideal)) (onTc (τ := Cert.DownWeightRefIdeal.τ) (Cert.DownWeightRefIdeal.main (F := Ideal))) ⟨m', fun _ => 0, g'⟩ (fun r => ∀ c : Dev Cert.DownWeightRefIdeal.nD,
          r.2.mem ((c.tc : Thread Cert.DownWeightRefIdeal.nD Cert.DownWeightRefIdeal.τ).loc Cert.DownWeightRefIdeal.main_v7) = v0 c
          ∧ r.2.mem ((c.tc : Thread Cert.DownWeightRefIdeal.nD Cert.DownWeightRefIdeal.τ).loc Cert.DownWeightRefIdeal.main_arg0) = m' ((c.tc : Thread Cert.DownWeightRefIdeal.nD Cert.DownWeightRefIdeal.τ).loc Cert.DownWeightRefIdeal.main_arg0)
          ∧ r.2.mem ((c.tc : Thread Cert.DownWeightRefIdeal.nD Cert.DownWeightRefIdeal.τ).loc Cert.DownWeightRefIdeal.main_arg1) = m' ((c.tc : Thread Cert.DownWeightRefIdeal.nD Cert.DownWeightRefIdeal.τ).loc Cert.DownWeightRefIdeal.main_arg1))

def algebraic_FfnWeightGradIdeal_GateWeightRefIdeal [hFfnWeightGradIdeal : Cert.FfnWeightGradIdeal.Facts] [hGateWeightRefIdeal : Cert.GateWeightRefIdeal.Facts] : Prop :=
  ∀ (m : (ℓ : Loc Cert.FfnWeightGradIdeal.nD Cert.FfnWeightGradIdeal.τ Cert.FfnWeightGradIdeal.sig) → Buf (Elt Ideal) ℓ) (g : Dev Cert.FfnWeightGradIdeal.nD → PrngReg)
    (m' : (ℓ : Loc Cert.GateWeightRefIdeal.nD Cert.GateWeightRefIdeal.τ Cert.GateWeightRefIdeal.sig) → Buf (Elt Ideal) ℓ) (g' : Dev Cert.GateWeightRefIdeal.nD → PrngReg), Pre_FfnWeightGradIdeal m →
    (∀ c : Dev Cert.FfnWeightGradIdeal.nD,
      m' ((c.tc : Thread Cert.GateWeightRefIdeal.nD Cert.GateWeightRefIdeal.τ).loc Cert.GateWeightRefIdeal.main_arg0) = m ((c.tc : Thread Cert.FfnWeightGradIdeal.nD Cert.FfnWeightGradIdeal.τ).loc Cert.FfnWeightGradIdeal.main_arg0)
      ∧ m' ((c.tc : Thread Cert.GateWeightRefIdeal.nD Cert.GateWeightRefIdeal.τ).loc Cert.GateWeightRefIdeal.main_arg1) = m ((c.tc : Thread Cert.FfnWeightGradIdeal.nD Cert.FfnWeightGradIdeal.τ).loc Cert.FfnWeightGradIdeal.main_arg1)) →
    ∃ (v0 : (c : Dev Cert.FfnWeightGradIdeal.nD) → Buf (Elt Ideal) ((c.tc : Thread Cert.FfnWeightGradIdeal.nD Cert.FfnWeightGradIdeal.τ).loc Cert.FfnWeightGradIdeal.main_v2)),
      θ_run (Cert.FfnWeightGradIdeal.defs (F := Ideal)) (onTc (τ := Cert.FfnWeightGradIdeal.τ) (Cert.FfnWeightGradIdeal.main (F := Ideal))) ⟨m, fun _ => 0, g⟩ (fun r => ∀ c : Dev Cert.FfnWeightGradIdeal.nD,
          r.2.mem ((c.tc : Thread Cert.FfnWeightGradIdeal.nD Cert.FfnWeightGradIdeal.τ).loc Cert.FfnWeightGradIdeal.main_v2) = v0 c
          ∧ r.2.mem ((c.tc : Thread Cert.FfnWeightGradIdeal.nD Cert.FfnWeightGradIdeal.τ).loc Cert.FfnWeightGradIdeal.main_arg0) = m ((c.tc : Thread Cert.FfnWeightGradIdeal.nD Cert.FfnWeightGradIdeal.τ).loc Cert.FfnWeightGradIdeal.main_arg0)
          ∧ r.2.mem ((c.tc : Thread Cert.FfnWeightGradIdeal.nD Cert.FfnWeightGradIdeal.τ).loc Cert.FfnWeightGradIdeal.main_arg1) = m ((c.tc : Thread Cert.FfnWeightGradIdeal.nD Cert.FfnWeightGradIdeal.τ).loc Cert.FfnWeightGradIdeal.main_arg1))
      ∧ θ_run (Cert.GateWeightRefIdeal.defs (F := Ideal)) (onTc (τ := Cert.GateWeightRefIdeal.τ) (Cert.GateWeightRefIdeal.main (F := Ideal))) ⟨m', fun _ => 0, g'⟩ (fun r => ∀ c : Dev Cert.GateWeightRefIdeal.nD,
          r.2.mem ((c.tc : Thread Cert.GateWeightRefIdeal.nD Cert.GateWeightRefIdeal.τ).loc Cert.GateWeightRefIdeal.main_v8) = v0 c
          ∧ r.2.mem ((c.tc : Thread Cert.GateWeightRefIdeal.nD Cert.GateWeightRefIdeal.τ).loc Cert.GateWeightRefIdeal.main_arg0) = m' ((c.tc : Thread Cert.GateWeightRefIdeal.nD Cert.GateWeightRefIdeal.τ).loc Cert.GateWeightRefIdeal.main_arg0)
          ∧ r.2.mem ((c.tc : Thread Cert.GateWeightRefIdeal.nD Cert.GateWeightRefIdeal.τ).loc Cert.GateWeightRefIdeal.main_arg1) = m' ((c.tc : Thread Cert.GateWeightRefIdeal.nD Cert.GateWeightRefIdeal.τ).loc Cert.GateWeightRefIdeal.main_arg1))

def preserves_FfnInputGrad_FfnInputGradIdeal : Prop :=
  True

def algebraic_FfnInputGradIdeal_FfnInputGradRefIdeal [hFfnInputGradIdeal : Cert.FfnInputGradIdeal.Facts] [hFfnInputGradRefIdeal : Cert.FfnInputGradRefIdeal.Facts] : Prop :=
  ∀ (m : (ℓ : Loc Cert.FfnInputGradIdeal.nD Cert.FfnInputGradIdeal.τ Cert.FfnInputGradIdeal.sig) → Buf (Elt Ideal) ℓ) (g : Dev Cert.FfnInputGradIdeal.nD → PrngReg)
    (m' : (ℓ : Loc Cert.FfnInputGradRefIdeal.nD Cert.FfnInputGradRefIdeal.τ Cert.FfnInputGradRefIdeal.sig) → Buf (Elt Ideal) ℓ) (g' : Dev Cert.FfnInputGradRefIdeal.nD → PrngReg), Pre_FfnInputGradIdeal m →
    (∀ c : Dev Cert.FfnInputGradIdeal.nD,
      m' ((c.tc : Thread Cert.FfnInputGradRefIdeal.nD Cert.FfnInputGradRefIdeal.τ).loc Cert.FfnInputGradRefIdeal.main_arg0) = m ((c.tc : Thread Cert.FfnInputGradIdeal.nD Cert.FfnInputGradIdeal.τ).loc Cert.FfnInputGradIdeal.main_arg0)
      ∧ m' ((c.tc : Thread Cert.FfnInputGradRefIdeal.nD Cert.FfnInputGradRefIdeal.τ).loc Cert.FfnInputGradRefIdeal.main_arg1) = m ((c.tc : Thread Cert.FfnInputGradIdeal.nD Cert.FfnInputGradIdeal.τ).loc Cert.FfnInputGradIdeal.main_arg1)
      ∧ m' ((c.tc : Thread Cert.FfnInputGradRefIdeal.nD Cert.FfnInputGradRefIdeal.τ).loc Cert.FfnInputGradRefIdeal.main_arg2) = m ((c.tc : Thread Cert.FfnInputGradIdeal.nD Cert.FfnInputGradIdeal.τ).loc Cert.FfnInputGradIdeal.main_arg2)
      ∧ m' ((c.tc : Thread Cert.FfnInputGradRefIdeal.nD Cert.FfnInputGradRefIdeal.τ).loc Cert.FfnInputGradRefIdeal.main_arg3) = m ((c.tc : Thread Cert.FfnInputGradIdeal.nD Cert.FfnInputGradIdeal.τ).loc Cert.FfnInputGradIdeal.main_arg3)) →
    ∃ (v0 : (c : Dev Cert.FfnInputGradIdeal.nD) → Buf (Elt Ideal) ((c.tc : Thread Cert.FfnInputGradIdeal.nD Cert.FfnInputGradIdeal.τ).loc Cert.FfnInputGradIdeal.main_v8)),
      θ_run (Cert.FfnInputGradIdeal.defs (F := Ideal)) (onTc (τ := Cert.FfnInputGradIdeal.τ) (Cert.FfnInputGradIdeal.main (F := Ideal))) ⟨m, fun _ => 0, g⟩ (fun r => ∀ c : Dev Cert.FfnInputGradIdeal.nD,
          r.2.mem ((c.tc : Thread Cert.FfnInputGradIdeal.nD Cert.FfnInputGradIdeal.τ).loc Cert.FfnInputGradIdeal.main_v8) = v0 c
          ∧ r.2.mem ((c.tc : Thread Cert.FfnInputGradIdeal.nD Cert.FfnInputGradIdeal.τ).loc Cert.FfnInputGradIdeal.main_arg0) = m ((c.tc : Thread Cert.FfnInputGradIdeal.nD Cert.FfnInputGradIdeal.τ).loc Cert.FfnInputGradIdeal.main_arg0)
          ∧ r.2.mem ((c.tc : Thread Cert.FfnInputGradIdeal.nD Cert.FfnInputGradIdeal.τ).loc Cert.FfnInputGradIdeal.main_arg1) = m ((c.tc : Thread Cert.FfnInputGradIdeal.nD Cert.FfnInputGradIdeal.τ).loc Cert.FfnInputGradIdeal.main_arg1)
          ∧ r.2.mem ((c.tc : Thread Cert.FfnInputGradIdeal.nD Cert.FfnInputGradIdeal.τ).loc Cert.FfnInputGradIdeal.main_arg2) = m ((c.tc : Thread Cert.FfnInputGradIdeal.nD Cert.FfnInputGradIdeal.τ).loc Cert.FfnInputGradIdeal.main_arg2)
          ∧ r.2.mem ((c.tc : Thread Cert.FfnInputGradIdeal.nD Cert.FfnInputGradIdeal.τ).loc Cert.FfnInputGradIdeal.main_arg3) = m ((c.tc : Thread Cert.FfnInputGradIdeal.nD Cert.FfnInputGradIdeal.τ).loc Cert.FfnInputGradIdeal.main_arg3))
      ∧ θ_run (Cert.FfnInputGradRefIdeal.defs (F := Ideal)) (onTc (τ := Cert.FfnInputGradRefIdeal.τ) (Cert.FfnInputGradRefIdeal.main (F := Ideal))) ⟨m', fun _ => 0, g'⟩ (fun r => ∀ c : Dev Cert.FfnInputGradRefIdeal.nD,
          r.2.mem ((c.tc : Thread Cert.FfnInputGradRefIdeal.nD Cert.FfnInputGradRefIdeal.τ).loc Cert.FfnInputGradRefIdeal.main_v9) = v0 c
          ∧ r.2.mem ((c.tc : Thread Cert.FfnInputGradRefIdeal.nD Cert.FfnInputGradRefIdeal.τ).loc Cert.FfnInputGradRefIdeal.main_arg0) = m' ((c.tc : Thread Cert.FfnInputGradRefIdeal.nD Cert.FfnInputGradRefIdeal.τ).loc Cert.FfnInputGradRefIdeal.main_arg0)
          ∧ r.2.mem ((c.tc : Thread Cert.FfnInputGradRefIdeal.nD Cert.FfnInputGradRefIdeal.τ).loc Cert.FfnInputGradRefIdeal.main_arg1) = m' ((c.tc : Thread Cert.FfnInputGradRefIdeal.nD Cert.FfnInputGradRefIdeal.τ).loc Cert.FfnInputGradRefIdeal.main_arg1)
          ∧ r.2.mem ((c.tc : Thread Cert.FfnInputGradRefIdeal.nD Cert.FfnInputGradRefIdeal.τ).loc Cert.FfnInputGradRefIdeal.main_arg2) = m' ((c.tc : Thread Cert.FfnInputGradRefIdeal.nD Cert.FfnInputGradRefIdeal.τ).loc Cert.FfnInputGradRefIdeal.main_arg2)
          ∧ r.2.mem ((c.tc : Thread Cert.FfnInputGradRefIdeal.nD Cert.FfnInputGradRefIdeal.τ).loc Cert.FfnInputGradRefIdeal.main_arg3) = m' ((c.tc : Thread Cert.FfnInputGradRefIdeal.nD Cert.FfnInputGradRefIdeal.τ).loc Cert.FfnInputGradRefIdeal.main_arg3))

def preserves_InWeightGrad_InWeightGradIdeal : Prop :=
  True

def algebraic_InWeightGradIdeal_InWeightGradRefIdeal [hInWeightGradIdeal : Cert.InWeightGradIdeal.Facts] [hInWeightGradRefIdeal : Cert.InWeightGradRefIdeal.Facts] : Prop :=
  ∀ (m : (ℓ : Loc Cert.InWeightGradIdeal.nD Cert.InWeightGradIdeal.τ Cert.InWeightGradIdeal.sig) → Buf (Elt Ideal) ℓ) (g : Dev Cert.InWeightGradIdeal.nD → PrngReg)
    (m' : (ℓ : Loc Cert.InWeightGradRefIdeal.nD Cert.InWeightGradRefIdeal.τ Cert.InWeightGradRefIdeal.sig) → Buf (Elt Ideal) ℓ) (g' : Dev Cert.InWeightGradRefIdeal.nD → PrngReg), Pre_InWeightGradIdeal m →
    (∀ c : Dev Cert.InWeightGradIdeal.nD,
      m' ((c.tc : Thread Cert.InWeightGradRefIdeal.nD Cert.InWeightGradRefIdeal.τ).loc Cert.InWeightGradRefIdeal.main_arg0) = m ((c.tc : Thread Cert.InWeightGradIdeal.nD Cert.InWeightGradIdeal.τ).loc Cert.InWeightGradIdeal.main_arg0)
      ∧ m' ((c.tc : Thread Cert.InWeightGradRefIdeal.nD Cert.InWeightGradRefIdeal.τ).loc Cert.InWeightGradRefIdeal.main_arg1) = m ((c.tc : Thread Cert.InWeightGradIdeal.nD Cert.InWeightGradIdeal.τ).loc Cert.InWeightGradIdeal.main_arg1)) →
    ∃ (v0 : (c : Dev Cert.InWeightGradIdeal.nD) → Buf (Elt Ideal) ((c.tc : Thread Cert.InWeightGradIdeal.nD Cert.InWeightGradIdeal.τ).loc Cert.InWeightGradIdeal.main_v0)),
      θ_run (Cert.InWeightGradIdeal.defs (F := Ideal)) (onTc (τ := Cert.InWeightGradIdeal.τ) (Cert.InWeightGradIdeal.main (F := Ideal))) ⟨m, fun _ => 0, g⟩ (fun r => ∀ c : Dev Cert.InWeightGradIdeal.nD,
          r.2.mem ((c.tc : Thread Cert.InWeightGradIdeal.nD Cert.InWeightGradIdeal.τ).loc Cert.InWeightGradIdeal.main_v0) = v0 c
          ∧ r.2.mem ((c.tc : Thread Cert.InWeightGradIdeal.nD Cert.InWeightGradIdeal.τ).loc Cert.InWeightGradIdeal.main_arg0) = m ((c.tc : Thread Cert.InWeightGradIdeal.nD Cert.InWeightGradIdeal.τ).loc Cert.InWeightGradIdeal.main_arg0)
          ∧ r.2.mem ((c.tc : Thread Cert.InWeightGradIdeal.nD Cert.InWeightGradIdeal.τ).loc Cert.InWeightGradIdeal.main_arg1) = m ((c.tc : Thread Cert.InWeightGradIdeal.nD Cert.InWeightGradIdeal.τ).loc Cert.InWeightGradIdeal.main_arg1))
      ∧ θ_run (Cert.InWeightGradRefIdeal.defs (F := Ideal)) (onTc (τ := Cert.InWeightGradRefIdeal.τ) (Cert.InWeightGradRefIdeal.main (F := Ideal))) ⟨m', fun _ => 0, g'⟩ (fun r => ∀ c : Dev Cert.InWeightGradRefIdeal.nD,
          r.2.mem ((c.tc : Thread Cert.InWeightGradRefIdeal.nD Cert.InWeightGradRefIdeal.τ).loc Cert.InWeightGradRefIdeal.main_v8) = v0 c
          ∧ r.2.mem ((c.tc : Thread Cert.InWeightGradRefIdeal.nD Cert.InWeightGradRefIdeal.τ).loc Cert.InWeightGradRefIdeal.main_arg0) = m' ((c.tc : Thread Cert.InWeightGradRefIdeal.nD Cert.InWeightGradRefIdeal.τ).loc Cert.InWeightGradRefIdeal.main_arg0)
          ∧ r.2.mem ((c.tc : Thread Cert.InWeightGradRefIdeal.nD Cert.InWeightGradRefIdeal.τ).loc Cert.InWeightGradRefIdeal.main_arg1) = m' ((c.tc : Thread Cert.InWeightGradRefIdeal.nD Cert.InWeightGradRefIdeal.τ).loc Cert.InWeightGradRefIdeal.main_arg1))

def preserves_InInputGrad_InInputGradIdeal : Prop :=
  True

def algebraic_InInputGradIdeal_InInputGradRefIdeal [hInInputGradIdeal : Cert.InInputGradIdeal.Facts] [hInInputGradRefIdeal : Cert.InInputGradRefIdeal.Facts] : Prop :=
  ∀ (m : (ℓ : Loc Cert.InInputGradIdeal.nD Cert.InInputGradIdeal.τ Cert.InInputGradIdeal.sig) → Buf (Elt Ideal) ℓ) (g : Dev Cert.InInputGradIdeal.nD → PrngReg)
    (m' : (ℓ : Loc Cert.InInputGradRefIdeal.nD Cert.InInputGradRefIdeal.τ Cert.InInputGradRefIdeal.sig) → Buf (Elt Ideal) ℓ) (g' : Dev Cert.InInputGradRefIdeal.nD → PrngReg), Pre_InInputGradIdeal m →
    (∀ c : Dev Cert.InInputGradIdeal.nD,
      m' ((c.tc : Thread Cert.InInputGradRefIdeal.nD Cert.InInputGradRefIdeal.τ).loc Cert.InInputGradRefIdeal.main_arg0) = m ((c.tc : Thread Cert.InInputGradIdeal.nD Cert.InInputGradIdeal.τ).loc Cert.InInputGradIdeal.main_arg0)
      ∧ m' ((c.tc : Thread Cert.InInputGradRefIdeal.nD Cert.InInputGradRefIdeal.τ).loc Cert.InInputGradRefIdeal.main_arg1) = m ((c.tc : Thread Cert.InInputGradIdeal.nD Cert.InInputGradIdeal.τ).loc Cert.InInputGradIdeal.main_arg1)) →
    ∃ (v0 : (c : Dev Cert.InInputGradIdeal.nD) → Buf (Elt Ideal) ((c.tc : Thread Cert.InInputGradIdeal.nD Cert.InInputGradIdeal.τ).loc Cert.InInputGradIdeal.main_v2)),
      θ_run (Cert.InInputGradIdeal.defs (F := Ideal)) (onTc (τ := Cert.InInputGradIdeal.τ) (Cert.InInputGradIdeal.main (F := Ideal))) ⟨m, fun _ => 0, g⟩ (fun r => ∀ c : Dev Cert.InInputGradIdeal.nD,
          r.2.mem ((c.tc : Thread Cert.InInputGradIdeal.nD Cert.InInputGradIdeal.τ).loc Cert.InInputGradIdeal.main_v2) = v0 c
          ∧ r.2.mem ((c.tc : Thread Cert.InInputGradIdeal.nD Cert.InInputGradIdeal.τ).loc Cert.InInputGradIdeal.main_arg0) = m ((c.tc : Thread Cert.InInputGradIdeal.nD Cert.InInputGradIdeal.τ).loc Cert.InInputGradIdeal.main_arg0)
          ∧ r.2.mem ((c.tc : Thread Cert.InInputGradIdeal.nD Cert.InInputGradIdeal.τ).loc Cert.InInputGradIdeal.main_arg1) = m ((c.tc : Thread Cert.InInputGradIdeal.nD Cert.InInputGradIdeal.τ).loc Cert.InInputGradIdeal.main_arg1))
      ∧ θ_run (Cert.InInputGradRefIdeal.defs (F := Ideal)) (onTc (τ := Cert.InInputGradRefIdeal.τ) (Cert.InInputGradRefIdeal.main (F := Ideal))) ⟨m', fun _ => 0, g'⟩ (fun r => ∀ c : Dev Cert.InInputGradRefIdeal.nD,
          r.2.mem ((c.tc : Thread Cert.InInputGradRefIdeal.nD Cert.InInputGradRefIdeal.τ).loc Cert.InInputGradRefIdeal.main_v4) = v0 c
          ∧ r.2.mem ((c.tc : Thread Cert.InInputGradRefIdeal.nD Cert.InInputGradRefIdeal.τ).loc Cert.InInputGradRefIdeal.main_arg0) = m' ((c.tc : Thread Cert.InInputGradRefIdeal.nD Cert.InInputGradRefIdeal.τ).loc Cert.InInputGradRefIdeal.main_arg0)
          ∧ r.2.mem ((c.tc : Thread Cert.InInputGradRefIdeal.nD Cert.InInputGradRefIdeal.τ).loc Cert.InInputGradRefIdeal.main_arg1) = m' ((c.tc : Thread Cert.InInputGradRefIdeal.nD Cert.InInputGradRefIdeal.τ).loc Cert.InInputGradRefIdeal.main_arg1))

def preserves_OutWeightGrad_OutWeightGradIdeal : Prop :=
  True

def algebraic_OutWeightGradIdeal_OutWeightGradRefIdeal [hOutWeightGradIdeal : Cert.OutWeightGradIdeal.Facts] [hOutWeightGradRefIdeal : Cert.OutWeightGradRefIdeal.Facts] : Prop :=
  ∀ (m : (ℓ : Loc Cert.OutWeightGradIdeal.nD Cert.OutWeightGradIdeal.τ Cert.OutWeightGradIdeal.sig) → Buf (Elt Ideal) ℓ) (g : Dev Cert.OutWeightGradIdeal.nD → PrngReg)
    (m' : (ℓ : Loc Cert.OutWeightGradRefIdeal.nD Cert.OutWeightGradRefIdeal.τ Cert.OutWeightGradRefIdeal.sig) → Buf (Elt Ideal) ℓ) (g' : Dev Cert.OutWeightGradRefIdeal.nD → PrngReg), Pre_OutWeightGradIdeal m →
    (∀ c : Dev Cert.OutWeightGradIdeal.nD,
      m' ((c.tc : Thread Cert.OutWeightGradRefIdeal.nD Cert.OutWeightGradRefIdeal.τ).loc Cert.OutWeightGradRefIdeal.main_arg0) = m ((c.tc : Thread Cert.OutWeightGradIdeal.nD Cert.OutWeightGradIdeal.τ).loc Cert.OutWeightGradIdeal.main_arg0)
      ∧ m' ((c.tc : Thread Cert.OutWeightGradRefIdeal.nD Cert.OutWeightGradRefIdeal.τ).loc Cert.OutWeightGradRefIdeal.main_arg1) = m ((c.tc : Thread Cert.OutWeightGradIdeal.nD Cert.OutWeightGradIdeal.τ).loc Cert.OutWeightGradIdeal.main_arg1)) →
    ∃ (v0 : (c : Dev Cert.OutWeightGradIdeal.nD) → Buf (Elt Ideal) ((c.tc : Thread Cert.OutWeightGradIdeal.nD Cert.OutWeightGradIdeal.τ).loc Cert.OutWeightGradIdeal.main_v0)),
      θ_run (Cert.OutWeightGradIdeal.defs (F := Ideal)) (onTc (τ := Cert.OutWeightGradIdeal.τ) (Cert.OutWeightGradIdeal.main (F := Ideal))) ⟨m, fun _ => 0, g⟩ (fun r => ∀ c : Dev Cert.OutWeightGradIdeal.nD,
          r.2.mem ((c.tc : Thread Cert.OutWeightGradIdeal.nD Cert.OutWeightGradIdeal.τ).loc Cert.OutWeightGradIdeal.main_v0) = v0 c
          ∧ r.2.mem ((c.tc : Thread Cert.OutWeightGradIdeal.nD Cert.OutWeightGradIdeal.τ).loc Cert.OutWeightGradIdeal.main_arg0) = m ((c.tc : Thread Cert.OutWeightGradIdeal.nD Cert.OutWeightGradIdeal.τ).loc Cert.OutWeightGradIdeal.main_arg0)
          ∧ r.2.mem ((c.tc : Thread Cert.OutWeightGradIdeal.nD Cert.OutWeightGradIdeal.τ).loc Cert.OutWeightGradIdeal.main_arg1) = m ((c.tc : Thread Cert.OutWeightGradIdeal.nD Cert.OutWeightGradIdeal.τ).loc Cert.OutWeightGradIdeal.main_arg1))
      ∧ θ_run (Cert.OutWeightGradRefIdeal.defs (F := Ideal)) (onTc (τ := Cert.OutWeightGradRefIdeal.τ) (Cert.OutWeightGradRefIdeal.main (F := Ideal))) ⟨m', fun _ => 0, g'⟩ (fun r => ∀ c : Dev Cert.OutWeightGradRefIdeal.nD,
          r.2.mem ((c.tc : Thread Cert.OutWeightGradRefIdeal.nD Cert.OutWeightGradRefIdeal.τ).loc Cert.OutWeightGradRefIdeal.main_v6) = v0 c
          ∧ r.2.mem ((c.tc : Thread Cert.OutWeightGradRefIdeal.nD Cert.OutWeightGradRefIdeal.τ).loc Cert.OutWeightGradRefIdeal.main_arg0) = m' ((c.tc : Thread Cert.OutWeightGradRefIdeal.nD Cert.OutWeightGradRefIdeal.τ).loc Cert.OutWeightGradRefIdeal.main_arg0)
          ∧ r.2.mem ((c.tc : Thread Cert.OutWeightGradRefIdeal.nD Cert.OutWeightGradRefIdeal.τ).loc Cert.OutWeightGradRefIdeal.main_arg1) = m' ((c.tc : Thread Cert.OutWeightGradRefIdeal.nD Cert.OutWeightGradRefIdeal.τ).loc Cert.OutWeightGradRefIdeal.main_arg1))

def preserves_OutInputGrad_OutInputGradIdeal : Prop :=
  True

def algebraic_OutInputGradIdeal_OutInputGradRefIdeal [hOutInputGradIdeal : Cert.OutInputGradIdeal.Facts] [hOutInputGradRefIdeal : Cert.OutInputGradRefIdeal.Facts] : Prop :=
  ∀ (m : (ℓ : Loc Cert.OutInputGradIdeal.nD Cert.OutInputGradIdeal.τ Cert.OutInputGradIdeal.sig) → Buf (Elt Ideal) ℓ) (g : Dev Cert.OutInputGradIdeal.nD → PrngReg)
    (m' : (ℓ : Loc Cert.OutInputGradRefIdeal.nD Cert.OutInputGradRefIdeal.τ Cert.OutInputGradRefIdeal.sig) → Buf (Elt Ideal) ℓ) (g' : Dev Cert.OutInputGradRefIdeal.nD → PrngReg), Pre_OutInputGradIdeal m →
    (∀ c : Dev Cert.OutInputGradIdeal.nD,
      m' ((c.tc : Thread Cert.OutInputGradRefIdeal.nD Cert.OutInputGradRefIdeal.τ).loc Cert.OutInputGradRefIdeal.main_arg0) = m ((c.tc : Thread Cert.OutInputGradIdeal.nD Cert.OutInputGradIdeal.τ).loc Cert.OutInputGradIdeal.main_arg0)
      ∧ m' ((c.tc : Thread Cert.OutInputGradRefIdeal.nD Cert.OutInputGradRefIdeal.τ).loc Cert.OutInputGradRefIdeal.main_arg1) = m ((c.tc : Thread Cert.OutInputGradIdeal.nD Cert.OutInputGradIdeal.τ).loc Cert.OutInputGradIdeal.main_arg1)) →
    ∃ (v0 : (c : Dev Cert.OutInputGradIdeal.nD) → Buf (Elt Ideal) ((c.tc : Thread Cert.OutInputGradIdeal.nD Cert.OutInputGradIdeal.τ).loc Cert.OutInputGradIdeal.main_v0)),
      θ_run (Cert.OutInputGradIdeal.defs (F := Ideal)) (onTc (τ := Cert.OutInputGradIdeal.τ) (Cert.OutInputGradIdeal.main (F := Ideal))) ⟨m, fun _ => 0, g⟩ (fun r => ∀ c : Dev Cert.OutInputGradIdeal.nD,
          r.2.mem ((c.tc : Thread Cert.OutInputGradIdeal.nD Cert.OutInputGradIdeal.τ).loc Cert.OutInputGradIdeal.main_v0) = v0 c
          ∧ r.2.mem ((c.tc : Thread Cert.OutInputGradIdeal.nD Cert.OutInputGradIdeal.τ).loc Cert.OutInputGradIdeal.main_arg0) = m ((c.tc : Thread Cert.OutInputGradIdeal.nD Cert.OutInputGradIdeal.τ).loc Cert.OutInputGradIdeal.main_arg0)
          ∧ r.2.mem ((c.tc : Thread Cert.OutInputGradIdeal.nD Cert.OutInputGradIdeal.τ).loc Cert.OutInputGradIdeal.main_arg1) = m ((c.tc : Thread Cert.OutInputGradIdeal.nD Cert.OutInputGradIdeal.τ).loc Cert.OutInputGradIdeal.main_arg1))
      ∧ θ_run (Cert.OutInputGradRefIdeal.defs (F := Ideal)) (onTc (τ := Cert.OutInputGradRefIdeal.τ) (Cert.OutInputGradRefIdeal.main (F := Ideal))) ⟨m', fun _ => 0, g'⟩ (fun r => ∀ c : Dev Cert.OutInputGradRefIdeal.nD,
          r.2.mem ((c.tc : Thread Cert.OutInputGradRefIdeal.nD Cert.OutInputGradRefIdeal.τ).loc Cert.OutInputGradRefIdeal.main_v4) = v0 c
          ∧ r.2.mem ((c.tc : Thread Cert.OutInputGradRefIdeal.nD Cert.OutInputGradRefIdeal.τ).loc Cert.OutInputGradRefIdeal.main_arg0) = m' ((c.tc : Thread Cert.OutInputGradRefIdeal.nD Cert.OutInputGradRefIdeal.τ).loc Cert.OutInputGradRefIdeal.main_arg0)
          ∧ r.2.mem ((c.tc : Thread Cert.OutInputGradRefIdeal.nD Cert.OutInputGradRefIdeal.τ).loc Cert.OutInputGradRefIdeal.main_arg1) = m' ((c.tc : Thread Cert.OutInputGradRefIdeal.nD Cert.OutInputGradRefIdeal.τ).loc Cert.OutInputGradRefIdeal.main_arg1))

def preserves_FfnUpdate_FfnUpdateIdeal : Prop :=
  True

def algebraic_FfnUpdateIdeal_FfnUpdateRefIdeal [hFfnUpdateIdeal : Cert.FfnUpdateIdeal.Facts] [hFfnUpdateRefIdeal : Cert.FfnUpdateRefIdeal.Facts] : Prop :=
  ∀ (m : (ℓ : Loc Cert.FfnUpdateIdeal.nD Cert.FfnUpdateIdeal.τ Cert.FfnUpdateIdeal.sig) → Buf (Elt Ideal) ℓ) (g : Dev Cert.FfnUpdateIdeal.nD → PrngReg)
    (m' : (ℓ : Loc Cert.FfnUpdateRefIdeal.nD Cert.FfnUpdateRefIdeal.τ Cert.FfnUpdateRefIdeal.sig) → Buf (Elt Ideal) ℓ) (g' : Dev Cert.FfnUpdateRefIdeal.nD → PrngReg), Pre_FfnUpdateIdeal m →
    (∀ c : Dev Cert.FfnUpdateIdeal.nD,
      m' ((c.tc : Thread Cert.FfnUpdateRefIdeal.nD Cert.FfnUpdateRefIdeal.τ).loc Cert.FfnUpdateRefIdeal.main_arg0) = m ((c.tc : Thread Cert.FfnUpdateIdeal.nD Cert.FfnUpdateIdeal.τ).loc Cert.FfnUpdateIdeal.main_arg0)
      ∧ m' ((c.tc : Thread Cert.FfnUpdateRefIdeal.nD Cert.FfnUpdateRefIdeal.τ).loc Cert.FfnUpdateRefIdeal.main_arg1) = m ((c.tc : Thread Cert.FfnUpdateIdeal.nD Cert.FfnUpdateIdeal.τ).loc Cert.FfnUpdateIdeal.main_arg1)
      ∧ m' ((c.tc : Thread Cert.FfnUpdateRefIdeal.nD Cert.FfnUpdateRefIdeal.τ).loc Cert.FfnUpdateRefIdeal.main_arg2) = m ((c.tc : Thread Cert.FfnUpdateIdeal.nD Cert.FfnUpdateIdeal.τ).loc Cert.FfnUpdateIdeal.main_arg2)
      ∧ m' ((c.tc : Thread Cert.FfnUpdateRefIdeal.nD Cert.FfnUpdateRefIdeal.τ).loc Cert.FfnUpdateRefIdeal.main_arg3) = m ((c.tc : Thread Cert.FfnUpdateIdeal.nD Cert.FfnUpdateIdeal.τ).loc Cert.FfnUpdateIdeal.main_arg3)) →
    ∃ (v0 : (c : Dev Cert.FfnUpdateIdeal.nD) → Buf (Elt Ideal) ((c.tc : Thread Cert.FfnUpdateIdeal.nD Cert.FfnUpdateIdeal.τ).loc Cert.FfnUpdateIdeal.main_v0_0)) (v1 : (c : Dev Cert.FfnUpdateIdeal.nD) → Buf (Elt Ideal) ((c.tc : Thread Cert.FfnUpdateIdeal.nD Cert.FfnUpdateIdeal.τ).loc Cert.FfnUpdateIdeal.main_v0_1)) (v2 : (c : Dev Cert.FfnUpdateIdeal.nD) → Buf (Elt Ideal) ((c.tc : Thread Cert.FfnUpdateIdeal.nD Cert.FfnUpdateIdeal.τ).loc Cert.FfnUpdateIdeal.main_v0_2)) (v3 : (c : Dev Cert.FfnUpdateIdeal.nD) → Buf (Elt Ideal) ((c.tc : Thread Cert.FfnUpdateIdeal.nD Cert.FfnUpdateIdeal.τ).loc Cert.FfnUpdateIdeal.main_v0_3)),
      θ_run (Cert.FfnUpdateIdeal.defs (F := Ideal)) (onTc (τ := Cert.FfnUpdateIdeal.τ) (Cert.FfnUpdateIdeal.main (F := Ideal))) ⟨m, fun _ => 0, g⟩ (fun r => ∀ c : Dev Cert.FfnUpdateIdeal.nD,
          r.2.mem ((c.tc : Thread Cert.FfnUpdateIdeal.nD Cert.FfnUpdateIdeal.τ).loc Cert.FfnUpdateIdeal.main_v0_0) = v0 c
          ∧ r.2.mem ((c.tc : Thread Cert.FfnUpdateIdeal.nD Cert.FfnUpdateIdeal.τ).loc Cert.FfnUpdateIdeal.main_v0_1) = v1 c
          ∧ r.2.mem ((c.tc : Thread Cert.FfnUpdateIdeal.nD Cert.FfnUpdateIdeal.τ).loc Cert.FfnUpdateIdeal.main_v0_2) = v2 c
          ∧ r.2.mem ((c.tc : Thread Cert.FfnUpdateIdeal.nD Cert.FfnUpdateIdeal.τ).loc Cert.FfnUpdateIdeal.main_v0_3) = v3 c
          ∧ r.2.mem ((c.tc : Thread Cert.FfnUpdateIdeal.nD Cert.FfnUpdateIdeal.τ).loc Cert.FfnUpdateIdeal.main_arg0) = m ((c.tc : Thread Cert.FfnUpdateIdeal.nD Cert.FfnUpdateIdeal.τ).loc Cert.FfnUpdateIdeal.main_arg0)
          ∧ r.2.mem ((c.tc : Thread Cert.FfnUpdateIdeal.nD Cert.FfnUpdateIdeal.τ).loc Cert.FfnUpdateIdeal.main_arg1) = m ((c.tc : Thread Cert.FfnUpdateIdeal.nD Cert.FfnUpdateIdeal.τ).loc Cert.FfnUpdateIdeal.main_arg1)
          ∧ r.2.mem ((c.tc : Thread Cert.FfnUpdateIdeal.nD Cert.FfnUpdateIdeal.τ).loc Cert.FfnUpdateIdeal.main_arg2) = m ((c.tc : Thread Cert.FfnUpdateIdeal.nD Cert.FfnUpdateIdeal.τ).loc Cert.FfnUpdateIdeal.main_arg2)
          ∧ r.2.mem ((c.tc : Thread Cert.FfnUpdateIdeal.nD Cert.FfnUpdateIdeal.τ).loc Cert.FfnUpdateIdeal.main_arg3) = m ((c.tc : Thread Cert.FfnUpdateIdeal.nD Cert.FfnUpdateIdeal.τ).loc Cert.FfnUpdateIdeal.main_arg3))
      ∧ θ_run (Cert.FfnUpdateRefIdeal.defs (F := Ideal)) (onTc (τ := Cert.FfnUpdateRefIdeal.τ) (Cert.FfnUpdateRefIdeal.main (F := Ideal))) ⟨m', fun _ => 0, g'⟩ (fun r => ∀ c : Dev Cert.FfnUpdateRefIdeal.nD,
          r.2.mem ((c.tc : Thread Cert.FfnUpdateRefIdeal.nD Cert.FfnUpdateRefIdeal.τ).loc Cert.FfnUpdateRefIdeal.main_v1) = v0 c
          ∧ r.2.mem ((c.tc : Thread Cert.FfnUpdateRefIdeal.nD Cert.FfnUpdateRefIdeal.τ).loc Cert.FfnUpdateRefIdeal.main_v25) = v1 c
          ∧ r.2.mem ((c.tc : Thread Cert.FfnUpdateRefIdeal.nD Cert.FfnUpdateRefIdeal.τ).loc Cert.FfnUpdateRefIdeal.main_v6) = v2 c
          ∧ r.2.mem ((c.tc : Thread Cert.FfnUpdateRefIdeal.nD Cert.FfnUpdateRefIdeal.τ).loc Cert.FfnUpdateRefIdeal.main_v12) = v3 c
          ∧ r.2.mem ((c.tc : Thread Cert.FfnUpdateRefIdeal.nD Cert.FfnUpdateRefIdeal.τ).loc Cert.FfnUpdateRefIdeal.main_arg0) = m' ((c.tc : Thread Cert.FfnUpdateRefIdeal.nD Cert.FfnUpdateRefIdeal.τ).loc Cert.FfnUpdateRefIdeal.main_arg0)
          ∧ r.2.mem ((c.tc : Thread Cert.FfnUpdateRefIdeal.nD Cert.FfnUpdateRefIdeal.τ).loc Cert.FfnUpdateRefIdeal.main_arg1) = m' ((c.tc : Thread Cert.FfnUpdateRefIdeal.nD Cert.FfnUpdateRefIdeal.τ).loc Cert.FfnUpdateRefIdeal.main_arg1)
          ∧ r.2.mem ((c.tc : Thread Cert.FfnUpdateRefIdeal.nD Cert.FfnUpdateRefIdeal.τ).loc Cert.FfnUpdateRefIdeal.main_arg2) = m' ((c.tc : Thread Cert.FfnUpdateRefIdeal.nD Cert.FfnUpdateRefIdeal.τ).loc Cert.FfnUpdateRefIdeal.main_arg2)
          ∧ r.2.mem ((c.tc : Thread Cert.FfnUpdateRefIdeal.nD Cert.FfnUpdateRefIdeal.τ).loc Cert.FfnUpdateRefIdeal.main_arg3) = m' ((c.tc : Thread Cert.FfnUpdateRefIdeal.nD Cert.FfnUpdateRefIdeal.τ).loc Cert.FfnUpdateRefIdeal.main_arg3))

def preserves_OutUpdate_OutUpdateIdeal : Prop :=
  True

def algebraic_OutUpdateIdeal_OutUpdateRefIdeal [hOutUpdateIdeal : Cert.OutUpdateIdeal.Facts] [hOutUpdateRefIdeal : Cert.OutUpdateRefIdeal.Facts] : Prop :=
  ∀ (m : (ℓ : Loc Cert.OutUpdateIdeal.nD Cert.OutUpdateIdeal.τ Cert.OutUpdateIdeal.sig) → Buf (Elt Ideal) ℓ) (g : Dev Cert.OutUpdateIdeal.nD → PrngReg)
    (m' : (ℓ : Loc Cert.OutUpdateRefIdeal.nD Cert.OutUpdateRefIdeal.τ Cert.OutUpdateRefIdeal.sig) → Buf (Elt Ideal) ℓ) (g' : Dev Cert.OutUpdateRefIdeal.nD → PrngReg), Pre_OutUpdateIdeal m →
    (∀ c : Dev Cert.OutUpdateIdeal.nD,
      m' ((c.tc : Thread Cert.OutUpdateRefIdeal.nD Cert.OutUpdateRefIdeal.τ).loc Cert.OutUpdateRefIdeal.main_arg0) = m ((c.tc : Thread Cert.OutUpdateIdeal.nD Cert.OutUpdateIdeal.τ).loc Cert.OutUpdateIdeal.main_arg0)
      ∧ m' ((c.tc : Thread Cert.OutUpdateRefIdeal.nD Cert.OutUpdateRefIdeal.τ).loc Cert.OutUpdateRefIdeal.main_arg1) = m ((c.tc : Thread Cert.OutUpdateIdeal.nD Cert.OutUpdateIdeal.τ).loc Cert.OutUpdateIdeal.main_arg1)
      ∧ m' ((c.tc : Thread Cert.OutUpdateRefIdeal.nD Cert.OutUpdateRefIdeal.τ).loc Cert.OutUpdateRefIdeal.main_arg2) = m ((c.tc : Thread Cert.OutUpdateIdeal.nD Cert.OutUpdateIdeal.τ).loc Cert.OutUpdateIdeal.main_arg2)
      ∧ m' ((c.tc : Thread Cert.OutUpdateRefIdeal.nD Cert.OutUpdateRefIdeal.τ).loc Cert.OutUpdateRefIdeal.main_arg3) = m ((c.tc : Thread Cert.OutUpdateIdeal.nD Cert.OutUpdateIdeal.τ).loc Cert.OutUpdateIdeal.main_arg3)) →
    ∃ (v0 : (c : Dev Cert.OutUpdateIdeal.nD) → Buf (Elt Ideal) ((c.tc : Thread Cert.OutUpdateIdeal.nD Cert.OutUpdateIdeal.τ).loc Cert.OutUpdateIdeal.main_v0_0)) (v1 : (c : Dev Cert.OutUpdateIdeal.nD) → Buf (Elt Ideal) ((c.tc : Thread Cert.OutUpdateIdeal.nD Cert.OutUpdateIdeal.τ).loc Cert.OutUpdateIdeal.main_v0_1)) (v2 : (c : Dev Cert.OutUpdateIdeal.nD) → Buf (Elt Ideal) ((c.tc : Thread Cert.OutUpdateIdeal.nD Cert.OutUpdateIdeal.τ).loc Cert.OutUpdateIdeal.main_v0_2)) (v3 : (c : Dev Cert.OutUpdateIdeal.nD) → Buf (Elt Ideal) ((c.tc : Thread Cert.OutUpdateIdeal.nD Cert.OutUpdateIdeal.τ).loc Cert.OutUpdateIdeal.main_v0_3)),
      θ_run (Cert.OutUpdateIdeal.defs (F := Ideal)) (onTc (τ := Cert.OutUpdateIdeal.τ) (Cert.OutUpdateIdeal.main (F := Ideal))) ⟨m, fun _ => 0, g⟩ (fun r => ∀ c : Dev Cert.OutUpdateIdeal.nD,
          r.2.mem ((c.tc : Thread Cert.OutUpdateIdeal.nD Cert.OutUpdateIdeal.τ).loc Cert.OutUpdateIdeal.main_v0_0) = v0 c
          ∧ r.2.mem ((c.tc : Thread Cert.OutUpdateIdeal.nD Cert.OutUpdateIdeal.τ).loc Cert.OutUpdateIdeal.main_v0_1) = v1 c
          ∧ r.2.mem ((c.tc : Thread Cert.OutUpdateIdeal.nD Cert.OutUpdateIdeal.τ).loc Cert.OutUpdateIdeal.main_v0_2) = v2 c
          ∧ r.2.mem ((c.tc : Thread Cert.OutUpdateIdeal.nD Cert.OutUpdateIdeal.τ).loc Cert.OutUpdateIdeal.main_v0_3) = v3 c
          ∧ r.2.mem ((c.tc : Thread Cert.OutUpdateIdeal.nD Cert.OutUpdateIdeal.τ).loc Cert.OutUpdateIdeal.main_arg0) = m ((c.tc : Thread Cert.OutUpdateIdeal.nD Cert.OutUpdateIdeal.τ).loc Cert.OutUpdateIdeal.main_arg0)
          ∧ r.2.mem ((c.tc : Thread Cert.OutUpdateIdeal.nD Cert.OutUpdateIdeal.τ).loc Cert.OutUpdateIdeal.main_arg1) = m ((c.tc : Thread Cert.OutUpdateIdeal.nD Cert.OutUpdateIdeal.τ).loc Cert.OutUpdateIdeal.main_arg1)
          ∧ r.2.mem ((c.tc : Thread Cert.OutUpdateIdeal.nD Cert.OutUpdateIdeal.τ).loc Cert.OutUpdateIdeal.main_arg2) = m ((c.tc : Thread Cert.OutUpdateIdeal.nD Cert.OutUpdateIdeal.τ).loc Cert.OutUpdateIdeal.main_arg2)
          ∧ r.2.mem ((c.tc : Thread Cert.OutUpdateIdeal.nD Cert.OutUpdateIdeal.τ).loc Cert.OutUpdateIdeal.main_arg3) = m ((c.tc : Thread Cert.OutUpdateIdeal.nD Cert.OutUpdateIdeal.τ).loc Cert.OutUpdateIdeal.main_arg3))
      ∧ θ_run (Cert.OutUpdateRefIdeal.defs (F := Ideal)) (onTc (τ := Cert.OutUpdateRefIdeal.τ) (Cert.OutUpdateRefIdeal.main (F := Ideal))) ⟨m', fun _ => 0, g'⟩ (fun r => ∀ c : Dev Cert.OutUpdateRefIdeal.nD,
          r.2.mem ((c.tc : Thread Cert.OutUpdateRefIdeal.nD Cert.OutUpdateRefIdeal.τ).loc Cert.OutUpdateRefIdeal.main_v1) = v0 c
          ∧ r.2.mem ((c.tc : Thread Cert.OutUpdateRefIdeal.nD Cert.OutUpdateRefIdeal.τ).loc Cert.OutUpdateRefIdeal.main_v25) = v1 c
          ∧ r.2.mem ((c.tc : Thread Cert.OutUpdateRefIdeal.nD Cert.OutUpdateRefIdeal.τ).loc Cert.OutUpdateRefIdeal.main_v6) = v2 c
          ∧ r.2.mem ((c.tc : Thread Cert.OutUpdateRefIdeal.nD Cert.OutUpdateRefIdeal.τ).loc Cert.OutUpdateRefIdeal.main_v12) = v3 c
          ∧ r.2.mem ((c.tc : Thread Cert.OutUpdateRefIdeal.nD Cert.OutUpdateRefIdeal.τ).loc Cert.OutUpdateRefIdeal.main_arg0) = m' ((c.tc : Thread Cert.OutUpdateRefIdeal.nD Cert.OutUpdateRefIdeal.τ).loc Cert.OutUpdateRefIdeal.main_arg0)
          ∧ r.2.mem ((c.tc : Thread Cert.OutUpdateRefIdeal.nD Cert.OutUpdateRefIdeal.τ).loc Cert.OutUpdateRefIdeal.main_arg1) = m' ((c.tc : Thread Cert.OutUpdateRefIdeal.nD Cert.OutUpdateRefIdeal.τ).loc Cert.OutUpdateRefIdeal.main_arg1)
          ∧ r.2.mem ((c.tc : Thread Cert.OutUpdateRefIdeal.nD Cert.OutUpdateRefIdeal.τ).loc Cert.OutUpdateRefIdeal.main_arg2) = m' ((c.tc : Thread Cert.OutUpdateRefIdeal.nD Cert.OutUpdateRefIdeal.τ).loc Cert.OutUpdateRefIdeal.main_arg2)
          ∧ r.2.mem ((c.tc : Thread Cert.OutUpdateRefIdeal.nD Cert.OutUpdateRefIdeal.τ).loc Cert.OutUpdateRefIdeal.main_arg3) = m' ((c.tc : Thread Cert.OutUpdateRefIdeal.nD Cert.OutUpdateRefIdeal.τ).loc Cert.OutUpdateRefIdeal.main_arg3))

def preserves_InUpdate_InUpdateIdeal : Prop :=
  True

def algebraic_InUpdateIdeal_InUpdateRefIdeal [hInUpdateIdeal : Cert.InUpdateIdeal.Facts] [hInUpdateRefIdeal : Cert.InUpdateRefIdeal.Facts] : Prop :=
  ∀ (m : (ℓ : Loc Cert.InUpdateIdeal.nD Cert.InUpdateIdeal.τ Cert.InUpdateIdeal.sig) → Buf (Elt Ideal) ℓ) (g : Dev Cert.InUpdateIdeal.nD → PrngReg)
    (m' : (ℓ : Loc Cert.InUpdateRefIdeal.nD Cert.InUpdateRefIdeal.τ Cert.InUpdateRefIdeal.sig) → Buf (Elt Ideal) ℓ) (g' : Dev Cert.InUpdateRefIdeal.nD → PrngReg), Pre_InUpdateIdeal m →
    (∀ c : Dev Cert.InUpdateIdeal.nD,
      m' ((c.tc : Thread Cert.InUpdateRefIdeal.nD Cert.InUpdateRefIdeal.τ).loc Cert.InUpdateRefIdeal.main_arg0) = m ((c.tc : Thread Cert.InUpdateIdeal.nD Cert.InUpdateIdeal.τ).loc Cert.InUpdateIdeal.main_arg0)
      ∧ m' ((c.tc : Thread Cert.InUpdateRefIdeal.nD Cert.InUpdateRefIdeal.τ).loc Cert.InUpdateRefIdeal.main_arg1) = m ((c.tc : Thread Cert.InUpdateIdeal.nD Cert.InUpdateIdeal.τ).loc Cert.InUpdateIdeal.main_arg1)
      ∧ m' ((c.tc : Thread Cert.InUpdateRefIdeal.nD Cert.InUpdateRefIdeal.τ).loc Cert.InUpdateRefIdeal.main_arg2) = m ((c.tc : Thread Cert.InUpdateIdeal.nD Cert.InUpdateIdeal.τ).loc Cert.InUpdateIdeal.main_arg2)
      ∧ m' ((c.tc : Thread Cert.InUpdateRefIdeal.nD Cert.InUpdateRefIdeal.τ).loc Cert.InUpdateRefIdeal.main_arg3) = m ((c.tc : Thread Cert.InUpdateIdeal.nD Cert.InUpdateIdeal.τ).loc Cert.InUpdateIdeal.main_arg3)) →
    ∃ (v0 : (c : Dev Cert.InUpdateIdeal.nD) → Buf (Elt Ideal) ((c.tc : Thread Cert.InUpdateIdeal.nD Cert.InUpdateIdeal.τ).loc Cert.InUpdateIdeal.main_v0_0)) (v1 : (c : Dev Cert.InUpdateIdeal.nD) → Buf (Elt Ideal) ((c.tc : Thread Cert.InUpdateIdeal.nD Cert.InUpdateIdeal.τ).loc Cert.InUpdateIdeal.main_v0_1)) (v2 : (c : Dev Cert.InUpdateIdeal.nD) → Buf (Elt Ideal) ((c.tc : Thread Cert.InUpdateIdeal.nD Cert.InUpdateIdeal.τ).loc Cert.InUpdateIdeal.main_v0_2)) (v3 : (c : Dev Cert.InUpdateIdeal.nD) → Buf (Elt Ideal) ((c.tc : Thread Cert.InUpdateIdeal.nD Cert.InUpdateIdeal.τ).loc Cert.InUpdateIdeal.main_v0_3)),
      θ_run (Cert.InUpdateIdeal.defs (F := Ideal)) (onTc (τ := Cert.InUpdateIdeal.τ) (Cert.InUpdateIdeal.main (F := Ideal))) ⟨m, fun _ => 0, g⟩ (fun r => ∀ c : Dev Cert.InUpdateIdeal.nD,
          r.2.mem ((c.tc : Thread Cert.InUpdateIdeal.nD Cert.InUpdateIdeal.τ).loc Cert.InUpdateIdeal.main_v0_0) = v0 c
          ∧ r.2.mem ((c.tc : Thread Cert.InUpdateIdeal.nD Cert.InUpdateIdeal.τ).loc Cert.InUpdateIdeal.main_v0_1) = v1 c
          ∧ r.2.mem ((c.tc : Thread Cert.InUpdateIdeal.nD Cert.InUpdateIdeal.τ).loc Cert.InUpdateIdeal.main_v0_2) = v2 c
          ∧ r.2.mem ((c.tc : Thread Cert.InUpdateIdeal.nD Cert.InUpdateIdeal.τ).loc Cert.InUpdateIdeal.main_v0_3) = v3 c
          ∧ r.2.mem ((c.tc : Thread Cert.InUpdateIdeal.nD Cert.InUpdateIdeal.τ).loc Cert.InUpdateIdeal.main_arg0) = m ((c.tc : Thread Cert.InUpdateIdeal.nD Cert.InUpdateIdeal.τ).loc Cert.InUpdateIdeal.main_arg0)
          ∧ r.2.mem ((c.tc : Thread Cert.InUpdateIdeal.nD Cert.InUpdateIdeal.τ).loc Cert.InUpdateIdeal.main_arg1) = m ((c.tc : Thread Cert.InUpdateIdeal.nD Cert.InUpdateIdeal.τ).loc Cert.InUpdateIdeal.main_arg1)
          ∧ r.2.mem ((c.tc : Thread Cert.InUpdateIdeal.nD Cert.InUpdateIdeal.τ).loc Cert.InUpdateIdeal.main_arg2) = m ((c.tc : Thread Cert.InUpdateIdeal.nD Cert.InUpdateIdeal.τ).loc Cert.InUpdateIdeal.main_arg2)
          ∧ r.2.mem ((c.tc : Thread Cert.InUpdateIdeal.nD Cert.InUpdateIdeal.τ).loc Cert.InUpdateIdeal.main_arg3) = m ((c.tc : Thread Cert.InUpdateIdeal.nD Cert.InUpdateIdeal.τ).loc Cert.InUpdateIdeal.main_arg3))
      ∧ θ_run (Cert.InUpdateRefIdeal.defs (F := Ideal)) (onTc (τ := Cert.InUpdateRefIdeal.τ) (Cert.InUpdateRefIdeal.main (F := Ideal))) ⟨m', fun _ => 0, g'⟩ (fun r => ∀ c : Dev Cert.InUpdateRefIdeal.nD,
          r.2.mem ((c.tc : Thread Cert.InUpdateRefIdeal.nD Cert.InUpdateRefIdeal.τ).loc Cert.InUpdateRefIdeal.main_v1) = v0 c
          ∧ r.2.mem ((c.tc : Thread Cert.InUpdateRefIdeal.nD Cert.InUpdateRefIdeal.τ).loc Cert.InUpdateRefIdeal.main_v25) = v1 c
          ∧ r.2.mem ((c.tc : Thread Cert.InUpdateRefIdeal.nD Cert.InUpdateRefIdeal.τ).loc Cert.InUpdateRefIdeal.main_v6) = v2 c
          ∧ r.2.mem ((c.tc : Thread Cert.InUpdateRefIdeal.nD Cert.InUpdateRefIdeal.τ).loc Cert.InUpdateRefIdeal.main_v12) = v3 c
          ∧ r.2.mem ((c.tc : Thread Cert.InUpdateRefIdeal.nD Cert.InUpdateRefIdeal.τ).loc Cert.InUpdateRefIdeal.main_arg0) = m' ((c.tc : Thread Cert.InUpdateRefIdeal.nD Cert.InUpdateRefIdeal.τ).loc Cert.InUpdateRefIdeal.main_arg0)
          ∧ r.2.mem ((c.tc : Thread Cert.InUpdateRefIdeal.nD Cert.InUpdateRefIdeal.τ).loc Cert.InUpdateRefIdeal.main_arg1) = m' ((c.tc : Thread Cert.InUpdateRefIdeal.nD Cert.InUpdateRefIdeal.τ).loc Cert.InUpdateRefIdeal.main_arg1)
          ∧ r.2.mem ((c.tc : Thread Cert.InUpdateRefIdeal.nD Cert.InUpdateRefIdeal.τ).loc Cert.InUpdateRefIdeal.main_arg2) = m' ((c.tc : Thread Cert.InUpdateRefIdeal.nD Cert.InUpdateRefIdeal.τ).loc Cert.InUpdateRefIdeal.main_arg2)
          ∧ r.2.mem ((c.tc : Thread Cert.InUpdateRefIdeal.nD Cert.InUpdateRefIdeal.τ).loc Cert.InUpdateRefIdeal.main_arg3) = m' ((c.tc : Thread Cert.InUpdateRefIdeal.nD Cert.InUpdateRefIdeal.τ).loc Cert.InUpdateRefIdeal.main_arg3))

def preserves_GainUpdate_GainUpdateIdeal : Prop :=
  True

def algebraic_GainUpdateIdeal_GainUpdateRefIdeal [hGainUpdateIdeal : Cert.GainUpdateIdeal.Facts] [hGainUpdateRefIdeal : Cert.GainUpdateRefIdeal.Facts] : Prop :=
  ∀ (m : (ℓ : Loc Cert.GainUpdateIdeal.nD Cert.GainUpdateIdeal.τ Cert.GainUpdateIdeal.sig) → Buf (Elt Ideal) ℓ) (g : Dev Cert.GainUpdateIdeal.nD → PrngReg)
    (m' : (ℓ : Loc Cert.GainUpdateRefIdeal.nD Cert.GainUpdateRefIdeal.τ Cert.GainUpdateRefIdeal.sig) → Buf (Elt Ideal) ℓ) (g' : Dev Cert.GainUpdateRefIdeal.nD → PrngReg), Pre_GainUpdateIdeal m →
    (∀ c : Dev Cert.GainUpdateIdeal.nD,
      m' ((c.tc : Thread Cert.GainUpdateRefIdeal.nD Cert.GainUpdateRefIdeal.τ).loc Cert.GainUpdateRefIdeal.main_arg0) = m ((c.tc : Thread Cert.GainUpdateIdeal.nD Cert.GainUpdateIdeal.τ).loc Cert.GainUpdateIdeal.main_arg0)
      ∧ m' ((c.tc : Thread Cert.GainUpdateRefIdeal.nD Cert.GainUpdateRefIdeal.τ).loc Cert.GainUpdateRefIdeal.main_arg1) = m ((c.tc : Thread Cert.GainUpdateIdeal.nD Cert.GainUpdateIdeal.τ).loc Cert.GainUpdateIdeal.main_arg1)
      ∧ m' ((c.tc : Thread Cert.GainUpdateRefIdeal.nD Cert.GainUpdateRefIdeal.τ).loc Cert.GainUpdateRefIdeal.main_arg2) = m ((c.tc : Thread Cert.GainUpdateIdeal.nD Cert.GainUpdateIdeal.τ).loc Cert.GainUpdateIdeal.main_arg2)
      ∧ m' ((c.tc : Thread Cert.GainUpdateRefIdeal.nD Cert.GainUpdateRefIdeal.τ).loc Cert.GainUpdateRefIdeal.main_arg3) = m ((c.tc : Thread Cert.GainUpdateIdeal.nD Cert.GainUpdateIdeal.τ).loc Cert.GainUpdateIdeal.main_arg3)) →
    ∃ (v0 : (c : Dev Cert.GainUpdateIdeal.nD) → Buf (Elt Ideal) ((c.tc : Thread Cert.GainUpdateIdeal.nD Cert.GainUpdateIdeal.τ).loc Cert.GainUpdateIdeal.main_v0_0)) (v1 : (c : Dev Cert.GainUpdateIdeal.nD) → Buf (Elt Ideal) ((c.tc : Thread Cert.GainUpdateIdeal.nD Cert.GainUpdateIdeal.τ).loc Cert.GainUpdateIdeal.main_v0_1)) (v2 : (c : Dev Cert.GainUpdateIdeal.nD) → Buf (Elt Ideal) ((c.tc : Thread Cert.GainUpdateIdeal.nD Cert.GainUpdateIdeal.τ).loc Cert.GainUpdateIdeal.main_v0_2)) (v3 : (c : Dev Cert.GainUpdateIdeal.nD) → Buf (Elt Ideal) ((c.tc : Thread Cert.GainUpdateIdeal.nD Cert.GainUpdateIdeal.τ).loc Cert.GainUpdateIdeal.main_v0_3)),
      θ_run (Cert.GainUpdateIdeal.defs (F := Ideal)) (onTc (τ := Cert.GainUpdateIdeal.τ) (Cert.GainUpdateIdeal.main (F := Ideal))) ⟨m, fun _ => 0, g⟩ (fun r => ∀ c : Dev Cert.GainUpdateIdeal.nD,
          r.2.mem ((c.tc : Thread Cert.GainUpdateIdeal.nD Cert.GainUpdateIdeal.τ).loc Cert.GainUpdateIdeal.main_v0_0) = v0 c
          ∧ r.2.mem ((c.tc : Thread Cert.GainUpdateIdeal.nD Cert.GainUpdateIdeal.τ).loc Cert.GainUpdateIdeal.main_v0_1) = v1 c
          ∧ r.2.mem ((c.tc : Thread Cert.GainUpdateIdeal.nD Cert.GainUpdateIdeal.τ).loc Cert.GainUpdateIdeal.main_v0_2) = v2 c
          ∧ r.2.mem ((c.tc : Thread Cert.GainUpdateIdeal.nD Cert.GainUpdateIdeal.τ).loc Cert.GainUpdateIdeal.main_v0_3) = v3 c
          ∧ r.2.mem ((c.tc : Thread Cert.GainUpdateIdeal.nD Cert.GainUpdateIdeal.τ).loc Cert.GainUpdateIdeal.main_arg0) = m ((c.tc : Thread Cert.GainUpdateIdeal.nD Cert.GainUpdateIdeal.τ).loc Cert.GainUpdateIdeal.main_arg0)
          ∧ r.2.mem ((c.tc : Thread Cert.GainUpdateIdeal.nD Cert.GainUpdateIdeal.τ).loc Cert.GainUpdateIdeal.main_arg1) = m ((c.tc : Thread Cert.GainUpdateIdeal.nD Cert.GainUpdateIdeal.τ).loc Cert.GainUpdateIdeal.main_arg1)
          ∧ r.2.mem ((c.tc : Thread Cert.GainUpdateIdeal.nD Cert.GainUpdateIdeal.τ).loc Cert.GainUpdateIdeal.main_arg2) = m ((c.tc : Thread Cert.GainUpdateIdeal.nD Cert.GainUpdateIdeal.τ).loc Cert.GainUpdateIdeal.main_arg2)
          ∧ r.2.mem ((c.tc : Thread Cert.GainUpdateIdeal.nD Cert.GainUpdateIdeal.τ).loc Cert.GainUpdateIdeal.main_arg3) = m ((c.tc : Thread Cert.GainUpdateIdeal.nD Cert.GainUpdateIdeal.τ).loc Cert.GainUpdateIdeal.main_arg3))
      ∧ θ_run (Cert.GainUpdateRefIdeal.defs (F := Ideal)) (onTc (τ := Cert.GainUpdateRefIdeal.τ) (Cert.GainUpdateRefIdeal.main (F := Ideal))) ⟨m', fun _ => 0, g'⟩ (fun r => ∀ c : Dev Cert.GainUpdateRefIdeal.nD,
          r.2.mem ((c.tc : Thread Cert.GainUpdateRefIdeal.nD Cert.GainUpdateRefIdeal.τ).loc Cert.GainUpdateRefIdeal.main_v0) = v0 c
          ∧ r.2.mem ((c.tc : Thread Cert.GainUpdateRefIdeal.nD Cert.GainUpdateRefIdeal.τ).loc Cert.GainUpdateRefIdeal.main_v24) = v1 c
          ∧ r.2.mem ((c.tc : Thread Cert.GainUpdateRefIdeal.nD Cert.GainUpdateRefIdeal.τ).loc Cert.GainUpdateRefIdeal.main_v5) = v2 c
          ∧ r.2.mem ((c.tc : Thread Cert.GainUpdateRefIdeal.nD Cert.GainUpdateRefIdeal.τ).loc Cert.GainUpdateRefIdeal.main_v11) = v3 c
          ∧ r.2.mem ((c.tc : Thread Cert.GainUpdateRefIdeal.nD Cert.GainUpdateRefIdeal.τ).loc Cert.GainUpdateRefIdeal.main_arg0) = m' ((c.tc : Thread Cert.GainUpdateRefIdeal.nD Cert.GainUpdateRefIdeal.τ).loc Cert.GainUpdateRefIdeal.main_arg0)
          ∧ r.2.mem ((c.tc : Thread Cert.GainUpdateRefIdeal.nD Cert.GainUpdateRefIdeal.τ).loc Cert.GainUpdateRefIdeal.main_arg1) = m' ((c.tc : Thread Cert.GainUpdateRefIdeal.nD Cert.GainUpdateRefIdeal.τ).loc Cert.GainUpdateRefIdeal.main_arg1)
          ∧ r.2.mem ((c.tc : Thread Cert.GainUpdateRefIdeal.nD Cert.GainUpdateRefIdeal.τ).loc Cert.GainUpdateRefIdeal.main_arg2) = m' ((c.tc : Thread Cert.GainUpdateRefIdeal.nD Cert.GainUpdateRefIdeal.τ).loc Cert.GainUpdateRefIdeal.main_arg2)
          ∧ r.2.mem ((c.tc : Thread Cert.GainUpdateRefIdeal.nD Cert.GainUpdateRefIdeal.τ).loc Cert.GainUpdateRefIdeal.main_arg3) = m' ((c.tc : Thread Cert.GainUpdateRefIdeal.nD Cert.GainUpdateRefIdeal.τ).loc Cert.GainUpdateRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormGrad_NormGradIdeal : Prop :=
  True

def algebraic_NormGradIdeal_NormGradRefIdeal [hNormGradIdeal : Cert.NormGradIdeal.Facts] [hNormGradRefIdeal : Cert.NormGradRefIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradRefIdeal.nD Cert.NormGradRefIdeal.τ Cert.NormGradRefIdeal.sig) → Buf (Elt Ideal) ℓ) (g' : Dev Cert.NormGradRefIdeal.nD → PrngReg), Pre_NormGradIdeal m →
    (∀ c : Dev Cert.NormGradIdeal.nD,
      m' ((c.tc : Thread Cert.NormGradRefIdeal.nD Cert.NormGradRefIdeal.τ).loc Cert.NormGradRefIdeal.main_arg0) = m ((c.tc : Thread Cert.NormGradIdeal.nD Cert.NormGradIdeal.τ).loc Cert.NormGradIdeal.main_arg0)
      ∧ m' ((c.tc : Thread Cert.NormGradRefIdeal.nD Cert.NormGradRefIdeal.τ).loc Cert.NormGradRefIdeal.main_arg1) = m ((c.tc : Thread Cert.NormGradIdeal.nD Cert.NormGradIdeal.τ).loc Cert.NormGradIdeal.main_arg1)
      ∧ m' ((c.tc : Thread Cert.NormGradRefIdeal.nD Cert.NormGradRefIdeal.τ).loc Cert.NormGradRefIdeal.main_arg2) = m ((c.tc : Thread Cert.NormGradIdeal.nD Cert.NormGradIdeal.τ).loc Cert.NormGradIdeal.main_arg2)
      ∧ m' ((c.tc : Thread Cert.NormGradRefIdeal.nD Cert.NormGradRefIdeal.τ).loc Cert.NormGradRefIdeal.main_arg3) = m ((c.tc : Thread Cert.NormGradIdeal.nD Cert.NormGradIdeal.τ).loc Cert.NormGradIdeal.main_arg3)) →
    ∃ (v0 : (c : Dev Cert.NormGradIdeal.nD) → Buf (Elt Ideal) ((c.tc : Thread Cert.NormGradIdeal.nD Cert.NormGradIdeal.τ).loc Cert.NormGradIdeal.main_v0_0)) (v1 : (c : Dev Cert.NormGradIdeal.nD) → Buf (Elt Ideal) ((c.tc : Thread Cert.NormGradIdeal.nD Cert.NormGradIdeal.τ).loc Cert.NormGradIdeal.main_v0_1)) (v2 : (c : Dev Cert.NormGradIdeal.nD) → Buf (Elt Ideal) ((c.tc : Thread Cert.NormGradIdeal.nD Cert.NormGradIdeal.τ).loc Cert.NormGradIdeal.main_v0_2)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v0_0) = v0 c
          ∧ r.2.mem ((c.tc : Thread Cert.NormGradIdeal.nD Cert.NormGradIdeal.τ).loc Cert.NormGradIdeal.main_v0_1) = v1 c
          ∧ r.2.mem ((c.tc : Thread Cert.NormGradIdeal.nD Cert.NormGradIdeal.τ).loc Cert.NormGradIdeal.main_v0_2) = v2 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ θ_run (Cert.NormGradRefIdeal.defs (F := Ideal)) (onTc (τ := Cert.NormGradRefIdeal.τ) (Cert.NormGradRefIdeal.main (F := Ideal))) ⟨m', fun _ => 0, g'⟩ (fun r => ∀ c : Dev Cert.NormGradRefIdeal.nD,
          r.2.mem ((c.tc : Thread Cert.NormGradRefIdeal.nD Cert.NormGradRefIdeal.τ).loc Cert.NormGradRefIdeal.main_v34) = v0 c
          ∧ r.2.mem ((c.tc : Thread Cert.NormGradRefIdeal.nD Cert.NormGradRefIdeal.τ).loc Cert.NormGradRefIdeal.main_v35) = v1 c
          ∧ r.2.mem ((c.tc : Thread Cert.NormGradRefIdeal.nD Cert.NormGradRefIdeal.τ).loc Cert.NormGradRefIdeal.main_v17) = v2 c
          ∧ r.2.mem ((c.tc : Thread Cert.NormGradRefIdeal.nD Cert.NormGradRefIdeal.τ).loc Cert.NormGradRefIdeal.main_arg0) = m' ((c.tc : Thread Cert.NormGradRefIdeal.nD Cert.NormGradRefIdeal.τ).loc Cert.NormGradRefIdeal.main_arg0)
          ∧ r.2.mem ((c.tc : Thread Cert.NormGradRefIdeal.nD Cert.NormGradRefIdeal.τ).loc Cert.NormGradRefIdeal.main_arg1) = m' ((c.tc : Thread Cert.NormGradRefIdeal.nD Cert.NormGradRefIdeal.τ).loc Cert.NormGradRefIdeal.main_arg1)
          ∧ r.2.mem ((c.tc : Thread Cert.NormGradRefIdeal.nD Cert.NormGradRefIdeal.τ).loc Cert.NormGradRefIdeal.main_arg2) = m' ((c.tc : Thread Cert.NormGradRefIdeal.nD Cert.NormGradRefIdeal.τ).loc Cert.NormGradRefIdeal.main_arg2)
          ∧ r.2.mem ((c.tc : Thread Cert.NormGradRefIdeal.nD Cert.NormGradRefIdeal.τ).loc Cert.NormGradRefIdeal.main_arg3) = m' ((c.tc : Thread Cert.NormGradRefIdeal.nD Cert.NormGradRefIdeal.τ).loc Cert.NormGradRefIdeal.main_arg3))

def preserves_LossGrad_LossGradIdeal : Prop :=
  True

def algebraic_LossGradIdeal_LossGradRefIdeal [hLossGradIdeal : Cert.LossGradIdeal.Facts] [hLossGradRefIdeal : Cert.LossGradRefIdeal.Facts] : Prop :=
  ∀ (m : (ℓ : Loc Cert.LossGradIdeal.nD Cert.LossGradIdeal.τ Cert.LossGradIdeal.sig) → Buf (Elt Ideal) ℓ) (g : Dev Cert.LossGradIdeal.nD → PrngReg)
    (m' : (ℓ : Loc Cert.LossGradRefIdeal.nD Cert.LossGradRefIdeal.τ Cert.LossGradRefIdeal.sig) → Buf (Elt Ideal) ℓ) (g' : Dev Cert.LossGradRefIdeal.nD → PrngReg), Pre_LossGradIdeal m →
    (∀ c : Dev Cert.LossGradIdeal.nD,
      m' ((c.tc : Thread Cert.LossGradRefIdeal.nD Cert.LossGradRefIdeal.τ).loc Cert.LossGradRefIdeal.main_arg0) = m ((c.tc : Thread Cert.LossGradIdeal.nD Cert.LossGradIdeal.τ).loc Cert.LossGradIdeal.main_arg0)
      ∧ m' ((c.tc : Thread Cert.LossGradRefIdeal.nD Cert.LossGradRefIdeal.τ).loc Cert.LossGradRefIdeal.main_arg1) = m ((c.tc : Thread Cert.LossGradIdeal.nD Cert.LossGradIdeal.τ).loc Cert.LossGradIdeal.main_arg1)
      ∧ m' ((c.tc : Thread Cert.LossGradRefIdeal.nD Cert.LossGradRefIdeal.τ).loc Cert.LossGradRefIdeal.main_arg2) = m ((c.tc : Thread Cert.LossGradIdeal.nD Cert.LossGradIdeal.τ).loc Cert.LossGradIdeal.main_arg2)) →
    ∃ (v0 : (c : Dev Cert.LossGradIdeal.nD) → Buf (Elt Ideal) ((c.tc : Thread Cert.LossGradIdeal.nD Cert.LossGradIdeal.τ).loc Cert.LossGradIdeal.main_v0_0)) (v1 : (c : Dev Cert.LossGradIdeal.nD) → Buf (Elt Ideal) ((c.tc : Thread Cert.LossGradIdeal.nD Cert.LossGradIdeal.τ).loc Cert.LossGradIdeal.main_v0_1)) (v2 : (c : Dev Cert.LossGradIdeal.nD) → Buf (Elt Ideal) ((c.tc : Thread Cert.LossGradIdeal.nD Cert.LossGradIdeal.τ).loc Cert.LossGradIdeal.main_v0_2)) (v3 : (c : Dev Cert.LossGradIdeal.nD) → Buf (Elt Ideal) ((c.tc : Thread Cert.LossGradIdeal.nD Cert.LossGradIdeal.τ).loc Cert.LossGradIdeal.main_v0_3)),
      θ_run (Cert.LossGradIdeal.defs (F := Ideal)) (onTc (τ := Cert.LossGradIdeal.τ) (Cert.LossGradIdeal.main (F := Ideal))) ⟨m, fun _ => 0, g⟩ (fun r => ∀ c : Dev Cert.LossGradIdeal.nD,
          r.2.mem ((c.tc : Thread Cert.LossGradIdeal.nD Cert.LossGradIdeal.τ).loc Cert.LossGradIdeal.main_v0_0) = v0 c
          ∧ r.2.mem ((c.tc : Thread Cert.LossGradIdeal.nD Cert.LossGradIdeal.τ).loc Cert.LossGradIdeal.main_v0_1) = v1 c
          ∧ r.2.mem ((c.tc : Thread Cert.LossGradIdeal.nD Cert.LossGradIdeal.τ).loc Cert.LossGradIdeal.main_v0_2) = v2 c
          ∧ r.2.mem ((c.tc : Thread Cert.LossGradIdeal.nD Cert.LossGradIdeal.τ).loc Cert.LossGradIdeal.main_v0_3) = v3 c
          ∧ r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
          ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2))
      ∧ θ_run (Cert.LossGradRefIdeal.defs (F := Ideal)) (onTc (τ := Cert.LossGradRefIdeal.τ) (Cert.LossGradRefIdeal.main (F := Ideal))) ⟨m', fun _ => 0, g'⟩ (fun r => ∀ c : Dev Cert.LossGradRefIdeal.nD,
          r.2.mem ((c.tc : Thread Cert.LossGradRefIdeal.nD Cert.LossGradRefIdeal.τ).loc Cert.LossGradRefIdeal.main_v48) = v0 c
          ∧ r.2.mem ((c.tc : Thread Cert.LossGradRefIdeal.nD Cert.LossGradRefIdeal.τ).loc Cert.LossGradRefIdeal.main_v49) = v1 c
          ∧ r.2.mem ((c.tc : Thread Cert.LossGradRefIdeal.nD Cert.LossGradRefIdeal.τ).loc Cert.LossGradRefIdeal.main_v32) = v2 c
          ∧ r.2.mem ((c.tc : Thread Cert.LossGradRefIdeal.nD Cert.LossGradRefIdeal.τ).loc Cert.LossGradRefIdeal.main_v50) = v3 c
          ∧ r.2.mem ((c.tc : Thread Cert.LossGradRefIdeal.nD Cert.LossGradRefIdeal.τ).loc Cert.LossGradRefIdeal.main_arg0) = m' ((c.tc : Thread Cert.LossGradRefIdeal.nD Cert.LossGradRefIdeal.τ).loc Cert.LossGradRefIdeal.main_arg0)
          ∧ r.2.mem ((c.tc : Thread Cert.LossGradRefIdeal.nD Cert.LossGradRefIdeal.τ).loc Cert.LossGradRefIdeal.main_arg1) = m' ((c.tc : Thread Cert.LossGradRefIdeal.nD Cert.LossGradRefIdeal.τ).loc Cert.LossGradRefIdeal.main_arg1)
          ∧ r.2.mem ((c.tc : Thread Cert.LossGradRefIdeal.nD Cert.LossGradRefIdeal.τ).loc Cert.LossGradRefIdeal.main_arg2) = m' ((c.tc : Thread Cert.LossGradRefIdeal.nD Cert.LossGradRefIdeal.τ).loc Cert.LossGradRefIdeal.main_arg2))

def preserves_GateProj_GateProjIdeal : Prop :=
  True

def algebraic_GateProjIdeal_GateProjRefIdeal [hGateProjIdeal : Cert.GateProjIdeal.Facts] [hGateProjRefIdeal : Cert.GateProjRefIdeal.Facts] : Prop :=
  ∀ (m : (ℓ : Loc Cert.GateProjIdeal.nD Cert.GateProjIdeal.τ Cert.GateProjIdeal.sig) → Buf (Elt Ideal) ℓ) (g : Dev Cert.GateProjIdeal.nD → PrngReg)
    (m' : (ℓ : Loc Cert.GateProjRefIdeal.nD Cert.GateProjRefIdeal.τ Cert.GateProjRefIdeal.sig) → Buf (Elt Ideal) ℓ) (g' : Dev Cert.GateProjRefIdeal.nD → PrngReg), Pre_GateProjIdeal m →
    (∀ c : Dev Cert.GateProjIdeal.nD,
      m' ((c.tc : Thread Cert.GateProjRefIdeal.nD Cert.GateProjRefIdeal.τ).loc Cert.GateProjRefIdeal.main_arg0) = m ((c.tc : Thread Cert.GateProjIdeal.nD Cert.GateProjIdeal.τ).loc Cert.GateProjIdeal.main_arg0)
      ∧ m' ((c.tc : Thread Cert.GateProjRefIdeal.nD Cert.GateProjRefIdeal.τ).loc Cert.GateProjRefIdeal.main_arg1) = m ((c.tc : Thread Cert.GateProjIdeal.nD Cert.GateProjIdeal.τ).loc Cert.GateProjIdeal.main_arg1)) →
    ∃ (v0 : (c : Dev Cert.GateProjIdeal.nD) → Buf (Elt Ideal) ((c.tc : Thread Cert.GateProjIdeal.nD Cert.GateProjIdeal.τ).loc Cert.GateProjIdeal.main_v2)),
      θ_run (Cert.GateProjIdeal.defs (F := Ideal)) (onTc (τ := Cert.GateProjIdeal.τ) (Cert.GateProjIdeal.main (F := Ideal))) ⟨m, fun _ => 0, g⟩ (fun r => ∀ c : Dev Cert.GateProjIdeal.nD,
          r.2.mem ((c.tc : Thread Cert.GateProjIdeal.nD Cert.GateProjIdeal.τ).loc Cert.GateProjIdeal.main_v2) = v0 c
          ∧ r.2.mem ((c.tc : Thread Cert.GateProjIdeal.nD Cert.GateProjIdeal.τ).loc Cert.GateProjIdeal.main_arg0) = m ((c.tc : Thread Cert.GateProjIdeal.nD Cert.GateProjIdeal.τ).loc Cert.GateProjIdeal.main_arg0)
          ∧ r.2.mem ((c.tc : Thread Cert.GateProjIdeal.nD Cert.GateProjIdeal.τ).loc Cert.GateProjIdeal.main_arg1) = m ((c.tc : Thread Cert.GateProjIdeal.nD Cert.GateProjIdeal.τ).loc Cert.GateProjIdeal.main_arg1))
      ∧ θ_run (Cert.GateProjRefIdeal.defs (F := Ideal)) (onTc (τ := Cert.GateProjRefIdeal.τ) (Cert.GateProjRefIdeal.main (F := Ideal))) ⟨m', fun _ => 0, g'⟩ (fun r => ∀ c : Dev Cert.GateProjRefIdeal.nD,
          r.2.mem ((c.tc : Thread Cert.GateProjRefIdeal.nD Cert.GateProjRefIdeal.τ).loc Cert.GateProjRefIdeal.main_v5) = v0 c
          ∧ r.2.mem ((c.tc : Thread Cert.GateProjRefIdeal.nD Cert.GateProjRefIdeal.τ).loc Cert.GateProjRefIdeal.main_arg0) = m' ((c.tc : Thread Cert.GateProjRefIdeal.nD Cert.GateProjRefIdeal.τ).loc Cert.GateProjRefIdeal.main_arg0)
          ∧ r.2.mem ((c.tc : Thread Cert.GateProjRefIdeal.nD Cert.GateProjRefIdeal.τ).loc Cert.GateProjRefIdeal.main_arg1) = m' ((c.tc : Thread Cert.GateProjRefIdeal.nD Cert.GateProjRefIdeal.τ).loc Cert.GateProjRefIdeal.main_arg1))

def preserves_UpAct_UpActIdeal : Prop :=
  True

def algebraic_UpActIdeal_UpActRefIdeal [hUpActIdeal : Cert.UpActIdeal.Facts] [hUpActRefIdeal : Cert.UpActRefIdeal.Facts] : Prop :=
  ∀ (m : (ℓ : Loc Cert.UpActIdeal.nD Cert.UpActIdeal.τ Cert.UpActIdeal.sig) → Buf (Elt Ideal) ℓ) (g : Dev Cert.UpActIdeal.nD → PrngReg)
    (m' : (ℓ : Loc Cert.UpActRefIdeal.nD Cert.UpActRefIdeal.τ Cert.UpActRefIdeal.sig) → Buf (Elt Ideal) ℓ) (g' : Dev Cert.UpActRefIdeal.nD → PrngReg), Pre_UpActIdeal m →
    (∀ c : Dev Cert.UpActIdeal.nD,
      m' ((c.tc : Thread Cert.UpActRefIdeal.nD Cert.UpActRefIdeal.τ).loc Cert.UpActRefIdeal.main_arg0) = m ((c.tc : Thread Cert.UpActIdeal.nD Cert.UpActIdeal.τ).loc Cert.UpActIdeal.main_arg0)
      ∧ m' ((c.tc : Thread Cert.UpActRefIdeal.nD Cert.UpActRefIdeal.τ).loc Cert.UpActRefIdeal.main_arg1) = m ((c.tc : Thread Cert.UpActIdeal.nD Cert.UpActIdeal.τ).loc Cert.UpActIdeal.main_arg1)
      ∧ m' ((c.tc : Thread Cert.UpActRefIdeal.nD Cert.UpActRefIdeal.τ).loc Cert.UpActRefIdeal.main_arg2) = m ((c.tc : Thread Cert.UpActIdeal.nD Cert.UpActIdeal.τ).loc Cert.UpActIdeal.main_arg2)) →
    ∃ (v0 : (c : Dev Cert.UpActIdeal.nD) → Buf (Elt Ideal) ((c.tc : Thread Cert.UpActIdeal.nD Cert.UpActIdeal.τ).loc Cert.UpActIdeal.main_v4_0)) (v1 : (c : Dev Cert.UpActIdeal.nD) → Buf (Elt Ideal) ((c.tc : Thread Cert.UpActIdeal.nD Cert.UpActIdeal.τ).loc Cert.UpActIdeal.main_v4_1)),
      θ_run (Cert.UpActIdeal.defs (F := Ideal)) (onTc (τ := Cert.UpActIdeal.τ) (Cert.UpActIdeal.main (F := Ideal))) ⟨m, fun _ => 0, g⟩ (fun r => ∀ c : Dev Cert.UpActIdeal.nD,
          r.2.mem ((c.tc : Thread Cert.UpActIdeal.nD Cert.UpActIdeal.τ).loc Cert.UpActIdeal.main_v4_0) = v0 c
          ∧ r.2.mem ((c.tc : Thread Cert.UpActIdeal.nD Cert.UpActIdeal.τ).loc Cert.UpActIdeal.main_v4_1) = v1 c
          ∧ r.2.mem ((c.tc : Thread Cert.UpActIdeal.nD Cert.UpActIdeal.τ).loc Cert.UpActIdeal.main_arg0) = m ((c.tc : Thread Cert.UpActIdeal.nD Cert.UpActIdeal.τ).loc Cert.UpActIdeal.main_arg0)
          ∧ r.2.mem ((c.tc : Thread Cert.UpActIdeal.nD Cert.UpActIdeal.τ).loc Cert.UpActIdeal.main_arg1) = m ((c.tc : Thread Cert.UpActIdeal.nD Cert.UpActIdeal.τ).loc Cert.UpActIdeal.main_arg1)
          ∧ r.2.mem ((c.tc : Thread Cert.UpActIdeal.nD Cert.UpActIdeal.τ).loc Cert.UpActIdeal.main_arg2) = m ((c.tc : Thread Cert.UpActIdeal.nD Cert.UpActIdeal.τ).loc Cert.UpActIdeal.main_arg2))
      ∧ θ_run (Cert.UpActRefIdeal.defs (F := Ideal)) (onTc (τ := Cert.UpActRefIdeal.τ) (Cert.UpActRefIdeal.main (F := Ideal))) ⟨m', fun _ => 0, g'⟩ (fun r => ∀ c : Dev Cert.UpActRefIdeal.nD,
          r.2.mem ((c.tc : Thread Cert.UpActRefIdeal.nD Cert.UpActRefIdeal.τ).loc Cert.UpActRefIdeal.main_v8) = v0 c
          ∧ r.2.mem ((c.tc : Thread Cert.UpActRefIdeal.nD Cert.UpActRefIdeal.τ).loc Cert.UpActRefIdeal.main_v11) = v1 c
          ∧ r.2.mem ((c.tc : Thread Cert.UpActRefIdeal.nD Cert.UpActRefIdeal.τ).loc Cert.UpActRefIdeal.main_arg0) = m' ((c.tc : Thread Cert.UpActRefIdeal.nD Cert.UpActRefIdeal.τ).loc Cert.UpActRefIdeal.main_arg0)
          ∧ r.2.mem ((c.tc : Thread Cert.UpActRefIdeal.nD Cert.UpActRefIdeal.τ).loc Cert.UpActRefIdeal.main_arg1) = m' ((c.tc : Thread Cert.UpActRefIdeal.nD Cert.UpActRefIdeal.τ).loc Cert.UpActRefIdeal.main_arg1)
          ∧ r.2.mem ((c.tc : Thread Cert.UpActRefIdeal.nD Cert.UpActRefIdeal.τ).loc Cert.UpActRefIdeal.main_arg2) = m' ((c.tc : Thread Cert.UpActRefIdeal.nD Cert.UpActRefIdeal.τ).loc Cert.UpActRefIdeal.main_arg2))

def preserves_DownProj_DownProjIdeal : Prop :=
  True

def algebraic_DownProjIdeal_DownProjRefIdeal [hDownProjIdeal : Cert.DownProjIdeal.Facts] [hDownProjRefIdeal : Cert.DownProjRefIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjRefIdeal.nD Cert.DownProjRefIdeal.τ Cert.DownProjRefIdeal.sig) → Buf (Elt Ideal) ℓ) (g' : Dev Cert.DownProjRefIdeal.nD → PrngReg), Pre_DownProjIdeal m →
    (∀ c : Dev Cert.DownProjIdeal.nD,
      m' ((c.tc : Thread Cert.DownProjRefIdeal.nD Cert.DownProjRefIdeal.τ).loc Cert.DownProjRefIdeal.main_arg0) = m ((c.tc : Thread Cert.DownProjIdeal.nD Cert.DownProjIdeal.τ).loc Cert.DownProjIdeal.main_arg0)
      ∧ m' ((c.tc : Thread Cert.DownProjRefIdeal.nD Cert.DownProjRefIdeal.τ).loc Cert.DownProjRefIdeal.main_arg1) = m ((c.tc : Thread Cert.DownProjIdeal.nD Cert.DownProjIdeal.τ).loc Cert.DownProjIdeal.main_arg1)
      ∧ m' ((c.tc : Thread Cert.DownProjRefIdeal.nD Cert.DownProjRefIdeal.τ).loc Cert.DownProjRefIdeal.main_arg2) = m ((c.tc : Thread Cert.DownProjIdeal.nD Cert.DownProjIdeal.τ).loc Cert.DownProjIdeal.main_arg2)) →
    ∃ (v0 : (c : Dev Cert.DownProjIdeal.nD) → Buf (Elt Ideal) ((c.tc : Thread Cert.DownProjIdeal.nD Cert.DownProjIdeal.τ).loc Cert.DownProjIdeal.main_v3)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v3) = v0 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ θ_run (Cert.DownProjRefIdeal.defs (F := Ideal)) (onTc (τ := Cert.DownProjRefIdeal.τ) (Cert.DownProjRefIdeal.main (F := Ideal))) ⟨m', fun _ => 0, g'⟩ (fun r => ∀ c : Dev Cert.DownProjRefIdeal.nD,
          r.2.mem ((c.tc : Thread Cert.DownProjRefIdeal.nD Cert.DownProjRefIdeal.τ).loc Cert.DownProjRefIdeal.main_v3) = v0 c
          ∧ r.2.mem ((c.tc : Thread Cert.DownProjRefIdeal.nD Cert.DownProjRefIdeal.τ).loc Cert.DownProjRefIdeal.main_arg0) = m' ((c.tc : Thread Cert.DownProjRefIdeal.nD Cert.DownProjRefIdeal.τ).loc Cert.DownProjRefIdeal.main_arg0)
          ∧ r.2.mem ((c.tc : Thread Cert.DownProjRefIdeal.nD Cert.DownProjRefIdeal.τ).loc Cert.DownProjRefIdeal.main_arg1) = m' ((c.tc : Thread Cert.DownProjRefIdeal.nD Cert.DownProjRefIdeal.τ).loc Cert.DownProjRefIdeal.main_arg1)
          ∧ r.2.mem ((c.tc : Thread Cert.DownProjRefIdeal.nD Cert.DownProjRefIdeal.τ).loc Cert.DownProjRefIdeal.main_arg2) = m' ((c.tc : Thread Cert.DownProjRefIdeal.nD Cert.DownProjRefIdeal.τ).loc Cert.DownProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v24)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v24) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v73) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_StickHeads_StickHeadsIdeal : Prop :=
  True

def algebraic_StickHeadsIdeal_StickHeadsRefIdeal [hStickHeadsIdeal : Cert.StickHeadsIdeal.Facts] [hStickHeadsRefIdeal : Cert.StickHeadsRefIdeal.Facts] : Prop :=
  ∀ (m : (ℓ : Loc Cert.StickHeadsIdeal.nD Cert.StickHeadsIdeal.τ Cert.StickHeadsIdeal.sig) → Buf (Elt Ideal) ℓ) (g : Dev Cert.StickHeadsIdeal.nD → PrngReg)
    (m' : (ℓ : Loc Cert.StickHeadsRefIdeal.nD Cert.StickHeadsRefIdeal.τ Cert.StickHeadsRefIdeal.sig) → Buf (Elt Ideal) ℓ) (g' : Dev Cert.StickHeadsRefIdeal.nD → PrngReg), Pre_StickHeadsIdeal m →
    (∀ c : Dev Cert.StickHeadsIdeal.nD,
      m' ((c.tc : Thread Cert.StickHeadsRefIdeal.nD Cert.StickHeadsRefIdeal.τ).loc Cert.StickHeadsRefIdeal.main_arg0) = m ((c.tc : Thread Cert.StickHeadsIdeal.nD Cert.StickHeadsIdeal.τ).loc Cert.StickHeadsIdeal.main_arg0)
      ∧ m' ((c.tc : Thread Cert.StickHeadsRefIdeal.nD Cert.StickHeadsRefIdeal.τ).loc Cert.StickHeadsRefIdeal.main_arg1) = m ((c.tc : Thread Cert.StickHeadsIdeal.nD Cert.StickHeadsIdeal.τ).loc Cert.StickHeadsIdeal.main_arg1)
      ∧ m' ((c.tc : Thread Cert.StickHeadsRefIdeal.nD Cert.StickHeadsRefIdeal.τ).loc Cert.StickHeadsRefIdeal.main_arg2) = m ((c.tc : Thread Cert.StickHeadsIdeal.nD Cert.StickHeadsIdeal.τ).loc Cert.StickHeadsIdeal.main_arg2)) →
    ∃ (v0 : (c : Dev Cert.StickHeadsIdeal.nD) → Buf (Elt Ideal) ((c.tc : Thread Cert.StickHeadsIdeal.nD Cert.StickHeadsIdeal.τ).loc Cert.StickHeadsIdeal.main_v1_0)),
      θ_run (Cert.StickHeadsIdeal.defs (F := Ideal)) (onTc (τ := Cert.StickHeadsIdeal.τ) (Cert.StickHeadsIdeal.main (F := Ideal))) ⟨m, fun _ => 0, g⟩ (fun r => ∀ c : Dev Cert.StickHeadsIdeal.nD,
          r.2.mem ((c.tc : Thread Cert.StickHeadsIdeal.nD Cert.StickHeadsIdeal.τ).loc Cert.StickHeadsIdeal.main_v1_0) = v0 c
          ∧ r.2.mem ((c.tc : Thread Cert.StickHeadsIdeal.nD Cert.StickHeadsIdeal.τ).loc Cert.StickHeadsIdeal.main_arg0) = m ((c.tc : Thread Cert.StickHeadsIdeal.nD Cert.StickHeadsIdeal.τ).loc Cert.StickHeadsIdeal.main_arg0)
          ∧ r.2.mem ((c.tc : Thread Cert.StickHeadsIdeal.nD Cert.StickHeadsIdeal.τ).loc Cert.StickHeadsIdeal.main_arg1) = m ((c.tc : Thread Cert.StickHeadsIdeal.nD Cert.StickHeadsIdeal.τ).loc Cert.StickHeadsIdeal.main_arg1)
          ∧ r.2.mem ((c.tc : Thread Cert.StickHeadsIdeal.nD Cert.StickHeadsIdeal.τ).loc Cert.StickHeadsIdeal.main_arg2) = m ((c.tc : Thread Cert.StickHeadsIdeal.nD Cert.StickHeadsIdeal.τ).loc Cert.StickHeadsIdeal.main_arg2))
      ∧ θ_run (Cert.StickHeadsRefIdeal.defs (F := Ideal)) (onTc (τ := Cert.StickHeadsRefIdeal.τ) (Cert.StickHeadsRefIdeal.main (F := Ideal))) ⟨m', fun _ => 0, g'⟩ (fun r => ∀ c : Dev Cert.StickHeadsRefIdeal.nD,
          r.2.mem ((c.tc : Thread Cert.StickHeadsRefIdeal.nD Cert.StickHeadsRefIdeal.τ).loc Cert.StickHeadsRefIdeal.main_v48) = v0 c
          ∧ r.2.mem ((c.tc : Thread Cert.StickHeadsRefIdeal.nD Cert.StickHeadsRefIdeal.τ).loc Cert.StickHeadsRefIdeal.main_arg0) = m' ((c.tc : Thread Cert.StickHeadsRefIdeal.nD Cert.StickHeadsRefIdeal.τ).loc Cert.StickHeadsRefIdeal.main_arg0)
          ∧ r.2.mem ((c.tc : Thread Cert.StickHeadsRefIdeal.nD Cert.StickHeadsRefIdeal.τ).loc Cert.StickHeadsRefIdeal.main_arg1) = m' ((c.tc : Thread Cert.StickHeadsRefIdeal.nD Cert.StickHeadsRefIdeal.τ).loc Cert.StickHeadsRefIdeal.main_arg1)
          ∧ r.2.mem ((c.tc : Thread Cert.StickHeadsRefIdeal.nD Cert.StickHeadsRefIdeal.τ).loc Cert.StickHeadsRefIdeal.main_arg2) = m' ((c.tc : Thread Cert.StickHeadsRefIdeal.nD Cert.StickHeadsRefIdeal.τ).loc Cert.StickHeadsRefIdeal.main_arg2))

def Claim : Prop :=
  ∃ (hActGrad : Cert.ActGrad.Facts) (hActGradIdeal : Cert.ActGradIdeal.Facts) (hActGradRefIdeal : Cert.ActGradRefIdeal.Facts) (hFfnWeightGrad : Cert.FfnWeightGrad.Facts) (hFfnWeightGradIdeal : Cert.FfnWeightGradIdeal.Facts) (hDownWeightRefIdeal : Cert.DownWeightRefIdeal.Facts) (hGateWeightRefIdeal : Cert.GateWeightRefIdeal.Facts) (hFfnInputGrad : Cert.FfnInputGrad.Facts) (hFfnInputGradIdeal : Cert.FfnInputGradIdeal.Facts) (hFfnInputGradRefIdeal : Cert.FfnInputGradRefIdeal.Facts) (hInWeightGrad : Cert.InWeightGrad.Facts) (hInWeightGradIdeal : Cert.InWeightGradIdeal.Facts) (hInWeightGradRefIdeal : Cert.InWeightGradRefIdeal.Facts) (hInInputGrad : Cert.InInputGrad.Facts) (hInInputGradIdeal : Cert.InInputGradIdeal.Facts) (hInInputGradRefIdeal : Cert.InInputGradRefIdeal.Facts) (hOutWeightGrad : Cert.OutWeightGrad.Facts) (hOutWeightGradIdeal : Cert.OutWeightGradIdeal.Facts) (hOutWeightGradRefIdeal : Cert.OutWeightGradRefIdeal.Facts) (hOutInputGrad : Cert.OutInputGrad.Facts) (hOutInputGradIdeal : Cert.OutInputGradIdeal.Facts) (hOutInputGradRefIdeal : Cert.OutInputGradRefIdeal.Facts) (hFfnUpdate : Cert.FfnUpdate.Facts) (hFfnUpdateIdeal : Cert.FfnUpdateIdeal.Facts) (hFfnUpdateRefIdeal : Cert.FfnUpdateRefIdeal.Facts) (hOutUpdate : Cert.OutUpdate.Facts) (hOutUpdateIdeal : Cert.OutUpdateIdeal.Facts) (hOutUpdateRefIdeal : Cert.OutUpdateRefIdeal.Facts) (hInUpdate : Cert.InUpdate.Facts) (hInUpdateIdeal : Cert.InUpdateIdeal.Facts) (hInUpdateRefIdeal : Cert.InUpdateRefIdeal.Facts) (hGainUpdate : Cert.GainUpdate.Facts) (hGainUpdateIdeal : Cert.GainUpdateIdeal.Facts) (hGainUpdateRefIdeal : Cert.GainUpdateRefIdeal.Facts) (hNorm : Cert.Norm.Facts) (hNormIdeal : Cert.NormIdeal.Facts) (hNormRefIdeal : Cert.NormRefIdeal.Facts) (hNormGrad : Cert.NormGrad.Facts) (hNormGradIdeal : Cert.NormGradIdeal.Facts) (hNormGradRefIdeal : Cert.NormGradRefIdeal.Facts) (hLossGrad : Cert.LossGrad.Facts) (hLossGradIdeal : Cert.LossGradIdeal.Facts) (hLossGradRefIdeal : Cert.LossGradRefIdeal.Facts) (hGateProj : Cert.GateProj.Facts) (hGateProjIdeal : Cert.GateProjIdeal.Facts) (hGateProjRefIdeal : Cert.GateProjRefIdeal.Facts) (hUpAct : Cert.UpAct.Facts) (hUpActIdeal : Cert.UpActIdeal.Facts) (hUpActRefIdeal : Cert.UpActRefIdeal.Facts) (hDownProj : Cert.DownProj.Facts) (hDownProjIdeal : Cert.DownProjIdeal.Facts) (hDownProjRefIdeal : Cert.DownProjRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hStickHeads : Cert.StickHeads.Facts) (hStickHeadsIdeal : Cert.StickHeadsIdeal.Facts) (hStickHeadsRefIdeal : Cert.StickHeadsRefIdeal.Facts) (hPre_finite : Cert.Pre_finite.Facts),
    quiescent_ActGrad (hActGrad := hActGrad)
    ∧ quiescent_ActGradIdeal (hActGradIdeal := hActGradIdeal)
    ∧ quiescent_ActGradIdeal_pre_finite (hActGradIdeal := hActGradIdeal) (hPre_finite := hPre_finite)
    ∧ quiescent_ActGradRefIdeal (hActGradRefIdeal := hActGradRefIdeal)
    ∧ quiescent_ActGradRefIdeal_pre_finite (hActGradRefIdeal := hActGradRefIdeal) (hPre_finite := hPre_finite)
    ∧ quiescent_FfnWeightGrad (hFfnWeightGrad := hFfnWeightGrad)
    ∧ quiescent_FfnWeightGradIdeal (hFfnWeightGradIdeal := hFfnWeightGradIdeal)
    ∧ quiescent_DownWeightRefIdeal (hDownWeightRefIdeal := hDownWeightRefIdeal)
    ∧ quiescent_GateWeightRefIdeal (hGateWeightRefIdeal := hGateWeightRefIdeal)
    ∧ quiescent_FfnInputGrad (hFfnInputGrad := hFfnInputGrad)
    ∧ quiescent_FfnInputGradIdeal (hFfnInputGradIdeal := hFfnInputGradIdeal)
    ∧ quiescent_FfnInputGradRefIdeal (hFfnInputGradRefIdeal := hFfnInputGradRefIdeal)
    ∧ quiescent_InWeightGrad (hInWeightGrad := hInWeightGrad)
    ∧ quiescent_InWeightGradIdeal (hInWeightGradIdeal := hInWeightGradIdeal)
    ∧ quiescent_InWeightGradRefIdeal (hInWeightGradRefIdeal := hInWeightGradRefIdeal)
    ∧ quiescent_InInputGrad (hInInputGrad := hInInputGrad)
    ∧ quiescent_InInputGradIdeal (hInInputGradIdeal := hInInputGradIdeal)
    ∧ quiescent_InInputGradRefIdeal (hInInputGradRefIdeal := hInInputGradRefIdeal)
    ∧ quiescent_OutWeightGrad (hOutWeightGrad := hOutWeightGrad)
    ∧ quiescent_OutWeightGradIdeal (hOutWeightGradIdeal := hOutWeightGradIdeal)
    ∧ quiescent_OutWeightGradRefIdeal (hOutWeightGradRefIdeal := hOutWeightGradRefIdeal)
    ∧ quiescent_OutInputGrad (hOutInputGrad := hOutInputGrad)
    ∧ quiescent_OutInputGradIdeal (hOutInputGradIdeal := hOutInputGradIdeal)
    ∧ quiescent_OutInputGradRefIdeal (hOutInputGradRefIdeal := hOutInputGradRefIdeal)
    ∧ quiescent_FfnUpdate (hFfnUpdate := hFfnUpdate)
    ∧ quiescent_FfnUpdateIdeal (hFfnUpdateIdeal := hFfnUpdateIdeal)
    ∧ quiescent_FfnUpdateRefIdeal (hFfnUpdateRefIdeal := hFfnUpdateRefIdeal)
    ∧ quiescent_OutUpdate (hOutUpdate := hOutUpdate)
    ∧ quiescent_OutUpdateIdeal (hOutUpdateIdeal := hOutUpdateIdeal)
    ∧ quiescent_OutUpdateRefIdeal (hOutUpdateRefIdeal := hOutUpdateRefIdeal)
    ∧ quiescent_InUpdate (hInUpdate := hInUpdate)
    ∧ quiescent_InUpdateIdeal (hInUpdateIdeal := hInUpdateIdeal)
    ∧ quiescent_InUpdateRefIdeal (hInUpdateRefIdeal := hInUpdateRefIdeal)
    ∧ quiescent_GainUpdate (hGainUpdate := hGainUpdate)
    ∧ quiescent_GainUpdateIdeal (hGainUpdateIdeal := hGainUpdateIdeal)
    ∧ quiescent_GainUpdateRefIdeal (hGainUpdateRefIdeal := hGainUpdateRefIdeal)
    ∧ quiescent_Norm (hNorm := hNorm)
    ∧ quiescent_NormIdeal (hNormIdeal := hNormIdeal)
    ∧ quiescent_NormRefIdeal (hNormRefIdeal := hNormRefIdeal)
    ∧ quiescent_NormGrad (hNormGrad := hNormGrad)
    ∧ quiescent_NormGradIdeal (hNormGradIdeal := hNormGradIdeal)
    ∧ quiescent_NormGradRefIdeal (hNormGradRefIdeal := hNormGradRefIdeal)
    ∧ quiescent_LossGrad (hLossGrad := hLossGrad)
    ∧ quiescent_LossGradIdeal (hLossGradIdeal := hLossGradIdeal)
    ∧ quiescent_LossGradRefIdeal (hLossGradRefIdeal := hLossGradRefIdeal)
    ∧ quiescent_GateProj (hGateProj := hGateProj)
    ∧ quiescent_GateProjIdeal (hGateProjIdeal := hGateProjIdeal)
    ∧ quiescent_GateProjRefIdeal (hGateProjRefIdeal := hGateProjRefIdeal)
    ∧ quiescent_UpAct (hUpAct := hUpAct)
    ∧ quiescent_UpActIdeal (hUpActIdeal := hUpActIdeal)
    ∧ quiescent_UpActRefIdeal (hUpActRefIdeal := hUpActRefIdeal)
    ∧ quiescent_DownProj (hDownProj := hDownProj)
    ∧ quiescent_DownProjIdeal (hDownProjIdeal := hDownProjIdeal)
    ∧ quiescent_DownProjRefIdeal (hDownProjRefIdeal := hDownProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_StickHeads (hStickHeads := hStickHeads)
    ∧ quiescent_StickHeadsIdeal (hStickHeadsIdeal := hStickHeadsIdeal)
    ∧ quiescent_StickHeadsRefIdeal (hStickHeadsRefIdeal := hStickHeadsRefIdeal)
    ∧ preserves_ActGrad_ActGradIdeal
    ∧ algebraic_ActGradIdeal_ActGradRefIdeal_pre_finite (hActGradIdeal := hActGradIdeal) (hActGradRefIdeal := hActGradRefIdeal) (hPre_finite := hPre_finite)
    ∧ preserves_FfnWeightGrad_FfnWeightGradIdeal
    ∧ algebraic_FfnWeightGradIdeal_DownWeightRefIdeal (hFfnWeightGradIdeal := hFfnWeightGradIdeal) (hDownWeightRefIdeal := hDownWeightRefIdeal)
    ∧ algebraic_FfnWeightGradIdeal_GateWeightRefIdeal (hFfnWeightGradIdeal := hFfnWeightGradIdeal) (hGateWeightRefIdeal := hGateWeightRefIdeal)
    ∧ preserves_FfnInputGrad_FfnInputGradIdeal
    ∧ algebraic_FfnInputGradIdeal_FfnInputGradRefIdeal (hFfnInputGradIdeal := hFfnInputGradIdeal) (hFfnInputGradRefIdeal := hFfnInputGradRefIdeal)
    ∧ preserves_InWeightGrad_InWeightGradIdeal
    ∧ algebraic_InWeightGradIdeal_InWeightGradRefIdeal (hInWeightGradIdeal := hInWeightGradIdeal) (hInWeightGradRefIdeal := hInWeightGradRefIdeal)
    ∧ preserves_InInputGrad_InInputGradIdeal
    ∧ algebraic_InInputGradIdeal_InInputGradRefIdeal (hInInputGradIdeal := hInInputGradIdeal) (hInInputGradRefIdeal := hInInputGradRefIdeal)
    ∧ preserves_OutWeightGrad_OutWeightGradIdeal
    ∧ algebraic_OutWeightGradIdeal_OutWeightGradRefIdeal (hOutWeightGradIdeal := hOutWeightGradIdeal) (hOutWeightGradRefIdeal := hOutWeightGradRefIdeal)
    ∧ preserves_OutInputGrad_OutInputGradIdeal
    ∧ algebraic_OutInputGradIdeal_OutInputGradRefIdeal (hOutInputGradIdeal := hOutInputGradIdeal) (hOutInputGradRefIdeal := hOutInputGradRefIdeal)
    ∧ preserves_FfnUpdate_FfnUpdateIdeal
    ∧ algebraic_FfnUpdateIdeal_FfnUpdateRefIdeal (hFfnUpdateIdeal := hFfnUpdateIdeal) (hFfnUpdateRefIdeal := hFfnUpdateRefIdeal)
    ∧ preserves_OutUpdate_OutUpdateIdeal
    ∧ algebraic_OutUpdateIdeal_OutUpdateRefIdeal (hOutUpdateIdeal := hOutUpdateIdeal) (hOutUpdateRefIdeal := hOutUpdateRefIdeal)
    ∧ preserves_InUpdate_InUpdateIdeal
    ∧ algebraic_InUpdateIdeal_InUpdateRefIdeal (hInUpdateIdeal := hInUpdateIdeal) (hInUpdateRefIdeal := hInUpdateRefIdeal)
    ∧ preserves_GainUpdate_GainUpdateIdeal
    ∧ algebraic_GainUpdateIdeal_GainUpdateRefIdeal (hGainUpdateIdeal := hGainUpdateIdeal) (hGainUpdateRefIdeal := hGainUpdateRefIdeal)
    ∧ preserves_Norm_NormIdeal
    ∧ algebraic_NormIdeal_NormRefIdeal (hNormIdeal := hNormIdeal) (hNormRefIdeal := hNormRefIdeal)
    ∧ preserves_NormGrad_NormGradIdeal
    ∧ algebraic_NormGradIdeal_NormGradRefIdeal (hNormGradIdeal := hNormGradIdeal) (hNormGradRefIdeal := hNormGradRefIdeal)
    ∧ preserves_LossGrad_LossGradIdeal
    ∧ algebraic_LossGradIdeal_LossGradRefIdeal (hLossGradIdeal := hLossGradIdeal) (hLossGradRefIdeal := hLossGradRefIdeal)
    ∧ preserves_GateProj_GateProjIdeal
    ∧ algebraic_GateProjIdeal_GateProjRefIdeal (hGateProjIdeal := hGateProjIdeal) (hGateProjRefIdeal := hGateProjRefIdeal)
    ∧ preserves_UpAct_UpActIdeal
    ∧ algebraic_UpActIdeal_UpActRefIdeal (hUpActIdeal := hUpActIdeal) (hUpActRefIdeal := hUpActRefIdeal)
    ∧ preserves_DownProj_DownProjIdeal
    ∧ algebraic_DownProjIdeal_DownProjRefIdeal (hDownProjIdeal := hDownProjIdeal) (hDownProjRefIdeal := hDownProjRefIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_StickHeads_StickHeadsIdeal
    ∧ algebraic_StickHeadsIdeal_StickHeadsRefIdeal (hStickHeadsIdeal := hStickHeadsIdeal) (hStickHeadsRefIdeal := hStickHeadsRefIdeal)
-- ==== Pre_finite.lean ====
abbrev S4096x4096 : Shape := ⟨2, ![4096, 4096]⟩
abbrev S11008x4096 : Shape := ⟨2, ![11008, 4096]⟩
abbrev S4096x11008 : Shape := ⟨2, ![4096, 11008]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  bcast_S_S11008x4096 : S_.BroadcastsInDim S11008x4096 (![] : Fin 0 → Fin S11008x4096.rank)
  bcast_S_S4096x11008 : S_.BroadcastsInDim S4096x11008 (![] : Fin 0 → Fin S4096x11008.rank)

variable [Facts]

def fn {F : FTy → Type} [FloatOps F] (main_arg0 : FVec F S4096x4096 .bf16) (main_arg1 : FVec F S11008x4096 .bf16) (main_arg2 : FVec F S4096x11008 .bf16) (main_arg3 : FVec F S4096x11008 .bf16) : IVec S4096x4096 1 × IVec S11008x4096 1 × IVec S4096x11008 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_v4 : FVec F S11008x4096 .f32 := (extf .f32 · bitsLt_bf16_f32) main_arg1
  let main_v5 : FVec F S11008x4096 .f32 := Host.absf main_v4
  let main_cst_0 : FVec F S_ .f32 := constant S_ .f32 0x7F800000#32
  let main_v6 : FVec F S11008x4096 .f32 := broadcastInDim S11008x4096 ![] bcast_S_S11008x4096 main_cst_0
  let main_v7 : IVec S11008x4096 1 := cmpf .olt main_v5 main_v6
  let main_v8 : FVec F S4096x11008 .f32 := (extf .f32 · bitsLt_bf16_f32) main_arg3
  let main_v9 : FVec F S4096x11008 .f32 := Host.absf main_v8
  let main_cst_1 : FVec F S_ .f32 := constant S_ .f32 0x7F800000#32
  let main_v10 : FVec F S4096x11008 .f32 := broadcastInDim S4096x11008 ![] bcast_S_S4096x11008 main_cst_1
  let main_v11 : IVec S4096x11008 1 := cmpf .olt main_v9 main_v10
  (main_v3, main_v7, main_v11)
-- ==== ActGrad.lean ====
abbrev S4096x4096 : Shape := ⟨2, ![4096, 4096]⟩
abbrev S11008x4096 : Shape := ⟨2, ![11008, 4096]⟩
abbrev S4096x11008 : Shape := ⟨2, ![4096, 11008]⟩
abbrev S8x1376x4096 : Shape := ⟨3, ![8, 1376, 4096]⟩
abbrev S4096x8x1376 : Shape := ⟨3, ![4096, 8, 1376]⟩
abbrev S8x4096x1376 : Shape := ⟨3, ![8, 4096, 1376]⟩
abbrev S512x4096 : Shape := ⟨2, ![512, 4096]⟩
abbrev S1x1376x4096 : Shape := ⟨3, ![1, 1376, 4096]⟩
abbrev S1x512x1376 : Shape := ⟨3, ![1, 512, 1376]⟩
abbrev S512x1376 : Shape := ⟨2, ![512, 1376]⟩
abbrev S1376x4096 : Shape := ⟨2, ![1376, 4096]⟩
abbrev S256x1376 : Shape := ⟨2, ![256, 1376]⟩
abbrev S1x256x1376 : Shape := ⟨3, ![1, 256, 1376]⟩

abbrev nBuf : Space → Nat
  | .hbm => 11
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S11008x4096, .bf16⟩
  | .hbm, ⟨2, _⟩ => ⟨S4096x11008, .bf16⟩
  | .hbm, ⟨3, _⟩ => ⟨S4096x11008, .bf16⟩
  | .hbm, ⟨4, _⟩ => ⟨S8x1376x4096, .bf16⟩
  | .hbm, ⟨5, _⟩ => ⟨S4096x8x1376, .bf16⟩
  | .hbm, ⟨6, _⟩ => ⟨S8x4096x1376, .bf16⟩
  | .hbm, ⟨7, _⟩ => ⟨S4096x8x1376, .bf16⟩
  | .hbm, ⟨8, _⟩ => ⟨S8x4096x1376, .bf16⟩
  | .hbm, ⟨9, _⟩ => ⟨S8x4096x1376, .bf16⟩
  | .hbm, ⟨10, _⟩ => ⟨S8x4096x1376, .bf16⟩
  | .local _ .vmem, ⟨0, _⟩ => ⟨S512x4096, .bf16⟩
  | .local _ .vmem, ⟨1, _⟩ => ⟨S512x4096, .bf16⟩
  | .local _ .vmem, ⟨2, _⟩ => ⟨S1x1376x4096, .bf16⟩
  | .local _ .vmem, ⟨3, _⟩ => ⟨S1x1376x4096, .bf16⟩
  | .local _ .vmem, ⟨4, _⟩ => ⟨S1x512x1376, .bf16⟩
  | .local _ .vmem, ⟨5, _⟩ => ⟨S1x512x1376, .bf16⟩
  | .local _ .vmem, ⟨6, _⟩ => ⟨S1x512x1376, .bf16⟩
  | .local _ .vmem, ⟨7, _⟩ => ⟨S1x512x1376, .bf16⟩
  | .local _ .vmem, ⟨8, _⟩ => ⟨S1x512x1376, .bf16⟩
  | .local _ .vmem, ⟨9, _⟩ => ⟨S1x512x1376, .bf16⟩
  | .local _ .vmem, ⟨10, _⟩ => ⟨S1x512x1376, .bf16⟩
  | .local _ .vmem, ⟨11, _⟩ => ⟨S1x512x1376, .bf16⟩
  | .local _ .vmem, ⟨12, _⟩ => ⟨S512x1376, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1376x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x512x1376 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1376 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x1376 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x1376 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ActGradRefIdeal.lean ====
abbrev S4096x4096 : Shape := ⟨2, ![4096, 4096]⟩
abbrev S11008x4096 : Shape := ⟨2, ![11008, 4096]⟩
abbrev S4096x11008 : Shape := ⟨2, ![4096, 11008]⟩
abbrev S_ : Shape := ⟨0, ![]⟩
abbrev S4096x8x1376 : Shape := ⟨3, ![4096, 8, 1376]⟩
abbrev S8x4096x1376 : Shape := ⟨3, ![8, 4096, 1376]⟩

abbrev nBuf : Space → Nat
  | .hbm => 35
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S11008x4096, .bf16⟩
  | .hbm, ⟨2, _⟩ => ⟨S4096x11008, .bf16⟩
  | .hbm, ⟨3, _⟩ => ⟨S4096x11008, .bf16⟩
  | .hbm, ⟨4, _⟩ => ⟨S4096x11008, .f32⟩
  | .hbm, ⟨5, _⟩ => ⟨S4096x11008, .f32⟩
  | .hbm, ⟨6, _⟩ => ⟨S4096x11008, .f32⟩
  | .hbm, ⟨7, _⟩ => ⟨S4096x11008, .f32⟩
  | .hbm, ⟨8, _⟩ => ⟨S_, .f32⟩
  | .hbm, ⟨9, _⟩ => ⟨S4096x11008, .f32⟩
  | .hbm, ⟨10, _⟩ => ⟨S4096x11008, .f32⟩
  | .hbm, ⟨11, _⟩ => ⟨S_, .f32⟩
  | .hbm, ⟨12, _⟩ => ⟨S4096x11008, .f32⟩
  | .hbm, ⟨13, _⟩ => ⟨S4096x11008, .f32⟩
  | .hbm, ⟨14, _⟩ => ⟨S_, .f32⟩
  | .hbm, ⟨15, _⟩ => ⟨S4096x11008, .f32⟩
  | .hbm, ⟨16, _⟩ => ⟨S4096x11008, .f32⟩
  | .hbm, ⟨17, _⟩ => ⟨S4096x11008, .f32⟩
  | .hbm, ⟨18, _⟩ => ⟨S4096x11008, .f32⟩
  | .hbm, ⟨19, _⟩ => ⟨S4096x11008, .f32⟩
  | .hbm, ⟨20, _⟩ => ⟨S4096x4096, .f32⟩
  | .hbm, ⟨21, _⟩ => ⟨S4096x4096, .f32⟩
  | .hbm, ⟨22, _⟩ => ⟨S4096x11008, .f32⟩
  | .hbm, ⟨23, _⟩ => ⟨S4096x11008, .f32⟩
  | .hbm, ⟨24, _⟩ => ⟨S4096x11008, .f32⟩
  | .hbm, ⟨25, _⟩ => ⟨S4096x11008, .f32⟩
  | .hbm, ⟨26, _⟩ => ⟨S4096x11008, .f32⟩
  | .hbm, ⟨27, _⟩ => ⟨S4096x11008, .f32⟩
  | .hbm, ⟨28, _⟩ => ⟨S4096x11008, .f32⟩
  | .hbm, ⟨29, _⟩ => ⟨S4096x8x1376, .f32⟩
  | .hbm, ⟨30, _⟩ => ⟨S8x4096x1376, .f32⟩
  | .hbm, ⟨31, _⟩ => ⟨S8x4096x1376, .bf16⟩
  | .hbm, ⟨32, _⟩ => ⟨S4096x8x1376, .f32⟩
  | .hbm, ⟨33, _⟩ => ⟨S8x4096x1376, .f32⟩
  | .hbm, ⟨34, _⟩ => ⟨S8x4096x1376, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== FfnWeightGrad.lean ====
abbrev S4096x11008 : Shape := ⟨2, ![4096, 11008]⟩
abbrev S4096x4096 : Shape := ⟨2, ![4096, 4096]⟩
abbrev S4096x8x1376 : Shape := ⟨3, ![4096, 8, 1376]⟩
abbrev S8x4096x1376 : Shape := ⟨3, ![8, 4096, 1376]⟩
abbrev S8x1376x4096 : Shape := ⟨3, ![8, 1376, 4096]⟩
abbrev S1x4096x1376 : Shape := ⟨3, ![1, 4096, 1376]⟩
abbrev S4096x512 : Shape := ⟨2, ![4096, 512]⟩
abbrev S1x1376x512 : Shape := ⟨3, ![1, 1376, 512]⟩
abbrev S1376x512 : Shape := ⟨2, ![1376, 512]⟩
abbrev S4096x1376 : Shape := ⟨2, ![4096, 1376]⟩

abbrev nBuf : Space → Nat
  | .hbm => 5
  | .vmem => 7
  | .smem => 0
  | _ => 0

abbrev bufTy : (tb : Table) → Fin (tcTables nBuf tb) → BufTy
  | .hbm, ⟨0, _⟩ => ⟨S4096x11008, .bf16⟩
  | .hbm, ⟨1, _⟩ => ⟨S4096x4096, .bf16⟩
  | .hbm, ⟨2, _⟩ => ⟨S4096x8x1376, .bf16⟩
  | .hbm, ⟨3, _⟩ => ⟨S8x4096x1376, .bf16⟩
  | .hbm, ⟨4, _⟩ => ⟨S8x1376x4096, .bf16⟩
  | .local _ .vmem, ⟨0, _⟩ => ⟨S1x4096x1376, .bf16⟩
  | .local _ .vmem, ⟨1, _⟩ => ⟨S1x4096x1376, .bf16⟩
  | .local _ .vmem, ⟨2, _⟩ => ⟨S4096x512, .bf16⟩
  | .local _ .vmem, ⟨3, _⟩ => ⟨S4096x512, .bf16⟩
  | .local _ .vmem, ⟨4, _⟩ => ⟨S1x1376x512, .bf16⟩
  | .local _ .vmem, ⟨5, _⟩ => ⟨S1x1376x512, .bf16⟩
  | .local _ .vmem, ⟨6, _⟩ => ⟨S1376x512, .f32⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x1376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWeightRefIdeal.lean ====
abbrev S4096x11008 : Shape := ⟨2, ![4096, 11008]⟩
abbrev S4096x4096 : Shape := ⟨2, ![4096, 4096]⟩
abbrev S_ : Shape := ⟨0, ![]⟩
abbrev S11008x4096 : Shape := ⟨2, ![11008, 4096]⟩
abbrev S8x1376x4096 : Shape := ⟨3, ![8, 1376, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x11008, .bf16⟩
  | .hbm, ⟨1, _⟩ => ⟨S4096x4096, .bf16⟩
  | .hbm, ⟨2, _⟩ => ⟨S_, .f32⟩
  | .hbm, ⟨3, _⟩ => ⟨S11008x4096, .f32⟩
  | .hbm, ⟨4, _⟩ => ⟨S4096x11008, .f32⟩
  | .hbm, ⟨5, _⟩ => ⟨S4096x4096, .f32⟩
  | .hbm, ⟨6, _⟩ => ⟨S4096x4096, .f32⟩
  | .hbm, ⟨7, _⟩ => ⟨S4096x11008, .f32⟩
  | .hbm, ⟨8, _⟩ => ⟨S11008x4096, .f32⟩
  | .hbm, ⟨9, _⟩ => ⟨S8x1376x4096, .f32⟩
  | .hbm, ⟨10, _⟩ => ⟨S8x1376x4096, .bf16⟩
  | _, _ => ⟨S4096x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GateWeightRefIdeal.lean ====
abbrev S4096x11008 : Shape := ⟨2, ![4096, 11008]⟩
abbrev S4096x4096 : Shape := ⟨2, ![4096, 4096]⟩
abbrev S_ : Shape := ⟨0, ![]⟩
abbrev S11008x4096 : Shape := ⟨2, ![11008, 4096]⟩
abbrev S8x1376x4096 : Shape := ⟨3, ![8, 1376, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x11008, .bf16⟩
  | .hbm, ⟨1, _⟩ => ⟨S4096x4096, .bf16⟩
  | .hbm, ⟨2, _⟩ => ⟨S_, .f32⟩
  | .hbm, ⟨3, _⟩ => ⟨S4096x11008, .f32⟩
  | .hbm, ⟨4, _⟩ => ⟨S4096x4096, .f32⟩
  | .hbm, ⟨5, _⟩ => ⟨S4096x11008, .f32⟩
  | .hbm, ⟨6, _⟩ => ⟨S4096x11008, .f32⟩
  | .hbm, ⟨7, _⟩ => ⟨S11008x4096, .f32⟩
  | .hbm, ⟨8, _⟩ => ⟨S4096x11008, .f32⟩
  | .hbm, ⟨9, _⟩ => ⟨S11008x4096, .f32⟩
  | .hbm, ⟨10, _⟩ => ⟨S8x1376x4096, .f32⟩
  | .hbm, ⟨11, _⟩ => ⟨S8x1376x4096, .bf16⟩
  | _, _ => ⟨S4096x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FfnInputGrad.lean ====
abbrev S4096x11008 : Shape := ⟨2, ![4096, 11008]⟩
abbrev S4096x8x1376 : Shape := ⟨3, ![4096, 8, 1376]⟩
abbrev S8x4096x1376 : Shape := ⟨3, ![8, 4096, 1376]⟩
abbrev S11008x4096 : Shape := ⟨2, ![11008, 4096]⟩
abbrev S8x1376x4096 : Shape := ⟨3, ![8, 1376, 4096]⟩
abbrev S4096x4096 : Shape := ⟨2, ![4096, 4096]⟩
abbrev S2x512x1376 : Shape := ⟨3, ![2, 512, 1376]⟩
abbrev S2x1376x1024 : Shape := ⟨3, ![2, 1376, 1024]⟩
abbrev S512x1024 : Shape := ⟨2, ![512, 1024]⟩
abbrev S1x512x1376 : Shape := ⟨3, ![1, 512, 1376]⟩
abbrev S512x1376 : Shape := ⟨2, ![512, 1376]⟩
abbrev S1x1376x1024 : Shape := ⟨3, ![1, 1376, 1024]⟩
abbrev S1376x1024 : Shape := ⟨2, ![1376, 1024]⟩

abbrev nBuf : Space → Nat
  | .hbm => 13
  | .vmem => 11
  | .smem => 0
  | _ => 0

abbrev bufTy : (tb : Table) → Fin (tcTables nBuf tb) → BufTy
  | .hbm, ⟨0, _⟩ => ⟨S4096x11008, .bf16⟩
  | .hbm, ⟨1, _⟩ => ⟨S4096x11008, .bf16⟩
  | .hbm, ⟨2, _⟩ => ⟨S4096x11008, .bf16⟩
  | .hbm, ⟨3, _⟩ => ⟨S4096x11008, .bf16⟩
  | .hbm, ⟨4, _⟩ => ⟨S4096x8x1376, .bf16⟩
  | .hbm, ⟨5, _⟩ => ⟨S8x4096x1376, .bf16⟩
  | .hbm, ⟨6, _⟩ => ⟨S4096x8x1376, .bf16⟩
  | .hbm, ⟨7, _⟩ => ⟨S8x4096x1376, .bf16⟩
  | .hbm, ⟨8, _⟩ => ⟨S11008x4096, .bf16⟩
  | .hbm, ⟨9, _⟩ => ⟨S8x1376x4096, .bf16⟩
  | .hbm, ⟨10, _⟩ => ⟨S11008x4096, .bf16⟩
  | .hbm, ⟨11, _⟩ => ⟨S8x1376x4096, .bf16⟩
  | .hbm, ⟨12, _⟩ => ⟨S4096x4096, .f32⟩
  | .local _ .vmem, ⟨0, _⟩ => ⟨S2x512x1376, .bf16⟩
  | .local _ .vmem, ⟨1, _⟩ => ⟨S2x512x1376, .bf16⟩
  | .local _ .vmem, ⟨2, _⟩ => ⟨S2x512x1376, .bf16⟩
  | .local _ .vmem, ⟨3, _⟩ => ⟨S2x512x1376, .bf16⟩
  | .local _ .vmem, ⟨4, _⟩ => ⟨S2x1376x1024, .bf16⟩
  | .local _ .vmem, ⟨5, _⟩ => ⟨S2x1376x1024, .bf16⟩
  | .local _ .vmem, ⟨6, _⟩ => ⟨S2x1376x1024, .bf16⟩
  | .local _ .vmem, ⟨7, _⟩ => ⟨S2x1376x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let c3_i32 : BitVec 32 := 3#32
  let v29 : BitVec 1 := Scalar.cmpi .eq arg2 c3_i32
  let v30 : BitVec 32 := Scalar.extui v29
  let c0_i32_28 : BitVec 32 := 0#32
  let v31 : BitVec 1 := Scalar.cmpi .ne v30 c0_i32_28
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2x512x1376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x512x1376 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2x1376x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2x1376x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfnInputGradRefIdeal.lean ====
abbrev S4096x11008 : Shape := ⟨2, ![4096, 11008]⟩
abbrev S_ : Shape := ⟨0, ![]⟩
abbrev S4096x4096 : Shape := ⟨2, ![4096, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4096x11008, .bf16⟩
  | .hbm, ⟨1, _⟩ => ⟨S4096x11008, .bf16⟩
  | .hbm, ⟨2, _⟩ => ⟨S4096x11008, .bf16⟩
  | .hbm, ⟨3, _⟩ => ⟨S4096x11008, .bf16⟩
  | .hbm, ⟨4, _⟩ => ⟨S_, .f32⟩
  | .hbm, ⟨5, _⟩ => ⟨S4096x4096, .f32⟩
  | .hbm, ⟨6, _⟩ => ⟨S4096x11008, .f32⟩
  | .hbm, ⟨7, _⟩ => ⟨S4096x11008, .f32⟩
  | .hbm, ⟨8, _⟩ => ⟨S4096x11008, .f32⟩
  | .hbm, ⟨9, _⟩ => ⟨S4096x11008, .f32⟩
  | .hbm, ⟨10, _⟩ => ⟨S4096x11008, .f32⟩
  | .hbm, ⟨11, _⟩ => ⟨S4096x11008, .f32⟩
  | .hbm, ⟨12, _⟩ => ⟨S4096x4096, .f32⟩
  | .hbm, ⟨13, _⟩ => ⟨S4096x4096, .f32⟩
  | .hbm, ⟨14, _⟩ => ⟨S4096x4096, .f32⟩
  | _, _ => ⟨S4096x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== InWeightGrad.lean ====
abbrev S4096x4096 : Shape := ⟨2, ![4096, 4096]⟩
abbrev S4096x12288 : Shape := ⟨2, ![4096, 12288]⟩
abbrev S8x4096x1536 : Shape := ⟨3, ![8, 4096, 1536]⟩
abbrev S4096x512 : Shape := ⟨2, ![4096, 512]⟩
abbrev S4096x1536 : Shape := ⟨2, ![4096, 1536]⟩
abbrev S1x512x1536 : Shape := ⟨3, ![1, 512, 1536]⟩
abbrev S512x1536 : Shape := ⟨2, ![512, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S8x4096x1536, .bf16⟩
  | .local _ .vmem, ⟨0, _⟩ => ⟨S4096x512, .bf16⟩
  | .local _ .vmem, ⟨1, _⟩ => ⟨S4096x512, .bf16⟩
  | .local _ .vmem, ⟨2, _⟩ => ⟨S4096x1536, .bf16⟩
  | .local _ .vmem, ⟨3, _⟩ => ⟨S4096x1536, .bf16⟩
  | .local _ .vmem, ⟨4, _⟩ => ⟨S1x512x1536, .bf16⟩
  | .local _ .vmem, ⟨5, _⟩ => ⟨S1x512x1536, .bf16⟩
  | .local _ .vmem, ⟨6, _⟩ => ⟨S512x1536, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S4096x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWeightGradRefIdeal.lean ====
abbrev S4096x4096 : Shape := ⟨2, ![4096, 4096]⟩
abbrev S4096x12288 : Shape := ⟨2, ![4096, 12288]⟩
abbrev S_ : Shape := ⟨0, ![]⟩
abbrev S12288x4096 : Shape := ⟨2, ![12288, 4096]⟩
abbrev S4096x8x1536 : Shape := ⟨3, ![4096, 8, 1536]⟩
abbrev S8x4096x1536 : Shape := ⟨3, ![8, 4096, 1536]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S_, .f32⟩
  | .hbm, ⟨3, _⟩ => ⟨S4096x12288, .f32⟩
  | .hbm, ⟨4, _⟩ => ⟨S4096x4096, .f32⟩
  | .hbm, ⟨5, _⟩ => ⟨S4096x12288, .f32⟩
  | .hbm, ⟨6, _⟩ => ⟨S4096x12288, .f32⟩
  | .hbm, ⟨7, _⟩ => ⟨S12288x4096, .f32⟩
  | .hbm, ⟨8, _⟩ => ⟨S4096x12288, .f32⟩
  | .hbm, ⟨9, _⟩ => ⟨S4096x8x1536, .f32⟩
  | .hbm, ⟨10, _⟩ => ⟨S8x4096x1536, .f32⟩
  | .hbm, ⟨11, _⟩ => ⟨S8x4096x1536, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InInputGrad.lean ====
abbrev S4096x12288 : Shape := ⟨2, ![4096, 12288]⟩
abbrev S4096x8x1536 : Shape := ⟨3, ![4096, 8, 1536]⟩
abbrev S8x4096x1536 : Shape := ⟨3, ![8, 4096, 1536]⟩
abbrev S4096x4096 : Shape := ⟨2, ![4096, 4096]⟩
abbrev S512x6144 : Shape := ⟨2, ![512, 6144]⟩
abbrev S4x1024x1536 : Shape := ⟨3, ![4, 1024, 1536]⟩
abbrev S512x1024 : Shape := ⟨2, ![512, 1024]⟩
abbrev S512x1536 : Shape := ⟨2, ![512, 1536]⟩
abbrev S1x1024x1536 : Shape := ⟨3, ![1, 1024, 1536]⟩
abbrev S1024x1536 : Shape := ⟨2, ![1024, 1536]⟩

abbrev nBuf : Space → Nat
  | .hbm => 5
  | .vmem => 7
  | .smem => 0
  | _ => 0

abbrev bufTy : (tb : Table) → Fin (tcTables nBuf tb) → BufTy
  | .hbm, ⟨0, _⟩ => ⟨S4096x12288, .bf16⟩
  | .hbm, ⟨1, _⟩ => ⟨S4096x12288, .bf16⟩
  | .hbm, ⟨2, _⟩ => ⟨S4096x8x1536, .bf16⟩
  | .hbm, ⟨3, _⟩ => ⟨S8x4096x1536, .bf16⟩
  | .hbm, ⟨4, _⟩ => ⟨S4096x4096, .f32⟩
  | .local _ .vmem, ⟨0, _⟩ => ⟨S512x6144, .bf16⟩
  | .local _ .vmem, ⟨1, _⟩ => ⟨S512x6144, .bf16⟩
  | .local _ .vmem, ⟨2, _⟩ => ⟨S4x1024x1536, .bf16⟩
  | .local _ .vmem, ⟨3, _⟩ => ⟨S4x1024x1536, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond3 (i : grid0.Coords) : BitVec 1 :=
  let arg2 : BitVec 32 := BitVec.ofNat 32 (i 2).val
  let c1_i32 : BitVec 32 := 1#32
  let v25 : BitVec 1 := Scalar.cmpi .eq arg2 c1_i32
  let v26 : BitVec 32 := Scalar.extui v25
  let c0_i32_19 : BitVec 32 := 0#32
  let v27 : BitVec 1 := Scalar.cmpi .ne v26 c0_i32_19
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InInputGradRefIdeal.lean ====
abbrev S4096x12288 : Shape := ⟨2, ![4096, 12288]⟩
abbrev S_ : Shape := ⟨0, ![]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S4096x12288, .bf16⟩
  | .hbm, ⟨2, _⟩ => ⟨S_, .f32⟩
  | .hbm, ⟨3, _⟩ => ⟨S4096x4096, .f32⟩
  | .hbm, ⟨4, _⟩ => ⟨S4096x12288, .f32⟩
  | .hbm, ⟨5, _⟩ => ⟨S4096x12288, .f32⟩
  | .hbm, ⟨6, _⟩ => ⟨S4096x12288, .f32⟩
  | .hbm, ⟨7, _⟩ => ⟨S4096x4096, .f32⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutWeightGrad.lean ====
abbrev S4096x4096 : Shape := ⟨2, ![4096, 4096]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWeightGradRefIdeal.lean ====
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutInputGrad.lean ====
abbrev S4096x4096 : Shape := ⟨2, ![4096, 4096]⟩
abbrev S512x4096 : Shape := ⟨2, ![512, 4096]⟩
abbrev S1024x4096 : Shape := ⟨2, ![1024, 4096]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutInputGradRefIdeal.lean ====
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnUpdate.lean ====
abbrev S8x1376x4096 : Shape := ⟨3, ![8, 1376, 4096]⟩
abbrev S1376x4096 : Shape := ⟨2, ![1376, 4096]⟩
abbrev S8x32x4096 : Shape := ⟨3, ![8, 32, 4096]⟩
abbrev S32x4096 : Shape := ⟨2, ![32, 4096]⟩
abbrev S1x32x4096 : Shape := ⟨3, ![1, 32, 4096]⟩

abbrev nBuf : Space → Nat
  | .hbm => 8
  | .vmem => 16
  | .smem => 0
  | _ => 0

abbrev bufTy : (tb : Table) → Fin (tcTables nBuf tb) → BufTy
  | .hbm, ⟨0, _⟩ => ⟨S8x1376x4096, .bf16⟩
  | .hbm, ⟨1, _⟩ => ⟨S1376x4096, .f32⟩
  | .hbm, ⟨2, _⟩ => ⟨S1376x4096, .f32⟩
  | .hbm, ⟨3, _⟩ => ⟨S1376x4096, .f32⟩
  | .hbm, ⟨4, _⟩ => ⟨S1376x4096, .f32⟩
  | .hbm, ⟨5, _⟩ => ⟨S1376x4096, .f32⟩
  | .hbm, ⟨6, _⟩ => ⟨S1376x4096, .f32⟩
  | .hbm, ⟨7, _⟩ => ⟨S1376x4096, .f32⟩
  | .local _ .vmem, ⟨0, _⟩ => ⟨S8x32x4096, .bf16⟩
  | .local _ .vmem, ⟨1, _⟩ => ⟨S8x32x4096, .bf16⟩
  | .local _ .vmem, ⟨2, _⟩ => ⟨S32x4096, .f32⟩
  | .local _ .vmem, ⟨3, _⟩ => ⟨S32x4096, .f32⟩
  | .local _ .vmem, ⟨4, _⟩ => ⟨S32x4096, .f32⟩
  | .local _ .vmem, ⟨5, _⟩ => ⟨S32x4096, .f32⟩
  | .local _ .vmem, ⟨6, _⟩ => ⟨S32x4096, .f32⟩
  | .local _ .vmem, ⟨7, _⟩ => ⟨S32x4096, .f32⟩
  | .local _ .vmem, ⟨8, _⟩ => ⟨S32x4096, .f32⟩
  | .local _ .vmem, ⟨9, _⟩ => ⟨S32x4096, .f32⟩
  | .local _ .vmem, ⟨10, _⟩ => ⟨S32x4096, .f32⟩
  | .local _ .vmem, ⟨11, _⟩ => ⟨S32x4096, .f32⟩
  | .local _ .vmem, ⟨12, _⟩ => ⟨S32x4096, .f32⟩
  | .local _ .vmem, ⟨13, _⟩ => ⟨S32x4096, .f32⟩
  | .local _ .vmem, ⟨14, _⟩ => ⟨S32x4096, .f32⟩
  | .local _ .vmem, ⟨15, _⟩ => ⟨S32x4096, .f32⟩
  | _, _ => ⟨S8x1376x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![43], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnUpdateRefIdeal.lean ====
abbrev S8x1376x4096 : Shape := ⟨3, ![8, 1376, 4096]⟩
abbrev S1376x4096 : Shape := ⟨2, ![1376, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1376x4096, .bf16⟩
  | .hbm, ⟨1, _⟩ => ⟨S1376x4096, .f32⟩
  | .hbm, ⟨2, _⟩ => ⟨S1376x4096, .f32⟩
  | .hbm, ⟨3, _⟩ => ⟨S1376x4096, .f32⟩
  | .hbm, ⟨4, _⟩ => ⟨S8x1376x4096, .f32⟩
  | .hbm, ⟨5, _⟩ => ⟨S_, .f32⟩
  | .hbm, ⟨6, _⟩ => ⟨S1376x4096, .f32⟩
  | .hbm, ⟨7, _⟩ => ⟨S_, .f32⟩
  | .hbm, ⟨8, _⟩ => ⟨S1376x4096, .f32⟩
  | .hbm, ⟨9, _⟩ => ⟨S1376x4096, .f32⟩
  | .hbm, ⟨10, _⟩ => ⟨S_, .f32⟩
  | .hbm, ⟨11, _⟩ => ⟨S1376x4096, .f32⟩
  | .hbm, ⟨12, _⟩ => ⟨S1376x4096, .f32⟩
  | .hbm, ⟨13, _⟩ => ⟨S1376x4096, .f32⟩
  | .hbm, ⟨14, _⟩ => ⟨S_, .f32⟩
  | .hbm, ⟨15, _⟩ => ⟨S1376x4096, .f32⟩
  | .hbm, ⟨16, _⟩ => ⟨S1376x4096, .f32⟩
  | .hbm, ⟨17, _⟩ => ⟨S1376x4096, .f32⟩
  | .hbm, ⟨18, _⟩ => ⟨S_, .f32⟩
  | .hbm, ⟨19, _⟩ => ⟨S1376x4096, .f32⟩
  | .hbm, ⟨20, _⟩ => ⟨S1376x4096, .f32⟩
  | .hbm, ⟨21, _⟩ => ⟨S1376x4096, .f32⟩
  | .hbm, ⟨22, _⟩ => ⟨S_, .f32⟩
  | .hbm, ⟨23, _⟩ => ⟨S1376x4096, .f32⟩
  | .hbm, ⟨24, _⟩ => ⟨S1376x4096, .f32⟩
  | .hbm, ⟨25, _⟩ => ⟨S_, .f32⟩
  | .hbm, ⟨26, _⟩ => ⟨S1376x4096, .f32⟩
  | .hbm, ⟨27, _⟩ => ⟨S1376x4096, .f32⟩
  | .hbm, ⟨28, _⟩ => ⟨S1376x4096, .f32⟩
  | .hbm, ⟨29, _⟩ => ⟨S_, .f32⟩
  | .hbm, ⟨30, _⟩ => ⟨S1376x4096, .f32⟩
  | .hbm, ⟨31, _⟩ => ⟨S1376x4096, .f32⟩
  | .hbm, ⟨32, _⟩ => ⟨S1376x4096, .f32⟩
  | .hbm, ⟨33, _⟩ => ⟨S_, .f32⟩
  | .hbm, ⟨34, _⟩ => ⟨S1376x4096, .f32⟩
  | .hbm, ⟨35, _⟩ => ⟨S1376x4096, .f32⟩
  | .hbm, ⟨36, _⟩ => ⟨S1376x4096, .f32⟩
  | .hbm, ⟨37, _⟩ => ⟨S_, .f32⟩
  | .hbm, ⟨38, _⟩ => ⟨S1376x4096, .f32⟩
  | .hbm, ⟨39, _⟩ => ⟨S1376x4096, .f32⟩
  | _, _ => ⟨S8x1376x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== OutUpdate.lean ====
abbrev S8x512x4096 : Shape := ⟨3, ![8, 512, 4096]⟩
abbrev S512x4096 : Shape := ⟨2, ![512, 4096]⟩
abbrev S8x128x4096 : Shape := ⟨3, ![8, 128, 4096]⟩
abbrev S128x4096 : Shape := ⟨2, ![128, 4096]⟩
abbrev S1x128x4096 : Shape := ⟨3, ![1, 128, 4096]⟩

abbrev nBuf : Space → Nat
  | .hbm => 8
  | .vmem => 16
  | .smem => 0
  | _ => 0

abbrev bufTy : (tb : Table) → Fin (tcTables nBuf tb) → BufTy
  | .hbm, ⟨0, _⟩ => ⟨S8x512x4096, .bf16⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .local _ .vmem, ⟨0, _⟩ => ⟨S8x128x4096, .bf16⟩
  | .local _ .vmem, ⟨1, _⟩ => ⟨S8x128x4096, .bf16⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | _, _ => ⟨S8x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutUpdateIdeal.lean ====
abbrev S8x512x4096 : Shape := ⟨3, ![8, 512, 4096]⟩
abbrev S512x4096 : Shape := ⟨2, ![512, 4096]⟩
abbrev S8x128x4096 : Shape := ⟨3, ![8, 128, 4096]⟩
abbrev S128x4096 : Shape := ⟨2, ![128, 4096]⟩
abbrev S1x128x4096 : Shape := ⟨3, ![1, 128, 4096]⟩

abbrev nBuf : Space → Nat
  | .hbm => 8
  | .vmem => 16
  | .smem => 0
  | _ => 0

abbrev bufTy : (tb : Table) → Fin (tcTables nBuf tb) → BufTy
  | .hbm, ⟨0, _⟩ => ⟨S8x512x4096, .bf16⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .local _ .vmem, ⟨0, _⟩ => ⟨S8x128x4096, .bf16⟩
  | .local _ .vmem, ⟨1, _⟩ => ⟨S8x128x4096, .bf16⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | _, _ => ⟨S8x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutUpdateRefIdeal.lean ====
abbrev S8x512x4096 : Shape := ⟨3, ![8, 512, 4096]⟩
abbrev S512x4096 : Shape := ⟨2, ![512, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x4096, .bf16⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S8x512x4096, .f32⟩
  | .hbm, ⟨5, _⟩ => ⟨S_, .f32⟩
  | .hbm, ⟨6, _⟩ => ⟨S512x4096, .f32⟩
  | .hbm, ⟨7, _⟩ => ⟨S_, .f32⟩
  | .hbm, ⟨8, _⟩ => ⟨S512x4096, .f32⟩
  | .hbm, ⟨9, _⟩ => ⟨S512x4096, .f32⟩
  | .hbm, ⟨10, _⟩ => ⟨S_, .f32⟩
  | .hbm, ⟨11, _⟩ => ⟨S512x4096, .f32⟩
  | .hbm, ⟨12, _⟩ => ⟨S512x4096, .f32⟩
  | .hbm, ⟨13, _⟩ => ⟨S512x4096, .f32⟩
  | .hbm, ⟨14, _⟩ => ⟨S_, .f32⟩
  | .hbm, ⟨15, _⟩ => ⟨S512x4096, .f32⟩
  | .hbm, ⟨16, _⟩ => ⟨S512x4096, .f32⟩
  | .hbm, ⟨17, _⟩ => ⟨S512x4096, .f32⟩
  | .hbm, ⟨18, _⟩ => ⟨S_, .f32⟩
  | .hbm, ⟨19, _⟩ => ⟨S512x4096, .f32⟩
  | .hbm, ⟨20, _⟩ => ⟨S512x4096, .f32⟩
  | .hbm, ⟨21, _⟩ => ⟨S512x4096, .f32⟩
  | .hbm, ⟨22, _⟩ => ⟨S_, .f32⟩
  | .hbm, ⟨23, _⟩ => ⟨S512x4096, .f32⟩
  | .hbm, ⟨24, _⟩ => ⟨S512x4096, .f32⟩
  | .hbm, ⟨25, _⟩ => ⟨S_, .f32⟩
  | .hbm, ⟨26, _⟩ => ⟨S512x4096, .f32⟩
  | .hbm, ⟨27, _⟩ => ⟨S512x4096, .f32⟩
  | .hbm, ⟨28, _⟩ => ⟨S512x4096, .f32⟩
  | .hbm, ⟨29, _⟩ => ⟨S_, .f32⟩
  | .hbm, ⟨30, _⟩ => ⟨S512x4096, .f32⟩
  | .hbm, ⟨31, _⟩ => ⟨S512x4096, .f32⟩
  | .hbm, ⟨32, _⟩ => ⟨S512x4096, .f32⟩
  | .hbm, ⟨33, _⟩ => ⟨S_, .f32⟩
  | .hbm, ⟨34, _⟩ => ⟨S512x4096, .f32⟩
  | .hbm, ⟨35, _⟩ => ⟨S512x4096, .f32⟩
  | .hbm, ⟨36, _⟩ => ⟨S512x4096, .f32⟩
  | .hbm, ⟨37, _⟩ => ⟨S_, .f32⟩
  | .hbm, ⟨38, _⟩ => ⟨S512x4096, .f32⟩
  | .hbm, ⟨39, _⟩ => ⟨S512x4096, .f32⟩
  | _, _ => ⟨S8x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== InUpdate.lean ====
abbrev S8x4096x1536 : Shape := ⟨3, ![8, 4096, 1536]⟩
abbrev S4096x1536 : Shape := ⟨2, ![4096, 1536]⟩
abbrev S8x256x1536 : Shape := ⟨3, ![8, 256, 1536]⟩
abbrev S256x1536 : Shape := ⟨2, ![256, 1536]⟩
abbrev S1x256x1536 : Shape := ⟨3, ![1, 256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S8x4096x1536, .bf16⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .local _ .vmem, ⟨0, _⟩ => ⟨S8x256x1536, .bf16⟩
  | .local _ .vmem, ⟨1, _⟩ => ⟨S8x256x1536, .bf16⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S8x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InUpdateIdeal.lean ====
abbrev S8x4096x1536 : Shape := ⟨3, ![8, 4096, 1536]⟩
abbrev S4096x1536 : Shape := ⟨2, ![4096, 1536]⟩
abbrev S8x256x1536 : Shape := ⟨3, ![8, 256, 1536]⟩
abbrev S256x1536 : Shape := ⟨2, ![256, 1536]⟩
abbrev S1x256x1536 : Shape := ⟨3, ![1, 256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S8x4096x1536, .bf16⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .local _ .vmem, ⟨0, _⟩ => ⟨S8x256x1536, .bf16⟩
  | .local _ .vmem, ⟨1, _⟩ => ⟨S8x256x1536, .bf16⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S8x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InUpdateRefIdeal.lean ====
abbrev S8x4096x1536 : Shape := ⟨3, ![8, 4096, 1536]⟩
abbrev S4096x1536 : Shape := ⟨2, ![4096, 1536]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x1536, .bf16⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S8x4096x1536, .f32⟩
  | .hbm, ⟨5, _⟩ => ⟨S_, .f32⟩
  | .hbm, ⟨6, _⟩ => ⟨S4096x1536, .f32⟩
  | .hbm, ⟨7, _⟩ => ⟨S_, .f32⟩
  | .hbm, ⟨8, _⟩ => ⟨S4096x1536, .f32⟩
  | .hbm, ⟨9, _⟩ => ⟨S4096x1536, .f32⟩
  | .hbm, ⟨10, _⟩ => ⟨S_, .f32⟩
  | .hbm, ⟨11, _⟩ => ⟨S4096x1536, .f32⟩
  | .hbm, ⟨12, _⟩ => ⟨S4096x1536, .f32⟩
  | .hbm, ⟨13, _⟩ => ⟨S4096x1536, .f32⟩
  | .hbm, ⟨14, _⟩ => ⟨S_, .f32⟩
  | .hbm, ⟨15, _⟩ => ⟨S4096x1536, .f32⟩
  | .hbm, ⟨16, _⟩ => ⟨S4096x1536, .f32⟩
  | .hbm, ⟨17, _⟩ => ⟨S4096x1536, .f32⟩
  | .hbm, ⟨18, _⟩ => ⟨S_, .f32⟩
  | .hbm, ⟨19, _⟩ => ⟨S4096x1536, .f32⟩
  | .hbm, ⟨20, _⟩ => ⟨S4096x1536, .f32⟩
  | .hbm, ⟨21, _⟩ => ⟨S4096x1536, .f32⟩
  | .hbm, ⟨22, _⟩ => ⟨S_, .f32⟩
  | .hbm, ⟨23, _⟩ => ⟨S4096x1536, .f32⟩
  | .hbm, ⟨24, _⟩ => ⟨S4096x1536, .f32⟩
  | .hbm, ⟨25, _⟩ => ⟨S_, .f32⟩
  | .hbm, ⟨26, _⟩ => ⟨S4096x1536, .f32⟩
  | .hbm, ⟨27, _⟩ => ⟨S4096x1536, .f32⟩
  | .hbm, ⟨28, _⟩ => ⟨S4096x1536, .f32⟩
  | .hbm, ⟨29, _⟩ => ⟨S_, .f32⟩
  | .hbm, ⟨30, _⟩ => ⟨S4096x1536, .f32⟩
  | .hbm, ⟨31, _⟩ => ⟨S4096x1536, .f32⟩
  | .hbm, ⟨32, _⟩ => ⟨S4096x1536, .f32⟩
  | .hbm, ⟨33, _⟩ => ⟨S_, .f32⟩
  | .hbm, ⟨34, _⟩ => ⟨S4096x1536, .f32⟩
  | .hbm, ⟨35, _⟩ => ⟨S4096x1536, .f32⟩
  | .hbm, ⟨36, _⟩ => ⟨S4096x1536, .f32⟩
  | .hbm, ⟨37, _⟩ => ⟨S_, .f32⟩
  | .hbm, ⟨38, _⟩ => ⟨S4096x1536, .f32⟩
  | .hbm, ⟨39, _⟩ => ⟨S4096x1536, .f32⟩
  | _, _ => ⟨S8x4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== GainUpdate.lean ====
abbrev S8x1x16384 : Shape := ⟨3, ![8, 1, 16384]⟩
abbrev S1x16384 : Shape := ⟨2, ![1, 16384]⟩
abbrev S1x1x16384 : Shape := ⟨3, ![1, 1, 16384]⟩

abbrev nBuf : Space → Nat
  | .hbm => 8
  | .vmem => 8
  | .smem => 0
  | _ => 0

abbrev bufTy : (tb : Table) → Fin (tcTables nBuf tb) → BufTy
  | .hbm, ⟨0, _⟩ => ⟨S8x1x16384, .f32⟩
  | .hbm, ⟨1, _⟩ => ⟨S1x16384, .f32⟩
  | .hbm, ⟨2, _⟩ => ⟨S1x16384, .f32⟩
  | .hbm, ⟨3, _⟩ => ⟨S1x16384, .f32⟩
  | .hbm, ⟨4, _⟩ => ⟨S1x16384, .f32⟩
  | .hbm, ⟨5, _⟩ => ⟨S1x16384, .f32⟩
  | .hbm, ⟨6, _⟩ => ⟨S1x16384, .f32⟩
  | .hbm, ⟨7, _⟩ => ⟨S1x16384, .f32⟩
  | .local _ .vmem, ⟨0, _⟩ => ⟨S8x1x16384, .f32⟩
  | .local _ .vmem, ⟨1, _⟩ => ⟨S1x16384, .f32⟩
  | .local _ .vmem, ⟨2, _⟩ => ⟨S1x16384, .f32⟩
  | .local _ .vmem, ⟨3, _⟩ => ⟨S1x16384, .f32⟩
  | .local _ .vmem, ⟨4, _⟩ => ⟨S1x16384, .f32⟩
  | .local _ .vmem, ⟨5, _⟩ => ⟨S1x16384, .f32⟩
  | .local _ .vmem, ⟨6, _⟩ => ⟨S1x16384, .f32⟩
  | .local _ .vmem, ⟨7, _⟩ => ⟨S1x16384, .f32⟩
  | _, _ => ⟨S8x1x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x16384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== GainUpdateRefIdeal.lean ====
abbrev S8x1x16384 : Shape := ⟨3, ![8, 1, 16384]⟩
abbrev S1x16384 : Shape := ⟨2, ![1, 16384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x16384, .f32⟩
  | .hbm, ⟨1, _⟩ => ⟨S1x16384, .f32⟩
  | .hbm, ⟨2, _⟩ => ⟨S1x16384, .f32⟩
  | .hbm, ⟨3, _⟩ => ⟨S1x16384, .f32⟩
  | .hbm, ⟨4, _⟩ => ⟨S_, .f32⟩
  | .hbm, ⟨5, _⟩ => ⟨S1x16384, .f32⟩
  | .hbm, ⟨6, _⟩ => ⟨S_, .f32⟩
  | .hbm, ⟨7, _⟩ => ⟨S1x16384, .f32⟩
  | .hbm, ⟨8, _⟩ => ⟨S1x16384, .f32⟩
  | .hbm, ⟨9, _⟩ => ⟨S_, .f32⟩
  | .hbm, ⟨10, _⟩ => ⟨S1x16384, .f32⟩
  | .hbm, ⟨11, _⟩ => ⟨S1x16384, .f32⟩
  | .hbm, ⟨12, _⟩ => ⟨S1x16384, .f32⟩
  | .hbm, ⟨13, _⟩ => ⟨S_, .f32⟩
  | .hbm, ⟨14, _⟩ => ⟨S1x16384, .f32⟩
  | .hbm, ⟨15, _⟩ => ⟨S1x16384, .f32⟩
  | .hbm, ⟨16, _⟩ => ⟨S1x16384, .f32⟩
  | .hbm, ⟨17, _⟩ => ⟨S_, .f32⟩
  | .hbm, ⟨18, _⟩ => ⟨S1x16384, .f32⟩
  | .hbm, ⟨19, _⟩ => ⟨S1x16384, .f32⟩
  | .hbm, ⟨20, _⟩ => ⟨S1x16384, .f32⟩
  | .hbm, ⟨21, _⟩ => ⟨S_, .f32⟩
  | .hbm, ⟨22, _⟩ => ⟨S1x16384, .f32⟩
  | .hbm, ⟨23, _⟩ => ⟨S1x16384, .f32⟩
  | .hbm, ⟨24, _⟩ => ⟨S_, .f32⟩
  | .hbm, ⟨25, _⟩ => ⟨S1x16384, .f32⟩
  | .hbm, ⟨26, _⟩ => ⟨S1x16384, .f32⟩
  | .hbm, ⟨27, _⟩ => ⟨S1x16384, .f32⟩
  | .hbm, ⟨28, _⟩ => ⟨S_, .f32⟩
  | .hbm, ⟨29, _⟩ => ⟨S1x16384, .f32⟩
  | .hbm, ⟨30, _⟩ => ⟨S1x16384, .f32⟩
  | .hbm, ⟨31, _⟩ => ⟨S1x16384, .f32⟩
  | .hbm, ⟨32, _⟩ => ⟨S_, .f32⟩
  | .hbm, ⟨33, _⟩ => ⟨S1x16384, .f32⟩
  | .hbm, ⟨34, _⟩ => ⟨S1x16384, .f32⟩
  | .hbm, ⟨35, _⟩ => ⟨S1x16384, .f32⟩
  | .hbm, ⟨36, _⟩ => ⟨S_, .f32⟩
  | .hbm, ⟨37, _⟩ => ⟨S1x16384, .f32⟩
  | .hbm, ⟨38, _⟩ => ⟨S1x16384, .f32⟩
  | _, _ => ⟨S8x1x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Norm.lean ====
abbrev S4096x4096 : Shape := ⟨2, ![4096, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormGrad.lean ====
abbrev S4096x4096 : Shape := ⟨2, ![4096, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S4096 : Shape := ⟨1, ![4096]⟩

abbrev nBuf : Space → Nat
  | .hbm => 7
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .bf16⟩
  | .local _ .vmem, ⟨10, _⟩ => ⟨S256x4096, .bf16⟩
  | .local _ .vmem, ⟨11, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormGradRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S1x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== LossGrad.lean ====
abbrev S4096x4096 : Shape := ⟨2, ![4096, 4096]⟩
abbrev S1x4096 : Shape := ⟨2, ![1, 4096]⟩
abbrev S8x128 : Shape := ⟨2, ![8, 128]⟩
abbrev S256x4096 : Shape := ⟨2, ![256, 4096]⟩
abbrev S256 : Shape := ⟨1, ![256]⟩
abbrev S256x1 : Shape := ⟨2, ![256, 1]⟩
abbrev S4096 : Shape := ⟨1, ![4096]⟩
abbrev S1x256x4096 : Shape := ⟨3, ![1, 256, 4096]⟩
abbrev S1 : Shape := ⟨1, ![1]⟩
abbrev S1x1x1 : Shape := ⟨3, ![1, 1, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S4096x4096, .f32⟩
  | .hbm, ⟨4, _⟩ => ⟨S4096x4096, .bf16⟩
  | .hbm, ⟨5, _⟩ => ⟨S1x4096, .f32⟩
  | .hbm, ⟨6, _⟩ => ⟨S8x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .bf16⟩
  | .local _ .vmem, ⟨8, _⟩ => ⟨S256x4096, .bf16⟩
  | .local _ .vmem, ⟨9, _⟩ => ⟨S1x4096, .f32⟩
  | .local _ .vmem, ⟨10, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossGradRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x4096, .f32⟩
  | .hbm, ⟨56, _⟩ => ⟨S4096x4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S4096x4096, .bf16⟩
  | .hbm, ⟨69, _⟩ => ⟨S8x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== GateProj.lean ====
abbrev S4096x4096 : Shape := ⟨2, ![4096, 4096]⟩
abbrev S4096x11008 : Shape := ⟨2, ![4096, 11008]⟩
abbrev S11008x4096 : Shape := ⟨2, ![11008, 4096]⟩
abbrev S8x1376x4096 : Shape := ⟨3, ![8, 1376, 4096]⟩
abbrev S8x4096x1376 : Shape := ⟨3, ![8, 4096, 1376]⟩
abbrev S512x4096 : Shape := ⟨2, ![512, 4096]⟩
abbrev S1x1376x4096 : Shape := ⟨3, ![1, 1376, 4096]⟩
abbrev S1x512x1376 : Shape := ⟨3, ![1, 512, 1376]⟩
abbrev S512x1376 : Shape := ⟨2, ![512, 1376]⟩
abbrev S1376x4096 : Shape := ⟨2, ![1376, 4096]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x11008, .bf16⟩
  | .hbm, ⟨2, _⟩ => ⟨S11008x4096, .bf16⟩
  | .hbm, ⟨3, _⟩ => ⟨S8x1376x4096, .bf16⟩
  | .hbm, ⟨4, _⟩ => ⟨S8x4096x1376, .bf16⟩
  | .local _ .vmem, ⟨0, _⟩ => ⟨S512x4096, .bf16⟩
  | .local _ .vmem, ⟨1, _⟩ => ⟨S512x4096, .bf16⟩
  | .local _ .vmem, ⟨2, _⟩ => ⟨S1x1376x4096, .bf16⟩
  | .local _ .vmem, ⟨3, _⟩ => ⟨S1x1376x4096, .bf16⟩
  | .local _ .vmem, ⟨4, _⟩ => ⟨S1x512x1376, .bf16⟩
  | .local _ .vmem, ⟨5, _⟩ => ⟨S1x512x1376, .bf16⟩
  | .local _ .vmem, ⟨6, _⟩ => ⟨S512x1376, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1376x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x512x1376 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateProjRefIdeal.lean ====
abbrev S4096x4096 : Shape := ⟨2, ![4096, 4096]⟩
abbrev S4096x11008 : Shape := ⟨2, ![4096, 11008]⟩
abbrev S4096x8x1376 : Shape := ⟨3, ![4096, 8, 1376]⟩
abbrev S8x4096x1376 : Shape := ⟨3, ![8, 4096, 1376]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x11008, .bf16⟩
  | .hbm, ⟨2, _⟩ => ⟨S4096x4096, .f32⟩
  | .hbm, ⟨3, _⟩ => ⟨S4096x11008, .f32⟩
  | .hbm, ⟨4, _⟩ => ⟨S4096x11008, .f32⟩
  | .hbm, ⟨5, _⟩ => ⟨S4096x11008, .bf16⟩
  | .hbm, ⟨6, _⟩ => ⟨S4096x8x1376, .bf16⟩
  | .hbm, ⟨7, _⟩ => ⟨S8x4096x1376, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== UpAct.lean ====
abbrev S4096x4096 : Shape := ⟨2, ![4096, 4096]⟩
abbrev S4096x11008 : Shape := ⟨2, ![4096, 11008]⟩
abbrev S11008x4096 : Shape := ⟨2, ![11008, 4096]⟩
abbrev S8x1376x4096 : Shape := ⟨3, ![8, 1376, 4096]⟩
abbrev S4096x8x1376 : Shape := ⟨3, ![4096, 8, 1376]⟩
abbrev S8x4096x1376 : Shape := ⟨3, ![8, 4096, 1376]⟩
abbrev S512x4096 : Shape := ⟨2, ![512, 4096]⟩
abbrev S1x1376x4096 : Shape := ⟨3, ![1, 1376, 4096]⟩
abbrev S1x512x1376 : Shape := ⟨3, ![1, 512, 1376]⟩
abbrev S512x1376 : Shape := ⟨2, ![512, 1376]⟩
abbrev S1376x4096 : Shape := ⟨2, ![1376, 4096]⟩
abbrev S256x1376 : Shape := ⟨2, ![256, 1376]⟩
abbrev S1x256x1376 : Shape := ⟨3, ![1, 256, 1376]⟩

abbrev nBuf : Space → Nat
  | .hbm => 9
  | .vmem => 11
  | .smem => 0
  | _ => 0

abbrev bufTy : (tb : Table) → Fin (tcTables nBuf tb) → BufTy
  | .hbm, ⟨0, _⟩ => ⟨S4096x4096, .bf16⟩
  | .hbm, ⟨1, _⟩ => ⟨S4096x11008, .bf16⟩
  | .hbm, ⟨2, _⟩ => ⟨S4096x11008, .bf16⟩
  | .hbm, ⟨3, _⟩ => ⟨S11008x4096, .bf16⟩
  | .hbm, ⟨4, _⟩ => ⟨S8x1376x4096, .bf16⟩
  | .hbm, ⟨5, _⟩ => ⟨S4096x8x1376, .bf16⟩
  | .hbm, ⟨6, _⟩ => ⟨S8x4096x1376, .bf16⟩
  | .hbm, ⟨7, _⟩ => ⟨S8x4096x1376, .bf16⟩
  | .hbm, ⟨8, _⟩ => ⟨S8x4096x1376, .bf16⟩
  | .local _ .vmem, ⟨0, _⟩ => ⟨S512x4096, .bf16⟩
  | .local _ .vmem, ⟨1, _⟩ => ⟨S512x4096, .bf16⟩
  | .local _ .vmem, ⟨2, _⟩ => ⟨S1x1376x4096, .bf16⟩
  | .local _ .vmem, ⟨3, _⟩ => ⟨S1x1376x4096, .bf16⟩
  | .local _ .vmem, ⟨4, _⟩ => ⟨S1x512x1376, .bf16⟩
  | .local _ .vmem, ⟨5, _⟩ => ⟨S1x512x1376, .bf16⟩
  | .local _ .vmem, ⟨6, _⟩ => ⟨S1x512x1376, .bf16⟩
  | .local _ .vmem, ⟨7, _⟩ => ⟨S1x512x1376, .bf16⟩
  | .local _ .vmem, ⟨8, _⟩ => ⟨S1x512x1376, .bf16⟩
  | .local _ .vmem, ⟨9, _⟩ => ⟨S1x512x1376, .bf16⟩
  | .local _ .vmem, ⟨10, _⟩ => ⟨S512x1376, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1376x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x512x1376 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1376 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x1376 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== UpActRefIdeal.lean ====
abbrev S4096x4096 : Shape := ⟨2, ![4096, 4096]⟩
abbrev S4096x11008 : Shape := ⟨2, ![4096, 11008]⟩
abbrev S_ : Shape := ⟨0, ![]⟩
abbrev S4096x8x1376 : Shape := ⟨3, ![4096, 8, 1376]⟩
abbrev S8x4096x1376 : Shape := ⟨3, ![8, 4096, 1376]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x11008, .bf16⟩
  | .hbm, ⟨2, _⟩ => ⟨S4096x11008, .bf16⟩
  | .hbm, ⟨3, _⟩ => ⟨S4096x4096, .f32⟩
  | .hbm, ⟨4, _⟩ => ⟨S4096x11008, .f32⟩
  | .hbm, ⟨5, _⟩ => ⟨S4096x11008, .f32⟩
  | .hbm, ⟨6, _⟩ => ⟨S4096x11008, .f32⟩
  | .hbm, ⟨7, _⟩ => ⟨S4096x11008, .f32⟩
  | .hbm, ⟨8, _⟩ => ⟨S4096x11008, .f32⟩
  | .hbm, ⟨9, _⟩ => ⟨S_, .f32⟩
  | .hbm, ⟨10, _⟩ => ⟨S4096x11008, .f32⟩
  | .hbm, ⟨11, _⟩ => ⟨S4096x11008, .f32⟩
  | .hbm, ⟨12, _⟩ => ⟨S_, .f32⟩
  | .hbm, ⟨13, _⟩ => ⟨S4096x11008, .f32⟩
  | .hbm, ⟨14, _⟩ => ⟨S4096x11008, .f32⟩
  | .hbm, ⟨15, _⟩ => ⟨S4096x11008, .f32⟩
  | .hbm, ⟨16, _⟩ => ⟨S4096x11008, .f32⟩
  | .hbm, ⟨17, _⟩ => ⟨S4096x11008, .bf16⟩
  | .hbm, ⟨18, _⟩ => ⟨S4096x8x1376, .bf16⟩
  | .hbm, ⟨19, _⟩ => ⟨S8x4096x1376, .bf16⟩
  | .hbm, ⟨20, _⟩ => ⟨S4096x11008, .bf16⟩
  | .hbm, ⟨21, _⟩ => ⟨S4096x8x1376, .bf16⟩
  | .hbm, ⟨22, _⟩ => ⟨S8x4096x1376, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== DownProj.lean ====
abbrev S4096x11008 : Shape := ⟨2, ![4096, 11008]⟩
abbrev S11008x4096 : Shape := ⟨2, ![11008, 4096]⟩
abbrev S4096x4096 : Shape := ⟨2, ![4096, 4096]⟩
abbrev S4096x8x1376 : Shape := ⟨3, ![4096, 8, 1376]⟩
abbrev S8x4096x1376 : Shape := ⟨3, ![8, 4096, 1376]⟩
abbrev S8x1376x4096 : Shape := ⟨3, ![8, 1376, 4096]⟩
abbrev S4x512x1376 : Shape := ⟨3, ![4, 512, 1376]⟩
abbrev S4x1376x1024 : Shape := ⟨3, ![4, 1376, 1024]⟩
abbrev S512x1024 : Shape := ⟨2, ![512, 1024]⟩
abbrev S1x512x1376 : Shape := ⟨3, ![1, 512, 1376]⟩
abbrev S512x1376 : Shape := ⟨2, ![512, 1376]⟩
abbrev S1x1376x1024 : Shape := ⟨3, ![1, 1376, 1024]⟩
abbrev S1376x1024 : Shape := ⟨2, ![1376, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x11008, .bf16⟩
  | .hbm, ⟨1, _⟩ => ⟨S11008x4096, .bf16⟩
  | .hbm, ⟨2, _⟩ => ⟨S4096x4096, .f32⟩
  | .hbm, ⟨3, _⟩ => ⟨S4096x8x1376, .bf16⟩
  | .hbm, ⟨4, _⟩ => ⟨S8x4096x1376, .bf16⟩
  | .hbm, ⟨5, _⟩ => ⟨S8x1376x4096, .bf16⟩
  | .hbm, ⟨6, _⟩ => ⟨S4096x4096, .f32⟩
  | .local _ .vmem, ⟨0, _⟩ => ⟨S4x512x1376, .bf16⟩
  | .local _ .vmem, ⟨1, _⟩ => ⟨S4x512x1376, .bf16⟩
  | .local _ .vmem, ⟨2, _⟩ => ⟨S4x1376x1024, .bf16⟩
  | .local _ .vmem, ⟨3, _⟩ => ⟨S4x1376x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def k0_cond3 (i : grid0.Coords) : BitVec 1 :=
  let arg2 : BitVec 32 := BitVec.ofNat 32 (i 2).val
  let c1_i32 : BitVec 32 := 1#32
  let v29 : BitVec 1 := Scalar.cmpi .eq arg2 c1_i32
  let v30 : BitVec 32 := Scalar.extui v29
  let c0_i32_26 : BitVec 32 := 0#32
  let v31 : BitVec 1 := Scalar.cmpi .ne v30 c0_i32_26
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4x512x1376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1376x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownProjRefIdeal.lean ====
abbrev S4096x11008 : Shape := ⟨2, ![4096, 11008]⟩
abbrev S11008x4096 : Shape := ⟨2, ![11008, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x11008, .bf16⟩
  | .hbm, ⟨1, _⟩ => ⟨S11008x4096, .bf16⟩
  | .hbm, ⟨2, _⟩ => ⟨S4096x4096, .f32⟩
  | .hbm, ⟨3, _⟩ => ⟨S4096x11008, .f32⟩
  | .hbm, ⟨4, _⟩ => ⟨S11008x4096, .f32⟩
  | .hbm, ⟨5, _⟩ => ⟨S4096x4096, .f32⟩
  | .hbm, ⟨6, _⟩ => ⟨S4096x4096, .f32⟩
  | _, _ => ⟨S4096x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutProj.lean ====
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InProj.lean ====
abbrev S4096x4096 : Shape := ⟨2, ![4096, 4096]⟩
abbrev S4096x12288 : Shape := ⟨2, ![4096, 12288]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S4096x8x1536 : Shape := ⟨3, ![4096, 8, 1536]⟩
abbrev S8x4096x1536 : Shape := ⟨3, ![8, 4096, 1536]⟩
abbrev S512x4096 : Shape := ⟨2, ![512, 4096]⟩
abbrev S1x4096x1536 : Shape := ⟨3, ![1, 4096, 1536]⟩
abbrev S512x128 : Shape := ⟨2, ![512, 128]⟩
abbrev S512x1536 : Shape := ⟨2, ![512, 1536]⟩
abbrev S4096x1536 : Shape := ⟨2, ![4096, 1536]⟩
abbrev S256x128 : Shape := ⟨2, ![256, 128]⟩

abbrev nBuf : Space → Nat
  | .hbm => 34
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S4096, .i32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S4096, .f32⟩
  | .hbm, ⟨12, _⟩ => ⟨S4096x1, .f32⟩
  | .hbm, ⟨13, _⟩ => ⟨S1x16, .f32⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S_, .f32⟩
  | .hbm, ⟨20, _⟩ => ⟨S4096x16, .f32⟩
  | .hbm, ⟨21, _⟩ => ⟨S_, .f32⟩
  | .hbm, ⟨22, _⟩ => ⟨S4096x96, .f32⟩
  | .hbm, ⟨23, _⟩ => ⟨S4096x128, .f32⟩
  | .hbm, ⟨24, _⟩ => ⟨S_, .f32⟩
  | .hbm, ⟨25, _⟩ => ⟨S4096x96, .f32⟩
  | .hbm, ⟨26, _⟩ => ⟨S4096x128, .f32⟩
  | .hbm, ⟨27, _⟩ => ⟨S4096x16, .f32⟩
  | .hbm, ⟨28, _⟩ => ⟨S_, .f32⟩
  | .hbm, ⟨29, _⟩ => ⟨S4096x96, .f32⟩
  | .hbm, ⟨30, _⟩ => ⟨S4096x128, .f32⟩
  | .hbm, ⟨31, _⟩ => ⟨S4096x8x1536, .bf16⟩
  | .hbm, ⟨32, _⟩ => ⟨S8x4096x1536, .bf16⟩
  | .hbm, ⟨33, _⟩ => ⟨S4096x12288, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1536, .bf16⟩
  | .local _ .vmem, ⟨3, _⟩ => ⟨S1x4096x1536, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1536, .bf16⟩
  | .local _ .vmem, ⟨11, _⟩ => ⟨S512x1536, .bf16⟩
  | .local _ .vmem, ⟨12, _⟩ => ⟨S512x1536, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x4096x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== InProjRefIdeal.lean ====
abbrev S4096x4096 : Shape := ⟨2, ![4096, 4096]⟩
abbrev S4096x12288 : Shape := ⟨2, ![4096, 12288]⟩
abbrev S4096 : Shape := ⟨1, ![4096]⟩
abbrev S4096x2048 : Shape := ⟨2, ![4096, 2048]⟩
abbrev S4096x8192 : Shape := ⟨2, ![4096, 8192]⟩
abbrev S4096x16x128 : Shape := ⟨3, ![4096, 16, 128]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4096x16x16 : Shape := ⟨3, ![4096, 16, 16]⟩
abbrev S4096x16x32 : Shape := ⟨3, ![4096, 16, 32]⟩
abbrev S4096x16x96 : Shape := ⟨3, ![4096, 16, 96]⟩

abbrev nBuf : Space → Nat
  | .hbm => 81
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S4096, .i32⟩
  | .hbm, ⟨3, _⟩ => ⟨S4096x4096, .f32⟩
  | .hbm, ⟨4, _⟩ => ⟨S4096x12288, .f32⟩
  | .hbm, ⟨5, _⟩ => ⟨S4096x12288, .f32⟩
  | .hbm, ⟨6, _⟩ => ⟨S4096x2048, .f32⟩
  | .hbm, ⟨7, _⟩ => ⟨S4096x2048, .f32⟩
  | .hbm, ⟨8, _⟩ => ⟨S4096x8192, .f32⟩
  | .hbm, ⟨9, _⟩ => ⟨S4096x16x128, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S4096, .f32⟩
  | .hbm, ⟨19, _⟩ => ⟨S4096x1, .f32⟩
  | .hbm, ⟨20, _⟩ => ⟨S1x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S4096x1x16, .f32⟩
  | .hbm, ⟨26, _⟩ => ⟨S4096x16, .f32⟩
  | .hbm, ⟨27, _⟩ => ⟨S4096x1x16, .f32⟩
  | .hbm, ⟨28, _⟩ => ⟨S4096x16x16, .f32⟩
  | .hbm, ⟨29, _⟩ => ⟨S4096x16x16, .f32⟩
  | .hbm, ⟨30, _⟩ => ⟨S4096x16x16, .f32⟩
  | .hbm, ⟨31, _⟩ => ⟨S4096x16x16, .f32⟩
  | .hbm, ⟨32, _⟩ => ⟨S4096x16x16, .f32⟩
  | .hbm, ⟨33, _⟩ => ⟨S4096x16x16, .f32⟩
  | .hbm, ⟨34, _⟩ => ⟨S4096x16x16, .f32⟩
  | .hbm, ⟨35, _⟩ => ⟨S4096x16x16, .f32⟩
  | .hbm, ⟨36, _⟩ => ⟨S4096x16x16, .f32⟩
  | .hbm, ⟨37, _⟩ => ⟨S4096x16x16, .f32⟩
  | .hbm, ⟨38, _⟩ => ⟨S4096x16x16, .f32⟩
  | .hbm, ⟨39, _⟩ => ⟨S4096x16x16, .f32⟩
  | .hbm, ⟨40, _⟩ => ⟨S4096x16x32, .f32⟩
  | .hbm, ⟨41, _⟩ => ⟨S4096x16x96, .f32⟩
  | .hbm, ⟨42, _⟩ => ⟨S4096x16x128, .f32⟩
  | .hbm, ⟨43, _⟩ => ⟨S4096x2048, .f32⟩
  | .hbm, ⟨44, _⟩ => ⟨S4096x16x128, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S4096, .f32⟩
  | .hbm, ⟨54, _⟩ => ⟨S4096x1, .f32⟩
  | .hbm, ⟨55, _⟩ => ⟨S1x16, .f32⟩
  | .hbm, ⟨56, _⟩ => ⟨S4096x16, .f32⟩
  | .hbm, ⟨57, _⟩ => ⟨S4096x16, .f32⟩
  | .hbm, ⟨58, _⟩ => ⟨S4096x16, .f32⟩
  | .hbm, ⟨59, _⟩ => ⟨S4096x16, .f32⟩
  | .hbm, ⟨60, _⟩ => ⟨S4096x1x16, .f32⟩
  | .hbm, ⟨61, _⟩ => ⟨S4096x16, .f32⟩
  | .hbm, ⟨62, _⟩ => ⟨S4096x1x16, .f32⟩
  | .hbm, ⟨63, _⟩ => ⟨S4096x16x16, .f32⟩
  | .hbm, ⟨64, _⟩ => ⟨S4096x16x16, .f32⟩
  | .hbm, ⟨65, _⟩ => ⟨S4096x16x16, .f32⟩
  | .hbm, ⟨66, _⟩ => ⟨S4096x16x16, .f32⟩
  | .hbm, ⟨67, _⟩ => ⟨S4096x16x16, .f32⟩
  | .hbm, ⟨68, _⟩ => ⟨S4096x16x16, .f32⟩
  | .hbm, ⟨69, _⟩ => ⟨S4096x16x16, .f32⟩
  | .hbm, ⟨70, _⟩ => ⟨S4096x16x16, .f32⟩
  | .hbm, ⟨71, _⟩ => ⟨S4096x16x16, .f32⟩
  | .hbm, ⟨72, _⟩ => ⟨S4096x16x16, .f32⟩
  | .hbm, ⟨73, _⟩ => ⟨S4096x16x16, .f32⟩
  | .hbm, ⟨74, _⟩ => ⟨S4096x16x16, .f32⟩
  | .hbm, ⟨75, _⟩ => ⟨S4096x16x32, .f32⟩
  | .hbm, ⟨76, _⟩ => ⟨S4096x16x96, .f32⟩
  | .hbm, ⟨77, _⟩ => ⟨S4096x16x128, .f32⟩
  | .hbm, ⟨78, _⟩ => ⟨S4096x2048, .f32⟩
  | .hbm, ⟨79, _⟩ => ⟨S4096x12288, .f32⟩
  | .hbm, ⟨80, _⟩ => ⟨S4096x12288, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_cst_1 : Ref sig .tc := ⟨.hbm, 47, rfl⟩
abbrev main_v42 : Ref sig .tc := ⟨.hbm, 48, rfl⟩
abbrev main_v43 : Ref sig .tc := ⟨.hbm, 49, rfl⟩
abbrev main_cst_2 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩

abbrev nD : Nat := 1
abbrev τ : Topo := Topo.v7x

variable {F : FTy → Type} [FloatOps F]
-- ==== StickHeads.lean ====
abbrev S4096x12288 : Shape := ⟨2, ![4096, 12288]⟩
abbrev S1x2048 : Shape := ⟨2, ![1, 2048]⟩
abbrev S4096x4096 : Shape := ⟨2, ![4096, 4096]⟩
abbrev S_ : Shape := ⟨0, ![]⟩
abbrev S65536x128 : Shape := ⟨2, ![65536, 128]⟩
abbrev S2048x128 : Shape := ⟨2, ![2048, 128]⟩
abbrev S1x128 : Shape := ⟨2, ![1, 128]⟩
abbrev S256x256 : Shape := ⟨2, ![256, 256]⟩
abbrev S1024x128 : Shape := ⟨2, ![1024, 128]⟩
abbrev S1024x1 : Shape := ⟨2, ![1024, 1]⟩
abbrev S256x128 : Shape := ⟨2, ![256, 128]⟩
abbrev S1024x256 : Shape := ⟨2, ![1024, 256]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S4096x12288, .bf16⟩
  | .hbm, ⟨1, _⟩ => ⟨S1x2048, .f32⟩
  | .hbm, ⟨2, _⟩ => ⟨S4096x4096, .bf16⟩
  | .hbm, ⟨3, _⟩ => ⟨S_, .f32⟩
  | .hbm, ⟨4, _⟩ => ⟨S4096x4096, .f32⟩
  | .hbm, ⟨5, _⟩ => ⟨S4096x4096, .bf16⟩
  | .hbm, ⟨6, _⟩ => ⟨S4096x4096, .f32⟩
  | .hbm, ⟨7, _⟩ => ⟨S65536x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x128, .f32⟩
  | .local _ .vmem, ⟨7, _⟩ => ⟨S1x128, .f32⟩
  | .local _ .vmem, ⟨8, _⟩ => ⟨S2048x128, .bf16⟩
  | .local _ .vmem, ⟨9, _⟩ => ⟨S2048x128, .bf16⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c2_i32 : BitVec 32 := 2#32
  let v7 : BitVec 32 := Scalar.addi c0_i32 c2_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c1024_i32 : BitVec 32 := 1024#32
  let v8 : BitVec 32 := Scalar.muli arg11 c1024_i32
  v8
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c1024_i32 : BitVec 32 := 1024#32
  let v8 : BitVec 32 := Scalar.muli arg11 c1024_i32
  let v9 : BitVec 32 := v8
  let v10 : Index := Scalar.indexCast v9
  let c0 : Index := 0#32
  ![v10.toNat, 0]
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c4_i32 : BitVec 32 := 4#32
  let v14 : BitVec 32 := Scalar.muli arg11 c4_i32
  let c3_i32 : BitVec 32 := 3#32
  let v15 : BitVec 32 := Scalar.addi v14 c3_i32
  let c256_i32 : BitVec 32 := 256#32
  let v16 : BitVec 32 := Scalar.muli v15 c256_i32
  v16
def k0_off2 (k0_t1 : Fin k0_t1_loop.trips) (c3_i32 : BitVec 32) : Fin 2 → Nat :=
  let c0_i32 : BitVec 32 := 0#32
  let c1_i32 : BitVec 32 := 1#32
  let arg11 : BitVec 32 := Scf.iv c0_i32 c1_i32 k0_t1
  let c4_i32 : BitVec 32 := 4#32
  let v14 : BitVec 32 := Scalar.muli arg11 c4_i32
  let v15 : BitVec 32 := Scalar.addi v14 c3_i32
  let c256_i32 : BitVec 32 := 256#32
  let v16 : BitVec 32 := Scalar.muli v15 c256_i32
  let v17 : BitVec 32 := v16
  let v18 : Index := Scalar.indexCast v17
  let c0_4 : Index := 0#32
  ![v18.toNat, 0]
def k0_mult3 (k0_t1 : Fin k0_t1_loop.trips) : BitVec 32 :=
  let c0_i32 : BitVec 32 := 0#32
  let c1_i32 : BitVec 32 := 1#32
  let arg11 : BitVec 32 := Scf.iv c0_i32 c1_i32 k0_t1
  let c4_i32_18 : BitVec 32 := 4#32
  let v64 : BitVec 32 := Scalar.muli arg11 c4_i32_18
  let c2_i32_19 : BitVec 32 := 2#32
  let v65 : BitVec 32 := Scalar.addi v64 c2_i32_19
  let c256_i32_20 : BitVec 32 := 256#32
  let v66 : BitVec 32 := Scalar.muli v65 c256_i32_20
  v66
def k0_mult4 (k0_t1 : Fin k0_t1_loop.trips) : BitVec 32 :=
  let c0_i32 : BitVec 32 := 0#32
  let c1_i32 : BitVec 32 := 1#32
  let arg11 : BitVec 32 := Scf.iv c0_i32 c1_i32 k0_t1
  let c4_i32_35 : BitVec 32 := 4#32
  let v114 : BitVec 32 := Scalar.muli arg11 c4_i32_35
  let c1_i32_36 : BitVec 32 := 1#32
  let v115 : BitVec 32 := Scalar.addi v114 c1_i32_36
  let c256_i32_37 : BitVec 32 := 256#32
  let v116 : BitVec 32 := Scalar.muli v115 c256_i32_37
  v116
def k0_mult5 (k0_t1 : Fin k0_t1_loop.trips) : BitVec 32 :=
  let c0_i32 : BitVec 32 := 0#32
  let c1_i32 : BitVec 32 := 1#32
  let arg11 : BitVec 32 := Scf.iv c0_i32 c1_i32 k0_t1
  let c4_i32_53 : BitVec 32 := 4#32
  let v164 : BitVec 32 := Scalar.muli arg11 c4_i32_53
  let c0_i32_54 : BitVec 32 := 0#32
  let v165 : BitVec 32 := Scalar.addi v164 c0_i32_54
  let c256_i32_55 : BitVec 32 := 256#32
  let v166 : BitVec 32 := Scalar.muli v165 c256_i32_55
  v166
@[reducible] def k0_t2_loop (k0_t1 : Fin k0_t1_loop.trips) : Scf.Loop 32 :=
  let c0_i32_72 : BitVec 32 := 0#32
  let c0_i32 : BitVec 32 := 0#32
  let c1_i32 : BitVec 32 := 1#32
  let arg11 : BitVec 32 := Scf.iv c0_i32 c1_i32 k0_t1
  let c4_i32_71 : BitVec 32 := 4#32
  let v214 : BitVec 32 := Scalar.muli arg11 c4_i32_71
  let v215 : BitVec 32 := Scalar.subi v214 c0_i32_72
  let c1_i32_73 : BitVec 32 := 1#32
  let v217 : BitVec 32 := Scalar.divsi v215 c1_i32_73
  let v218 : BitVec 32 := Scalar.muli v217 c1_i32_73
  let v219 : BitVec 32 := Scalar.addi c0_i32_72 v218
  let c1_i32_74 : BitVec 32 := 1#32
  ⟨c0_i32_72, v219, c1_i32_74⟩
def k0_mult6 (k0_t1 : Fin k0_t1_loop.trips) (k0_t2 : Fin (k0_t2_loop k0_t1).trips) : BitVec 32 :=
  let c0_i32 : BitVec 32 := 0#32
  let c1_i32 : BitVec 32 := 1#32
  let arg11 : BitVec 32 := Scf.iv c0_i32 c1_i32 k0_t1
  let c4_i32_84 : BitVec 32 := 4#32
  let v244 : BitVec 32 := Scalar.muli arg11 c4_i32_84
  let c1_i32_85 : BitVec 32 := 1#32
  let v245 : BitVec 32 := Scalar.subi v244 c1_i32_85
  let c0_i32_72 : BitVec 32 := 0#32
  let c1_i32_74 : BitVec 32 := 1#32
  let arg12 : BitVec 32 := Scf.iv c0_i32_72 c1_i32_74 k0_t2
  let v246 : BitVec 32 := Scalar.subi v245 arg12
  let c256_i32_86 : BitVec 32 := 256#32
  let v247 : BitVec 32 := Scalar.muli v246 c256_i32_86
  v247
def k0_off3 (k0_t1 : Fin k0_t1_loop.trips) (k0_t2 : Fin (k0_t2_loop k0_t1).trips) : Fin 2 → Nat :=
  let c0_i32 : BitVec 32 := 0#32
  let c1_i32 : BitVec 32 := 1#32
  let arg11 : BitVec 32 := Scf.iv c0_i32 c1_i32 k0_t1
  let c4_i32_84 : BitVec 32 := 4#32
  let v244 : BitVec 32 := Scalar.muli arg11 c4_i32_84
  let c1_i32_85 : BitVec 32 := 1#32
  let v245 : BitVec 32 := Scalar.subi v244 c1_i32_85
  let c0_i32_72 : BitVec 32 := 0#32
  let c1_i32_74 : BitVec 32 := 1#32
  let arg12 : BitVec 32 := Scf.iv c0_i32_72 c1_i32_74 k0_t2
  let v246 : BitVec 32 := Scalar.subi v245 arg12
  let c256_i32_86 : BitVec 32 := 256#32
  let v247 : BitVec 32 := Scalar.muli v246 c256_i32_86
  let v248 : BitVec 32 := v247
  let v249 : Index := Scalar.indexCast v248
  let c0_87 : Index := 0#32
  ![v249.toNat, 0]
@[reducible] def k0_t3_loop (k0_t1 : Fin k0_t1_loop.trips) : Scf.Loop 32 :=
  let c0_i32_72 : BitVec 32 := 0#32
  let c0_i32 : BitVec 32 := 0#32
  let c1_i32 : BitVec 32 := 1#32
  let arg11 : BitVec 32 := Scf.iv c0_i32 c1_i32 k0_t1
  let c4_i32_71 : BitVec 32 := 4#32
  let v214 : BitVec 32 := Scalar.muli arg11 c4_i32_71
  let v215 : BitVec 32 := Scalar.subi v214 c0_i32_72
  let c1_i32_73 : BitVec 32 := 1#32
  let v217 : BitVec 32 := Scalar.divsi v215 c1_i32_73
  let v218 : BitVec 32 := Scalar.muli v217 c1_i32_73
  let v219 : BitVec 32 := Scalar.addi c0_i32_72 v218
  let v216 : BitVec 32 := Scalar.addi c0_i32_72 v215
  let c1_i32_75 : BitVec 32 := 1#32
  ⟨v219, v216, c1_i32_75⟩
def k0_mult7 (k0_t1 : Fin k0_t1_loop.trips) (k0_t3 : Fin (k0_t3_loop k0_t1).trips) : BitVec 32 :=
  let c0_i32 : BitVec 32 := 0#32
  let c1_i32 : BitVec 32 := 1#32
  let arg11 : BitVec 32 := Scf.iv c0_i32 c1_i32 k0_t1
  let c4_i32_84 : BitVec 32 := 4#32
  let v244 : BitVec 32 := Scalar.muli arg11 c4_i32_84
  let c1_i32_85 : BitVec 32 := 1#32
  let v245 : BitVec 32 := Scalar.subi v244 c1_i32_85
  let c0_i32_72 : BitVec 32 := 0#32
  let c4_i32_71 : BitVec 32 := 4#32
  let v214 : BitVec 32 := Scalar.muli arg11 c4_i32_71
  let v215 : BitVec 32 := Scalar.subi v214 c0_i32_72
  let c1_i32_73 : BitVec 32 := 1#32
  let v217 : BitVec 32 := Scalar.divsi v215 c1_i32_73
  let v218 : BitVec 32 := Scalar.muli v217 c1_i32_73
  let v219 : BitVec 32 := Scalar.addi c0_i32_72 v218
  let c1_i32_75 : BitVec 32 := 1#32
  let arg12 : BitVec 32 := Scf.iv v219 c1_i32_75 k0_t3
  let v246 : BitVec 32 := Scalar.subi v245 arg12
  let c256_i32_86 : BitVec 32 := 256#32
  let v247 : BitVec 32 := Scalar.muli v246 c256_i32_86
  v247
def k0_off4 (k0_t1 : Fin k0_t1_loop.trips) (k0_t3 : Fin (k0_t3_loop k0_t1).trips) : Fin 2 → Nat :=
  let c0_i32 : BitVec 32 := 0#32
  let c1_i32 : BitVec 32 := 1#32
  let arg11 : BitVec 32 := Scf.iv c0_i32 c1_i32 k0_t1
  let c4_i32_84 : BitVec 32 := 4#32
  let v244 : BitVec 32 := Scalar.muli arg11 c4_i32_84
  let c1_i32_85 : BitVec 32 := 1#32
  let v245 : BitVec 32 := Scalar.subi v244 c1_i32_85
  let c0_i32_72 : BitVec 32 := 0#32
  let c4_i32_71 : BitVec 32 := 4#32
  let v214 : BitVec 32 := Scalar.muli arg11 c4_i32_71
  let v215 : BitVec 32 := Scalar.subi v214 c0_i32_72
  let c1_i32_73 : BitVec 32 := 1#32
  let v217 : BitVec 32 := Scalar.divsi v215 c1_i32_73
  let v218 : BitVec 32 := Scalar.muli v217 c1_i32_73
  let v219 : BitVec 32 := Scalar.addi c0_i32_72 v218
  let c1_i32_75 : BitVec 32 := 1#32
  let arg12 : BitVec 32 := Scf.iv v219 c1_i32_75 k0_t3
  let v246 : BitVec 32 := Scalar.subi v245 arg12
  let c256_i32_86 : BitVec 32 := 256#32
  let v247 : BitVec 32 := Scalar.muli v246 c256_i32_86
  let v248 : BitVec 32 := v247
  let v249 : Index := Scalar.indexCast v248
  let c0_87 : Index := 0#32
  ![v249.toNat, 0]
def cc0_transform_0 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== StickHeadsRefIdeal.lean ====
abbrev S4096x12288 : Shape := ⟨2, ![4096, 12288]⟩
abbrev S1x2048 : Shape := ⟨2, ![1, 2048]⟩
abbrev S4096x4096 : Shape := ⟨2, ![4096, 4096]⟩
abbrev S4096x6144 : Shape := ⟨2, ![4096, 6144]⟩
abbrev S4096x2048 : Shape := ⟨2, ![4096, 2048]⟩
abbrev S2x2048x16x128 : Shape := ⟨4, ![2, 2048, 16, 128]⟩
abbrev S2x16x2048x2048 : Shape := ⟨4, ![2, 16, 2048, 2048]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩
abbrev S2x16x128x2048 : Shape := ⟨4, ![2, 16, 128, 2048]⟩
abbrev S2x2048x16 : Shape := ⟨3, ![2, 2048, 16]⟩
abbrev S2x2048x16x1 : Shape := ⟨4, ![2, 2048, 16, 1]⟩
abbrev S16x128 : Shape := ⟨2, ![16, 128]⟩
abbrev S1x1x16x128 : Shape := ⟨4, ![1, 1, 16, 128]⟩

abbrev nBuf : Space → Nat
  | .hbm => 94
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S1x2048, .f32⟩
  | .hbm, ⟨2, _⟩ => ⟨S4096x4096, .bf16⟩
  | .hbm, ⟨3, _⟩ => ⟨S4096x6144, .bf16⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x2048, .f32⟩
  | .hbm, ⟨8, _⟩ => ⟨S2x2048x16x128, .f32⟩
  | .hbm, ⟨9, _⟩ => ⟨S4096x2048, .f32⟩
  | .hbm, ⟨10, _⟩ => ⟨S2x2048x16x128, .f32⟩
  | .hbm, ⟨11, _⟩ => ⟨S4096x2048, .f32⟩
  | .hbm, ⟨12, _⟩ => ⟨S2x2048x16x128, .f32⟩
  | .hbm, ⟨13, _⟩ => ⟨S2x16x2048x2048, .f32⟩
  | .hbm, ⟨14, _⟩ => ⟨S_, .f32⟩
  | .hbm, ⟨15, _⟩ => ⟨S2x16x2048x2048, .f32⟩
  | .hbm, ⟨16, _⟩ => ⟨S2x16x2048x2048, .f32⟩
  | .hbm, ⟨17, _⟩ => ⟨S2048, .i32⟩
  | .hbm, ⟨18, _⟩ => ⟨S1x2048, .i32⟩
  | .hbm, ⟨19, _⟩ => ⟨S2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S_, .f32⟩
  | .hbm, ⟨25, _⟩ => ⟨S2x16x2048x2048, .f32⟩
  | .hbm, ⟨26, _⟩ => ⟨S2x16x2048x2048, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .i1⟩
  | .hbm, ⟨30, _⟩ => ⟨S2x16x2048x2048, .f32⟩
  | .hbm, ⟨31, _⟩ => ⟨S2x16x2048x2048, .f32⟩
  | .hbm, ⟨32, _⟩ => ⟨S2x16x2048x2048, .f32⟩
  | .hbm, ⟨33, _⟩ => ⟨S2x16x2048x2048, .f32⟩
  | .hbm, ⟨34, _⟩ => ⟨S2x16x2048x2048, .f32⟩
  | .hbm, ⟨35, _⟩ => ⟨S2x16x2048x2048, .f32⟩
  | .hbm, ⟨36, _⟩ => ⟨S2x16x2048x2048, .f32⟩
  | .hbm, ⟨37, _⟩ => ⟨S2x16x2048x2048, .f32⟩
  | .hbm, ⟨38, _⟩ => ⟨S2x16x2048x2048, .f32⟩
  | .hbm, ⟨39, _⟩ => ⟨S_, .f32⟩
  | .hbm, ⟨40, _⟩ => ⟨S_, .f32⟩
  | .hbm, ⟨41, _⟩ => ⟨S2x16x2048x2048, .i1⟩
  | .hbm, ⟨42, _⟩ => ⟨S2x16x2048x2048, .f32⟩
  | .hbm, ⟨43, _⟩ => ⟨S2x16x2048x2048, .f32⟩
  | .hbm, ⟨44, _⟩ => ⟨S_, .f32⟩
  | .hbm, ⟨45, _⟩ => ⟨S_, .f32⟩
  | .hbm, ⟨46, _⟩ => ⟨S2x16x2048x2048, .f32⟩
  | .hbm, ⟨47, _⟩ => ⟨S2x16x2048x2048, .f32⟩
  | .hbm, ⟨48, _⟩ => ⟨S2x16x2048x2048, .f32⟩
  | .hbm, ⟨49, _⟩ => ⟨S_, .f32⟩
  | .hbm, ⟨50, _⟩ => ⟨S2x16x2048x2048, .f32⟩
  | .hbm, ⟨51, _⟩ => ⟨S2x16x2048x2048, .f32⟩
  | .hbm, ⟨52, _⟩ => ⟨S2x16x2048x2048, .f32⟩
  | .hbm, ⟨53, _⟩ => ⟨S2x16x2048x2048, .f32⟩
  | .hbm, ⟨54, _⟩ => ⟨S2x16x2048x2048, .i1⟩
  | .hbm, ⟨55, _⟩ => ⟨S2x16x2048x2048, .f32⟩
  | .hbm, ⟨56, _⟩ => ⟨S2x16x2048x2048, .f32⟩
  | .hbm, ⟨57, _⟩ => ⟨S2x16x2048x2048, .f32⟩
  | .hbm, ⟨58, _⟩ => ⟨S2x16x2048x2048, .f32⟩
  | .hbm, ⟨59, _⟩ => ⟨S2x16x2048x2048, .f32⟩
  | .hbm, ⟨60, _⟩ => ⟨S2x16x2048x2048, .f32⟩
  | .hbm, ⟨61, _⟩ => ⟨S2x16x2048x2048, .f32⟩
  | .hbm, ⟨62, _⟩ => ⟨S2x16x2048x2048, .f32⟩
  | .hbm, ⟨63, _⟩ => ⟨S2x16x2048x2048, .f32⟩
  | .hbm, ⟨64, _⟩ => ⟨S2x16x2048x2048, .f32⟩
  | .hbm, ⟨65, _⟩ => ⟨S2x16x2048x2048, .f32⟩
  | .hbm, ⟨66, _⟩ => ⟨S_, .f32⟩
  | .hbm, ⟨67, _⟩ => ⟨S_, .f32⟩
  | .hbm, ⟨68, _⟩ => ⟨S2x16x2048x2048, .i1⟩
  | .hbm, ⟨69, _⟩ => ⟨S2x16x2048x2048, .f32⟩
  | .hbm, ⟨70, _⟩ => ⟨S2x16x2048x2048, .f32⟩
  | .hbm, ⟨71, _⟩ => ⟨S2x16x128x2048, .f32⟩
  | .hbm, ⟨72, _⟩ => ⟨S2x2048x16x128, .f32⟩
  | .hbm, ⟨73, _⟩ => ⟨S2x2048x16x128, .f32⟩
  | .hbm, ⟨74, _⟩ => ⟨S_, .f32⟩
  | .hbm, ⟨75, _⟩ => ⟨S2x2048x16, .f32⟩
  | .hbm, ⟨76, _⟩ => ⟨S2x2048x16x1, .f32⟩
  | .hbm, ⟨77, _⟩ => ⟨S_, .f32⟩
  | .hbm, ⟨78, _⟩ => ⟨S2x2048x16x1, .f32⟩
  | .hbm, ⟨79, _⟩ => ⟨S2x2048x16x1, .f32⟩
  | .hbm, ⟨80, _⟩ => ⟨S_, .f32⟩
  | .hbm, ⟨81, _⟩ => ⟨S2x2048x16x1, .f32⟩
  | .hbm, ⟨82, _⟩ => ⟨S2x2048x16x1, .f32⟩
  | .hbm, ⟨83, _⟩ => ⟨S2x2048x16x1, .f32⟩
  | .hbm, ⟨84, _⟩ => ⟨S2x2048x16x128, .f32⟩
  | .hbm, ⟨85, _⟩ => ⟨S2x2048x16x128, .f32⟩
  | .hbm, ⟨86, _⟩ => ⟨S16x128, .f32⟩
  | .hbm, ⟨87, _⟩ => ⟨S1x1x16x128, .f32⟩
  | .hbm, ⟨88, _⟩ => ⟨S2x2048x16x128, .f32⟩
  | .hbm, ⟨89, _⟩ => ⟨S2x2048x16x128, .f32⟩
  | .hbm, ⟨90, _⟩ => ⟨S4096x2048, .bf16⟩
  | .hbm, ⟨91, _⟩ => ⟨S4096x2048, .f32⟩
  | .hbm, ⟨92, _⟩ => ⟨S4096x2048, .bf16⟩
  | .hbm, ⟨93, _⟩ => ⟨S4096x4096, .bf16⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_v20 : Ref sig .tc := ⟨.hbm, 37, rfl⟩
abbrev main_v21 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v22 : Ref sig .tc := ⟨.hbm, 43, rfl⟩
abbrev main_call2_cst : Ref sig .tc := ⟨.hbm, 44, rfl⟩
abbrev main_call2_v0 : Ref sig .tc := ⟨.hbm, 45, rfl⟩
abbrev main_v23 : Ref sig .tc := ⟨.hbm, 46, rfl⟩
abbrev main_v24 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_cst_2 : Ref sig .tc := ⟨.hbm, 74, rfl⟩
abbrev main_v32 : Ref sig .tc := ⟨.hbm, 75, rfl⟩
abbrev main_v33 : Ref sig .tc := ⟨.hbm, 76, rfl⟩
abbrev main_cst_3 : Ref sig .tc := ⟨.hbm, 77, rfl⟩
abbrev main_v34 : Ref sig .tc := ⟨.hbm, 78, rfl⟩
abbrev main_v35 : Ref sig .tc := ⟨.hbm, 79, rfl⟩
abbrev main_cst_4 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩

abbrev nD : Nat := 1
abbrev τ : Topo := Topo.v7x

variable {F : FTy → Type} [FloatOps F]
-- ==== Proof.Act.lean ====
/-
  The gradient of the gate: what the kernel leaves in each block of its two results, over the extended reals.
-/
module

public import proofs.«01_k».proof.Proof.Gen.ActGradIdeal.Value
public import Idealize.ShloMosaic.Lib.MatmulPlain
public import Idealize.ShloMosaic.Lib.IdealHost
public import Idealize.ShloMosaic.Lib.ValueIdx
public import Idealize.ShloMosaic.Lib.ValueLayout

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ActGradIdeal.Value

open Cert.ActGradIdeal Cert.ActGradIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The gradient of the activation, `dh · w_downᵀ`, at one element of a tile. -/
def dact (x0 : Vec Ideal S512x4096 .bf16) (x1 : Vec Ideal S1x1376x4096 .bf16) (r : Fin 512) (c : Fin 1376) : EReal :=
  ∑ k : Fin 4096, (x0 (ix2 r k) : EReal) * x1 (ix3 0 c k)

/-- One element of the gate's gradient. -/
def dgate (da g u : EReal) : EReal := da * u * (Ideal.logistic g * (1 + g * (1 - Ideal.logistic g)))
/-- One element of the up projection's gradient. -/
def dup (da g : EReal) : EReal := da * (g * Ideal.logistic g)

theorem pay6_apply (x0 : Vec Ideal S512x4096 .bf16) (x1 : Vec Ideal S1x1376x4096 .bf16) (r : Fin 512) (c : Fin 1376) :
    k0_pay6 (F := Ideal) x0 x1 (ix2 r c) = dact x0 x1 r c := by
  unfold k0_pay6 dact
  rw [shapeCast_self]
  refine (Ideal.matmul_transposedRhs_apply none x0 (shapeCast S1376x4096 x1 shapeCasts_S1x1376x4096_S1376x4096) _ r c).trans ?_
  rw [constant_apply, show Ideal.ofBits .f32 0x00000000#32 = 0 by simp [Ideal.ofBits, Ideal.ieee], zero_add]
  refine Finset.sum_congr rfl fun k _ => ?_
  rw [shapeCast_1ab_ab_apply]

section
variable (v33 : Vec Ideal S256x1376 .f32) (v34 v37 : Vec Ideal S1x256x1376 .bf16) (u : Fin 1) (r : Fin 256) (c : Fin 1376)

theorem pay2_apply : k0_pay2 (F := Ideal) v34 (ix2 r c) = v34 (ix3 0 r c) := shapeCast_1ab_ab_apply ..
theorem pay7_apply : k0_pay7 (F := Ideal) v34 (ix2 r c) = v34 (ix3 0 r c) := shapeCast_1ab_ab_apply ..

theorem pay4_apply : k0_pay4 (F := Ideal) v33 v34 v37 (ix3 u r c) = dgate (v33 (ix2 r c)) (v34 (ix3 0 r c)) (v37 (ix3 0 r c)) := by
  unfold k0_pay4
  refine (shapeCast_ab_1ab_apply _ shapeCasts_S256x1376_S1x256x1376 u r c).trans ?_
  show v33 (ix2 r c) * shapeCast S256x1376 v37 shapeCasts_S1x256x1376_S256x1376 (ix2 r c)
    * (Ideal.logistic (k0_pay2 (F := Ideal) v34 (ix2 r c)) * (Ideal.ofBits .f32 0x3F800000#32 + k0_pay2 (F := Ideal) v34 (ix2 r c)
      * (Ideal.ofBits .f32 0x3F800000#32 - Ideal.logistic (k0_pay2 (F := Ideal) v34 (ix2 r c))))) = _
  rw [pay2_apply, Ideal.ofBits_one_f32, shapeCast_1ab_ab_apply]; rfl

theorem pay9_apply : k0_pay9 (F := Ideal) v33 v34 v37 (ix3 u r c) = dgate (v33 (ix2 r c)) (v34 (ix3 0 r c)) (v37 (ix3 0 r c)) := by
  unfold k0_pay9
  refine (shapeCast_ab_1ab_apply _ shapeCasts_S256x1376_S1x256x1376 u r c).trans ?_
  show v33 (ix2 r c) * shapeCast S256x1376 v37 shapeCasts_S1x256x1376_S256x1376 (ix2 r c)
    * (Ideal.logistic (k0_pay7 (F := Ideal) v34 (ix2 r c)) * (Ideal.ofBits .f32 0x3F800000#32 + k0_pay7 (F := Ideal) v34 (ix2 r c)
      * (Ideal.ofBits .f32 0x3F800000#32 - Ideal.logistic (k0_pay7 (F := Ideal) v34 (ix2 r c))))) = _
  rw [pay7_apply, Ideal.ofBits_one_f32, shapeCast_1ab_ab_apply]; rfl

theorem pay5_apply : k0_pay5 (F := Ideal) v33 v34 (ix3 u r c) = dup (v33 (ix2 r c)) (v34 (ix3 0 r c)) := by
  unfold k0_pay5
  refine (shapeCast_ab_1ab_apply _ shapeCasts_S256x1376_S1x256x1376 u r c).trans ?_
  show v33 (ix2 r c) * (k0_pay2 (F := Ideal) v34 (ix2 r c) * Ideal.logistic (k0_pay2 (F := Ideal) v34 (ix2 r c))) = _
  rw [pay2_apply]; rfl

theorem pay10_apply : k0_pay1 (F := Ideal) (k0_pay10 (F := Ideal) v33 v34) (ix3 u r c) = dup (v33 (ix2 r c)) (v34 (ix3 0 r c)) := by
  unfold k0_pay1
  refine (shapeCast_ab_1ab_apply _ shapeCasts_S256x1376_S1x256x1376 u r c).trans ?_
  show v33 (ix2 r c) * (k0_pay7 (F := Ideal) v34 (ix2 r c) * Ideal.logistic (k0_pay7 (F := Ideal) v34 (ix2 r c))) = _
  rw [pay7_apply]; rfl
end

/-- An index of the tile's upper or lower half, in the whole tile. -/
theorem emb_half (o : Nat) (inb : ∀ a, (![0, o, 0] : Fin 3 → Nat) a + (![1, 256, 1376] : Fin 3 → Nat) a ≤ S1x512x1376.size a)
    (u : Fin 1) (r : Fin 256) (c : Fin 1376) (h : o + r.val < 512) :
    (Rect.unit (s := S1x512x1376) ![0, o, 0] ![1, 256, 1376] inb).emb (ix3 u r c) = ix3 (0 : Fin 1) (⟨o + r.val, h⟩ : Fin 512) c := by
  funext a; apply Fin.ext
  match a with
  | ⟨0, _⟩ => show 0 + 1 * u.val = 0; omega
  | ⟨1, _⟩ => show o + 1 * r.val = o + r.val; omega
  | ⟨2, _⟩ => show 0 + 1 * c.val = c.val; omega
theorem ld_half (o : Nat) (inb : ∀ a, (![0, o, 0] : Fin 3 → Nat) a + (![1, 256, 1376] : Fin 3 → Nat) a ≤ S1x512x1376.size a)
    (x : Vec Ideal S1x512x1376 .bf16) (r : Fin 256) (c : Fin 1376) (h : o + r.val < 512) :
    View.ld x (Rect.unit (s := S1x512x1376) ![0, o, 0] ![1, 256, 1376] inb) (ix3 0 r c) = x (ix3 (0 : Fin 1) (⟨o + r.val, h⟩ : Fin 512) c) :=
  congrArg x (emb_half o inb 0 r c h)
theorem emb_half2 (o : Nat) (inb : ∀ a, (![o, 0] : Fin 2 → Nat) a + (![256, 1376] : Fin 2 → Nat) a ≤ S512x1376.size a)
    (r : Fin 256) (c : Fin 1376) (h : o + r.val < 512) :
    (Rect.unit (s := S512x1376) ![o, 0] ![256, 1376] inb).toLoadRect.idx (ix2 r c) = ix2 (⟨o + r.val, h⟩ : Fin 512) c := by
  funext a; apply Fin.ext
  match a with
  | ⟨0, _⟩ => show o + 1 * r.val = o + r.val; omega
  | ⟨1, _⟩ => show 0 + 1 * c.val = c.val; omega

theorem out4_apply (c : Dev nD) (i : grid0.Coords) (arg3 : Memref sig .tc .vmem S512x4096 .bf16) (harg3 : arg3.IsWhole) (arg4 : Memref sig .tc .vmem S1x1376x4096 .bf16) (harg4 : arg4.IsWhole) (arg5 : Memref sig .tc .vmem S1x512x1376 .bf16) (harg5 : arg5.IsWhole) (arg6 : Memref sig .tc .vmem S1x512x1376 .bf16) (harg6 : arg6.IsWhole) (arg7 : Memref sig .tc .vmem S1x512x1376 .bf16) (harg7 : arg7.IsWhole) (arg8 : Memref sig .tc .vmem S1x512x1376 .bf16) (harg8 : arg8.IsWhole) (arg9 : Memref sig .tc .vmem S512x1376 .f32) (harg9 : arg9.IsWhole)
    (x0 : Vec Ideal S512x4096 .bf16) (x1 : Vec Ideal S1x1376x4096 .bf16) (x2 : Vec Ideal S1x512x1376 .bf16) (x3 : Vec Ideal S1x512x1376 .bf16) (y : S1x512x1376.Idx) :
    out0_A_4 (F := Ideal) c i arg3 harg3 arg4 harg4 arg5 harg5 arg6 harg6 arg7 harg7 arg8 harg8 arg9 harg9 x0 x1 x2 x3 y = dgate (dact x0 x1 (y 1) (y 2)) (x2 y) (x3 y) := by
  unfold out0_A_4
  rw [View.read_writes_eq_canon _ _ _ (cover0_A_4 c i arg3 harg3 arg4 harg4 arg5 harg5 arg6 harg6 arg7 harg7 arg8 harg8 arg9 harg9 x0 x1 x2 x3)]
  refine View.canon_apply_of_pieces (fun y => dgate (dact x0 x1 (y 1) (y 2)) (x2 y) (x3 y)) _ ?_ y (cover0_A_4 c i arg3 harg3 arg4 harg4 arg5 harg5 arg6 harg6 arg7 harg7 arg8 harg8 arg9 harg9 x0 x1 x2 x3 y)
  unfold kernelRun0_A
  dsimp only
  sl_unfold_words
  intro p hp
  fin_cases hp
  · intro x
    obtain ⟨u, r, cc, rfl⟩ : ∃ (u : Fin 1) (r : Fin 256) (cc : Fin 1376), x = ix3 u r cc := ⟨_, _, _, eq_ix3 x⟩
    have hr : 256 + r.val < 512 := by omega
    dsimp only
    rw [emb_half 256 _ u r cc hr]
    refine (pay4_apply _ _ _ u r cc).trans ?_
    rw [View.readCov_eq_canon', View.canon_unit_zero (S := S512x1376) hz2]
    dsimp only
    simp only [View.readAt_eq_ld, Memref.IsWhole.read_unread]
    rw [emb_half2 256 _ r cc hr]
    rw [View.ld_unit_zero (S := S512x4096) hz2, View.ld_unit_zero (S := S1x1376x4096) hz3, pay6_apply]
    exact congrArg₂ (dgate _) (ld_half 256 _ _ r cc hr) (ld_half 256 _ _ r cc hr)
  · intro x
    obtain ⟨u, r, cc, rfl⟩ : ∃ (u : Fin 1) (r : Fin 256) (cc : Fin 1376), x = ix3 u r cc := ⟨_, _, _, eq_ix3 x⟩
    have hr : 0 + r.val < 512 := by omega
    dsimp only
    rw [emb_half 0 _ u r cc hr]
    refine (pay9_apply _ _ _ u r cc).trans ?_
    rw [View.readCov_eq_canon', View.canon_unit_zero (S := S512x1376) hz2]
    dsimp only
    simp only [View.readAt_eq_ld, Memref.IsWhole.read_unread]
    rw [emb_half2 0 _ r cc hr]
    rw [View.ld_unit_zero (S := S512x4096) hz2, View.ld_unit_zero (S := S1x1376x4096) hz3, pay6_apply]
    exact congrArg₂ (dgate _) (ld_half 0 _ _ r cc hr) (ld_half 0 _ _ r cc hr)

theorem out5_apply (c : Dev nD) (i : grid0.Coords) (arg3 : Memref sig .tc .vmem S512x4096 .bf16) (harg3 : arg3.IsWhole) (arg4 : Memref sig .tc .vmem S1x1376x4096 .bf16) (harg4 : arg4.IsWhole) (arg5 : Memref sig .tc .vmem S1x512x1376 .bf16) (harg5 : arg5.IsWhole) (arg6 : Memref sig .tc .vmem S1x512x1376 .bf16) (harg6 : arg6.IsWhole) (arg7 : Memref sig .tc .vmem S1x512x1376 .bf16) (harg7 : arg7.IsWhole) (arg8 : Memref sig .tc .vmem S1x512x1376 .bf16) (harg8 : arg8.IsWhole) (arg9 : Memref sig .tc .vmem S512x1376 .f32) (harg9 : arg9.IsWhole)
    (x0 : Vec Ideal S512x4096 .bf16) (x1 : Vec Ideal S1x1376x4096 .bf16) (x2 : Vec Ideal S1x512x1376 .bf16) (x3 : Vec Ideal S1x512x1376 .bf16) (y : S1x512x1376.Idx) :
    out0_A_5 (F := Ideal) c i arg3 harg3 arg4 harg4 arg5 harg5 arg6 harg6 arg7 harg7 arg8 harg8 arg9 harg9 x0 x1 x2 x3 y = dup (dact x0 x1 (y 1) (y 2)) (x2 y) := by
  unfold out0_A_5
  rw [View.read_writes_eq_canon _ _ _ (cover0_A_5 c i arg3 harg3 arg4 harg4 arg5 harg5 arg6 harg6 arg7 harg7 arg8 harg8 arg9 harg9 x0 x1 x2 x3)]
  refine View.canon_apply_of_pieces (fun y => dup (dact x0 x1 (y 1) (y 2)) (x2 y)) _ ?_ y (cover0_A_5 c i arg3 harg3 arg4 harg4 arg5 harg5 arg6 harg6 arg7 harg7 arg8 harg8 arg9 harg9 x0 x1 x2 x3 y)
  unfold kernelRun0_A
  dsimp only
  sl_unfold_words
  intro p hp
  fin_cases hp
  · intro x
    obtain ⟨u, r, cc, rfl⟩ : ∃ (u : Fin 1) (r : Fin 256) (cc : Fin 1376), x = ix3 u r cc := ⟨_, _, _, eq_ix3 x⟩
    have hr : 256 + r.val < 512 := by omega
    dsimp only
    rw [emb_half 256 _ u r cc hr]
    refine (pay5_apply _ _ u r cc).trans ?_
    rw [View.readCov_eq_canon', View.canon_unit_zero (S := S512x1376) hz2]
    dsimp only
    simp only [View.readAt_eq_ld, Memref.IsWhole.read_unread]
    rw [emb_half2 256 _ r cc hr]
    rw [View.ld_unit_zero (S := S512x4096) hz2, View.ld_unit_zero (S := S1x1376x4096) hz3, pay6_apply]
    exact congrArg (dup _) (ld_half 256 _ _ r cc hr)
  · intro x
    obtain ⟨u, r, cc, rfl⟩ : ∃ (u : Fin 1) (r : Fin 256) (cc : Fin 1376), x = ix3 u r cc := ⟨_, _, _, eq_ix3 x⟩
    have hr : 0 + r.val < 512 := by omega
    dsimp only
    rw [emb_half 0 _ u r cc hr]
    refine (pay10_apply _ _ u r cc).trans ?_
    rw [View.readCov_eq_canon', View.canon_unit_zero (S := S512x1376) hz2]
    dsimp only
    simp only [View.readAt_eq_ld, Memref.IsWhole.read_unread]
    rw [emb_half2 0 _ r cc hr]
    rw [View.ld_unit_zero (S := S512x4096) hz2, View.ld_unit_zero (S := S1x1376x4096) hz3, pay6_apply]
    exact congrArg (dup _) (ld_half 0 _ _ r cc hr)

end Cert.ActGradIdeal.Value

end
-- ==== Proof.ActArr.lean ====
/-
  The gradient of the gate: the two result arrays of the kernel as functions of its four arguments, over the extended reals.
-/
module

public import proofs.«01_k».proof.Proof.Act

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ActGradIdeal.Value

open Cert.ActGradIdeal Cert.ActGradIdeal.Gen

variable (m : (ℓ : Loc nD τ sig) → Buf (Elt Ideal) ℓ) (c : Dev nD)

/-- The hidden unit that column `j` of shard `s` is. -/
def unitOf (s : Fin 8) (j : Fin 1376) : Fin 11008 := ⟨s.val * 1376 + j.val, by omega⟩

abbrev a0 : (⟨S4096x4096, .bf16⟩ : BufTy).Contents (Elt Ideal) := m ((c : Thread nD τ).loc main_arg0)
abbrev a1 : (⟨S11008x4096, .bf16⟩ : BufTy).Contents (Elt Ideal) := m ((c : Thread nD τ).loc main_arg1)
abbrev a2 : (⟨S4096x11008, .bf16⟩ : BufTy).Contents (Elt Ideal) := m ((c : Thread nD τ).loc main_arg2)
abbrev a3 : (⟨S4096x11008, .bf16⟩ : BufTy).Contents (Elt Ideal) := m ((c : Thread nD τ).loc main_arg3)

/-! ## What the host prepares -/

theorem V0 : V m c main_v0 = shapeCast S8x1376x4096 (a1 m c) shapeCasts_S11008x4096_S8x1376x4096 := rfl
theorem V2 : V m c main_v2 = transpose S8x4096x1376 [1, 0, 2] (shapeCast S4096x8x1376 (a2 m c) shapeCasts_S4096x11008_S4096x8x1376) transposes_S4096x8x1376_S8x4096x1376_1_0_2 := rfl
theorem V4 : V m c main_v4 = transpose S8x4096x1376 [1, 0, 2] (shapeCast S4096x8x1376 (a3 m c) shapeCasts_S4096x11008_S4096x8x1376) transposes_S4096x8x1376_S8x4096x1376_1_0_2 := rfl

theorem byShard_apply {α : Type} (x : S4096x11008.Idx → α) (s : Fin 8) (r : Fin 4096) (j : Fin 1376) :
    transpose S8x4096x1376 [1, 0, 2] (shapeCast S4096x8x1376 x shapeCasts_S4096x11008_S4096x8x1376) transposes_S4096x8x1376_S8x4096x1376_1_0_2 (ix3 s r j)
      = x (ix2 r (unitOf s j)) := by
  refine (transpose_apply [1, 0, 2] _ transposes_S4096x8x1376_S8x4096x1376_1_0_2 (ix3 s r j) (ix3 r s j) (fun b => match b with
    | ⟨0, _⟩ => rfl
    | ⟨1, _⟩ => rfl
    | ⟨2, _⟩ => rfl)).trans ?_
  refine shapeCast_apply x shapeCasts_S4096x11008_S4096x8x1376 (ix3 r s j) (ix2 r (unitOf s j)) ?_
  rw [Shape.rowMajor_val_two, Shape.rowMajor_val_three]
  show r.val * 11008 + (s.val * 1376 + j.val) = (r.val * 8 + s.val) * 1376 + j.val
  omega

theorem weights_apply {α : Type} (x : S11008x4096.Idx → α) (s : Fin 8) (j : Fin 1376) (k : Fin 4096) :
    shapeCast S8x1376x4096 x shapeCasts_S11008x4096_S8x1376x4096 (ix3 s j k) = x (ix2 (unitOf s j) k) := by
  refine shapeCast_apply x shapeCasts_S11008x4096_S8x1376x4096 (ix3 s j k) (ix2 (unitOf s j) k) ?_
  rw [Shape.rowMajor_val_two, Shape.rowMajor_val_three]
  show (s.val * 1376 + j.val) * 4096 + k.val = (s.val * 1376 + j.val) * 4096 + k.val
  omega

/-! ## The blocks a grid point works on -/

theorem index_0 : ∀ t : Fin cfg0.N, win0_0.index t 0 = t.val % 8 ∧ win0_0.index t 1 = 0 :=
  (by decide +kernel : ∀ t : Fin grid0.N, win0_0.index t 0 = t.val % 8 ∧ win0_0.index t 1 = 0)
theorem index_1 : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
theorem index_2 : ∀ t : Fin cfg0.N, win0_2.index t 0 = t.val / 8 ∧ win0_2.index t 1 = t.val % 8 ∧ win0_2.index t 2 = 0 :=
  (by decide +kernel : ∀ t : Fin grid0.N, win0_2.index t 0 = t.val / 8 ∧ win0_2.index t 1 = t.val % 8 ∧ win0_2.index t 2 = 0)
theorem index_3 : ∀ t : Fin cfg0.N, win0_3.index t 0 = t.val / 8 ∧ win0_3.index t 1 = t.val % 8 ∧ win0_3.index t 2 = 0 :=
  (by decide +kernel : ∀ t : Fin grid0.N, win0_3.index t 0 = t.val / 8 ∧ win0_3.index t 1 = t.val % 8 ∧ win0_3.index t 2 = 0)
theorem index_4 : ∀ t : Fin cfg0.N, win0_4.index t 0 = t.val / 8 ∧ win0_4.index t 1 = t.val % 8 ∧ win0_4.index t 2 = 0 :=
  (by decide +kernel : ∀ t : Fin grid0.N, win0_4.index t 0 = t.val / 8 ∧ win0_4.index t 1 = t.val % 8 ∧ win0_4.index t 2 = 0)
theorem index_5 : ∀ t : Fin cfg0.N, win0_5.index t 0 = t.val / 8 ∧ win0_5.index t 1 = t.val % 8 ∧ win0_5.index t 2 = 0 :=
  (by decide +kernel : ∀ t : Fin grid0.N, win0_5.index t 0 = t.val / 8 ∧ win0_5.index t 1 = t.val % 8 ∧ win0_5.index t 2 = 0)

/-- The shard and the row of the whole array that a point's tile holds. -/
def shardAt (t : Fin cfg0.N) : Fin 8 := ⟨t.val / 8, by have : t.val < 64 := t.isLt; omega⟩
def rowAt (t : Fin cfg0.N) (r : Fin 512) : Fin 4096 := ⟨t.val % 8 * 512 + r.val, by omega⟩

theorem blk0 (t : Fin cfg0.N) (r : Fin 512) (k : Fin 4096) :
    (iblk m c 0 t : Vec Ideal S512x4096 .bf16) (ix2 r k) = a0 m c (ix2 (rowAt t r) k) := by
  unfold iblk
  rw [View.read_apply]
  show V m c main_arg0 _ = _
  rw [V_main_arg0]
  refine congrArg (a0 m c) (funext fun a => Fin.ext ?_)
  match a with
  | ⟨0, _⟩ => show win0_0.index t 0 * 512 + 1 * r.val = t.val % 8 * 512 + r.val; rw [(index_0 t).1]; omega
  | ⟨1, _⟩ => show win0_0.index t 1 * 4096 + 1 * k.val = k.val; rw [(index_0 t).2]; omega

theorem blk1 (t : Fin cfg0.N) (j : Fin 1376) (k : Fin 4096) :
    (iblk m c 1 t : Vec Ideal S1x1376x4096 .bf16) (ix3 0 j k) = a1 m c (ix2 (unitOf (shardAt t) j) k) := by
  unfold iblk
  rw [View.read_apply]
  show V m c main_v0 _ = _
  rw [V0]
  refine Eq.trans ?_ (weights_apply (a1 m c) (shardAt t) j k)
  refine congrArg (shapeCast S8x1376x4096 (a1 m c) shapeCasts_S11008x4096_S8x1376x4096) (funext fun a => Fin.ext ?_)
  match a with
  | ⟨0, _⟩ => show win0_1.index t 0 * 1 + 1 * 0 = t.val / 8; rw [(index_1 t).1]; omega
  | ⟨1, _⟩ => show win0_1.index t 1 * 1376 + 1 * j.val = j.val; rw [(index_1 t).2.1]; omega
  | ⟨2, _⟩ => show win0_1.index t 2 * 4096 + 1 * k.val = k.val; rw [(index_1 t).2.2]; omega

theorem blk2 (t : Fin cfg0.N) (u : Fin 1) (r : Fin 512) (j : Fin 1376) :
    (iblk m c 2 t : Vec Ideal S1x512x1376 .bf16) (ix3 u r j) = a2 m c (ix2 (rowAt t r) (unitOf (shardAt t) j)) := by
  unfold iblk
  rw [View.read_apply]
  show V m c main_v2 _ = _
  rw [V2]
  refine Eq.trans ?_ (byShard_apply (a2 m c) (shardAt t) (rowAt t r) j)
  refine congrArg (transpose S8x4096x1376 [1, 0, 2] (shapeCast S4096x8x1376 (a2 m c) shapeCasts_S4096x11008_S4096x8x1376) transposes_S4096x8x1376_S8x4096x1376_1_0_2) (funext fun a => Fin.ext ?_)
  match a with
  | ⟨0, _⟩ => show win0_2.index t 0 * 1 + 1 * u.val = t.val / 8; rw [(index_2 t).1]; omega
  | ⟨1, _⟩ => show win0_2.index t 1 * 512 + 1 * r.val = t.val % 8 * 512 + r.val; rw [(index_2 t).2.1]; omega
  | ⟨2, _⟩ => show win0_2.index t 2 * 1376 + 1 * j.val = j.val; rw [(index_2 t).2.2]; omega

theorem blk3 (t : Fin cfg0.N) (u : Fin 1) (r : Fin 512) (j : Fin 1376) :
    (iblk m c 3 t : Vec Ideal S1x512x1376 .bf16) (ix3 u r j) = a3 m c (ix2 (rowAt t r) (unitOf (shardAt t) j)) := by
  unfold iblk
  rw [View.read_apply]
  show V m c main_v4 _ = _
  rw [V4]
  refine Eq.trans ?_ (byShard_apply (a3 m c) (shardAt t) (rowAt t r) j)
  refine congrArg (transpose S8x4096x1376 [1, 0, 2] (shapeCast S4096x8x1376 (a3 m c) shapeCasts_S4096x11008_S4096x8x1376) transposes_S4096x8x1376_S8x4096x1376_1_0_2) (funext fun a => Fin.ext ?_)
  match a with
  | ⟨0, _⟩ => show win0_3.index t 0 * 1 + 1 * u.val = t.val / 8; rw [(index_3 t).1]; omega
  | ⟨1, _⟩ => show win0_3.index t 1 * 512 + 1 * r.val = t.val % 8 * 512 + r.val; rw [(index_3 t).2.1]; omega
  | ⟨2, _⟩ => show win0_3.index t 2 * 1376 + 1 * j.val = j.val; rw [(index_3 t).2.2]; omega

/-! ## The whole arrays -/

/-- The gradient of the activation at token `r`, hidden unit `u`. -/
def dactAt (r : Fin 4096) (u : Fin 11008) : EReal := ∑ k : Fin 4096, (a0 m c (ix2 r k) : EReal) * a1 m c (ix2 u k)
def gateGrad : S8x4096x1376.Idx → EReal := fun i => dgate (dactAt m c (i 1) (unitOf (i 0) (i 2))) (a2 m c (ix2 (i 1) (unitOf (i 0) (i 2)))) (a3 m c (ix2 (i 1) (unitOf (i 0) (i 2))))
def upGrad : S8x4096x1376.Idx → EReal := fun i => dup (dactAt m c (i 1) (unitOf (i 0) (i 2))) (a2 m c (ix2 (i 1) (unitOf (i 0) (i 2))))

theorem dact_blk (t : Fin cfg0.N) (r : Fin 512) (j : Fin 1376) :
    dact (iblk m c 0 t) (iblk m c 1 t) r j = dactAt m c (rowAt t r) (unitOf (shardAt t) j) :=
  Finset.sum_congr rfl fun k _ => by rw [blk0, blk1]

theorem flushed_gate (t : Fin cfg0.N) :
    (dats m 0 c).flushed 4 t = ((cfg0.win 4).blk t).view.read (Elt Ideal) (gateGrad m c) := by
  rw [flushed4_A]
  funext y
  obtain ⟨u, r, j, rfl⟩ : ∃ (u : Fin 1) (r : Fin 512) (j : Fin 1376), y = ix3 u r j := ⟨_, _, _, eq_ix3 y⟩
  rw [View.read_apply]
  refine (out4_apply ..).trans ?_
  show dgate (dact (iblk m c 0 t) (iblk m c 1 t) r j) ((iblk m c 2 t : Vec Ideal S1x512x1376 .bf16) (ix3 u r j)) ((iblk m c 3 t : Vec Ideal S1x512x1376 .bf16) (ix3 u r j)) = _
  rw [blk2, blk3, dact_blk]
  refine (show _ = gateGrad m c (ix3 (shardAt t) (rowAt t r) j) from rfl).trans ?_
  refine congrArg (gateGrad m c) (funext fun a => Fin.ext ?_)
  match a with
  | ⟨0, _⟩ => show t.val / 8 = win0_4.index t 0 * 1 + 1 * u.val; rw [(index_4 t).1]; omega
  | ⟨1, _⟩ => show t.val % 8 * 512 + r.val = win0_4.index t 1 * 512 + 1 * r.val; rw [(index_4 t).2.1]; omega
  | ⟨2, _⟩ => show j.val = win0_4.index t 2 * 1376 + 1 * j.val; rw [(index_4 t).2.2]; omega

theorem flushed_up (t : Fin cfg0.N) :
    (dats m 0 c).flushed 5 t = ((cfg0.win 5).blk t).view.read (Elt Ideal) (upGrad m c) := by
  rw [flushed5_A]
  funext y
  obtain ⟨u, r, j, rfl⟩ : ∃ (u : Fin 1) (r : Fin 512) (j : Fin 1376), y = ix3 u r j := ⟨_, _, _, eq_ix3 y⟩
  rw [View.read_apply]
  refine (out5_apply ..).trans ?_
  show dup (dact (iblk m c 0 t) (iblk m c 1 t) r j) ((iblk m c 2 t : Vec Ideal S1x512x1376 .bf16) (ix3 u r j)) = _
  rw [blk2, dact_blk]
  refine (show _ = upGrad m c (ix3 (shardAt t) (rowAt t r) j) from rfl).trans ?_
  refine congrArg (upGrad m c) (funext fun a => Fin.ext ?_)
  match a with
  | ⟨0, _⟩ => show t.val / 8 = win0_5.index t 0 * 1 + 1 * u.val; rw [(index_5 t).1]; omega
  | ⟨1, _⟩ => show t.val % 8 * 512 + r.val = win0_5.index t 1 * 512 + 1 * r.val; rw [(index_5 t).2.1]; omega
  | ⟨2, _⟩ => show j.val = win0_5.index t 2 * 1376 + 1 * j.val; rw [(index_5 t).2.2]; omega

/-- The point whose tile holds an index of a result. -/
def pointOf (i : S8x4096x1376.Idx) : Fin cfg0.N :=
  ⟨(i 0).val * 8 + (i 1).val / 512, by
    have h0 : (i 0).val < 8 := (i 0).isLt
    have h1 : (i 1).val < 4096 := (i 1).isLt
    show _ < 64; omega⟩

theorem final_gate : (dats m 0 c).arrAt 4 cfg0.N = gateGrad m c :=
  (dats m 0 c).arrAt_eq_of_cover 4 (gateGrad m c) (fun t _ => flushed_gate m c t) fun i =>
    ⟨pointOf i, flush0_4 _, by
      have h0 : (i 0).val < 8 := (i 0).isLt
      have h1 : (i 1).val < 4096 := (i 1).isLt
      have h2 : (i 2).val < 1376 := (i 2).isLt
      show i ∈ ((View.whole main_v5_0).slice (win0_4.rect (pointOf i))).set
      rw [View.set_slice_whole, Rect.mem_set_unit]
      have hp : (pointOf i).val = (i 0).val * 8 + (i 1).val / 512 := rfl
      intro a
      match a with
      | ⟨0, _⟩ => show win0_4.index (pointOf i) 0 * 1 ≤ (i 0 : Nat) ∧ (i 0 : Nat) < win0_4.index (pointOf i) 0 * 1 + 1
                  rw [(index_4 _).1, hp]; omega
      | ⟨1, _⟩ => show win0_4.index (pointOf i) 1 * 512 ≤ (i 1 : Nat) ∧ (i 1 : Nat) < win0_4.index (pointOf i) 1 * 512 + 512
                  rw [(index_4 _).2.1, hp]; omega
      | ⟨2, _⟩ => show win0_4.index (pointOf i) 2 * 1376 ≤ (i 2 : Nat) ∧ (i 2 : Nat) < win0_4.index (pointOf i) 2 * 1376 + 1376
                  rw [(index_4 _).2.2]; omega⟩

theorem final_up : (dats m 0 c).arrAt 5 cfg0.N = upGrad m c :=
  (dats m 0 c).arrAt_eq_of_cover 5 (upGrad m c) (fun t _ => flushed_up m c t) fun i =>
    ⟨pointOf i, flush0_5 _, by
      have h0 : (i 0).val < 8 := (i 0).isLt
      have h1 : (i 1).val < 4096 := (i 1).isLt
      have h2 : (i 2).val < 1376 := (i 2).isLt
      show i ∈ ((View.whole main_v5_1).slice (win0_5.rect (pointOf i))).set
      rw [View.set_slice_whole, Rect.mem_set_unit]
      have hp : (pointOf i).val = (i 0).val * 8 + (i 1).val / 512 := rfl
      intro a
      match a with
      | ⟨0, _⟩ => show win0_5.index (pointOf i) 0 * 1 ≤ (i 0 : Nat) ∧ (i 0 : Nat) < win0_5.index (pointOf i) 0 * 1 + 1
                  rw [(index_5 _).1, hp]; omega
      | ⟨1, _⟩ => show win0_5.index (pointOf i) 1 * 512 ≤ (i 1 : Nat) ∧ (i 1 : Nat) < win0_5.index (pointOf i) 1 * 512 + 512
                  rw [(index_5 _).2.1, hp]; omega
      | ⟨2, _⟩ => show win0_5.index (pointOf i) 2 * 1376 ≤ (i 2 : Nat) ∧ (i 2 : Nat) < win0_5.index (pointOf i) 2 * 1376 + 1376
                  rw [(index_5 _).2.2]; omega⟩

end Cert.ActGradIdeal.Value

end
-- ==== Proof.ActClaim.lean ====
/-
  The gradient of the gate: the reference's two arrays, and their equality with the kernel's over the extended reals.
  The two spell the derivative of `g · σ(g)` differently — `σ(g)·(1 + g·(1 − σ(g)))` and `σ(g) + g·(σ(g)·(1 − σ(g)))` —, and
  multiply it into `da·u` before and after the sum: over the reals one polynomial identity, at an infinite `da·u` false, whence
  the precondition. The gate itself may be infinite.
-/
module

public import proofs.«01_k».proof.Defs
public import proofs.«01_k».proof.Proof.ActArr
public import proofs.«01_k».proof.Proof.Gen.ActGradIdeal.Frame
public import proofs.«01_k».proof.Proof.Gen.ActGradRefIdeal.Run
public import proofs.«01_k».proof.Proof.Gen.ActGradRefIdeal.Read
public import proofs.«01_k».proof.Proof.Gen.Pre_finite

@[expose] public section

set_option maxRecDepth 16384

noncomputable section

open Idealize.ShloMosaic Idealize.ShloMosaic.TcCoe Idealize.SL.Sem Idealize.ShloMosaic.ValueIdx

namespace Cert.ActGradRefIdeal.Value

open Cert.ActGradRefIdeal Cert.ActGradRefIdeal.Gen Cert.ActGradRefIdeal.Read
open Cert.ActGradIdeal.Value (unitOf dgate dup)

/-- The gate's gradient at one element, as differentiating `silu(g) · u` gives it. -/
def dgateRef (da g u : EReal) : EReal := da * u * Ideal.logistic g + g * (da * u) * (Ideal.logistic g * (1 - Ideal.logistic g))

variable (x0 : (⟨S4096x4096, .bf16⟩ : BufTy).Contents (Elt Ideal)) (x1 : (⟨S11008x4096, .bf16⟩ : BufTy).Contents (Elt Ideal))
  (x2 x3 : (⟨S4096x11008, .bf16⟩ : BufTy).Contents (Elt Ideal))

def dactRef (r : Fin 4096) (u : Fin 11008) : EReal := ∑ k : Fin 4096, (x0 (ix2 r k) : EReal) * x1 (ix2 u k)

theorem v6_apply (r : Fin 4096) (u : Fin 11008) : val_main_v6 (F := Ideal) x0 x1 (ix2 r u) = dactRef x0 x1 r u := by
  rw [val_main_v6_apply]
  refine Finset.sum_congr rfl fun k _ => ?_
  refine congrArg₂ (fun a b : EReal => a * b) (congrArg x0 (funext fun a => ?_)) (congrArg x1 (funext fun a => ?_)) <;>
  · match a with
    | ⟨0, _⟩ => rfl
    | ⟨1, _⟩ => rfl

theorem sigma_apply (i : S4096x11008.Idx) : val_main_v2_2 (F := Ideal) x2 i = Ideal.logistic (x2 i) := by
  rw [val_main_v2_2_apply, val_main_call0_v4_apply, val_main_call0_v3_apply, val_main_call0_v2_apply]
  show Ideal.div (Ideal.ofBits .f32 0x3F800000#32) (Ideal.ofBits .f32 0x3F800000#32 + Ideal.exp (-(x2 i))) = _
  rw [Ideal.ofBits_one_f32]; rfl

theorem gate_apply (r : Fin 4096) (u : Fin 11008) :
    val_main_v9 (F := Ideal) x0 x1 x2 x3 (ix2 r u) = dgateRef (dactRef x0 x1 r u) (x2 (ix2 r u)) (x3 (ix2 r u)) := by
  show (val_main_v6 (F := Ideal) x0 x1 (ix2 r u) * x3 (ix2 r u)) * val_main_v2_2 (F := Ideal) x2 (ix2 r u)
    + x2 (ix2 r u) * (val_main_v6 (F := Ideal) x0 x1 (ix2 r u) * x3 (ix2 r u))
      * (val_main_v2_2 (F := Ideal) x2 (ix2 r u) * (val_main_call0_v6 (F := Ideal) (ix2 r u) - val_main_v2_2 (F := Ideal) x2 (ix2 r u))) = _
  rw [v6_apply, sigma_apply, val_main_call0_v6_apply]
  show _ + _ * (_ * (Ideal.ofBits .f32 0x3F800000#32 - _)) = _
  rw [Ideal.ofBits_one_f32]; rfl

theorem up_apply (r : Fin 4096) (u : Fin 11008) :
    val_main_v7 (F := Ideal) x0 x1 x2 (ix2 r u) = x2 (ix2 r u) * Ideal.logistic (x2 (ix2 r u)) * dactRef x0 x1 r u := by
  show x2 (ix2 r u) * val_main_v2_2 (F := Ideal) x2 (ix2 r u) * val_main_v6 (F := Ideal) x0 x1 (ix2 r u) = _
  rw [v6_apply, sigma_apply]

theorem idx_eq (i : S8x4096x1376.Idx) : idx_main_v10 (idx_main_v11 i) = ix2 (i 1) (unitOf (i 0) (i 2)) := by
  have h0 : (i 0).val < 8 := (i 0).isLt
  have h1 : (i 1).val < 4096 := (i 1).isLt
  have h2 : (i 2).val < 1376 := (i 2).isLt
  funext a; apply Fin.ext
  match a with
  | ⟨0, _⟩ => show (((i 1).val * 8 + (i 0).val) * 1376 + (i 2).val) / 11008 = (i 1).val; omega
  | ⟨1, _⟩ => show (((i 1).val * 8 + (i 0).val) * 1376 + (i 2).val) % 11008 = (i 0).val * 1376 + (i 2).val; omega

theorem result_gate (i : S8x4096x1376.Idx) :
    val_main_v12 (F := Ideal) x0 x1 x2 x3 i = dgateRef (dactRef x0 x1 (i 1) (unitOf (i 0) (i 2))) (x2 (ix2 (i 1) (unitOf (i 0) (i 2)))) (x3 (ix2 (i 1) (unitOf (i 0) (i 2)))) := by
  show val_main_v11 (F := Ideal) x0 x1 x2 x3 i = _
  rw [val_main_v11_apply, val_main_v10_apply, idx_eq]
  exact gate_apply x0 x1 x2 x3 _ _

theorem result_up (i : S8x4096x1376.Idx) :
    val_main_v15 (F := Ideal) x0 x1 x2 i = x2 (ix2 (i 1) (unitOf (i 0) (i 2))) * Ideal.logistic (x2 (ix2 (i 1) (unitOf (i 0) (i 2)))) * dactRef x0 x1 (i 1) (unitOf (i 0) (i 2)) := by
  show val_main_v14 (F := Ideal) x0 x1 x2 i = _
  rw [val_main_v14_apply, val_main_v13_apply]
  rw [show idx_main_v13 (idx_main_v14 i) = ix2 (i 1) (unitOf (i 0) (i 2)) from idx_eq i]
  exact up_apply x0 x1 x2 _ _

end Cert.ActGradRefIdeal.Value

namespace Cert.ActProof

open Cert.ActGradIdeal.Value (dgate dup unitOf)
open Cert.ActGradRefIdeal.Value (dgateRef dactRef)

/-! ## The two spellings of the derivative -/

theorem logistic_real (x : ℝ) : ∃ s : ℝ, Ideal.logistic (x : EReal) = s := by
  refine ⟨(1 + Real.exp (-x))⁻¹, ?_⟩
  have h : (1 + Real.exp (-x)) ≠ 0 := by positivity
  have he : Ideal.exp (-(x : EReal)) = ((Real.exp (-x) : ℝ) : EReal) := rfl
  unfold Ideal.logistic
  rw [he, show (1 : EReal) + ((Real.exp (-x) : ℝ) : EReal) = ((1 + Real.exp (-x) : ℝ) : EReal) by push_cast; rfl]
  unfold Ideal.div
  rw [if_neg (by exact_mod_cast h), one_mul, ← EReal.coe_inv]

theorem dgate_eq (da g u : EReal) (hd : ∃ d : ℝ, da = d) (hu : ∃ v : ℝ, u = v) : dgate da g u = dgateRef da g u := by
  obtain ⟨d, rfl⟩ := hd
  obtain ⟨v, rfl⟩ := hu
  unfold dgate dgateRef
  induction g with
  | coe x =>
    obtain ⟨s, hs⟩ := logistic_real x
    rw [hs]
    norm_cast
    ring
  | top =>
    have h : Ideal.logistic (⊤ : EReal) = 1 := by
      unfold Ideal.logistic
      rw [EReal.neg_top, show Ideal.exp (⊥ : EReal) = 0 from rfl, add_zero]
      unfold Ideal.div
      rw [if_neg one_ne_zero]; simp
    rw [h, show (1 : EReal) - 1 = 0 by rw [← EReal.coe_one, ← EReal.coe_sub, sub_self, EReal.coe_zero]]
    simp
  | bot =>
    have h : Ideal.logistic (⊥ : EReal) = 0 := by
      unfold Ideal.logistic
      rw [EReal.neg_bot, show Ideal.exp (⊤ : EReal) = ⊤ from rfl, show (1 : EReal) + ⊤ = ⊤ from rfl]
      unfold Ideal.div
      rw [if_neg (by simp)]; simp
    rw [h]
    simp

/-- A sum of products of reals is a real. -/
theorem sum_real {n : Nat} (f g : Fin n → EReal) (hf : ∀ k, ∃ x : ℝ, f k = x) (hg : ∀ k, ∃ x : ℝ, g k = x) :
    ∃ x : ℝ, ∑ k, f k * g k = x := by
  choose a ha using hf
  choose b hb using hg
  refine ⟨∑ k, a k * b k, ?_⟩
  have h : ∀ s : Finset (Fin n), ∑ k ∈ s, f k * g k = ((∑ k ∈ s, a k * b k : ℝ) : EReal) := fun s => by
    classical
    induction s using Finset.induction_on with
    | empty => simp
    | insert k s hk ih => rw [Finset.sum_insert hk, Finset.sum_insert hk, ih, ha, hb, EReal.coe_add, EReal.coe_mul]
  exact h _

/-! ## What the precondition says -/

theorem real_of_abs_lt (x : EReal) (h : max x (-x) < ⊤) : ∃ r : ℝ, x = r := by
  induction x with
  | coe r => exact ⟨r, rfl⟩
  | top => simp at h
  | bot => simp at h

theorem real_of_olt {s : Shape} (x : FVec Ideal s .bf16) (h : FTy.bits .bf16 < FTy.bits .f32) (hb : Cert.Pre_finite.S_.BroadcastsInDim s (![] : Fin 0 → Fin s.rank))
    (hx : cmpf .olt (Host.absf (extf .f32 x h)) (broadcastInDim s ![] hb (constant (F := Ideal) Cert.Pre_finite.S_ .f32 0x7F800000#32)) = fun _ => 1#1) (i : s.Idx) :
    ∃ r : ℝ, (x i : EReal) = r := by
  refine real_of_abs_lt _ ?_
  have h1 := congrFun hx i
  have h2 : BitVec.ofBool (decide (max (x i : EReal) (-(x i)) < Ideal.ofBits .f32 0x7F800000#32)) = 1#1 := h1
  rw [show Ideal.ofBits .f32 0x7F800000#32 = (⊤ : EReal) by simp [Ideal.ofBits, Ideal.ieee]] at h2
  by_contra hc
  rw [decide_eq_false hc] at h2
  exact absurd h2 (by decide)

open Cert.ActGradIdeal in
theorem algebraic : Cert.algebraic_ActGradIdeal_ActGradRefIdeal_pre_finite := by
  intro m g m' g' hpre hargs
  refine ⟨fun c => Cert.ActGradIdeal.Value.gateGrad m c, fun c => Cert.ActGradIdeal.Value.upGrad m c, ?_, ?_⟩
  · refine (θ_run defs _ _).mono (fun r h c => ?_) (Cert.ActGradIdeal.Value.run_blocks (F := Ideal) m g)
    obtain ⟨h4, h5, h⟩ := h c
    exact ⟨h4.trans (Cert.ActGradIdeal.Value.final_gate m c), h5.trans (Cert.ActGradIdeal.Value.final_up m c), h⟩
  · refine (θ_run Cert.ActGradRefIdeal.defs _ _).mono (fun r h c => ?_) (Cert.ActGradRefIdeal.Value.run (F := Ideal) m' g')
    obtain ⟨h4, h5, h⟩ := h c
    obtain ⟨e0, e1, e2, e3⟩ := hargs c
    obtain ⟨p0, p1, p3⟩ := hpre c
    refine ⟨h4.trans ?_, h5.trans ?_, h⟩
    · rw [Cert.ActGradRefIdeal.Read.val_main_v12_eq, e0, e1, e2, e3]
      funext i
      rw [Cert.ActGradRefIdeal.Value.result_gate]
      refine (dgate_eq _ _ _ (sum_real _ _ (fun k => ?_) fun k => ?_) ?_).symm
      · exact real_of_olt _ _ _ p0 _
      · exact real_of_olt _ _ _ p1 _
      · exact real_of_olt _ _ _ p3 _
    · rw [Cert.ActGradRefIdeal.Read.val_main_v15_eq, e0, e1, e2]
      funext i
      rw [Cert.ActGradRefIdeal.Value.result_up, mul_comm]
      rfl

end Cert.ActProof

end
-- ==== Proof.Common.lean ====
/-
  What the products and the layouts of the gradients read at one index, over the extended reals.
-/
module

public import Idealize.ShloMosaic.Lib.MatmulPlain
public import Idealize.ShloMosaic.Lib.IdealHost
public import Idealize.ShloMosaic.Lib.ValueIdx
public import Idealize.ShloMosaic.Lib.ValueLayout
public import Idealize.ShloMosaic.Lib.Pipeline.Value

@[expose] public section

noncomputable section

open Idealize.ShloMosaic Idealize.SL.Sem Idealize.ShloMosaic.ValueIdx

namespace Cert.Common

theorem hz2 : (![0, 0] : Fin 2 → Nat) = fun _ => 0 := funext fun a => by fin_cases a <;> rfl
theorem hz3 : (![0, 0, 0] : Fin 3 → Nat) = fun _ => 0 := funext fun a => by fin_cases a <;> rfl

theorem zero_f32 : Ideal.ofBits .f32 0x00000000#32 = (0 : EReal) := by simp [Ideal.ofBits, Ideal.ieee]

/-- Both factors contracted over their first axes: `M` and `N` are what is left of the two. -/
def firstAxes (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap _ _ _, by simpa [List.finRange] using List.Perm.swap _ _ _, rfl, Nat.two_pos,
    fun b => by fin_cases b <;> rfl⟩

/-- Such a product at one index sums over the shared rows. -/
theorem firstAxes_apply {K M N : Nat} (prec : Option ContractPrecision)
    (lhs : (⟨2, ![K, M]⟩ : Shape).Idx → EReal) (rhs : (⟨2, ![K, N]⟩ : Shape).Idx → EReal)
    (acc : (⟨2, ![M, N]⟩ : Shape).Idx → EReal) (r : Fin M) (j : Fin N) :
    (FloatOps.matmul (F := Ideal) (φ₁ := .bf16) (φ₂ := .bf16) (firstAxes K M N) prec lhs rhs acc (ix2 r j) : EReal)
      = acc (ix2 r j) + ∑ k : Fin K, lhs (ix2 k r) * rhs (ix2 k j) := by
  rw [Ideal.matmul_apply, ← Equiv.sum_comp (contrEquiv1 (firstAxes K M N) K rfl rfl).symm]
  refine congrArg (acc (ix2 r j) + ·) (Finset.sum_congr rfl fun k _ => ?_)
  have hk := contrEquiv1_symm_val (firstAxes K M N) K rfl rfl k
  refine congrArg₂ (· * ·) (congrArg lhs (funext fun a => Fin.ext ?_)) (congrArg rhs (funext fun a => Fin.ext ?_))
  · match a with
    | ⟨0, _⟩ => exact hk
    | ⟨1, _⟩ => rfl
  · match a with
    | ⟨0, _⟩ => exact hk
    | ⟨1, _⟩ => rfl

/-- Column `j` of shard `s`, of the columns cut into shards of `n`. -/
theorem byShard_apply {α : Type} {T N n : Nat} (x : (⟨2, ![T, N]⟩ : Shape).Idx → α)
    (h : (⟨2, ![T, N]⟩ : Shape).ShapeCasts (⟨3, ![T, 8, n]⟩ : Shape))
    (h' : (⟨3, ![T, 8, n]⟩ : Shape).Transposes [1, 0, 2] (⟨3, ![8, T, n]⟩ : Shape)) (hN : N = 8 * n)
    (s : Fin 8) (r : Fin T) (j : Fin n) (u : Fin N) (hu : u.val = s.val * n + j.val) :
    transpose (⟨3, ![8, T, n]⟩ : Shape) [1, 0, 2] (shapeCast (⟨3, ![T, 8, n]⟩ : Shape) x h) h' (ix3 s r j) = x (ix2 r u) := by
  refine (transpose_apply [1, 0, 2] _ h' (ix3 s r j) (ix3 r s j) (fun b => match b with
    | ⟨0, _⟩ => rfl
    | ⟨1, _⟩ => rfl
    | ⟨2, _⟩ => rfl)).trans ?_
  refine shapeCast_apply x h (ix3 r s j) (ix2 r u) ?_
  rw [Shape.rowMajor_val_two, Shape.rowMajor_val_three]
  show r.val * N + u.val = (r.val * 8 + s.val) * n + j.val
  subst hN; rw [hu]; ring

/-- The rows of a transposed matrix, cut into shards. -/
theorem swapShard_apply {α : Type} {T N n : Nat} (x : (⟨2, ![T, N]⟩ : Shape).Idx → α)
    (h' : (⟨2, ![T, N]⟩ : Shape).Transposes [1, 0] (⟨2, ![N, T]⟩ : Shape))
    (h : (⟨2, ![N, T]⟩ : Shape).ShapeCasts (⟨3, ![8, n, T]⟩ : Shape))
    (s : Fin 8) (j : Fin n) (r : Fin T) (u : Fin N) (hu : u.val = s.val * n + j.val) :
    shapeCast (⟨3, ![8, n, T]⟩ : Shape) (transpose (⟨2, ![N, T]⟩ : Shape) [1, 0] x h') h (ix3 s j r) = x (ix2 r u) := by
  refine (shapeCast_apply _ h (ix3 s j r) (ix2 u r) ?_).trans (transpose_apply [1, 0] x h' (ix2 u r) (ix2 r u) (fun b => match b with
    | ⟨0, _⟩ => rfl
    | ⟨1, _⟩ => rfl))
  rw [Shape.rowMajor_val_two, Shape.rowMajor_val_three]
  show u.val * T + r.val = (s.val * n + j.val) * T + r.val
  rw [hu]

/-- A sum over all columns, shard by shard. -/
theorem sum_shards {n N : Nat} (hN : N = 8 * n) (f : Fin N → EReal) (g : Fin 8 → Fin n → EReal)
    (hg : ∀ (s : Fin 8) (j : Fin n) (u : Fin N), u.val = s.val * n + j.val → f u = g s j) :
    ∑ u : Fin N, f u = ∑ s : Fin 8, ∑ j : Fin n, g s j := by
  subst hN
  rw [← Equiv.sum_comp finProdFinEquiv, Fintype.sum_prod_type]
  refine Finset.sum_congr rfl fun s _ => Finset.sum_congr rfl fun j _ => hg s j _ ?_
  show j.val + n * s.val = s.val * n + j.val
  ring

end Cert.Common
end
-- ==== Proof.FfnWeightGradValue.lean ====
/-
  The gradients of the feed-forward's weights: what the kernel leaves in its result, over the extended reals, and that the two references leave the same.
-/
module

public import proofs.«01_k».proof.Defs
public import proofs.«01_k».proof.Proof.Common
public import proofs.«01_k».proof.Proof.Gen.FfnWeightGradIdeal.Value
public import proofs.«01_k».proof.Proof.Gen.DownWeightRefIdeal.Run
public import proofs.«01_k».proof.Proof.Gen.DownWeightRefIdeal.Read
public import proofs.«01_k».proof.Proof.Gen.GateWeightRefIdeal.Run
public import proofs.«01_k».proof.Proof.Gen.GateWeightRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Common

namespace Cert.FfnWeightGradIdeal.Value

open Cert.FfnWeightGradIdeal Cert.FfnWeightGradIdeal.Gen

/-- The product at one element of a block. -/
def prod (x0 : Vec Ideal S1x4096x1376 .bf16) (x1 : Vec Ideal S4096x512 .bf16) (r : Fin 1376) (j : Fin 512) : EReal :=
  ∑ k : Fin 4096, (x0 (ix3 0 k r) : EReal) * x1 (ix2 k j)

theorem pay1_apply (x0 : Vec Ideal S1x4096x1376 .bf16) (x1 : Vec Ideal S4096x512 .bf16) (r : Fin 1376) (j : Fin 512) :
    k0_pay1 (F := Ideal) x0 x1 (ix2 r j) = prod x0 x1 r j := by
  unfold k0_pay1 prod
  rw [shapeCast_self]
  refine (firstAxes_apply none (shapeCast S4096x1376 x0 shapeCasts_S1x4096x1376_S4096x1376) x1 _ r j).trans ?_
  rw [constant_apply, zero_f32, zero_add]
  refine Finset.sum_congr rfl fun k _ => ?_
  rw [shapeCast_1ab_ab_apply]

theorem pay2_apply (v : Vec Ideal S1376x512 .f32) (u : Fin 1) (r : Fin 1376) (j : Fin 512) :
    k0_pay2 (F := Ideal) v (ix3 u r j) = v (ix2 r j) := by
  unfold k0_pay2
  exact (shapeCast_ab_1ab_apply _ shapeCasts_S1376x512_S1x1376x512 u r j)

/-- The column of the whole that column `j` of shard `s` is. -/
def unitOf (s : Fin 8) (j : Fin 1376) : Fin 11008 := ⟨s.val * 1376 + j.val, by omega⟩

/-- The product of the tokens' two rows, summed over the tokens. -/
def total (x0 : (⟨S4096x11008, .bf16⟩ : BufTy).Contents (Elt Ideal)) (x1 : (⟨S4096x4096, .bf16⟩ : BufTy).Contents (Elt Ideal)) : S8x1376x4096.Idx → EReal :=
  fun i => ∑ k : Fin 4096, (x0 (ix2 k (unitOf (i 0) (i 1))) : EReal) * x1 (ix2 k (i 2))

/-- What a point leaves in its block of the result. -/
theorem out_apply (c : Dev nD) (i : grid0.Coords) (arg3 : Memref sig .tc .vmem S1x4096x1376 .bf16) (harg3 : arg3.IsWhole) (arg4 : Memref sig .tc .vmem S4096x512 .bf16) (harg4 : arg4.IsWhole) (arg5 : Memref sig .tc .vmem S1x1376x512 .bf16) (harg5 : arg5.IsWhole) (arg6 : Memref sig .tc .vmem S1376x512 .f32) (harg6 : arg6.IsWhole) (x0 : Vec Ideal S1x4096x1376 .bf16) (x1 : Vec Ideal S4096x512 .bf16) (u : Fin 1) (r : Fin 1376) (j : Fin 512) :
    out0_A_2 (F := Ideal) c i arg3 harg3 arg4 harg4 arg5 harg5 arg6 harg6 x0 x1 (ix3 u r j) = prod x0 x1 r j := by
  unfold out0_A_2
  rw [View.read_writes_eq_canon _ _ _ (cover0_A_2 c i arg3 harg3 arg4 harg4 arg5 harg5 arg6 harg6 x0 x1)]
  unfold kernelRun0_A
  dsimp only
  sl_unfold_words
  rw [View.canon_unit_zero (S := S1x1376x512) hz3]
  refine (pay2_apply ..).trans ?_
  rw [View.readCov_eq_canon', View.canon_unit_zero (S := S1376x512) hz2]
  dsimp only
  simp only [View.readAt_eq_ld, Memref.IsWhole.read_unread]
  rw [View.ld_unit_zero (S := S1x4096x1376) hz3, View.ld_unit_zero (S := S4096x512) hz2]
  refine Eq.trans ?_ (pay1_apply x0 x1 r j)
  refine congrArg (k0_pay1 (F := Ideal) x0 x1) (funext fun a => Fin.ext ?_)
  match a with
  | ⟨0, _⟩ => show 0 + 1 * r.val = r.val; omega
  | ⟨1, _⟩ => show 0 + 1 * j.val = j.val; omega

variable (m : (ℓ : Loc nD τ sig) → Buf (Elt Ideal) ℓ) (c : Dev nD)

abbrev a0 : (⟨S4096x11008, .bf16⟩ : BufTy).Contents (Elt Ideal) := m ((c : Thread nD τ).loc main_arg0)
abbrev a1 : (⟨S4096x4096, .bf16⟩ : BufTy).Contents (Elt Ideal) := m ((c : Thread nD τ).loc main_arg1)

theorem V1 : V m c main_v1 = transpose S8x4096x1376 [1, 0, 2] (shapeCast S4096x8x1376 (a0 m c) shapeCasts_S4096x11008_S4096x8x1376) transposes_S4096x8x1376_S8x4096x1376_1_0_2 := rfl

theorem index_0 : ∀ t : Fin cfg0.N, win0_0.index t 0 = t.val / 8 ∧ win0_0.index t 1 = 0 ∧ win0_0.index t 2 = 0 :=
  (by decide +kernel : ∀ t : Fin grid0.N, win0_0.index t 0 = t.val / 8 ∧ win0_0.index t 1 = 0 ∧ win0_0.index t 2 = 0)
theorem index_1 : ∀ t : Fin cfg0.N, win0_1.index t 0 = 0 ∧ win0_1.index t 1 = t.val % 8 :=
  (by decide +kernel : ∀ t : Fin grid0.N, win0_1.index t 0 = 0 ∧ win0_1.index t 1 = t.val % 8)
theorem index_2 : ∀ t : Fin cfg0.N, win0_2.index t 0 = t.val / 8 ∧ win0_2.index t 1 = 0 ∧ win0_2.index t 2 = t.val % 8 :=
  (by decide +kernel : ∀ t : Fin grid0.N, win0_2.index t 0 = t.val / 8 ∧ win0_2.index t 1 = 0 ∧ win0_2.index t 2 = t.val % 8)

theorem lt (t : Fin cfg0.N) : t.val < 64 := t.isLt

theorem blk0 (t : Fin cfg0.N) (u : Fin 1) (p : Fin 4096) (q : Fin 1376) :
    (iblk m c 0 t : Vec Ideal S1x4096x1376 .bf16) (ix3 u p q) = transpose S8x4096x1376 [1, 0, 2] (shapeCast S4096x8x1376 (a0 m c) shapeCasts_S4096x11008_S4096x8x1376) transposes_S4096x8x1376_S8x4096x1376_1_0_2 (ix3 (⟨t.val / 8, by have := lt t; omega⟩ : Fin 8) (⟨p.val, by have := lt t; omega⟩ : Fin 4096) (⟨q.val, by have := lt t; omega⟩ : Fin 1376)) := by
  unfold iblk
  rw [View.read_apply]
  show V m c main_v1 _ = _
  rw [V1]
  refine congrArg (transpose S8x4096x1376 [1, 0, 2] (shapeCast S4096x8x1376 (a0 m c) shapeCasts_S4096x11008_S4096x8x1376) transposes_S4096x8x1376_S8x4096x1376_1_0_2) (funext fun a => Fin.ext ?_)
  match a with
  | ⟨0, _⟩ => show win0_0.index t 0 * 1 + 1 * u.val = t.val / 8; rw [(index_0 t).1]; omega
  | ⟨1, _⟩ => show win0_0.index t 1 * 4096 + 1 * p.val = p.val; rw [(index_0 t).2.1]; omega
  | ⟨2, _⟩ => show win0_0.index t 2 * 1376 + 1 * q.val = q.val; rw [(index_0 t).2.2]; omega

theorem blk1 (t : Fin cfg0.N) (p : Fin 4096) (q : Fin 512) :
    (iblk m c 1 t : Vec Ideal S4096x512 .bf16) (ix2 p q) = a1 m c (ix2 (⟨p.val, by have := lt t; omega⟩ : Fin 4096) (⟨t.val % 8 * 512 + q.val, by have := lt t; omega⟩ : Fin 4096)) := by
  unfold iblk
  rw [View.read_apply]
  show V m c main_arg1 _ = _
  rw [V_main_arg1]
  refine congrArg (a1 m c) (funext fun a => Fin.ext ?_)
  match a with
  | ⟨0, _⟩ => show win0_1.index t 0 * 4096 + 1 * p.val = p.val; rw [(index_1 t).1]; omega
  | ⟨1, _⟩ => show win0_1.index t 1 * 512 + 1 * q.val = t.val % 8 * 512 + q.val; rw [(index_1 t).2]; omega

abbrev result : S8x1376x4096.Idx → EReal := total (a0 m c) (a1 m c)

theorem flushed_eq (t : Fin cfg0.N) : (dats m 0 c).flushed 2 t = ((cfg0.win 2).blk t).view.read (Elt Ideal) (result m c) := by
  rw [flushed2_A]
  funext y
  obtain ⟨u, r, j, rfl⟩ : ∃ (u : Fin 1) (r : Fin 1376) (j : Fin 512), y = ix3 u r j := ⟨_, _, _, eq_ix3 y⟩
  rw [View.read_apply]
  refine (out_apply ..).trans ?_
  refine (show _ = result m c (ix3 (⟨t.val / 8, by have := lt t; omega⟩ : Fin 8) (⟨r.val, by have := lt t; omega⟩ : Fin 1376) (⟨t.val % 8 * 512 + j.val, by have := lt t; omega⟩ : Fin 4096)) from ?_).trans ?_
  · refine Finset.sum_congr rfl fun k _ => ?_
    rw [blk0, blk1]
    exact congrArg (· * _) (byShard_apply (a0 m c) _ _ rfl _ _ _ _ rfl)
  · refine congrArg (result m c) (funext fun a => Fin.ext ?_)
    match a with
    | ⟨0, _⟩ => show t.val / 8 = win0_2.index t 0 * 1 + 1 * u.val; rw [(index_2 t).1]; omega
    | ⟨1, _⟩ => show r.val = win0_2.index t 1 * 1376 + 1 * r.val; rw [(index_2 t).2.1]; omega
    | ⟨2, _⟩ => show t.val % 8 * 512 + j.val = win0_2.index t 2 * 512 + 1 * j.val; rw [(index_2 t).2.2]; omega

/-- The point whose block holds an index of the result. -/
def pointOf (i : S8x1376x4096.Idx) : Fin cfg0.N :=
  ⟨(i 0).val * 8 + (i 2).val / 512, by
    have h0 : (i 0).val < 8 := (i 0).isLt
    have h1 : (i 1).val < 1376 := (i 1).isLt
    have h2 : (i 2).val < 4096 := (i 2).isLt
    show _ < 64; omega⟩

theorem final_eq : (dats m 0 c).arrAt 2 cfg0.N = result m c :=
  (dats m 0 c).arrAt_eq_of_cover 2 (result m c) (fun t _ => flushed_eq m c t) fun i => ⟨pointOf i, flush0_2 _, by
    have h0 : (i 0).val < 8 := (i 0).isLt
    have h1 : (i 1).val < 1376 := (i 1).isLt
    have h2 : (i 2).val < 4096 := (i 2).isLt
    show i ∈ ((View.whole main_v2).slice (win0_2.rect (pointOf i))).set
    rw [View.set_slice_whole, Rect.mem_set_unit]
    have hp : (pointOf i).val = (i 0).val * 8 + (i 2).val / 512 := rfl
    intro a
    match a with
    | ⟨0, _⟩ => show win0_2.index (pointOf i) 0 * 1 ≤ (i 0 : Nat) ∧ (i 0 : Nat) < win0_2.index (pointOf i) 0 * 1 + 1
                rw [(index_2 _).1, hp]; omega
    | ⟨1, _⟩ => show win0_2.index (pointOf i) 1 * 1376 ≤ (i 1 : Nat) ∧ (i 1 : Nat) < win0_2.index (pointOf i) 1 * 1376 + 1376
                rw [(index_2 _).2.1]; omega
    | ⟨2, _⟩ => show win0_2.index (pointOf i) 2 * 512 ≤ (i 2 : Nat) ∧ (i 2 : Nat) < win0_2.index (pointOf i) 2 * 512 + 512
                rw [(index_2 _).2.2, hp]; omega⟩

end Cert.FfnWeightGradIdeal.Value

namespace Cert.DownWeightRefIdeal.Value

open Cert.DownWeightRefIdeal Cert.DownWeightRefIdeal.Read

theorem result_eq (x0 : (⟨S4096x11008, .bf16⟩ : BufTy).Contents (Elt Ideal)) (x1 : (⟨S4096x4096, .bf16⟩ : BufTy).Contents (Elt Ideal)) (i : S8x1376x4096.Idx) :
    val_main_v7 (F := Ideal) x0 x1 i = Cert.FfnWeightGradIdeal.Value.total x0 x1 i := by
  have h0 : (i 0).val < 8 := (i 0).isLt
  have h1 : (i 1).val < 1376 := (i 1).isLt
  have h2 : (i 2).val < 4096 := (i 2).isLt
  refine (show _ = val_main_v6 (F := Ideal) x0 x1 i from rfl).trans ?_
  rw [val_main_v6_apply, val_main_v5_apply, val_main_v4_apply]
  refine Finset.sum_congr rfl fun k _ => ?_
  rw [mul_comm]
  refine congrArg₂ (· * ·) (show x0 _ = x0 _ from congrArg x0 (funext fun a => Fin.ext ?_)) (show x1 _ = x1 _ from congrArg x1 (funext fun a => Fin.ext ?_))
  · match a with
    | ⟨0, _⟩ => rfl
    | ⟨1, _⟩ => show ((((i 0).val * 1376 + (i 1).val) * 4096 + (i 2).val) / 4096) = (i 0).val * 1376 + (i 1).val; omega
  · match a with
    | ⟨0, _⟩ => rfl
    | ⟨1, _⟩ => show ((((i 0).val * 1376 + (i 1).val) * 4096 + (i 2).val) % 4096) = (i 2).val; omega

/-- The reference runs to its end. -/
theorem frame : Cert.quiescent_DownWeightRefIdeal := fun m g _ =>
  (θ_run Cert.DownWeightRefIdeal.defs _ _).mono (fun r h => ⟨fun c => (h c).2, Idealize.ShloMosaic.sem_eq_zero_of_no_sems (by decide) r.2⟩)
    (Cert.DownWeightRefIdeal.Value.run (F := Ideal) m g)

/-- The kernel computes what the reference computes. -/
theorem algebraic : Cert.algebraic_FfnWeightGradIdeal_DownWeightRefIdeal := by
  intro m g m' g' _ hargs
  refine ⟨fun c => Cert.FfnWeightGradIdeal.Value.result m c, ?_, ?_⟩
  · refine (θ_run Cert.FfnWeightGradIdeal.defs _ _).mono (fun r h c => ?_) (Cert.FfnWeightGradIdeal.Value.run_blocks (F := Ideal) m g)
    obtain ⟨h2, h⟩ := h c
    exact ⟨h2.trans (Cert.FfnWeightGradIdeal.Value.final_eq m c), h⟩
  · refine (θ_run Cert.DownWeightRefIdeal.defs _ _).mono (fun r h c => ?_) (Cert.DownWeightRefIdeal.Value.run (F := Ideal) m' g')
    obtain ⟨h2, h⟩ := h c
    obtain ⟨e0, e1⟩ := hargs c
    refine ⟨h2.trans ?_, h⟩
    refine (val_main_v7_eq _ _).trans ?_
    rw [e0, e1]
    funext i
    exact result_eq _ _ i

end Cert.DownWeightRefIdeal.Value

namespace Cert.GateWeightRefIdeal.Value

open Cert.GateWeightRefIdeal Cert.GateWeightRefIdeal.Read

theorem result_eq (x0 : (⟨S4096x11008, .bf16⟩ : BufTy).Contents (Elt Ideal)) (x1 : (⟨S4096x4096, .bf16⟩ : BufTy).Contents (Elt Ideal)) (i : S8x1376x4096.Idx) :
    val_main_v8 (F := Ideal) x0 x1 i = Cert.FfnWeightGradIdeal.Value.total x0 x1 i := by
  have h0 : (i 0).val < 8 := (i 0).isLt
  have h1 : (i 1).val < 1376 := (i 1).isLt
  have h2 : (i 2).val < 4096 := (i 2).isLt
  refine (show _ = val_main_v7 (F := Ideal) x0 x1 i from rfl).trans ?_
  rw [val_main_v7_apply, val_main_v6_apply, val_main_v5_apply, val_main_v4_apply]
  refine Finset.sum_congr rfl fun k _ => ?_
  refine congrArg₂ (· * ·) (show x0 _ = x0 _ from congrArg x0 (funext fun a => Fin.ext ?_)) (show x1 _ = x1 _ from congrArg x1 (funext fun a => Fin.ext ?_))
  · match a with
    | ⟨0, _⟩ => rfl
    | ⟨1, _⟩ => show ((((i 0).val * 1376 + (i 1).val) * 4096 + (i 2).val) / 4096) = (i 0).val * 1376 + (i 1).val; omega
  · match a with
    | ⟨0, _⟩ => rfl
    | ⟨1, _⟩ => show ((((i 0).val * 1376 + (i 1).val) * 4096 + (i 2).val) % 4096) = (i 2).val; omega

/-- The reference runs to its end. -/
theorem frame : Cert.quiescent_GateWeightRefIdeal := fun m g _ =>
  (θ_run Cert.GateWeightRefIdeal.defs _ _).mono (fun r h => ⟨fun c => (h c).2, Idealize.ShloMosaic.sem_eq_zero_of_no_sems (by decide) r.2⟩)
    (Cert.GateWeightRefIdeal.Value.run (F := Ideal) m g)

/-- The kernel computes what the reference computes. -/
theorem algebraic : Cert.algebraic_FfnWeightGradIdeal_GateWeightRefIdeal := by
  intro m g m' g' _ hargs
  refine ⟨fun c => Cert.FfnWeightGradIdeal.Value.result m c, ?_, ?_⟩
  · refine (θ_run Cert.FfnWeightGradIdeal.defs _ _).mono (fun r h c => ?_) (Cert.FfnWeightGradIdeal.Value.run_blocks (F := Ideal) m g)
    obtain ⟨h2, h⟩ := h c
    exact ⟨h2.trans (Cert.FfnWeightGradIdeal.Value.final_eq m c), h⟩
  · refine (θ_run Cert.GateWeightRefIdeal.defs _ _).mono (fun r h c => ?_) (Cert.GateWeightRefIdeal.Value.run (F := Ideal) m' g')
    obtain ⟨h2, h⟩ := h c
    obtain ⟨e0, e1⟩ := hargs c
    refine ⟨h2.trans ?_, h⟩
    refine (val_main_v8_eq _ _).trans ?_
    rw [e0, e1]
    funext i
    exact result_eq _ _ i

end Cert.GateWeightRefIdeal.Value

end
-- ==== Proof.FfnInputGradValue.lean ====
/-
  The gradient of the feed-forward's input: what the kernel leaves in its result, over the extended reals, and that the reference leaves the same.
-/
module

public import proofs.«01_k».proof.Defs
public import proofs.«01_k».proof.Proof.Common
public import proofs.«01_k».proof.Proof.Gen.FfnInputGradIdeal.Value
public import proofs.«01_k».proof.Proof.Gen.FfnInputGradRefIdeal.Run
public import proofs.«01_k».proof.Proof.Gen.FfnInputGradRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Common

namespace Cert.FfnInputGradIdeal.Value

open Cert.FfnInputGradIdeal Cert.FfnInputGradIdeal.Gen

/-- The hidden unit that column `j` of shard `s` is. -/
def unitOf (s : Fin 8) (j : Fin 1376) : Fin 11008 := ⟨s.val * 1376 + j.val, by omega⟩

/-- One shard's share of one of the two products. -/
def shard (x w : (⟨S4096x11008, .bf16⟩ : BufTy).Contents (Elt Ideal)) (r d : Fin 4096) (s : Fin 8) : EReal :=
  ∑ k : Fin 1376, (x (ix2 r (unitOf s k)) : EReal) * w (ix2 d (unitOf s k))

/-- The products of a token's two rows and the two weights' rows, added. -/
def total (x0 x1 x2 x3 : (⟨S4096x11008, .bf16⟩ : BufTy).Contents (Elt Ideal)) : S4096x4096.Idx → EReal :=
  fun i => (∑ k : Fin 11008, (x0 (ix2 (i 0) k) : EReal) * x2 (ix2 (i 1) k)) + ∑ k : Fin 11008, (x1 (ix2 (i 0) k) : EReal) * x3 (ix2 (i 1) k)

theorem sum_apply (x w : (⟨S4096x11008, .bf16⟩ : BufTy).Contents (Elt Ideal)) (r d : Fin 4096) :
    ∑ k : Fin 11008, (x (ix2 r k) : EReal) * w (ix2 d k) = ∑ s : Fin 8, shard x w r d s := by
  unfold shard
  refine sum_shards (n := 1376) rfl _ _ fun s j u hu => ?_
  obtain rfl : u = unitOf s j := Fin.ext hu
  rfl

theorem total_apply (x0 x1 x2 x3 : (⟨S4096x11008, .bf16⟩ : BufTy).Contents (Elt Ideal)) (r d : Fin 4096) :
    total x0 x1 x2 x3 (ix2 r d) = (∑ s : Fin 8, shard x0 x2 r d s) + ∑ s : Fin 8, shard x1 x3 r d s :=
  congrArg₂ (· + ·) (sum_apply x0 x2 r d) (sum_apply x1 x3 r d)

/-! ## What a point adds -/

def mul (v : Vec Ideal S1x512x1376 .bf16) (w : Vec Ideal S1x1376x1024 .bf16) (r : Fin 512) (j : Fin 1024) : EReal :=
  ∑ k : Fin 1376, (v (ix3 0 r k) : EReal) * w (ix3 0 k j)

/-- One of a point's two shards, of one of the two products. -/
def half (x : Vec Ideal S2x512x1376 .bf16) (w : Vec Ideal S2x1376x1024 .bf16) (r : Fin 512) (j : Fin 1024) (s : Fin 2) : EReal :=
  ∑ k : Fin 1376, (x (ix3 s r k) : EReal) * w (ix3 s k j)

def part (x0 x1 : Vec Ideal S2x512x1376 .bf16) (x2 x3 : Vec Ideal S2x1376x1024 .bf16) (r : Fin 512) (j : Fin 1024) : EReal :=
  half x0 x2 r j 0 + half x0 x2 r j 1 + half x1 x3 r j 0 + half x1 x3 r j 1

theorem matmul_apply (v : Vec Ideal S1x512x1376 .bf16) (w : Vec Ideal S1x1376x1024 .bf16) (r : Fin 512) (j : Fin 1024) :
    matmul (F := Ideal) (φ₁ := .bf16) (φ₂ := .bf16) dot_S512x1376_S1376x1024_S512x1024_1_0_0_1_n_n none (shapeCast S512x1376 v shapeCasts_S1x512x1376_S512x1376)
      (shapeCast S1376x1024 w shapeCasts_S1x1376x1024_S1376x1024) (constant S512x1024 .f32 0x00000000#32) (ix2 r j) = mul v w r j := by
  refine (Ideal.matmul_plain_apply none (shapeCast S512x1376 v shapeCasts_S1x512x1376_S512x1376) (shapeCast S1376x1024 w shapeCasts_S1x1376x1024_S1376x1024) _ r j).trans ?_
  rw [constant_apply, zero_f32, zero_add]
  refine Finset.sum_congr rfl fun k _ => ?_
  rw [shapeCast_1ab_ab_apply, shapeCast_1ab_ab_apply]

theorem mul_ld (x : Vec Ideal S2x512x1376 .bf16) (w : Vec Ideal S2x1376x1024 .bf16) (r : Fin 512) (j : Fin 1024) (s : Fin 2) (n : Nat) (hn : s.val = n)
    (h0 : ∀ a, (![n, 0, 0] : Fin 3 → Nat) a + S1x512x1376.size a ≤ S2x512x1376.size a)
    (h1 : ∀ a, (![n, 0, 0] : Fin 3 → Nat) a + S1x1376x1024.size a ≤ S2x1376x1024.size a) :
    mul (View.ld x (Rect.unit (s := S2x512x1376) ![n, 0, 0] S1x512x1376.size h0)) (View.ld w (Rect.unit (s := S2x1376x1024) ![n, 0, 0] S1x1376x1024.size h1)) r j
      = half x w r j s := by
  subst hn
  refine Finset.sum_congr rfl fun k _ => congrArg₂ (· * ·) (show x _ = x _ from congrArg x (funext fun a => Fin.ext ?_)) (show w _ = w _ from congrArg w (funext fun a => Fin.ext ?_))
  · match a with
    | ⟨0, _⟩ => show s.val + 1 * 0 = s.val; omega
    | ⟨1, _⟩ => show 0 + 1 * r.val = r.val; omega
    | ⟨2, _⟩ => show 0 + 1 * k.val = k.val; omega
  · match a with
    | ⟨0, _⟩ => show s.val + 1 * 0 = s.val; omega
    | ⟨1, _⟩ => show 0 + 1 * k.val = k.val; omega
    | ⟨2, _⟩ => show 0 + 1 * j.val = j.val; omega

theorem pay2_apply (v0 v5 v11 v17 : Vec Ideal S1x512x1376 .bf16) (v2 v7 v13 v19 : Vec Ideal S1x1376x1024 .bf16) (r : Fin 512) (j : Fin 1024) :
    k0_pay2 (F := Ideal) v0 v2 v5 v7 v11 v13 v17 v19 (ix2 r j) = mul v0 v2 r j + mul v5 v7 r j + mul v11 v13 r j + mul v17 v19 r j := by
  unfold k0_pay2
  rw [addf_apply, addf_apply, addf_apply]
  exact congrArg₂ (· + ·) (congrArg₂ (· + ·) (congrArg₂ (· + ·) (matmul_apply v0 v2 r j) (matmul_apply v5 v7 r j)) (matmul_apply v11 v13 r j)) (matmul_apply v17 v19 r j)

theorem pay2_ld (x0 x1 : Vec Ideal S2x512x1376 .bf16) (x2 x3 : Vec Ideal S2x1376x1024 .bf16) (r : Fin 512) (j : Fin 1024) :
    k0_pay2 (F := Ideal) (View.ld x0 (Rect.unit (s := S2x512x1376) ![0, 0, 0] S1x512x1376.size inb_S2x512x1376_S1x512x1376_0_0_0)) (View.ld x2 (Rect.unit (s := S2x1376x1024) ![0, 0, 0] S1x1376x1024.size inb_S2x1376x1024_S1x1376x1024_0_0_0))
      (View.ld x0 (Rect.unit (s := S2x512x1376) ![1, 0, 0] S1x512x1376.size inb_S2x512x1376_S1x512x1376_1_0_0)) (View.ld x2 (Rect.unit (s := S2x1376x1024) ![1, 0, 0] S1x1376x1024.size inb_S2x1376x1024_S1x1376x1024_1_0_0))
      (View.ld x1 (Rect.unit (s := S2x512x1376) ![0, 0, 0] S1x512x1376.size inb_S2x512x1376_S1x512x1376_0_0_0)) (View.ld x3 (Rect.unit (s := S2x1376x1024) ![0, 0, 0] S1x1376x1024.size inb_S2x1376x1024_S1x1376x1024_0_0_0))
      (View.ld x1 (Rect.unit (s := S2x512x1376) ![1, 0, 0] S1x512x1376.size inb_S2x512x1376_S1x512x1376_1_0_0)) (View.ld x3 (Rect.unit (s := S2x1376x1024) ![1, 0, 0] S1x1376x1024.size inb_S2x1376x1024_S1x1376x1024_1_0_0)) (ix2 r j)
      = part x0 x1 x2 x3 r j := by
  refine (pay2_apply ..).trans ?_
  exact congrArg₂ (· + ·) (congrArg₂ (· + ·) (congrArg₂ (· + ·) (mul_ld x0 x2 r j 0 0 rfl _ _) (mul_ld x0 x2 r j 1 1 rfl _ _)) (mul_ld x1 x3 r j 0 0 rfl _ _)) (mul_ld x1 x3 r j 1 1 rfl _ _)

theorem sout_A_apply (c : Dev nD) (i : grid0.Coords) (arg3 : Memref sig .tc .vmem S2x512x1376 .bf16) (harg3 : arg3.IsWhole) (arg4 : Memref sig .tc .vmem S2x512x1376 .bf16) (harg4 : arg4.IsWhole) (arg5 : Memref sig .tc .vmem S2x1376x1024 .bf16) (harg5 : arg5.IsWhole) (arg6 : Memref sig .tc .vmem S2x1376x1024 .bf16) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i) (hc2 : ¬cond0_2 i) (x0 x1 : Vec Ideal S2x512x1376 .bf16) (x2 x3 : Vec Ideal S2x1376x1024 .bf16) (r : Fin 512) (j : Fin 1024) :
    sout0_A_0 (F := Ideal) c i arg3 harg3 arg4 harg4 arg5 harg5 arg6 harg6 arg7 harg7 arg8 harg8 hc0 hc1 hc2 x0 x1 x2 x3 (ix2 r j) = part x0 x1 x2 x3 r j := by
  unfold sout0_A_0
  rw [View.read_writes_eq_canon _ _ _ (scover0_A_0 c i arg3 harg3 arg4 harg4 arg5 harg5 arg6 harg6 arg7 harg7 arg8 harg8 hc0 hc1 hc2 x0 x1 x2 x3)]
  unfold kernelRun0_A
  dsimp only
  sl_unfold_words
  rw [View.canon_unit_zero (S := S512x1024) hz2]
  try dsimp only
  simp only [View.readAt_eq_ld, Memref.IsWhole.read_unread]
  unfold k0_pay3
  rw [shapeCast_self]
  exact pay2_ld x0 x1 x2 x3 r j

theorem sout_B_apply (c : Dev nD) (i : grid0.Coords) (arg3 : Memref sig .tc .vmem S2x512x1376 .bf16) (harg3 : arg3.IsWhole) (arg4 : Memref sig .tc .vmem S2x512x1376 .bf16) (harg4 : arg4.IsWhole) (arg5 : Memref sig .tc .vmem S2x1376x1024 .bf16) (harg5 : arg5.IsWhole) (arg6 : Memref sig .tc .vmem S2x1376x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i) (hc2 : ¬cond0_2 i) (x0 x1 : Vec Ideal S2x512x1376 .bf16) (x2 x3 : Vec Ideal S2x1376x1024 .bf16) (xs0 : Vec Ideal S512x1024 .f32) (r : Fin 512) (j : Fin 1024) :
    sout0_B_0 (F := Ideal) c i arg3 harg3 arg4 harg4 arg5 harg5 arg6 harg6 arg7 harg7 arg8 harg8 hc0 hc1 hc2 x0 x1 x2 x3 xs0 (ix2 r j) = xs0 (ix2 r j) + part x0 x1 x2 x3 r j := by
  unfold sout0_B_0
  rw [View.read_writes_eq_canon _ _ _ (scover0_B_0 c i arg3 harg3 arg4 harg4 arg5 harg5 arg6 harg6 arg7 harg7 arg8 harg8 hc0 hc1 hc2 x0 x1 x2 x3 xs0)]
  unfold kernelRun0_B
  dsimp only
  sl_unfold_words
  rw [View.canon_unit_zero (S := S512x1024) hz2]
  try dsimp only
  simp only [View.readAt_eq_ld, Memref.IsWhole.read_unread]
  unfold k0_pay1
  rw [shapeCast_self, View.ld_unit_zero (S := S512x1024) hz2, addf_apply]
  exact congrArg (xs0 (ix2 r j) + ·) (pay2_ld x0 x1 x2 x3 r j)

theorem out_C_apply (c : Dev nD) (i : grid0.Coords) (arg3 : Memref sig .tc .vmem S2x512x1376 .bf16) (harg3 : arg3.IsWhole) (arg4 : Memref sig .tc .vmem S2x512x1376 .bf16) (harg4 : arg4.IsWhole) (arg5 : Memref sig .tc .vmem S2x1376x1024 .bf16) (harg5 : arg5.IsWhole) (arg6 : Memref sig .tc .vmem S2x1376x1024 .bf16) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i) (hc2 : cond0_2 i) (x0 x1 : Vec Ideal S2x512x1376 .bf16) (x2 x3 : Vec Ideal S2x1376x1024 .bf16) (xs0 : Vec Ideal S512x1024 .f32) (r : Fin 512) (j : Fin 1024) :
    out0_C_4 (F := Ideal) c i arg3 harg3 arg4 harg4 arg5 harg5 arg6 harg6 arg7 harg7 arg8 harg8 hc0 hc1 hc2 x0 x1 x2 x3 xs0 (ix2 r j) = xs0 (ix2 r j) + part x0 x1 x2 x3 r j := by
  unfold out0_C_4
  rw [View.read_writes_eq_canon _ _ _ (cover0_C_4 c i arg3 harg3 arg4 harg4 arg5 harg5 arg6 harg6 arg7 harg7 arg8 harg8 hc0 hc1 hc2 x0 x1 x2 x3 xs0)]
  unfold kernelRun0_C
  dsimp only
  sl_unfold_words
  rw [View.canon_unit_zero (S := S512x1024) hz2]
  rw [View.readCov_eq_canon', View.canon_unit_zero (S := S512x1024) hz2]
  try dsimp only
  simp only [View.readAt_eq_ld, Memref.IsWhole.read_unread]
  unfold k0_pay1
  rw [shapeCast_self, View.ld_unit_zero (S := S512x1024) hz2]
  rw [show (Rect.unit (s := S512x1024) ![0, 0] S512x1024.size inb_S512x1024_S512x1024_0_0).toLoadRect.idx (ix2 r j) = ix2 r j from funext fun a => Fin.ext (match a with
    | ⟨0, _⟩ => by show 0 + 1 * r.val = r.val; omega
    | ⟨1, _⟩ => by show 0 + 1 * j.val = j.val; omega)]
  rw [addf_apply]
  exact congrArg (xs0 (ix2 r j) + ·) (pay2_ld x0 x1 x2 x3 r j)

variable (m : (ℓ : Loc nD τ sig) → Buf (Elt Ideal) ℓ) (c : Dev nD)

abbrev a0 : (⟨S4096x11008, .bf16⟩ : BufTy).Contents (Elt Ideal) := m ((c : Thread nD τ).loc main_arg0)
abbrev a1 : (⟨S4096x11008, .bf16⟩ : BufTy).Contents (Elt Ideal) := m ((c : Thread nD τ).loc main_arg1)
abbrev a2 : (⟨S4096x11008, .bf16⟩ : BufTy).Contents (Elt Ideal) := m ((c : Thread nD τ).loc main_arg2)
abbrev a3 : (⟨S4096x11008, .bf16⟩ : BufTy).Contents (Elt Ideal) := m ((c : Thread nD τ).loc main_arg3)
theorem V1 : V m c main_v1 = transpose S8x4096x1376 [1, 0, 2] (shapeCast S4096x8x1376 (a0 m c) shapeCasts_S4096x11008_S4096x8x1376) transposes_S4096x8x1376_S8x4096x1376_1_0_2 := rfl
theorem V3 : V m c main_v3 = transpose S8x4096x1376 [1, 0, 2] (shapeCast S4096x8x1376 (a1 m c) shapeCasts_S4096x11008_S4096x8x1376) transposes_S4096x8x1376_S8x4096x1376_1_0_2 := rfl
theorem V5 : V m c main_v5 = shapeCast S8x1376x4096 (transpose S11008x4096 [1, 0] (a2 m c) transposes_S4096x11008_S11008x4096_1_0) shapeCasts_S11008x4096_S8x1376x4096 := rfl
theorem V7 : V m c main_v7 = shapeCast S8x1376x4096 (transpose S11008x4096 [1, 0] (a3 m c) transposes_S4096x11008_S11008x4096_1_0) shapeCasts_S11008x4096_S8x1376x4096 := rfl

theorem index_0 : ∀ t : Fin cfg0.N, win0_0.index t 0 = t.val % 4 ∧ win0_0.index t 1 = t.val / 16 ∧ win0_0.index t 2 = 0 :=
  (by decide +kernel : ∀ t : Fin grid0.N, win0_0.index t 0 = t.val % 4 ∧ win0_0.index t 1 = t.val / 16 ∧ win0_0.index t 2 = 0)
theorem index_1 : ∀ t : Fin cfg0.N, win0_1.index t 0 = t.val % 4 ∧ win0_1.index t 1 = t.val / 16 ∧ win0_1.index t 2 = 0 :=
  (by decide +kernel : ∀ t : Fin grid0.N, win0_1.index t 0 = t.val % 4 ∧ win0_1.index t 1 = t.val / 16 ∧ win0_1.index t 2 = 0)
theorem index_2 : ∀ t : Fin cfg0.N, win0_2.index t 0 = t.val % 4 ∧ win0_2.index t 1 = 0 ∧ win0_2.index t 2 = t.val / 4 % 4 :=
  (by decide +kernel : ∀ t : Fin grid0.N, win0_2.index t 0 = t.val % 4 ∧ win0_2.index t 1 = 0 ∧ win0_2.index t 2 = t.val / 4 % 4)
theorem index_3 : ∀ t : Fin cfg0.N, win0_3.index t 0 = t.val % 4 ∧ win0_3.index t 1 = 0 ∧ win0_3.index t 2 = t.val / 4 % 4 :=
  (by decide +kernel : ∀ t : Fin grid0.N, win0_3.index t 0 = t.val % 4 ∧ win0_3.index t 1 = 0 ∧ win0_3.index t 2 = t.val / 4 % 4)
theorem index_4 : ∀ t : Fin cfg0.N, win0_4.index t 0 = t.val / 16 ∧ win0_4.index t 1 = t.val / 4 % 4 :=
  (by decide +kernel : ∀ t : Fin grid0.N, win0_4.index t 0 = t.val / 16 ∧ win0_4.index t 1 = t.val / 4 % 4)

theorem lt (t : Fin cfg0.N) : t.val < 128 := t.isLt
def rowAt (t : Fin cfg0.N) (r : Fin 512) : Fin 4096 := ⟨t.val / 16 * 512 + r.val, by have := lt t; omega⟩
def colAt (t : Fin cfg0.N) (j : Fin 1024) : Fin 4096 := ⟨t.val / 4 % 4 * 1024 + j.val, by omega⟩
def shardAt (t : Fin cfg0.N) (s : Fin 2) : Fin 8 := ⟨t.val % 4 * 2 + s.val, by omega⟩

theorem blk0 (t : Fin cfg0.N) (s : Fin 2) (r : Fin 512) (k : Fin 1376) :
    (iblk m c 0 t : Vec Ideal S2x512x1376 .bf16) (ix3 s r k) = a0 m c (ix2 (rowAt t r) (unitOf (shardAt t s) k)) := by
  unfold iblk
  rw [View.read_apply]
  show V m c main_v1 _ = _
  rw [V1]
  refine Eq.trans ?_ (byShard_apply (a0 m c) shapeCasts_S4096x11008_S4096x8x1376 transposes_S4096x8x1376_S8x4096x1376_1_0_2 rfl (shardAt t s) (rowAt t r) k _ rfl)
  refine congrArg (transpose S8x4096x1376 [1, 0, 2] (shapeCast S4096x8x1376 (a0 m c) shapeCasts_S4096x11008_S4096x8x1376) transposes_S4096x8x1376_S8x4096x1376_1_0_2) (funext fun a => Fin.ext ?_)
  match a with
  | ⟨0, _⟩ => show win0_0.index t 0 * 2 + 1 * s.val = t.val % 4 * 2 + s.val; rw [(index_0 t).1]; omega
  | ⟨1, _⟩ => show win0_0.index t 1 * 512 + 1 * r.val = t.val / 16 * 512 + r.val; rw [(index_0 t).2.1]; omega
  | ⟨2, _⟩ => show win0_0.index t 2 * 1376 + 1 * k.val = k.val; rw [(index_0 t).2.2]; omega

theorem blk1 (t : Fin cfg0.N) (s : Fin 2) (r : Fin 512) (k : Fin 1376) :
    (iblk m c 1 t : Vec Ideal S2x512x1376 .bf16) (ix3 s r k) = a1 m c (ix2 (rowAt t r) (unitOf (shardAt t s) k)) := by
  unfold iblk
  rw [View.read_apply]
  show V m c main_v3 _ = _
  rw [V3]
  refine Eq.trans ?_ (byShard_apply (a1 m c) shapeCasts_S4096x11008_S4096x8x1376 transposes_S4096x8x1376_S8x4096x1376_1_0_2 rfl (shardAt t s) (rowAt t r) k _ rfl)
  refine congrArg (transpose S8x4096x1376 [1, 0, 2] (shapeCast S4096x8x1376 (a1 m c) shapeCasts_S4096x11008_S4096x8x1376) transposes_S4096x8x1376_S8x4096x1376_1_0_2) (funext fun a => Fin.ext ?_)
  match a with
  | ⟨0, _⟩ => show win0_1.index t 0 * 2 + 1 * s.val = t.val % 4 * 2 + s.val; rw [(index_1 t).1]; omega
  | ⟨1, _⟩ => show win0_1.index t 1 * 512 + 1 * r.val = t.val / 16 * 512 + r.val; rw [(index_1 t).2.1]; omega
  | ⟨2, _⟩ => show win0_1.index t 2 * 1376 + 1 * k.val = k.val; rw [(index_1 t).2.2]; omega

theorem blk2 (t : Fin cfg0.N) (s : Fin 2) (k : Fin 1376) (j : Fin 1024) :
    (iblk m c 2 t : Vec Ideal S2x1376x1024 .bf16) (ix3 s k j) = a2 m c (ix2 (colAt t j) (unitOf (shardAt t s) k)) := by
  unfold iblk
  rw [View.read_apply]
  show V m c main_v5 _ = _
  rw [V5]
  refine Eq.trans ?_ (swapShard_apply (a2 m c) transposes_S4096x11008_S11008x4096_1_0 shapeCasts_S11008x4096_S8x1376x4096 (shardAt t s) k (colAt t j) _ rfl)
  refine congrArg (shapeCast S8x1376x4096 (transpose S11008x4096 [1, 0] (a2 m c) transposes_S4096x11008_S11008x4096_1_0) shapeCasts_S11008x4096_S8x1376x4096) (funext fun a => Fin.ext ?_)
  match a with
  | ⟨0, _⟩ => show win0_2.index t 0 * 2 + 1 * s.val = t.val % 4 * 2 + s.val; rw [(index_2 t).1]; omega
  | ⟨1, _⟩ => show win0_2.index t 1 * 1376 + 1 * k.val = k.val; rw [(index_2 t).2.1]; omega
  | ⟨2, _⟩ => show win0_2.index t 2 * 1024 + 1 * j.val = t.val / 4 % 4 * 1024 + j.val; rw [(index_2 t).2.2]; omega

theorem blk3 (t : Fin cfg0.N) (s : Fin 2) (k : Fin 1376) (j : Fin 1024) :
    (iblk m c 3 t : Vec Ideal S2x1376x1024 .bf16) (ix3 s k j) = a3 m c (ix2 (colAt t j) (unitOf (shardAt t s) k)) := by
  unfold iblk
  rw [View.read_apply]
  show V m c main_v7 _ = _
  rw [V7]
  refine Eq.trans ?_ (swapShard_apply (a3 m c) transposes_S4096x11008_S11008x4096_1_0 shapeCasts_S11008x4096_S8x1376x4096 (shardAt t s) k (colAt t j) _ rfl)
  refine congrArg (shapeCast S8x1376x4096 (transpose S11008x4096 [1, 0] (a3 m c) transposes_S4096x11008_S11008x4096_1_0) shapeCasts_S11008x4096_S8x1376x4096) (funext fun a => Fin.ext ?_)
  match a with
  | ⟨0, _⟩ => show win0_3.index t 0 * 2 + 1 * s.val = t.val % 4 * 2 + s.val; rw [(index_3 t).1]; omega
  | ⟨1, _⟩ => show win0_3.index t 1 * 1376 + 1 * k.val = k.val; rw [(index_3 t).2.1]; omega
  | ⟨2, _⟩ => show win0_3.index t 2 * 1024 + 1 * j.val = t.val / 4 % 4 * 1024 + j.val; rw [(index_3 t).2.2]; omega

theorem half_gate (t : Fin cfg0.N) (r : Fin 512) (j : Fin 1024) (s : Fin 2) :
    half (iblk m c 0 t) (iblk m c 2 t) r j s = shard (a0 m c) (a2 m c) (rowAt t r) (colAt t j) (shardAt t s) :=
  Finset.sum_congr rfl fun k _ => by rw [blk0, blk2]
theorem half_up (t : Fin cfg0.N) (r : Fin 512) (j : Fin 1024) (s : Fin 2) :
    half (iblk m c 1 t) (iblk m c 3 t) r j s = shard (a1 m c) (a3 m c) (rowAt t r) (colAt t j) (shardAt t s) :=
  Finset.sum_congr rfl fun k _ => by rw [blk1, blk3]

/-- What point `t` adds, in the arrays' terms. -/
def added (R C : Fin 4096) (s s' : Fin 8) : EReal :=
  shard (a0 m c) (a2 m c) R C s + shard (a0 m c) (a2 m c) R C s' + shard (a1 m c) (a3 m c) R C s + shard (a1 m c) (a3 m c) R C s'
theorem part_blk (t : Fin cfg0.N) (r : Fin 512) (j : Fin 1024) :
    part (iblk m c 0 t) (iblk m c 1 t) (iblk m c 2 t) (iblk m c 3 t) r j = added m c (rowAt t r) (colAt t j) (shardAt t 0) (shardAt t 1) := by
  unfold part added
  rw [half_gate, half_gate, half_up, half_up]

theorem carried_A (n : Nat) (hn : n < cfg0.N) (h : n % 4 = 0) (r : Fin 512) (j : Fin 1024) :
    (outsAt0 m c n hn).2 (ix2 r j) = added m c (rowAt ⟨n, hn⟩ r) (colAt ⟨n, hn⟩ j) (shardAt ⟨n, hn⟩ 0) (shardAt ⟨n, hn⟩ 1) := by
  have e := outsAt0_A m c ⟨n, hn⟩ h (show ¬1 ≤ n % 4 by omega) (show ¬n % 4 = 3 by omega)
  refine (congrFun (congrArg Prod.snd e) (ix2 r j)).trans ?_
  dsimp only
  exact (sout_A_apply ..).trans (part_blk m c ⟨n, hn⟩ r j)

theorem carried_B (n : Nat) (hn : n + 1 < cfg0.N) (h : 1 ≤ (n + 1) % 4) (h' : ¬(n + 1) % 4 = 3) (r : Fin 512) (j : Fin 1024) :
    (outsAt0 m c (n + 1) hn).2 (ix2 r j) = (outsAt0 m c n (Nat.lt_of_succ_lt hn)).2 (ix2 r j)
      + added m c (rowAt ⟨n + 1, hn⟩ r) (colAt ⟨n + 1, hn⟩ j) (shardAt ⟨n + 1, hn⟩ 0) (shardAt ⟨n + 1, hn⟩ 1) := by
  have e := outsAt0_B m c ⟨n + 1, hn⟩ (show ¬(n + 1) % 4 = 0 by omega) h h'
  refine (congrFun (congrArg Prod.snd e) (ix2 r j)).trans ?_
  dsimp only
  refine (sout_B_apply ..).trans ?_
  rw [part_blk]
  rfl

abbrev result : S4096x4096.Idx → EReal := total (a0 m c) (a1 m c) (a2 m c) (a3 m c)

theorem added_at (q : Nat) (k : Nat) (hk : k < 4) (hq : 4 * q + k < cfg0.N) (hq' : 4 * q + 3 < cfg0.N) (r : Fin 512) (j : Fin 1024) :
    added m c (rowAt ⟨4 * q + k, hq⟩ r) (colAt ⟨4 * q + k, hq⟩ j) (shardAt ⟨4 * q + k, hq⟩ 0) (shardAt ⟨4 * q + k, hq⟩ 1)
      = added m c (rowAt ⟨4 * q + 3, hq'⟩ r) (colAt ⟨4 * q + 3, hq'⟩ j) ⟨2 * k, by omega⟩ ⟨2 * k + 1, by omega⟩ := by
  have hr : rowAt ⟨4 * q + k, hq⟩ r = rowAt ⟨4 * q + 3, hq'⟩ r := Fin.ext (by show (4 * q + k) / 16 * 512 + r.val = (4 * q + 3) / 16 * 512 + r.val; omega)
  have hc : colAt ⟨4 * q + k, hq⟩ j = colAt ⟨4 * q + 3, hq'⟩ j := Fin.ext (by show (4 * q + k) / 4 % 4 * 1024 + j.val = (4 * q + 3) / 4 % 4 * 1024 + j.val; omega)
  have s0 : shardAt ⟨4 * q + k, hq⟩ 0 = ⟨2 * k, by omega⟩ := Fin.ext (by show (4 * q + k) % 4 * 2 + 0 = 2 * k; omega)
  have s1 : shardAt ⟨4 * q + k, hq⟩ 1 = ⟨2 * k + 1, by omega⟩ := Fin.ext (by show (4 * q + k) % 4 * 2 + 1 = 2 * k + 1; omega)
  rw [hr, hc, s0, s1]

theorem flushed_eq (t : Fin cfg0.N) (ht : t.val % 4 = 3) : (dats m 0 c).flushed 4 t = ((cfg0.win 4).blk t).view.read (Elt Ideal) (result m c) := by
  obtain ⟨n, hn⟩ := t
  obtain ⟨q, rfl⟩ : ∃ q, n = 4 * q + 3 := ⟨n / 4, by dsimp only at ht; omega⟩
  rw [flushed4_C m c ⟨4 * q + 3, hn⟩ (by dsimp only; omega) (by dsimp only; omega) ht]
  funext y
  obtain ⟨r, j, rfl⟩ : ∃ (r : Fin 512) (j : Fin 1024), y = ix2 r j := ⟨_, _, eq_ix2 y⟩
  rw [View.read_apply]
  refine (out_C_apply ..).trans ?_
  refine (show _ = result m c (ix2 (rowAt ⟨4 * q + 3, hn⟩ r) (colAt ⟨4 * q + 3, hn⟩ j)) from ?_).trans ?_
  · rw [part_blk]
    show _ = total _ _ _ _ _
    rw [total_apply, Fin.sum_univ_eight, Fin.sum_univ_eight]
    have h2 : 4 * q + 2 < cfg0.N := by omega
    have h1 : 4 * q + 1 < cfg0.N := by omega
    have h0 : 4 * q + 0 < cfg0.N := by omega
    have e2 := carried_B m c (4 * q + 1) h2 (by omega) (by omega) r j
    have e1 := carried_B m c (4 * q) h1 (by omega) (by omega) r j
    have e0 := carried_A m c (4 * q) h0 (by omega) r j
    refine (congrArg (· + _) (show _ = _ from e2.trans (congrArg (· + _) (e1.trans (congrArg (· + _) e0))))).trans ?_
    rw [show added m c (rowAt ⟨4 * q, h0⟩ r) (colAt ⟨4 * q, h0⟩ j) (shardAt ⟨4 * q, h0⟩ 0) (shardAt ⟨4 * q, h0⟩ 1) = _ from added_at m c q 0 (by omega) h0 hn r j,
      show added m c (rowAt ⟨4 * q + 1, h1⟩ r) (colAt ⟨4 * q + 1, h1⟩ j) (shardAt ⟨4 * q + 1, h1⟩ 0) (shardAt ⟨4 * q + 1, h1⟩ 1) = _ from added_at m c q 1 (by omega) h1 hn r j,
      show added m c (rowAt ⟨4 * q + 1 + 1, h2⟩ r) (colAt ⟨4 * q + 1 + 1, h2⟩ j) (shardAt ⟨4 * q + 1 + 1, h2⟩ 0) (shardAt ⟨4 * q + 1 + 1, h2⟩ 1) = _ from added_at m c q 2 (by omega) h2 hn r j,
      added_at m c q 3 (by omega) hn hn r j]
    generalize rowAt ⟨4 * q + 3, hn⟩ r = R
    generalize colAt ⟨4 * q + 3, hn⟩ j = C
    unfold added
    show shard _ _ R C 0 + shard _ _ R C 1 + shard _ _ R C 0 + shard _ _ R C 1 + (shard _ _ R C 2 + shard _ _ R C 3 + shard _ _ R C 2 + shard _ _ R C 3)
      + (shard _ _ R C 4 + shard _ _ R C 5 + shard _ _ R C 4 + shard _ _ R C 5) + (shard _ _ R C 6 + shard _ _ R C 7 + shard _ _ R C 6 + shard _ _ R C 7) = _
    abel
  · refine congrArg (result m c) (funext fun a => Fin.ext ?_)
    match a with
    | ⟨0, _⟩ => show (4 * q + 3) / 16 * 512 + r.val = win0_4.index ⟨4 * q + 3, hn⟩ 0 * 512 + 1 * r.val; rw [(index_4 _).1]; dsimp only; omega
    | ⟨1, _⟩ => show (4 * q + 3) / 4 % 4 * 1024 + j.val = win0_4.index ⟨4 * q + 3, hn⟩ 1 * 1024 + 1 * j.val; rw [(index_4 _).2]; dsimp only; omega

/-- The last of the points whose block holds an index of the result. -/
def pointOf (i : S4096x4096.Idx) : Fin cfg0.N :=
  ⟨((i 0).val / 512 * 4 + (i 1).val / 1024) * 4 + 3, by
    have h0 : (i 0).val < 4096 := (i 0).isLt
    have h1 : (i 1).val < 4096 := (i 1).isLt
    show _ < 128; omega⟩

theorem final_eq : (dats m 0 c).arrAt 4 cfg0.N = result m c :=
  (dats m 0 c).arrAt_eq_of_cover 4 (result m c) (fun t hf => flushed_eq m c t ((flush0_4 t).mp hf)) fun i => ⟨pointOf i, (flush0_4 _).mpr (by
      show (((i 0).val / 512 * 4 + (i 1).val / 1024) * 4 + 3) % 4 = 3; omega), by
    have h0 : (i 0).val < 4096 := (i 0).isLt
    have h1 : (i 1).val < 4096 := (i 1).isLt
    show i ∈ ((View.whole main_v8).slice (win0_4.rect (pointOf i))).set
    rw [View.set_slice_whole, Rect.mem_set_unit]
    have hp : (pointOf i).val = ((i 0).val / 512 * 4 + (i 1).val / 1024) * 4 + 3 := rfl
    intro a
    match a with
    | ⟨0, _⟩ => show win0_4.index (pointOf i) 0 * 512 ≤ (i 0 : Nat) ∧ (i 0 : Nat) < win0_4.index (pointOf i) 0 * 512 + 512
                rw [(index_4 _).1, hp]; omega
    | ⟨1, _⟩ => show win0_4.index (pointOf i) 1 * 1024 ≤ (i 1 : Nat) ∧ (i 1 : Nat) < win0_4.index (pointOf i) 1 * 1024 + 1024
                rw [(index_4 _).2, hp]; omega⟩

end Cert.FfnInputGradIdeal.Value

namespace Cert.FfnInputGradRefIdeal.Value

open Cert.FfnInputGradRefIdeal Cert.FfnInputGradRefIdeal.Read

theorem v7_sum (x1 x3 : (⟨S4096x11008, .bf16⟩ : BufTy).Contents (Elt Ideal)) (i : S4096x4096.Idx) :
    val_main_v7 (F := Ideal) x1 x3 i = ∑ k : Fin 11008, (x1 (ix2 (i 0) k) : EReal) * x3 (ix2 (i 1) k) := by
  rw [val_main_v7_apply]
  refine Finset.sum_congr rfl fun k _ => ?_
  refine congrArg₂ (· * ·) (show x1 _ = x1 _ from congrArg x1 (funext fun a => Fin.ext ?_)) (show x3 _ = x3 _ from congrArg x3 (funext fun a => Fin.ext ?_))
  · match a with
    | ⟨0, _⟩ => rfl
    | ⟨1, _⟩ => rfl
  · match a with
    | ⟨0, _⟩ => rfl
    | ⟨1, _⟩ => rfl
theorem v8_sum (x0 x2 : (⟨S4096x11008, .bf16⟩ : BufTy).Contents (Elt Ideal)) (i : S4096x4096.Idx) :
    val_main_v8 (F := Ideal) x0 x2 i = ∑ k : Fin 11008, (x0 (ix2 (i 0) k) : EReal) * x2 (ix2 (i 1) k) := by
  rw [val_main_v8_apply]
  refine Finset.sum_congr rfl fun k _ => ?_
  refine congrArg₂ (· * ·) (show x0 _ = x0 _ from congrArg x0 (funext fun a => Fin.ext ?_)) (show x2 _ = x2 _ from congrArg x2 (funext fun a => Fin.ext ?_))
  · match a with
    | ⟨0, _⟩ => rfl
    | ⟨1, _⟩ => rfl
  · match a with
    | ⟨0, _⟩ => rfl
    | ⟨1, _⟩ => rfl

theorem result_eq (x0 x1 x2 x3 : (⟨S4096x11008, .bf16⟩ : BufTy).Contents (Elt Ideal)) (i : S4096x4096.Idx) :
    val_main_v9 (F := Ideal) x0 x1 x2 x3 i = Cert.FfnInputGradIdeal.Value.total x0 x1 x2 x3 i := by
  rw [val_main_v9_apply, v7_sum, v8_sum]
  exact add_comm _ _

/-- The reference runs to its end. -/
theorem frame : Cert.quiescent_FfnInputGradRefIdeal := fun m g _ =>
  (θ_run Cert.FfnInputGradRefIdeal.defs _ _).mono (fun r h => ⟨fun c => (h c).2, Idealize.ShloMosaic.sem_eq_zero_of_no_sems (by decide) r.2⟩)
    (Cert.FfnInputGradRefIdeal.Value.run (F := Ideal) m g)

/-- The kernel computes what the reference computes. -/
theorem algebraic : Cert.algebraic_FfnInputGradIdeal_FfnInputGradRefIdeal := by
  intro m g m' g' _ hargs
  refine ⟨fun c => Cert.FfnInputGradIdeal.Value.result m c, ?_, ?_⟩
  · refine (θ_run Cert.FfnInputGradIdeal.defs _ _).mono (fun r h c => ?_) (Cert.FfnInputGradIdeal.Value.run_blocks (F := Ideal) m g)
    obtain ⟨h2, h⟩ := h c
    exact ⟨h2.trans (Cert.FfnInputGradIdeal.Value.final_eq m c), h⟩
  · refine (θ_run Cert.FfnInputGradRefIdeal.defs _ _).mono (fun r h c => ?_) (Cert.FfnInputGradRefIdeal.Value.run (F := Ideal) m' g')
    obtain ⟨h2, h⟩ := h c
    obtain ⟨e0, e1, e2, e3⟩ := hargs c
    refine ⟨h2.trans ?_, h⟩
    refine (val_main_v9_eq _ _ _ _).trans ?_
    rw [e0, e1, e2, e3]
    funext i
    exact result_eq _ _ _ _ i

end Cert.FfnInputGradRefIdeal.Value

end
-- ==== Proof.InWeightGradValue.lean ====
/-
  The gradient of the input projection's weights: what the kernel leaves in its result, over the extended reals, and that the reference leaves the same.
-/
module

public import proofs.«01_k».proof.Defs
public import proofs.«01_k».proof.Proof.Common
public import proofs.«01_k».proof.Proof.Gen.InWeightGradIdeal.Value
public import proofs.«01_k».proof.Proof.Gen.InWeightGradRefIdeal.Run
public import proofs.«01_k».proof.Proof.Gen.InWeightGradRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Common

namespace Cert.InWeightGradIdeal.Value

open Cert.InWeightGradIdeal Cert.InWeightGradIdeal.Gen

/-- The product at one element of a block. -/
def prod (x0 : Vec Ideal S4096x512 .bf16) (x1 : Vec Ideal S4096x1536 .bf16) (r : Fin 512) (j : Fin 1536) : EReal :=
  ∑ k : Fin 4096, (x0 (ix2 k r) : EReal) * x1 (ix2 k j)

theorem pay1_apply (x0 : Vec Ideal S4096x512 .bf16) (x1 : Vec Ideal S4096x1536 .bf16) (r : Fin 512) (j : Fin 1536) :
    k0_pay1 (F := Ideal) x0 x1 (ix2 r j) = prod x0 x1 r j := by
  unfold k0_pay1 prod
  rw [shapeCast_self]
  refine (firstAxes_apply none x0 x1 _ r j).trans ?_
  rw [constant_apply, zero_f32, zero_add]

theorem pay2_apply (v : Vec Ideal S512x1536 .f32) (u : Fin 1) (r : Fin 512) (j : Fin 1536) :
    k0_pay2 (F := Ideal) v (ix3 u r j) = v (ix2 r j) := by
  unfold k0_pay2
  exact (shapeCast_ab_1ab_apply _ shapeCasts_S512x1536_S1x512x1536 u r j)

/-- The column of the whole that column `j` of shard `s` is. -/
def unitOf (s : Fin 8) (j : Fin 1536) : Fin 12288 := ⟨s.val * 1536 + j.val, by omega⟩

/-- The product of the tokens' two rows, summed over the tokens. -/
def total (x0 : (⟨S4096x4096, .bf16⟩ : BufTy).Contents (Elt Ideal)) (x1 : (⟨S4096x12288, .bf16⟩ : BufTy).Contents (Elt Ideal)) : S8x4096x1536.Idx → EReal :=
  fun i => ∑ k : Fin 4096, (x0 (ix2 k (i 1)) : EReal) * x1 (ix2 k (unitOf (i 0) (i 2)))

/-- What a point leaves in its block of the result. -/
theorem out_apply (c : Dev nD) (i : grid0.Coords) (arg3 : Memref sig .tc .vmem S4096x512 .bf16) (harg3 : arg3.IsWhole) (arg4 : Memref sig .tc .vmem S4096x1536 .bf16) (harg4 : arg4.IsWhole) (arg5 : Memref sig .tc .vmem S1x512x1536 .bf16) (harg5 : arg5.IsWhole) (arg6 : Memref sig .tc .vmem S512x1536 .f32) (harg6 : arg6.IsWhole) (x0 : Vec Ideal S4096x512 .bf16) (x1 : Vec Ideal S4096x1536 .bf16) (u : Fin 1) (r : Fin 512) (j : Fin 1536) :
    out0_A_2 (F := Ideal) c i arg3 harg3 arg4 harg4 arg5 harg5 arg6 harg6 x0 x1 (ix3 u r j) = prod x0 x1 r j := by
  unfold out0_A_2
  rw [View.read_writes_eq_canon _ _ _ (cover0_A_2 c i arg3 harg3 arg4 harg4 arg5 harg5 arg6 harg6 x0 x1)]
  unfold kernelRun0_A
  dsimp only
  sl_unfold_words
  rw [View.canon_unit_zero (S := S1x512x1536) hz3]
  refine (pay2_apply ..).trans ?_
  rw [View.readCov_eq_canon', View.canon_unit_zero (S := S512x1536) hz2]
  dsimp only
  simp only [View.readAt_eq_ld, Memref.IsWhole.read_unread]
  rw [View.ld_unit_zero (S := S4096x512) hz2, View.ld_unit_zero (S := S4096x1536) hz2]
  refine Eq.trans ?_ (pay1_apply x0 x1 r j)
  refine congrArg (k0_pay1 (F := Ideal) x0 x1) (funext fun a => Fin.ext ?_)
  match a with
  | ⟨0, _⟩ => show 0 + 1 * r.val = r.val; omega
  | ⟨1, _⟩ => show 0 + 1 * j.val = j.val; omega

variable (m : (ℓ : Loc nD τ sig) → Buf (Elt Ideal) ℓ) (c : Dev nD)

abbrev a0 : (⟨S4096x4096, .bf16⟩ : BufTy).Contents (Elt Ideal) := m ((c : Thread nD τ).loc main_arg0)
abbrev a1 : (⟨S4096x12288, .bf16⟩ : BufTy).Contents (Elt Ideal) := m ((c : Thread nD τ).loc main_arg1)

theorem index_0 : ∀ t : Fin cfg0.N, win0_0.index t 0 = 0 ∧ win0_0.index t 1 = t.val % 8 :=
  (by decide +kernel : ∀ t : Fin grid0.N, win0_0.index t 0 = 0 ∧ win0_0.index t 1 = t.val % 8)
theorem index_1 : ∀ t : Fin cfg0.N, win0_1.index t 0 = 0 ∧ win0_1.index t 1 = t.val / 8 :=
  (by decide +kernel : ∀ t : Fin grid0.N, win0_1.index t 0 = 0 ∧ win0_1.index t 1 = t.val / 8)
theorem index_2 : ∀ t : Fin cfg0.N, win0_2.index t 0 = t.val / 8 ∧ win0_2.index t 1 = t.val % 8 ∧ win0_2.index t 2 = 0 :=
  (by decide +kernel : ∀ t : Fin grid0.N, win0_2.index t 0 = t.val / 8 ∧ win0_2.index t 1 = t.val % 8 ∧ win0_2.index t 2 = 0)

theorem lt (t : Fin cfg0.N) : t.val < 64 := t.isLt

theorem blk0 (t : Fin cfg0.N) (p : Fin 4096) (q : Fin 512) :
    (iblk m c 0 t : Vec Ideal S4096x512 .bf16) (ix2 p q) = a0 m c (ix2 (⟨p.val, by have := lt t; omega⟩ : Fin 4096) (⟨t.val % 8 * 512 + q.val, by have := lt t; omega⟩ : Fin 4096)) := by
  unfold iblk
  rw [View.read_apply]
  show V m c main_arg0 _ = _
  rw [V_main_arg0]
  refine congrArg (a0 m c) (funext fun a => Fin.ext ?_)
  match a with
  | ⟨0, _⟩ => show win0_0.index t 0 * 4096 + 1 * p.val = p.val; rw [(index_0 t).1]; omega
  | ⟨1, _⟩ => show win0_0.index t 1 * 512 + 1 * q.val = t.val % 8 * 512 + q.val; rw [(index_0 t).2]; omega

theorem blk1 (t : Fin cfg0.N) (p : Fin 4096) (q : Fin 1536) :
    (iblk m c 1 t : Vec Ideal S4096x1536 .bf16) (ix2 p q) = a1 m c (ix2 (⟨p.val, by have := lt t; omega⟩ : Fin 4096) (⟨t.val / 8 * 1536 + q.val, by have := lt t; omega⟩ : Fin 12288)) := by
  unfold iblk
  rw [View.read_apply]
  show V m c main_arg1 _ = _
  rw [V_main_arg1]
  refine congrArg (a1 m c) (funext fun a => Fin.ext ?_)
  match a with
  | ⟨0, _⟩ => show win0_1.index t 0 * 4096 + 1 * p.val = p.val; rw [(index_1 t).1]; omega
  | ⟨1, _⟩ => show win0_1.index t 1 * 1536 + 1 * q.val = t.val / 8 * 1536 + q.val; rw [(index_1 t).2]; omega

abbrev result : S8x4096x1536.Idx → EReal := total (a0 m c) (a1 m c)

theorem flushed_eq (t : Fin cfg0.N) : (dats m 0 c).flushed 2 t = ((cfg0.win 2).blk t).view.read (Elt Ideal) (result m c) := by
  rw [flushed2_A]
  funext y
  obtain ⟨u, r, j, rfl⟩ : ∃ (u : Fin 1) (r : Fin 512) (j : Fin 1536), y = ix3 u r j := ⟨_, _, _, eq_ix3 y⟩
  rw [View.read_apply]
  refine (out_apply ..).trans ?_
  refine (show _ = result m c (ix3 (⟨t.val / 8, by have := lt t; omega⟩ : Fin 8) (⟨t.val % 8 * 512 + r.val, by have := lt t; omega⟩ : Fin 4096) (⟨j.val, by have := lt t; omega⟩ : Fin 1536)) from ?_).trans ?_
  · refine Finset.sum_congr rfl fun k _ => ?_
    rw [blk0, blk1]
    rfl
  · refine congrArg (result m c) (funext fun a => Fin.ext ?_)
    match a with
    | ⟨0, _⟩ => show t.val / 8 = win0_2.index t 0 * 1 + 1 * u.val; rw [(index_2 t).1]; omega
    | ⟨1, _⟩ => show t.val % 8 * 512 + r.val = win0_2.index t 1 * 512 + 1 * r.val; rw [(index_2 t).2.1]; omega
    | ⟨2, _⟩ => show j.val = win0_2.index t 2 * 1536 + 1 * j.val; rw [(index_2 t).2.2]; omega

/-- The point whose block holds an index of the result. -/
def pointOf (i : S8x4096x1536.Idx) : Fin cfg0.N :=
  ⟨(i 0).val * 8 + (i 1).val / 512, by
    have h0 : (i 0).val < 8 := (i 0).isLt
    have h1 : (i 1).val < 4096 := (i 1).isLt
    have h2 : (i 2).val < 1536 := (i 2).isLt
    show _ < 64; omega⟩

theorem final_eq : (dats m 0 c).arrAt 2 cfg0.N = result m c :=
  (dats m 0 c).arrAt_eq_of_cover 2 (result m c) (fun t _ => flushed_eq m c t) fun i => ⟨pointOf i, flush0_2 _, by
    have h0 : (i 0).val < 8 := (i 0).isLt
    have h1 : (i 1).val < 4096 := (i 1).isLt
    have h2 : (i 2).val < 1536 := (i 2).isLt
    show i ∈ ((View.whole main_v0).slice (win0_2.rect (pointOf i))).set
    rw [View.set_slice_whole, Rect.mem_set_unit]
    have hp : (pointOf i).val = (i 0).val * 8 + (i 1).val / 512 := rfl
    intro a
    match a with
    | ⟨0, _⟩ => show win0_2.index (pointOf i) 0 * 1 ≤ (i 0 : Nat) ∧ (i 0 : Nat) < win0_2.index (pointOf i) 0 * 1 + 1
                rw [(index_2 _).1, hp]; omega
    | ⟨1, _⟩ => show win0_2.index (pointOf i) 1 * 512 ≤ (i 1 : Nat) ∧ (i 1 : Nat) < win0_2.index (pointOf i) 1 * 512 + 512
                rw [(index_2 _).2.1, hp]; omega
    | ⟨2, _⟩ => show win0_2.index (pointOf i) 2 * 1536 ≤ (i 2 : Nat) ∧ (i 2 : Nat) < win0_2.index (pointOf i) 2 * 1536 + 1536
                rw [(index_2 _).2.2]; omega⟩

end Cert.InWeightGradIdeal.Value

namespace Cert.InWeightGradRefIdeal.Value

open Cert.InWeightGradRefIdeal Cert.InWeightGradRefIdeal.Read

theorem result_eq (x0 : (⟨S4096x4096, .bf16⟩ : BufTy).Contents (Elt Ideal)) (x1 : (⟨S4096x12288, .bf16⟩ : BufTy).Contents (Elt Ideal)) (i : S8x4096x1536.Idx) :
    val_main_v8 (F := Ideal) x0 x1 i = Cert.InWeightGradIdeal.Value.total x0 x1 i := by
  have h0 : (i 0).val < 8 := (i 0).isLt
  have h1 : (i 1).val < 4096 := (i 1).isLt
  have h2 : (i 2).val < 1536 := (i 2).isLt
  refine (show _ = val_main_v7 (F := Ideal) x0 x1 i from rfl).trans ?_
  rw [val_main_v7_apply, val_main_v6_apply, val_main_v5_apply, val_main_v4_apply]
  refine Finset.sum_congr rfl fun k _ => ?_
  rw [mul_comm]
  refine congrArg₂ (· * ·) (show x0 _ = x0 _ from congrArg x0 (funext fun a => Fin.ext ?_)) (show x1 _ = x1 _ from congrArg x1 (funext fun a => Fin.ext ?_))
  · match a with
    | ⟨0, _⟩ => rfl
    | ⟨1, _⟩ => show ((((i 1).val * 8 + (i 0).val) * 1536 + (i 2).val) / 12288) = (i 1).val; omega
  · match a with
    | ⟨0, _⟩ => rfl
    | ⟨1, _⟩ => show ((((i 1).val * 8 + (i 0).val) * 1536 + (i 2).val) % 12288) = (i 0).val * 1536 + (i 2).val; omega

/-- The reference runs to its end. -/
theorem frame : Cert.quiescent_InWeightGradRefIdeal := fun m g _ =>
  (θ_run Cert.InWeightGradRefIdeal.defs _ _).mono (fun r h => ⟨fun c => (h c).2, Idealize.ShloMosaic.sem_eq_zero_of_no_sems (by decide) r.2⟩)
    (Cert.InWeightGradRefIdeal.Value.run (F := Ideal) m g)

/-- The kernel computes what the reference computes. -/
theorem algebraic : Cert.algebraic_InWeightGradIdeal_InWeightGradRefIdeal := by
  intro m g m' g' _ hargs
  refine ⟨fun c => Cert.InWeightGradIdeal.Value.result m c, ?_, ?_⟩
  · refine (θ_run Cert.InWeightGradIdeal.defs _ _).mono (fun r h c => ?_) (Cert.InWeightGradIdeal.Value.run_blocks (F := Ideal) m g)
    obtain ⟨h2, h⟩ := h c
    exact ⟨h2.trans (Cert.InWeightGradIdeal.Value.final_eq m c), h⟩
  · refine (θ_run Cert.InWeightGradRefIdeal.defs _ _).mono (fun r h c => ?_) (Cert.InWeightGradRefIdeal.Value.run (F := Ideal) m' g')
    obtain ⟨h2, h⟩ := h c
    obtain ⟨e0, e1⟩ := hargs c
    refine ⟨h2.trans ?_, h⟩
    refine (val_main_v8_eq _ _).trans ?_
    rw [e0, e1]
    funext i
    exact result_eq _ _ i

end Cert.InWeightGradRefIdeal.Value

end
-- ==== Proof.InInputGradValue.lean ====
/-
  The gradient of the input projection's input: what the kernel leaves in its result, over the extended reals, and that the reference leaves the same.
-/
module

public import proofs.«01_k».proof.Defs
public import proofs.«01_k».proof.Proof.Common
public import proofs.«01_k».proof.Proof.Gen.InInputGradIdeal.Value
public import proofs.«01_k».proof.Proof.Gen.InInputGradRefIdeal.Run
public import proofs.«01_k».proof.Proof.Gen.InInputGradRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Common

namespace Cert.InInputGradIdeal.Value

open Cert.InInputGradIdeal Cert.InInputGradIdeal.Gen

/-- The column of the whole that column `j` of shard `s` is. -/
def unitOf (s : Fin 8) (j : Fin 1536) : Fin 12288 := ⟨s.val * 1536 + j.val, by omega⟩

/-- One shard's share of a result's element. -/
def shard (x0 x1 : (⟨S4096x12288, .bf16⟩ : BufTy).Contents (Elt Ideal)) (r d : Fin 4096) (s : Fin 8) : EReal :=
  ∑ k : Fin 1536, (x0 (ix2 r (unitOf s k)) : EReal) * x1 (ix2 d (unitOf s k))

/-- The product of a token's row and a weight's row. -/
def total (x0 x1 : (⟨S4096x12288, .bf16⟩ : BufTy).Contents (Elt Ideal)) : S4096x4096.Idx → EReal :=
  fun i => ∑ k : Fin 12288, (x0 (ix2 (i 0) k) : EReal) * x1 (ix2 (i 1) k)

theorem total_apply (x0 x1 : (⟨S4096x12288, .bf16⟩ : BufTy).Contents (Elt Ideal)) (r d : Fin 4096) :
    total x0 x1 (ix2 r d) = ∑ s : Fin 8, shard x0 x1 r d s := by
  unfold total shard
  refine sum_shards (n := 1536) rfl _ _ fun s j u hu => ?_
  obtain rfl : u = unitOf s j := Fin.ext hu
  rfl

/-! ## What a point adds -/

def mul (v : Vec Ideal S512x1536 .bf16) (w : Vec Ideal S1x1024x1536 .bf16) (r : Fin 512) (j : Fin 1024) : EReal :=
  ∑ k : Fin 1536, (v (ix2 r k) : EReal) * w (ix3 0 j k)

/-- A quarter of a point's columns. -/
def quarter (x0 : Vec Ideal S512x6144 .bf16) (x1 : Vec Ideal S4x1024x1536 .bf16) (r : Fin 512) (j : Fin 1024) (s : Fin 4) : EReal :=
  ∑ k : Fin 1536, (x0 (ix2 r ⟨s.val * 1536 + k.val, by omega⟩) : EReal) * x1 (ix3 s j k)

def part (x0 : Vec Ideal S512x6144 .bf16) (x1 : Vec Ideal S4x1024x1536 .bf16) (r : Fin 512) (j : Fin 1024) : EReal :=
  quarter x0 x1 r j 0 + quarter x0 x1 r j 1 + quarter x0 x1 r j 2 + quarter x0 x1 r j 3

theorem matmul_apply (v : Vec Ideal S512x1536 .bf16) (w : Vec Ideal S1x1024x1536 .bf16) (r : Fin 512) (j : Fin 1024) :
    matmul (F := Ideal) (φ₁ := .bf16) (φ₂ := .bf16) dot_S512x1536_S1024x1536_S512x1024_1_1_0_0_n_n none v (shapeCast S1024x1536 w shapeCasts_S1x1024x1536_S1024x1536)
      (constant S512x1024 .f32 0x00000000#32) (ix2 r j) = mul v w r j := by
  refine (Ideal.matmul_transposedRhs_apply none v (shapeCast S1024x1536 w shapeCasts_S1x1024x1536_S1024x1536) _ r j).trans ?_
  rw [constant_apply, zero_f32, zero_add]
  refine Finset.sum_congr rfl fun k _ => ?_
  rw [shapeCast_1ab_ab_apply]

theorem mul_ld (x0 : Vec Ideal S512x6144 .bf16) (x1 : Vec Ideal S4x1024x1536 .bf16) (r : Fin 512) (j : Fin 1024) (s : Fin 4) (o n : Nat) (hn : s.val = n) (ho : n * 1536 = o)
    (h0 : ∀ a, (![0, o] : Fin 2 → Nat) a + S512x1536.size a ≤ S512x6144.size a)
    (h1 : ∀ a, (![n, 0, 0] : Fin 3 → Nat) a + S1x1024x1536.size a ≤ S4x1024x1536.size a) :
    mul (View.ld x0 (Rect.unit (s := S512x6144) ![0, o] S512x1536.size h0)) (View.ld x1 (Rect.unit (s := S4x1024x1536) ![n, 0, 0] S1x1024x1536.size h1)) r j
      = quarter x0 x1 r j s := by
  subst hn ho
  refine Finset.sum_congr rfl fun k _ => congrArg₂ (· * ·) (show x0 _ = x0 _ from congrArg x0 (funext fun a => Fin.ext ?_)) (show x1 _ = x1 _ from congrArg x1 (funext fun a => Fin.ext ?_))
  · match a with
    | ⟨0, _⟩ => show 0 + 1 * r.val = r.val; omega
    | ⟨1, _⟩ => show s.val * 1536 + 1 * k.val = s.val * 1536 + k.val; omega
  · match a with
    | ⟨0, _⟩ => show s.val + 1 * 0 = s.val; omega
    | ⟨1, _⟩ => show 0 + 1 * j.val = j.val; omega
    | ⟨2, _⟩ => show 0 + 1 * k.val = k.val; omega

theorem pay1_apply (v0 v4 v9 v14 : Vec Ideal S512x1536 .bf16) (v1 v5 v10 v15 : Vec Ideal S1x1024x1536 .bf16) (r : Fin 512) (j : Fin 1024) :
    k0_pay1 (F := Ideal) v0 v1 v4 v5 v9 v10 v14 v15 (ix2 r j) = mul v0 v1 r j + mul v4 v5 r j + mul v9 v10 r j + mul v14 v15 r j := by
  unfold k0_pay1
  rw [addf_apply, addf_apply, addf_apply]
  exact congrArg₂ (· + ·) (congrArg₂ (· + ·) (congrArg₂ (· + ·) (matmul_apply v0 v1 r j) (matmul_apply v4 v5 r j)) (matmul_apply v9 v10 r j)) (matmul_apply v14 v15 r j)

theorem pay1_ld (x0 : Vec Ideal S512x6144 .bf16) (x1 : Vec Ideal S4x1024x1536 .bf16) (r : Fin 512) (j : Fin 1024) :
    k0_pay1 (F := Ideal) (View.ld x0 (Rect.unit (s := S512x6144) ![0, 0] S512x1536.size inb_S512x6144_S512x1536_0_0)) (View.ld x1 (Rect.unit (s := S4x1024x1536) ![0, 0, 0] S1x1024x1536.size inb_S4x1024x1536_S1x1024x1536_0_0_0))
      (View.ld x0 (Rect.unit (s := S512x6144) ![0, 1536] S512x1536.size inb_S512x6144_S512x1536_0_1536)) (View.ld x1 (Rect.unit (s := S4x1024x1536) ![1, 0, 0] S1x1024x1536.size inb_S4x1024x1536_S1x1024x1536_1_0_0))
      (View.ld x0 (Rect.unit (s := S512x6144) ![0, 3072] S512x1536.size inb_S512x6144_S512x1536_0_3072)) (View.ld x1 (Rect.unit (s := S4x1024x1536) ![2, 0, 0] S1x1024x1536.size inb_S4x1024x1536_S1x1024x1536_2_0_0))
      (View.ld x0 (Rect.unit (s := S512x6144) ![0, 4608] S512x1536.size inb_S512x6144_S512x1536_0_4608)) (View.ld x1 (Rect.unit (s := S4x1024x1536) ![3, 0, 0] S1x1024x1536.size inb_S4x1024x1536_S1x1024x1536_3_0_0)) (ix2 r j)
      = part x0 x1 r j := by
  refine (pay1_apply ..).trans ?_
  exact congrArg₂ (· + ·) (congrArg₂ (· + ·) (congrArg₂ (· + ·) (mul_ld x0 x1 r j 0 0 0 rfl rfl _ _) (mul_ld x0 x1 r j 1 1536 1 rfl rfl _ _)) (mul_ld x0 x1 r j 2 3072 2 rfl rfl _ _)) (mul_ld x0 x1 r j 3 4608 3 rfl rfl _ _)

theorem sout_A_apply (c : Dev nD) (i : grid0.Coords) (arg3 : Memref sig .tc .vmem S512x6144 .bf16) (harg3 : arg3.IsWhole) (arg4 : Memref sig .tc .vmem S4x1024x1536 .bf16) (harg4 : arg4.IsWhole) (arg5 : Memref sig .tc .vmem S512x1024 .f32) (harg5 : arg5.IsWhole) (arg6 : Memref sig .tc .vmem S512x1024 .f32) (harg6 : arg6.IsWhole) (hc0 : cond0_0 i) (hc1 : ¬cond0_1 i) (hc2 : ¬cond0_2 i) (x0 : Vec Ideal S512x6144 .bf16) (x1 : Vec Ideal S4x1024x1536 .bf16) (r : Fin 512) (j : Fin 1024) :
    sout0_A_0 (F := Ideal) c i arg3 harg3 arg4 harg4 arg5 harg5 arg6 harg6 hc0 hc1 hc2 x0 x1 (ix2 r j) = part x0 x1 r j := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero (S := S512x1024) hz2]
  try dsimp only
  simp only [View.readAt_eq_ld, Memref.IsWhole.read_unread]
  unfold k0_pay2
  rw [shapeCast_self]
  exact pay1_ld x0 x1 r j

theorem out_B_apply (c : Dev nD) (i : grid0.Coords) (arg3 : Memref sig .tc .vmem S512x6144 .bf16) (harg3 : arg3.IsWhole) (arg4 : Memref sig .tc .vmem S4x1024x1536 .bf16) (harg4 : arg4.IsWhole) (arg5 : Memref sig .tc .vmem S512x1024 .f32) (harg5 : arg5.IsWhole) (arg6 : Memref sig .tc .vmem S512x1024 .f32) (harg6 : arg6.IsWhole) (hc0 : ¬cond0_0 i) (hc1 : cond0_1 i) (hc2 : cond0_2 i) (x0 : Vec Ideal S512x6144 .bf16) (x1 : Vec Ideal S4x1024x1536 .bf16) (xs0 : Vec Ideal S512x1024 .f32) (r : Fin 512) (j : Fin 1024) :
    out0_B_2 (F := Ideal) c i arg3 harg3 arg4 harg4 arg5 harg5 arg6 harg6 hc0 hc1 hc2 x0 x1 xs0 (ix2 r j) = xs0 (ix2 r j) + part x0 x1 r j := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  rw [View.canon_unit_zero (S := S512x1024) hz2]
  rw [View.readCov_eq_canon', View.canon_unit_zero (S := S512x1024) hz2]
  try dsimp only
  simp only [View.readAt_eq_ld, Memref.IsWhole.read_unread]
  unfold k0_pay3
  rw [shapeCast_self, View.ld_unit_zero (S := S512x1024) hz2]
  rw [show (Rect.unit (s := S512x1024) ![0, 0] S512x1024.size inb_S512x1024_S512x1024_0_0).toLoadRect.idx (ix2 r j) = ix2 r j from funext fun a => Fin.ext (match a with
    | ⟨0, _⟩ => by show 0 + 1 * r.val = r.val; omega
    | ⟨1, _⟩ => by show 0 + 1 * j.val = j.val; omega)]
  rw [addf_apply]
  exact congrArg (xs0 (ix2 r j) + ·) (pay1_ld x0 x1 r j)

variable (m : (ℓ : Loc nD τ sig) → Buf (Elt Ideal) ℓ) (c : Dev nD)

abbrev a0 : (⟨S4096x12288, .bf16⟩ : BufTy).Contents (Elt Ideal) := m ((c : Thread nD τ).loc main_arg0)
abbrev a1 : (⟨S4096x12288, .bf16⟩ : BufTy).Contents (Elt Ideal) := m ((c : Thread nD τ).loc main_arg1)

theorem V1 : V m c main_v1 = transpose S8x4096x1536 [1, 0, 2] (shapeCast S4096x8x1536 (a1 m c) shapeCasts_S4096x12288_S4096x8x1536) transposes_S4096x8x1536_S8x4096x1536_1_0_2 := rfl

theorem index_0 : ∀ t : Fin cfg0.N, win0_0.index t 0 = t.val / 8 ∧ win0_0.index t 1 = t.val % 2 :=
  (by decide +kernel : ∀ t : Fin grid0.N, win0_0.index t 0 = t.val / 8 ∧ win0_0.index t 1 = t.val % 2)
theorem index_1 : ∀ t : Fin cfg0.N, win0_1.index t 0 = t.val % 2 ∧ win0_1.index t 1 = t.val / 2 % 4 ∧ win0_1.index t 2 = 0 :=
  (by decide +kernel : ∀ t : Fin grid0.N, win0_1.index t 0 = t.val % 2 ∧ win0_1.index t 1 = t.val / 2 % 4 ∧ win0_1.index t 2 = 0)
theorem index_2 : ∀ t : Fin cfg0.N, win0_2.index t 0 = t.val / 8 ∧ win0_2.index t 1 = t.val / 2 % 4 :=
  (by decide +kernel : ∀ t : Fin grid0.N, win0_2.index t 0 = t.val / 8 ∧ win0_2.index t 1 = t.val / 2 % 4)

theorem lt (t : Fin cfg0.N) : t.val < 64 := t.isLt
def rowAt (t : Fin cfg0.N) (r : Fin 512) : Fin 4096 := ⟨t.val / 8 * 512 + r.val, by have := lt t; omega⟩
def colAt (t : Fin cfg0.N) (j : Fin 1024) : Fin 4096 := ⟨t.val / 2 % 4 * 1024 + j.val, by omega⟩
def shardAt (t : Fin cfg0.N) (s : Fin 4) : Fin 8 := ⟨t.val % 2 * 4 + s.val, by omega⟩

theorem blk0 (t : Fin cfg0.N) (r : Fin 512) (s : Fin 4) (k : Fin 1536) :
    (iblk m c 0 t : Vec Ideal S512x6144 .bf16) (ix2 r ⟨s.val * 1536 + k.val, by omega⟩) = a0 m c (ix2 (rowAt t r) (unitOf (shardAt t s) k)) := by
  unfold iblk
  rw [View.read_apply]
  show V m c main_arg0 _ = _
  rw [V_main_arg0]
  refine congrArg (a0 m c) (funext fun a => Fin.ext ?_)
  match a with
  | ⟨0, _⟩ => show win0_0.index t 0 * 512 + 1 * r.val = t.val / 8 * 512 + r.val; rw [(index_0 t).1]; omega
  | ⟨1, _⟩ => show win0_0.index t 1 * 6144 + 1 * (s.val * 1536 + k.val) = (t.val % 2 * 4 + s.val) * 1536 + k.val; rw [(index_0 t).2]; omega

theorem blk1 (t : Fin cfg0.N) (s : Fin 4) (j : Fin 1024) (k : Fin 1536) :
    (iblk m c 1 t : Vec Ideal S4x1024x1536 .bf16) (ix3 s j k) = a1 m c (ix2 (colAt t j) (unitOf (shardAt t s) k)) := by
  unfold iblk
  rw [View.read_apply]
  show V m c main_v1 _ = _
  rw [V1]
  refine Eq.trans ?_ (byShard_apply (a1 m c) shapeCasts_S4096x12288_S4096x8x1536 transposes_S4096x8x1536_S8x4096x1536_1_0_2 rfl (shardAt t s) (colAt t j) k _ rfl)
  refine congrArg (transpose S8x4096x1536 [1, 0, 2] (shapeCast S4096x8x1536 (a1 m c) shapeCasts_S4096x12288_S4096x8x1536) transposes_S4096x8x1536_S8x4096x1536_1_0_2) (funext fun a => Fin.ext ?_)
  match a with
  | ⟨0, _⟩ => show win0_1.index t 0 * 4 + 1 * s.val = t.val % 2 * 4 + s.val; rw [(index_1 t).1]; omega
  | ⟨1, _⟩ => show win0_1.index t 1 * 1024 + 1 * j.val = t.val / 2 % 4 * 1024 + j.val; rw [(index_1 t).2.1]; omega
  | ⟨2, _⟩ => show win0_1.index t 2 * 1536 + 1 * k.val = k.val; rw [(index_1 t).2.2]; omega

theorem quarter_blk (t : Fin cfg0.N) (r : Fin 512) (j : Fin 1024) (s : Fin 4) :
    quarter (iblk m c 0 t) (iblk m c 1 t) r j s = shard (a0 m c) (a1 m c) (rowAt t r) (colAt t j) (shardAt t s) :=
  Finset.sum_congr rfl fun k _ => by rw [blk0, blk1]

abbrev result : S4096x4096.Idx → EReal := total (a0 m c) (a1 m c)

theorem flushed_eq (t : Fin cfg0.N) (ht : t.val % 2 = 1) : (dats m 0 c).flushed 2 t = ((cfg0.win 2).blk t).view.read (Elt Ideal) (result m c) := by
  have ht' := lt t
  rw [flushed2_B m c t (by omega) ht ht]
  funext y
  obtain ⟨r, j, rfl⟩ : ∃ (r : Fin 512) (j : Fin 1024), y = ix2 r j := ⟨_, _, eq_ix2 y⟩
  rw [View.read_apply]
  refine (out_B_apply ..).trans ?_
  refine (show _ = result m c (ix2 (rowAt t r) (colAt t j)) from ?_).trans ?_
  · have hp : t.val - 1 < cfg0.N := Nat.lt_of_le_of_lt (Nat.sub_le _ _) t.isLt
    have e := outsAt0_A m c ⟨t.val - 1, hp⟩ (show (t.val - 1) % 2 = 0 by omega) (show ¬(t.val - 1) % 2 = 1 by omega) (show ¬(t.val - 1) % 2 = 1 by omega)
    have e' : (outsAt0 m c (t.val - 1) hp).2 (ix2 r j) = part (iblk m c 0 ⟨t.val - 1, hp⟩) (iblk m c 1 ⟨t.val - 1, hp⟩) r j := by
      refine (congrFun (congrArg Prod.snd e) (ix2 r j)).trans ?_
      dsimp only
      exact sout_A_apply ..
    rw [e']
    show _ = total _ _ _
    rw [total_apply, Fin.sum_univ_eight]
    unfold part
    rw [quarter_blk, quarter_blk, quarter_blk, quarter_blk, quarter_blk, quarter_blk, quarter_blk, quarter_blk]
    have hr : rowAt ⟨t.val - 1, hp⟩ r = rowAt t r := Fin.ext (by show (t.val - 1) / 8 * 512 + r.val = t.val / 8 * 512 + r.val; omega)
    have hc : colAt ⟨t.val - 1, hp⟩ j = colAt t j := Fin.ext (by show (t.val - 1) / 2 % 4 * 1024 + j.val = t.val / 2 % 4 * 1024 + j.val; omega)
    have s0 : shardAt ⟨t.val - 1, hp⟩ 0 = 0 := Fin.ext (by show (t.val - 1) % 2 * 4 + 0 = 0; omega)
    have s1 : shardAt ⟨t.val - 1, hp⟩ 1 = 1 := Fin.ext (by show (t.val - 1) % 2 * 4 + 1 = 1; omega)
    have s2 : shardAt ⟨t.val - 1, hp⟩ 2 = 2 := Fin.ext (by show (t.val - 1) % 2 * 4 + 2 = 2; omega)
    have s3 : shardAt ⟨t.val - 1, hp⟩ 3 = 3 := Fin.ext (by show (t.val - 1) % 2 * 4 + 3 = 3; omega)
    have s4 : shardAt t 0 = 4 := Fin.ext (by show t.val % 2 * 4 + 0 = 4; omega)
    have s5 : shardAt t 1 = 5 := Fin.ext (by show t.val % 2 * 4 + 1 = 5; omega)
    have s6 : shardAt t 2 = 6 := Fin.ext (by show t.val % 2 * 4 + 2 = 6; omega)
    have s7 : shardAt t 3 = 7 := Fin.ext (by show t.val % 2 * 4 + 3 = 7; omega)
    rw [hr, hc, s0, s1, s2, s3, s4, s5, s6, s7]
    simp only [add_assoc]
  · refine congrArg (result m c) (funext fun a => Fin.ext ?_)
    match a with
    | ⟨0, _⟩ => show t.val / 8 * 512 + r.val = win0_2.index t 0 * 512 + 1 * r.val; rw [(index_2 t).1]; omega
    | ⟨1, _⟩ => show t.val / 2 % 4 * 1024 + j.val = win0_2.index t 1 * 1024 + 1 * j.val; rw [(index_2 t).2]; omega

/-- The last of the points whose block holds an index of the result. -/
def pointOf (i : S4096x4096.Idx) : Fin cfg0.N :=
  ⟨((i 0).val / 512 * 4 + (i 1).val / 1024) * 2 + 1, by
    have h0 : (i 0).val < 4096 := (i 0).isLt
    have h1 : (i 1).val < 4096 := (i 1).isLt
    show _ < 64; omega⟩

theorem final_eq : (dats m 0 c).arrAt 2 cfg0.N = result m c :=
  (dats m 0 c).arrAt_eq_of_cover 2 (result m c) (fun t hf => flushed_eq m c t ((flush0_2 t).mp hf)) fun i => ⟨pointOf i, (flush0_2 _).mpr (by
      show (((i 0).val / 512 * 4 + (i 1).val / 1024) * 2 + 1) % 2 = 1; omega), by
    have h0 : (i 0).val < 4096 := (i 0).isLt
    have h1 : (i 1).val < 4096 := (i 1).isLt
    show i ∈ ((View.whole main_v2).slice (win0_2.rect (pointOf i))).set
    rw [View.set_slice_whole, Rect.mem_set_unit]
    have hp : (pointOf i).val = ((i 0).val / 512 * 4 + (i 1).val / 1024) * 2 + 1 := rfl
    intro a
    match a with
    | ⟨0, _⟩ => show win0_2.index (pointOf i) 0 * 512 ≤ (i 0 : Nat) ∧ (i 0 : Nat) < win0_2.index (pointOf i) 0 * 512 + 512
                rw [(index_2 _).1, hp]; omega
    | ⟨1, _⟩ => show win0_2.index (pointOf i) 1 * 1024 ≤ (i 1 : Nat) ∧ (i 1 : Nat) < win0_2.index (pointOf i) 1 * 1024 + 1024
                rw [(index_2 _).2, hp]; omega⟩

end Cert.InInputGradIdeal.Value

namespace Cert.InInputGradRefIdeal.Value

open Cert.InInputGradRefIdeal Cert.InInputGradRefIdeal.Read

theorem result_eq (x0 x1 : (⟨S4096x12288, .bf16⟩ : BufTy).Contents (Elt Ideal)) (i : S4096x4096.Idx) :
    val_main_v4 (F := Ideal) x0 x1 i = Cert.InInputGradIdeal.Value.total x0 x1 i := by
  rw [val_main_v4_apply]
  refine Finset.sum_congr rfl fun k _ => ?_
  refine congrArg₂ (· * ·) (show x0 _ = x0 _ from congrArg x0 (funext fun a => Fin.ext ?_)) (show x1 _ = x1 _ from congrArg x1 (funext fun a => Fin.ext ?_))
  · match a with
    | ⟨0, _⟩ => rfl
    | ⟨1, _⟩ => rfl
  · match a with
    | ⟨0, _⟩ => rfl
    | ⟨1, _⟩ => rfl

/-- The reference runs to its end. -/
theorem frame : Cert.quiescent_InInputGradRefIdeal := fun m g _ =>
  (θ_run Cert.InInputGradRefIdeal.defs _ _).mono (fun r h => ⟨fun c => (h c).2, Idealize.ShloMosaic.sem_eq_zero_of_no_sems (by decide) r.2⟩)
    (Cert.InInputGradRefIdeal.Value.run (F := Ideal) m g)

/-- The kernel computes what the reference computes. -/
theorem algebraic : Cert.algebraic_InInputGradIdeal_InInputGradRefIdeal := by
  intro m g m' g' _ hargs
  refine ⟨fun c => Cert.InInputGradIdeal.Value.result m c, ?_, ?_⟩
  · refine (θ_run Cert.InInputGradIdeal.defs _ _).mono (fun r h c => ?_) (Cert.InInputGradIdeal.Value.run_blocks (F := Ideal) m g)
    obtain ⟨h2, h⟩ := h c
    exact ⟨h2.trans (Cert.InInputGradIdeal.Value.final_eq m c), h⟩
  · refine (θ_run Cert.InInputGradRefIdeal.defs _ _).mono (fun r h c => ?_) (Cert.InInputGradRefIdeal.Value.run (F := Ideal) m' g')
    obtain ⟨h2, h⟩ := h c
    obtain ⟨e0, e1⟩ := hargs c
    refine ⟨h2.trans ?_, h⟩
    refine (val_main_v4_eq _ _).trans ?_
    rw [e0, e1]
    funext i
    exact result_eq _ _ i

end Cert.InInputGradRefIdeal.Value

end
-- ==== Proof.OutWeightGradValue.lean ====
/-
  The gradient of the output projection's weights: what the kernel leaves in its result, over the extended reals, and that the reference leaves the same.
-/
module

public import proofs.«01_k».proof.Defs
public import proofs.«01_k».proof.Proof.Common
public import proofs.«01_k».proof.Proof.Gen.OutWeightGradIdeal.Value
public import proofs.«01_k».proof.Proof.Gen.OutWeightGradRefIdeal.Run
public import proofs.«01_k».proof.Proof.Gen.OutWeightGradRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Common

namespace Cert.OutWeightGradIdeal.Value

open Cert.OutWeightGradIdeal Cert.OutWeightGradIdeal.Gen

/-- The product at one element of a block. -/
def prod (x0 : Vec Ideal S4096x512 .bf16) (x1 : Vec Ideal S4096x1024 .bf16) (r : Fin 512) (j : Fin 1024) : EReal :=
  ∑ k : Fin 4096, (x0 (ix2 k r) : EReal) * x1 (ix2 k j)

theorem pay1_apply (x0 : Vec Ideal S4096x512 .bf16) (x1 : Vec Ideal S4096x1024 .bf16) (r : Fin 512) (j : Fin 1024) :
    k0_pay1 (F := Ideal) x0 x1 (ix2 r j) = prod x0 x1 r j := by
  unfold k0_pay1 prod
  rw [shapeCast_self]
  refine (firstAxes_apply none x0 x1 _ r j).trans ?_
  rw [constant_apply, zero_f32, zero_add]

theorem pay2_apply (v : Vec Ideal S512x1024 .f32) (y : S512x1024.Idx) :
    k0_pay2 (F := Ideal) v y = v y := rfl

/-- The product of the tokens' two rows, summed over the tokens. -/
def total (x0 : (⟨S4096x4096, .bf16⟩ : BufTy).Contents (Elt Ideal)) (x1 : (⟨S4096x4096, .bf16⟩ : BufTy).Contents (Elt Ideal)) : S4096x4096.Idx → EReal :=
  fun i => ∑ k : Fin 4096, (x0 (ix2 k (i 0)) : EReal) * x1 (ix2 k (i 1))

/-- What a point leaves in its block of the result. -/
theorem out_apply (c : Dev nD) (i : grid0.Coords) (arg3 : Memref sig .tc .vmem S4096x512 .bf16) (harg3 : arg3.IsWhole) (arg4 : Memref sig .tc .vmem S4096x1024 .bf16) (harg4 : arg4.IsWhole) (arg5 : Memref sig .tc .vmem S512x1024 .bf16) (harg5 : arg5.IsWhole) (arg6 : Memref sig .tc .vmem S512x1024 .f32) (harg6 : arg6.IsWhole) (x0 : Vec Ideal S4096x512 .bf16) (x1 : Vec Ideal S4096x1024 .bf16) (r : Fin 512) (j : Fin 1024) :
    out0_A_2 (F := Ideal) c i arg3 harg3 arg4 harg4 arg5 harg5 arg6 harg6 x0 x1 (ix2 r j) = prod x0 x1 r j := by
  unfold out0_A_2
  rw [View.read_writes_eq_canon _ _ _ (cover0_A_2 c i arg3 harg3 arg4 harg4 arg5 harg5 arg6 harg6 x0 x1)]
  unfold kernelRun0_A
  dsimp only
  sl_unfold_words
  rw [View.canon_unit_zero (S := S512x1024) hz2]
  refine (pay2_apply ..).trans ?_
  rw [View.readCov_eq_canon', View.canon_unit_zero (S := S512x1024) hz2]
  dsimp only
  simp only [View.readAt_eq_ld, Memref.IsWhole.read_unread]
  rw [View.ld_unit_zero (S := S4096x512) hz2, View.ld_unit_zero (S := S4096x1024) hz2]
  refine Eq.trans ?_ (pay1_apply x0 x1 r j)
  refine congrArg (k0_pay1 (F := Ideal) x0 x1) (funext fun a => Fin.ext ?_)
  match a with
  | ⟨0, _⟩ => show 0 + 1 * r.val = r.val; omega
  | ⟨1, _⟩ => show 0 + 1 * j.val = j.val; omega

variable (m : (ℓ : Loc nD τ sig) → Buf (Elt Ideal) ℓ) (c : Dev nD)

abbrev a0 : (⟨S4096x4096, .bf16⟩ : BufTy).Contents (Elt Ideal) := m ((c : Thread nD τ).loc main_arg0)
abbrev a1 : (⟨S4096x4096, .bf16⟩ : BufTy).Contents (Elt Ideal) := m ((c : Thread nD τ).loc main_arg1)

theorem index_0 : ∀ t : Fin cfg0.N, win0_0.index t 0 = 0 ∧ win0_0.index t 1 = t.val / 4 :=
  (by decide +kernel : ∀ t : Fin grid0.N, win0_0.index t 0 = 0 ∧ win0_0.index t 1 = t.val / 4)
theorem index_1 : ∀ t : Fin cfg0.N, win0_1.index t 0 = 0 ∧ win0_1.index t 1 = t.val % 4 :=
  (by decide +kernel : ∀ t : Fin grid0.N, win0_1.index t 0 = 0 ∧ win0_1.index t 1 = t.val % 4)
theorem index_2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

theorem lt (t : Fin cfg0.N) : t.val < 32 := t.isLt

theorem blk0 (t : Fin cfg0.N) (p : Fin 4096) (q : Fin 512) :
    (iblk m c 0 t : Vec Ideal S4096x512 .bf16) (ix2 p q) = a0 m c (ix2 (⟨p.val, by have := lt t; omega⟩ : Fin 4096) (⟨t.val / 4 * 512 + q.val, by have := lt t; omega⟩ : Fin 4096)) := by
  unfold iblk
  rw [View.read_apply]
  show V m c main_arg0 _ = _
  rw [V_main_arg0]
  refine congrArg (a0 m c) (funext fun a => Fin.ext ?_)
  match a with
  | ⟨0, _⟩ => show win0_0.index t 0 * 4096 + 1 * p.val = p.val; rw [(index_0 t).1]; omega
  | ⟨1, _⟩ => show win0_0.index t 1 * 512 + 1 * q.val = t.val / 4 * 512 + q.val; rw [(index_0 t).2]; omega

theorem blk1 (t : Fin cfg0.N) (p : Fin 4096) (q : Fin 1024) :
    (iblk m c 1 t : Vec Ideal S4096x1024 .bf16) (ix2 p q) = a1 m c (ix2 (⟨p.val, by have := lt t; omega⟩ : Fin 4096) (⟨t.val % 4 * 1024 + q.val, by have := lt t; omega⟩ : Fin 4096)) := by
  unfold iblk
  rw [View.read_apply]
  show V m c main_arg1 _ = _
  rw [V_main_arg1]
  refine congrArg (a1 m c) (funext fun a => Fin.ext ?_)
  match a with
  | ⟨0, _⟩ => show win0_1.index t 0 * 4096 + 1 * p.val = p.val; rw [(index_1 t).1]; omega
  | ⟨1, _⟩ => show win0_1.index t 1 * 1024 + 1 * q.val = t.val % 4 * 1024 + q.val; rw [(index_1 t).2]; omega

abbrev result : S4096x4096.Idx → EReal := total (a0 m c) (a1 m c)

theorem flushed_eq (t : Fin cfg0.N) : (dats m 0 c).flushed 2 t = ((cfg0.win 2).blk t).view.read (Elt Ideal) (result m c) := by
  rw [flushed2_A]
  funext y
  obtain ⟨r, j, rfl⟩ : ∃ (r : Fin 512) (j : Fin 1024), y = ix2 r j := ⟨_, _, eq_ix2 y⟩
  rw [View.read_apply]
  refine (out_apply ..).trans ?_
  refine (show _ = result m c (ix2 (⟨t.val / 4 * 512 + r.val, by have := lt t; omega⟩ : Fin 4096) (⟨t.val % 4 * 1024 + j.val, by have := lt t; omega⟩ : Fin 4096)) from ?_).trans ?_
  · refine Finset.sum_congr rfl fun k _ => ?_
    rw [blk0, blk1]

  · refine congrArg (result m c) (funext fun a => Fin.ext ?_)
    match a with
    | ⟨0, _⟩ => show t.val / 4 * 512 + r.val = win0_2.index t 0 * 512 + 1 * r.val; rw [(index_2 t).1]; omega
    | ⟨1, _⟩ => show t.val % 4 * 1024 + j.val = win0_2.index t 1 * 1024 + 1 * j.val; rw [(index_2 t).2]; omega

/-- The point whose block holds an index of the result. -/
def pointOf (i : S4096x4096.Idx) : Fin cfg0.N :=
  ⟨(i 0).val / 512 * 4 + (i 1).val / 1024, by
    have h0 : (i 0).val < 4096 := (i 0).isLt
    have h1 : (i 1).val < 4096 := (i 1).isLt
    show _ < 32; omega⟩

theorem final_eq : (dats m 0 c).arrAt 2 cfg0.N = result m c :=
  (dats m 0 c).arrAt_eq_of_cover 2 (result m c) (fun t _ => flushed_eq m c t) fun i => ⟨pointOf i, flush0_2 _, by
    have h0 : (i 0).val < 4096 := (i 0).isLt
    have h1 : (i 1).val < 4096 := (i 1).isLt
    show i ∈ ((View.whole main_v0).slice (win0_2.rect (pointOf i))).set
    rw [View.set_slice_whole, Rect.mem_set_unit]
    have hp : (pointOf i).val = (i 0).val / 512 * 4 + (i 1).val / 1024 := rfl
    intro a
    match a with
    | ⟨0, _⟩ => show win0_2.index (pointOf i) 0 * 512 ≤ (i 0 : Nat) ∧ (i 0 : Nat) < win0_2.index (pointOf i) 0 * 512 + 512
                rw [(index_2 _).1, hp]; omega
    | ⟨1, _⟩ => show win0_2.index (pointOf i) 1 * 1024 ≤ (i 1 : Nat) ∧ (i 1 : Nat) < win0_2.index (pointOf i) 1 * 1024 + 1024
                rw [(index_2 _).2, hp]; omega⟩

end Cert.OutWeightGradIdeal.Value

namespace Cert.OutWeightGradRefIdeal.Value

open Cert.OutWeightGradRefIdeal Cert.OutWeightGradRefIdeal.Read

theorem result_eq (x0 : (⟨S4096x4096, .bf16⟩ : BufTy).Contents (Elt Ideal)) (x1 : (⟨S4096x4096, .bf16⟩ : BufTy).Contents (Elt Ideal)) (i : S4096x4096.Idx) :
    val_main_v6 (F := Ideal) x0 x1 i = Cert.OutWeightGradIdeal.Value.total x0 x1 i := by
  have h0 : (i 0).val < 4096 := (i 0).isLt
  have h1 : (i 1).val < 4096 := (i 1).isLt
  refine (show _ = val_main_v5 (F := Ideal) x0 x1 i from rfl).trans ?_
  rw [val_main_v5_apply, val_main_v4_apply]
  refine Finset.sum_congr rfl fun k _ => ?_
  rw [mul_comm]
  refine congrArg₂ (· * ·) (show x0 _ = x0 _ from congrArg x0 (funext fun a => Fin.ext ?_)) (show x1 _ = x1 _ from congrArg x1 (funext fun a => Fin.ext ?_))
  · match a with
    | ⟨0, _⟩ => rfl
    | ⟨1, _⟩ => rfl
  · match a with
    | ⟨0, _⟩ => rfl
    | ⟨1, _⟩ => rfl

/-- The reference runs to its end. -/
theorem frame : Cert.quiescent_OutWeightGradRefIdeal := fun m g _ =>
  (θ_run Cert.OutWeightGradRefIdeal.defs _ _).mono (fun r h => ⟨fun c => (h c).2, Idealize.ShloMosaic.sem_eq_zero_of_no_sems (by decide) r.2⟩)
    (Cert.OutWeightGradRefIdeal.Value.run (F := Ideal) m g)

/-- The kernel computes what the reference computes. -/
theorem algebraic : Cert.algebraic_OutWeightGradIdeal_OutWeightGradRefIdeal := by
  intro m g m' g' _ hargs
  refine ⟨fun c => Cert.OutWeightGradIdeal.Value.result m c, ?_, ?_⟩
  · refine (θ_run Cert.OutWeightGradIdeal.defs _ _).mono (fun r h c => ?_) (Cert.OutWeightGradIdeal.Value.run_blocks (F := Ideal) m g)
    obtain ⟨h2, h⟩ := h c
    exact ⟨h2.trans (Cert.OutWeightGradIdeal.Value.final_eq m c), h⟩
  · refine (θ_run Cert.OutWeightGradRefIdeal.defs _ _).mono (fun r h c => ?_) (Cert.OutWeightGradRefIdeal.Value.run (F := Ideal) m' g')
    obtain ⟨h2, h⟩ := h c
    obtain ⟨e0, e1⟩ := hargs c
    refine ⟨h2.trans ?_, h⟩
    refine (val_main_v6_eq _ _).trans ?_
    rw [e0, e1]
    funext i
    exact result_eq _ _ i

end Cert.OutWeightGradRefIdeal.Value

end
-- ==== Proof.OutInputGradValue.lean ====
/-
  The gradient of the output projection's input: what the kernel leaves in its result, over the extended reals, and that the reference leaves the same.
-/
module

public import proofs.«01_k».proof.Defs
public import proofs.«01_k».proof.Proof.Common
public import proofs.«01_k».proof.Proof.Gen.OutInputGradIdeal.Value
public import proofs.«01_k».proof.Proof.Gen.OutInputGradRefIdeal.Run
public import proofs.«01_k».proof.Proof.Gen.OutInputGradRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Common

namespace Cert.OutInputGradIdeal.Value

open Cert.OutInputGradIdeal Cert.OutInputGradIdeal.Gen

/-- The product at one element of a block. -/
def prod (x0 : Vec Ideal S512x4096 .bf16) (x1 : Vec Ideal S1024x4096 .bf16) (r : Fin 512) (j : Fin 1024) : EReal :=
  ∑ k : Fin 4096, (x0 (ix2 r k) : EReal) * x1 (ix2 j k)

theorem pay1_apply (x0 : Vec Ideal S512x4096 .bf16) (x1 : Vec Ideal S1024x4096 .bf16) (r : Fin 512) (j : Fin 1024) :
    k0_pay1 (F := Ideal) x0 x1 (ix2 r j) = prod x0 x1 r j := by
  unfold k0_pay1 prod
  rw [shapeCast_self]
  refine (Ideal.matmul_transposedRhs_apply none x0 x1 _ r j).trans ?_
  rw [constant_apply, zero_f32, zero_add]

/-- The product of a token's row and a weight's row. -/
def total (x0 : (⟨S4096x4096, .bf16⟩ : BufTy).Contents (Elt Ideal)) (x1 : (⟨S4096x4096, .bf16⟩ : BufTy).Contents (Elt Ideal)) : S4096x4096.Idx → EReal :=
  fun i => ∑ k : Fin 4096, (x0 (ix2 (i 0) k) : EReal) * x1 (ix2 (i 1) k)

/-- What a point leaves in its block of the result. -/
theorem out_apply (c : Dev nD) (i : grid0.Coords) (arg3 : Memref sig .tc .vmem S512x4096 .bf16) (harg3 : arg3.IsWhole) (arg4 : Memref sig .tc .vmem S1024x4096 .bf16) (harg4 : arg4.IsWhole) (arg5 : Memref sig .tc .vmem S512x1024 .f32) (harg5 : arg5.IsWhole) (arg6 : Memref sig .tc .vmem S512x1024 .f32) (harg6 : arg6.IsWhole) (x0 : Vec Ideal S512x4096 .bf16) (x1 : Vec Ideal S1024x4096 .bf16) (r : Fin 512) (j : Fin 1024) :
    out0_A_2 (F := Ideal) c i arg3 harg3 arg4 harg4 arg5 harg5 arg6 harg6 x0 x1 (ix2 r j) = prod x0 x1 r j := by
  unfold out0_A_2
  rw [View.read_writes_eq_canon _ _ _ (cover0_A_2 c i arg3 harg3 arg4 harg4 arg5 harg5 arg6 harg6 x0 x1)]
  unfold kernelRun0_A
  dsimp only
  sl_unfold_words
  rw [View.canon_unit_zero (S := S512x1024) hz2]
  rw [View.readCov_eq_canon', View.canon_unit_zero (S := S512x1024) hz2]
  dsimp only
  simp only [View.readAt_eq_ld, Memref.IsWhole.read_unread]
  rw [View.ld_unit_zero (S := S512x4096) hz2, View.ld_unit_zero (S := S1024x4096) hz2]
  refine Eq.trans ?_ (pay1_apply x0 x1 r j)
  refine congrArg (k0_pay1 (F := Ideal) x0 x1) (funext fun a => Fin.ext ?_)
  match a with
  | ⟨0, _⟩ => show 0 + 1 * r.val = r.val; omega
  | ⟨1, _⟩ => show 0 + 1 * j.val = j.val; omega

variable (m : (ℓ : Loc nD τ sig) → Buf (Elt Ideal) ℓ) (c : Dev nD)

abbrev a0 : (⟨S4096x4096, .bf16⟩ : BufTy).Contents (Elt Ideal) := m ((c : Thread nD τ).loc main_arg0)
abbrev a1 : (⟨S4096x4096, .bf16⟩ : BufTy).Contents (Elt Ideal) := m ((c : Thread nD τ).loc main_arg1)

theorem index_0 : ∀ t : Fin cfg0.N, win0_0.index t 0 = t.val % 8 ∧ win0_0.index t 1 = 0 :=
  (by decide +kernel : ∀ t : Fin grid0.N, win0_0.index t 0 = t.val % 8 ∧ win0_0.index t 1 = 0)
theorem index_1 : ∀ t : Fin cfg0.N, win0_1.index t 0 = t.val / 8 ∧ win0_1.index t 1 = 0 :=
  (by decide +kernel : ∀ t : Fin grid0.N, win0_1.index t 0 = t.val / 8 ∧ win0_1.index t 1 = 0)
theorem index_2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

theorem lt (t : Fin cfg0.N) : t.val < 32 := t.isLt

theorem blk0 (t : Fin cfg0.N) (p : Fin 512) (q : Fin 4096) :
    (iblk m c 0 t : Vec Ideal S512x4096 .bf16) (ix2 p q) = a0 m c (ix2 (⟨t.val % 8 * 512 + p.val, by have := lt t; omega⟩ : Fin 4096) (⟨q.val, by have := lt t; omega⟩ : Fin 4096)) := by
  unfold iblk
  rw [View.read_apply]
  show V m c main_arg0 _ = _
  rw [V_main_arg0]
  refine congrArg (a0 m c) (funext fun a => Fin.ext ?_)
  match a with
  | ⟨0, _⟩ => show win0_0.index t 0 * 512 + 1 * p.val = t.val % 8 * 512 + p.val; rw [(index_0 t).1]; omega
  | ⟨1, _⟩ => show win0_0.index t 1 * 4096 + 1 * q.val = q.val; rw [(index_0 t).2]; omega

theorem blk1 (t : Fin cfg0.N) (p : Fin 1024) (q : Fin 4096) :
    (iblk m c 1 t : Vec Ideal S1024x4096 .bf16) (ix2 p q) = a1 m c (ix2 (⟨t.val / 8 * 1024 + p.val, by have := lt t; omega⟩ : Fin 4096) (⟨q.val, by have := lt t; omega⟩ : Fin 4096)) := by
  unfold iblk
  rw [View.read_apply]
  show V m c main_arg1 _ = _
  rw [V_main_arg1]
  refine congrArg (a1 m c) (funext fun a => Fin.ext ?_)
  match a with
  | ⟨0, _⟩ => show win0_1.index t 0 * 1024 + 1 * p.val = t.val / 8 * 1024 + p.val; rw [(index_1 t).1]; omega
  | ⟨1, _⟩ => show win0_1.index t 1 * 4096 + 1 * q.val = q.val; rw [(index_1 t).2]; omega

abbrev result : S4096x4096.Idx → EReal := total (a0 m c) (a1 m c)

theorem flushed_eq (t : Fin cfg0.N) : (dats m 0 c).flushed 2 t = ((cfg0.win 2).blk t).view.read (Elt Ideal) (result m c) := by
  rw [flushed2_A]
  funext y
  obtain ⟨r, j, rfl⟩ : ∃ (r : Fin 512) (j : Fin 1024), y = ix2 r j := ⟨_, _, eq_ix2 y⟩
  rw [View.read_apply]
  refine (out_apply ..).trans ?_
  refine (show _ = result m c (ix2 (⟨t.val % 8 * 512 + r.val, by have := lt t; omega⟩ : Fin 4096) (⟨t.val / 8 * 1024 + j.val, by have := lt t; omega⟩ : Fin 4096)) from ?_).trans ?_
  · refine Finset.sum_congr rfl fun k _ => ?_
    rw [blk0, blk1]

  · refine congrArg (result m c) (funext fun a => Fin.ext ?_)
    match a with
    | ⟨0, _⟩ => show t.val % 8 * 512 + r.val = win0_2.index t 0 * 512 + 1 * r.val; rw [(index_2 t).1]; omega
    | ⟨1, _⟩ => show t.val / 8 * 1024 + j.val = win0_2.index t 1 * 1024 + 1 * j.val; rw [(index_2 t).2]; omega

/-- The point whose block holds an index of the result. -/
def pointOf (i : S4096x4096.Idx) : Fin cfg0.N :=
  ⟨(i 1).val / 1024 * 8 + (i 0).val / 512, by
    have h0 : (i 0).val < 4096 := (i 0).isLt
    have h1 : (i 1).val < 4096 := (i 1).isLt
    show _ < 32; omega⟩

theorem final_eq : (dats m 0 c).arrAt 2 cfg0.N = result m c :=
  (dats m 0 c).arrAt_eq_of_cover 2 (result m c) (fun t _ => flushed_eq m c t) fun i => ⟨pointOf i, flush0_2 _, by
    have h0 : (i 0).val < 4096 := (i 0).isLt
    have h1 : (i 1).val < 4096 := (i 1).isLt
    show i ∈ ((View.whole main_v0).slice (win0_2.rect (pointOf i))).set
    rw [View.set_slice_whole, Rect.mem_set_unit]
    have hp : (pointOf i).val = (i 1).val / 1024 * 8 + (i 0).val / 512 := rfl
    intro a
    match a with
    | ⟨0, _⟩ => show win0_2.index (pointOf i) 0 * 512 ≤ (i 0 : Nat) ∧ (i 0 : Nat) < win0_2.index (pointOf i) 0 * 512 + 512
                rw [(index_2 _).1, hp]; omega
    | ⟨1, _⟩ => show win0_2.index (pointOf i) 1 * 1024 ≤ (i 1 : Nat) ∧ (i 1 : Nat) < win0_2.index (pointOf i) 1 * 1024 + 1024
                rw [(index_2 _).2, hp]; omega⟩

end Cert.OutInputGradIdeal.Value

namespace Cert.OutInputGradRefIdeal.Value

open Cert.OutInputGradRefIdeal Cert.OutInputGradRefIdeal.Read

theorem result_eq (x0 : (⟨S4096x4096, .bf16⟩ : BufTy).Contents (Elt Ideal)) (x1 : (⟨S4096x4096, .bf16⟩ : BufTy).Contents (Elt Ideal)) (i : S4096x4096.Idx) :
    val_main_v4 (F := Ideal) x0 x1 i = Cert.OutInputGradIdeal.Value.total x0 x1 i := by
  have h0 : (i 0).val < 4096 := (i 0).isLt
  have h1 : (i 1).val < 4096 := (i 1).isLt
  rw [val_main_v4_apply]
  refine Finset.sum_congr rfl fun k _ => ?_
  refine congrArg₂ (· * ·) (show x0 _ = x0 _ from congrArg x0 (funext fun a => Fin.ext ?_)) (show x1 _ = x1 _ from congrArg x1 (funext fun a => Fin.ext ?_))
  · match a with
    | ⟨0, _⟩ => rfl
    | ⟨1, _⟩ => rfl
  · match a with
    | ⟨0, _⟩ => rfl
    | ⟨1, _⟩ => rfl

/-- The reference runs to its end. -/
theorem frame : Cert.quiescent_OutInputGradRefIdeal := fun m g _ =>
  (θ_run Cert.OutInputGradRefIdeal.defs _ _).mono (fun r h => ⟨fun c => (h c).2, Idealize.ShloMosaic.sem_eq_zero_of_no_sems (by decide) r.2⟩)
    (Cert.OutInputGradRefIdeal.Value.run (F := Ideal) m g)

/-- The kernel computes what the reference computes. -/
theorem algebraic : Cert.algebraic_OutInputGradIdeal_OutInputGradRefIdeal := by
  intro m g m' g' _ hargs
  refine ⟨fun c => Cert.OutInputGradIdeal.Value.result m c, ?_, ?_⟩
  · refine (θ_run Cert.OutInputGradIdeal.defs _ _).mono (fun r h c => ?_) (Cert.OutInputGradIdeal.Value.run_blocks (F := Ideal) m g)
    obtain ⟨h2, h⟩ := h c
    exact ⟨h2.trans (Cert.OutInputGradIdeal.Value.final_eq m c), h⟩
  · refine (θ_run Cert.OutInputGradRefIdeal.defs _ _).mono (fun r h c => ?_) (Cert.OutInputGradRefIdeal.Value.run (F := Ideal) m' g')
    obtain ⟨h2, h⟩ := h c
    obtain ⟨e0, e1⟩ := hargs c
    refine ⟨h2.trans ?_, h⟩
    refine (val_main_v4_eq _ _).trans ?_
    rw [e0, e1]
    funext i
    exact result_eq _ _ i

end Cert.OutInputGradRefIdeal.Value

end
-- ==== Proof.StickRunIdeal.lean ====
/-  The stick-breaking call's frame, by hand: one trip of the walk over the halves of the queries, the loop by its
invariant, the body of the call, the proof data of its pipeline and the launch.  The three projections share one
array, so the launch is the one for shared arrays. -/
module

public import proofs.«01_k».proof.Proof.Gen.StickHeadsIdeal.Frame
public import proofs.«01_k».proof.Proof.Gen.StickHeadsIdeal.Loops
public import Idealize.ShloMosaic.Lib.Claim

@[expose] public section

set_option maxRecDepth 16384

noncomputable section

namespace Cert.StickHeadsIdeal.Hand

open Cert.StickHeadsIdeal Cert.StickHeadsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One trip -/

/-- The buffers a trip touches: the inputs at `X`, the outputs at `f`. -/
abbrev Held (c : Dev nD) (arg2 : Memref sig .tc .vmem S2048x128 .bf16) (arg3 : Memref sig .tc .vmem S2048x128 .bf16) (arg4 : Memref sig .tc .vmem S2048x128 .bf16) (arg5 : Memref sig .tc .vmem S1x128 .f32) (arg8 : Memref sig .tc .vmem S2048x128 .bf16) (arg9 : Memref sig .tc .vmem S2048x128 .f32) (arg10 : Memref sig .tc .vmem S2048x128 .f32) (X2 : BufTy.Contents (Elt F) arg2.view.ty) (X3 : BufTy.Contents (Elt F) arg3.view.ty) (X4 : BufTy.Contents (Elt F) arg4.view.ty) (X5 : BufTy.Contents (Elt F) arg5.view.ty) (f8 : BufTy.Contents (Elt F) arg8.view.ty) (f9 : BufTy.Contents (Elt F) arg9.view.ty) (f10 : BufTy.Contents (Elt F) arg10.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))

set_option maxHeartbeats 4000000 in
/-- What one trip stores, with the proof that it does. -/
@[irreducible] def trip (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .hbm S4096x4096 .bf16) (harg6 : arg6.IsWhole) (arg7 : Memref sig .tc .hbm S4096x4096 .f32) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) :
    Σ' (L8 : List (View.Piece (Elt F) S2048x128 .bf16)) (L9 : List (View.Piece (Elt F) S2048x128 .f32)), { L10 : List (View.Piece (Elt F) S2048x128 .f32) // ∀ (E : Set ℕ) (f8 : BufTy.Contents (Elt F) arg8.view.ty) (f9 : BufTy.Contents (Elt F) arg9.view.ty) (f10 : BufTy.Contents (Elt F) arg10.view.ty),
      Held (F := F) c arg2 arg3 arg4 arg5 arg8 arg9 arg10 X2 X3 X4 X5 f8 f9 f10
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 k ())
          (fun _ => Held (F := F) c arg2 arg3 arg4 arg5 arg8 arg9 arg10 X2 X3 X4 X5 (arg8.view.writes (Elt F) f8 L8) (arg9.view.writes (Elt F) f9 L9) (arg10.view.writes (Elt F) f10 L10)) } := by
  refine ⟨?_, ?_, ?_, fun E f8 f9 f10 => ?run⟩
  case run =>
    unfold k0_t1_body
    iintro ⟨H2, H3, H4, H5, H8, H9, H10⟩
    sl_exec
    sl_step
    sl_close

/-- The stores of the trips before trip `n`, the last first. -/
def pieces (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .hbm S4096x4096 .bf16) (harg6 : arg6.IsWhole) (arg7 : Memref sig .tc .hbm S4096x4096 .f32) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (X2 : BufTy.Contents (Elt F) arg2.view.ty) (X3 : BufTy.Contents (Elt F) arg3.view.ty) (X4 : BufTy.Contents (Elt F) arg4.view.ty) (X5 : BufTy.Contents (Elt F) arg5.view.ty) : ℕ → List (View.Piece (Elt F) S2048x128 .bf16) × List (View.Piece (Elt F) S2048x128 .f32) × List (View.Piece (Elt F) S2048x128 .f32)
  | 0 => ([], [], [])
  | n + 1 => if h : n < k0_t1_loop.trips then
      ((trip (F := F) 𝒱 c bd i arg2 harg2 arg3 harg3 arg4 harg4 arg5 harg5 arg6 harg6 arg7 harg7 arg8 harg8 arg9 harg9 arg10 harg10 X2 X3 X4 X5 ⟨n, h⟩).1 ++ (pieces 𝒱 c bd i arg2 harg2 arg3 harg3 arg4 harg4 arg5 harg5 arg6 harg6 arg7 harg7 arg8 harg8 arg9 harg9 arg10 harg10 X2 X3 X4 X5 n).1,
       (trip (F := F) 𝒱 c bd i arg2 harg2 arg3 harg3 arg4 harg4 arg5 harg5 arg6 harg6 arg7 harg7 arg8 harg8 arg9 harg9 arg10 harg10 X2 X3 X4 X5 ⟨n, h⟩).2.1 ++ (pieces 𝒱 c bd i arg2 harg2 arg3 harg3 arg4 harg4 arg5 harg5 arg6 harg6 arg7 harg7 arg8 harg8 arg9 harg9 arg10 harg10 X2 X3 X4 X5 n).2.1,
       (trip (F := F) 𝒱 c bd i arg2 harg2 arg3 harg3 arg4 harg4 arg5 harg5 arg6 harg6 arg7 harg7 arg8 harg8 arg9 harg9 arg10 harg10 X2 X3 X4 X5 ⟨n, h⟩).2.2.1 ++ (pieces 𝒱 c bd i arg2 harg2 arg3 harg3 arg4 harg4 arg5 harg5 arg6 harg6 arg7 harg7 arg8 harg8 arg9 harg9 arg10 harg10 X2 X3 X4 X5 n).2.2)
    else pieces 𝒱 c bd i arg2 harg2 arg3 harg3 arg4 harg4 arg5 harg5 arg6 harg6 arg7 harg7 arg8 harg8 arg9 harg9 arg10 harg10 X2 X3 X4 X5 n

theorem pieces_succ (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .hbm S4096x4096 .bf16) (harg6 : arg6.IsWhole) (arg7 : Memref sig .tc .hbm S4096x4096 .f32) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) :
    pieces (F := F) 𝒱 c bd i arg2 harg2 arg3 harg3 arg4 harg4 arg5 harg5 arg6 harg6 arg7 harg7 arg8 harg8 arg9 harg9 arg10 harg10 X2 X3 X4 X5 (k.val + 1) =
      ((trip (F := F) 𝒱 c bd i arg2 harg2 arg3 harg3 arg4 harg4 arg5 harg5 arg6 harg6 arg7 harg7 arg8 harg8 arg9 harg9 arg10 harg10 X2 X3 X4 X5 k).1 ++ (pieces (F := F) 𝒱 c bd i arg2 harg2 arg3 harg3 arg4 harg4 arg5 harg5 arg6 harg6 arg7 harg7 arg8 harg8 arg9 harg9 arg10 harg10 X2 X3 X4 X5 k).1,
       (trip (F := F) 𝒱 c bd i arg2 harg2 arg3 harg3 arg4 harg4 arg5 harg5 arg6 harg6 arg7 harg7 arg8 harg8 arg9 harg9 arg10 harg10 X2 X3 X4 X5 k).2.1 ++ (pieces (F := F) 𝒱 c bd i arg2 harg2 arg3 harg3 arg4 harg4 arg5 harg5 arg6 harg6 arg7 harg7 arg8 harg8 arg9 harg9 arg10 harg10 X2 X3 X4 X5 k).2.1,
       (trip (F := F) 𝒱 c bd i arg2 harg2 arg3 harg3 arg4 harg4 arg5 harg5 arg6 harg6 arg7 harg7 arg8 harg8 arg9 harg9 arg10 harg10 X2 X3 X4 X5 k).2.2.1 ++ (pieces (F := F) 𝒱 c bd i arg2 harg2 arg3 harg3 arg4 harg4 arg5 harg5 arg6 harg6 arg7 harg7 arg8 harg8 arg9 harg9 arg10 harg10 X2 X3 X4 X5 k).2.2) := by
  rw [pieces.eq_2]; exact dif_pos k.isLt

/-- Before trip `k`: the inputs as they were, the outputs with the stores of the trips before. -/
abbrev walk (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .hbm S4096x4096 .bf16) (harg6 : arg6.IsWhole) (arg7 : Memref sig .tc .hbm S4096x4096 .f32) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (X2 : BufTy.Contents (Elt F) arg2.view.ty) (X3 : BufTy.Contents (Elt F) arg3.view.ty) (X4 : BufTy.Contents (Elt F) arg4.view.ty) (X5 : BufTy.Contents (Elt F) arg5.view.ty) (G8 : BufTy.Contents (Elt F) arg8.view.ty) (G9 : BufTy.Contents (Elt F) arg9.view.ty) (G10 : BufTy.Contents (Elt F) arg10.view.ty) (k : ℕ) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg8.view.loc (c : Thread nD τ) ↦[arg8.view.set]{fullShare} f) ∗ ⌜f = arg8.view.writes (Elt F) G8 (pieces (F := F) 𝒱 c bd i arg2 harg2 arg3 harg3 arg4 harg4 arg5 harg5 arg6 harg6 arg7 harg7 arg8 harg8 arg9 harg9 arg10 harg10 X2 X3 X4 X5 k).1⌝) ∗ (∃ f, (arg9.view.loc (c : Thread nD τ) ↦[arg9.view.set]{fullShare} f) ∗ ⌜f = arg9.view.writes (Elt F) G9 (pieces (F := F) 𝒱 c bd i arg2 harg2 arg3 harg3 arg4 harg4 arg5 harg5 arg6 harg6 arg7 harg7 arg8 harg8 arg9 harg9 arg10 harg10 X2 X3 X4 X5 k).2.1⌝) ∗ (∃ f, (arg10.view.loc (c : Thread nD τ) ↦[arg10.view.set]{fullShare} f) ∗ ⌜f = arg10.view.writes (Elt F) G10 (pieces (F := F) 𝒱 c bd i arg2 harg2 arg3 harg3 arg4 harg4 arg5 harg5 arg6 harg6 arg7 harg7 arg8 harg8 arg9 harg9 arg10 harg10 X2 X3 X4 X5 k).2.2⌝))

set_option warn.classDefReducibility false in
/-- The walk over the halves by its invariant. -/
@[sl_loop] def walkInv (𝒱 : Variants) (c : Dev nD) (bd : Option 𝒱.V) (E : Set ℕ) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .hbm S4096x4096 .bf16) (harg6 : arg6.IsWhole) (arg7 : Memref sig .tc .hbm S4096x4096 .f32) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (X2 : BufTy.Contents (Elt F) arg2.view.ty) (X3 : BufTy.Contents (Elt F) arg3.view.ty) (X4 : BufTy.Contents (Elt F) arg4.view.ty) (X5 : BufTy.Contents (Elt F) arg5.view.ty) (G8 : BufTy.Contents (Elt F) arg8.view.ty) (G9 : BufTy.Contents (Elt F) arg9.view.ty) (G10 : BufTy.Contents (Elt F) arg10.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 where
  inv k _ := walk (F := F) 𝒱 c bd i arg2 harg2 arg3 harg3 arg4 harg4 arg5 harg5 arg6 harg6 arg7 harg7 arg8 harg8 arg9 harg9 arg10 harg10 X2 X3 X4 X5 G8 G9 G10 k
  step k acc := by
    iintro ⟨H2, H3, H4, H5, ⟨%f8, H8, %h8⟩, ⟨%f9, H9, %h9⟩, ⟨%f10, H10, %h10⟩⟩
    iapply (wp_wand_r Idealize.ShloMosaic.frame (wpE (defs₀ (F := F)) 𝒱 (c : Thread nD τ) bd) E)
    isplitl [H2 H3 H4 H5 H8 H9 H10]
    · iapply ((trip (F := F) 𝒱 c bd i arg2 harg2 arg3 harg3 arg4 harg4 arg5 harg5 arg6 harg6 arg7 harg7 arg8 harg8 arg9 harg9 arg10 harg10 X2 X3 X4 X5 k).2.2.2 E f8 f9 f10)
      isplitl [H2]; · iexact H2
      isplitl [H3]; · iexact H3
      isplitl [H4]; · iexact H4
      isplitl [H5]; · iexact H5
      isplitl [H8]; · iexact H8
      isplitl [H9]; · iexact H9
      iexact H10
    · iintro %yld ⟨H2, H3, H4, H5, H8, H9, H10⟩
      isplitl [H2]; · iexact H2
      isplitl [H3]; · iexact H3
      isplitl [H4]; · iexact H4
      isplitl [H5]; · iexact H5
      simp only [pieces_succ]
      isplitl [H8]
      · iexists _; isplitl [H8]; · iexact H8
        ipureintro; rw [h8, ← View.writes_append]
      isplitl [H9]
      · iexists _; isplitl [H9]; · iexact H9
        ipureintro; rw [h9, ← View.writes_append]
      iexists _; isplitl [H10]; · iexact H10
      ipureintro; rw [h10, ← View.writes_append]

/-! ## The body -/

set_option maxHeartbeats 4000000 in
/-- The body on whole staging buffers: the inputs stay, the outputs end with the stores of the walk. -/
theorem body_run (c : Dev nD) (E : Set ℕ) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .hbm S4096x4096 .bf16) (harg6 : arg6.IsWhole) (arg7 : Memref sig .tc .hbm S4096x4096 .f32) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (x0 : Vec F S2048x128 .bf16) (x1 : Vec F S2048x128 .bf16) (x2 : Vec F S2048x128 .bf16) (x3 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ (∃ f, arg8.view.loc (c : Thread nD τ) ↦[arg8.view.set]{fullShare} arg8.view.writes (Elt F) f (pieces (F := F) Variants.none c none i arg2 harg2 arg3 harg3 arg4 harg4 arg5 harg5 arg6 harg6 arg7 harg7 arg8 harg8 arg9 harg9 arg10 harg10 (harg2.unread x0) (harg3.unread x1) (harg4.unread x2) (harg5.unread x3) 2).1)
            ∗ (∃ f, arg9.view.loc (c : Thread nD τ) ↦[arg9.view.set]{fullShare} arg9.view.writes (Elt F) f (pieces (F := F) Variants.none c none i arg2 harg2 arg3 harg3 arg4 harg4 arg5 harg5 arg6 harg6 arg7 harg7 arg8 harg8 arg9 harg9 arg10 harg10 (harg2.unread x0) (harg3.unread x1) (harg4.unread x2) (harg5.unread x3) 2).2.1)
            ∗ (∃ f, arg10.view.loc (c : Thread nD τ) ↦[arg10.view.set]{fullShare} arg10.view.writes (Elt F) f (pieces (F := F) Variants.none c none i arg2 harg2 arg3 harg3 arg4 harg4 arg5 harg5 arg6 harg6 arg7 harg7 arg8 harg8 arg9 harg9 arg10 harg10 (harg2.unread x0) (harg3.unread x1) (harg4.unread x2) (harg5.unread x3) 2).2.2)) -∗ K ⟨⟩))
      ⊢ wp frame (wpE (defs₀ (F := F)) Variants.none c none) E (cc0_sb_fwd i arg2 harg2 arg3 harg3 arg4 harg4 arg5 harg5 arg6 harg6 arg7 harg7 arg8 harg8 arg9 harg9 arg10 harg10) K := by
  simp only [cc0_sb_fwd_eq_skeleton]; unfold cc0_sb_fwd_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; iexact H4
  isplitl [H5]
  · iexists _; iexact H5
  iexists _; iexact H6

/-! ## The outputs' buffers after the body -/

/-- The two halves of the queries. -/
abbrev half0 : Fin k0_t1_loop.trips := ⟨0, by decide⟩
abbrev half1 : Fin k0_t1_loop.trips := ⟨1, by decide⟩

section

variable (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .hbm S4096x4096 .bf16) (harg6 : arg6.IsWhole) (arg7 : Memref sig .tc .hbm S4096x4096 .f32) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (X2 : BufTy.Contents (Elt F) arg2.view.ty) (X3 : BufTy.Contents (Elt F) arg3.view.ty) (X4 : BufTy.Contents (Elt F) arg4.view.ty) (X5 : BufTy.Contents (Elt F) arg5.view.ty)

theorem pieces_two : (pieces (F := F) 𝒱 c bd i arg2 harg2 arg3 harg3 arg4 harg4 arg5 harg5 arg6 harg6 arg7 harg7 arg8 harg8 arg9 harg9 arg10 harg10 X2 X3 X4 X5 2) =
      ((trip (F := F) 𝒱 c bd i arg2 harg2 arg3 harg3 arg4 harg4 arg5 harg5 arg6 harg6 arg7 harg7 arg8 harg8 arg9 harg9 arg10 harg10 X2 X3 X4 X5 half1).1 ++ ((trip (F := F) 𝒱 c bd i arg2 harg2 arg3 harg3 arg4 harg4 arg5 harg5 arg6 harg6 arg7 harg7 arg8 harg8 arg9 harg9 arg10 harg10 X2 X3 X4 X5 half0).1 ++ []),
       (trip (F := F) 𝒱 c bd i arg2 harg2 arg3 harg3 arg4 harg4 arg5 harg5 arg6 harg6 arg7 harg7 arg8 harg8 arg9 harg9 arg10 harg10 X2 X3 X4 X5 half1).2.1 ++ ((trip (F := F) 𝒱 c bd i arg2 harg2 arg3 harg3 arg4 harg4 arg5 harg5 arg6 harg6 arg7 harg7 arg8 harg8 arg9 harg9 arg10 harg10 X2 X3 X4 X5 half0).2.1 ++ []),
       (trip (F := F) 𝒱 c bd i arg2 harg2 arg3 harg3 arg4 harg4 arg5 harg5 arg6 harg6 arg7 harg7 arg8 harg8 arg9 harg9 arg10 harg10 X2 X3 X4 X5 half1).2.2.1 ++ ((trip (F := F) 𝒱 c bd i arg2 harg2 arg3 harg3 arg4 harg4 arg5 harg5 arg6 harg6 arg7 harg7 arg8 harg8 arg9 harg9 arg10 harg10 X2 X3 X4 X5 half0).2.2.1 ++ [])) := by
  have h0 := pieces_succ (F := F) 𝒱 c bd i arg2 harg2 arg3 harg3 arg4 harg4 arg5 harg5 arg6 harg6 arg7 harg7 arg8 harg8 arg9 harg9 arg10 harg10 X2 X3 X4 X5 half0
  have h1 := pieces_succ (F := F) 𝒱 c bd i arg2 harg2 arg3 harg3 arg4 harg4 arg5 harg5 arg6 harg6 arg7 harg7 arg8 harg8 arg9 harg9 arg10 harg10 X2 X3 X4 X5 half1
  exact h1.trans (congrArg (fun L : List (View.Piece (Elt F) S2048x128 .bf16) × List (View.Piece (Elt F) S2048x128 .f32) × List (View.Piece (Elt F) S2048x128 .f32) =>
      ((trip (F := F) 𝒱 c bd i arg2 harg2 arg3 harg3 arg4 harg4 arg5 harg5 arg6 harg6 arg7 harg7 arg8 harg8 arg9 harg9 arg10 harg10 X2 X3 X4 X5 half1).1 ++ L.1, (trip (F := F) 𝒱 c bd i arg2 harg2 arg3 harg3 arg4 harg4 arg5 harg5 arg6 harg6 arg7 harg7 arg8 harg8 arg9 harg9 arg10 harg10 X2 X3 X4 X5 half1).2.1 ++ L.2.1, (trip (F := F) 𝒱 c bd i arg2 harg2 arg3 harg3 arg4 harg4 arg5 harg5 arg6 harg6 arg7 harg7 arg8 harg8 arg9 harg9 arg10 harg10 X2 X3 X4 X5 half1).2.2.1 ++ L.2.2)) h0)

theorem one_8 (k : Fin k0_t1_loop.trips) :
    ∃ p : Vec F S1024x128 .bf16, (trip (F := F) 𝒱 c bd i arg2 harg2 arg3 harg3 arg4 harg4 arg5 harg5 arg6 harg6 arg7 harg7 arg8 harg8 arg9 harg9 arg10 harg10 X2 X3 X4 X5 k).1 = [⟨Rect.unit (s := S2048x128) (k0_off1 k) S1024x128.size (k0_off1_inb k), p⟩] := by
  unfold trip; exact ⟨_, rfl⟩

/-- What the walk stores through buffer 8: one block for each half, the later half first. -/
theorem two_8 : ∃ p q : Vec F S1024x128 .bf16, (pieces (F := F) 𝒱 c bd i arg2 harg2 arg3 harg3 arg4 harg4 arg5 harg5 arg6 harg6 arg7 harg7 arg8 harg8 arg9 harg9 arg10 harg10 X2 X3 X4 X5 2).1 =
    [⟨Rect.unit (s := S2048x128) (k0_off1 half1) S1024x128.size (k0_off1_inb _), p⟩,
     ⟨Rect.unit (s := S2048x128) (k0_off1 half0) S1024x128.size (k0_off1_inb _), q⟩] := by
  obtain ⟨p, hp⟩ := one_8 (F := F) 𝒱 c bd i arg2 harg2 arg3 harg3 arg4 harg4 arg5 harg5 arg6 harg6 arg7 harg7 arg8 harg8 arg9 harg9 arg10 harg10 X2 X3 X4 X5 half1
  obtain ⟨q, hq⟩ := one_8 (F := F) 𝒱 c bd i arg2 harg2 arg3 harg3 arg4 harg4 arg5 harg5 arg6 harg6 arg7 harg7 arg8 harg8 arg9 harg9 arg10 harg10 X2 X3 X4 X5 half0
  refine ⟨p, q, (congrArg (fun L => L.1) (pieces_two (F := F) 𝒱 c bd i arg2 harg2 arg3 harg3 arg4 harg4 arg5 harg5 arg6 harg6 arg7 harg7 arg8 harg8 arg9 harg9 arg10 harg10 X2 X3 X4 X5)).trans ?_⟩
  dsimp only
  rw [hp, hq]; rfl

theorem cover_8 (y : S2048x128.Idx) : ∃ pc ∈ (pieces (F := F) 𝒱 c bd i arg2 harg2 arg3 harg3 arg4 harg4 arg5 harg5 arg6 harg6 arg7 harg7 arg8 harg8 arg9 harg9 arg10 harg10 X2 X3 X4 X5 2).1, y ∈ pc.1.set := by
  obtain ⟨p, q, h⟩ := two_8 (F := F) 𝒱 c bd i arg2 harg2 arg3 harg3 arg4 harg4 arg5 harg5 arg6 harg6 arg7 harg7 arg8 harg8 arg9 harg9 arg10 harg10 X2 X3 X4 X5
  rw [h]
  exact View.cover_of_tiled [⟨Rect.unit (s := S2048x128) (k0_off1 half1) S1024x128.size (k0_off1_inb _), p⟩,
     ⟨Rect.unit (s := S2048x128) (k0_off1 half0) S1024x128.size (k0_off1_inb _), q⟩] S1024x128.size (by rfl) y

theorem one_9 (k : Fin k0_t1_loop.trips) :
    ∃ p : Vec F S1024x128 .f32, (trip (F := F) 𝒱 c bd i arg2 harg2 arg3 harg3 arg4 harg4 arg5 harg5 arg6 harg6 arg7 harg7 arg8 harg8 arg9 harg9 arg10 harg10 X2 X3 X4 X5 k).2.1 = [⟨Rect.unit (s := S2048x128) (k0_off1 k) S1024x128.size (k0_off1_inb k), p⟩] := by
  unfold trip; exact ⟨_, rfl⟩

/-- What the walk stores through buffer 9: one block for each half, the later half first. -/
theorem two_9 : ∃ p q : Vec F S1024x128 .f32, (pieces (F := F) 𝒱 c bd i arg2 harg2 arg3 harg3 arg4 harg4 arg5 harg5 arg6 harg6 arg7 harg7 arg8 harg8 arg9 harg9 arg10 harg10 X2 X3 X4 X5 2).2.1 =
    [⟨Rect.unit (s := S2048x128) (k0_off1 half1) S1024x128.size (k0_off1_inb _), p⟩,
     ⟨Rect.unit (s := S2048x128) (k0_off1 half0) S1024x128.size (k0_off1_inb _), q⟩] := by
  obtain ⟨p, hp⟩ := one_9 (F := F) 𝒱 c bd i arg2 harg2 arg3 harg3 arg4 harg4 arg5 harg5 arg6 harg6 arg7 harg7 arg8 harg8 arg9 harg9 arg10 harg10 X2 X3 X4 X5 half1
  obtain ⟨q, hq⟩ := one_9 (F := F) 𝒱 c bd i arg2 harg2 arg3 harg3 arg4 harg4 arg5 harg5 arg6 harg6 arg7 harg7 arg8 harg8 arg9 harg9 arg10 harg10 X2 X3 X4 X5 half0
  refine ⟨p, q, (congrArg (fun L => L.2.1) (pieces_two (F := F) 𝒱 c bd i arg2 harg2 arg3 harg3 arg4 harg4 arg5 harg5 arg6 harg6 arg7 harg7 arg8 harg8 arg9 harg9 arg10 harg10 X2 X3 X4 X5)).trans ?_⟩
  dsimp only
  rw [hp, hq]; rfl

theorem cover_9 (y : S2048x128.Idx) : ∃ pc ∈ (pieces (F := F) 𝒱 c bd i arg2 harg2 arg3 harg3 arg4 harg4 arg5 harg5 arg6 harg6 arg7 harg7 arg8 harg8 arg9 harg9 arg10 harg10 X2 X3 X4 X5 2).2.1, y ∈ pc.1.set := by
  obtain ⟨p, q, h⟩ := two_9 (F := F) 𝒱 c bd i arg2 harg2 arg3 harg3 arg4 harg4 arg5 harg5 arg6 harg6 arg7 harg7 arg8 harg8 arg9 harg9 arg10 harg10 X2 X3 X4 X5
  rw [h]
  exact View.cover_of_tiled [⟨Rect.unit (s := S2048x128) (k0_off1 half1) S1024x128.size (k0_off1_inb _), p⟩,
     ⟨Rect.unit (s := S2048x128) (k0_off1 half0) S1024x128.size (k0_off1_inb _), q⟩] S1024x128.size (by rfl) y

theorem one_10 (k : Fin k0_t1_loop.trips) :
    ∃ p : Vec F S1024x128 .f32, (trip (F := F) 𝒱 c bd i arg2 harg2 arg3 harg3 arg4 harg4 arg5 harg5 arg6 harg6 arg7 harg7 arg8 harg8 arg9 harg9 arg10 harg10 X2 X3 X4 X5 k).2.2.1 = [⟨Rect.unit (s := S2048x128) (k0_off1 k) S1024x128.size (k0_off1_inb k), p⟩] := by
  unfold trip; exact ⟨_, rfl⟩

/-- What the walk stores through buffer 10: one block for each half, the later half first. -/
theorem two_10 : ∃ p q : Vec F S1024x128 .f32, (pieces (F := F) 𝒱 c bd i arg2 harg2 arg3 harg3 arg4 harg4 arg5 harg5 arg6 harg6 arg7 harg7 arg8 harg8 arg9 harg9 arg10 harg10 X2 X3 X4 X5 2).2.2 =
    [⟨Rect.unit (s := S2048x128) (k0_off1 half1) S1024x128.size (k0_off1_inb _), p⟩,
     ⟨Rect.unit (s := S2048x128) (k0_off1 half0) S1024x128.size (k0_off1_inb _), q⟩] := by
  obtain ⟨p, hp⟩ := one_10 (F := F) 𝒱 c bd i arg2 harg2 arg3 harg3 arg4 harg4 arg5 harg5 arg6 harg6 arg7 harg7 arg8 harg8 arg9 harg9 arg10 harg10 X2 X3 X4 X5 half1
  obtain ⟨q, hq⟩ := one_10 (F := F) 𝒱 c bd i arg2 harg2 arg3 harg3 arg4 harg4 arg5 harg5 arg6 harg6 arg7 harg7 arg8 harg8 arg9 harg9 arg10 harg10 X2 X3 X4 X5 half0
  refine ⟨p, q, (congrArg (fun L => L.2.2) (pieces_two (F := F) 𝒱 c bd i arg2 harg2 arg3 harg3 arg4 harg4 arg5 harg5 arg6 harg6 arg7 harg7 arg8 harg8 arg9 harg9 arg10 harg10 X2 X3 X4 X5)).trans ?_⟩
  dsimp only
  rw [hp, hq]; rfl

theorem cover_10 (y : S2048x128.Idx) : ∃ pc ∈ (pieces (F := F) 𝒱 c bd i arg2 harg2 arg3 harg3 arg4 harg4 arg5 harg5 arg6 harg6 arg7 harg7 arg8 harg8 arg9 harg9 arg10 harg10 X2 X3 X4 X5 2).2.2, y ∈ pc.1.set := by
  obtain ⟨p, q, h⟩ := two_10 (F := F) 𝒱 c bd i arg2 harg2 arg3 harg3 arg4 harg4 arg5 harg5 arg6 harg6 arg7 harg7 arg8 harg8 arg9 harg9 arg10 harg10 X2 X3 X4 X5
  rw [h]
  exact View.cover_of_tiled [⟨Rect.unit (s := S2048x128) (k0_off1 half1) S1024x128.size (k0_off1_inb _), p⟩,
     ⟨Rect.unit (s := S2048x128) (k0_off1 half0) S1024x128.size (k0_off1_inb _), q⟩] S1024x128.size (by rfl) y

end

section

variable (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .hbm S4096x4096 .bf16) (harg6 : arg6.IsWhole) (arg7 : Memref sig .tc .hbm S4096x4096 .f32) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (x0 : Vec F S2048x128 .bf16) (x1 : Vec F S2048x128 .bf16) (x2 : Vec F S2048x128 .bf16) (x3 : Vec F S1x128 .f32)

/-- Buffer 8 after the body. -/
def left_8 : Vec F S2048x128 .bf16 := View.canon (pieces (F := F) Variants.none c none i arg2 harg2 arg3 harg3 arg4 harg4 arg5 harg5 arg6 harg6 arg7 harg7 arg8 harg8 arg9 harg9 arg10 harg10 (harg2.unread x0) (harg3.unread x1) (harg4.unread x2) (harg5.unread x3) 2).1

/-- Buffer 9 after the body. -/
def left_9 : Vec F S2048x128 .f32 := View.canon (pieces (F := F) Variants.none c none i arg2 harg2 arg3 harg3 arg4 harg4 arg5 harg5 arg6 harg6 arg7 harg7 arg8 harg8 arg9 harg9 arg10 harg10 (harg2.unread x0) (harg3.unread x1) (harg4.unread x2) (harg5.unread x3) 2).2.1

/-- Buffer 10 after the body. -/
def left_10 : Vec F S2048x128 .f32 := View.canon (pieces (F := F) Variants.none c none i arg2 harg2 arg3 harg3 arg4 harg4 arg5 harg5 arg6 harg6 arg7 harg7 arg8 harg8 arg9 harg9 arg10 harg10 (harg2.unread x0) (harg3.unread x1) (harg4.unread x2) (harg5.unread x3) 2).2.2

end

/-- The body's triple. -/
theorem sound_kernel (c : Dev nD) (E : Set ℕ) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .hbm S4096x4096 .bf16) (harg6 : arg6.IsWhole) (arg7 : Memref sig .tc .hbm S4096x4096 .f32) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (x0 : Vec F S2048x128 .bf16) (x1 : Vec F S2048x128 .bf16) (x2 : Vec F S2048x128 .bf16) (x3 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg8 fullShare (left_8 c i arg2 harg2 arg3 harg3 arg4 harg4 arg5 harg5 arg6 harg6 arg7 harg7 arg8 harg8 arg9 harg9 arg10 harg10 x0 x1 x2 x3)
            ∗ owns (c : Thread nD τ) arg9 fullShare (left_9 c i arg2 harg2 arg3 harg3 arg4 harg4 arg5 harg5 arg6 harg6 arg7 harg7 arg8 harg8 arg9 harg9 arg10 harg10 x0 x1 x2 x3)
            ∗ owns (c : Thread nD τ) arg10 fullShare (left_10 c i arg2 harg2 arg3 harg3 arg4 harg4 arg5 harg5 arg6 harg6 arg7 harg7 arg8 harg8 arg9 harg9 arg10 harg10 x0 x1 x2 x3)) -∗ K ⟨⟩))
      ⊢ wp frame (wpE (defs₀ (F := F)) Variants.none c none) E (cc0_sb_fwd i arg2 harg2 arg3 harg3 arg4 harg4 arg5 harg5 arg6 harg6 arg7 harg7 arg8 harg8 arg9 harg9 arg10 harg10) K := by
  iintro ⟨H0, H1, H2, H3, H4, H5, H6, Hk⟩
  iapply (body_run c E i arg2 harg2 arg3 harg3 arg4 harg4 arg5 harg5 arg6 harg6 arg7 harg7 arg8 harg8 arg9 harg9 arg10 harg10 x0 x1 x2 x3 K)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, ⟨%f4, H4⟩, ⟨%f5, H5⟩, ⟨%f6, H6⟩⟩
  iapply Hk
  isplitl [H0]; · iexact H0
  isplitl [H1]; · iexact H1
  isplitl [H2]; · iexact H2
  isplitl [H3]; · iexact H3
  unfold owns
  isplitl [H4]
  · iexists _; isplitr
    swap; · iexact H4
    ipureintro; exact View.read_writes_eq_canon _ _ _ (cover_8 (F := F) Variants.none c none i arg2 harg2 arg3 harg3 arg4 harg4 arg5 harg5 arg6 harg6 arg7 harg7 arg8 harg8 arg9 harg9 arg10 harg10 (harg2.unread x0) (harg3.unread x1) (harg4.unread x2) (harg5.unread x3))
  isplitl [H5]
  · iexists _; isplitr
    swap; · iexact H5
    ipureintro; exact View.read_writes_eq_canon _ _ _ (cover_9 (F := F) Variants.none c none i arg2 harg2 arg3 harg3 arg4 harg4 arg5 harg5 arg6 harg6 arg7 harg7 arg8 harg8 arg9 harg9 arg10 harg10 (harg2.unread x0) (harg3.unread x1) (harg4.unread x2) (harg5.unread x3))
  iexists _; isplitr
  swap; · iexact H6
  ipureintro; exact View.read_writes_eq_canon _ _ _ (cover_10 (F := F) Variants.none c none i arg2 harg2 arg3 harg3 arg4 harg4 arg5 harg5 arg6 harg6 arg7 harg7 arg8 harg8 arg9 harg9 arg10 harg10 (harg2.unread x0) (harg3.unread x1) (harg4.unread x2) (harg5.unread x3))

/-! ## The proof data of the pipeline -/

variable (m : (ℓ : Loc nD τ sig) → Buf (Elt F) ℓ) (ρ : Dev nD → PrngReg)

abbrev at_9 (c : Dev nD) (t : Fin cfg0.N) : Vec F S2048x128 .f32 := left_9 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole main_arg2) (Memref.isWhole_whole _) (Memref.whole main_v0) (Memref.isWhole_whole _) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (iblk m c 0 t) (iblk m c 1 t) (iblk m c 2 t) (iblk m c 3 t)

abbrev at_10 (c : Dev nD) (t : Fin cfg0.N) : Vec F S2048x128 .f32 := left_10 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole main_arg2) (Memref.isWhole_whole _) (Memref.whole main_v0) (Memref.isWhole_whole _) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (iblk m c 0 t) (iblk m c 1 t) (iblk m c 2 t) (iblk m c 3 t)

/-- Each input's buffer keeps its block, each output's ends as the body leaves it; shared arrays are split evenly. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => left_8 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole main_arg2) (Memref.isWhole_whole _) (Memref.whole main_v0) (Memref.isWhole_whole _) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (iblk m c 0 t) (iblk m c 1 t) (iblk m c 2 t) (iblk m c 3 t)
    | ⟨5, _⟩ => at_9 m c t
    | ⟨6, _⟩ => at_10 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = left_8 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole main_arg2) (Memref.isWhole_whole _) (Memref.whole main_v0) (Memref.isWhole_whole _) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (iblk m c 0 t) (iblk m c 1 t) (iblk m c 2 t) (iblk m c 3 t) := by dsimp only [dats]
theorem after_5 (c : Dev nD) (t : Fin cfg0.N) : (dats m 0 c).after 5 t = at_9 m c t := by dsimp only [dats]
theorem after_6 (c : Dev nD) (t : Fin cfg0.N) : (dats m 0 c).after 6 t = at_10 m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => Idealize.SL.BI.Entails.refl _) (hout := fun c => Idealize.SL.BI.Entails.refl _)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore is at rest. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.StickHeadsIdeal.Hand
-- ==== Proof.StickRun.lean ====
/-
  The stick-breaking call's frame: the call and its idealization are the same program, so the frame is the idealization's.
-/
module

public import proofs.«01_k».proof.Proof.StickRunIdeal
public import proofs.«01_k».proof.Proof.Gen.StickHeads

@[expose] public section

set_option maxRecDepth 16384

noncomputable section

open Idealize.ShloMosaic Idealize.ShloMosaic.TcCoe Idealize.SL.Sem

namespace Cert.StickHeads.Hand

open Cert.StickHeads Cert.StickHeads.Gen

variable {F : FTy → Type} [FloatOps F]

/-- The two bodies are one program, so the two body tables are one table. -/
theorem bodies_eq : defs₀ (F := F) = Cert.StickHeadsIdeal.defs₀ (F := F) := by
  unfold defs₀ Cert.StickHeadsIdeal.defs₀
  refine congrArg Defs.onTc (funext fun l => ?_)
  match l with
  | ⟨0, _⟩ => rfl

theorem tables_eq : defs (F := F) = Cert.StickHeadsIdeal.defs (F := F) :=
  congrArg (Pipeline.defs (Cert.StickHeadsIdeal.pcfgs (F := F))) bodies_eq

/-- The frame: the arguments end unchanged and every semaphore is at rest. -/
theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (congrArg (fun d => θ_run d (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)) (tables_eq (F := F))).mpr (Cert.StickHeadsIdeal.Hand.frame (F := F) m ρ)

end Cert.StickHeads.Hand

end
-- ==== Proof.StickMath.lean ====
/-
  The stick-breaking weights, row by row

  One row of logits `z 0, z 1, …` and its own position `q`: a key before `q` takes the share
  `σ(z s)` of what the keys between it and the row leave. The lemmas here are about extended reals
  only: the softplus at its corners, the sums that a tile adds to the running ones, and the two ways
  of writing a weight.
-/
module

public import proofs.«01_k».proof.Proof.Common

@[expose] public section

noncomputable section

namespace Cert.Stick

open Idealize.ShloMosaic

/-- The softplus: `max z 0 + log (1 + e^(-|z|))`. -/
def sp (z : EReal) : EReal := max z 0 + Ideal.log (1 + Ideal.exp (-(max z (-z))))

theorem exp_bot : Ideal.exp ⊥ = 0 := rfl
theorem exp_coe (x : ℝ) : Ideal.exp (x : EReal) = (Real.exp x : EReal) := rfl

theorem log_one_add_coe (x : ℝ) (h : 0 ≤ x) : Ideal.log (1 + (x : EReal)) = (Real.log (1 + x) : EReal) := by
  rw [show (1 : EReal) + (x : EReal) = ((1 + x : ℝ) : EReal) from (EReal.coe_add 1 x).symm]
  show (if 1 + x ≤ 0 then (⊥ : EReal) else (Real.log (1 + x) : EReal)) = _
  rw [if_neg (by linarith)]

theorem log_one_add_zero : Ideal.log (1 + (0 : EReal)) = 0 := by
  have h := log_one_add_coe 0 le_rfl
  rw [add_zero, Real.log_one, EReal.coe_zero] at h
  exact h

theorem sp_top : sp ⊤ = ⊤ := by
  unfold sp
  rw [EReal.neg_top, max_eq_left (a := (⊤ : EReal)) bot_le, EReal.neg_top, exp_bot, log_one_add_zero,
    max_eq_left (a := (⊤ : EReal)) le_top, add_zero]

theorem sp_bot : sp ⊥ = 0 := by
  unfold sp
  rw [EReal.neg_bot, max_eq_right (b := (⊤ : EReal)) bot_le, EReal.neg_top, exp_bot, log_one_add_zero,
    max_eq_right (b := (0 : EReal)) bot_le, add_zero]

/-- The softplus of a real. -/
def rsp (x : ℝ) : ℝ := max x 0 + Real.log (1 + Real.exp (-(max x (-x))))

theorem coe_max (x y : ℝ) : ((max x y : ℝ) : EReal) = max (x : EReal) y := EReal.coe_strictMono.monotone.map_max

theorem sp_coe (x : ℝ) : sp (x : EReal) = (rsp x : EReal) := by
  unfold sp rsp
  rw [← EReal.coe_neg, ← coe_max, ← EReal.coe_neg, exp_coe, log_one_add_coe _ (Real.exp_pos _).le,
    ← EReal.coe_zero, ← coe_max, ← EReal.coe_add]

/-- `z - softplus z = -softplus (-z)` on the reals. -/
theorem rsp_neg (x : ℝ) : x + -rsp x = -rsp (-x) := by
  unfold rsp
  rw [neg_neg, max_comm (-x) x]
  rcases le_total x 0 with h | h
  · rw [max_eq_right h, max_eq_left (by linarith : (0 : ℝ) ≤ -x)]
    ring
  · rw [max_eq_left h, max_eq_right (by linarith : -x ≤ (0 : ℝ))]
    ring

theorem neg_sp_ne_top (z : EReal) : -sp z ≠ ⊤ := by
  induction z using EReal.rec with
  | bot => rw [sp_bot, neg_zero]; exact EReal.zero_ne_top
  | coe x => rw [sp_coe, ← EReal.coe_neg]; exact EReal.coe_ne_top _
  | top => rw [sp_top, EReal.neg_top]; exact bot_ne_top

/-- The two ways of writing a weight agree: the kernel adds the sums of the later keys alone, the
    reference takes the sum from the key on and subtracts the key's own term. -/
theorem weight_eq (z C : EReal) :
    Ideal.exp (-sp (-z) + ((-sp z + C) - -sp z)) = Ideal.exp ((z + -sp z) + C) := by
  induction z using EReal.rec with
  | bot => rw [EReal.neg_bot, sp_top, EReal.neg_top, EReal.bot_add, EReal.bot_add, EReal.bot_add]
  | top =>
    rw [EReal.neg_top, sp_bot, sp_top, EReal.neg_top, EReal.bot_add, sub_eq_add_neg, EReal.bot_add, EReal.add_bot,
      EReal.add_bot, EReal.bot_add]
  | coe x =>
    rw [← EReal.coe_neg, sp_coe, sp_coe, ← EReal.coe_neg, ← EReal.coe_neg, ← EReal.coe_add, rsp_neg]
    congr 2
    rw [sub_eq_add_neg, ← EReal.coe_neg, neg_neg, add_comm (↑(-rsp x)) C, add_assoc, ← EReal.coe_add, neg_add_cancel,
      EReal.coe_zero, add_zero]

theorem add_sub_same {x : EReal} (h : x ≠ ⊤) : x + (x - x) = x := by
  induction x using EReal.rec with
  | bot => exact EReal.bot_add _
  | top => exact absurd rfl h
  | coe x => rw [← EReal.coe_sub, sub_self, EReal.coe_zero, add_zero]

/-- The product with a matrix of ones and zeros, in two parts, is the sum over the ones. -/
theorem scan_two {n : ℕ} (x : Fin n → EReal) (hx : ∀ j, x j ≠ ⊤) (p : Fin n → Prop) [DecidablePred p] :
    (∑ j, x j * (if p j then 1 else 0)) + (∑ j, (x j - x j) * (if p j then 1 else 0)) = ∑ j, if p j then x j else 0 := by
  rw [← Finset.sum_add_distrib]
  refine Finset.sum_congr rfl fun j _ => ?_
  by_cases h : p j
  · rw [if_pos h, if_pos h, mul_one, mul_one, add_sub_same (hx j)]
  · rw [if_neg h, if_neg h, mul_zero, mul_zero, add_zero]

/-- The logarithm of what key `s` leaves of the stick, for the row at `q`. -/
def ln (z : ℕ → EReal) (q s : ℕ) : EReal := if s < q then -sp (z s) else 0

theorem ln_ne_top (z : ℕ → EReal) (q s : ℕ) : ln z q s ≠ ⊤ := by
  unfold ln
  split
  · exact neg_sp_ne_top _
  · exact EReal.zero_ne_top

/-- The weight of key `s` in the row at `q`, the keys from `B` on not counted. -/
def wt (z : ℕ → EReal) (q B s : ℕ) : EReal :=
  if s < q then Ideal.exp ((z s + -sp (z s)) + ∑ j ∈ Finset.Ico (s + 1) B, ln z q j) else 0

theorem sum_tile (f : ℕ → EReal) (b n : ℕ) : ∑ j : Fin n, f (b + j.val) = ∑ s ∈ Finset.Ico b (b + n), f s := by
  rw [Finset.sum_Ico_eq_sum_range, Nat.add_sub_cancel_left, Finset.sum_range]

theorem sum_tile_after (f : ℕ → EReal) (b n : ℕ) (j : Fin n) :
    (∑ i : Fin n, if j < i then f (b + i.val) else 0) = ∑ s ∈ Finset.Ico (b + j.val + 1) (b + n), f s := by
  have h : (∑ i : Fin n, if j < i then f (b + i.val) else 0)
      = ∑ i ∈ Finset.range n, if j.val < i then f (b + i) else 0 :=
    (Finset.sum_range (fun i => if j.val < i then f (b + i) else 0)).symm
  rw [h, ← Finset.sum_filter, show (Finset.range n).filter (fun i => j.val < i) = Finset.Ico (j.val + 1) n from by
    ext i; simp only [Finset.mem_filter, Finset.mem_range, Finset.mem_Ico]; omega,
    Finset.sum_Ico_add f (j.val + 1) n b]
  rw [show b + j.val + 1 = j.val + 1 + b from by omega, show b + n = n + b from Nat.add_comm _ _]

/-- The running sum, a tile further down. -/
theorem run_step (f : ℕ → EReal) (b n B : ℕ) (h : b + n ≤ B) :
    (∑ s ∈ Finset.Ico (b + n) B, f s) + (∑ j : Fin n, f (b + j.val)) = ∑ s ∈ Finset.Ico b B, f s := by
  rw [sum_tile, add_comm, Finset.sum_Ico_consecutive f (Nat.le_add_right b n) h]

/-- A weight of the tile at `b`: the sum inside the tile and the running one. -/
theorem wt_tile (z : ℕ → EReal) (q b n B : ℕ) (h : b + n ≤ B) (j : Fin n) :
    (if b + j.val < q then Ideal.exp (((z (b + j.val) + -sp (z (b + j.val)))
        + (∑ i : Fin n, if j < i then ln z q (b + i.val) else 0)) + ∑ s ∈ Finset.Ico (b + n) B, ln z q s) else 0)
      = wt z q B (b + j.val) := by
  unfold wt
  rw [sum_tile_after (ln z q) b n j, add_assoc,
    Finset.sum_Ico_consecutive (ln z q) (by have := j.isLt; omega) h]

/-- A key from `B` on, with `q ≤ B`, has no weight and leaves the whole stick: the sum over all keys is
    the one up to `B`. -/
theorem ln_beyond (z : ℕ → EReal) {q s : ℕ} (h : q ≤ s) : ln z q s = 0 := if_neg (Nat.not_lt.mpr h)

theorem wt_beyond (z : ℕ → EReal) {q s : ℕ} (B : ℕ) (h : q ≤ s) : wt z q B s = 0 := if_neg (Nat.not_lt.mpr h)

theorem sum_ln_beyond (z : ℕ → EReal) {q B T : ℕ} (b : ℕ) (h : q ≤ B) (hT : B ≤ T) :
    ∑ j ∈ Finset.Ico b T, ln z q j = ∑ j ∈ Finset.Ico b B, ln z q j := by
  symm
  refine Finset.sum_subset (Finset.Ico_subset_Ico le_rfl hT) fun j hj hn => ln_beyond z ?_
  rw [Finset.mem_Ico] at hj hn
  omega

/-- The reference's weight over all `T` keys is the kernel's over the first `B`. -/
theorem wt_ref (z : ℕ → EReal) (q B T s : ℕ) (h : q ≤ B) (hT : B ≤ T) (hs : s < T) :
    (if s < q then Ideal.exp (-sp (-(z s)) + ((∑ j ∈ Finset.Ico s T, ln z q j) - ln z q s)) else 0) = wt z q B s := by
  unfold wt
  by_cases hq : s < q
  · rw [if_pos hq, if_pos hq, Finset.sum_eq_sum_Ico_succ_bot hs, show ln z q s = -sp (z s) from if_pos hq,
      weight_eq, sum_ln_beyond z (s + 1) h hT]
  · rw [if_neg hq, if_neg hq]

/-- The mixture over all keys is the one over the first `B`. -/
theorem mix_ref (z v : ℕ → EReal) (q B T : ℕ) (h : q ≤ B) (hT : B ≤ T) :
    ∑ s ∈ Finset.Ico 0 T, wt z q B s * v s = ∑ s ∈ Finset.Ico 0 B, wt z q B s * v s := by
  symm
  refine Finset.sum_subset (Finset.Ico_subset_Ico le_rfl hT) fun j hj hn => ?_
  rw [Finset.mem_Ico] at hj hn
  rw [wt_beyond z B (by omega), zero_mul]

end Cert.Stick
end
-- ==== Proof.StickTile.lean ====
/-
  One tile of the stick-breaking walk, over the extended reals: how the running sums of a block of
  1024 queries change when 256 more keys are taken in, on the diagonal and below it.
-/
module

public import proofs.«01_k».proof.Proof.StickMath
public import proofs.«01_k».proof.Proof.Gen.StickHeadsIdeal.Skeleton
public import Idealize.ShloMosaic.Lib.WordCmp
public import Idealize.ShloMosaic.Lib.IdealHost
public import Idealize.ShloMosaic.Lib.ValueLayoutCasts

@[expose] public section

set_option maxRecDepth 16384

noncomputable section

open Idealize.ShloMosaic Idealize.ShloMosaic.TcCoe Idealize.SL.Sem Idealize.ShloMosaic.ValueIdx
open Cert.Common Cert.Stick
open Idealize.ShloMosaic.WordCmp

namespace Cert.StickHeadsIdeal.Tile

open Cert.StickHeadsIdeal Cert.StickHeadsIdeal.Gen

/-- The factor of the logits. -/
abbrev κ : EReal := Ideal.ofBits .f32 0x3DB504F3#32

theorem one_f32 : Ideal.ofBits .f32 0x3F800000#32 = (1 : EReal) := Ideal.ofBits_one_f32

theorem pay3_apply (x : Vec Ideal S1024x128 .bf16) (y : Vec Ideal S256x128 .bf16) (r : Fin 1024) (j : Fin 256) :
    k0_pay3 (F := Ideal) x y (ix2 r j) = (∑ d : Fin 128, x (ix2 r d) * y (ix2 j d)) * κ := by
  unfold k0_pay3
  refine congrArg (· * κ) ?_
  refine (Ideal.matmul_transposedRhs_apply none x y _ r j).trans ?_
  rw [show (constant (F := Ideal) S1024x256 .f32 0x00000000#32 (ix2 r j) : EReal) = 0 from zero_f32, zero_add]

theorem pay4_apply (x : Vec Ideal S1024x128 .bf16) (y : Vec Ideal S256x128 .bf16) (r : Fin 1024) (j : Fin 256) :
    k0_pay4 (F := Ideal) x y (ix2 r j) = -sp (k0_pay3 (F := Ideal) x y (ix2 r j)) := by
  unfold k0_pay4
  generalize k0_pay3 (F := Ideal) x y = z
  show Ideal.ofBits .f32 0x00000000#32 - (max (z (ix2 r j)) (Ideal.ofBits .f32 0x00000000#32)
    + Ideal.log (Ideal.ofBits .f32 0x3F800000#32 + Ideal.exp (Ideal.ofBits .f32 0x00000000#32 - max (z (ix2 r j)) (-(z (ix2 r j)))))) = _
  rw [zero_f32, one_f32, zero_sub, zero_sub]
  rfl

/-- The triangle: one where the row is past the column. -/
theorem pay1_apply (j s : Fin 256) : k0_pay1 (F := Ideal) (ix2 j s) = if s < j then 1 else 0 := by
  unfold k0_pay1
  show Scalar.select (IntOp.cmpi .sgt (iota .tc S256x256 32 [0] iota_S256x256_d0_w32 (ix2 j s)) (iota .tc S256x256 32 [1] iota_S256x256_d1_w32 (ix2 j s)))
    (Ideal.ofBits .f32 0x3F800000#32) (Ideal.ofBits .f32 0x00000000#32) = _
  rw [zero_f32, one_f32, iota_at, iota_at]
  show Scalar.select (IntOp.cmpi .sgt (BitVec.ofNat 32 (0 * 256 + j.val)) (BitVec.ofNat 32 (0 * 256 + s.val))) 1 0 = _
  rw [cmpi_sgt_ofNat (by have := j.isLt; omega) (by have := s.isLt; omega), select_ofBool]
  simp only [Nat.zero_mul, Nat.zero_add, decide_eq_true_eq, Fin.lt_def]

/-- The row sum of a tile. -/
theorem rowSum_apply (v : FVec Ideal ⟨2, ![1024, 256]⟩ .f32) (acc : BitVec 32) (h : Shape.Reduces ⟨2, ![1024, 256]⟩ [1] ⟨1, ![1024]⟩)
    (hφ : FKind.Formats .f32) (hacc : acc = FKind.add.neutral .f32 hφ) (r : Fin 1024) :
    multiReduction .add [1] ⟨1, ![1024]⟩ v acc h hφ hacc (ix1 r) = ∑ k : Fin 256, v (ix2 r k) := by
  refine (Ideal.multiReduction_add_single v acc h hφ hacc (ix1 r)).trans ?_
  refine Finset.sum_congr rfl fun k _ => congrArg v (funext fun a => Fin.ext ?_)
  match a with
  | ⟨0, _⟩ => rfl
  | ⟨1, _⟩ => rfl

theorem spread_apply {α : Type} {n : Nat} (v : (⟨2, ![1024, 1]⟩ : Shape).Idx → α) (h : Shape.Broadcasts ⟨2, ![1024, 1]⟩ ⟨2, ![1024, n]⟩) (r : Fin 1024) (j : Fin n) :
    broadcastTo ⟨2, ![1024, n]⟩ v h (ix2 r j) = v (ix2 r 0) :=
  broadcastTo_apply v h (ix2 r j) (ix2 r 0) fun a => match a with
    | ⟨0, _⟩ => by simp
    | ⟨1, _⟩ => by simp

theorem pay21_apply (run : FVec Ideal S1024x1 .f32) (l : FVec Ideal S1024x256 .f32) (r : Fin 1024) :
    k0_pay21 (F := Ideal) run l (ix2 r 0) = run (ix2 r 0) + ∑ j : Fin 256, l (ix2 r j) := by
  unfold k0_pay21
  refine congrArg (run (ix2 r 0) + ·) ?_
  refine (shapeCast_a_a1_apply _ shapeCasts_S1024_S1024x1 r 0).trans ?_
  exact rowSum_apply l _ reduces_S1024x256_S1024 _ _ r

theorem scan_apply (l : FVec Ideal S1024x256 .bf16) (r : Fin 1024) (s : Fin 256) :
    matmul dot_S1024x256_S256x256_S1024x256_1_0_0_1_n_n none l (k0_pay1 (F := Ideal)) (constant (F := Ideal) S1024x256 .f32 0x00000000#32) (ix2 r s)
      = ∑ j : Fin 256, l (ix2 r j) * (if s < j then 1 else 0) := by
  refine (Ideal.matmul_plain_apply none l (k0_pay1 (F := Ideal)) _ r s).trans ?_
  rw [show (constant (F := Ideal) S1024x256 .f32 0x00000000#32 (ix2 r s) : EReal) = 0 from zero_f32, zero_add]
  exact Finset.sum_congr rfl fun j _ => congrArg (l (ix2 r j) * ·) (pay1_apply j s)

theorem mix_apply (a : FVec Ideal S1024x256 .bf16) (v : FVec Ideal S256x128 .bf16) (r : Fin 1024) (d : Fin 128) :
    matmul dot_S1024x256_S256x128_S1024x128_1_0_0_1_n_n none a v (constant (F := Ideal) S1024x128 .f32 0x00000000#32) (ix2 r d)
      = ∑ j : Fin 256, a (ix2 r j) * v (ix2 j d) := by
  refine (Ideal.matmul_plain_apply none a v _ r d).trans ?_
  rw [show (constant (F := Ideal) S1024x128 .f32 0x00000000#32 (ix2 r d) : EReal) = 0 from zero_f32, zero_add]

/-- The sum inside the tile after key `s`, taken in two parts. -/
theorem scans_apply (l : FVec Ideal S1024x256 .f32) (hl : ∀ r j, l (ix2 r j) ≠ (⊤ : EReal)) (r : Fin 1024) (s : Fin 256) :
    (matmul dot_S1024x256_S256x256_S1024x256_1_0_0_1_n_n none (truncf .bf16 l bitsLt_bf16_f32) (k0_pay1 (F := Ideal)) (constant (F := Ideal) S1024x256 .f32 0x00000000#32) (ix2 r s)
      + matmul dot_S1024x256_S256x256_S1024x256_1_0_0_1_n_n none (truncf .bf16 (subf l (extf .f32 (truncf .bf16 l bitsLt_bf16_f32) bitsLt_bf16_f32)) bitsLt_bf16_f32)
          (k0_pay1 (F := Ideal)) (constant (F := Ideal) S1024x256 .f32 0x00000000#32) (ix2 r s) : EReal)
      = ∑ j : Fin 256, if s < j then l (ix2 r j) else 0 := by
  rw [scan_apply, scan_apply]
  exact scan_two (fun j => l (ix2 r j)) (hl r) (fun j => s < j)

theorem pay29_apply (run : FVec Ideal S1024x1 .f32) (acc : FVec Ideal S1024x128 .f32) (lb : FVec Ideal S1024x256 .f32) (mask : IVec S1024x256 1)
    (l : FVec Ideal S1024x256 .f32) (hl : ∀ r j, l (ix2 r j) ≠ (⊤ : EReal)) (v : Vec Ideal S256x128 .bf16) (r : Fin 1024) (d : Fin 128) :
    k0_pay29 (F := Ideal) (k0_pay1 (F := Ideal)) run acc lb mask l v (ix2 r d)
      = acc (ix2 r d) + ∑ j : Fin 256, Scalar.select (mask (ix2 r j))
          (Ideal.exp ((lb (ix2 r j) + ∑ i : Fin 256, if j < i then l (ix2 r i) else 0) + run (ix2 r 0))) 0 * v (ix2 j d) := by
  unfold k0_pay29
  refine congrArg (acc (ix2 r d) + ·) ?_
  refine (mix_apply _ v r d).trans ?_
  refine Finset.sum_congr rfl fun j _ => congrArg (· * v (ix2 j d)) ?_
  refine congrArg₂ (Scalar.select (mask (ix2 r j))) (congrArg Ideal.exp ?_) zero_f32
  refine congrArg₂ (· + ·) (congrArg (lb (ix2 r j) + ·) (scans_apply l hl r j)) (spread_apply run broadcasts_S1024x1_S1024x256 r j)

theorem pay6_apply (x : Vec Ideal S1024x128 .bf16) (run : FVec Ideal S1024x1 .f32) (y v : Vec Ideal S256x128 .bf16) (r : Fin 1024) (d : Fin 128) :
    k0_pay6 (F := Ideal) (k0_pay1 (F := Ideal)) x run y v (ix2 r d)
      = ∑ j : Fin 256, Ideal.exp (((k0_pay3 (F := Ideal) x y (ix2 r j) + k0_pay4 (F := Ideal) x y (ix2 r j))
          + ∑ i : Fin 256, if j < i then k0_pay4 (F := Ideal) x y (ix2 r i) else 0) + run (ix2 r 0)) * v (ix2 j d) := by
  unfold k0_pay6
  refine (mix_apply _ v r d).trans ?_
  refine Finset.sum_congr rfl fun j _ => congrArg (· * v (ix2 j d)) ?_
  refine congrArg Ideal.exp ?_
  refine congrArg₂ (· + ·) (congrArg (_ + ·) (scans_apply (k0_pay4 (F := Ideal) x y) (fun r j => ?_) r j)) (spread_apply run broadcasts_S1024x1_S1024x256 r j)
  rw [pay4_apply]
  exact neg_sp_ne_top _

/-! ## The state of a block of queries -/

/-- The logits of query `r` of the block. -/
def zr (x : Vec Ideal S1024x128 .bf16) (K : ℕ → Fin 128 → EReal) (r : Fin 1024) (s : ℕ) : EReal := (∑ d : Fin 128, x (ix2 r d) * K s d) * κ

/-- The block of queries from `q0` on has taken in the keys from `b` to `B`. -/
def Inv (x : Vec Ideal S1024x128 .bf16) (K V : ℕ → Fin 128 → EReal) (q0 B b : ℕ) (run : FVec Ideal S1024x1 .f32) (acc : FVec Ideal S1024x128 .f32) : Prop :=
  ∀ r : Fin 1024, run (ix2 r 0) = ∑ s ∈ Finset.Ico b B, ln (zr x K r) (q0 + r.val) s
    ∧ ∀ d : Fin 128, acc (ix2 r d) = ∑ s ∈ Finset.Ico b B, wt (zr x K r) (q0 + r.val) B s * V s d

theorem inv_zero (x : Vec Ideal S1024x128 .bf16) (K V : ℕ → Fin 128 → EReal) (q0 B : ℕ) : Inv x K V q0 B B (k0_pay11 (F := Ideal)) (k0_pay12 (F := Ideal)) := fun r => by
  refine ⟨?_, fun d => ?_⟩
  · rw [Finset.Ico_self, Finset.sum_empty]; exact zero_f32
  · rw [Finset.Ico_self, Finset.sum_empty]; exact zero_f32

theorem pay3_row (x : Vec Ideal S1024x128 .bf16) (K : ℕ → Fin 128 → EReal) (y : Vec Ideal S256x128 .bf16) (b : ℕ)
    (hy : ∀ (j : Fin 256) (d : Fin 128), y (ix2 j d) = K (b + j.val) d) (r : Fin 1024) (j : Fin 256) :
    k0_pay3 (F := Ideal) x y (ix2 r j) = zr x K r (b + j.val) := by
  rw [pay3_apply]
  exact congrArg (· * κ) (Finset.sum_congr rfl fun d _ => congrArg (x (ix2 r d) * ·) (hy j d))

/-- The masked logarithms of a tile on the diagonal. -/
abbrev masked (mask : IVec S1024x256 1) (l : FVec Ideal S1024x256 .f32) : FVec Ideal S1024x256 .f32 :=
  select mask l (broadcast S1024x256 (Scalar.ofBits (F := Ideal) .f32 0x00000000#32))

theorem masked_row (x : Vec Ideal S1024x128 .bf16) (K : ℕ → Fin 128 → EReal) (y : Vec Ideal S256x128 .bf16) (q0 sh : ℕ)
    (hy : ∀ (j : Fin 256) (d : Fin 128), y (ix2 j d) = K (q0 + sh + j.val) d) (mask : IVec S1024x256 1)
    (hm : ∀ (r : Fin 1024) (j : Fin 256), mask (ix2 r j) = BitVec.ofBool (decide (j.val + sh < r.val))) (r : Fin 1024) (j : Fin 256) :
    masked mask (k0_pay4 (F := Ideal) x y) (ix2 r j) = ln (zr x K r) (q0 + r.val) (q0 + sh + j.val) := by
  refine (show _ = Scalar.select (mask (ix2 r j)) (k0_pay4 (F := Ideal) x y (ix2 r j)) (Ideal.ofBits .f32 0x00000000#32) from rfl).trans ?_
  rw [hm, select_ofBool, zero_f32, pay4_apply, pay3_row x K y (q0 + sh) hy]
  unfold ln
  refine if_congr ?_ rfl rfl
  rw [decide_eq_true_eq]
  omega

/-- A tile on the diagonal. -/
theorem inv_masked (x : Vec Ideal S1024x128 .bf16) (K V : ℕ → Fin 128 → EReal) (q0 sh B : ℕ) (hB : q0 + sh + 256 ≤ B)
    (run : FVec Ideal S1024x1 .f32) (acc : FVec Ideal S1024x128 .f32) (h : Inv x K V q0 B (q0 + sh + 256) run acc)
    (y v : Vec Ideal S256x128 .bf16) (hy : ∀ (j : Fin 256) (d : Fin 128), y (ix2 j d) = K (q0 + sh + j.val) d)
    (hv : ∀ (j : Fin 256) (d : Fin 128), v (ix2 j d) = V (q0 + sh + j.val) d) (mask : IVec S1024x256 1)
    (hm : ∀ (r : Fin 1024) (j : Fin 256), mask (ix2 r j) = BitVec.ofBool (decide (j.val + sh < r.val))) :
    Inv x K V q0 B (q0 + sh) (k0_pay21 (F := Ideal) run (masked mask (k0_pay4 (F := Ideal) x y)))
      (k0_pay29 (F := Ideal) (k0_pay1 (F := Ideal)) run acc (addf (k0_pay3 (F := Ideal) x y) (k0_pay4 (F := Ideal) x y)) mask
        (masked mask (k0_pay4 (F := Ideal) x y)) v) := fun r => by
  have hl := masked_row x K y q0 sh hy mask hm
  refine ⟨?_, fun d => ?_⟩
  · rw [pay21_apply, (h r).1, Finset.sum_congr rfl fun j _ => hl r j]
    exact run_step (ln (zr x K r) (q0 + r.val)) (q0 + sh) 256 B hB
  · rw [pay29_apply _ _ _ _ _ (fun r j => by rw [hl]; exact ln_ne_top _ _ _), (h r).2 d,
      ← run_step (fun s => wt (zr x K r) (q0 + r.val) B s * V s d) (q0 + sh) 256 B hB]
    refine congrArg (_ + ·) (Finset.sum_congr rfl fun j _ => ?_)
    rw [hv]
    refine congrArg (· * V (q0 + sh + j.val) d) ?_
    rw [← wt_tile (zr x K r) (q0 + r.val) (q0 + sh) 256 B hB j, hm, select_ofBool, (h r).1]
    refine if_congr (by rw [decide_eq_true_eq]; omega) (congrArg Ideal.exp (congrArg (· + _) ?_)) rfl
    refine congrArg₂ (· + ·) ?_ (Finset.sum_congr rfl fun i _ => if_congr Iff.rfl (hl r i) rfl)
    refine (show _ = k0_pay3 (F := Ideal) x y (ix2 r j) + k0_pay4 (F := Ideal) x y (ix2 r j) from rfl).trans ?_
    rw [pay4_apply, pay3_row x K y (q0 + sh) hy]

/-- A tile below the diagonal. -/
theorem inv_full (x : Vec Ideal S1024x128 .bf16) (K V : ℕ → Fin 128 → EReal) (q0 b B : ℕ) (hb : b + 256 ≤ q0) (hB : b + 256 ≤ B)
    (run : FVec Ideal S1024x1 .f32) (acc : FVec Ideal S1024x128 .f32) (h : Inv x K V q0 B (b + 256) run acc)
    (y v : Vec Ideal S256x128 .bf16) (hy : ∀ (j : Fin 256) (d : Fin 128), y (ix2 j d) = K (b + j.val) d)
    (hv : ∀ (j : Fin 256) (d : Fin 128), v (ix2 j d) = V (b + j.val) d) :
    Inv x K V q0 B b (k0_pay5 (F := Ideal) x run y) (k0_pay44 (F := Ideal) acc (k0_pay6 (F := Ideal) (k0_pay1 (F := Ideal)) x run y v)) := fun r => by
  have hl : ∀ j : Fin 256, k0_pay4 (F := Ideal) x y (ix2 r j) = ln (zr x K r) (q0 + r.val) (b + j.val) := fun j => by
    rw [pay4_apply, pay3_row x K y b hy]
    exact (if_pos (by have := j.isLt; omega)).symm
  refine ⟨?_, fun d => ?_⟩
  · refine (show _ = k0_pay21 (F := Ideal) run (k0_pay4 (F := Ideal) x y) (ix2 r 0) from rfl).trans ?_
    rw [pay21_apply, (h r).1, Finset.sum_congr rfl fun j _ => hl j]
    exact run_step (ln (zr x K r) (q0 + r.val)) b 256 B hB
  · refine (show _ = acc (ix2 r d) + k0_pay6 (F := Ideal) (k0_pay1 (F := Ideal)) x run y v (ix2 r d) from rfl).trans ?_
    rw [pay6_apply, (h r).2 d, ← run_step (fun s => wt (zr x K r) (q0 + r.val) B s * V s d) b 256 B hB]
    refine congrArg (_ + ·) (Finset.sum_congr rfl fun j _ => ?_)
    rw [hv]
    refine congrArg (· * V (b + j.val) d) ?_
    rw [← wt_tile (zr x K r) (q0 + r.val) b 256 B hB j, if_pos (by have := j.isLt; omega), (h r).1]
    refine congrArg Ideal.exp (congrArg (· + _) ?_)
    refine congrArg₂ (· + ·) ?_ (Finset.sum_congr rfl fun i _ => if_congr Iff.rfl (hl i) rfl)
    rw [pay4_apply, pay3_row x K y b hy]

/-! ## The masks of the diagonal -/

theorem mask_apply (sh : ℕ) (hsh : sh < 1024) (r : Fin 1024) (j : Fin 256) :
    cmpi .slt (addi (iota .tc S1024x256 32 [1] iota_S1024x256_d1_w32) (broadcast S1024x256 (BitVec.ofNat 32 sh))) (iota .tc S1024x256 32 [0] iota_S1024x256_d0_w32) (ix2 r j)
      = BitVec.ofBool (decide (j.val + sh < r.val)) := by
  show IntOp.cmpi .slt (BitVec.ofNat 32 (0 * 256 + j.val) + BitVec.ofNat 32 sh) (BitVec.ofNat 32 (0 * 1024 + r.val)) = _
  rw [← BitVec.ofNat_add, cmpi_slt_ofNat (by have := j.isLt; omega) (by have := r.isLt; omega)]
  simp only [Nat.zero_mul, Nat.zero_add]

end Cert.StickHeadsIdeal.Tile

end
-- ==== Proof.StickWalk.lean ====
/-
  The stick-breaking walk over the keys, over the extended reals: what one half of the queries ends with.
-/
module

public import proofs.«01_k».proof.Proof.StickTile
public import proofs.«01_k».proof.Proof.StickRunIdeal
public import Idealize.ShloMosaic.Lib.WholeRead

@[expose] public section

set_option maxRecDepth 16384

noncomputable section

open Idealize.ShloMosaic Idealize.ShloMosaic.TcCoe Idealize.SL.Sem Idealize.ShloMosaic.ValueIdx
open Cert.Common Cert.Stick

namespace Cert.StickHeadsIdeal.Hand

open Cert.StickHeadsIdeal Cert.StickHeadsIdeal.Gen Cert.StickHeadsIdeal.Tile

/-! ## Where the blocks lie -/

theorem off1_eq : ∀ k : Fin k0_t1_loop.trips, k0_off1 k = ![1024 * k.val, 0] := by decide +kernel
theorem off2_3 : ∀ k : Fin k0_t1_loop.trips, k0_off2 k 3#32 = ![1024 * k.val + 768, 0] := by decide +kernel
theorem off2_2 : ∀ k : Fin k0_t1_loop.trips, k0_off2 k 2#32 = ![1024 * k.val + 512, 0] := by decide +kernel
theorem off2_1 : ∀ k : Fin k0_t1_loop.trips, k0_off2 k 1#32 = ![1024 * k.val + 256, 0] := by decide +kernel
theorem off2_0 : ∀ k : Fin k0_t1_loop.trips, k0_off2 k 0#32 = ![1024 * k.val, 0] := by decide +kernel
theorem trips2 : ∀ k : Fin k0_t1_loop.trips, (k0_t2_loop k).trips = 4 * k.val := by decide +kernel
theorem trips3 : ∀ k : Fin k0_t1_loop.trips, (k0_t3_loop k).trips = 0 := by decide +kernel
theorem off3_eq : ∀ (k : Fin k0_t1_loop.trips) (t : Fin (k0_t2_loop k).trips), k0_off3 k t 0 + 256 * (t.val + 1) = 1024 * k.val ∧ k0_off3 k t 1 = 0 := by decide +kernel
theorem off3_inb : ∀ (k : Fin k0_t1_loop.trips) (t : Fin (k0_t2_loop k).trips) (a : Fin 2), k0_off3 k t a + S256x128.size a ≤ S2048x128.size a := by decide +kernel
theorem half_lt : ∀ k : Fin k0_t1_loop.trips, k.val < 2 := by decide +kernel

/-- The rows of a projection, past its end nothing. -/
def rows (x : Vec Ideal S2048x128 .bf16) (s : ℕ) (d : Fin 128) : EReal := if h : s < 2048 then x (ix2 ⟨s, h⟩ d) else 0

theorem tile_read (arg : Memref sig .tc .vmem S2048x128 .bf16) (harg : arg.IsWhole) (x : Vec Ideal S2048x128 .bf16) (off : Fin 2 → Nat)
    (inb : ∀ a, off a + S256x128.size a ≤ S2048x128.size a) (b : ℕ) (h0 : off 0 = b) (h1 : off 1 = 0) (j : Fin 256) (d : Fin 128) :
    View.readAt (Elt Ideal) arg.view (Rect.unit off S256x128.size inb : Rect S2048x128).toLoadRect (harg.unread x) (ix2 j d) = rows x (b + j.val) d := by
  have hin : b + 256 ≤ 2048 := by have h := inb 0; rw [h0] at h; exact h
  refine (harg.readAt_unread x (Rect.unit off S256x128.size inb : Rect S2048x128).toLoadRect (ix2 j d)).trans ?_
  unfold rows
  rw [dif_pos (by have := j.isLt; omega)]
  refine congrArg x (funext fun a => Fin.ext ?_)
  match a with
  | ⟨0, _⟩ => show off 0 + 1 * j.val = b + j.val; rw [h0]; omega
  | ⟨1, _⟩ => show off 1 + 1 * d.val = d.val; rw [h1]; omega

theorem query_read (arg : Memref sig .tc .vmem S2048x128 .bf16) (harg : arg.IsWhole) (x : Vec Ideal S2048x128 .bf16) (k : Fin k0_t1_loop.trips) (r : Fin 1024) (d : Fin 128) :
    trip.sl.r (F := Ideal) arg (harg.unread x) k (ix2 r d) = rows x (1024 * k.val + r.val) d := by
  have hk := half_lt k
  unfold trip.sl.r
  refine (harg.readAt_unread x (Rect.unit (k0_off1 k) S1024x128.size _ : Rect S2048x128).toLoadRect (ix2 r d)).trans ?_
  unfold rows
  rw [dif_pos (by have := r.isLt; omega)]
  refine congrArg x (funext fun a => Fin.ext ?_)
  match a with
  | ⟨0, _⟩ => show k0_off1 k 0 + 1 * r.val = 1024 * k.val + r.val; rw [off1_eq]; show 1024 * k.val + 1 * r.val = _; omega
  | ⟨1, _⟩ => show k0_off1 k 1 + 1 * d.val = d.val; rw [off1_eq]; show 0 + 1 * d.val = _; omega

/-! ## The tiles on the diagonal -/

theorem Inv_at {x : Vec Ideal S1024x128 .bf16} {K V : ℕ → Fin 128 → EReal} {q0 B b b' : ℕ} {run : FVec Ideal S1024x1 .f32} {acc : FVec Ideal S1024x128 .f32}
    (h : Inv x K V q0 B b run acc) (e : b = b') : Inv x K V q0 B b' run acc := e ▸ h

section
variable (arg2 : Memref sig .tc .vmem S2048x128 .bf16) (harg2 : arg2.IsWhole) (arg3 : Memref sig .tc .vmem S2048x128 .bf16) (harg3 : arg3.IsWhole)
  (arg4 : Memref sig .tc .vmem S2048x128 .bf16) (harg4 : arg4.IsWhole) (x0 x1 x2 : Vec Ideal S2048x128 .bf16) (k : Fin k0_t1_loop.trips)

theorem diag3 : Inv (trip.sl.r (F := Ideal) arg2 (harg2.unread x0) k) (rows x1) (rows x2) (1024 * k.val) (1024 * (k.val + 1)) (1024 * k.val + 768)
    (trip.sl.r_5 (F := Ideal) arg2 arg3 (harg2.unread x0) (harg3.unread x1) k)
    (trip.sl.r_6 (F := Ideal) arg2 arg3 arg4 (harg2.unread x0) (harg3.unread x1) (harg4.unread x2) k) :=
  inv_masked (trip.sl.r (F := Ideal) arg2 (harg2.unread x0) k) (rows x1) (rows x2) (1024 * k.val) 768 (1024 * (k.val + 1)) (by omega) _ _
    (Inv_at (inv_zero _ _ _ (1024 * k.val) (1024 * (k.val + 1))) (by omega)) _ _
    (tile_read arg3 harg3 x1 _ _ _ (congrFun (off2_3 k) 0) (congrFun (off2_3 k) 1)) (tile_read arg4 harg4 x2 _ _ _ (congrFun (off2_3 k) 0) (congrFun (off2_3 k) 1))
    (k0_pay16) (mask_apply 768 (by omega))

theorem diag2 : Inv (trip.sl.r (F := Ideal) arg2 (harg2.unread x0) k) (rows x1) (rows x2) (1024 * k.val) (1024 * (k.val + 1)) (1024 * k.val + 512)
    (trip.sl.r_9 (F := Ideal) arg2 arg3 (harg2.unread x0) (harg3.unread x1) k)
    (trip.sl.r_10 (F := Ideal) arg2 arg3 arg4 (harg2.unread x0) (harg3.unread x1) (harg4.unread x2) k) :=
  inv_masked (trip.sl.r (F := Ideal) arg2 (harg2.unread x0) k) (rows x1) (rows x2) (1024 * k.val) 512 (1024 * (k.val + 1)) (by omega) _ _
    (Inv_at (diag3 arg2 harg2 arg3 harg3 arg4 harg4 x0 x1 x2 k) (by omega)) _ _
    (tile_read arg3 harg3 x1 _ _ _ (congrFun (off2_2 k) 0) (congrFun (off2_2 k) 1)) (tile_read arg4 harg4 x2 _ _ _ (congrFun (off2_2 k) 0) (congrFun (off2_2 k) 1))
    (k0_pay26) (mask_apply 512 (by omega))

theorem diag1 : Inv (trip.sl.r (F := Ideal) arg2 (harg2.unread x0) k) (rows x1) (rows x2) (1024 * k.val) (1024 * (k.val + 1)) (1024 * k.val + 256)
    (trip.sl.r_13 (F := Ideal) arg2 arg3 (harg2.unread x0) (harg3.unread x1) k)
    (trip.sl.r_14 (F := Ideal) arg2 arg3 arg4 (harg2.unread x0) (harg3.unread x1) (harg4.unread x2) k) :=
  inv_masked (trip.sl.r (F := Ideal) arg2 (harg2.unread x0) k) (rows x1) (rows x2) (1024 * k.val) 256 (1024 * (k.val + 1)) (by omega) _ _
    (Inv_at (diag2 arg2 harg2 arg3 harg3 arg4 harg4 x0 x1 x2 k) (by omega)) _ _
    (tile_read arg3 harg3 x1 _ _ _ (congrFun (off2_1 k) 0) (congrFun (off2_1 k) 1)) (tile_read arg4 harg4 x2 _ _ _ (congrFun (off2_1 k) 0) (congrFun (off2_1 k) 1))
    (k0_pay33 trip.sl.v136) (mask_apply 256 (by omega))

theorem diag0 (inb : ∀ a, k0_off2 k 0#32 a + S256x128.size a ≤ S2048x128.size a) :
    Inv (trip.sl.r (F := Ideal) arg2 (harg2.unread x0) k) (rows x1) (rows x2) (1024 * k.val) (1024 * (k.val + 1)) (1024 * k.val)
    (k0_pay42 (F := Ideal) (trip.sl.r_13 (F := Ideal) arg2 arg3 (harg2.unread x0) (harg3.unread x1) k) (trip.sl.r_15 (F := Ideal) arg2 arg3 (harg2.unread x0) (harg3.unread x1) k)
      (trip.sl.r_16 (F := Ideal) arg2 arg3 (harg2.unread x0) (harg3.unread x1) k) (trip.sl.cst_61 (F := Ideal)))
    (k0_pay43 (F := Ideal) (k0_pay1 (F := Ideal)) (trip.sl.r_13 (F := Ideal) arg2 arg3 (harg2.unread x0) (harg3.unread x1) k)
      (trip.sl.r_14 (F := Ideal) arg2 arg3 arg4 (harg2.unread x0) (harg3.unread x1) (harg4.unread x2) k)
      (trip.sl.r_15 (F := Ideal) arg2 arg3 (harg2.unread x0) (harg3.unread x1) k) (trip.sl.r_16 (F := Ideal) arg2 arg3 (harg2.unread x0) (harg3.unread x1) k) (trip.sl.cst_61 (F := Ideal))
      (View.readAt (Elt Ideal) arg4.view (Rect.unit (k0_off2 k 0#32) S256x128.size inb : Rect S2048x128).toLoadRect (harg4.unread x2))) :=
  Inv_at (inv_masked (trip.sl.r (F := Ideal) arg2 (harg2.unread x0) k) (rows x1) (rows x2) (1024 * k.val) 0 (1024 * (k.val + 1)) (by omega) _ _
    (Inv_at (diag1 arg2 harg2 arg3 harg3 arg4 harg4 x0 x1 x2 k) (by omega)) _ _
    (tile_read arg3 harg3 x1 _ inb _ ((congrFun (off2_0 k) 0).trans (Nat.add_zero _).symm) (congrFun (off2_0 k) 1)) (tile_read arg4 harg4 x2 _ inb _ ((congrFun (off2_0 k) 0).trans (Nat.add_zero _).symm) (congrFun (off2_0 k) 1))
    (k0_pay40) (mask_apply 0 (by omega))) (Nat.add_zero _)
end

/-! ## The tiles below it -/

theorem off2_inb : ∀ k a, k0_off2 k 0#32 a + S256x128.size a ≤ S2048x128.size a := by decide +kernel

theorem trip2_eq (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .hbm S4096x4096 .bf16) (harg6 : arg6.IsWhole) (arg7 : Memref sig .tc .hbm S4096x4096 .f32) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (v6 : FVec Ideal S256x256 .bf16) (k : Fin k0_t1_loop.trips) (a11 v9 : BitVec 32) (v11 : Vec Ideal S1024x128 .bf16) (v158 : FVec Ideal S1024x1 .f32) (v163 : FVec Ideal S1024x128 .f32) (v167 : BitVec 32) (v172 v179 : FVec Ideal S1024x256 .f32) (cst : Ideal .f32) (X3 : BufTy.Contents (Elt Ideal) arg3.view.ty) (X4 : BufTy.Contents (Elt Ideal) arg4.view.ty) (t : Fin (k0_t2_loop k).trips) (acc : FVec Ideal S1024x1 .f32 × FVec Ideal S1024x128 .f32) :
    tripR_k0_t2 (F := Ideal) 𝒱 c bd i arg2 harg2 arg3 harg3 arg4 harg4 arg5 harg5 arg6 harg6 arg7 harg7 arg8 harg8 arg9 harg9 arg10 harg10 v6 k a11 v9 v11 v158 v163 v167 v172 v179 cst X3 X4 t acc
      = (k0_pay5 (F := Ideal) v11 acc.1 (View.readAt (Elt Ideal) arg3.view (Rect.unit (k0_off3 k t) S256x128.size (off3_inb k t) : Rect S2048x128).toLoadRect X3),
         k0_pay44 (F := Ideal) acc.2 (k0_pay6 (F := Ideal) v6 v11 acc.1 (View.readAt (Elt Ideal) arg3.view (Rect.unit (k0_off3 k t) S256x128.size (off3_inb k t) : Rect S2048x128).toLoadRect X3)
           (View.readAt (Elt Ideal) arg4.view (Rect.unit (k0_off3 k t) S256x128.size (off3_inb k t) : Rect S2048x128).toLoadRect X4))) := by
  unfold tripR_k0_t2 trip_k0_t2
  rfl

theorem walk2 (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .hbm S4096x4096 .bf16) (harg6 : arg6.IsWhole) (arg7 : Memref sig .tc .hbm S4096x4096 .f32) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (k : Fin k0_t1_loop.trips) (a11 v9 : BitVec 32) (v11 : Vec Ideal S1024x128 .bf16) (v158 : FVec Ideal S1024x1 .f32) (v163 : FVec Ideal S1024x128 .f32) (v167 : BitVec 32) (v172 v179 : FVec Ideal S1024x256 .f32) (cst : Ideal .f32) (x1 x2 : Vec Ideal S2048x128 .bf16)
    (init : FVec Ideal S1024x1 .f32 × FVec Ideal S1024x128 .f32)
    (h : Inv v11 (rows x1) (rows x2) (1024 * k.val) (1024 * (k.val + 1)) (1024 * k.val) init.1 init.2) : ∀ n : ℕ, n ≤ (k0_t2_loop k).trips →
    Inv v11 (rows x1) (rows x2) (1024 * k.val) (1024 * (k.val + 1)) (1024 * k.val - 256 * n)
      (st_k0_t2 (F := Ideal) 𝒱 c bd i arg2 harg2 arg3 harg3 arg4 harg4 arg5 harg5 arg6 harg6 arg7 harg7 arg8 harg8 arg9 harg9 arg10 harg10 (k0_pay1 (F := Ideal)) k a11 v9 v11 v158 v163 v167 v172 v179 cst (harg3.unread x1) (harg4.unread x2) init n).1
      (st_k0_t2 (F := Ideal) 𝒱 c bd i arg2 harg2 arg3 harg3 arg4 harg4 arg5 harg5 arg6 harg6 arg7 harg7 arg8 harg8 arg9 harg9 arg10 harg10 (k0_pay1 (F := Ideal)) k a11 v9 v11 v158 v163 v167 v172 v179 cst (harg3.unread x1) (harg4.unread x2) init n).2 := by
  intro n
  induction n with
  | zero => intro _; exact h
  | succ n ih =>
    intro hn
    have ht := trips2 k
    have hn' : n < (k0_t2_loop k).trips := hn
    obtain ⟨e0, e1⟩ := off3_eq k ⟨n, hn⟩
    have hb : k0_off3 k ⟨n, hn⟩ 0 = 1024 * k.val - 256 * (n + 1) := by
      have : k0_off3 k ⟨n, hn⟩ 0 + 256 * (n + 1) = 1024 * k.val := e0
      omega
    have hs := st_k0_t2_succ (F := Ideal) 𝒱 c bd i arg2 harg2 arg3 harg3 arg4 harg4 arg5 harg5 arg6 harg6 arg7 harg7 arg8 harg8 arg9 harg9 arg10 harg10 (k0_pay1 (F := Ideal)) k a11 v9 v11 v158 v163 v167 v172 v179 cst (harg3.unread x1) (harg4.unread x2) init ⟨n, hn⟩
    rw [trip2_eq] at hs
    rw [show st_k0_t2 (F := Ideal) 𝒱 c bd i arg2 harg2 arg3 harg3 arg4 harg4 arg5 harg5 arg6 harg6 arg7 harg7 arg8 harg8 arg9 harg9 arg10 harg10 (k0_pay1 (F := Ideal)) k a11 v9 v11 v158 v163 v167 v172 v179 cst (harg3.unread x1) (harg4.unread x2) init (n + 1) = _ from hs]
    exact inv_full v11 (rows x1) (rows x2) (1024 * k.val) (1024 * k.val - 256 * (n + 1)) (1024 * (k.val + 1)) (by omega) (by omega) _ _
      (Inv_at (ih (by omega)) (by omega)) _ _
      (tile_read arg3 harg3 x1 _ _ _ hb e1) (tile_read arg4 harg4 x2 _ _ _ hb e1)

/-- What a half of the queries ends with: the mixture of the values of the keys. -/
theorem mixture_apply (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .hbm S4096x4096 .bf16) (harg6 : arg6.IsWhole) (arg7 : Memref sig .tc .hbm S4096x4096 .f32) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (x0 x1 x2 : Vec Ideal S2048x128 .bf16) (k : Fin k0_t1_loop.trips) (r : Fin 1024) (d : Fin 128) :
    trip.sl.r_17 (F := Ideal) 𝒱 c bd i arg2 harg2 arg3 harg3 arg4 harg4 arg5 harg5 arg6 harg6 arg7 harg7 arg8 harg8 arg9 harg9 arg10 harg10 (harg2.unread x0) (harg3.unread x1) (harg4.unread x2) k (ix2 r d)
      = ∑ s ∈ Finset.Ico 0 (1024 * (k.val + 1)), wt (zr (trip.sl.r (F := Ideal) arg2 (harg2.unread x0) k) (rows x1) r) (1024 * k.val + r.val) (1024 * (k.val + 1)) s * rows x2 s d := by
  unfold trip.sl.r_17
  rw [show Scf.trips (k0_t3_loop k).lb (k0_t3_loop k).ub (k0_t3_loop k).st = 0 from trips3 k, st_k0_t3_zero]
  have hd := diag0 arg2 harg2 arg3 harg3 arg4 harg4 x0 x1 x2 k (off2_inb k)
  have h := walk2 𝒱 c bd i arg2 harg2 arg3 harg3 arg4 harg4 arg5 harg5 arg6 harg6 arg7 harg7 arg8 harg8 arg9 harg9 arg10 harg10 k (trip.sl.arg11 k) (trip.sl.v8 k) (trip.sl.r (F := Ideal) arg2 (harg2.unread x0) k) (trip.sl.r_13 (F := Ideal) arg2 arg3 (harg2.unread x0) (harg3.unread x1) k)
    (trip.sl.r_14 (F := Ideal) arg2 arg3 arg4 (harg2.unread x0) (harg3.unread x1) (harg4.unread x2) k) (trip.sl.v166 k) (trip.sl.r_15 (F := Ideal) arg2 arg3 (harg2.unread x0) (harg3.unread x1) k)
    (trip.sl.r_16 (F := Ideal) arg2 arg3 (harg2.unread x0) (harg3.unread x1) k) (trip.sl.cst_61 (F := Ideal)) x1 x2 (_, _) hd _ le_rfl
  have h2 := (Inv_at h (by rw [trips2]; omega : _ = 0) r).2 d
  exact h2

end Cert.StickHeadsIdeal.Hand

end
-- ==== Proof.StickRef.lean ====
/-
  Stick-breaking attention of one device, written over the extended reals as plain functions of token
  and column numbers, and that the reference computes it.
-/
module

public import proofs.«01_k».proof.Proof.StickTile
public import proofs.«01_k».proof.Proof.Gen.StickHeadsRefIdeal.Read

@[expose] public section

set_option maxRecDepth 16384

noncomputable section

open Idealize.ShloMosaic Idealize.ShloMosaic.TcCoe Idealize.SL.Sem Idealize.ShloMosaic.ValueIdx
open Cert.Common
open Idealize.ShloMosaic.WordCmp

namespace Cert.Stick

/-! ## The attention -/

/-- An entry of the projections. -/
def entry (x : (⟨2, ![4096, 12288]⟩ : Shape).Idx → EReal) (r c : ℕ) : EReal := if h : r < 4096 ∧ c < 12288 then x (ix2 ⟨r, h.1⟩ ⟨c, h.2⟩) else 0

/-- The gain of a column. -/
def gain (g : (⟨2, ![1, 2048]⟩ : Shape).Idx → EReal) (c : ℕ) : EReal := if h : c < 2048 then g (ix2 0 ⟨c, h⟩) else 0

variable (X : ℕ → ℕ → EReal) (b h : ℕ)

/-- The query of a token. -/
def query (q : ℕ) (d : Fin 128) : EReal := X (2048 * b + q) (6144 + (128 * h + d.val))

/-- The key of a token of the sequence. -/
def key (s : ℕ) (d : Fin 128) : EReal := if s < 2048 then X (2048 * b + s) (8192 + (128 * h + d.val)) else 0

/-- The value of a token of the sequence. -/
def value (s : ℕ) (d : Fin 128) : EReal := if s < 2048 then X (2048 * b + s) (10240 + (128 * h + d.val)) else 0

/-- The logit of a query and a key. -/
def logit (q s : ℕ) : EReal := (∑ d : Fin 128, query X b h q d * key X b h s d) * Cert.StickHeadsIdeal.Tile.κ

/-- Where the half of the sequence ends that holds a token. -/
def half (q : ℕ) : ℕ := 1024 * (q / 1024 + 1)

/-- The mixture of the values for a query. -/
def mixture (q : ℕ) (d : Fin 128) : EReal :=
  ∑ s ∈ Finset.Ico 0 (half q), wt (logit X b h q) q (half q) s * value X b h s d

/-- The norm of a mixture. -/
def normed (w : Fin 128 → EReal) (d : Fin 128) : EReal :=
  w d * Ideal.rsqrt (Ideal.div (∑ e : Fin 128, w e * w e) (Ideal.ofBits .f32 0x43000000#32) + Ideal.ofBits .f32 0x3727C5AC#32)

/-- An entry of the result: the heads of the other attention as they came, then these. -/
def total (x : (⟨2, ![4096, 12288]⟩ : Shape).Idx → EReal) (g : (⟨2, ![1, 2048]⟩ : Shape).Idx → EReal)
    (o : (⟨2, ![4096, 4096]⟩ : Shape).Idx → EReal) (i : (⟨2, ![4096, 4096]⟩ : Shape).Idx) : EReal :=
  if (i 1).val < 2048 then o i
  else normed (mixture (entry x) ((i 0).val / 2048) (((i 1).val - 2048) / 128) ((i 0).val % 2048)) ⟨((i 1).val - 2048) % 128, Nat.mod_lt _ (by omega)⟩
    * gain g ((i 1).val - 2048)

theorem later_eq (x : ℕ → ℕ → EReal) (g : ℕ → EReal) (a u b h q : ℕ) (d : Fin 128) (hq : q < 2048) (e0 : a = 2048 * b + q) (e1 : u = 128 * h + d.val) (hu : u % 128 < 128) :
    normed (mixture x (a / 2048) (u / 128) (a % 2048)) ⟨u % 128, hu⟩ * g u = normed (mixture x b h q) d * g (128 * h + d.val) := by
  have hd := d.isLt
  have f0 : a / 2048 = b := by omega
  have f1 : a % 2048 = q := by omega
  have f3 : u / 128 = h := by omega
  have f4 : (⟨u % 128, hu⟩ : Fin 128) = d := Fin.ext (by show u % 128 = d.val; omega)
  rw [f0, f1, f3, f4, e1]

theorem total_apply (x : (⟨2, ![4096, 12288]⟩ : Shape).Idx → EReal) (g : (⟨2, ![1, 2048]⟩ : Shape).Idx → EReal)
    (o : (⟨2, ![4096, 4096]⟩ : Shape).Idx → EReal) (i : (⟨2, ![4096, 4096]⟩ : Shape).Idx) (b h q : ℕ) (d : Fin 128)
    (hq : q < 2048) (e0 : (i 0).val = 2048 * b + q) (e1 : (i 1).val = 2048 + (128 * h + d.val)) :
    total x g o i = normed (mixture (entry x) b h q) d * gain g (128 * h + d.val) := by
  have hn : ¬ (i 1).val < 2048 := by rw [e1]; exact Nat.not_lt.mpr (Nat.le_add_right _ _)
  have e2 : (i 1).val - 2048 = 128 * h + d.val := by rw [e1]; exact Nat.add_sub_cancel_left ..
  exact (if_neg hn).trans (later_eq (entry x) (gain g) (i 0).val ((i 1).val - 2048) b h q d hq e0 e2 _)

theorem half_le {q : ℕ} (h : q < 2048) : half q ≤ 2048 := by unfold half; omega

theorem le_half (q : ℕ) : q ≤ half q := by unfold half; omega

end Cert.Stick

namespace Cert.StickHeadsRefIdeal.Value

open Cert.StickHeadsRefIdeal Cert.StickHeadsRefIdeal.Read Cert.Stick

/-! ## The running sums from the right -/

theorem foldl_sum {n : ℕ} (f : Fin n → EReal) : ∀ (l : List (Fin n)) (a : EReal), l.foldl (fun r k => r + f k) a = a + (l.map f).sum
  | [], a => (add_zero a).symm
  | k :: l, a => by
    rw [List.foldl_cons, foldl_sum f l, List.map_cons, List.sum_cons, add_assoc]

theorem numel_window : (⟨4, ![1, 1, 1, 2048]⟩ : Shape).numel = 2048 := by
  simp [Shape.numel, Fin.prod_univ_succ]

theorem symm_window (n : Fin (⟨4, ![1, 1, 1, 2048]⟩ : Shape).numel) :
    ((⟨4, ![1, 1, 1, 2048]⟩ : Shape).rowMajor.symm n 0).val = 0 ∧ ((⟨4, ![1, 1, 1, 2048]⟩ : Shape).rowMajor.symm n 1).val = 0
      ∧ ((⟨4, ![1, 1, 1, 2048]⟩ : Shape).rowMajor.symm n 2).val = 0 ∧ ((⟨4, ![1, 1, 1, 2048]⟩ : Shape).rowMajor.symm n 3).val = n.val := by
  have e := Shape.rowMajor_val_four ((⟨4, ![1, 1, 1, 2048]⟩ : Shape).rowMajor.symm n)
  rw [Equiv.apply_symm_apply] at e
  generalize (⟨4, ![1, 1, 1, 2048]⟩ : Shape).rowMajor.symm n = v at e ⊢
  have h0 : (v 0).val < 1 := (v 0).isLt
  have h1 : (v 1).val < 1 := (v 1).isLt
  have h2 : (v 2).val < 1 := (v 2).isLt
  have e' : n.val = (((v 0).val * 1 + (v 1).val) * 1 + (v 2).val) * 2048 + (v 3).val := e
  omega

/-- The index with its last coordinate replaced. -/
abbrev last (i : S2x16x2048x2048.Idx) (s : Fin 2048) : S2x16x2048x2048.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨s.val, s.isLt⟩

theorem running_apply (y : Vec Ideal S2x16x2048x2048 .f32) (f : ℕ → EReal) (i : S2x16x2048x2048.Idx)
    (hf : ∀ s (hs : s < 2048), y (last i ⟨s, hs⟩) = f s)
    (hw : S2x16x2048x2048.ReduceWindows ![1, 1, 1, 2048] ![1, 1, 1, 1] ![0, 0, 0, 0] ![0, 0, 0, 2047] S2x16x2048x2048) :
    Ideal.hostReduceWindowAdd ![1, 1, 1, 2048] ![1, 1, 1, 1] ![0, 0, 0, 0] ![0, 0, 0, 2047] hw y 0 i = ∑ j ∈ Finset.Ico (i 3).val 2048, f j := by
  have hs : (i 3).val < 2048 := (i 3).isLt
  have h0 : (i 0).val < 2 := (i 0).isLt
  have h1 : (i 1).val < 16 := (i 1).isLt
  have h2 : (i 2).val < 2048 := (i 2).isLt
  unfold Ideal.hostReduceWindowAdd Host.reduceWindow
  refine (foldl_sum _ _ _).trans ?_
  rw [zero_add, ← Fin.sum_univ_def]
  refine (Finset.sum_congr rfl fun n _ => ?_ : _ = ∑ n : Fin (⟨4, ![1, 1, 1, 2048]⟩ : Shape).numel, (fun k : ℕ => if (i 3).val + k < 2048 then f ((i 3).val + k) else 0) n.val).trans ?_
  · obtain ⟨w0, w1, w2, w3⟩ := symm_window n
    dsimp only
    split
    · next hin =>
      have h3 := (hin 3).2
      change (i 3).val * 1 + ((⟨4, ![1, 1, 1, 2048]⟩ : Shape).rowMajor.symm n 3).val - 0 < 2048 at h3
      rw [w3] at h3
      rw [if_pos (by omega)]
      refine (congrArg y (funext fun a => Fin.ext ?_)).trans (hf ((i 3).val + n.val) (by omega))
      match a with
      | ⟨0, _⟩ =>
        show (i 0).val * 1 + ((⟨4, ![1, 1, 1, 2048]⟩ : Shape).rowMajor.symm n 0).val - 0 = (i 0).val
        rw [w0]; omega
      | ⟨1, _⟩ =>
        show (i 1).val * 1 + ((⟨4, ![1, 1, 1, 2048]⟩ : Shape).rowMajor.symm n 1).val - 0 = (i 1).val
        rw [w1]; omega
      | ⟨2, _⟩ =>
        show (i 2).val * 1 + ((⟨4, ![1, 1, 1, 2048]⟩ : Shape).rowMajor.symm n 2).val - 0 = (i 2).val
        rw [w2]; omega
      | ⟨3, _⟩ =>
        show (i 3).val * 1 + ((⟨4, ![1, 1, 1, 2048]⟩ : Shape).rowMajor.symm n 3).val - 0 = (i 3).val + n.val
        rw [w3]; omega
    · next hin =>
      rw [if_neg fun hle => hin fun a => by
        match a with
        | ⟨0, _⟩ =>
          show 0 ≤ (i 0).val * 1 + ((⟨4, ![1, 1, 1, 2048]⟩ : Shape).rowMajor.symm n 0).val ∧ (i 0).val * 1 + ((⟨4, ![1, 1, 1, 2048]⟩ : Shape).rowMajor.symm n 0).val - 0 < 2
          rw [w0]; omega
        | ⟨1, _⟩ =>
          show 0 ≤ (i 1).val * 1 + ((⟨4, ![1, 1, 1, 2048]⟩ : Shape).rowMajor.symm n 1).val ∧ (i 1).val * 1 + ((⟨4, ![1, 1, 1, 2048]⟩ : Shape).rowMajor.symm n 1).val - 0 < 16
          rw [w1]; omega
        | ⟨2, _⟩ =>
          show 0 ≤ (i 2).val * 1 + ((⟨4, ![1, 1, 1, 2048]⟩ : Shape).rowMajor.symm n 2).val ∧ (i 2).val * 1 + ((⟨4, ![1, 1, 1, 2048]⟩ : Shape).rowMajor.symm n 2).val - 0 < 2048
          rw [w2]; omega
        | ⟨3, _⟩ =>
          show 0 ≤ (i 3).val * 1 + ((⟨4, ![1, 1, 1, 2048]⟩ : Shape).rowMajor.symm n 3).val ∧ (i 3).val * 1 + ((⟨4, ![1, 1, 1, 2048]⟩ : Shape).rowMajor.symm n 3).val - 0 < 2048
          rw [w3]; omega]
  · refine (Fin.sum_univ_eq_sum_range (fun k : ℕ => if (i 3).val + k < 2048 then f ((i 3).val + k) else 0) _).trans ?_
    rw [numel_window, Finset.sum_Ico_eq_sum_range]
    symm
    refine Finset.sum_subset_zero_on_sdiff (Finset.range_subset_range.mpr (by omega)) (fun k hk => ?_) (fun k hk => ?_)
    · rw [Finset.mem_sdiff, Finset.mem_range, Finset.mem_range] at hk
      exact if_neg (by omega)
    · rw [Finset.mem_range] at hk
      exact (if_pos (by omega)).symm

/-! ## The reference, stage by stage -/

theorem entry_eq (x : Vec Ideal S4096x12288 .bf16) (j : S4096x12288.Idx) : x j = entry x (j 0).val (j 1).val := by
  unfold entry
  rw [dif_pos ⟨(j 0).isLt, (j 1).isLt⟩]
  exact congrArg x (funext fun a => match a with | ⟨0, _⟩ => rfl | ⟨1, _⟩ => rfl)

section
variable (x0 : (⟨S4096x12288, .bf16⟩ : BufTy).Contents (Elt Ideal))

theorem q_apply (i : S2x2048x16x128.Idx) : val_main_v5 (F := Ideal) x0 i = query (entry x0) (i 0).val (i 2).val (i 1).val (i 3) := by
  have h0 : (i 0).val < 2 := (i 0).isLt
  have h1 : (i 1).val < 2048 := (i 1).isLt
  have h2 : (i 2).val < 16 := (i 2).isLt
  have h3 : (i 3).val < 128 := (i 3).isLt
  rw [val_main_v5_apply]
  refine (show _ = val_main_v1 (F := Ideal) x0 (idx_main_v5 i) from rfl).trans ?_
  rw [val_main_v1_apply, val_main_v0_apply]
  refine (entry_eq x0 _).trans ?_
  unfold query
  refine congrArg₂ (entry x0) ?_ ?_
  · show ((((i 0).val * 2048 + (i 1).val) * 16 + (i 2).val) * 128 + (i 3).val) / 2048 = _
    omega
  · show 6144 + ((((i 0).val * 2048 + (i 1).val) * 16 + (i 2).val) * 128 + (i 3).val) % 2048 = _
    omega

theorem k_apply (i : S2x2048x16x128.Idx) : val_main_v7 (F := Ideal) x0 i = key (entry x0) (i 0).val (i 2).val (i 1).val (i 3) := by
  have h0 : (i 0).val < 2 := (i 0).isLt
  have h1 : (i 1).val < 2048 := (i 1).isLt
  have h2 : (i 2).val < 16 := (i 2).isLt
  have h3 : (i 3).val < 128 := (i 3).isLt
  rw [val_main_v7_apply]
  refine (show _ = val_main_v2 (F := Ideal) x0 (idx_main_v7 i) from rfl).trans ?_
  rw [val_main_v2_apply, val_main_v0_apply]
  refine (entry_eq x0 _).trans ?_
  unfold key
  rw [if_pos h1]
  refine congrArg₂ (entry x0) ?_ ?_
  · show ((((i 0).val * 2048 + (i 1).val) * 16 + (i 2).val) * 128 + (i 3).val) / 2048 = _
    omega
  · show 6144 + (2048 + ((((i 0).val * 2048 + (i 1).val) * 16 + (i 2).val) * 128 + (i 3).val) % 2048) = _
    omega

theorem v_apply (i : S2x2048x16x128.Idx) : val_main_v9 (F := Ideal) x0 i = value (entry x0) (i 0).val (i 2).val (i 1).val (i 3) := by
  have h0 : (i 0).val < 2 := (i 0).isLt
  have h1 : (i 1).val < 2048 := (i 1).isLt
  have h2 : (i 2).val < 16 := (i 2).isLt
  have h3 : (i 3).val < 128 := (i 3).isLt
  rw [val_main_v9_apply]
  refine (show _ = val_main_v3 (F := Ideal) x0 (idx_main_v9 i) from rfl).trans ?_
  rw [val_main_v3_apply, val_main_v0_apply]
  refine (entry_eq x0 _).trans ?_
  unfold value
  rw [if_pos h1]
  refine congrArg₂ (entry x0) ?_ ?_
  · show ((((i 0).val * 2048 + (i 1).val) * 16 + (i 2).val) * 128 + (i 3).val) / 2048 = _
    omega
  · show 6144 + (4096 + ((((i 0).val * 2048 + (i 1).val) * 16 + (i 2).val) * 128 + (i 3).val) % 2048) = _
    omega

theorem logit_apply (i : S2x16x2048x2048.Idx) :
    val_main_v12 (F := Ideal) x0 i = logit (entry x0) (i 0).val (i 1).val (i 2).val (i 3).val := by
  refine (val_main_v12_apply x0 i).trans ?_
  rw [val_main_v11_apply, val_main_v10_apply]
  refine congrArg (· * Cert.StickHeadsIdeal.Tile.κ) (Finset.sum_congr rfl fun d _ => ?_)
  rw [q_apply, k_apply]
  rfl

theorem softplus_eq (z w : EReal) :
    Scalar.select (Ideal.cmp .une (z - 0) (z - 0)) w (max z 0 + Ideal.log1p (Ideal.exp (-(max (z - 0) (-(z - 0)))))) = sp z := by
  rw [sub_zero]
  refine (show _ = Scalar.select (BitVec.ofBool (decide (z ≠ z))) w _ from rfl).trans ?_
  rw [select_ofBool, if_neg (by simp)]
  rfl

theorem zero_eq : (FloatOps.ofBits (F := Ideal) .f32 0x00000000#32 : EReal) = 0 := zero_f32

theorem softplus_apply (i : S2x16x2048x2048.Idx) :
    val_main_v20 (F := Ideal) x0 i = sp (logit (entry x0) (i 0).val (i 1).val (i 2).val (i 3).val) := by
  rw [val_main_v20_apply, val_main_call0_v4_apply, val_main_call0_v11_apply, val_main_call0_v1_apply, val_main_call0_v10_apply, val_main_call0_v9_apply,
    val_main_call0_v8_apply, val_main_call0_v7_apply, val_main_call0_v3_apply, val_main_call0_v0_apply, val_main_call0_v2_apply, val_main_call0_cst_apply, zero_eq, logit_apply]
  exact softplus_eq _ _

theorem softplus_neg_apply (i : S2x16x2048x2048.Idx) :
    val_main_call3_v1 (F := Ideal) x0 i = sp (-(logit (entry x0) (i 0).val (i 1).val (i 2).val (i 3).val)) := by
  rw [val_main_call3_v1_apply, val_main_call3_call0_v4_apply, val_main_call3_call0_v11_apply, val_main_call3_call0_v1_apply, val_main_call3_call0_v10_apply, val_main_call3_call0_v9_apply,
    val_main_call3_call0_v8_apply, val_main_call3_call0_v7_apply, val_main_call3_call0_v3_apply, val_main_call3_call0_v0_apply, val_main_call3_call0_v2_apply, val_main_call3_call0_cst_apply, zero_eq,
    val_main_call3_v0_apply, logit_apply]
  exact softplus_eq _ _

theorem mask_apply (j : S2048x2048.Idx) : val_main_v19 (F := Ideal) j = BitVec.ofBool (decide ((j 1).val < (j 0).val)) := by
  have h0 : (j 0).val < 2048 := (j 0).isLt
  have h1 : (j 1).val < 2048 := (j 1).isLt
  rw [val_main_v19_apply, val_main_v17_apply, val_main_v14_apply, val_main_v13_apply, val_main_v18_apply, val_main_v16_apply, val_main_v15_apply]
  exact cmpi_slt_ofNat (by show (j 1).val < _; omega) (by show (j 0).val < _; omega)

theorem masked_apply (i : S2x16x2048x2048.Idx) :
    val_main_v22 (F := Ideal) x0 i = ln (logit (entry x0) (i 0).val (i 1).val (i 2).val) (i 2).val (i 3).val := by
  rw [val_main_v22_apply, val_main_call1_v1_apply, mask_apply, select_ofBool, val_main_v21_apply, softplus_apply, val_main_call1_v2_apply]
  unfold ln
  simp only [decide_eq_true_eq]
  exact congrArg _ zero_f32

theorem windowSum_def {s t u : Shape} (window strides lo hi : Fin s.rank → Nat) (x : FVec Ideal s .f32) (init : u.Idx → Ideal .f32)
    (h : s.ReduceWindows window strides lo hi t) (hu : 0 < u.numel) :
    Host.reduceWindowAdd window strides lo hi x init h hu = Ideal.hostReduceWindowAdd window strides lo hi h x (init (Shape.Idx.first hu)) := rfl

theorem sums_apply (i : S2x16x2048x2048.Idx) :
    val_main_v23 (F := Ideal) x0 i = ∑ j ∈ Finset.Ico (i 3).val 2048, ln (logit (entry x0) (i 0).val (i 1).val (i 2).val) (i 2).val j := by
  unfold val_main_v23
  rw [windowSum_def]
  rw [val_main_call2_v0_apply, val_main_call2_cst_apply, zero_eq]
  exact running_apply (val_main_v22 (F := Ideal) x0) (ln (logit (entry x0) (i 0).val (i 1).val (i 2).val) (i 2).val) i (fun s hs => masked_apply x0 _) _

theorem weight_apply (i : S2x16x2048x2048.Idx) :
    val_main_v28 (F := Ideal) x0 i = wt (logit (entry x0) (i 0).val (i 1).val (i 2).val) (i 2).val (half (i 2).val) (i 3).val := by
  rw [← wt_ref _ _ _ 2048 _ (le_half _) (half_le (i 2).isLt) (i 3).isLt]
  rw [val_main_v28_apply, val_main_call4_v1_apply, mask_apply, select_ofBool, val_main_v27_apply, val_main_v26_apply, val_main_v25_apply, softplus_neg_apply,
    val_main_v24_apply, sums_apply, masked_apply, val_main_call4_v2_apply]
  simp only [decide_eq_true_eq]
  exact congrArg _ zero_f32

theorem mixture_apply (i : S2x2048x16x128.Idx) :
    val_main_v30 (F := Ideal) x0 i = mixture (entry x0) (i 0).val (i 2).val (i 1).val (i 3) := by
  rw [val_main_v30_apply, val_main_v29_apply]
  unfold mixture
  rw [← mix_ref _ _ _ _ 2048 (le_half _) (half_le (i 1).isLt), ← Finset.range_eq_Ico, Finset.sum_range]
  refine Finset.sum_congr rfl fun k _ => ?_
  rw [v_apply, weight_apply, mul_comm]
  rfl

theorem norm_apply (i : S2x2048x16x128.Idx) :
    val_main_v40 (F := Ideal) x0 i = normed (mixture (entry x0) (i 0).val (i 2).val (i 1).val) (i 3) := by
  refine (show _ = val_main_v30 (F := Ideal) x0 i * val_main_v39 (F := Ideal) x0 i from rfl).trans ?_
  rw [mixture_apply, val_main_v39_apply]
  unfold normed
  refine congrArg (_ * ·) ?_
  refine (show _ = Ideal.rsqrt (Ideal.div (val_main_v33 (F := Ideal) x0 (idx_main_v39 i)) (Ideal.ofBits .f32 0x43000000#32) + Ideal.ofBits .f32 0x3727C5AC#32) from rfl).trans ?_
  refine congrArg (fun w => Ideal.rsqrt (Ideal.div w (Ideal.ofBits .f32 0x43000000#32) + Ideal.ofBits .f32 0x3727C5AC#32)) ?_
  rw [val_main_v33_apply, val_main_v32_apply]
  refine (congrArg (· + _) (show val_main_cst_2 (F := Ideal) _ = (0 : EReal) from zero_f32)).trans ?_
  rw [zero_add]
  refine Finset.sum_congr rfl fun k _ => ?_
  rw [val_main_v31_apply, mixture_apply]
  rfl

theorem head_apply (x1 : (⟨S1x2048, .f32⟩ : BufTy).Contents (Elt Ideal)) (i : S4096x2048.Idx) :
    val_main_v47 (F := Ideal) x0 x1 i
      = normed (mixture (entry x0) ((i 0).val / 2048) ((i 1).val / 128) ((i 0).val % 2048)) ⟨(i 1).val % 128, Nat.mod_lt _ (by omega)⟩ * gain x1 (i 1).val := by
  have h0 : (i 0).val < 4096 := (i 0).isLt
  have h1 : (i 1).val < 2048 := (i 1).isLt
  refine (show _ = val_main_v46 (F := Ideal) x0 x1 i from rfl).trans ?_
  rw [val_main_v46_apply]
  refine (show _ = val_main_v40 (F := Ideal) x0 (idx_main_v46 i) * val_main_v43 (F := Ideal) x1 (idx_main_v46 i) from rfl).trans ?_
  rw [norm_apply, val_main_v43_apply, val_main_v42_apply, val_main_v41_apply]
  have e0 : ((idx_main_v46 i) 0).val = (i 0).val / 2048 := by
    show ((i 0).val * 2048 + (i 1).val) / 4194304 = _; omega
  have e1 : ((idx_main_v46 i) 1).val = (i 0).val % 2048 := by
    show ((i 0).val * 2048 + (i 1).val) / 2048 % 2048 = _; omega
  have e2 : ((idx_main_v46 i) 2).val = (i 1).val / 128 := by
    show ((i 0).val * 2048 + (i 1).val) / 128 % 16 = _; omega
  have e3 : (idx_main_v46 i) 3 = (⟨(i 1).val % 128, Nat.mod_lt _ (by omega)⟩ : Fin 128) := Fin.ext (by
    show ((i 0).val * 2048 + (i 1).val) % 128 = (i 1).val % 128; omega)
  rw [e0, e1, e2, e3]
  refine congrArg₂ (fun a b : EReal => a * b) rfl ?_
  unfold gain
  rw [dif_pos h1]
  refine congrArg x1 (funext fun a => Fin.ext ?_)
  match a with
  | ⟨0, _⟩ => rfl
  | ⟨1, _⟩ =>
    show (((i 0).val * 2048 + (i 1).val) / 128 % 16 * 128 + ((i 0).val * 2048 + (i 1).val) % 128) % 2048 = (i 1).val
    omega

theorem result_eq (x1 : (⟨S1x2048, .f32⟩ : BufTy).Contents (Elt Ideal)) (x2 : (⟨S4096x4096, .bf16⟩ : BufTy).Contents (Elt Ideal)) (i : S4096x4096.Idx) :
    val_main_v48 (F := Ideal) x0 x1 x2 i = total x0 x1 x2 i := by
  unfold val_main_v48 total
  have h1 : (i 1).val < 4096 := (i 1).isLt
  by_cases h : (i 1).val < 2048
  · rw [if_pos h]
    refine (concatenate_pair_apply_left (s₁ := S4096x2048) (s₂ := S4096x2048) 1 _ _ _ i rfl (ix2 (i 0) (⟨(i 1).val, h⟩ : Fin 2048)) (fun b => ?_)).trans ?_
    · match b with
      | ⟨0, _⟩ => rfl
      | ⟨1, _⟩ => rfl
    · rw [val_main_v45_apply]
      exact congrArg x2 (funext fun a => match a with | ⟨0, _⟩ => rfl | ⟨1, _⟩ => rfl)
  · rw [if_neg h]
    refine (concatenate_pair_apply_right (s₁ := S4096x2048) (s₂ := S4096x2048) 1 _ _ _ i rfl rfl (ix2 (i 0) (⟨(i 1).val - 2048, by omega⟩ : Fin 2048)) (fun b hb => ?_) ?_).trans ?_
    · match b with
      | ⟨0, _⟩ => rfl
      | ⟨1, _⟩ => exact absurd rfl hb
    · show (i 1).val - 2048 + 2048 = (i 1).val
      omega
    · exact head_apply x0 x1 _

end

end Cert.StickHeadsRefIdeal.Value

end
-- ==== Proof.StickHeadsValue.lean ====
/-
  Stick-breaking attention of one device: what the kernel leaves in its result, over the extended reals, and that
  the reference leaves the same.
-/
module

public import proofs.«01_k».proof.Defs
public import proofs.«01_k».proof.Proof.StickWalk
public import proofs.«01_k».proof.Proof.StickRef
public import proofs.«01_k».proof.Proof.Gen.StickHeadsRefIdeal.Run

@[expose] public section

set_option maxRecDepth 16384

noncomputable section

open Idealize.ShloMosaic Idealize.ShloMosaic.TcCoe Idealize.SL.Sem Idealize.ShloMosaic.ValueIdx
open Idealize.ShloMosaic.Pipeline (Dat)
open Cert.Common Cert.Stick

namespace Cert.StickHeadsIdeal.Hand

open Cert.StickHeadsIdeal Cert.StickHeadsIdeal.Gen Cert.StickHeadsIdeal.Tile

/-! ## What the body stores -/

theorem squares_apply (v : FVec Ideal ⟨2, ![1024, 128]⟩ .f32) (acc : BitVec 32) (h : Shape.Reduces ⟨2, ![1024, 128]⟩ [1] ⟨1, ![1024]⟩)
    (hφ : FKind.Formats .f32) (hacc : acc = FKind.add.neutral .f32 hφ) (r : Fin 1024) :
    multiReduction .add [1] ⟨1, ![1024]⟩ v acc h hφ hacc (ix1 r) = ∑ k : Fin 128, v (ix2 r k) := by
  refine (Ideal.multiReduction_add_single v acc h hφ hacc (ix1 r)).trans ?_
  refine Finset.sum_congr rfl fun k _ => congrArg v (funext fun a => Fin.ext ?_)
  match a with
  | ⟨0, _⟩ => rfl
  | ⟨1, _⟩ => rfl

theorem pay2_apply (w : FVec Ideal S1024x128 .f32) (g : Vec Ideal S1x128 .f32) (r : Fin 1024) (d : Fin 128) :
    k0_pay2 (F := Ideal) w g (ix2 r d) = normed (fun e => w (ix2 r e)) d * g (ix2 0 d) := by
  unfold k0_pay2 normed
  refine congrArg₂ (fun a b : EReal => a * b) (congrArg (w (ix2 r d) * ·) ?_) (broadcastTo_1b_ab_apply g broadcasts_S1x128_S1024x128 r d)
  refine (spread_apply _ broadcasts_S1024x1_S1024x128 r d).trans ?_
  refine congrArg Ideal.rsqrt (congrArg (fun s => Ideal.div s (Ideal.ofBits .f32 0x43000000#32) + Ideal.ofBits .f32 0x3727C5AC#32) ?_)
  refine (shapeCast_a_a1_apply _ shapeCasts_S1024_S1024x1 r 0).trans ?_
  exact squares_apply (mulf w w) _ reduces_S1024x128_S1024 _ _ r

theorem gain_read (arg : Memref sig .tc .vmem S1x128 .f32) (harg : arg.IsWhole) (x : Vec Ideal S1x128 .f32) (inb : ∀ a, (![0, 0] : Fin 2 → Nat) a + S1x128.size a ≤ S1x128.size a) (d : Fin 128) :
    View.readAt (Elt Ideal) arg.view (Rect.unit ![0, 0] S1x128.size inb : Rect S1x128).toLoadRect (harg.unread x) (ix2 0 d) = x (ix2 0 d) := by
  refine (harg.readAt_unread x (Rect.unit ![0, 0] S1x128.size inb : Rect S1x128).toLoadRect (ix2 0 d)).trans ?_
  refine congrArg x (funext fun a => Fin.ext ?_)
  match a with
  | ⟨0, _⟩ => rfl
  | ⟨1, _⟩ => show 0 + 1 * d.val = d.val; omega

/-- An entry of the block the body stores. -/
def headOf (x0 x1 x2 : Vec Ideal S2048x128 .bf16) (x3 : Vec Ideal S1x128 .f32) (q : ℕ) (d : Fin 128) : EReal :=
  normed (fun e => ∑ s ∈ Finset.Ico 0 (half q), wt (fun s => (∑ d : Fin 128, rows x0 q d * rows x1 s d) * κ) q (half q) s * rows x2 s e) d * x3 (ix2 0 d)

section

variable (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .hbm S4096x4096 .bf16) (harg6 : arg6.IsWhole) (arg7 : Memref sig .tc .hbm S4096x4096 .f32) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole)

theorem trip_eq (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (k : Fin k0_t1_loop.trips) :
    (trip (F := Ideal) 𝒱 c bd i arg2 harg2 arg3 harg3 arg4 harg4 arg5 harg5 arg6 harg6 arg7 harg7 arg8 harg8 arg9 harg9 arg10 harg10 X2 X3 X4 X5 k).1
      = [⟨Rect.unit (s := S2048x128) (k0_off1 k) S1024x128.size (k0_off1_inb k), k0_pay2 (F := Ideal) (trip.sl.r_17 (F := Ideal) 𝒱 c bd i arg2 harg2 arg3 harg3 arg4 harg4 arg5 harg5 arg6 harg6 arg7 harg7 arg8 harg8 arg9 harg9 arg10 harg10 X2 X3 X4 k)
          (View.readAt (Elt Ideal) arg5.view (Rect.unit ![0, 0] S1x128.size inb_S1x128_S1x128_0_0 : Rect S1x128).toLoadRect X5)⟩] := by
  unfold trip
  rfl

theorem piece_apply (x0 x1 x2 : Vec Ideal S2048x128 .bf16) (x3 : Vec Ideal S1x128 .f32) (k : Fin k0_t1_loop.trips)
    (x : (Rect.unit (s := S2048x128) (k0_off1 k) S1024x128.size (k0_off1_inb k)).shape.Idx) :
    k0_pay2 (F := Ideal) (trip.sl.r_17 (F := Ideal) 𝒱 c bd i arg2 harg2 arg3 harg3 arg4 harg4 arg5 harg5 arg6 harg6 arg7 harg7 arg8 harg8 arg9 harg9 arg10 harg10 (harg2.unread x0) (harg3.unread x1) (harg4.unread x2) k)
          (View.readAt (Elt Ideal) arg5.view (Rect.unit ![0, 0] S1x128.size inb_S1x128_S1x128_0_0 : Rect S1x128).toLoadRect (harg5.unread x3)) x
      = (fun y : S2048x128.Idx => headOf x0 x1 x2 x3 (y 0).val (y 1)) ((Rect.unit (s := S2048x128) (k0_off1 k) S1024x128.size (k0_off1_inb k)).emb x) := by
  obtain ⟨r, d, rfl⟩ : ∃ (r : Fin 1024) (d : Fin 128), x = (ix2 r d : S1024x128.Idx) := ⟨_, _, eq_ix2 (x : S1024x128.Idx)⟩
  have hr := r.isLt
  have e0 : (((Rect.unit (s := S2048x128) (k0_off1 k) S1024x128.size (k0_off1_inb k)).emb (ix2 r d : S1024x128.Idx)) 0).val = 1024 * k.val + r.val := by
    show k0_off1 k 0 + 1 * r.val = _
    rw [off1_eq]
    show 1024 * k.val + 1 * r.val = _
    omega
  have e1 : ((Rect.unit (s := S2048x128) (k0_off1 k) S1024x128.size (k0_off1_inb k)).emb (ix2 r d : S1024x128.Idx)) 1 = d := Fin.ext (by
    show k0_off1 k 1 + 1 * d.val = _
    rw [off1_eq]
    show 0 + 1 * d.val = _
    omega)
  have eh : half (1024 * k.val + r.val) = 1024 * (k.val + 1) := by unfold half; omega
  refine (pay2_apply _ _ r d).trans ?_
  rw [gain_read]
  dsimp only
  rw [e0, e1]
  unfold headOf
  refine congrArg (fun w => normed w d * x3 (ix2 0 d)) (funext fun e => ?_)
  rw [eh]
  refine (mixture_apply 𝒱 c bd i arg2 harg2 arg3 harg3 arg4 harg4 arg5 harg5 arg6 harg6 arg7 harg7 arg8 harg8 arg9 harg9 arg10 harg10 x0 x1 x2 k r e).trans (Finset.sum_congr rfl fun s _ => ?_)
  refine congrArg (fun z => wt z (1024 * k.val + r.val) (1024 * (k.val + 1)) s * rows x2 s e) (funext fun s => ?_)
  unfold zr
  refine congrArg (· * κ) (Finset.sum_congr rfl fun d _ => ?_)
  rw [query_read]

end

theorem left_8_apply (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .hbm S4096x4096 .bf16) (harg6 : arg6.IsWhole) (arg7 : Memref sig .tc .hbm S4096x4096 .f32) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (x0 x1 x2 : Vec Ideal S2048x128 .bf16) (x3 : Vec Ideal S1x128 .f32) (y : S2048x128.Idx) :
    left_8 (F := Ideal) c i arg2 harg2 arg3 harg3 arg4 harg4 arg5 harg5 arg6 harg6 arg7 harg7 arg8 harg8 arg9 harg9 arg10 harg10 x0 x1 x2 x3 y = headOf x0 x1 x2 x3 (y 0).val (y 1) := by
  unfold left_8
  refine View.canon_apply_of_pieces (Val := Elt Ideal) (e := .bf16) (fun y : S2048x128.Idx => (headOf x0 x1 x2 x3 (y 0).val (y 1) : Elt Ideal .bf16)) _ ?_ y (cover_8 Variants.none c none i arg2 harg2 arg3 harg3 arg4 harg4 arg5 harg5 arg6 harg6 arg7 harg7 arg8 harg8 arg9 harg9 arg10 harg10 _ _ _ _ y)
  intro p hp
  rw [pieces_two] at hp
  dsimp only at hp
  rw [trip_eq, trip_eq, List.append_nil] at hp
  rcases List.mem_append.mp hp with hp | hp
  · rw [List.mem_singleton] at hp
    subst hp
    exact fun x => piece_apply Variants.none c none i arg2 harg2 arg3 harg3 arg4 harg4 arg5 harg5 arg6 harg6 arg7 harg7 arg8 harg8 arg9 harg9 arg10 harg10 x0 x1 x2 x3 half1 x
  · rw [List.mem_singleton] at hp
    subst hp
    exact fun x => piece_apply Variants.none c none i arg2 harg2 arg3 harg3 arg4 harg4 arg5 harg5 arg6 harg6 arg7 harg7 arg8 harg8 arg9 harg9 arg10 harg10 x0 x1 x2 x3 half0 x

/-! ## The blocks -/

variable (m : (ℓ : Loc nD τ sig) → Buf (Elt Ideal) ℓ) (c : Dev nD)

abbrev a0 : Vec Ideal S4096x12288 .bf16 := m ((c.tc : Thread nD τ).loc main_arg0)
abbrev a1 : Vec Ideal S1x2048 .f32 := m ((c.tc : Thread nD τ).loc main_arg1)
abbrev a2 : Vec Ideal S4096x4096 .bf16 := m ((c.tc : Thread nD τ).loc main_arg2)

theorem index_0 : ∀ t : Fin cfg0.N, win0_0.index t 0 = t.val / 16 ∧ win0_0.index t 1 = 48 + t.val % 16 :=
  (by decide +kernel : ∀ t : Fin grid0.N, win0_0.index t 0 = t.val / 16 ∧ win0_0.index t 1 = 48 + t.val % 16)
theorem index_1 : ∀ t : Fin cfg0.N, win0_1.index t 0 = t.val / 16 ∧ win0_1.index t 1 = 64 + t.val % 16 :=
  (by decide +kernel : ∀ t : Fin grid0.N, win0_1.index t 0 = t.val / 16 ∧ win0_1.index t 1 = 64 + t.val % 16)
theorem index_2 : ∀ t : Fin cfg0.N, win0_2.index t 0 = t.val / 16 ∧ win0_2.index t 1 = 80 + t.val % 16 :=
  (by decide +kernel : ∀ t : Fin grid0.N, win0_2.index t 0 = t.val / 16 ∧ win0_2.index t 1 = 80 + t.val % 16)
theorem index_3 : ∀ t : Fin cfg0.N, win0_3.index t 0 = 0 ∧ win0_3.index t 1 = t.val % 16 :=
  (by decide +kernel : ∀ t : Fin grid0.N, win0_3.index t 0 = 0 ∧ win0_3.index t 1 = t.val % 16)
theorem index_4 : ∀ t : Fin cfg0.N, win0_4.index t 0 = t.val / 16 ∧ win0_4.index t 1 = 16 + t.val % 16 :=
  (by decide +kernel : ∀ t : Fin grid0.N, win0_4.index t 0 = t.val / 16 ∧ win0_4.index t 1 = 16 + t.val % 16)

theorem lt (t : Fin cfg0.N) : t.val < 32 := t.isLt

theorem entry_eq (x : Vec Ideal S4096x12288 .bf16) (j : S4096x12288.Idx) (r k : ℕ) (h0 : (j 0).val = r) (h1 : (j 1).val = k) : x j = entry x r k := by
  subst h0; subst h1
  unfold entry
  rw [dif_pos ⟨(j 0).isLt, (j 1).isLt⟩]
  exact congrArg x (funext fun a => match a with | ⟨0, _⟩ => rfl | ⟨1, _⟩ => rfl)

theorem blk0 (t : Fin cfg0.N) (r : Fin 2048) (d : Fin 128) :
    (iblk m c 0 t : Vec Ideal S2048x128 .bf16) (ix2 r d) = entry (a0 m c) (2048 * (t.val / 16) + r.val) (6144 + (128 * (t.val % 16) + d.val)) := by
  unfold iblk
  rw [View.read_apply]
  show V m c main_arg0 _ = _
  rw [V_main_arg0]
  refine entry_eq (a0 m c) _ _ _ ?_ ?_
  · show win0_0.index t 0 * 2048 + 1 * r.val = _
    rw [(index_0 t).1]; omega
  · show win0_0.index t 1 * 128 + 1 * d.val = _
    rw [(index_0 t).2]; omega

theorem blk1 (t : Fin cfg0.N) (r : Fin 2048) (d : Fin 128) :
    (iblk m c 1 t : Vec Ideal S2048x128 .bf16) (ix2 r d) = entry (a0 m c) (2048 * (t.val / 16) + r.val) (8192 + (128 * (t.val % 16) + d.val)) := by
  unfold iblk
  rw [View.read_apply]
  show V m c main_arg0 _ = _
  rw [V_main_arg0]
  refine entry_eq (a0 m c) _ _ _ ?_ ?_
  · show win0_1.index t 0 * 2048 + 1 * r.val = _
    rw [(index_1 t).1]; omega
  · show win0_1.index t 1 * 128 + 1 * d.val = _
    rw [(index_1 t).2]; omega

theorem blk2 (t : Fin cfg0.N) (r : Fin 2048) (d : Fin 128) :
    (iblk m c 2 t : Vec Ideal S2048x128 .bf16) (ix2 r d) = entry (a0 m c) (2048 * (t.val / 16) + r.val) (10240 + (128 * (t.val % 16) + d.val)) := by
  unfold iblk
  rw [View.read_apply]
  show V m c main_arg0 _ = _
  rw [V_main_arg0]
  refine entry_eq (a0 m c) _ _ _ ?_ ?_
  · show win0_2.index t 0 * 2048 + 1 * r.val = _
    rw [(index_2 t).1]; omega
  · show win0_2.index t 1 * 128 + 1 * d.val = _
    rw [(index_2 t).2]; omega

theorem blk3 (t : Fin cfg0.N) (d : Fin 128) :
    (iblk m c 3 t : Vec Ideal S1x128 .f32) (ix2 0 d) = gain (a1 m c) (128 * (t.val % 16) + d.val) := by
  unfold iblk
  rw [View.read_apply]
  show V m c main_arg1 _ = _
  rw [V_main_arg1]
  unfold gain
  rw [dif_pos (by have := lt t; omega)]
  refine congrArg (a1 m c) (funext fun a => Fin.ext ?_)
  match a with
  | ⟨0, _⟩ => show win0_3.index t 0 * 1 + 1 * 0 = 0; rw [(index_3 t).1]
  | ⟨1, _⟩ => show win0_3.index t 1 * 128 + 1 * d.val = 128 * (t.val % 16) + d.val; rw [(index_3 t).2]; omega

theorem queries_eq (t : Fin cfg0.N) (q : ℕ) (hq : q < 2048) (d : Fin 128) :
    rows (iblk m c 0 t) q d = query (entry (a0 m c)) (t.val / 16) (t.val % 16) q d := by
  unfold rows query
  rw [dif_pos hq]
  exact blk0 m c t ⟨q, hq⟩ d

theorem keys_eq (t : Fin cfg0.N) (s : ℕ) (d : Fin 128) :
    rows (iblk m c 1 t) s d = key (entry (a0 m c)) (t.val / 16) (t.val % 16) s d := by
  unfold rows key
  split
  · next h => exact blk1 m c t ⟨s, h⟩ d
  · rfl

theorem values_eq (t : Fin cfg0.N) (s : ℕ) (d : Fin 128) :
    rows (iblk m c 2 t) s d = value (entry (a0 m c)) (t.val / 16) (t.val % 16) s d := by
  unfold rows value
  split
  · next h => exact blk2 m c t ⟨s, h⟩ d
  · rfl

theorem headOf_eq (t : Fin cfg0.N) (q : ℕ) (hq : q < 2048) (d : Fin 128) :
    headOf (iblk m c 0 t) (iblk m c 1 t) (iblk m c 2 t) (iblk m c 3 t) q d
      = normed (mixture (entry (a0 m c)) (t.val / 16) (t.val % 16) q) d * gain (a1 m c) (128 * (t.val % 16) + d.val) := by
  unfold headOf
  rw [blk3]
  refine congrArg (fun w => normed w d * gain (a1 m c) (128 * (t.val % 16) + d.val)) (funext fun e => ?_)
  unfold mixture
  refine Finset.sum_congr rfl fun s _ => ?_
  rw [values_eq]
  refine congrArg (fun z => wt z q (half q) s * value (entry (a0 m c)) (t.val / 16) (t.val % 16) s e) (funext fun s => ?_)
  unfold logit
  refine congrArg (· * κ) (Finset.sum_congr rfl fun d _ => ?_)
  rw [queries_eq m c t q hq, keys_eq]

/-! ## The result -/

abbrev result : S4096x4096.Idx → EReal := total (a0 m c) (a1 m c) (a2 m c)

theorem flushed_eq (t : Fin cfg0.N) : (dats m 0 c).flushed 4 t = ((cfg0.win 4).blk t).view.read (Elt Ideal) (result m c) := by
  show (cfg0.win 4).cut (grid0.coords t) ((dats m 0 c).after 4 t) = _
  rw [after_4]
  funext y
  obtain ⟨r, d, rfl⟩ : ∃ (r : Fin 2048) (d : Fin 128), y = ix2 r d := ⟨_, _, eq_ix2 y⟩
  rw [View.read_apply]
  refine (left_8_apply ..).trans ((headOf_eq m c t r.val r.isLt d).trans ?_)
  refine (total_apply _ _ _ _ (t.val / 16) (t.val % 16) r.val d r.isLt ?_ ?_).symm
  · show win0_4.index t 0 * 2048 + 1 * r.val = _
    rw [(index_4 t).1]; omega
  · show win0_4.index t 1 * 128 + 1 * d.val = _
    rw [(index_4 t).2]; omega

theorem mem_block (t : Fin cfg0.N) (i : S4096x4096.Idx) : i ∈ ((cfg0.win 4).blk t).view.set ↔
    (t.val / 16 * 2048 ≤ (i 0).val ∧ (i 0).val < t.val / 16 * 2048 + 2048) ∧ (16 + t.val % 16) * 128 ≤ (i 1).val ∧ (i 1).val < (16 + t.val % 16) * 128 + 128 := by
  show i ∈ ((View.whole main_v1_0).slice (win0_4.rect t)).set ↔ _
  rw [View.set_slice_whole, Rect.mem_set_unit]
  constructor
  · intro h
    have h0 : win0_4.index t 0 * 2048 ≤ (i 0 : Nat) ∧ (i 0 : Nat) < win0_4.index t 0 * 2048 + 2048 := h 0
    have h1 : win0_4.index t 1 * 128 ≤ (i 1 : Nat) ∧ (i 1 : Nat) < win0_4.index t 1 * 128 + 128 := h 1
    rw [(index_4 t).1] at h0
    rw [(index_4 t).2] at h1
    exact ⟨h0, h1⟩
  · intro h a
    match a with
    | ⟨0, _⟩ => show win0_4.index t 0 * 2048 ≤ (i 0 : Nat) ∧ (i 0 : Nat) < win0_4.index t 0 * 2048 + 2048
                rw [(index_4 t).1]; exact h.1
    | ⟨1, _⟩ => show win0_4.index t 1 * 128 ≤ (i 1 : Nat) ∧ (i 1 : Nat) < win0_4.index t 1 * 128 + 128
                rw [(index_4 t).2]; exact h.2

theorem V_out : V m c main_v1_0 = a2 m c := rfl

/-- The point whose block holds an index of the later columns. -/
def pointOf (i : S4096x4096.Idx) : Fin cfg0.N :=
  ⟨(i 0).val / 2048 * 16 + ((i 1).val - 2048) / 128, by
    have h0 : (i 0).val < 4096 := (i 0).isLt
    have h1 : (i 1).val < 4096 := (i 1).isLt
    show _ < 32; omega⟩

theorem final_eq : (dats m 0 c).arrAt 4 cfg0.N = result m c := by
  funext i
  have h0 : (i 0).val < 4096 := (i 0).isLt
  have h1 : (i 1).val < 4096 := (i 1).isLt
  refine ((dats m 0 c).arrAt_eq_piecewise 4 (result m c) (fun t _ => flushed_eq m c t) i).trans ?_
  by_cases h : (i 1).val < 2048
  · rw [if_neg, A_eq]
    · show V m c main_v1_0 i = _
      rw [V_out]
      exact (if_pos h).symm
    · rintro ⟨t, _, hi⟩
      have := ((mem_block t i).mp hi).2.1
      omega
  · refine if_pos ⟨pointOf i, flush0_4 _, (mem_block _ i).mpr ?_⟩
    have hp : (pointOf i).val = (i 0).val / 2048 * 16 + ((i 1).val - 2048) / 128 := rfl
    rw [hp]
    omega

end Cert.StickHeadsIdeal.Hand

namespace Cert.StickHeadsRefIdeal.Value

open Cert.StickHeadsRefIdeal Cert.StickHeadsRefIdeal.Read

/-- The reference runs to its end. -/
theorem frame : Cert.quiescent_StickHeadsRefIdeal := fun m g _ =>
  (θ_run Cert.StickHeadsRefIdeal.defs _ _).mono (fun r h => ⟨fun c => (h c).2, Idealize.ShloMosaic.sem_eq_zero_of_no_sems (by decide) r.2⟩)
    (Cert.StickHeadsRefIdeal.Value.run (F := Ideal) m g)

open Cert.StickHeadsIdeal.Gen in
/-- What the kernel's run ends with. -/
theorem kernel_run (m : (ℓ : Loc Cert.StickHeadsIdeal.nD Cert.StickHeadsIdeal.τ Cert.StickHeadsIdeal.sig) → Buf (Elt Ideal) ℓ) (g : Dev Cert.StickHeadsIdeal.nD → PrngReg) :
    θ_run (Cert.StickHeadsIdeal.defs (F := Ideal)) (onTc (τ := Cert.StickHeadsIdeal.τ) (Cert.StickHeadsIdeal.main (F := Ideal))) ⟨m, fun _ => 0, g⟩ (fun r => ∀ c : Dev Cert.StickHeadsIdeal.nD,
      r.2.mem ((c.tc : Thread Cert.StickHeadsIdeal.nD Cert.StickHeadsIdeal.τ).loc Cert.StickHeadsIdeal.main_v1_0) = Cert.StickHeadsIdeal.Hand.result m c) :=
  (θ_run Cert.StickHeadsIdeal.defs _ _).mono (fun r h c => ((h c).1 4).trans (Cert.StickHeadsIdeal.Hand.final_eq m c)) (Cert.StickHeadsIdeal.Hand.run_main (F := Ideal) m g)

/-- The kernel computes what the reference computes. -/
theorem algebraic : Cert.algebraic_StickHeadsIdeal_StickHeadsRefIdeal := by
  intro m g m' g' _ hargs
  refine ⟨fun c => Cert.StickHeadsIdeal.Hand.result m c, ?_, ?_⟩
  · refine (θ_run Cert.StickHeadsIdeal.defs _ _).mono (fun r h c => ?_) (θ_run_and (kernel_run m g) (Cert.StickHeadsIdeal.Hand.frame (F := Ideal) m g))
    exact ⟨h.1 c, h.2.1 c⟩
  · refine (θ_run Cert.StickHeadsRefIdeal.defs _ _).mono (fun r h c => ?_) (Cert.StickHeadsRefIdeal.Value.run (F := Ideal) m' g')
    obtain ⟨h2, h⟩ := h c
    obtain ⟨e0, e1, e2⟩ := hargs c
    refine ⟨h2.trans ?_, h⟩
    refine (val_main_v48_eq _ _).trans ?_
    rw [e0, e1, e2]
    funext i
    exact result_eq _ _ _ i

end Cert.StickHeadsRefIdeal.Value

end
-- ==== Proof.UpdateCommon.lean ====
/-
  One element of the weights' update, over the extended reals.
-/
module

public import proofs.«01_k».proof.Proof.Common

@[expose] public section

noncomputable section

open Idealize.ShloMosaic

namespace Cert.UpdateCommon

/-- The running mean of the gradient. -/
def newM (g m : EReal) : EReal := Ideal.ofBits .f32 0x3F666666#32 * m + Ideal.ofBits .f32 0x3DCCCCCD#32 * g
/-- The running mean of the gradient's square. -/
def newV (g v : EReal) : EReal := Ideal.ofBits .f32 0x3F7FBE77#32 * v + Ideal.ofBits .f32 0x3A83126F#32 * (g * g)
/-- What is added to the weight. -/
def delta (g w m v : EReal) : EReal :=
  Ideal.ofBits .f32 0xBA83126F#32 *
    (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

end Cert.UpdateCommon
end
-- ==== Proof.FfnUpdateValue.lean ====
/-
  The update of a feed-forward weight: the four results of the kernel over the extended reals, and that the reference leaves the same.
-/
module

public import proofs.«01_k».proof.Defs
public import proofs.«01_k».proof.Proof.UpdateCommon
public import proofs.«01_k».proof.Proof.Gen.FfnUpdateIdeal.Value
public import proofs.«01_k».proof.Proof.Gen.FfnUpdateRefIdeal.Run
public import proofs.«01_k».proof.Proof.Gen.FfnUpdateRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Common Cert.UpdateCommon

namespace Cert.FfnUpdateIdeal.Value

open Cert.FfnUpdateIdeal Cert.FfnUpdateIdeal.Gen

def gradAt (x0 : (⟨S8x1376x4096, .bf16⟩ : BufTy).Contents (Elt Ideal)) : S1376x4096.Idx → EReal := fun i => ∑ d : Fin 8, (x0 (ix3 d (i 0) (i 1)) : EReal)
def out4 (x0 : (⟨S8x1376x4096, .bf16⟩ : BufTy).Contents (Elt Ideal)) (x1 x2 x3 : (⟨S1376x4096, .f32⟩ : BufTy).Contents (Elt Ideal)) : S1376x4096.Idx → EReal := gradAt x0
def out5 (x0 : (⟨S8x1376x4096, .bf16⟩ : BufTy).Contents (Elt Ideal)) (x1 x2 x3 : (⟨S1376x4096, .f32⟩ : BufTy).Contents (Elt Ideal)) : S1376x4096.Idx → EReal := fun i => delta (gradAt x0 i) (x1 i) (x2 i) (x3 i)
def out6 (x0 : (⟨S8x1376x4096, .bf16⟩ : BufTy).Contents (Elt Ideal)) (x1 x2 x3 : (⟨S1376x4096, .f32⟩ : BufTy).Contents (Elt Ideal)) : S1376x4096.Idx → EReal := fun i => newM (gradAt x0 i) (x2 i)
def out7 (x0 : (⟨S8x1376x4096, .bf16⟩ : BufTy).Contents (Elt Ideal)) (x1 x2 x3 : (⟨S1376x4096, .f32⟩ : BufTy).Contents (Elt Ideal)) : S1376x4096.Idx → EReal := fun i => newV (gradAt x0 i) (x3 i)

/-! ## One block -/

def grad (x0 : Vec Ideal S8x32x4096 .bf16) (r : Fin 32) (j : Fin 4096) : EReal := ∑ d : Fin 8, (x0 (ix3 d r j) : EReal)

theorem row_ld (x0 : Vec Ideal S8x32x4096 .bf16) (r : Fin 32) (j : Fin 4096) (d : Fin 8) (n : Nat) (hn : d.val = n)
    (h : ∀ a, (![n, 0, 0] : Fin 3 → Nat) a + S1x32x4096.size a ≤ S8x32x4096.size a) :
    shapeCast S32x4096 (View.ld x0 (Rect.unit (s := S8x32x4096) ![n, 0, 0] S1x32x4096.size h)) shapeCasts_S1x32x4096_S32x4096 (ix2 r j) = x0 (ix3 d r j) := by
  subst hn
  refine (shapeCast_1ab_ab_apply ..).trans ?_
  refine (show x0 _ = x0 _ from congrArg x0 (funext fun a => Fin.ext ?_))
  match a with
  | ⟨0, _⟩ => show d.val + 1 * 0 = d.val; omega
  | ⟨1, _⟩ => show 0 + 1 * r.val = r.val; omega
  | ⟨2, _⟩ => show 0 + 1 * j.val = j.val; omega

theorem pay4_ld (x0 : Vec Ideal S8x32x4096 .bf16) (r : Fin 32) (j : Fin 4096) :
    k0_pay4 (F := Ideal) (View.ld x0 (Rect.unit (s := S8x32x4096) ![0, 0, 0] S1x32x4096.size inb_S8x32x4096_S1x32x4096_0_0_0)) (View.ld x0 (Rect.unit (s := S8x32x4096) ![1, 0, 0] S1x32x4096.size inb_S8x32x4096_S1x32x4096_1_0_0)) (View.ld x0 (Rect.unit (s := S8x32x4096) ![2, 0, 0] S1x32x4096.size inb_S8x32x4096_S1x32x4096_2_0_0)) (View.ld x0 (Rect.unit (s := S8x32x4096) ![3, 0, 0] S1x32x4096.size inb_S8x32x4096_S1x32x4096_3_0_0)) (View.ld x0 (Rect.unit (s := S8x32x4096) ![4, 0, 0] S1x32x4096.size inb_S8x32x4096_S1x32x4096_4_0_0)) (View.ld x0 (Rect.unit (s := S8x32x4096) ![5, 0, 0] S1x32x4096.size inb_S8x32x4096_S1x32x4096_5_0_0)) (View.ld x0 (Rect.unit (s := S8x32x4096) ![6, 0, 0] S1x32x4096.size inb_S8x32x4096_S1x32x4096_6_0_0)) (View.ld x0 (Rect.unit (s := S8x32x4096) ![7, 0, 0] S1x32x4096.size inb_S8x32x4096_S1x32x4096_7_0_0)) (ix2 r j) = grad x0 r j := by
  unfold k0_pay4 grad
  rw [Fin.sum_univ_eight]
  exact congrArg₂ (· + ·) (congrArg₂ (· + ·) (congrArg₂ (· + ·) (congrArg₂ (· + ·) (congrArg₂ (· + ·) (congrArg₂ (· + ·) (congrArg₂ (· + ·) (row_ld x0 r j 0 0 rfl _) (row_ld x0 r j 1 1 rfl _)) (row_ld x0 r j 2 2 rfl _)) (row_ld x0 r j 3 3 rfl _)) (row_ld x0 r j 4 4 rfl _)) (row_ld x0 r j 5 5 rfl _)) (row_ld x0 r j 6 6 rfl _)) (row_ld x0 r j 7 7 rfl _)

theorem out4_apply (x0 : Vec Ideal S8x32x4096 .bf16) (x1 x2 x3 : Vec Ideal S32x4096 .f32) (r : Fin 32) (j : Fin 4096) :
    out0_4 (F := Ideal) x0 x1 x2 x3 (ix2 r j) = grad x0 r j := by
  unfold out0_4
  rw [View.canon_unit_zero (S := S32x4096) hz2]
  unfold k0_pay5
  exact pay4_ld x0 r j

theorem out5_apply (x0 : Vec Ideal S8x32x4096 .bf16) (x1 x2 x3 : Vec Ideal S32x4096 .f32) (r : Fin 32) (j : Fin 4096) :
    out0_5 (F := Ideal) x0 x1 x2 x3 (ix2 r j) = delta (grad x0 r j) (x1 (ix2 r j)) (x2 (ix2 r j)) (x3 (ix2 r j)) := by
  unfold out0_5
  rw [View.canon_unit_zero (S := S32x4096) hz2]
  unfold k0_pay5
  simp only [View.ld_unit_zero (S := S32x4096) hz2]
  show delta (k0_pay4 (F := Ideal) _ _ _ _ _ _ _ _ (ix2 r j)) _ _ _ = _
  rw [pay4_ld]

theorem out6_apply (x0 : Vec Ideal S8x32x4096 .bf16) (x1 x2 x3 : Vec Ideal S32x4096 .f32) (r : Fin 32) (j : Fin 4096) :
    out0_6 (F := Ideal) x0 x1 x2 x3 (ix2 r j) = newM (grad x0 r j) (x2 (ix2 r j)) := by
  unfold out0_6
  rw [View.canon_unit_zero (S := S32x4096) hz2]
  unfold k0_pay5
  simp only [View.ld_unit_zero (S := S32x4096) hz2]
  show newM (k0_pay4 (F := Ideal) _ _ _ _ _ _ _ _ (ix2 r j)) _ = _
  rw [pay4_ld]

theorem out7_apply (x0 : Vec Ideal S8x32x4096 .bf16) (x1 x2 x3 : Vec Ideal S32x4096 .f32) (r : Fin 32) (j : Fin 4096) :
    out0_7 (F := Ideal) x0 x1 x2 x3 (ix2 r j) = newV (grad x0 r j) (x3 (ix2 r j)) := by
  unfold out0_7
  rw [View.canon_unit_zero (S := S32x4096) hz2]
  unfold k0_pay5
  simp only [View.ld_unit_zero (S := S32x4096) hz2]
  show newV (k0_pay4 (F := Ideal) _ _ _ _ _ _ _ _ (ix2 r j)) _ = _
  rw [pay4_ld]

/-! ## The arrays -/

variable (m : (ℓ : Loc nD τ sig) → Buf (Elt Ideal) ℓ) (c : Dev nD)

abbrev a0 : (⟨S8x1376x4096, .bf16⟩ : BufTy).Contents (Elt Ideal) := m ((c : Thread nD τ).loc main_arg0)
abbrev a1 : (⟨S1376x4096, .f32⟩ : BufTy).Contents (Elt Ideal) := m ((c : Thread nD τ).loc main_arg1)
abbrev a2 : (⟨S1376x4096, .f32⟩ : BufTy).Contents (Elt Ideal) := m ((c : Thread nD τ).loc main_arg2)
abbrev a3 : (⟨S1376x4096, .f32⟩ : BufTy).Contents (Elt Ideal) := m ((c : Thread nD τ).loc main_arg3)

theorem index_0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem index_1 : ∀ t : Fin cfg0.N, win0_1.index t 0 = t.val ∧ win0_1.index t 1 = 0 :=
  (by decide +kernel : ∀ t : Fin grid0.N, win0_1.index t 0 = t.val ∧ win0_1.index t 1 = 0)
theorem index_2 : ∀ t : Fin cfg0.N, win0_2.index t 0 = t.val ∧ win0_2.index t 1 = 0 :=
  (by decide +kernel : ∀ t : Fin grid0.N, win0_2.index t 0 = t.val ∧ win0_2.index t 1 = 0)
theorem index_3 : ∀ t : Fin cfg0.N, win0_3.index t 0 = t.val ∧ win0_3.index t 1 = 0 :=
  (by decide +kernel : ∀ t : Fin grid0.N, win0_3.index t 0 = t.val ∧ win0_3.index t 1 = 0)
theorem index_4 : ∀ t : Fin cfg0.N, win0_4.index t 0 = t.val ∧ win0_4.index t 1 = 0 :=
  (by decide +kernel : ∀ t : Fin grid0.N, win0_4.index t 0 = t.val ∧ win0_4.index t 1 = 0)
theorem index_5 : ∀ t : Fin cfg0.N, win0_5.index t 0 = t.val ∧ win0_5.index t 1 = 0 :=
  (by decide +kernel : ∀ t : Fin grid0.N, win0_5.index t 0 = t.val ∧ win0_5.index t 1 = 0)
theorem index_6 : ∀ t : Fin cfg0.N, win0_6.index t 0 = t.val ∧ win0_6.index t 1 = 0 :=
  (by decide +kernel : ∀ t : Fin grid0.N, win0_6.index t 0 = t.val ∧ win0_6.index t 1 = 0)
theorem index_7 : ∀ t : Fin cfg0.N, win0_7.index t 0 = t.val ∧ win0_7.index t 1 = 0 :=
  (by decide +kernel : ∀ t : Fin grid0.N, win0_7.index t 0 = t.val ∧ win0_7.index t 1 = 0)

theorem lt (t : Fin cfg0.N) : t.val < 43 := t.isLt
def rowAt (t : Fin cfg0.N) (r : Fin 32) : Fin 1376 := ⟨t.val * 32 + r.val, by have := lt t; omega⟩

theorem blk0 (t : Fin cfg0.N) (d : Fin 8) (r : Fin 32) (j : Fin 4096) :
    (iblk m c 0 t : Vec Ideal S8x32x4096 .bf16) (ix3 d r j) = a0 m c (ix3 d (rowAt t r) j) := by
  unfold iblk
  rw [View.read_apply]
  show V m c main_arg0 _ = _
  rw [V_main_arg0]
  refine congrArg (a0 m c) (funext fun a => Fin.ext ?_)
  match a with
  | ⟨0, _⟩ => show win0_0.index t 0 * 8 + 1 * d.val = d.val; rw [(index_0 t).1]; omega
  | ⟨1, _⟩ => show win0_0.index t 1 * 32 + 1 * r.val = t.val * 32 + r.val; rw [(index_0 t).2.1]; omega
  | ⟨2, _⟩ => show win0_0.index t 2 * 4096 + 1 * j.val = j.val; rw [(index_0 t).2.2]; omega
theorem blk1 (t : Fin cfg0.N) (r : Fin 32) (j : Fin 4096) :
    (iblk m c 1 t : Vec Ideal S32x4096 .f32) (ix2 r j) = a1 m c (ix2 (rowAt t r) j) := by
  unfold iblk
  rw [View.read_apply]
  show V m c main_arg1 _ = _
  rw [V_main_arg1]
  refine congrArg (a1 m c) (funext fun a => Fin.ext ?_)
  match a with
  | ⟨0, _⟩ => show win0_1.index t 0 * 32 + 1 * r.val = t.val * 32 + r.val; rw [(index_1 t).1]; omega
  | ⟨1, _⟩ => show win0_1.index t 1 * 4096 + 1 * j.val = j.val; rw [(index_1 t).2]; omega
theorem blk2 (t : Fin cfg0.N) (r : Fin 32) (j : Fin 4096) :
    (iblk m c 2 t : Vec Ideal S32x4096 .f32) (ix2 r j) = a2 m c (ix2 (rowAt t r) j) := by
  unfold iblk
  rw [View.read_apply]
  show V m c main_arg2 _ = _
  rw [V_main_arg2]
  refine congrArg (a2 m c) (funext fun a => Fin.ext ?_)
  match a with
  | ⟨0, _⟩ => show win0_2.index t 0 * 32 + 1 * r.val = t.val * 32 + r.val; rw [(index_2 t).1]; omega
  | ⟨1, _⟩ => show win0_2.index t 1 * 4096 + 1 * j.val = j.val; rw [(index_2 t).2]; omega
theorem blk3 (t : Fin cfg0.N) (r : Fin 32) (j : Fin 4096) :
    (iblk m c 3 t : Vec Ideal S32x4096 .f32) (ix2 r j) = a3 m c (ix2 (rowAt t r) j) := by
  unfold iblk
  rw [View.read_apply]
  show V m c main_arg3 _ = _
  rw [V_main_arg3]
  refine congrArg (a3 m c) (funext fun a => Fin.ext ?_)
  match a with
  | ⟨0, _⟩ => show win0_3.index t 0 * 32 + 1 * r.val = t.val * 32 + r.val; rw [(index_3 t).1]; omega
  | ⟨1, _⟩ => show win0_3.index t 1 * 4096 + 1 * j.val = j.val; rw [(index_3 t).2]; omega

theorem grad_blk (t : Fin cfg0.N) (r : Fin 32) (j : Fin 4096) :
    grad (iblk m c 0 t) r j = gradAt (a0 m c) (ix2 (rowAt t r) j) :=
  Finset.sum_congr rfl fun d _ => blk0 m c t d r j

/-- The point whose block holds an index of a result. -/
def pointOf (i : S1376x4096.Idx) : Fin cfg0.N :=
  ⟨(i 0).val / 32, by
    have h0 : (i 0).val < 1376 := (i 0).isLt
    show _ < 43; omega⟩

theorem flushed_4 (t : Fin cfg0.N) : (dats m 0 c).flushed 4 t = ((cfg0.win 4).blk t).view.read (Elt Ideal) (out4 (a0 m c) (a1 m c) (a2 m c) (a3 m c)) := by
  rw [flushed4]
  funext y
  obtain ⟨r, j, rfl⟩ : ∃ (r : Fin 32) (j : Fin 4096), y = ix2 r j := ⟨_, _, eq_ix2 y⟩
  rw [View.read_apply]
  refine (out4_apply ..).trans ?_
  show grad (iblk m c 0 t) r j = _
  rw [grad_blk]
  refine (show _ = out4 (a0 m c) (a1 m c) (a2 m c) (a3 m c) (ix2 (rowAt t r) j) from rfl).trans ?_
  refine congrArg (out4 (a0 m c) (a1 m c) (a2 m c) (a3 m c)) (funext fun a => Fin.ext ?_)
  match a with
  | ⟨0, _⟩ => show t.val * 32 + r.val = win0_4.index t 0 * 32 + 1 * r.val; rw [(index_4 t).1]; omega
  | ⟨1, _⟩ => show j.val = win0_4.index t 1 * 4096 + 1 * j.val; rw [(index_4 t).2]; omega

theorem final_4 : (dats m 0 c).arrAt 4 cfg0.N = out4 (a0 m c) (a1 m c) (a2 m c) (a3 m c) :=
  (dats m 0 c).arrAt_eq_of_cover 4 (out4 (a0 m c) (a1 m c) (a2 m c) (a3 m c)) (fun t _ => flushed_4 m c t) fun i => ⟨pointOf i, flush0_4 _, by
    have h0 : (i 0).val < 1376 := (i 0).isLt
    have h1 : (i 1).val < 4096 := (i 1).isLt
    show i ∈ ((View.whole main_v0_0).slice (win0_4.rect (pointOf i))).set
    rw [View.set_slice_whole, Rect.mem_set_unit]
    have hp : (pointOf i).val = (i 0).val / 32 := rfl
    intro a
    match a with
    | ⟨0, _⟩ => show win0_4.index (pointOf i) 0 * 32 ≤ (i 0 : Nat) ∧ (i 0 : Nat) < win0_4.index (pointOf i) 0 * 32 + 32
                rw [(index_4 _).1, hp]; omega
    | ⟨1, _⟩ => show win0_4.index (pointOf i) 1 * 4096 ≤ (i 1 : Nat) ∧ (i 1 : Nat) < win0_4.index (pointOf i) 1 * 4096 + 4096
                rw [(index_4 _).2]; omega⟩

theorem flushed_5 (t : Fin cfg0.N) : (dats m 0 c).flushed 5 t = ((cfg0.win 5).blk t).view.read (Elt Ideal) (out5 (a0 m c) (a1 m c) (a2 m c) (a3 m c)) := by
  rw [flushed5]
  funext y
  obtain ⟨r, j, rfl⟩ : ∃ (r : Fin 32) (j : Fin 4096), y = ix2 r j := ⟨_, _, eq_ix2 y⟩
  rw [View.read_apply]
  refine (out5_apply ..).trans ?_
  show delta (grad (iblk m c 0 t) r j) ((iblk m c 1 t : Vec Ideal S32x4096 .f32) (ix2 r j)) ((iblk m c 2 t : Vec Ideal S32x4096 .f32) (ix2 r j)) ((iblk m c 3 t : Vec Ideal S32x4096 .f32) (ix2 r j)) = _
  rw [grad_blk, blk1, blk2, blk3]
  refine (show _ = out5 (a0 m c) (a1 m c) (a2 m c) (a3 m c) (ix2 (rowAt t r) j) from rfl).trans ?_
  refine congrArg (out5 (a0 m c) (a1 m c) (a2 m c) (a3 m c)) (funext fun a => Fin.ext ?_)
  match a with
  | ⟨0, _⟩ => show t.val * 32 + r.val = win0_5.index t 0 * 32 + 1 * r.val; rw [(index_5 t).1]; omega
  | ⟨1, _⟩ => show j.val = win0_5.index t 1 * 4096 + 1 * j.val; rw [(index_5 t).2]; omega

theorem final_5 : (dats m 0 c).arrAt 5 cfg0.N = out5 (a0 m c) (a1 m c) (a2 m c) (a3 m c) :=
  (dats m 0 c).arrAt_eq_of_cover 5 (out5 (a0 m c) (a1 m c) (a2 m c) (a3 m c)) (fun t _ => flushed_5 m c t) fun i => ⟨pointOf i, flush0_5 _, by
    have h0 : (i 0).val < 1376 := (i 0).isLt
    have h1 : (i 1).val < 4096 := (i 1).isLt
    show i ∈ ((View.whole main_v0_1).slice (win0_5.rect (pointOf i))).set
    rw [View.set_slice_whole, Rect.mem_set_unit]
    have hp : (pointOf i).val = (i 0).val / 32 := rfl
    intro a
    match a with
    | ⟨0, _⟩ => show win0_5.index (pointOf i) 0 * 32 ≤ (i 0 : Nat) ∧ (i 0 : Nat) < win0_5.index (pointOf i) 0 * 32 + 32
                rw [(index_5 _).1, hp]; omega
    | ⟨1, _⟩ => show win0_5.index (pointOf i) 1 * 4096 ≤ (i 1 : Nat) ∧ (i 1 : Nat) < win0_5.index (pointOf i) 1 * 4096 + 4096
                rw [(index_5 _).2]; omega⟩

theorem flushed_6 (t : Fin cfg0.N) : (dats m 0 c).flushed 6 t = ((cfg0.win 6).blk t).view.read (Elt Ideal) (out6 (a0 m c) (a1 m c) (a2 m c) (a3 m c)) := by
  rw [flushed6]
  funext y
  obtain ⟨r, j, rfl⟩ : ∃ (r : Fin 32) (j : Fin 4096), y = ix2 r j := ⟨_, _, eq_ix2 y⟩
  rw [View.read_apply]
  refine (out6_apply ..).trans ?_
  show newM (grad (iblk m c 0 t) r j) ((iblk m c 2 t : Vec Ideal S32x4096 .f32) (ix2 r j)) = _
  rw [grad_blk, blk2]
  refine (show _ = out6 (a0 m c) (a1 m c) (a2 m c) (a3 m c) (ix2 (rowAt t r) j) from rfl).trans ?_
  refine congrArg (out6 (a0 m c) (a1 m c) (a2 m c) (a3 m c)) (funext fun a => Fin.ext ?_)
  match a with
  | ⟨0, _⟩ => show t.val * 32 + r.val = win0_6.index t 0 * 32 + 1 * r.val; rw [(index_6 t).1]; omega
  | ⟨1, _⟩ => show j.val = win0_6.index t 1 * 4096 + 1 * j.val; rw [(index_6 t).2]; omega

theorem final_6 : (dats m 0 c).arrAt 6 cfg0.N = out6 (a0 m c) (a1 m c) (a2 m c) (a3 m c) :=
  (dats m 0 c).arrAt_eq_of_cover 6 (out6 (a0 m c) (a1 m c) (a2 m c) (a3 m c)) (fun t _ => flushed_6 m c t) fun i => ⟨pointOf i, flush0_6 _, by
    have h0 : (i 0).val < 1376 := (i 0).isLt
    have h1 : (i 1).val < 4096 := (i 1).isLt
    show i ∈ ((View.whole main_v0_2).slice (win0_6.rect (pointOf i))).set
    rw [View.set_slice_whole, Rect.mem_set_unit]
    have hp : (pointOf i).val = (i 0).val / 32 := rfl
    intro a
    match a with
    | ⟨0, _⟩ => show win0_6.index (pointOf i) 0 * 32 ≤ (i 0 : Nat) ∧ (i 0 : Nat) < win0_6.index (pointOf i) 0 * 32 + 32
                rw [(index_6 _).1, hp]; omega
    | ⟨1, _⟩ => show win0_6.index (pointOf i) 1 * 4096 ≤ (i 1 : Nat) ∧ (i 1 : Nat) < win0_6.index (pointOf i) 1 * 4096 + 4096
                rw [(index_6 _).2]; omega⟩

theorem flushed_7 (t : Fin cfg0.N) : (dats m 0 c).flushed 7 t = ((cfg0.win 7).blk t).view.read (Elt Ideal) (out7 (a0 m c) (a1 m c) (a2 m c) (a3 m c)) := by
  rw [flushed7]
  funext y
  obtain ⟨r, j, rfl⟩ : ∃ (r : Fin 32) (j : Fin 4096), y = ix2 r j := ⟨_, _, eq_ix2 y⟩
  rw [View.read_apply]
  refine (out7_apply ..).trans ?_
  show newV (grad (iblk m c 0 t) r j) ((iblk m c 3 t : Vec Ideal S32x4096 .f32) (ix2 r j)) = _
  rw [grad_blk, blk3]
  refine (show _ = out7 (a0 m c) (a1 m c) (a2 m c) (a3 m c) (ix2 (rowAt t r) j) from rfl).trans ?_
  refine congrArg (out7 (a0 m c) (a1 m c) (a2 m c) (a3 m c)) (funext fun a => Fin.ext ?_)
  match a with
  | ⟨0, _⟩ => show t.val * 32 + r.val = win0_7.index t 0 * 32 + 1 * r.val; rw [(index_7 t).1]; omega
  | ⟨1, _⟩ => show j.val = win0_7.index t 1 * 4096 + 1 * j.val; rw [(index_7 t).2]; omega

theorem final_7 : (dats m 0 c).arrAt 7 cfg0.N = out7 (a0 m c) (a1 m c) (a2 m c) (a3 m c) :=
  (dats m 0 c).arrAt_eq_of_cover 7 (out7 (a0 m c) (a1 m c) (a2 m c) (a3 m c)) (fun t _ => flushed_7 m c t) fun i => ⟨pointOf i, flush0_7 _, by
    have h0 : (i 0).val < 1376 := (i 0).isLt
    have h1 : (i 1).val < 4096 := (i 1).isLt
    show i ∈ ((View.whole main_v0_3).slice (win0_7.rect (pointOf i))).set
    rw [View.set_slice_whole, Rect.mem_set_unit]
    have hp : (pointOf i).val = (i 0).val / 32 := rfl
    intro a
    match a with
    | ⟨0, _⟩ => show win0_7.index (pointOf i) 0 * 32 ≤ (i 0 : Nat) ∧ (i 0 : Nat) < win0_7.index (pointOf i) 0 * 32 + 32
                rw [(index_7 _).1, hp]; omega
    | ⟨1, _⟩ => show win0_7.index (pointOf i) 1 * 4096 ≤ (i 1 : Nat) ∧ (i 1 : Nat) < win0_7.index (pointOf i) 1 * 4096 + 4096
                rw [(index_7 _).2]; omega⟩

end Cert.FfnUpdateIdeal.Value

namespace Cert.FfnUpdateRefIdeal.Value

open Cert.FfnUpdateRefIdeal Cert.FfnUpdateRefIdeal.Read

variable (x0 : (⟨S8x1376x4096, .bf16⟩ : BufTy).Contents (Elt Ideal)) (x1 x2 x3 : (⟨S1376x4096, .f32⟩ : BufTy).Contents (Elt Ideal)) (i : S1376x4096.Idx)

theorem grad_eq : val_main_v1 (F := Ideal) x0 i = Cert.FfnUpdateIdeal.Value.gradAt x0 i := by
  rw [val_main_v1_apply]
  refine (congrArg (· + _) (show val_main_cst (F := Ideal) (_) = (0 : EReal) from zero_f32)).trans ?_
  rw [zero_add]
  refine Finset.sum_congr rfl fun d _ => (show x0 _ = x0 _ from congrArg x0 (funext fun a => Fin.ext ?_))
  match a with
  | ⟨0, _⟩ => rfl
  | ⟨1, _⟩ => rfl
  | ⟨2, _⟩ => rfl
theorem newM_eq : val_main_v6 (F := Ideal) x0 x2 i = Cert.FfnUpdateIdeal.Value.out6 x0 x1 x2 x3 i := by
  show newM (val_main_v1 (F := Ideal) x0 i) (x2 i) = newM _ _
  rw [grad_eq]
theorem newV_eq : val_main_v12 (F := Ideal) x0 x3 i = Cert.FfnUpdateIdeal.Value.out7 x0 x1 x2 x3 i := by
  show newV (val_main_v1 (F := Ideal) x0 i) (x3 i) = newV _ _
  rw [grad_eq]
theorem delta_eq : val_main_v25 (F := Ideal) x0 x1 x2 x3 i = Cert.FfnUpdateIdeal.Value.out5 x0 x1 x2 x3 i := by
  show delta (val_main_v1 (F := Ideal) x0 i) (x1 i) (x2 i) (x3 i) = delta _ _ _ _
  rw [grad_eq]

/-- The reference runs to its end. -/
theorem frame : Cert.quiescent_FfnUpdateRefIdeal := fun m g _ =>
  (θ_run Cert.FfnUpdateRefIdeal.defs _ _).mono (fun r h => ⟨fun c => (h c).2.2.2.2, Idealize.ShloMosaic.sem_eq_zero_of_no_sems (by decide) r.2⟩)
    (Cert.FfnUpdateRefIdeal.Value.run (F := Ideal) m g)

/-- The kernel computes what the reference computes. -/
theorem algebraic : Cert.algebraic_FfnUpdateIdeal_FfnUpdateRefIdeal := by
  intro m g m' g' _ hargs
  refine ⟨fun c => Cert.FfnUpdateIdeal.Value.out4 (Cert.FfnUpdateIdeal.Value.a0 m c) (Cert.FfnUpdateIdeal.Value.a1 m c) (Cert.FfnUpdateIdeal.Value.a2 m c) (Cert.FfnUpdateIdeal.Value.a3 m c),
    fun c => Cert.FfnUpdateIdeal.Value.out5 (Cert.FfnUpdateIdeal.Value.a0 m c) (Cert.FfnUpdateIdeal.Value.a1 m c) (Cert.FfnUpdateIdeal.Value.a2 m c) (Cert.FfnUpdateIdeal.Value.a3 m c),
    fun c => Cert.FfnUpdateIdeal.Value.out6 (Cert.FfnUpdateIdeal.Value.a0 m c) (Cert.FfnUpdateIdeal.Value.a1 m c) (Cert.FfnUpdateIdeal.Value.a2 m c) (Cert.FfnUpdateIdeal.Value.a3 m c),
    fun c => Cert.FfnUpdateIdeal.Value.out7 (Cert.FfnUpdateIdeal.Value.a0 m c) (Cert.FfnUpdateIdeal.Value.a1 m c) (Cert.FfnUpdateIdeal.Value.a2 m c) (Cert.FfnUpdateIdeal.Value.a3 m c), ?_, ?_⟩
  · refine (θ_run Cert.FfnUpdateIdeal.defs _ _).mono (fun r h c => ?_) (Cert.FfnUpdateIdeal.Value.run_blocks (F := Ideal) m g)
    obtain ⟨h4, h5, h6, h7, h⟩ := h c
    exact ⟨h4.trans (Cert.FfnUpdateIdeal.Value.final_4 m c), h5.trans (Cert.FfnUpdateIdeal.Value.final_5 m c), h6.trans (Cert.FfnUpdateIdeal.Value.final_6 m c), h7.trans (Cert.FfnUpdateIdeal.Value.final_7 m c), h⟩
  · refine (θ_run Cert.FfnUpdateRefIdeal.defs _ _).mono (fun r h c => ?_) (Cert.FfnUpdateRefIdeal.Value.run (F := Ideal) m' g')
    obtain ⟨h4, h5, h6, h7, h⟩ := h c
    obtain ⟨e0, e1, e2, e3⟩ := hargs c
    refine ⟨h4.trans ?_, h5.trans ?_, h6.trans ?_, h7.trans ?_, h⟩
    · refine (val_main_v1_eq _).trans ?_
      rw [e0]; funext i; exact grad_eq _ i
    · refine (val_main_v25_eq _ _ _ _).trans ?_
      rw [e0, e1, e2, e3]; funext i; exact delta_eq _ _ _ _ i
    · refine (val_main_v6_eq _ _).trans ?_
      rw [e0, e2]; funext i; exact newM_eq _ (Cert.FfnUpdateIdeal.Value.a1 m c) _ (Cert.FfnUpdateIdeal.Value.a3 m c) i
    · refine (val_main_v12_eq _ _).trans ?_
      rw [e0, e3]; funext i; exact newV_eq _ (Cert.FfnUpdateIdeal.Value.a1 m c) (Cert.FfnUpdateIdeal.Value.a2 m c) _ i

end Cert.FfnUpdateRefIdeal.Value

end
-- ==== Proof.OutUpdateValue.lean ====
/-
  The update of the output projection: the four results of the kernel over the extended reals, and that the reference leaves the same.
-/
module

public import proofs.«01_k».proof.Defs
public import proofs.«01_k».proof.Proof.UpdateCommon
public import proofs.«01_k».proof.Proof.Gen.OutUpdateIdeal.Value
public import proofs.«01_k».proof.Proof.Gen.OutUpdateRefIdeal.Run
public import proofs.«01_k».proof.Proof.Gen.OutUpdateRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Common Cert.UpdateCommon

namespace Cert.OutUpdateIdeal.Value

open Cert.OutUpdateIdeal Cert.OutUpdateIdeal.Gen

def gradAt (x0 : (⟨S8x512x4096, .bf16⟩ : BufTy).Contents (Elt Ideal)) : S512x4096.Idx → EReal := fun i => ∑ d : Fin 8, (x0 (ix3 d (i 0) (i 1)) : EReal)
def out4 (x0 : (⟨S8x512x4096, .bf16⟩ : BufTy).Contents (Elt Ideal)) (x1 x2 x3 : (⟨S512x4096, .f32⟩ : BufTy).Contents (Elt Ideal)) : S512x4096.Idx → EReal := gradAt x0
def out5 (x0 : (⟨S8x512x4096, .bf16⟩ : BufTy).Contents (Elt Ideal)) (x1 x2 x3 : (⟨S512x4096, .f32⟩ : BufTy).Contents (Elt Ideal)) : S512x4096.Idx → EReal := fun i => delta (gradAt x0 i) (x1 i) (x2 i) (x3 i)
def out6 (x0 : (⟨S8x512x4096, .bf16⟩ : BufTy).Contents (Elt Ideal)) (x1 x2 x3 : (⟨S512x4096, .f32⟩ : BufTy).Contents (Elt Ideal)) : S512x4096.Idx → EReal := fun i => newM (gradAt x0 i) (x2 i)
def out7 (x0 : (⟨S8x512x4096, .bf16⟩ : BufTy).Contents (Elt Ideal)) (x1 x2 x3 : (⟨S512x4096, .f32⟩ : BufTy).Contents (Elt Ideal)) : S512x4096.Idx → EReal := fun i => newV (gradAt x0 i) (x3 i)

/-! ## One block -/

def grad (x0 : Vec Ideal S8x128x4096 .bf16) (r : Fin 128) (j : Fin 4096) : EReal := ∑ d : Fin 8, (x0 (ix3 d r j) : EReal)

theorem row_ld (x0 : Vec Ideal S8x128x4096 .bf16) (r : Fin 128) (j : Fin 4096) (d : Fin 8) (n : Nat) (hn : d.val = n)
    (h : ∀ a, (![n, 0, 0] : Fin 3 → Nat) a + S1x128x4096.size a ≤ S8x128x4096.size a) :
    shapeCast S128x4096 (View.ld x0 (Rect.unit (s := S8x128x4096) ![n, 0, 0] S1x128x4096.size h)) shapeCasts_S1x128x4096_S128x4096 (ix2 r j) = x0 (ix3 d r j) := by
  subst hn
  refine (shapeCast_1ab_ab_apply ..).trans ?_
  refine (show x0 _ = x0 _ from congrArg x0 (funext fun a => Fin.ext ?_))
  match a with
  | ⟨0, _⟩ => show d.val + 1 * 0 = d.val; omega
  | ⟨1, _⟩ => show 0 + 1 * r.val = r.val; omega
  | ⟨2, _⟩ => show 0 + 1 * j.val = j.val; omega

theorem pay4_ld (x0 : Vec Ideal S8x128x4096 .bf16) (r : Fin 128) (j : Fin 4096) :
    k0_pay4 (F := Ideal) (View.ld x0 (Rect.unit (s := S8x128x4096) ![0, 0, 0] S1x128x4096.size inb_S8x128x4096_S1x128x4096_0_0_0)) (View.ld x0 (Rect.unit (s := S8x128x4096) ![1, 0, 0] S1x128x4096.size inb_S8x128x4096_S1x128x4096_1_0_0)) (View.ld x0 (Rect.unit (s := S8x128x4096) ![2, 0, 0] S1x128x4096.size inb_S8x128x4096_S1x128x4096_2_0_0)) (View.ld x0 (Rect.unit (s := S8x128x4096) ![3, 0, 0] S1x128x4096.size inb_S8x128x4096_S1x128x4096_3_0_0)) (View.ld x0 (Rect.unit (s := S8x128x4096) ![4, 0, 0] S1x128x4096.size inb_S8x128x4096_S1x128x4096_4_0_0)) (View.ld x0 (Rect.unit (s := S8x128x4096) ![5, 0, 0] S1x128x4096.size inb_S8x128x4096_S1x128x4096_5_0_0)) (View.ld x0 (Rect.unit (s := S8x128x4096) ![6, 0, 0] S1x128x4096.size inb_S8x128x4096_S1x128x4096_6_0_0)) (View.ld x0 (Rect.unit (s := S8x128x4096) ![7, 0, 0] S1x128x4096.size inb_S8x128x4096_S1x128x4096_7_0_0)) (ix2 r j) = grad x0 r j := by
  unfold k0_pay4 grad
  rw [Fin.sum_univ_eight]
  exact congrArg₂ (· + ·) (congrArg₂ (· + ·) (congrArg₂ (· + ·) (congrArg₂ (· + ·) (congrArg₂ (· + ·) (congrArg₂ (· + ·) (congrArg₂ (· + ·) (row_ld x0 r j 0 0 rfl _) (row_ld x0 r j 1 1 rfl _)) (row_ld x0 r j 2 2 rfl _)) (row_ld x0 r j 3 3 rfl _)) (row_ld x0 r j 4 4 rfl _)) (row_ld x0 r j 5 5 rfl _)) (row_ld x0 r j 6 6 rfl _)) (row_ld x0 r j 7 7 rfl _)

theorem out4_apply (x0 : Vec Ideal S8x128x4096 .bf16) (x1 x2 x3 : Vec Ideal S128x4096 .f32) (r : Fin 128) (j : Fin 4096) :
    out0_4 (F := Ideal) x0 x1 x2 x3 (ix2 r j) = grad x0 r j := by
  unfold out0_4
  rw [View.canon_unit_zero (S := S128x4096) hz2]
  unfold k0_pay5
  exact pay4_ld x0 r j

theorem out5_apply (x0 : Vec Ideal S8x128x4096 .bf16) (x1 x2 x3 : Vec Ideal S128x4096 .f32) (r : Fin 128) (j : Fin 4096) :
    out0_5 (F := Ideal) x0 x1 x2 x3 (ix2 r j) = delta (grad x0 r j) (x1 (ix2 r j)) (x2 (ix2 r j)) (x3 (ix2 r j)) := by
  unfold out0_5
  rw [View.canon_unit_zero (S := S128x4096) hz2]
  unfold k0_pay5
  simp only [View.ld_unit_zero (S := S128x4096) hz2]
  show delta (k0_pay4 (F := Ideal) _ _ _ _ _ _ _ _ (ix2 r j)) _ _ _ = _
  rw [pay4_ld]

theorem out6_apply (x0 : Vec Ideal S8x128x4096 .bf16) (x1 x2 x3 : Vec Ideal S128x4096 .f32) (r : Fin 128) (j : Fin 4096) :
    out0_6 (F := Ideal) x0 x1 x2 x3 (ix2 r j) = newM (grad x0 r j) (x2 (ix2 r j)) := by
  unfold out0_6
  rw [View.canon_unit_zero (S := S128x4096) hz2]
  unfold k0_pay5
  simp only [View.ld_unit_zero (S := S128x4096) hz2]
  show newM (k0_pay4 (F := Ideal) _ _ _ _ _ _ _ _ (ix2 r j)) _ = _
  rw [pay4_ld]

theorem out7_apply (x0 : Vec Ideal S8x128x4096 .bf16) (x1 x2 x3 : Vec Ideal S128x4096 .f32) (r : Fin 128) (j : Fin 4096) :
    out0_7 (F := Ideal) x0 x1 x2 x3 (ix2 r j) = newV (grad x0 r j) (x3 (ix2 r j)) := by
  unfold out0_7
  rw [View.canon_unit_zero (S := S128x4096) hz2]
  unfold k0_pay5
  simp only [View.ld_unit_zero (S := S128x4096) hz2]
  show newV (k0_pay4 (F := Ideal) _ _ _ _ _ _ _ _ (ix2 r j)) _ = _
  rw [pay4_ld]

/-! ## The arrays -/

variable (m : (ℓ : Loc nD τ sig) → Buf (Elt Ideal) ℓ) (c : Dev nD)

abbrev a0 : (⟨S8x512x4096, .bf16⟩ : BufTy).Contents (Elt Ideal) := m ((c : Thread nD τ).loc main_arg0)
abbrev a1 : (⟨S512x4096, .f32⟩ : BufTy).Contents (Elt Ideal) := m ((c : Thread nD τ).loc main_arg1)
abbrev a2 : (⟨S512x4096, .f32⟩ : BufTy).Contents (Elt Ideal) := m ((c : Thread nD τ).loc main_arg2)
abbrev a3 : (⟨S512x4096, .f32⟩ : BufTy).Contents (Elt Ideal) := m ((c : Thread nD τ).loc main_arg3)

theorem index_0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem index_1 : ∀ t : Fin cfg0.N, win0_1.index t 0 = t.val ∧ win0_1.index t 1 = 0 :=
  (by decide +kernel : ∀ t : Fin grid0.N, win0_1.index t 0 = t.val ∧ win0_1.index t 1 = 0)
theorem index_2 : ∀ t : Fin cfg0.N, win0_2.index t 0 = t.val ∧ win0_2.index t 1 = 0 :=
  (by decide +kernel : ∀ t : Fin grid0.N, win0_2.index t 0 = t.val ∧ win0_2.index t 1 = 0)
theorem index_3 : ∀ t : Fin cfg0.N, win0_3.index t 0 = t.val ∧ win0_3.index t 1 = 0 :=
  (by decide +kernel : ∀ t : Fin grid0.N, win0_3.index t 0 = t.val ∧ win0_3.index t 1 = 0)
theorem index_4 : ∀ t : Fin cfg0.N, win0_4.index t 0 = t.val ∧ win0_4.index t 1 = 0 :=
  (by decide +kernel : ∀ t : Fin grid0.N, win0_4.index t 0 = t.val ∧ win0_4.index t 1 = 0)
theorem index_5 : ∀ t : Fin cfg0.N, win0_5.index t 0 = t.val ∧ win0_5.index t 1 = 0 :=
  (by decide +kernel : ∀ t : Fin grid0.N, win0_5.index t 0 = t.val ∧ win0_5.index t 1 = 0)
theorem index_6 : ∀ t : Fin cfg0.N, win0_6.index t 0 = t.val ∧ win0_6.index t 1 = 0 :=
  (by decide +kernel : ∀ t : Fin grid0.N, win0_6.index t 0 = t.val ∧ win0_6.index t 1 = 0)
theorem index_7 : ∀ t : Fin cfg0.N, win0_7.index t 0 = t.val ∧ win0_7.index t 1 = 0 :=
  (by decide +kernel : ∀ t : Fin grid0.N, win0_7.index t 0 = t.val ∧ win0_7.index t 1 = 0)

theorem lt (t : Fin cfg0.N) : t.val < 4 := t.isLt
def rowAt (t : Fin cfg0.N) (r : Fin 128) : Fin 512 := ⟨t.val * 128 + r.val, by have := lt t; omega⟩

theorem blk0 (t : Fin cfg0.N) (d : Fin 8) (r : Fin 128) (j : Fin 4096) :
    (iblk m c 0 t : Vec Ideal S8x128x4096 .bf16) (ix3 d r j) = a0 m c (ix3 d (rowAt t r) j) := by
  unfold iblk
  rw [View.read_apply]
  show V m c main_arg0 _ = _
  rw [V_main_arg0]
  refine congrArg (a0 m c) (funext fun a => Fin.ext ?_)
  match a with
  | ⟨0, _⟩ => show win0_0.index t 0 * 8 + 1 * d.val = d.val; rw [(index_0 t).1]; omega
  | ⟨1, _⟩ => show win0_0.index t 1 * 128 + 1 * r.val = t.val * 128 + r.val; rw [(index_0 t).2.1]; omega
  | ⟨2, _⟩ => show win0_0.index t 2 * 4096 + 1 * j.val = j.val; rw [(index_0 t).2.2]; omega
theorem blk1 (t : Fin cfg0.N) (r : Fin 128) (j : Fin 4096) :
    (iblk m c 1 t : Vec Ideal S128x4096 .f32) (ix2 r j) = a1 m c (ix2 (rowAt t r) j) := by
  unfold iblk
  rw [View.read_apply]
  show V m c main_arg1 _ = _
  rw [V_main_arg1]
  refine congrArg (a1 m c) (funext fun a => Fin.ext ?_)
  match a with
  | ⟨0, _⟩ => show win0_1.index t 0 * 128 + 1 * r.val = t.val * 128 + r.val; rw [(index_1 t).1]; omega
  | ⟨1, _⟩ => show win0_1.index t 1 * 4096 + 1 * j.val = j.val; rw [(index_1 t).2]; omega
theorem blk2 (t : Fin cfg0.N) (r : Fin 128) (j : Fin 4096) :
    (iblk m c 2 t : Vec Ideal S128x4096 .f32) (ix2 r j) = a2 m c (ix2 (rowAt t r) j) := by
  unfold iblk
  rw [View.read_apply]
  show V m c main_arg2 _ = _
  rw [V_main_arg2]
  refine congrArg (a2 m c) (funext fun a => Fin.ext ?_)
  match a with
  | ⟨0, _⟩ => show win0_2.index t 0 * 128 + 1 * r.val = t.val * 128 + r.val; rw [(index_2 t).1]; omega
  | ⟨1, _⟩ => show win0_2.index t 1 * 4096 + 1 * j.val = j.val; rw [(index_2 t).2]; omega
theorem blk3 (t : Fin cfg0.N) (r : Fin 128) (j : Fin 4096) :
    (iblk m c 3 t : Vec Ideal S128x4096 .f32) (ix2 r j) = a3 m c (ix2 (rowAt t r) j) := by
  unfold iblk
  rw [View.read_apply]
  show V m c main_arg3 _ = _
  rw [V_main_arg3]
  refine congrArg (a3 m c) (funext fun a => Fin.ext ?_)
  match a with
  | ⟨0, _⟩ => show win0_3.index t 0 * 128 + 1 * r.val = t.val * 128 + r.val; rw [(index_3 t).1]; omega
  | ⟨1, _⟩ => show win0_3.index t 1 * 4096 + 1 * j.val = j.val; rw [(index_3 t).2]; omega

theorem grad_blk (t : Fin cfg0.N) (r : Fin 128) (j : Fin 4096) :
    grad (iblk m c 0 t) r j = gradAt (a0 m c) (ix2 (rowAt t r) j) :=
  Finset.sum_congr rfl fun d _ => blk0 m c t d r j

/-- The point whose block holds an index of a result. -/
def pointOf (i : S512x4096.Idx) : Fin cfg0.N :=
  ⟨(i 0).val / 128, by
    have h0 : (i 0).val < 512 := (i 0).isLt
    show _ < 4; omega⟩

theorem flushed_4 (t : Fin cfg0.N) : (dats m 0 c).flushed 4 t = ((cfg0.win 4).blk t).view.read (Elt Ideal) (out4 (a0 m c) (a1 m c) (a2 m c) (a3 m c)) := by
  rw [flushed4]
  funext y
  obtain ⟨r, j, rfl⟩ : ∃ (r : Fin 128) (j : Fin 4096), y = ix2 r j := ⟨_, _, eq_ix2 y⟩
  rw [View.read_apply]
  refine (out4_apply ..).trans ?_
  show grad (iblk m c 0 t) r j = _
  rw [grad_blk]
  refine (show _ = out4 (a0 m c) (a1 m c) (a2 m c) (a3 m c) (ix2 (rowAt t r) j) from rfl).trans ?_
  refine congrArg (out4 (a0 m c) (a1 m c) (a2 m c) (a3 m c)) (funext fun a => Fin.ext ?_)
  match a with
  | ⟨0, _⟩ => show t.val * 128 + r.val = win0_4.index t 0 * 128 + 1 * r.val; rw [(index_4 t).1]; omega
  | ⟨1, _⟩ => show j.val = win0_4.index t 1 * 4096 + 1 * j.val; rw [(index_4 t).2]; omega

theorem final_4 : (dats m 0 c).arrAt 4 cfg0.N = out4 (a0 m c) (a1 m c) (a2 m c) (a3 m c) :=
  (dats m 0 c).arrAt_eq_of_cover 4 (out4 (a0 m c) (a1 m c) (a2 m c) (a3 m c)) (fun t _ => flushed_4 m c t) fun i => ⟨pointOf i, flush0_4 _, by
    have h0 : (i 0).val < 512 := (i 0).isLt
    have h1 : (i 1).val < 4096 := (i 1).isLt
    show i ∈ ((View.whole main_v0_0).slice (win0_4.rect (pointOf i))).set
    rw [View.set_slice_whole, Rect.mem_set_unit]
    have hp : (pointOf i).val = (i 0).val / 128 := rfl
    intro a
    match a with
    | ⟨0, _⟩ => show win0_4.index (pointOf i) 0 * 128 ≤ (i 0 : Nat) ∧ (i 0 : Nat) < win0_4.index (pointOf i) 0 * 128 + 128
                rw [(index_4 _).1, hp]; omega
    | ⟨1, _⟩ => show win0_4.index (pointOf i) 1 * 4096 ≤ (i 1 : Nat) ∧ (i 1 : Nat) < win0_4.index (pointOf i) 1 * 4096 + 4096
                rw [(index_4 _).2]; omega⟩

theorem flushed_5 (t : Fin cfg0.N) : (dats m 0 c).flushed 5 t = ((cfg0.win 5).blk t).view.read (Elt Ideal) (out5 (a0 m c) (a1 m c) (a2 m c) (a3 m c)) := by
  rw [flushed5]
  funext y
  obtain ⟨r, j, rfl⟩ : ∃ (r : Fin 128) (j : Fin 4096), y = ix2 r j := ⟨_, _, eq_ix2 y⟩
  rw [View.read_apply]
  refine (out5_apply ..).trans ?_
  show delta (grad (iblk m c 0 t) r j) ((iblk m c 1 t : Vec Ideal S128x4096 .f32) (ix2 r j)) ((iblk m c 2 t : Vec Ideal S128x4096 .f32) (ix2 r j)) ((iblk m c 3 t : Vec Ideal S128x4096 .f32) (ix2 r j)) = _
  rw [grad_blk, blk1, blk2, blk3]
  refine (show _ = out5 (a0 m c) (a1 m c) (a2 m c) (a3 m c) (ix2 (rowAt t r) j) from rfl).trans ?_
  refine congrArg (out5 (a0 m c) (a1 m c) (a2 m c) (a3 m c)) (funext fun a => Fin.ext ?_)
  match a with
  | ⟨0, _⟩ => show t.val * 128 + r.val = win0_5.index t 0 * 128 + 1 * r.val; rw [(index_5 t).1]; omega
  | ⟨1, _⟩ => show j.val = win0_5.index t 1 * 4096 + 1 * j.val; rw [(index_5 t).2]; omega

theorem final_5 : (dats m 0 c).arrAt 5 cfg0.N = out5 (a0 m c) (a1 m c) (a2 m c) (a3 m c) :=
  (dats m 0 c).arrAt_eq_of_cover 5 (out5 (a0 m c) (a1 m c) (a2 m c) (a3 m c)) (fun t _ => flushed_5 m c t) fun i => ⟨pointOf i, flush0_5 _, by
    have h0 : (i 0).val < 512 := (i 0).isLt
    have h1 : (i 1).val < 4096 := (i 1).isLt
    show i ∈ ((View.whole main_v0_1).slice (win0_5.rect (pointOf i))).set
    rw [View.set_slice_whole, Rect.mem_set_unit]
    have hp : (pointOf i).val = (i 0).val / 128 := rfl
    intro a
    match a with
    | ⟨0, _⟩ => show win0_5.index (pointOf i) 0 * 128 ≤ (i 0 : Nat) ∧ (i 0 : Nat) < win0_5.index (pointOf i) 0 * 128 + 128
                rw [(index_5 _).1, hp]; omega
    | ⟨1, _⟩ => show win0_5.index (pointOf i) 1 * 4096 ≤ (i 1 : Nat) ∧ (i 1 : Nat) < win0_5.index (pointOf i) 1 * 4096 + 4096
                rw [(index_5 _).2]; omega⟩

theorem flushed_6 (t : Fin cfg0.N) : (dats m 0 c).flushed 6 t = ((cfg0.win 6).blk t).view.read (Elt Ideal) (out6 (a0 m c) (a1 m c) (a2 m c) (a3 m c)) := by
  rw [flushed6]
  funext y
  obtain ⟨r, j, rfl⟩ : ∃ (r : Fin 128) (j : Fin 4096), y = ix2 r j := ⟨_, _, eq_ix2 y⟩
  rw [View.read_apply]
  refine (out6_apply ..).trans ?_
  show newM (grad (iblk m c 0 t) r j) ((iblk m c 2 t : Vec Ideal S128x4096 .f32) (ix2 r j)) = _
  rw [grad_blk, blk2]
  refine (show _ = out6 (a0 m c) (a1 m c) (a2 m c) (a3 m c) (ix2 (rowAt t r) j) from rfl).trans ?_
  refine congrArg (out6 (a0 m c) (a1 m c) (a2 m c) (a3 m c)) (funext fun a => Fin.ext ?_)
  match a with
  | ⟨0, _⟩ => show t.val * 128 + r.val = win0_6.index t 0 * 128 + 1 * r.val; rw [(index_6 t).1]; omega
  | ⟨1, _⟩ => show j.val = win0_6.index t 1 * 4096 + 1 * j.val; rw [(index_6 t).2]; omega

theorem final_6 : (dats m 0 c).arrAt 6 cfg0.N = out6 (a0 m c) (a1 m c) (a2 m c) (a3 m c) :=
  (dats m 0 c).arrAt_eq_of_cover 6 (out6 (a0 m c) (a1 m c) (a2 m c) (a3 m c)) (fun t _ => flushed_6 m c t) fun i => ⟨pointOf i, flush0_6 _, by
    have h0 : (i 0).val < 512 := (i 0).isLt
    have h1 : (i 1).val < 4096 := (i 1).isLt
    show i ∈ ((View.whole main_v0_2).slice (win0_6.rect (pointOf i))).set
    rw [View.set_slice_whole, Rect.mem_set_unit]
    have hp : (pointOf i).val = (i 0).val / 128 := rfl
    intro a
    match a with
    | ⟨0, _⟩ => show win0_6.index (pointOf i) 0 * 128 ≤ (i 0 : Nat) ∧ (i 0 : Nat) < win0_6.index (pointOf i) 0 * 128 + 128
                rw [(index_6 _).1, hp]; omega
    | ⟨1, _⟩ => show win0_6.index (pointOf i) 1 * 4096 ≤ (i 1 : Nat) ∧ (i 1 : Nat) < win0_6.index (pointOf i) 1 * 4096 + 4096
                rw [(index_6 _).2]; omega⟩

theorem flushed_7 (t : Fin cfg0.N) : (dats m 0 c).flushed 7 t = ((cfg0.win 7).blk t).view.read (Elt Ideal) (out7 (a0 m c) (a1 m c) (a2 m c) (a3 m c)) := by
  rw [flushed7]
  funext y
  obtain ⟨r, j, rfl⟩ : ∃ (r : Fin 128) (j : Fin 4096), y = ix2 r j := ⟨_, _, eq_ix2 y⟩
  rw [View.read_apply]
  refine (out7_apply ..).trans ?_
  show newV (grad (iblk m c 0 t) r j) ((iblk m c 3 t : Vec Ideal S128x4096 .f32) (ix2 r j)) = _
  rw [grad_blk, blk3]
  refine (show _ = out7 (a0 m c) (a1 m c) (a2 m c) (a3 m c) (ix2 (rowAt t r) j) from rfl).trans ?_
  refine congrArg (out7 (a0 m c) (a1 m c) (a2 m c) (a3 m c)) (funext fun a => Fin.ext ?_)
  match a with
  | ⟨0, _⟩ => show t.val * 128 + r.val = win0_7.index t 0 * 128 + 1 * r.val; rw [(index_7 t).1]; omega
  | ⟨1, _⟩ => show j.val = win0_7.index t 1 * 4096 + 1 * j.val; rw [(index_7 t).2]; omega

theorem final_7 : (dats m 0 c).arrAt 7 cfg0.N = out7 (a0 m c) (a1 m c) (a2 m c) (a3 m c) :=
  (dats m 0 c).arrAt_eq_of_cover 7 (out7 (a0 m c) (a1 m c) (a2 m c) (a3 m c)) (fun t _ => flushed_7 m c t) fun i => ⟨pointOf i, flush0_7 _, by
    have h0 : (i 0).val < 512 := (i 0).isLt
    have h1 : (i 1).val < 4096 := (i 1).isLt
    show i ∈ ((View.whole main_v0_3).slice (win0_7.rect (pointOf i))).set
    rw [View.set_slice_whole, Rect.mem_set_unit]
    have hp : (pointOf i).val = (i 0).val / 128 := rfl
    intro a
    match a with
    | ⟨0, _⟩ => show win0_7.index (pointOf i) 0 * 128 ≤ (i 0 : Nat) ∧ (i 0 : Nat) < win0_7.index (pointOf i) 0 * 128 + 128
                rw [(index_7 _).1, hp]; omega
    | ⟨1, _⟩ => show win0_7.index (pointOf i) 1 * 4096 ≤ (i 1 : Nat) ∧ (i 1 : Nat) < win0_7.index (pointOf i) 1 * 4096 + 4096
                rw [(index_7 _).2]; omega⟩

end Cert.OutUpdateIdeal.Value

namespace Cert.OutUpdateRefIdeal.Value

open Cert.OutUpdateRefIdeal Cert.OutUpdateRefIdeal.Read

variable (x0 : (⟨S8x512x4096, .bf16⟩ : BufTy).Contents (Elt Ideal)) (x1 x2 x3 : (⟨S512x4096, .f32⟩ : BufTy).Contents (Elt Ideal)) (i : S512x4096.Idx)

theorem grad_eq : val_main_v1 (F := Ideal) x0 i = Cert.OutUpdateIdeal.Value.gradAt x0 i := by
  rw [val_main_v1_apply]
  refine (congrArg (· + _) (show val_main_cst (F := Ideal) (_) = (0 : EReal) from zero_f32)).trans ?_
  rw [zero_add]
  refine Finset.sum_congr rfl fun d _ => (show x0 _ = x0 _ from congrArg x0 (funext fun a => Fin.ext ?_))
  match a with
  | ⟨0, _⟩ => rfl
  | ⟨1, _⟩ => rfl
  | ⟨2, _⟩ => rfl
theorem newM_eq : val_main_v6 (F := Ideal) x0 x2 i = Cert.OutUpdateIdeal.Value.out6 x0 x1 x2 x3 i := by
  show newM (val_main_v1 (F := Ideal) x0 i) (x2 i) = newM _ _
  rw [grad_eq]
theorem newV_eq : val_main_v12 (F := Ideal) x0 x3 i = Cert.OutUpdateIdeal.Value.out7 x0 x1 x2 x3 i := by
  show newV (val_main_v1 (F := Ideal) x0 i) (x3 i) = newV _ _
  rw [grad_eq]
theorem delta_eq : val_main_v25 (F := Ideal) x0 x1 x2 x3 i = Cert.OutUpdateIdeal.Value.out5 x0 x1 x2 x3 i := by
  show delta (val_main_v1 (F := Ideal) x0 i) (x1 i) (x2 i) (x3 i) = delta _ _ _ _
  rw [grad_eq]

/-- The reference runs to its end. -/
theorem frame : Cert.quiescent_OutUpdateRefIdeal := fun m g _ =>
  (θ_run Cert.OutUpdateRefIdeal.defs _ _).mono (fun r h => ⟨fun c => (h c).2.2.2.2, Idealize.ShloMosaic.sem_eq_zero_of_no_sems (by decide) r.2⟩)
    (Cert.OutUpdateRefIdeal.Value.run (F := Ideal) m g)

/-- The kernel computes what the reference computes. -/
theorem algebraic : Cert.algebraic_OutUpdateIdeal_OutUpdateRefIdeal := by
  intro m g m' g' _ hargs
  refine ⟨fun c => Cert.OutUpdateIdeal.Value.out4 (Cert.OutUpdateIdeal.Value.a0 m c) (Cert.OutUpdateIdeal.Value.a1 m c) (Cert.OutUpdateIdeal.Value.a2 m c) (Cert.OutUpdateIdeal.Value.a3 m c),
    fun c => Cert.OutUpdateIdeal.Value.out5 (Cert.OutUpdateIdeal.Value.a0 m c) (Cert.OutUpdateIdeal.Value.a1 m c) (Cert.OutUpdateIdeal.Value.a2 m c) (Cert.OutUpdateIdeal.Value.a3 m c),
    fun c => Cert.OutUpdateIdeal.Value.out6 (Cert.OutUpdateIdeal.Value.a0 m c) (Cert.OutUpdateIdeal.Value.a1 m c) (Cert.OutUpdateIdeal.Value.a2 m c) (Cert.OutUpdateIdeal.Value.a3 m c),
    fun c => Cert.OutUpdateIdeal.Value.out7 (Cert.OutUpdateIdeal.Value.a0 m c) (Cert.OutUpdateIdeal.Value.a1 m c) (Cert.OutUpdateIdeal.Value.a2 m c) (Cert.OutUpdateIdeal.Value.a3 m c), ?_, ?_⟩
  · refine (θ_run Cert.OutUpdateIdeal.defs _ _).mono (fun r h c => ?_) (Cert.OutUpdateIdeal.Value.run_blocks (F := Ideal) m g)
    obtain ⟨h4, h5, h6, h7, h⟩ := h c
    exact ⟨h4.trans (Cert.OutUpdateIdeal.Value.final_4 m c), h5.trans (Cert.OutUpdateIdeal.Value.final_5 m c), h6.trans (Cert.OutUpdateIdeal.Value.final_6 m c), h7.trans (Cert.OutUpdateIdeal.Value.final_7 m c), h⟩
  · refine (θ_run Cert.OutUpdateRefIdeal.defs _ _).mono (fun r h c => ?_) (Cert.OutUpdateRefIdeal.Value.run (F := Ideal) m' g')
    obtain ⟨h4, h5, h6, h7, h⟩ := h c
    obtain ⟨e0, e1, e2, e3⟩ := hargs c
    refine ⟨h4.trans ?_, h5.trans ?_, h6.trans ?_, h7.trans ?_, h⟩
    · refine (val_main_v1_eq _).trans ?_
      rw [e0]; funext i; exact grad_eq _ i
    · refine (val_main_v25_eq _ _ _ _).trans ?_
      rw [e0, e1, e2, e3]; funext i; exact delta_eq _ _ _ _ i
    · refine (val_main_v6_eq _ _).trans ?_
      rw [e0, e2]; funext i; exact newM_eq _ (Cert.OutUpdateIdeal.Value.a1 m c) _ (Cert.OutUpdateIdeal.Value.a3 m c) i
    · refine (val_main_v12_eq _ _).trans ?_
      rw [e0, e3]; funext i; exact newV_eq _ (Cert.OutUpdateIdeal.Value.a1 m c) (Cert.OutUpdateIdeal.Value.a2 m c) _ i

end Cert.OutUpdateRefIdeal.Value

end
-- ==== Proof.InUpdateValue.lean ====
/-
  The update of the input projection: the four results of the kernel over the extended reals, and that the reference leaves the same.
-/
module

public import proofs.«01_k».proof.Defs
public import proofs.«01_k».proof.Proof.UpdateCommon
public import proofs.«01_k».proof.Proof.Gen.InUpdateIdeal.Value
public import proofs.«01_k».proof.Proof.Gen.InUpdateRefIdeal.Run
public import proofs.«01_k».proof.Proof.Gen.InUpdateRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Common Cert.UpdateCommon

namespace Cert.InUpdateIdeal.Value

open Cert.InUpdateIdeal Cert.InUpdateIdeal.Gen

def gradAt (x0 : (⟨S8x4096x1536, .bf16⟩ : BufTy).Contents (Elt Ideal)) : S4096x1536.Idx → EReal := fun i => ∑ d : Fin 8, (x0 (ix3 d (i 0) (i 1)) : EReal)
def out4 (x0 : (⟨S8x4096x1536, .bf16⟩ : BufTy).Contents (Elt Ideal)) (x1 x2 x3 : (⟨S4096x1536, .f32⟩ : BufTy).Contents (Elt Ideal)) : S4096x1536.Idx → EReal := gradAt x0
def out5 (x0 : (⟨S8x4096x1536, .bf16⟩ : BufTy).Contents (Elt Ideal)) (x1 x2 x3 : (⟨S4096x1536, .f32⟩ : BufTy).Contents (Elt Ideal)) : S4096x1536.Idx → EReal := fun i => delta (gradAt x0 i) (x1 i) (x2 i) (x3 i)
def out6 (x0 : (⟨S8x4096x1536, .bf16⟩ : BufTy).Contents (Elt Ideal)) (x1 x2 x3 : (⟨S4096x1536, .f32⟩ : BufTy).Contents (Elt Ideal)) : S4096x1536.Idx → EReal := fun i => newM (gradAt x0 i) (x2 i)
def out7 (x0 : (⟨S8x4096x1536, .bf16⟩ : BufTy).Contents (Elt Ideal)) (x1 x2 x3 : (⟨S4096x1536, .f32⟩ : BufTy).Contents (Elt Ideal)) : S4096x1536.Idx → EReal := fun i => newV (gradAt x0 i) (x3 i)

/-! ## One block -/

def grad (x0 : Vec Ideal S8x256x1536 .bf16) (r : Fin 256) (j : Fin 1536) : EReal := ∑ d : Fin 8, (x0 (ix3 d r j) : EReal)

theorem row_ld (x0 : Vec Ideal S8x256x1536 .bf16) (r : Fin 256) (j : Fin 1536) (d : Fin 8) (n : Nat) (hn : d.val = n)
    (h : ∀ a, (![n, 0, 0] : Fin 3 → Nat) a + S1x256x1536.size a ≤ S8x256x1536.size a) :
    shapeCast S256x1536 (View.ld x0 (Rect.unit (s := S8x256x1536) ![n, 0, 0] S1x256x1536.size h)) shapeCasts_S1x256x1536_S256x1536 (ix2 r j) = x0 (ix3 d r j) := by
  subst hn
  refine (shapeCast_1ab_ab_apply ..).trans ?_
  refine (show x0 _ = x0 _ from congrArg x0 (funext fun a => Fin.ext ?_))
  match a with
  | ⟨0, _⟩ => show d.val + 1 * 0 = d.val; omega
  | ⟨1, _⟩ => show 0 + 1 * r.val = r.val; omega
  | ⟨2, _⟩ => show 0 + 1 * j.val = j.val; omega

theorem pay4_ld (x0 : Vec Ideal S8x256x1536 .bf16) (r : Fin 256) (j : Fin 1536) :
    k0_pay4 (F := Ideal) (View.ld x0 (Rect.unit (s := S8x256x1536) ![0, 0, 0] S1x256x1536.size inb_S8x256x1536_S1x256x1536_0_0_0)) (View.ld x0 (Rect.unit (s := S8x256x1536) ![1, 0, 0] S1x256x1536.size inb_S8x256x1536_S1x256x1536_1_0_0)) (View.ld x0 (Rect.unit (s := S8x256x1536) ![2, 0, 0] S1x256x1536.size inb_S8x256x1536_S1x256x1536_2_0_0)) (View.ld x0 (Rect.unit (s := S8x256x1536) ![3, 0, 0] S1x256x1536.size inb_S8x256x1536_S1x256x1536_3_0_0)) (View.ld x0 (Rect.unit (s := S8x256x1536) ![4, 0, 0] S1x256x1536.size inb_S8x256x1536_S1x256x1536_4_0_0)) (View.ld x0 (Rect.unit (s := S8x256x1536) ![5, 0, 0] S1x256x1536.size inb_S8x256x1536_S1x256x1536_5_0_0)) (View.ld x0 (Rect.unit (s := S8x256x1536) ![6, 0, 0] S1x256x1536.size inb_S8x256x1536_S1x256x1536_6_0_0)) (View.ld x0 (Rect.unit (s := S8x256x1536) ![7, 0, 0] S1x256x1536.size inb_S8x256x1536_S1x256x1536_7_0_0)) (ix2 r j) = grad x0 r j := by
  unfold k0_pay4 grad
  rw [Fin.sum_univ_eight]
  exact congrArg₂ (· + ·) (congrArg₂ (· + ·) (congrArg₂ (· + ·) (congrArg₂ (· + ·) (congrArg₂ (· + ·) (congrArg₂ (· + ·) (congrArg₂ (· + ·) (row_ld x0 r j 0 0 rfl _) (row_ld x0 r j 1 1 rfl _)) (row_ld x0 r j 2 2 rfl _)) (row_ld x0 r j 3 3 rfl _)) (row_ld x0 r j 4 4 rfl _)) (row_ld x0 r j 5 5 rfl _)) (row_ld x0 r j 6 6 rfl _)) (row_ld x0 r j 7 7 rfl _)

theorem out4_apply (x0 : Vec Ideal S8x256x1536 .bf16) (x1 x2 x3 : Vec Ideal S256x1536 .f32) (r : Fin 256) (j : Fin 1536) :
    out0_4 (F := Ideal) x0 x1 x2 x3 (ix2 r j) = grad x0 r j := by
  unfold out0_4
  rw [View.canon_unit_zero (S := S256x1536) hz2]
  unfold k0_pay5
  exact pay4_ld x0 r j

theorem out5_apply (x0 : Vec Ideal S8x256x1536 .bf16) (x1 x2 x3 : Vec Ideal S256x1536 .f32) (r : Fin 256) (j : Fin 1536) :
    out0_5 (F := Ideal) x0 x1 x2 x3 (ix2 r j) = delta (grad x0 r j) (x1 (ix2 r j)) (x2 (ix2 r j)) (x3 (ix2 r j)) := by
  unfold out0_5
  rw [View.canon_unit_zero (S := S256x1536) hz2]
  unfold k0_pay5
  simp only [View.ld_unit_zero (S := S256x1536) hz2]
  show delta (k0_pay4 (F := Ideal) _ _ _ _ _ _ _ _ (ix2 r j)) _ _ _ = _
  rw [pay4_ld]

theorem out6_apply (x0 : Vec Ideal S8x256x1536 .bf16) (x1 x2 x3 : Vec Ideal S256x1536 .f32) (r : Fin 256) (j : Fin 1536) :
    out0_6 (F := Ideal) x0 x1 x2 x3 (ix2 r j) = newM (grad x0 r j) (x2 (ix2 r j)) := by
  unfold out0_6
  rw [View.canon_unit_zero (S := S256x1536) hz2]
  unfold k0_pay5
  simp only [View.ld_unit_zero (S := S256x1536) hz2]
  show newM (k0_pay4 (F := Ideal) _ _ _ _ _ _ _ _ (ix2 r j)) _ = _
  rw [pay4_ld]

theorem out7_apply (x0 : Vec Ideal S8x256x1536 .bf16) (x1 x2 x3 : Vec Ideal S256x1536 .f32) (r : Fin 256) (j : Fin 1536) :
    out0_7 (F := Ideal) x0 x1 x2 x3 (ix2 r j) = newV (grad x0 r j) (x3 (ix2 r j)) := by
  unfold out0_7
  rw [View.canon_unit_zero (S := S256x1536) hz2]
  unfold k0_pay5
  simp only [View.ld_unit_zero (S := S256x1536) hz2]
  show newV (k0_pay4 (F := Ideal) _ _ _ _ _ _ _ _ (ix2 r j)) _ = _
  rw [pay4_ld]

/-! ## The arrays -/

variable (m : (ℓ : Loc nD τ sig) → Buf (Elt Ideal) ℓ) (c : Dev nD)

abbrev a0 : (⟨S8x4096x1536, .bf16⟩ : BufTy).Contents (Elt Ideal) := m ((c : Thread nD τ).loc main_arg0)
abbrev a1 : (⟨S4096x1536, .f32⟩ : BufTy).Contents (Elt Ideal) := m ((c : Thread nD τ).loc main_arg1)
abbrev a2 : (⟨S4096x1536, .f32⟩ : BufTy).Contents (Elt Ideal) := m ((c : Thread nD τ).loc main_arg2)
abbrev a3 : (⟨S4096x1536, .f32⟩ : BufTy).Contents (Elt Ideal) := m ((c : Thread nD τ).loc main_arg3)

theorem index_0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem index_1 : ∀ t : Fin cfg0.N, win0_1.index t 0 = t.val ∧ win0_1.index t 1 = 0 :=
  (by decide +kernel : ∀ t : Fin grid0.N, win0_1.index t 0 = t.val ∧ win0_1.index t 1 = 0)
theorem index_2 : ∀ t : Fin cfg0.N, win0_2.index t 0 = t.val ∧ win0_2.index t 1 = 0 :=
  (by decide +kernel : ∀ t : Fin grid0.N, win0_2.index t 0 = t.val ∧ win0_2.index t 1 = 0)
theorem index_3 : ∀ t : Fin cfg0.N, win0_3.index t 0 = t.val ∧ win0_3.index t 1 = 0 :=
  (by decide +kernel : ∀ t : Fin grid0.N, win0_3.index t 0 = t.val ∧ win0_3.index t 1 = 0)
theorem index_4 : ∀ t : Fin cfg0.N, win0_4.index t 0 = t.val ∧ win0_4.index t 1 = 0 :=
  (by decide +kernel : ∀ t : Fin grid0.N, win0_4.index t 0 = t.val ∧ win0_4.index t 1 = 0)
theorem index_5 : ∀ t : Fin cfg0.N, win0_5.index t 0 = t.val ∧ win0_5.index t 1 = 0 :=
  (by decide +kernel : ∀ t : Fin grid0.N, win0_5.index t 0 = t.val ∧ win0_5.index t 1 = 0)
theorem index_6 : ∀ t : Fin cfg0.N, win0_6.index t 0 = t.val ∧ win0_6.index t 1 = 0 :=
  (by decide +kernel : ∀ t : Fin grid0.N, win0_6.index t 0 = t.val ∧ win0_6.index t 1 = 0)
theorem index_7 : ∀ t : Fin cfg0.N, win0_7.index t 0 = t.val ∧ win0_7.index t 1 = 0 :=
  (by decide +kernel : ∀ t : Fin grid0.N, win0_7.index t 0 = t.val ∧ win0_7.index t 1 = 0)

theorem lt (t : Fin cfg0.N) : t.val < 16 := t.isLt
def rowAt (t : Fin cfg0.N) (r : Fin 256) : Fin 4096 := ⟨t.val * 256 + r.val, by have := lt t; omega⟩

theorem blk0 (t : Fin cfg0.N) (d : Fin 8) (r : Fin 256) (j : Fin 1536) :
    (iblk m c 0 t : Vec Ideal S8x256x1536 .bf16) (ix3 d r j) = a0 m c (ix3 d (rowAt t r) j) := by
  unfold iblk
  rw [View.read_apply]
  show V m c main_arg0 _ = _
  rw [V_main_arg0]
  refine congrArg (a0 m c) (funext fun a => Fin.ext ?_)
  match a with
  | ⟨0, _⟩ => show win0_0.index t 0 * 8 + 1 * d.val = d.val; rw [(index_0 t).1]; omega
  | ⟨1, _⟩ => show win0_0.index t 1 * 256 + 1 * r.val = t.val * 256 + r.val; rw [(index_0 t).2.1]; omega
  | ⟨2, _⟩ => show win0_0.index t 2 * 1536 + 1 * j.val = j.val; rw [(index_0 t).2.2]; omega
theorem blk1 (t : Fin cfg0.N) (r : Fin 256) (j : Fin 1536) :
    (iblk m c 1 t : Vec Ideal S256x1536 .f32) (ix2 r j) = a1 m c (ix2 (rowAt t r) j) := by
  unfold iblk
  rw [View.read_apply]
  show V m c main_arg1 _ = _
  rw [V_main_arg1]
  refine congrArg (a1 m c) (funext fun a => Fin.ext ?_)
  match a with
  | ⟨0, _⟩ => show win0_1.index t 0 * 256 + 1 * r.val = t.val * 256 + r.val; rw [(index_1 t).1]; omega
  | ⟨1, _⟩ => show win0_1.index t 1 * 1536 + 1 * j.val = j.val; rw [(index_1 t).2]; omega
theorem blk2 (t : Fin cfg0.N) (r : Fin 256) (j : Fin 1536) :
    (iblk m c 2 t : Vec Ideal S256x1536 .f32) (ix2 r j) = a2 m c (ix2 (rowAt t r) j) := by
  unfold iblk
  rw [View.read_apply]
  show V m c main_arg2 _ = _
  rw [V_main_arg2]
  refine congrArg (a2 m c) (funext fun a => Fin.ext ?_)
  match a with
  | ⟨0, _⟩ => show win0_2.index t 0 * 256 + 1 * r.val = t.val * 256 + r.val; rw [(index_2 t).1]; omega
  | ⟨1, _⟩ => show win0_2.index t 1 * 1536 + 1 * j.val = j.val; rw [(index_2 t).2]; omega
theorem blk3 (t : Fin cfg0.N) (r : Fin 256) (j : Fin 1536) :
    (iblk m c 3 t : Vec Ideal S256x1536 .f32) (ix2 r j) = a3 m c (ix2 (rowAt t r) j) := by
  unfold iblk
  rw [View.read_apply]
  show V m c main_arg3 _ = _
  rw [V_main_arg3]
  refine congrArg (a3 m c) (funext fun a => Fin.ext ?_)
  match a with
  | ⟨0, _⟩ => show win0_3.index t 0 * 256 + 1 * r.val = t.val * 256 + r.val; rw [(index_3 t).1]; omega
  | ⟨1, _⟩ => show win0_3.index t 1 * 1536 + 1 * j.val = j.val; rw [(index_3 t).2]; omega

theorem grad_blk (t : Fin cfg0.N) (r : Fin 256) (j : Fin 1536) :
    grad (iblk m c 0 t) r j = gradAt (a0 m c) (ix2 (rowAt t r) j) :=
  Finset.sum_congr rfl fun d _ => blk0 m c t d r j

/-- The point whose block holds an index of a result. -/
def pointOf (i : S4096x1536.Idx) : Fin cfg0.N :=
  ⟨(i 0).val / 256, by
    have h0 : (i 0).val < 4096 := (i 0).isLt
    show _ < 16; omega⟩

theorem flushed_4 (t : Fin cfg0.N) : (dats m 0 c).flushed 4 t = ((cfg0.win 4).blk t).view.read (Elt Ideal) (out4 (a0 m c) (a1 m c) (a2 m c) (a3 m c)) := by
  rw [flushed4]
  funext y
  obtain ⟨r, j, rfl⟩ : ∃ (r : Fin 256) (j : Fin 1536), y = ix2 r j := ⟨_, _, eq_ix2 y⟩
  rw [View.read_apply]
  refine (out4_apply ..).trans ?_
  show grad (iblk m c 0 t) r j = _
  rw [grad_blk]
  refine (show _ = out4 (a0 m c) (a1 m c) (a2 m c) (a3 m c) (ix2 (rowAt t r) j) from rfl).trans ?_
  refine congrArg (out4 (a0 m c) (a1 m c) (a2 m c) (a3 m c)) (funext fun a => Fin.ext ?_)
  match a with
  | ⟨0, _⟩ => show t.val * 256 + r.val = win0_4.index t 0 * 256 + 1 * r.val; rw [(index_4 t).1]; omega
  | ⟨1, _⟩ => show j.val = win0_4.index t 1 * 1536 + 1 * j.val; rw [(index_4 t).2]; omega

theorem final_4 : (dats m 0 c).arrAt 4 cfg0.N = out4 (a0 m c) (a1 m c) (a2 m c) (a3 m c) :=
  (dats m 0 c).arrAt_eq_of_cover 4 (out4 (a0 m c) (a1 m c) (a2 m c) (a3 m c)) (fun t _ => flushed_4 m c t) fun i => ⟨pointOf i, flush0_4 _, by
    have h0 : (i 0).val < 4096 := (i 0).isLt
    have h1 : (i 1).val < 1536 := (i 1).isLt
    show i ∈ ((View.whole main_v0_0).slice (win0_4.rect (pointOf i))).set
    rw [View.set_slice_whole, Rect.mem_set_unit]
    have hp : (pointOf i).val = (i 0).val / 256 := rfl
    intro a
    match a with
    | ⟨0, _⟩ => show win0_4.index (pointOf i) 0 * 256 ≤ (i 0 : Nat) ∧ (i 0 : Nat) < win0_4.index (pointOf i) 0 * 256 + 256
                rw [(index_4 _).1, hp]; omega
    | ⟨1, _⟩ => show win0_4.index (pointOf i) 1 * 1536 ≤ (i 1 : Nat) ∧ (i 1 : Nat) < win0_4.index (pointOf i) 1 * 1536 + 1536
                rw [(index_4 _).2]; omega⟩

theorem flushed_5 (t : Fin cfg0.N) : (dats m 0 c).flushed 5 t = ((cfg0.win 5).blk t).view.read (Elt Ideal) (out5 (a0 m c) (a1 m c) (a2 m c) (a3 m c)) := by
  rw [flushed5]
  funext y
  obtain ⟨r, j, rfl⟩ : ∃ (r : Fin 256) (j : Fin 1536), y = ix2 r j := ⟨_, _, eq_ix2 y⟩
  rw [View.read_apply]
  refine (out5_apply ..).trans ?_
  show delta (grad (iblk m c 0 t) r j) ((iblk m c 1 t : Vec Ideal S256x1536 .f32) (ix2 r j)) ((iblk m c 2 t : Vec Ideal S256x1536 .f32) (ix2 r j)) ((iblk m c 3 t : Vec Ideal S256x1536 .f32) (ix2 r j)) = _
  rw [grad_blk, blk1, blk2, blk3]
  refine (show _ = out5 (a0 m c) (a1 m c) (a2 m c) (a3 m c) (ix2 (rowAt t r) j) from rfl).trans ?_
  refine congrArg (out5 (a0 m c) (a1 m c) (a2 m c) (a3 m c)) (funext fun a => Fin.ext ?_)
  match a with
  | ⟨0, _⟩ => show t.val * 256 + r.val = win0_5.index t 0 * 256 + 1 * r.val; rw [(index_5 t).1]; omega
  | ⟨1, _⟩ => show j.val = win0_5.index t 1 * 1536 + 1 * j.val; rw [(index_5 t).2]; omega

theorem final_5 : (dats m 0 c).arrAt 5 cfg0.N = out5 (a0 m c) (a1 m c) (a2 m c) (a3 m c) :=
  (dats m 0 c).arrAt_eq_of_cover 5 (out5 (a0 m c) (a1 m c) (a2 m c) (a3 m c)) (fun t _ => flushed_5 m c t) fun i => ⟨pointOf i, flush0_5 _, by
    have h0 : (i 0).val < 4096 := (i 0).isLt
    have h1 : (i 1).val < 1536 := (i 1).isLt
    show i ∈ ((View.whole main_v0_1).slice (win0_5.rect (pointOf i))).set
    rw [View.set_slice_whole, Rect.mem_set_unit]
    have hp : (pointOf i).val = (i 0).val / 256 := rfl
    intro a
    match a with
    | ⟨0, _⟩ => show win0_5.index (pointOf i) 0 * 256 ≤ (i 0 : Nat) ∧ (i 0 : Nat) < win0_5.index (pointOf i) 0 * 256 + 256
                rw [(index_5 _).1, hp]; omega
    | ⟨1, _⟩ => show win0_5.index (pointOf i) 1 * 1536 ≤ (i 1 : Nat) ∧ (i 1 : Nat) < win0_5.index (pointOf i) 1 * 1536 + 1536
                rw [(index_5 _).2]; omega⟩

theorem flushed_6 (t : Fin cfg0.N) : (dats m 0 c).flushed 6 t = ((cfg0.win 6).blk t).view.read (Elt Ideal) (out6 (a0 m c) (a1 m c) (a2 m c) (a3 m c)) := by
  rw [flushed6]
  funext y
  obtain ⟨r, j, rfl⟩ : ∃ (r : Fin 256) (j : Fin 1536), y = ix2 r j := ⟨_, _, eq_ix2 y⟩
  rw [View.read_apply]
  refine (out6_apply ..).trans ?_
  show newM (grad (iblk m c 0 t) r j) ((iblk m c 2 t : Vec Ideal S256x1536 .f32) (ix2 r j)) = _
  rw [grad_blk, blk2]
  refine (show _ = out6 (a0 m c) (a1 m c) (a2 m c) (a3 m c) (ix2 (rowAt t r) j) from rfl).trans ?_
  refine congrArg (out6 (a0 m c) (a1 m c) (a2 m c) (a3 m c)) (funext fun a => Fin.ext ?_)
  match a with
  | ⟨0, _⟩ => show t.val * 256 + r.val = win0_6.index t 0 * 256 + 1 * r.val; rw [(index_6 t).1]; omega
  | ⟨1, _⟩ => show j.val = win0_6.index t 1 * 1536 + 1 * j.val; rw [(index_6 t).2]; omega

theorem final_6 : (dats m 0 c).arrAt 6 cfg0.N = out6 (a0 m c) (a1 m c) (a2 m c) (a3 m c) :=
  (dats m 0 c).arrAt_eq_of_cover 6 (out6 (a0 m c) (a1 m c) (a2 m c) (a3 m c)) (fun t _ => flushed_6 m c t) fun i => ⟨pointOf i, flush0_6 _, by
    have h0 : (i 0).val < 4096 := (i 0).isLt
    have h1 : (i 1).val < 1536 := (i 1).isLt
    show i ∈ ((View.whole main_v0_2).slice (win0_6.rect (pointOf i))).set
    rw [View.set_slice_whole, Rect.mem_set_unit]
    have hp : (pointOf i).val = (i 0).val / 256 := rfl
    intro a
    match a with
    | ⟨0, _⟩ => show win0_6.index (pointOf i) 0 * 256 ≤ (i 0 : Nat) ∧ (i 0 : Nat) < win0_6.index (pointOf i) 0 * 256 + 256
                rw [(index_6 _).1, hp]; omega
    | ⟨1, _⟩ => show win0_6.index (pointOf i) 1 * 1536 ≤ (i 1 : Nat) ∧ (i 1 : Nat) < win0_6.index (pointOf i) 1 * 1536 + 1536
                rw [(index_6 _).2]; omega⟩

theorem flushed_7 (t : Fin cfg0.N) : (dats m 0 c).flushed 7 t = ((cfg0.win 7).blk t).view.read (Elt Ideal) (out7 (a0 m c) (a1 m c) (a2 m c) (a3 m c)) := by
  rw [flushed7]
  funext y
  obtain ⟨r, j, rfl⟩ : ∃ (r : Fin 256) (j : Fin 1536), y = ix2 r j := ⟨_, _, eq_ix2 y⟩
  rw [View.read_apply]
  refine (out7_apply ..).trans ?_
  show newV (grad (iblk m c 0 t) r j) ((iblk m c 3 t : Vec Ideal S256x1536 .f32) (ix2 r j)) = _
  rw [grad_blk, blk3]
  refine (show _ = out7 (a0 m c) (a1 m c) (a2 m c) (a3 m c) (ix2 (rowAt t r) j) from rfl).trans ?_
  refine congrArg (out7 (a0 m c) (a1 m c) (a2 m c) (a3 m c)) (funext fun a => Fin.ext ?_)
  match a with
  | ⟨0, _⟩ => show t.val * 256 + r.val = win0_7.index t 0 * 256 + 1 * r.val; rw [(index_7 t).1]; omega
  | ⟨1, _⟩ => show j.val = win0_7.index t 1 * 1536 + 1 * j.val; rw [(index_7 t).2]; omega

theorem final_7 : (dats m 0 c).arrAt 7 cfg0.N = out7 (a0 m c) (a1 m c) (a2 m c) (a3 m c) :=
  (dats m 0 c).arrAt_eq_of_cover 7 (out7 (a0 m c) (a1 m c) (a2 m c) (a3 m c)) (fun t _ => flushed_7 m c t) fun i => ⟨pointOf i, flush0_7 _, by
    have h0 : (i 0).val < 4096 := (i 0).isLt
    have h1 : (i 1).val < 1536 := (i 1).isLt
    show i ∈ ((View.whole main_v0_3).slice (win0_7.rect (pointOf i))).set
    rw [View.set_slice_whole, Rect.mem_set_unit]
    have hp : (pointOf i).val = (i 0).val / 256 := rfl
    intro a
    match a with
    | ⟨0, _⟩ => show win0_7.index (pointOf i) 0 * 256 ≤ (i 0 : Nat) ∧ (i 0 : Nat) < win0_7.index (pointOf i) 0 * 256 + 256
                rw [(index_7 _).1, hp]; omega
    | ⟨1, _⟩ => show win0_7.index (pointOf i) 1 * 1536 ≤ (i 1 : Nat) ∧ (i 1 : Nat) < win0_7.index (pointOf i) 1 * 1536 + 1536
                rw [(index_7 _).2]; omega⟩

end Cert.InUpdateIdeal.Value

namespace Cert.InUpdateRefIdeal.Value

open Cert.InUpdateRefIdeal Cert.InUpdateRefIdeal.Read

variable (x0 : (⟨S8x4096x1536, .bf16⟩ : BufTy).Contents (Elt Ideal)) (x1 x2 x3 : (⟨S4096x1536, .f32⟩ : BufTy).Contents (Elt Ideal)) (i : S4096x1536.Idx)

theorem grad_eq : val_main_v1 (F := Ideal) x0 i = Cert.InUpdateIdeal.Value.gradAt x0 i := by
  rw [val_main_v1_apply]
  refine (congrArg (· + _) (show val_main_cst (F := Ideal) (_) = (0 : EReal) from zero_f32)).trans ?_
  rw [zero_add]
  refine Finset.sum_congr rfl fun d _ => (show x0 _ = x0 _ from congrArg x0 (funext fun a => Fin.ext ?_))
  match a with
  | ⟨0, _⟩ => rfl
  | ⟨1, _⟩ => rfl
  | ⟨2, _⟩ => rfl
theorem newM_eq : val_main_v6 (F := Ideal) x0 x2 i = Cert.InUpdateIdeal.Value.out6 x0 x1 x2 x3 i := by
  show newM (val_main_v1 (F := Ideal) x0 i) (x2 i) = newM _ _
  rw [grad_eq]
theorem newV_eq : val_main_v12 (F := Ideal) x0 x3 i = Cert.InUpdateIdeal.Value.out7 x0 x1 x2 x3 i := by
  show newV (val_main_v1 (F := Ideal) x0 i) (x3 i) = newV _ _
  rw [grad_eq]
theorem delta_eq : val_main_v25 (F := Ideal) x0 x1 x2 x3 i = Cert.InUpdateIdeal.Value.out5 x0 x1 x2 x3 i := by
  show delta (val_main_v1 (F := Ideal) x0 i) (x1 i) (x2 i) (x3 i) = delta _ _ _ _
  rw [grad_eq]

/-- The reference runs to its end. -/
theorem frame : Cert.quiescent_InUpdateRefIdeal := fun m g _ =>
  (θ_run Cert.InUpdateRefIdeal.defs _ _).mono (fun r h => ⟨fun c => (h c).2.2.2.2, Idealize.ShloMosaic.sem_eq_zero_of_no_sems (by decide) r.2⟩)
    (Cert.InUpdateRefIdeal.Value.run (F := Ideal) m g)

/-- The kernel computes what the reference computes. -/
theorem algebraic : Cert.algebraic_InUpdateIdeal_InUpdateRefIdeal := by
  intro m g m' g' _ hargs
  refine ⟨fun c => Cert.InUpdateIdeal.Value.out4 (Cert.InUpdateIdeal.Value.a0 m c) (Cert.InUpdateIdeal.Value.a1 m c) (Cert.InUpdateIdeal.Value.a2 m c) (Cert.InUpdateIdeal.Value.a3 m c),
    fun c => Cert.InUpdateIdeal.Value.out5 (Cert.InUpdateIdeal.Value.a0 m c) (Cert.InUpdateIdeal.Value.a1 m c) (Cert.InUpdateIdeal.Value.a2 m c) (Cert.InUpdateIdeal.Value.a3 m c),
    fun c => Cert.InUpdateIdeal.Value.out6 (Cert.InUpdateIdeal.Value.a0 m c) (Cert.InUpdateIdeal.Value.a1 m c) (Cert.InUpdateIdeal.Value.a2 m c) (Cert.InUpdateIdeal.Value.a3 m c),
    fun c => Cert.InUpdateIdeal.Value.out7 (Cert.InUpdateIdeal.Value.a0 m c) (Cert.InUpdateIdeal.Value.a1 m c) (Cert.InUpdateIdeal.Value.a2 m c) (Cert.InUpdateIdeal.Value.a3 m c), ?_, ?_⟩
  · refine (θ_run Cert.InUpdateIdeal.defs _ _).mono (fun r h c => ?_) (Cert.InUpdateIdeal.Value.run_blocks (F := Ideal) m g)
    obtain ⟨h4, h5, h6, h7, h⟩ := h c
    exact ⟨h4.trans (Cert.InUpdateIdeal.Value.final_4 m c), h5.trans (Cert.InUpdateIdeal.Value.final_5 m c), h6.trans (Cert.InUpdateIdeal.Value.final_6 m c), h7.trans (Cert.InUpdateIdeal.Value.final_7 m c), h⟩
  · refine (θ_run Cert.InUpdateRefIdeal.defs _ _).mono (fun r h c => ?_) (Cert.InUpdateRefIdeal.Value.run (F := Ideal) m' g')
    obtain ⟨h4, h5, h6, h7, h⟩ := h c
    obtain ⟨e0, e1, e2, e3⟩ := hargs c
    refine ⟨h4.trans ?_, h5.trans ?_, h6.trans ?_, h7.trans ?_, h⟩
    · refine (val_main_v1_eq _).trans ?_
      rw [e0]; funext i; exact grad_eq _ i
    · refine (val_main_v25_eq _ _ _ _).trans ?_
      rw [e0, e1, e2, e3]; funext i; exact delta_eq _ _ _ _ i
    · refine (val_main_v6_eq _ _).trans ?_
      rw [e0, e2]; funext i; exact newM_eq _ (Cert.InUpdateIdeal.Value.a1 m c) _ (Cert.InUpdateIdeal.Value.a3 m c) i
    · refine (val_main_v12_eq _ _).trans ?_
      rw [e0, e3]; funext i; exact newV_eq _ (Cert.InUpdateIdeal.Value.a1 m c) (Cert.InUpdateIdeal.Value.a2 m c) _ i

end Cert.InUpdateRefIdeal.Value

end
-- ==== Proof.GainUpdateValue.lean ====
/-
  The update of the gains: the four results of the kernel over the extended reals, and that the reference leaves the same.
-/
module

public import proofs.«01_k».proof.Defs
public import proofs.«01_k».proof.Proof.UpdateCommon
public import proofs.«01_k».proof.Proof.Gen.GainUpdateIdeal.Value
public import proofs.«01_k».proof.Proof.Gen.GainUpdateRefIdeal.Run
public import proofs.«01_k».proof.Proof.Gen.GainUpdateRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Common Cert.UpdateCommon

namespace Cert.GainUpdateIdeal.Value

open Cert.GainUpdateIdeal Cert.GainUpdateIdeal.Gen

def gradAt (x0 : (⟨S8x1x16384, .f32⟩ : BufTy).Contents (Elt Ideal)) : S1x16384.Idx → EReal := fun i => ∑ d : Fin 8, (x0 (ix3 d (i 0) (i 1)) : EReal)
def out4 (x0 : (⟨S8x1x16384, .f32⟩ : BufTy).Contents (Elt Ideal)) (x1 x2 x3 : (⟨S1x16384, .f32⟩ : BufTy).Contents (Elt Ideal)) : S1x16384.Idx → EReal := gradAt x0
def out5 (x0 : (⟨S8x1x16384, .f32⟩ : BufTy).Contents (Elt Ideal)) (x1 x2 x3 : (⟨S1x16384, .f32⟩ : BufTy).Contents (Elt Ideal)) : S1x16384.Idx → EReal := fun i => delta (gradAt x0 i) (x1 i) (x2 i) (x3 i)
def out6 (x0 : (⟨S8x1x16384, .f32⟩ : BufTy).Contents (Elt Ideal)) (x1 x2 x3 : (⟨S1x16384, .f32⟩ : BufTy).Contents (Elt Ideal)) : S1x16384.Idx → EReal := fun i => newM (gradAt x0 i) (x2 i)
def out7 (x0 : (⟨S8x1x16384, .f32⟩ : BufTy).Contents (Elt Ideal)) (x1 x2 x3 : (⟨S1x16384, .f32⟩ : BufTy).Contents (Elt Ideal)) : S1x16384.Idx → EReal := fun i => newV (gradAt x0 i) (x3 i)

/-! ## One block -/

def grad (x0 : Vec Ideal S8x1x16384 .f32) (r : Fin 1) (j : Fin 16384) : EReal := ∑ d : Fin 8, (x0 (ix3 d r j) : EReal)

theorem row_ld (x0 : Vec Ideal S8x1x16384 .f32) (r : Fin 1) (j : Fin 16384) (d : Fin 8) (n : Nat) (hn : d.val = n)
    (h : ∀ a, (![n, 0, 0] : Fin 3 → Nat) a + S1x1x16384.size a ≤ S8x1x16384.size a) :
    shapeCast S1x16384 (View.ld x0 (Rect.unit (s := S8x1x16384) ![n, 0, 0] S1x1x16384.size h)) shapeCasts_S1x1x16384_S1x16384 (ix2 r j) = x0 (ix3 d r j) := by
  subst hn
  refine (shapeCast_1ab_ab_apply ..).trans ?_
  refine (show x0 _ = x0 _ from congrArg x0 (funext fun a => Fin.ext ?_))
  match a with
  | ⟨0, _⟩ => show d.val + 1 * 0 = d.val; omega
  | ⟨1, _⟩ => show 0 + 1 * r.val = r.val; omega
  | ⟨2, _⟩ => show 0 + 1 * j.val = j.val; omega

theorem pay4_ld (x0 : Vec Ideal S8x1x16384 .f32) (r : Fin 1) (j : Fin 16384) :
    k0_pay3 (F := Ideal) (View.ld x0 (Rect.unit (s := S8x1x16384) ![0, 0, 0] S1x1x16384.size inb_S8x1x16384_S1x1x16384_0_0_0)) (View.ld x0 (Rect.unit (s := S8x1x16384) ![1, 0, 0] S1x1x16384.size inb_S8x1x16384_S1x1x16384_1_0_0)) (View.ld x0 (Rect.unit (s := S8x1x16384) ![2, 0, 0] S1x1x16384.size inb_S8x1x16384_S1x1x16384_2_0_0)) (View.ld x0 (Rect.unit (s := S8x1x16384) ![3, 0, 0] S1x1x16384.size inb_S8x1x16384_S1x1x16384_3_0_0)) (View.ld x0 (Rect.unit (s := S8x1x16384) ![4, 0, 0] S1x1x16384.size inb_S8x1x16384_S1x1x16384_4_0_0)) (View.ld x0 (Rect.unit (s := S8x1x16384) ![5, 0, 0] S1x1x16384.size inb_S8x1x16384_S1x1x16384_5_0_0)) (View.ld x0 (Rect.unit (s := S8x1x16384) ![6, 0, 0] S1x1x16384.size inb_S8x1x16384_S1x1x16384_6_0_0)) (View.ld x0 (Rect.unit (s := S8x1x16384) ![7, 0, 0] S1x1x16384.size inb_S8x1x16384_S1x1x16384_7_0_0)) (ix2 r j) = grad x0 r j := by
  unfold k0_pay3 grad
  rw [Fin.sum_univ_eight]
  exact congrArg₂ (· + ·) (congrArg₂ (· + ·) (congrArg₂ (· + ·) (congrArg₂ (· + ·) (congrArg₂ (· + ·) (congrArg₂ (· + ·) (congrArg₂ (· + ·) (row_ld x0 r j 0 0 rfl _) (row_ld x0 r j 1 1 rfl _)) (row_ld x0 r j 2 2 rfl _)) (row_ld x0 r j 3 3 rfl _)) (row_ld x0 r j 4 4 rfl _)) (row_ld x0 r j 5 5 rfl _)) (row_ld x0 r j 6 6 rfl _)) (row_ld x0 r j 7 7 rfl _)

theorem out4_apply (x0 : Vec Ideal S8x1x16384 .f32) (x1 x2 x3 : Vec Ideal S1x16384 .f32) (r : Fin 1) (j : Fin 16384) :
    out0_4 (F := Ideal) x0 x1 x2 x3 (ix2 r j) = grad x0 r j := by
  unfold out0_4
  rw [View.canon_unit_zero (S := S1x16384) hz2]
  unfold k0_pay5
  exact pay4_ld x0 r j

theorem out5_apply (x0 : Vec Ideal S8x1x16384 .f32) (x1 x2 x3 : Vec Ideal S1x16384 .f32) (r : Fin 1) (j : Fin 16384) :
    out0_5 (F := Ideal) x0 x1 x2 x3 (ix2 r j) = delta (grad x0 r j) (x1 (ix2 r j)) (x2 (ix2 r j)) (x3 (ix2 r j)) := by
  unfold out0_5
  rw [View.canon_unit_zero (S := S1x16384) hz2]
  unfold k0_pay5 k0_pay6
  simp only [View.ld_unit_zero (S := S1x16384) hz2]
  show delta (k0_pay3 (F := Ideal) _ _ _ _ _ _ _ _ (ix2 r j)) _ _ _ = _
  rw [pay4_ld]

theorem out6_apply (x0 : Vec Ideal S8x1x16384 .f32) (x1 x2 x3 : Vec Ideal S1x16384 .f32) (r : Fin 1) (j : Fin 16384) :
    out0_6 (F := Ideal) x0 x1 x2 x3 (ix2 r j) = newM (grad x0 r j) (x2 (ix2 r j)) := by
  unfold out0_6
  rw [View.canon_unit_zero (S := S1x16384) hz2]
  unfold k0_pay6
  simp only [View.ld_unit_zero (S := S1x16384) hz2]
  show newM (k0_pay3 (F := Ideal) _ _ _ _ _ _ _ _ (ix2 r j)) _ = _
  rw [pay4_ld]

theorem out7_apply (x0 : Vec Ideal S8x1x16384 .f32) (x1 x2 x3 : Vec Ideal S1x16384 .f32) (r : Fin 1) (j : Fin 16384) :
    out0_7 (F := Ideal) x0 x1 x2 x3 (ix2 r j) = newV (grad x0 r j) (x3 (ix2 r j)) := by
  unfold out0_7
  rw [View.canon_unit_zero (S := S1x16384) hz2]
  unfold k0_pay5
  simp only [View.ld_unit_zero (S := S1x16384) hz2]
  show newV (k0_pay3 (F := Ideal) _ _ _ _ _ _ _ _ (ix2 r j)) _ = _
  rw [pay4_ld]

/-! ## The arrays -/

variable (m : (ℓ : Loc nD τ sig) → Buf (Elt Ideal) ℓ) (c : Dev nD)

abbrev a0 : (⟨S8x1x16384, .f32⟩ : BufTy).Contents (Elt Ideal) := m ((c : Thread nD τ).loc main_arg0)
abbrev a1 : (⟨S1x16384, .f32⟩ : BufTy).Contents (Elt Ideal) := m ((c : Thread nD τ).loc main_arg1)
abbrev a2 : (⟨S1x16384, .f32⟩ : BufTy).Contents (Elt Ideal) := m ((c : Thread nD τ).loc main_arg2)
abbrev a3 : (⟨S1x16384, .f32⟩ : BufTy).Contents (Elt Ideal) := m ((c : Thread nD τ).loc main_arg3)

theorem index_0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem index_1 : ∀ t : Fin cfg0.N, win0_1.index t 0 = t.val ∧ win0_1.index t 1 = 0 :=
  (by decide +kernel : ∀ t : Fin grid0.N, win0_1.index t 0 = t.val ∧ win0_1.index t 1 = 0)
theorem index_2 : ∀ t : Fin cfg0.N, win0_2.index t 0 = t.val ∧ win0_2.index t 1 = 0 :=
  (by decide +kernel : ∀ t : Fin grid0.N, win0_2.index t 0 = t.val ∧ win0_2.index t 1 = 0)
theorem index_3 : ∀ t : Fin cfg0.N, win0_3.index t 0 = t.val ∧ win0_3.index t 1 = 0 :=
  (by decide +kernel : ∀ t : Fin grid0.N, win0_3.index t 0 = t.val ∧ win0_3.index t 1 = 0)
theorem index_4 : ∀ t : Fin cfg0.N, win0_4.index t 0 = t.val ∧ win0_4.index t 1 = 0 :=
  (by decide +kernel : ∀ t : Fin grid0.N, win0_4.index t 0 = t.val ∧ win0_4.index t 1 = 0)
theorem index_5 : ∀ t : Fin cfg0.N, win0_5.index t 0 = t.val ∧ win0_5.index t 1 = 0 :=
  (by decide +kernel : ∀ t : Fin grid0.N, win0_5.index t 0 = t.val ∧ win0_5.index t 1 = 0)
theorem index_6 : ∀ t : Fin cfg0.N, win0_6.index t 0 = t.val ∧ win0_6.index t 1 = 0 :=
  (by decide +kernel : ∀ t : Fin grid0.N, win0_6.index t 0 = t.val ∧ win0_6.index t 1 = 0)
theorem index_7 : ∀ t : Fin cfg0.N, win0_7.index t 0 = t.val ∧ win0_7.index t 1 = 0 :=
  (by decide +kernel : ∀ t : Fin grid0.N, win0_7.index t 0 = t.val ∧ win0_7.index t 1 = 0)

theorem lt (t : Fin cfg0.N) : t.val < 1 := t.isLt
def rowAt (t : Fin cfg0.N) (r : Fin 1) : Fin 1 := ⟨t.val * 1 + r.val, by have := lt t; omega⟩

theorem blk0 (t : Fin cfg0.N) (d : Fin 8) (r : Fin 1) (j : Fin 16384) :
    (iblk m c 0 t : Vec Ideal S8x1x16384 .f32) (ix3 d r j) = a0 m c (ix3 d (rowAt t r) j) := by
  unfold iblk
  rw [View.read_apply]
  show V m c main_arg0 _ = _
  rw [V_main_arg0]
  refine congrArg (a0 m c) (funext fun a => Fin.ext ?_)
  match a with
  | ⟨0, _⟩ => show win0_0.index t 0 * 8 + 1 * d.val = d.val; rw [(index_0 t).1]; omega
  | ⟨1, _⟩ => show win0_0.index t 1 * 1 + 1 * r.val = t.val * 1 + r.val; rw [(index_0 t).2.1]; omega
  | ⟨2, _⟩ => show win0_0.index t 2 * 16384 + 1 * j.val = j.val; rw [(index_0 t).2.2]; omega
theorem blk1 (t : Fin cfg0.N) (r : Fin 1) (j : Fin 16384) :
    (iblk m c 1 t : Vec Ideal S1x16384 .f32) (ix2 r j) = a1 m c (ix2 (rowAt t r) j) := by
  unfold iblk
  rw [View.read_apply]
  show V m c main_arg1 _ = _
  rw [V_main_arg1]
  refine congrArg (a1 m c) (funext fun a => Fin.ext ?_)
  match a with
  | ⟨0, _⟩ => show win0_1.index t 0 * 1 + 1 * r.val = t.val * 1 + r.val; rw [(index_1 t).1]; omega
  | ⟨1, _⟩ => show win0_1.index t 1 * 16384 + 1 * j.val = j.val; rw [(index_1 t).2]; omega
theorem blk2 (t : Fin cfg0.N) (r : Fin 1) (j : Fin 16384) :
    (iblk m c 2 t : Vec Ideal S1x16384 .f32) (ix2 r j) = a2 m c (ix2 (rowAt t r) j) := by
  unfold iblk
  rw [View.read_apply]
  show V m c main_arg2 _ = _
  rw [V_main_arg2]
  refine congrArg (a2 m c) (funext fun a => Fin.ext ?_)
  match a with
  | ⟨0, _⟩ => show win0_2.index t 0 * 1 + 1 * r.val = t.val * 1 + r.val; rw [(index_2 t).1]; omega
  | ⟨1, _⟩ => show win0_2.index t 1 * 16384 + 1 * j.val = j.val; rw [(index_2 t).2]; omega
theorem blk3 (t : Fin cfg0.N) (r : Fin 1) (j : Fin 16384) :
    (iblk m c 3 t : Vec Ideal S1x16384 .f32) (ix2 r j) = a3 m c (ix2 (rowAt t r) j) := by
  unfold iblk
  rw [View.read_apply]
  show V m c main_arg3 _ = _
  rw [V_main_arg3]
  refine congrArg (a3 m c) (funext fun a => Fin.ext ?_)
  match a with
  | ⟨0, _⟩ => show win0_3.index t 0 * 1 + 1 * r.val = t.val * 1 + r.val; rw [(index_3 t).1]; omega
  | ⟨1, _⟩ => show win0_3.index t 1 * 16384 + 1 * j.val = j.val; rw [(index_3 t).2]; omega

theorem grad_blk (t : Fin cfg0.N) (r : Fin 1) (j : Fin 16384) :
    grad (iblk m c 0 t) r j = gradAt (a0 m c) (ix2 (rowAt t r) j) :=
  Finset.sum_congr rfl fun d _ => blk0 m c t d r j

/-- The point whose block holds an index of a result. -/
def pointOf (i : S1x16384.Idx) : Fin cfg0.N :=
  ⟨(i 0).val / 1, by
    have h0 : (i 0).val < 1 := (i 0).isLt
    show _ < 1; omega⟩

theorem flushed_4 (t : Fin cfg0.N) : (dats m 0 c).flushed 4 t = ((cfg0.win 4).blk t).view.read (Elt Ideal) (out4 (a0 m c) (a1 m c) (a2 m c) (a3 m c)) := by
  rw [flushed4]
  funext y
  obtain ⟨r, j, rfl⟩ : ∃ (r : Fin 1) (j : Fin 16384), y = ix2 r j := ⟨_, _, eq_ix2 y⟩
  rw [View.read_apply]
  refine (out4_apply ..).trans ?_
  show grad (iblk m c 0 t) r j = _
  rw [grad_blk]
  refine (show _ = out4 (a0 m c) (a1 m c) (a2 m c) (a3 m c) (ix2 (rowAt t r) j) from rfl).trans ?_
  refine congrArg (out4 (a0 m c) (a1 m c) (a2 m c) (a3 m c)) (funext fun a => Fin.ext ?_)
  match a with
  | ⟨0, _⟩ => show t.val * 1 + r.val = win0_4.index t 0 * 1 + 1 * r.val; rw [(index_4 t).1]; omega
  | ⟨1, _⟩ => show j.val = win0_4.index t 1 * 16384 + 1 * j.val; rw [(index_4 t).2]; omega

theorem final_4 : (dats m 0 c).arrAt 4 cfg0.N = out4 (a0 m c) (a1 m c) (a2 m c) (a3 m c) :=
  (dats m 0 c).arrAt_eq_of_cover 4 (out4 (a0 m c) (a1 m c) (a2 m c) (a3 m c)) (fun t _ => flushed_4 m c t) fun i => ⟨pointOf i, flush0_4 _, by
    have h0 : (i 0).val < 1 := (i 0).isLt
    have h1 : (i 1).val < 16384 := (i 1).isLt
    show i ∈ ((View.whole main_v0_0).slice (win0_4.rect (pointOf i))).set
    rw [View.set_slice_whole, Rect.mem_set_unit]
    have hp : (pointOf i).val = (i 0).val / 1 := rfl
    intro a
    match a with
    | ⟨0, _⟩ => show win0_4.index (pointOf i) 0 * 1 ≤ (i 0 : Nat) ∧ (i 0 : Nat) < win0_4.index (pointOf i) 0 * 1 + 1
                rw [(index_4 _).1, hp]; omega
    | ⟨1, _⟩ => show win0_4.index (pointOf i) 1 * 16384 ≤ (i 1 : Nat) ∧ (i 1 : Nat) < win0_4.index (pointOf i) 1 * 16384 + 16384
                rw [(index_4 _).2]; omega⟩

theorem flushed_5 (t : Fin cfg0.N) : (dats m 0 c).flushed 5 t = ((cfg0.win 5).blk t).view.read (Elt Ideal) (out5 (a0 m c) (a1 m c) (a2 m c) (a3 m c)) := by
  rw [flushed5]
  funext y
  obtain ⟨r, j, rfl⟩ : ∃ (r : Fin 1) (j : Fin 16384), y = ix2 r j := ⟨_, _, eq_ix2 y⟩
  rw [View.read_apply]
  refine (out5_apply ..).trans ?_
  show delta (grad (iblk m c 0 t) r j) ((iblk m c 1 t : Vec Ideal S1x16384 .f32) (ix2 r j)) ((iblk m c 2 t : Vec Ideal S1x16384 .f32) (ix2 r j)) ((iblk m c 3 t : Vec Ideal S1x16384 .f32) (ix2 r j)) = _
  rw [grad_blk, blk1, blk2, blk3]
  refine (show _ = out5 (a0 m c) (a1 m c) (a2 m c) (a3 m c) (ix2 (rowAt t r) j) from rfl).trans ?_
  refine congrArg (out5 (a0 m c) (a1 m c) (a2 m c) (a3 m c)) (funext fun a => Fin.ext ?_)
  match a with
  | ⟨0, _⟩ => show t.val * 1 + r.val = win0_5.index t 0 * 1 + 1 * r.val; rw [(index_5 t).1]; omega
  | ⟨1, _⟩ => show j.val = win0_5.index t 1 * 16384 + 1 * j.val; rw [(index_5 t).2]; omega

theorem final_5 : (dats m 0 c).arrAt 5 cfg0.N = out5 (a0 m c) (a1 m c) (a2 m c) (a3 m c) :=
  (dats m 0 c).arrAt_eq_of_cover 5 (out5 (a0 m c) (a1 m c) (a2 m c) (a3 m c)) (fun t _ => flushed_5 m c t) fun i => ⟨pointOf i, flush0_5 _, by
    have h0 : (i 0).val < 1 := (i 0).isLt
    have h1 : (i 1).val < 16384 := (i 1).isLt
    show i ∈ ((View.whole main_v0_1).slice (win0_5.rect (pointOf i))).set
    rw [View.set_slice_whole, Rect.mem_set_unit]
    have hp : (pointOf i).val = (i 0).val / 1 := rfl
    intro a
    match a with
    | ⟨0, _⟩ => show win0_5.index (pointOf i) 0 * 1 ≤ (i 0 : Nat) ∧ (i 0 : Nat) < win0_5.index (pointOf i) 0 * 1 + 1
                rw [(index_5 _).1, hp]; omega
    | ⟨1, _⟩ => show win0_5.index (pointOf i) 1 * 16384 ≤ (i 1 : Nat) ∧ (i 1 : Nat) < win0_5.index (pointOf i) 1 * 16384 + 16384
                rw [(index_5 _).2]; omega⟩

theorem flushed_6 (t : Fin cfg0.N) : (dats m 0 c).flushed 6 t = ((cfg0.win 6).blk t).view.read (Elt Ideal) (out6 (a0 m c) (a1 m c) (a2 m c) (a3 m c)) := by
  rw [flushed6]
  funext y
  obtain ⟨r, j, rfl⟩ : ∃ (r : Fin 1) (j : Fin 16384), y = ix2 r j := ⟨_, _, eq_ix2 y⟩
  rw [View.read_apply]
  refine (out6_apply ..).trans ?_
  show newM (grad (iblk m c 0 t) r j) ((iblk m c 2 t : Vec Ideal S1x16384 .f32) (ix2 r j)) = _
  rw [grad_blk, blk2]
  refine (show _ = out6 (a0 m c) (a1 m c) (a2 m c) (a3 m c) (ix2 (rowAt t r) j) from rfl).trans ?_
  refine congrArg (out6 (a0 m c) (a1 m c) (a2 m c) (a3 m c)) (funext fun a => Fin.ext ?_)
  match a with
  | ⟨0, _⟩ => show t.val * 1 + r.val = win0_6.index t 0 * 1 + 1 * r.val; rw [(index_6 t).1]; omega
  | ⟨1, _⟩ => show j.val = win0_6.index t 1 * 16384 + 1 * j.val; rw [(index_6 t).2]; omega

theorem final_6 : (dats m 0 c).arrAt 6 cfg0.N = out6 (a0 m c) (a1 m c) (a2 m c) (a3 m c) :=
  (dats m 0 c).arrAt_eq_of_cover 6 (out6 (a0 m c) (a1 m c) (a2 m c) (a3 m c)) (fun t _ => flushed_6 m c t) fun i => ⟨pointOf i, flush0_6 _, by
    have h0 : (i 0).val < 1 := (i 0).isLt
    have h1 : (i 1).val < 16384 := (i 1).isLt
    show i ∈ ((View.whole main_v0_2).slice (win0_6.rect (pointOf i))).set
    rw [View.set_slice_whole, Rect.mem_set_unit]
    have hp : (pointOf i).val = (i 0).val / 1 := rfl
    intro a
    match a with
    | ⟨0, _⟩ => show win0_6.index (pointOf i) 0 * 1 ≤ (i 0 : Nat) ∧ (i 0 : Nat) < win0_6.index (pointOf i) 0 * 1 + 1
                rw [(index_6 _).1, hp]; omega
    | ⟨1, _⟩ => show win0_6.index (pointOf i) 1 * 16384 ≤ (i 1 : Nat) ∧ (i 1 : Nat) < win0_6.index (pointOf i) 1 * 16384 + 16384
                rw [(index_6 _).2]; omega⟩

theorem flushed_7 (t : Fin cfg0.N) : (dats m 0 c).flushed 7 t = ((cfg0.win 7).blk t).view.read (Elt Ideal) (out7 (a0 m c) (a1 m c) (a2 m c) (a3 m c)) := by
  rw [flushed7]
  funext y
  obtain ⟨r, j, rfl⟩ : ∃ (r : Fin 1) (j : Fin 16384), y = ix2 r j := ⟨_, _, eq_ix2 y⟩
  rw [View.read_apply]
  refine (out7_apply ..).trans ?_
  show newV (grad (iblk m c 0 t) r j) ((iblk m c 3 t : Vec Ideal S1x16384 .f32) (ix2 r j)) = _
  rw [grad_blk, blk3]
  refine (show _ = out7 (a0 m c) (a1 m c) (a2 m c) (a3 m c) (ix2 (rowAt t r) j) from rfl).trans ?_
  refine congrArg (out7 (a0 m c) (a1 m c) (a2 m c) (a3 m c)) (funext fun a => Fin.ext ?_)
  match a with
  | ⟨0, _⟩ => show t.val * 1 + r.val = win0_7.index t 0 * 1 + 1 * r.val; rw [(index_7 t).1]; omega
  | ⟨1, _⟩ => show j.val = win0_7.index t 1 * 16384 + 1 * j.val; rw [(index_7 t).2]; omega

theorem final_7 : (dats m 0 c).arrAt 7 cfg0.N = out7 (a0 m c) (a1 m c) (a2 m c) (a3 m c) :=
  (dats m 0 c).arrAt_eq_of_cover 7 (out7 (a0 m c) (a1 m c) (a2 m c) (a3 m c)) (fun t _ => flushed_7 m c t) fun i => ⟨pointOf i, flush0_7 _, by
    have h0 : (i 0).val < 1 := (i 0).isLt
    have h1 : (i 1).val < 16384 := (i 1).isLt
    show i ∈ ((View.whole main_v0_3).slice (win0_7.rect (pointOf i))).set
    rw [View.set_slice_whole, Rect.mem_set_unit]
    have hp : (pointOf i).val = (i 0).val / 1 := rfl
    intro a
    match a with
    | ⟨0, _⟩ => show win0_7.index (pointOf i) 0 * 1 ≤ (i 0 : Nat) ∧ (i 0 : Nat) < win0_7.index (pointOf i) 0 * 1 + 1
                rw [(index_7 _).1, hp]; omega
    | ⟨1, _⟩ => show win0_7.index (pointOf i) 1 * 16384 ≤ (i 1 : Nat) ∧ (i 1 : Nat) < win0_7.index (pointOf i) 1 * 16384 + 16384
                rw [(index_7 _).2]; omega⟩

end Cert.GainUpdateIdeal.Value

namespace Cert.GainUpdateRefIdeal.Value

open Cert.GainUpdateRefIdeal Cert.GainUpdateRefIdeal.Read

variable (x0 : (⟨S8x1x16384, .f32⟩ : BufTy).Contents (Elt Ideal)) (x1 x2 x3 : (⟨S1x16384, .f32⟩ : BufTy).Contents (Elt Ideal)) (i : S1x16384.Idx)

theorem grad_eq : val_main_v0 (F := Ideal) x0 i = Cert.GainUpdateIdeal.Value.gradAt x0 i := by
  rw [val_main_v0_apply]
  refine (congrArg (· + _) (show val_main_cst (F := Ideal) (_) = (0 : EReal) from zero_f32)).trans ?_
  rw [zero_add]
  refine Finset.sum_congr rfl fun d _ => (show x0 _ = x0 _ from congrArg x0 (funext fun a => Fin.ext ?_))
  match a with
  | ⟨0, _⟩ => rfl
  | ⟨1, _⟩ => rfl
  | ⟨2, _⟩ => rfl
theorem newM_eq : val_main_v5 (F := Ideal) x0 x2 i = Cert.GainUpdateIdeal.Value.out6 x0 x1 x2 x3 i := by
  show newM (val_main_v0 (F := Ideal) x0 i) (x2 i) = newM _ _
  rw [grad_eq]
theorem newV_eq : val_main_v11 (F := Ideal) x0 x3 i = Cert.GainUpdateIdeal.Value.out7 x0 x1 x2 x3 i := by
  show newV (val_main_v0 (F := Ideal) x0 i) (x3 i) = newV _ _
  rw [grad_eq]
theorem delta_eq : val_main_v24 (F := Ideal) x0 x1 x2 x3 i = Cert.GainUpdateIdeal.Value.out5 x0 x1 x2 x3 i := by
  show delta (val_main_v0 (F := Ideal) x0 i) (x1 i) (x2 i) (x3 i) = delta _ _ _ _
  rw [grad_eq]

/-- The reference runs to its end. -/
theorem frame : Cert.quiescent_GainUpdateRefIdeal := fun m g _ =>
  (θ_run Cert.GainUpdateRefIdeal.defs _ _).mono (fun r h => ⟨fun c => (h c).2.2.2.2, Idealize.ShloMosaic.sem_eq_zero_of_no_sems (by decide) r.2⟩)
    (Cert.GainUpdateRefIdeal.Value.run (F := Ideal) m g)

/-- The kernel computes what the reference computes. -/
theorem algebraic : Cert.algebraic_GainUpdateIdeal_GainUpdateRefIdeal := by
  intro m g m' g' _ hargs
  refine ⟨fun c => Cert.GainUpdateIdeal.Value.out4 (Cert.GainUpdateIdeal.Value.a0 m c) (Cert.GainUpdateIdeal.Value.a1 m c) (Cert.GainUpdateIdeal.Value.a2 m c) (Cert.GainUpdateIdeal.Value.a3 m c),
    fun c => Cert.GainUpdateIdeal.Value.out5 (Cert.GainUpdateIdeal.Value.a0 m c) (Cert.GainUpdateIdeal.Value.a1 m c) (Cert.GainUpdateIdeal.Value.a2 m c) (Cert.GainUpdateIdeal.Value.a3 m c),
    fun c => Cert.GainUpdateIdeal.Value.out6 (Cert.GainUpdateIdeal.Value.a0 m c) (Cert.GainUpdateIdeal.Value.a1 m c) (Cert.GainUpdateIdeal.Value.a2 m c) (Cert.GainUpdateIdeal.Value.a3 m c),
    fun c => Cert.GainUpdateIdeal.Value.out7 (Cert.GainUpdateIdeal.Value.a0 m c) (Cert.GainUpdateIdeal.Value.a1 m c) (Cert.GainUpdateIdeal.Value.a2 m c) (Cert.GainUpdateIdeal.Value.a3 m c), ?_, ?_⟩
  · refine (θ_run Cert.GainUpdateIdeal.defs _ _).mono (fun r h c => ?_) (Cert.GainUpdateIdeal.Value.run_blocks (F := Ideal) m g)
    obtain ⟨h4, h5, h6, h7, h⟩ := h c
    exact ⟨h4.trans (Cert.GainUpdateIdeal.Value.final_4 m c), h5.trans (Cert.GainUpdateIdeal.Value.final_5 m c), h6.trans (Cert.GainUpdateIdeal.Value.final_6 m c), h7.trans (Cert.GainUpdateIdeal.Value.final_7 m c), h⟩
  · refine (θ_run Cert.GainUpdateRefIdeal.defs _ _).mono (fun r h c => ?_) (Cert.GainUpdateRefIdeal.Value.run (F := Ideal) m' g')
    obtain ⟨h4, h5, h6, h7, h⟩ := h c
    obtain ⟨e0, e1, e2, e3⟩ := hargs c
    refine ⟨h4.trans ?_, h5.trans ?_, h6.trans ?_, h7.trans ?_, h⟩
    · refine (val_main_v0_eq _).trans ?_
      rw [e0]; funext i; exact grad_eq _ i
    · refine (val_main_v24_eq _ _ _ _).trans ?_
      rw [e0, e1, e2, e3]; funext i; exact delta_eq _ _ _ _ i
    · refine (val_main_v5_eq _ _).trans ?_
      rw [e0, e2]; funext i; exact newM_eq _ (Cert.GainUpdateIdeal.Value.a1 m c) _ (Cert.GainUpdateIdeal.Value.a3 m c) i
    · refine (val_main_v11_eq _ _).trans ?_
      rw [e0, e3]; funext i; exact newV_eq _ (Cert.GainUpdateIdeal.Value.a1 m c) (Cert.GainUpdateIdeal.Value.a2 m c) _ i

end Cert.GainUpdateRefIdeal.Value

end
-- ==== Proof.RmsCommon.lean ====
/-
  The pieces of a root-mean-square norm that its forward pass, its gradient and the loss share, read at one index over the extended reals.
-/
module

public import proofs.«01_k».proof.Proof.Common
public import Idealize.ShloMosaic.Lib.ValueLayoutCasts
public import Idealize.ShloMosaic.Lib.KernelVsHost

@[expose] public section

noncomputable section

open Idealize.ShloMosaic Idealize.SL.Sem Idealize.ShloMosaic.ValueIdx

namespace Cert.Rms

/-- The mean of a row of 4096. -/
def mean (f : Fin 4096 → EReal) : EReal := Ideal.div (∑ k, f k) (Ideal.ofBits .f32 0x45800000#32)
/-- The mean square of a row, and the small constant. -/
def square (f : Fin 4096 → EReal) : EReal := mean (fun k => f k * f k) + Ideal.ofBits .f32 0x3727C5AC#32
/-- What a row is scaled by. -/
def scale (f : Fin 4096 → EReal) : EReal := Ideal.rsqrt (square f)

/-- A kernel's sum along the rows of a block. -/
theorem rowSum_apply (v : FVec Ideal ⟨2, ![256, 4096]⟩ .f32) (acc : BitVec 32) (h : Shape.Reduces ⟨2, ![256, 4096]⟩ [1] ⟨1, ![256]⟩)
    (hφ : FKind.Formats .f32) (hacc : acc = FKind.add.neutral .f32 hφ) (r : Fin 256) :
    multiReduction .add [1] ⟨1, ![256]⟩ v acc h hφ hacc (ix1 r) = ∑ k : Fin 4096, v (ix2 r k) := by
  refine (Ideal.multiReduction_add_single v acc h hφ hacc (ix1 r)).trans ?_
  refine Finset.sum_congr rfl fun k _ => congrArg v (funext fun a => Fin.ext ?_)
  match a with
  | ⟨0, _⟩ => rfl
  | ⟨1, _⟩ => rfl

/-- A kernel's sum down the columns of a block. -/
theorem colSum_apply (v : FVec Ideal ⟨2, ![256, 4096]⟩ .f32) (acc : BitVec 32) (h : Shape.Reduces ⟨2, ![256, 4096]⟩ [0] ⟨1, ![4096]⟩)
    (hφ : FKind.Formats .f32) (hacc : acc = FKind.add.neutral .f32 hφ) (j : Fin 4096) :
    multiReduction .add [0] ⟨1, ![4096]⟩ v acc h hφ hacc (ix1 j) = ∑ r : Fin 256, v (ix2 r j) := by
  refine (Ideal.multiReduction_add_single v acc h hφ hacc (ix1 j)).trans ?_
  refine Finset.sum_congr rfl fun k _ => congrArg v (funext fun a => Fin.ext ?_)
  match a with
  | ⟨0, _⟩ => rfl
  | ⟨1, _⟩ => rfl

/-- A column of scalars spread along the rows. -/
theorem spread_apply {α : Type} (v : (⟨2, ![256, 1]⟩ : Shape).Idx → α) (h : Shape.Broadcasts ⟨2, ![256, 1]⟩ ⟨2, ![256, 4096]⟩) (r : Fin 256) (j : Fin 4096) :
    broadcastTo ⟨2, ![256, 4096]⟩ v h (ix2 r j) = v (ix2 r 0) :=
  broadcastTo_apply v h (ix2 r j) (ix2 r 0) fun a => match a with
    | ⟨0, _⟩ => by simp
    | ⟨1, _⟩ => by simp

end Cert.Rms

end
-- ==== Proof.NormValue.lean ====
/-
  An RMSNorm: what the kernel leaves in its result, over the extended reals, and that the reference leaves the same.
-/
module

public import proofs.«01_k».proof.Defs
public import proofs.«01_k».proof.Proof.RmsCommon
public import proofs.«01_k».proof.Proof.Gen.NormIdeal.Value
public import proofs.«01_k».proof.Proof.Gen.NormRefIdeal.Run
public import proofs.«01_k».proof.Proof.Gen.NormRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Common Cert.Rms

namespace Cert.NormIdeal.Value

open Cert.NormIdeal Cert.NormIdeal.Gen

/-- A row scaled to mean square one, times the gains. -/
def total (x0 : (⟨S4096x4096, .f32⟩ : BufTy).Contents (Elt Ideal)) (x1 : (⟨S1x4096, .f32⟩ : BufTy).Contents (Elt Ideal)) : S4096x4096.Idx → EReal :=
  fun i => x0 i * scale (fun k => x0 (ix2 (i 0) k)) * x1 (ix2 0 (i 1))

theorem pay1_apply (x0 : Vec Ideal S256x4096 .f32) (x1 : Vec Ideal S1x4096 .f32) (r : Fin 256) (j : Fin 4096) :
    k0_pay1 (F := Ideal) x0 x1 (ix2 r j) = x0 (ix2 r j) * scale (fun k => x0 (ix2 r k)) * x1 (ix2 0 j) := by
  unfold k0_pay1
  refine congrArg₂ (· * ·) (congrArg (x0 (ix2 r j) * ·) ?_) (broadcastTo_1b_ab_apply x1 broadcasts_S1x4096_S256x4096 r j)
  refine (spread_apply _ broadcasts_S256x1_S256x4096 r j).trans ?_
  refine congrArg Ideal.rsqrt (congrArg (fun s => Ideal.div s (Ideal.ofBits .f32 0x45800000#32) + Ideal.ofBits .f32 0x3727C5AC#32) ?_)
  refine (shapeCast_a_a1_apply _ shapeCasts_S256_S256x1 r 0).trans ?_
  exact rowSum_apply (mulf x0 x0) _ reduces_S256x4096_S256 _ _ r

theorem out2_apply (x0 : Vec Ideal S256x4096 .f32) (x1 : Vec Ideal S1x4096 .f32) (r : Fin 256) (j : Fin 4096) :
    out0_2 (F := Ideal) x0 x1 (ix2 r j) = x0 (ix2 r j) * scale (fun k => x0 (ix2 r k)) * x1 (ix2 0 j) := by
  unfold out0_2
  rw [View.canon_unit_zero (S := S256x4096) hz2]
  rw [View.ld_unit_zero (S := S256x4096) hz2, View.ld_unit_zero (S := S1x4096) hz2]
  exact pay1_apply x0 x1 r j

variable (m : (ℓ : Loc nD τ sig) → Buf (Elt Ideal) ℓ) (c : Dev nD)

abbrev a0 : (⟨S4096x4096, .f32⟩ : BufTy).Contents (Elt Ideal) := m ((c : Thread nD τ).loc main_arg0)
abbrev a1 : (⟨S1x4096, .f32⟩ : BufTy).Contents (Elt Ideal) := m ((c : Thread nD τ).loc main_arg1)

theorem index_0 : ∀ t : Fin cfg0.N, win0_0.index t 0 = t.val ∧ win0_0.index t 1 = 0 :=
  (by decide +kernel : ∀ t : Fin grid0.N, win0_0.index t 0 = t.val ∧ win0_0.index t 1 = 0)
theorem index_1 : ∀ t : Fin cfg0.N, win0_1.index t 0 = 0 ∧ win0_1.index t 1 = 0 :=
  (by decide +kernel : ∀ t : Fin grid0.N, win0_1.index t 0 = 0 ∧ win0_1.index t 1 = 0)
theorem index_2 : ∀ t : Fin cfg0.N, win0_2.index t 0 = t.val ∧ win0_2.index t 1 = 0 :=
  (by decide +kernel : ∀ t : Fin grid0.N, win0_2.index t 0 = t.val ∧ win0_2.index t 1 = 0)

theorem lt (t : Fin cfg0.N) : t.val < 16 := t.isLt
def rowAt (t : Fin cfg0.N) (r : Fin 256) : Fin 4096 := ⟨t.val * 256 + r.val, by have := lt t; omega⟩

theorem blk0 (t : Fin cfg0.N) (r : Fin 256) (j : Fin 4096) :
    (iblk m c 0 t : Vec Ideal S256x4096 .f32) (ix2 r j) = a0 m c (ix2 (rowAt t r) j) := by
  unfold iblk
  rw [View.read_apply]
  show V m c main_arg0 _ = _
  rw [V_main_arg0]
  refine congrArg (a0 m c) (funext fun a => Fin.ext ?_)
  match a with
  | ⟨0, _⟩ => show win0_0.index t 0 * 256 + 1 * r.val = t.val * 256 + r.val; rw [(index_0 t).1]; omega
  | ⟨1, _⟩ => show win0_0.index t 1 * 4096 + 1 * j.val = j.val; rw [(index_0 t).2]; omega

theorem blk1 (t : Fin cfg0.N) (j : Fin 4096) :
    (iblk m c 1 t : Vec Ideal S1x4096 .f32) (ix2 0 j) = a1 m c (ix2 0 j) := by
  unfold iblk
  rw [View.read_apply]
  show V m c main_arg1 _ = _
  rw [V_main_arg1]
  refine congrArg (a1 m c) (funext fun a => Fin.ext ?_)
  match a with
  | ⟨0, _⟩ => show win0_1.index t 0 * 1 + 1 * 0 = 0; rw [(index_1 t).1]
  | ⟨1, _⟩ => show win0_1.index t 1 * 4096 + 1 * j.val = j.val; rw [(index_1 t).2]; omega

abbrev result : S4096x4096.Idx → EReal := total (a0 m c) (a1 m c)

theorem flushed_eq (t : Fin cfg0.N) : (dats m 0 c).flushed 2 t = ((cfg0.win 2).blk t).view.read (Elt Ideal) (result m c) := by
  rw [flushed2]
  funext y
  obtain ⟨r, j, rfl⟩ : ∃ (r : Fin 256) (j : Fin 4096), y = ix2 r j := ⟨_, _, eq_ix2 y⟩
  rw [View.read_apply]
  refine (out2_apply ..).trans ?_
  refine (show _ = result m c (ix2 (rowAt t r) j) from ?_).trans ?_
  · rw [blk0, blk1]
    exact congrArg (fun f => _ * scale f * _) (funext fun k => blk0 m c t r k)
  · refine congrArg (result m c) (funext fun a => Fin.ext ?_)
    match a with
    | ⟨0, _⟩ => show t.val * 256 + r.val = win0_2.index t 0 * 256 + 1 * r.val; rw [(index_2 t).1]; omega
    | ⟨1, _⟩ => show j.val = win0_2.index t 1 * 4096 + 1 * j.val; rw [(index_2 t).2]; omega

/-- The point that writes back the block holding an index of the result. -/
def pointOf (i : S4096x4096.Idx) : Fin cfg0.N :=
  ⟨(i 0).val / 256, by
    have h0 : (i 0).val < 4096 := (i 0).isLt
    show _ < 16; omega⟩

theorem final_eq : (dats m 0 c).arrAt 2 cfg0.N = result m c :=
  (dats m 0 c).arrAt_eq_of_cover 2 (result m c) (fun t _ => flushed_eq m c t) fun i => ⟨pointOf i, flush0_2 _, by
    have h0 : (i 0).val < 4096 := (i 0).isLt
    have h1 : (i 1).val < 4096 := (i 1).isLt
    show i ∈ ((View.whole main_v0).slice (win0_2.rect (pointOf i))).set
    rw [View.set_slice_whole, Rect.mem_set_unit]
    have hp : (pointOf i).val = (i 0).val / 256 := rfl
    intro a
    match a with
    | ⟨0, _⟩ => show win0_2.index (pointOf i) 0 * 256 ≤ (i 0 : Nat) ∧ (i 0 : Nat) < win0_2.index (pointOf i) 0 * 256 + 256
                rw [(index_2 _).1, hp]; omega
    | ⟨1, _⟩ => show win0_2.index (pointOf i) 1 * 4096 ≤ (i 1 : Nat) ∧ (i 1 : Nat) < win0_2.index (pointOf i) 1 * 4096 + 4096
                rw [(index_2 _).2]; omega⟩

end Cert.NormIdeal.Value

namespace Cert.NormRefIdeal.Value

open Cert.NormRefIdeal Cert.NormRefIdeal.Read

theorem sum_apply (x0 : (⟨S4096x4096, .f32⟩ : BufTy).Contents (Elt Ideal)) (i : S4096.Idx) :
    val_main_v1 (F := Ideal) x0 i = ∑ k : Fin 4096, (x0 (ix2 (i 0) k) : EReal) * x0 (ix2 (i 0) k) := by
  rw [val_main_v1_apply]
  refine (congrArg (· + _) (show val_main_cst (F := Ideal) _ = (0 : EReal) from zero_f32)).trans ?_
  rw [zero_add]
  refine Finset.sum_congr rfl fun k _ => ?_
  refine (show _ = (x0 (idx_main_v1 i k) : EReal) * x0 (idx_main_v1 i k) from rfl).trans ?_
  rw [show idx_main_v1 i k = ix2 (i 0) k from funext fun a => match a with
    | ⟨0, _⟩ => rfl
    | ⟨1, _⟩ => rfl]
  try rfl

theorem result_eq (x0 : (⟨S4096x4096, .f32⟩ : BufTy).Contents (Elt Ideal)) (x1 : (⟨S1x4096, .f32⟩ : BufTy).Contents (Elt Ideal)) (i : S4096x4096.Idx) :
    val_main_v12 (F := Ideal) x0 x1 i = Cert.NormIdeal.Value.total x0 x1 i := by
  refine (show _ = x0 i * val_main_v8 (F := Ideal) x0 i * val_main_v10 (F := Ideal) x1 i from rfl).trans ?_
  rw [val_main_v8_apply, val_main_v10_apply]
  refine congrArg₂ (· * ·) (congrArg (x0 i * ·) ?_) (congrArg x1 (funext fun a => ?_))
  · refine (show _ = Ideal.rsqrt (Ideal.div (val_main_v2 (F := Ideal) x0 (idx_main_v8 i)) (Ideal.ofBits .f32 0x45800000#32) + Ideal.ofBits .f32 0x3727C5AC#32) from rfl).trans ?_
    rw [val_main_v2_apply, sum_apply]
    rfl
  · match a with
    | ⟨0, _⟩ => rfl
    | ⟨1, _⟩ => rfl

/-- The reference runs to its end. -/
theorem frame : Cert.quiescent_NormRefIdeal := fun m g _ =>
  (θ_run Cert.NormRefIdeal.defs _ _).mono (fun r h => ⟨fun c => (h c).2, Idealize.ShloMosaic.sem_eq_zero_of_no_sems (by decide) r.2⟩)
    (Cert.NormRefIdeal.Value.run (F := Ideal) m g)

/-- The kernel computes what the reference computes. -/
theorem algebraic : Cert.algebraic_NormIdeal_NormRefIdeal := by
  intro m g m' g' _ hargs
  refine ⟨fun c => Cert.NormIdeal.Value.result m c, ?_, ?_⟩
  · refine (θ_run Cert.NormIdeal.defs _ _).mono (fun r h c => ?_) (Cert.NormIdeal.Value.run_blocks (F := Ideal) m g)
    obtain ⟨h2, h⟩ := h c
    exact ⟨h2.trans (Cert.NormIdeal.Value.final_eq m c), h⟩
  · refine (θ_run Cert.NormRefIdeal.defs _ _).mono (fun r h c => ?_) (Cert.NormRefIdeal.Value.run (F := Ideal) m' g')
    obtain ⟨h2, h⟩ := h c
    obtain ⟨e0, e1⟩ := hargs c
    refine ⟨h2.trans ?_, h⟩
    refine (val_main_v12_eq _ _).trans ?_
    rw [e0, e1]
    funext i
    exact result_eq _ _ i

end Cert.NormRefIdeal.Value

end
-- ==== Proof.RmsGrad.lean ====
/-
  The gradient of a root-mean-square norm in a row, spelt as the kernels do and as differentiating the forward line does, over the extended reals.
-/
module

public import proofs.«01_k».proof.Proof.RmsCommon

@[expose] public section

noncomputable section

open Idealize.ShloMosaic Idealize.SL.Sem Idealize.ShloMosaic.ValueIdx

namespace Cert.Rms

theorem width : Ideal.ofBits .f32 0x45800000#32 = ((4096 : ℝ) : EReal) := by
  simp [Ideal.ofBits, Ideal.ieee]
  rw [← EReal.coe_mul]
  norm_num

theorem half_neg : Ideal.ofBits .f32 0xBF000000#32 = ((-(1 / 2) : ℝ) : EReal) := by
  simp [Ideal.ofBits, Ideal.ieee]
  rw [← EReal.coe_mul]
  norm_num

theorem small : ∃ e : ℝ, 0 < e ∧ Ideal.ofBits .f32 0x3727C5AC#32 = (e : EReal) := by
  refine ⟨10995116 * (1 / 1099511627776), by norm_num, ?_⟩
  simp [Ideal.ofBits, Ideal.ieee]
  norm_num

theorem sum_coe {n : Nat} (f : Fin n → ℝ) : ∑ k, ((f k : ℝ) : EReal) = ((∑ k, f k : ℝ) : EReal) := by
  have h : ∀ s : Finset (Fin n), ∑ k ∈ s, ((f k : ℝ) : EReal) = ((∑ k ∈ s, f k : ℝ) : EReal) := fun s => by
    classical
    induction s using Finset.induction_on with
    | empty => simp
    | insert k s hk ih => rw [Finset.sum_insert hk, Finset.sum_insert hk, ih, EReal.coe_add]
  exact h _

theorem div_real (a b : ℝ) (h : b ≠ 0) : Ideal.div (a : EReal) (b : EReal) = ((a / b : ℝ) : EReal) := by
  rw [Ideal.div_coe h, ← EReal.coe_mul]
  congr 1
  ring

theorem mean_real (f : Fin 4096 → ℝ) : mean (fun k => (f k : EReal)) = (((∑ k, f k) / 4096 : ℝ) : EReal) := by
  unfold mean
  rw [sum_coe, width, div_real _ _ (by norm_num)]

/-- The scale of a row of reals is a real, the inverse root of its mean square. -/
theorem scale_real (x : Fin 4096 → ℝ) : ∃ u s : ℝ, 0 ≤ s ∧ u ≠ 0 ∧ s * s * u = 1 ∧ square (fun k => (x k : EReal)) = u ∧ scale (fun k => (x k : EReal)) = s := by
  obtain ⟨e, he, hb⟩ := small
  have hs : 0 ≤ ∑ k, x k * x k := Finset.sum_nonneg fun k _ => mul_self_nonneg _
  have hu : 0 < (∑ k, x k * x k) / 4096 + e := by positivity
  have hq : square (fun k => (x k : EReal)) = (((∑ k, x k * x k) / 4096 + e : ℝ) : EReal) := by
    unfold square
    rw [hb, EReal.coe_add, ← mean_real]
    simp only [EReal.coe_mul]
  refine ⟨_, (Real.sqrt ((∑ k, x k * x k) / 4096 + e))⁻¹, inv_nonneg.mpr (Real.sqrt_nonneg _), hu.ne', ?_, hq, ?_⟩
  · rw [← mul_inv, Real.mul_self_sqrt hu.le]
    exact inv_mul_cancel₀ hu.ne'
  · unfold scale
    rw [hq, Ideal.rsqrt_coe, if_neg (not_lt.mpr hu.le), if_neg hu.ne']

/-- One element of the gradient: `x` the row, `w` the gradient of the scaled row. -/
def rowGrad (x w : Fin 4096 → EReal) (j : Fin 4096) : EReal :=
  scale x * (w j - x j * scale x * mean (fun k => w k * (x k * scale x)))
/-- What reaches each element through the row's mean square. -/
def through (x w : Fin 4096 → EReal) : EReal :=
  Ideal.div ((∑ k, x k * w k) * (Ideal.ofBits .f32 0xBF000000#32 * Ideal.div (scale x) (square x))) (Ideal.ofBits .f32 0x45800000#32)
/-- The same, as differentiating the forward line gives it. -/
def rowGradRef (x w : Fin 4096 → EReal) (j : Fin 4096) : EReal :=
  w j * scale x + x j * through x w + through x w * x j

/-- A real that is not negative comes out of a sum. -/
theorem coe_mul_sum {n : Nat} (c : ℝ) (hc : 0 ≤ c) (f : Fin n → EReal) : ∑ k, (c : EReal) * f k = (c : EReal) * ∑ k, f k := by
  have h : ∀ s : Finset (Fin n), ∑ k ∈ s, (c : EReal) * f k = (c : EReal) * ∑ k ∈ s, f k := fun s => by
    classical
    induction s using Finset.induction_on with
    | empty => simp
    | insert k s hk ih => rw [Finset.sum_insert hk, Finset.sum_insert hk, ih, EReal.left_distrib_of_nonneg_of_ne_top (EReal.coe_nonneg.mpr hc) (EReal.coe_ne_top c)]
  exact h _

theorem self_mul_nonneg (a : EReal) : 0 ≤ a * a := by
  induction a with
  | coe r => rw [← EReal.coe_mul]; exact EReal.coe_nonneg.mpr (mul_self_nonneg r)
  | top => simp
  | bot => simp

theorem div_width (a : EReal) : Ideal.div a (Ideal.ofBits .f32 0x45800000#32) = a * ((1 / 4096 : ℝ) : EReal) := by
  rw [width, Ideal.div_coe (by norm_num)]

/-- A row with an infinite element has the scale zero. -/
theorem scale_infinite (x : Fin 4096 → EReal) (k : Fin 4096) (hk : x k * x k = ⊤) : square x = ⊤ ∧ scale x = 0 := by
  obtain ⟨e, he, hb⟩ := small
  have hs : ∑ k, x k * x k = ⊤ :=
    top_le_iff.mp (hk ▸ Finset.single_le_sum (f := fun k => x k * x k) (fun k _ => self_mul_nonneg (x k)) (Finset.mem_univ k))
  have hq : square x = ⊤ := by
    unfold square mean
    rw [hs, div_width, hb, EReal.top_mul_coe_of_pos (by norm_num), EReal.top_add_coe]
  refine ⟨hq, ?_⟩
  unfold scale
  rw [hq]
  rfl

/-- The two spellings are equal, whatever the row and the gradient hold. -/
theorem rowGrad_eq (x w : Fin 4096 → EReal) (j : Fin 4096) : rowGrad x w j = rowGradRef x w j := by
  by_cases hx : ∀ k, ∃ r : ℝ, x k = r
  · choose X hX using hx
    obtain rfl : x = fun k => (X k : EReal) := funext hX
    obtain ⟨u, s, h0, hu, hsu, hq, hs⟩ := scale_real X
    have e : s / u = s * s * s := by
      rw [div_eq_iff hu]
      linear_combination (-s) * hsu
    have hm : mean (fun k => w k * ((X k : EReal) * (s : EReal))) = (s : EReal) * (∑ k, (X k : EReal) * w k) * ((1 / 4096 : ℝ) : EReal) := by
      unfold mean
      rw [div_width, ← coe_mul_sum s h0]
      refine congrArg (· * _) (Finset.sum_congr rfl fun k _ => ?_)
      rw [mul_comm, mul_comm (X k : EReal), mul_assoc]
    unfold rowGrad rowGradRef through
    rw [hq, hs, hm, half_neg, div_width, div_real _ _ hu, e]
    generalize (∑ k, (X k : EReal) * w k) = B
    rw [EReal.mul_sub_of_nonneg_of_ne_top (EReal.coe_nonneg.mpr h0) (EReal.coe_ne_top s), add_assoc, mul_comm (w j), sub_eq_add_neg]
    refine congrArg (fun z => (s : EReal) * w j + z) ?_
    have h1 : ∀ r : ℝ, (r : EReal) * B = (((r / 2 : ℝ) : EReal) * B) + ((r / 2 : ℝ) : EReal) * B := fun r => by
      rw [← one_mul (((r / 2 : ℝ) : EReal) * B), ← EReal.right_distrib_of_nonneg zero_le_one zero_le_one, ← mul_assoc, ← EReal.coe_one, ← EReal.coe_add, ← EReal.coe_mul]
      refine congrArg (fun r : ℝ => (r : EReal) * B) ?_
      ring
    have h2 : -((s : EReal) * ((X j : EReal) * (s : EReal) * ((s : EReal) * B * ((1 / 4096 : ℝ) : EReal)))) = ((-(s * X j * s * s * (1 / 4096)) : ℝ) : EReal) * B := by
      rw [EReal.coe_neg, EReal.neg_mul]
      refine congrArg Neg.neg ?_
      simp only [EReal.coe_mul]
      ac_rfl
    have h3 : (X j : EReal) * (B * (((-(1 / 2) : ℝ) : EReal) * ((s * s * s : ℝ) : EReal)) * ((1 / 4096 : ℝ) : EReal)) = ((-(s * X j * s * s * (1 / 4096)) / 2 : ℝ) : EReal) * B := by
      rw [show (-(s * X j * s * s * (1 / 4096)) / 2 : ℝ) = X j * (-(1 / 2) * (s * s * s)) * (1 / 4096) by ring]
      simp only [EReal.coe_mul]
      ac_rfl
    refine h2.trans ((h1 _).trans ?_)
    exact congrArg₂ (· + ·) h3.symm (h3.symm.trans (mul_comm _ _))
  · obtain ⟨k, hk⟩ := not_forall.mp hx
    have hk : x k * x k = ⊤ := by
      generalize x k = a at hk
      induction a with
      | coe r => exact absurd ⟨r, rfl⟩ hk
      | top => simp
      | bot => simp
    obtain ⟨hq, hs⟩ := scale_infinite x k hk
    unfold rowGrad rowGradRef through
    rw [hq, hs, show Ideal.div 0 ⊤ = 0 by simp [Ideal.div], div_width]
    simp

/-- A sum over all rows, by blocks of 256. -/
theorem sum_blocks {M : Type} [AddCommMonoid M] (f : Fin 4096 → M) (g : Fin 16 → Fin 256 → M)
    (hg : ∀ (s : Fin 16) (j : Fin 256) (u : Fin 4096), u.val = s.val * 256 + j.val → f u = g s j) :
    ∑ u : Fin 4096, f u = ∑ s : Fin 16, ∑ j : Fin 256, g s j := by
  rw [← Equiv.sum_comp (finProdFinEquiv (m := 16) (n := 256)), Fintype.sum_prod_type]
  refine Finset.sum_congr rfl fun s _ => Finset.sum_congr rfl fun j _ => hg s j _ ?_
  show j.val + 256 * s.val = s.val * 256 + j.val
  ring

end Cert.Rms

end
-- ==== Proof.NormGradValue.lean ====
/-
  The gradient of an RMSNorm: what the kernel leaves in its results, over the extended reals, and that the reference leaves the same.
-/
module

public import proofs.«01_k».proof.Defs
public import proofs.«01_k».proof.Proof.Common
public import proofs.«01_k».proof.Proof.RmsGrad
public import proofs.«01_k».proof.Proof.Gen.NormGradIdeal.Value
public import proofs.«01_k».proof.Proof.Gen.NormGradRefIdeal.Run
public import proofs.«01_k».proof.Proof.Gen.NormGradRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Common Cert.Rms

namespace Cert.NormGradIdeal.Value

open Cert.NormGradIdeal Cert.NormGradIdeal.Gen

/-- What else reaches the norm's argument, and the gradient through the norm. -/
def total (x0 : (⟨S4096x4096, .f32⟩ : BufTy).Contents (Elt Ideal)) (x1 : (⟨S1x4096, .f32⟩ : BufTy).Contents (Elt Ideal)) (x2 x3 : (⟨S4096x4096, .f32⟩ : BufTy).Contents (Elt Ideal)) : S4096x4096.Idx → EReal :=
  fun i => (x3 i : EReal) + rowGrad (fun k => x0 (ix2 (i 0) k)) (fun k => (x2 (ix2 (i 0) k) : EReal) * x1 (ix2 0 k)) (i 1)

/-- One token's share of a gain's gradient. -/
def share (x0 x2 : (⟨S4096x4096, .f32⟩ : BufTy).Contents (Elt Ideal)) (u j : Fin 4096) : EReal :=
  (x2 (ix2 u j) : EReal) * ((x0 (ix2 u j) : EReal) * scale (fun k => x0 (ix2 u k)))
/-- The gains' gradient. -/
def gains (x0 x2 : (⟨S4096x4096, .f32⟩ : BufTy).Contents (Elt Ideal)) : S1x4096.Idx → EReal := fun i => ∑ u : Fin 4096, share x0 x2 u (i 1)

theorem pay2_apply (x0 : Vec Ideal S256x4096 .f32) (r : Fin 256) : k0_pay2 (F := Ideal) x0 (ix2 r 0) = scale (fun k => x0 (ix2 r k)) := by
  unfold k0_pay2
  refine congrArg Ideal.rsqrt (congrArg (fun s => Ideal.div s (Ideal.ofBits .f32 0x45800000#32) + Ideal.ofBits .f32 0x3727C5AC#32) ?_)
  refine (shapeCast_a_a1_apply _ shapeCasts_S256_S256x1 r 0).trans ?_
  exact rowSum_apply (mulf x0 x0) _ reduces_S256x4096_S256 _ _ r

theorem pay3_apply (x0 : Vec Ideal S256x4096 .f32) (r : Fin 256) (j : Fin 4096) : k0_pay3 (F := Ideal) x0 (ix2 r j) = (x0 (ix2 r j) : EReal) * scale (fun k => x0 (ix2 r k)) := by
  unfold k0_pay3
  exact congrArg (x0 (ix2 r j) * ·) ((spread_apply _ broadcasts_S256x1_S256x4096 r j).trans (pay2_apply x0 r))

/-- The gradient of a scaled row. -/
theorem weigh_apply (x1 : Vec Ideal S1x4096 .f32) (x2 : Vec Ideal S256x4096 .f32) (r : Fin 256) (j : Fin 4096) :
    mulf (F := Ideal) (φ := .f32) x2 (broadcastTo S256x4096 (α := EReal) x1 broadcasts_S1x4096_S256x4096) (ix2 r j) = (x2 (ix2 r j) : EReal) * x1 (ix2 0 j) :=
  congrArg (x2 (ix2 r j) * ·) (broadcastTo_1b_ab_apply x1 broadcasts_S1x4096_S256x4096 r j)

theorem pay4_apply (x0 x2 : Vec Ideal S256x4096 .f32) (x1 : Vec Ideal S1x4096 .f32) (x3 : Vec Ideal S256x4096 .f32) (r : Fin 256) (j : Fin 4096) :
    k0_pay4 (F := Ideal) x0 x2 x1 x3 (ix2 r j) = (x3 (ix2 r j) : EReal) + rowGrad (fun k => x0 (ix2 r k)) (fun k => (x2 (ix2 r k) : EReal) * x1 (ix2 0 k)) j := by
  unfold k0_pay4
  refine congrArg (x3 (ix2 r j) + ·) ?_
  unfold rowGrad
  refine congrArg₂ (· * ·) ((spread_apply _ broadcasts_S256x1_S256x4096 r j).trans (pay2_apply x0 r)) ?_
  refine congrArg₂ (· - ·) (weigh_apply x1 x2 r j) (congrArg₂ (· * ·) (pay3_apply x0 r j) ?_)
  refine (spread_apply _ broadcasts_S256x1_S256x4096 r j).trans ?_
  unfold mean
  refine congrArg (fun s => Ideal.div s (Ideal.ofBits .f32 0x45800000#32)) ?_
  refine (shapeCast_a_a1_apply _ shapeCasts_S256_S256x1 r 0).trans ?_
  refine (rowSum_apply _ _ reduces_S256x4096_S256 _ _ r).trans ?_
  exact Finset.sum_congr rfl fun k _ => congrArg₂ (· * ·) (weigh_apply x1 x2 r k) (pay3_apply x0 r k)

/-- An element of a block's result. -/
def row (x0 : Vec Ideal S256x4096 .f32) (x1 : Vec Ideal S1x4096 .f32) (x2 x3 : Vec Ideal S256x4096 .f32) (r : Fin 256) (j : Fin 4096) : EReal :=
  (x3 (ix2 r j) : EReal) + rowGrad (fun k => x0 (ix2 r k)) (fun k => (x2 (ix2 r k) : EReal) * x1 (ix2 0 k)) j

/-- What a block of tokens adds to the gains' gradient. -/
def part (x0 x2 : Vec Ideal S256x4096 .f32) (j : Fin 4096) : EReal :=
  ∑ r : Fin 256, (x2 (ix2 r j) : EReal) * ((x0 (ix2 r j) : EReal) * scale (fun k => x0 (ix2 r k)))

theorem pay1_apply (x0 x2 : Vec Ideal S256x4096 .f32) (v : Vec Ideal S1x4096 .f32) (j : Fin 4096) :
    k0_pay1 (F := Ideal) x2 (k0_pay3 x0) v (ix2 0 j) = (v (ix2 0 j) : EReal) + part x0 x2 j := by
  unfold k0_pay1
  refine congrArg (v (ix2 0 j) + ·) ?_
  refine (shapeCast_a_1a_apply _ shapeCasts_S4096_S1x4096 0 j).trans ?_
  refine (colSum_apply _ _ reduces_S256x4096_S4096 _ _ j).trans ?_
  exact Finset.sum_congr rfl fun r _ => congrArg (x2 (ix2 r j) * ·) (pay3_apply x0 r j)

theorem out4_A_apply (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S256x4096 .bf16) (harg6 : arg6.IsWhole) (arg7 : Memref sig .tc .vmem S1x4096 .f32) (harg7 : arg7.IsWhole) (hc0 : cond0_0 i) (x0 : Vec Ideal S256x4096 .f32) (x1 : Vec Ideal S1x4096 .f32) (x2 x3 : Vec Ideal S256x4096 .f32) (r : Fin 256) (j : Fin 4096) :
    out0_A_4 (F := Ideal) c i arg1 harg1 arg2 harg2 arg3 harg3 arg4 harg4 arg5 harg5 arg6 harg6 arg7 harg7 hc0 x0 x1 x2 x3 (ix2 r j) = row x0 x1 x2 x3 r j := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  sl_unfold_words
  rw [View.canon_unit_zero (S := S256x4096) hz2]
  try dsimp only
  simp only [View.readAt_eq_ld, Memref.IsWhole.read_unread]
  simp only [View.ld_unit_zero (S := S256x4096) hz2, View.ld_unit_zero (S := S1x4096) hz2]
  exact pay4_apply x0 x2 x1 x3 r j

theorem out5_A_apply (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S256x4096 .bf16) (harg6 : arg6.IsWhole) (arg7 : Memref sig .tc .vmem S1x4096 .f32) (harg7 : arg7.IsWhole) (hc0 : cond0_0 i) (x0 : Vec Ideal S256x4096 .f32) (x1 : Vec Ideal S1x4096 .f32) (x2 x3 : Vec Ideal S256x4096 .f32) (r : Fin 256) (j : Fin 4096) :
    out0_A_5 (F := Ideal) c i arg1 harg1 arg2 harg2 arg3 harg3 arg4 harg4 arg5 harg5 arg6 harg6 arg7 harg7 hc0 x0 x1 x2 x3 (ix2 r j) = row x0 x1 x2 x3 r j := by
  unfold out0_A_5
  rw [View.read_writes_eq_canon _ _ _ (cover0_A_5 c i arg1 harg1 arg2 harg2 arg3 harg3 arg4 harg4 arg5 harg5 arg6 harg6 arg7 harg7 hc0 x0 x1 x2 x3)]
  unfold kernelRun0_A
  dsimp only
  sl_unfold_words
  rw [View.canon_unit_zero (S := S256x4096) hz2]
  try dsimp only
  simp only [View.readAt_eq_ld, Memref.IsWhole.read_unread]
  simp only [View.ld_unit_zero (S := S256x4096) hz2, View.ld_unit_zero (S := S1x4096) hz2]
  unfold k0_pay5
  exact pay4_apply x0 x2 x1 x3 r j

theorem out4_B_apply (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S256x4096 .bf16) (harg6 : arg6.IsWhole) (arg7 : Memref sig .tc .vmem S1x4096 .f32) (harg7 : arg7.IsWhole) (hc0 : ¬cond0_0 i) (x0 : Vec Ideal S256x4096 .f32) (x1 : Vec Ideal S1x4096 .f32) (x2 x3 : Vec Ideal S256x4096 .f32) (xo6 : Vec Ideal S1x4096 .f32) (r : Fin 256) (j : Fin 4096) :
    out0_B_4 (F := Ideal) c i arg1 harg1 arg2 harg2 arg3 harg3 arg4 harg4 arg5 harg5 arg6 harg6 arg7 harg7 hc0 x0 x1 x2 x3 xo6 (ix2 r j) = row x0 x1 x2 x3 r j := by
  unfold out0_B_4
  rw [View.read_writes_eq_canon _ _ _ (cover0_B_4 c i arg1 harg1 arg2 harg2 arg3 harg3 arg4 harg4 arg5 harg5 arg6 harg6 arg7 harg7 hc0 x0 x1 x2 x3 xo6)]
  unfold kernelRun0_B
  dsimp only
  sl_unfold_words
  rw [View.canon_unit_zero (S := S256x4096) hz2]
  try dsimp only
  simp only [View.readAt_eq_ld, Memref.IsWhole.read_unread]
  simp only [View.ld_unit_zero (S := S256x4096) hz2, View.ld_unit_zero (S := S1x4096) hz2]
  exact pay4_apply x0 x2 x1 x3 r j

theorem out5_B_apply (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S256x4096 .bf16) (harg6 : arg6.IsWhole) (arg7 : Memref sig .tc .vmem S1x4096 .f32) (harg7 : arg7.IsWhole) (hc0 : ¬cond0_0 i) (x0 : Vec Ideal S256x4096 .f32) (x1 : Vec Ideal S1x4096 .f32) (x2 x3 : Vec Ideal S256x4096 .f32) (xo6 : Vec Ideal S1x4096 .f32) (r : Fin 256) (j : Fin 4096) :
    out0_B_5 (F := Ideal) c i arg1 harg1 arg2 harg2 arg3 harg3 arg4 harg4 arg5 harg5 arg6 harg6 arg7 harg7 hc0 x0 x1 x2 x3 xo6 (ix2 r j) = row x0 x1 x2 x3 r j := by
  unfold out0_B_5
  rw [View.read_writes_eq_canon _ _ _ (cover0_B_5 c i arg1 harg1 arg2 harg2 arg3 harg3 arg4 harg4 arg5 harg5 arg6 harg6 arg7 harg7 hc0 x0 x1 x2 x3 xo6)]
  unfold kernelRun0_B
  dsimp only
  sl_unfold_words
  rw [View.canon_unit_zero (S := S256x4096) hz2]
  try dsimp only
  simp only [View.readAt_eq_ld, Memref.IsWhole.read_unread]
  simp only [View.ld_unit_zero (S := S256x4096) hz2, View.ld_unit_zero (S := S1x4096) hz2]
  unfold k0_pay5
  exact pay4_apply x0 x2 x1 x3 r j

theorem out6_A_apply (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S256x4096 .bf16) (harg6 : arg6.IsWhole) (arg7 : Memref sig .tc .vmem S1x4096 .f32) (harg7 : arg7.IsWhole) (hc0 : cond0_0 i) (x0 : Vec Ideal S256x4096 .f32) (x1 : Vec Ideal S1x4096 .f32) (x2 x3 : Vec Ideal S256x4096 .f32) (j : Fin 4096) :
    out0_A_6 (F := Ideal) c i arg1 harg1 arg2 harg2 arg3 harg3 arg4 harg4 arg5 harg5 arg6 harg6 arg7 harg7 hc0 x0 x1 x2 x3 (ix2 0 j) = part x0 x2 j := by
  unfold out0_A_6
  rw [View.read_writes_eq_canon _ _ _ (cover0_A_6 c i arg1 harg1 arg2 harg2 arg3 harg3 arg4 harg4 arg5 harg5 arg6 harg6 arg7 harg7 hc0 x0 x1 x2 x3)]
  unfold kernelRun0_A
  dsimp only
  sl_unfold_words
  rw [View.canon_cons_unit_zero (S := S1x4096) hz2]
  try dsimp only
  simp only [View.readAt_eq_ld, Memref.IsWhole.read_unread]
  simp only [View.ld_unit_zero (S := S256x4096) hz2]
  refine (pay1_apply ..).trans ?_
  unfold k0_pay7
  rw [shapeCast_self, View.readCov_eq_canon', View.canon_unit_zero (S := S1x4096) hz2]
  refine (congrArg (· + _) (show _ = (0 : EReal) from zero_f32)).trans ?_
  rw [zero_add]

theorem out6_B_apply (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S256x4096 .bf16) (harg6 : arg6.IsWhole) (arg7 : Memref sig .tc .vmem S1x4096 .f32) (harg7 : arg7.IsWhole) (hc0 : ¬cond0_0 i) (x0 : Vec Ideal S256x4096 .f32) (x1 : Vec Ideal S1x4096 .f32) (x2 x3 : Vec Ideal S256x4096 .f32) (xo6 : Vec Ideal S1x4096 .f32) (j : Fin 4096) :
    out0_B_6 (F := Ideal) c i arg1 harg1 arg2 harg2 arg3 harg3 arg4 harg4 arg5 harg5 arg6 harg6 arg7 harg7 hc0 x0 x1 x2 x3 xo6 (ix2 0 j) = (xo6 (ix2 0 j) : EReal) + part x0 x2 j := by
  unfold out0_B_6
  rw [View.read_writes_eq_canon _ _ _ (cover0_B_6 c i arg1 harg1 arg2 harg2 arg3 harg3 arg4 harg4 arg5 harg5 arg6 harg6 arg7 harg7 hc0 x0 x1 x2 x3 xo6)]
  unfold kernelRun0_B
  dsimp only
  sl_unfold_words
  rw [View.canon_unit_zero (S := S1x4096) hz2]
  try dsimp only
  simp only [View.readAt_eq_ld, Memref.IsWhole.read_unread]
  simp only [View.ld_unit_zero (S := S256x4096) hz2, View.ld_unit_zero (S := S1x4096) hz2]
  refine (pay1_apply ..).trans ?_
  unfold k0_pay7
  rw [shapeCast_self]

variable (m : (ℓ : Loc nD τ sig) → Buf (Elt Ideal) ℓ) (c : Dev nD)

abbrev a0 : (⟨S4096x4096, .f32⟩ : BufTy).Contents (Elt Ideal) := m ((c : Thread nD τ).loc main_arg0)
abbrev a1 : (⟨S1x4096, .f32⟩ : BufTy).Contents (Elt Ideal) := m ((c : Thread nD τ).loc main_arg1)
abbrev a2 : (⟨S4096x4096, .f32⟩ : BufTy).Contents (Elt Ideal) := m ((c : Thread nD τ).loc main_arg2)
abbrev a3 : (⟨S4096x4096, .f32⟩ : BufTy).Contents (Elt Ideal) := m ((c : Thread nD τ).loc main_arg3)
theorem index_0 : ∀ t : Fin cfg0.N, win0_0.index t 0 = t.val ∧ win0_0.index t 1 = 0 :=
  (by decide +kernel : ∀ t : Fin grid0.N, win0_0.index t 0 = t.val ∧ win0_0.index t 1 = 0)
theorem index_1 : ∀ t : Fin cfg0.N, win0_1.index t 0 = 0 ∧ win0_1.index t 1 = 0 :=
  (by decide +kernel : ∀ t : Fin grid0.N, win0_1.index t 0 = 0 ∧ win0_1.index t 1 = 0)
theorem index_2 : ∀ t : Fin cfg0.N, win0_2.index t 0 = t.val ∧ win0_2.index t 1 = 0 :=
  (by decide +kernel : ∀ t : Fin grid0.N, win0_2.index t 0 = t.val ∧ win0_2.index t 1 = 0)
theorem index_3 : ∀ t : Fin cfg0.N, win0_3.index t 0 = t.val ∧ win0_3.index t 1 = 0 :=
  (by decide +kernel : ∀ t : Fin grid0.N, win0_3.index t 0 = t.val ∧ win0_3.index t 1 = 0)
theorem index_4 : ∀ t : Fin cfg0.N, win0_4.index t 0 = t.val ∧ win0_4.index t 1 = 0 :=
  (by decide +kernel : ∀ t : Fin grid0.N, win0_4.index t 0 = t.val ∧ win0_4.index t 1 = 0)
theorem index_5 : ∀ t : Fin cfg0.N, win0_5.index t 0 = t.val ∧ win0_5.index t 1 = 0 :=
  (by decide +kernel : ∀ t : Fin grid0.N, win0_5.index t 0 = t.val ∧ win0_5.index t 1 = 0)
theorem index_6 : ∀ t : Fin cfg0.N, win0_6.index t 0 = 0 ∧ win0_6.index t 1 = 0 :=
  (by decide +kernel : ∀ t : Fin grid0.N, win0_6.index t 0 = 0 ∧ win0_6.index t 1 = 0)

theorem lt (t : Fin cfg0.N) : t.val < 16 := t.isLt
def rowAt (t : Fin cfg0.N) (r : Fin 256) : Fin 4096 := ⟨t.val * 256 + r.val, by have := lt t; omega⟩

theorem blk0 (t : Fin cfg0.N) (r : Fin 256) (j : Fin 4096) :
    (iblk m c 0 t : Vec Ideal S256x4096 .f32) (ix2 r j) = a0 m c (ix2 (rowAt t r) j) := by
  unfold iblk
  rw [View.read_apply]
  show V m c main_arg0 _ = _
  rw [V_main_arg0]
  refine congrArg (a0 m c) (funext fun a => Fin.ext ?_)
  match a with
  | ⟨0, _⟩ => show win0_0.index t 0 * 256 + 1 * r.val = t.val * 256 + r.val; rw [(index_0 t).1]; omega
  | ⟨1, _⟩ => show win0_0.index t 1 * 4096 + 1 * j.val = j.val; rw [(index_0 t).2]; omega

theorem blk2 (t : Fin cfg0.N) (r : Fin 256) (j : Fin 4096) :
    (iblk m c 2 t : Vec Ideal S256x4096 .f32) (ix2 r j) = a2 m c (ix2 (rowAt t r) j) := by
  unfold iblk
  rw [View.read_apply]
  show V m c main_arg2 _ = _
  rw [V_main_arg2]
  refine congrArg (a2 m c) (funext fun a => Fin.ext ?_)
  match a with
  | ⟨0, _⟩ => show win0_2.index t 0 * 256 + 1 * r.val = t.val * 256 + r.val; rw [(index_2 t).1]; omega
  | ⟨1, _⟩ => show win0_2.index t 1 * 4096 + 1 * j.val = j.val; rw [(index_2 t).2]; omega

theorem blk3 (t : Fin cfg0.N) (r : Fin 256) (j : Fin 4096) :
    (iblk m c 3 t : Vec Ideal S256x4096 .f32) (ix2 r j) = a3 m c (ix2 (rowAt t r) j) := by
  unfold iblk
  rw [View.read_apply]
  show V m c main_arg3 _ = _
  rw [V_main_arg3]
  refine congrArg (a3 m c) (funext fun a => Fin.ext ?_)
  match a with
  | ⟨0, _⟩ => show win0_3.index t 0 * 256 + 1 * r.val = t.val * 256 + r.val; rw [(index_3 t).1]; omega
  | ⟨1, _⟩ => show win0_3.index t 1 * 4096 + 1 * j.val = j.val; rw [(index_3 t).2]; omega

theorem blk1 (t : Fin cfg0.N) (j : Fin 4096) :
    (iblk m c 1 t : Vec Ideal S1x4096 .f32) (ix2 0 j) = a1 m c (ix2 0 j) := by
  unfold iblk
  rw [View.read_apply]
  show V m c main_arg1 _ = _
  rw [V_main_arg1]
  refine congrArg (a1 m c) (funext fun a => Fin.ext ?_)
  match a with
  | ⟨0, _⟩ => show win0_1.index t 0 * 1 + 1 * 0 = 0; rw [(index_1 t).1]
  | ⟨1, _⟩ => show win0_1.index t 1 * 4096 + 1 * j.val = j.val; rw [(index_1 t).2]; omega

abbrev result : S4096x4096.Idx → EReal := total (a0 m c) (a1 m c) (a2 m c) (a3 m c)
abbrev gain : S1x4096.Idx → EReal := gains (a0 m c) (a2 m c)

theorem row_blk (t : Fin cfg0.N) (r : Fin 256) (j : Fin 4096) :
    row (iblk m c 0 t) (iblk m c 1 t) (iblk m c 2 t) (iblk m c 3 t) r j = result m c (ix2 (rowAt t r) j) := by
  unfold row
  rw [blk3]
  exact congrArg (_ + ·) (congrArg₂ (fun f g => rowGrad f g j) (funext fun k => blk0 m c t r k) (funext fun k => by rw [blk2, blk1]))

theorem flushed4_eq (t : Fin cfg0.N) : (dats m 0 c).flushed 4 t = ((cfg0.win 4).blk t).view.read (Elt Ideal) (result m c) := by
  have e : ∀ (r : Fin 256) (j : Fin 4096), (dats m 0 c).flushed 4 t (ix2 r j) = result m c (ix2 (rowAt t r) j) := fun r j => by
    by_cases h : t.val % 16 = 0
    · rw [flushed4_A m c t h]
      exact (out4_A_apply ..).trans (row_blk m c t r j)
    · rw [flushed4_B m c t h]
      exact (out4_B_apply ..).trans (row_blk m c t r j)
  funext y
  obtain ⟨r, j, rfl⟩ : ∃ (r : Fin 256) (j : Fin 4096), y = ix2 r j := ⟨_, _, eq_ix2 y⟩
  rw [View.read_apply]
  refine (e r j).trans ?_
  refine congrArg (result m c) (funext fun a => Fin.ext ?_)
  match a with
  | ⟨0, _⟩ => show t.val * 256 + r.val = win0_4.index t 0 * 256 + 1 * r.val; rw [(index_4 t).1]; omega
  | ⟨1, _⟩ => show j.val = win0_4.index t 1 * 4096 + 1 * j.val; rw [(index_4 t).2]; omega

theorem flushed5_eq (t : Fin cfg0.N) : (dats m 0 c).flushed 5 t = ((cfg0.win 5).blk t).view.read (Elt Ideal) (result m c) := by
  have e : ∀ (r : Fin 256) (j : Fin 4096), (dats m 0 c).flushed 5 t (ix2 r j) = result m c (ix2 (rowAt t r) j) := fun r j => by
    by_cases h : t.val % 16 = 0
    · rw [flushed5_A m c t h]
      exact (out5_A_apply ..).trans (row_blk m c t r j)
    · rw [flushed5_B m c t h]
      exact (out5_B_apply ..).trans (row_blk m c t r j)
  funext y
  obtain ⟨r, j, rfl⟩ : ∃ (r : Fin 256) (j : Fin 4096), y = ix2 r j := ⟨_, _, eq_ix2 y⟩
  rw [View.read_apply]
  refine (e r j).trans ?_
  refine congrArg (result m c) (funext fun a => Fin.ext ?_)
  match a with
  | ⟨0, _⟩ => show t.val * 256 + r.val = win0_5.index t 0 * 256 + 1 * r.val; rw [(index_5 t).1]; omega
  | ⟨1, _⟩ => show j.val = win0_5.index t 1 * 4096 + 1 * j.val; rw [(index_5 t).2]; omega

/-- The point that writes back the block holding an index of the result. -/
def pointOf (i : S4096x4096.Idx) : Fin cfg0.N :=
  ⟨(i 0).val / 256, by
    have h0 : (i 0).val < 4096 := (i 0).isLt
    show _ < 16; omega⟩

theorem final4_eq : (dats m 0 c).arrAt 4 cfg0.N = result m c :=
  (dats m 0 c).arrAt_eq_of_cover 4 (result m c) (fun t _ => flushed4_eq m c t) fun i => ⟨pointOf i, flush0_4 _, by
    have h0 : (i 0).val < 4096 := (i 0).isLt
    have h1 : (i 1).val < 4096 := (i 1).isLt
    show i ∈ ((View.whole main_v0_0).slice (win0_4.rect (pointOf i))).set
    rw [View.set_slice_whole, Rect.mem_set_unit]
    have hp : (pointOf i).val = (i 0).val / 256 := rfl
    intro a
    match a with
    | ⟨0, _⟩ => show win0_4.index (pointOf i) 0 * 256 ≤ (i 0 : Nat) ∧ (i 0 : Nat) < win0_4.index (pointOf i) 0 * 256 + 256
                rw [(index_4 _).1, hp]; omega
    | ⟨1, _⟩ => show win0_4.index (pointOf i) 1 * 4096 ≤ (i 1 : Nat) ∧ (i 1 : Nat) < win0_4.index (pointOf i) 1 * 4096 + 4096
                rw [(index_4 _).2]; omega⟩

theorem final5_eq : (dats m 0 c).arrAt 5 cfg0.N = result m c :=
  (dats m 0 c).arrAt_eq_of_cover 5 (result m c) (fun t _ => flushed5_eq m c t) fun i => ⟨pointOf i, flush0_5 _, by
    have h0 : (i 0).val < 4096 := (i 0).isLt
    have h1 : (i 1).val < 4096 := (i 1).isLt
    show i ∈ ((View.whole main_v0_1).slice (win0_5.rect (pointOf i))).set
    rw [View.set_slice_whole, Rect.mem_set_unit]
    have hp : (pointOf i).val = (i 0).val / 256 := rfl
    intro a
    match a with
    | ⟨0, _⟩ => show win0_5.index (pointOf i) 0 * 256 ≤ (i 0 : Nat) ∧ (i 0 : Nat) < win0_5.index (pointOf i) 0 * 256 + 256
                rw [(index_5 _).1, hp]; omega
    | ⟨1, _⟩ => show win0_5.index (pointOf i) 1 * 4096 ≤ (i 1 : Nat) ∧ (i 1 : Nat) < win0_5.index (pointOf i) 1 * 4096 + 4096
                rw [(index_5 _).2]; omega⟩

theorem part_blk (t : Fin cfg0.N) (j : Fin 4096) :
    part (iblk m c 0 t) (iblk m c 2 t) j = ∑ r : Fin 256, share (a0 m c) (a2 m c) (rowAt t r) j := by
  refine Finset.sum_congr rfl fun r _ => ?_
  rw [blk0, blk2]
  exact congrArg (fun f => _ * (_ * scale f)) (funext fun k => blk0 m c t r k)

/-- The gains' gradient after a point: the blocks so far. -/
theorem carried (n : Nat) (hn : n < cfg0.N) (j : Fin 4096) :
    (outsAt0 m c n hn).2.2 (ix2 0 j) = ∑ q : Fin (n + 1), ∑ r : Fin 256, share (a0 m c) (a2 m c) (rowAt ⟨q.val, Nat.lt_of_le_of_lt (Nat.le_of_lt_succ q.isLt) hn⟩ r) j := by
  induction n with
  | zero =>
    have e := outsAt0_A m c ⟨0, hn⟩ (Nat.zero_mod _)
    refine (congrFun (congrArg (fun p => p.2.2) e) (ix2 0 j)).trans ?_
    dsimp only
    refine (out6_A_apply ..).trans ((part_blk m c ⟨0, hn⟩ j).trans ?_)
    rw [Fin.sum_univ_one]
    rfl
  | succ n ih =>
    have h16 : n + 1 < 16 := hn
    have e := outsAt0_B m c ⟨n + 1, hn⟩ (by show ¬(n + 1) % 16 = 0; omega)
    refine (congrFun (congrArg (fun p => p.2.2) e) (ix2 0 j)).trans ?_
    dsimp only
    refine (out6_B_apply ..).trans ?_
    rw [Fin.sum_univ_castSucc]
    exact congrArg₂ (· + ·) (ih (Nat.lt_of_succ_lt hn)) (part_blk m c ⟨n + 1, hn⟩ j)

theorem gain_eq (h : 15 < cfg0.N) (j : Fin 4096) : (outsAt0 m c 15 h).2.2 (ix2 0 j) = gain m c (ix2 0 j) := by
  refine (carried m c 15 h j).trans ?_
  exact (sum_blocks _ _ fun s r u hu => congrArg (fun v => share (a0 m c) (a2 m c) v j) (Fin.ext hu)).symm

theorem flushed6_eq (t : Fin cfg0.N) (ht : t.val % 16 = 15) : (dats m 0 c).flushed 6 t = ((cfg0.win 6).blk t).view.read (Elt Ideal) (gain m c) := by
  obtain ⟨n, hn⟩ := t
  obtain rfl : n = 15 := by have h16 : n < 16 := hn; dsimp only at ht; omega
  funext y
  obtain ⟨z, j, rfl⟩ : ∃ (z : Fin 1) (j : Fin 4096), y = ix2 z j := ⟨_, _, eq_ix2 y⟩
  obtain rfl : z = 0 := Subsingleton.elim _ _
  rw [View.read_apply, flushed6]
  refine (gain_eq m c hn j).trans (congrArg (gain m c) (funext fun a => Fin.ext ?_))
  match a with
  | ⟨0, _⟩ => show 0 = win0_6.index ⟨15, hn⟩ 0 * 1 + 1 * 0; rw [(index_6 _).1]
  | ⟨1, _⟩ => show j.val = win0_6.index ⟨15, hn⟩ 1 * 4096 + 1 * j.val; rw [(index_6 _).2]; omega

def last : Fin cfg0.N := ⟨15, (show 15 < 16 by omega)⟩

theorem final6_eq : (dats m 0 c).arrAt 6 cfg0.N = gain m c :=
  (dats m 0 c).arrAt_eq_of_cover 6 (gain m c) (fun t h => flushed6_eq m c t ((flush0_6 t).mp h)) fun i => ⟨last, (flush0_6 _).mpr rfl, by
    have h0 : (i 0).val < 1 := (i 0).isLt
    have h1 : (i 1).val < 4096 := (i 1).isLt
    show i ∈ ((View.whole main_v0_2).slice (win0_6.rect last)).set
    rw [View.set_slice_whole, Rect.mem_set_unit]
    intro a
    match a with
    | ⟨0, _⟩ => show win0_6.index last 0 * 1 ≤ (i 0 : Nat) ∧ (i 0 : Nat) < win0_6.index last 0 * 1 + 1
                rw [(index_6 _).1]; omega
    | ⟨1, _⟩ => show win0_6.index last 1 * 4096 ≤ (i 1 : Nat) ∧ (i 1 : Nat) < win0_6.index last 1 * 4096 + 4096
                rw [(index_6 _).2]; omega⟩

end Cert.NormGradIdeal.Value

namespace Cert.NormGradRefIdeal.Value

open Cert.NormGradRefIdeal Cert.NormGradRefIdeal.Read

theorem squares_apply (x0 : (⟨S4096x4096, .f32⟩ : BufTy).Contents (Elt Ideal)) (i : S4096.Idx) :
    val_main_v1 (F := Ideal) x0 i = ∑ k : Fin 4096, (x0 (ix2 (i 0) k) : EReal) * x0 (ix2 (i 0) k) := by
  rw [val_main_v1_apply]
  refine (congrArg (· + _) (show val_main_cst (F := Ideal) _ = (0 : EReal) from zero_f32)).trans ?_
  rw [zero_add]
  refine Finset.sum_congr rfl fun k _ => ?_
  refine (show _ = (x0 (idx_main_v1 i k) : EReal) * x0 (idx_main_v1 i k) from rfl).trans ?_
  rw [show idx_main_v1 i k = ix2 (i 0) k from funext fun a => match a with
    | ⟨0, _⟩ => rfl
    | ⟨1, _⟩ => rfl]
  try rfl

theorem square_apply (x0 : (⟨S4096x4096, .f32⟩ : BufTy).Contents (Elt Ideal)) (i : S4096x1.Idx) : val_main_v6 (F := Ideal) x0 i = square (fun k => x0 (ix2 (i 0) k)) := by
  refine (show _ = Ideal.div (val_main_v2 (F := Ideal) x0 i) (Ideal.ofBits .f32 0x45800000#32) + Ideal.ofBits .f32 0x3727C5AC#32 from rfl).trans ?_
  rw [val_main_v2_apply, squares_apply]
  rfl

theorem scale_apply (x0 : (⟨S4096x4096, .f32⟩ : BufTy).Contents (Elt Ideal)) (i : S4096x1.Idx) : val_main_v7 (F := Ideal) x0 i = scale (fun k => x0 (ix2 (i 0) k)) :=
  congrArg Ideal.rsqrt (square_apply x0 i)

theorem slope_apply (x0 : (⟨S4096x4096, .f32⟩ : BufTy).Contents (Elt Ideal)) (i : S4096x1.Idx) :
    val_main_v10 (F := Ideal) x0 i = Ideal.ofBits .f32 0xBF000000#32 * Ideal.div (scale (fun k => x0 (ix2 (i 0) k))) (square (fun k => x0 (ix2 (i 0) k))) :=
  congrArg (_ * ·) (congrArg₂ Ideal.div (scale_apply x0 i) (square_apply x0 i))

theorem weigh_apply (x1 : (⟨S1x4096, .f32⟩ : BufTy).Contents (Elt Ideal)) (x2 : (⟨S4096x4096, .f32⟩ : BufTy).Contents (Elt Ideal)) (i : S4096x4096.Idx) :
    val_main_v19 (F := Ideal) x1 x2 i = (x2 i : EReal) * x1 (ix2 0 (i 1)) := by
  refine (show _ = (x2 i : EReal) * val_main_v18 (F := Ideal) x1 i from rfl).trans ?_
  rw [val_main_v18_apply]
  refine congrArg (_ * ·) (congrArg x1 (funext fun a => ?_))
  match a with
  | ⟨0, _⟩ => rfl
  | ⟨1, _⟩ => rfl

theorem dot_apply (x0 : (⟨S4096x4096, .f32⟩ : BufTy).Contents (Elt Ideal)) (x1 : (⟨S1x4096, .f32⟩ : BufTy).Contents (Elt Ideal)) (x2 : (⟨S4096x4096, .f32⟩ : BufTy).Contents (Elt Ideal)) (i : S4096.Idx) :
    val_main_v21 (F := Ideal) x0 x1 x2 i = ∑ k : Fin 4096, (x0 (ix2 (i 0) k) : EReal) * ((x2 (ix2 (i 0) k) : EReal) * x1 (ix2 0 k)) := by
  rw [val_main_v21_apply]
  refine (congrArg (· + _) (show val_main_cst_4 (F := Ideal) _ = (0 : EReal) from zero_f32)).trans ?_
  rw [zero_add]
  refine Finset.sum_congr rfl fun k _ => ?_
  rw [show idx_main_v21 i k = ix2 (i 0) k from funext fun a => match a with
    | ⟨0, _⟩ => rfl
    | ⟨1, _⟩ => rfl]
  exact congrArg (x0 (ix2 (i 0) k) * ·) (weigh_apply x1 x2 (ix2 (i 0) k))

theorem through_apply (x0 : (⟨S4096x4096, .f32⟩ : BufTy).Contents (Elt Ideal)) (x1 : (⟨S1x4096, .f32⟩ : BufTy).Contents (Elt Ideal)) (x2 : (⟨S4096x4096, .f32⟩ : BufTy).Contents (Elt Ideal)) (i : S4096x4096.Idx) :
    val_main_v29 (F := Ideal) x0 x1 x2 i = through (fun k => x0 (ix2 (i 0) k)) (fun k => (x2 (ix2 (i 0) k) : EReal) * x1 (ix2 0 k)) := by
  rw [val_main_v29_apply, val_main_v28_apply]
  refine (congrArg (· + _) (show val_main_cst_6 (F := Ideal) _ = (0 : EReal) from zero_f32)).trans ?_
  rw [zero_add, Fin.sum_univ_one]
  refine (show _ = Ideal.div (val_main_v22 (F := Ideal) x0 x1 x2 (idx_main_v28 (idx_main_v29 i) 0) * val_main_v10 (F := Ideal) x0 (idx_main_v28 (idx_main_v29 i) 0)) (Ideal.ofBits .f32 0x45800000#32) from rfl).trans ?_
  rw [val_main_v22_apply, dot_apply, slope_apply]
  have e : idx_main_v22 (idx_main_v28 (idx_main_v29 i) 0) 0 = i 0 := Fin.ext (by show (i 0).val * 1 + 0 = (i 0).val; omega)
  rw [e]
  rfl

theorem grad_apply (x0 : (⟨S4096x4096, .f32⟩ : BufTy).Contents (Elt Ideal)) (x1 : (⟨S1x4096, .f32⟩ : BufTy).Contents (Elt Ideal)) (x2 x3 : (⟨S4096x4096, .f32⟩ : BufTy).Contents (Elt Ideal)) (i : S4096x4096.Idx) :
    val_main_v34 (F := Ideal) x0 x1 x2 x3 i = (x3 i : EReal) + rowGradRef (fun k => x0 (ix2 (i 0) k)) (fun k => (x2 (ix2 (i 0) k) : EReal) * x1 (ix2 0 k)) (i 1) := by
  refine (show _ = (x3 i : EReal) + (val_main_v19 (F := Ideal) x1 x2 i * val_main_v23 (F := Ideal) x0 i + x0 i * val_main_v29 (F := Ideal) x0 x1 x2 i + val_main_v29 (F := Ideal) x0 x1 x2 i * x0 i) from rfl).trans ?_
  rw [through_apply, val_main_v23_apply, scale_apply, weigh_apply]
  unfold rowGradRef
  rw [show (i : S4096x4096.Idx) = ix2 (i 0) (i 1) from eq_ix2 i]
  rfl

theorem gain_apply (x0 x2 : (⟨S4096x4096, .f32⟩ : BufTy).Contents (Elt Ideal)) (i : S1x4096.Idx) :
    val_main_v17 (F := Ideal) x0 x2 i = Cert.NormGradIdeal.Value.gains x0 x2 i := by
  rw [val_main_v17_apply, val_main_v16_apply]
  refine (congrArg (· + _) (show val_main_cst_3 (F := Ideal) _ = (0 : EReal) from zero_f32)).trans ?_
  rw [zero_add]
  refine Finset.sum_congr rfl fun u _ => ?_
  rw [show idx_main_v16 (idx_main_v17 i) u = ix2 u (i 1) from funext fun a => match a with
    | ⟨0, _⟩ => rfl
    | ⟨1, _⟩ => Fin.ext (by have h0 : (i 0).val < 1 := (i 0).isLt; show (i 0).val * 4096 + (i 1).val = (i 1).val; omega)]
  refine (show _ = ((x0 (ix2 u (i 1)) : EReal) * val_main_v11 (F := Ideal) x0 (ix2 u (i 1))) * x2 (ix2 u (i 1)) from rfl).trans ?_
  rw [val_main_v11_apply, scale_apply, mul_comm]
  rfl

/-- The reference runs to its end. -/
theorem frame : Cert.quiescent_NormGradRefIdeal := fun m g _ =>
  (θ_run Cert.NormGradRefIdeal.defs _ _).mono (fun r h => ⟨fun c => (h c).2.2.2, Idealize.ShloMosaic.sem_eq_zero_of_no_sems (by decide) r.2⟩)
    (Cert.NormGradRefIdeal.Value.run (F := Ideal) m g)

theorem result_eq (x0 : (⟨S4096x4096, .f32⟩ : BufTy).Contents (Elt Ideal)) (x1 : (⟨S1x4096, .f32⟩ : BufTy).Contents (Elt Ideal)) (x2 x3 : (⟨S4096x4096, .f32⟩ : BufTy).Contents (Elt Ideal)) (i : S4096x4096.Idx) :
    val_main_v34 (F := Ideal) x0 x1 x2 x3 i = Cert.NormGradIdeal.Value.total x0 x1 x2 x3 i := by
  rw [grad_apply]
  exact congrArg (_ + ·) (rowGrad_eq _ _ _).symm

/-- The kernel computes what the reference computes. -/
theorem algebraic : Cert.algebraic_NormGradIdeal_NormGradRefIdeal := by
  intro m g m' g' _ hargs
  refine ⟨fun c => Cert.NormGradIdeal.Value.result m c, fun c => Cert.NormGradIdeal.Value.result m c, fun c => Cert.NormGradIdeal.Value.gain m c, ?_, ?_⟩
  · refine (θ_run Cert.NormGradIdeal.defs _ _).mono (fun r h c => ?_) (Cert.NormGradIdeal.Value.run_blocks (F := Ideal) m g)
    obtain ⟨h4, h5, h6, h⟩ := h c
    exact ⟨h4.trans (Cert.NormGradIdeal.Value.final4_eq m c), h5.trans (Cert.NormGradIdeal.Value.final5_eq m c), h6.trans (Cert.NormGradIdeal.Value.final6_eq m c), h⟩
  · refine (θ_run Cert.NormGradRefIdeal.defs _ _).mono (fun r h c => ?_) (Cert.NormGradRefIdeal.Value.run (F := Ideal) m' g')
    obtain ⟨h4, h5, h6, h⟩ := h c
    obtain ⟨e0, e1, e2, e3⟩ := hargs c
    refine ⟨h4.trans ?_, h5.trans ?_, h6.trans ?_, h⟩
    · refine (val_main_v34_eq _ _ _ _).trans ?_
      rw [e0, e1, e2, e3]
      funext i
      exact result_eq _ _ _ _ i
    · refine (val_main_v35_eq _ _ _ _).trans ?_
      rw [e0, e1, e2, e3]
      funext i
      exact result_eq _ _ _ _ i
    · refine (val_main_v17_eq _ _).trans ?_
      rw [e0, e2]
      funext i
      exact gain_apply _ _ i

end Cert.NormGradRefIdeal.Value

end
-- ==== Proof.LossGradValue.lean ====
/-
  The loss, with the gradients of what its norm reads: what the kernel leaves in its results, over the extended reals, and that the reference leaves the same.
-/
module

public import proofs.«01_k».proof.Defs
public import proofs.«01_k».proof.Proof.Common
public import proofs.«01_k».proof.Proof.RmsGrad
public import proofs.«01_k».proof.Proof.Gen.LossGradIdeal.Value
public import proofs.«01_k».proof.Proof.Gen.LossGradRefIdeal.Run
public import proofs.«01_k».proof.Proof.Gen.LossGradRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Common Cert.Rms

/-! ## A row's error and loss -/

namespace Cert.Loss

/-- A scaled row's distance from its target. -/
def miss (x g t : Fin 4096 → EReal) (k : Fin 4096) : EReal := x k * scale x * g k - t k
/-- The gradient of the loss in the scaled row. -/
def tilt (x g t : Fin 4096 → EReal) (k : Fin 4096) : EReal := miss x g t k * Ideal.ofBits .f32 0x39800000#32

theorem quarter_k : Ideal.ofBits .f32 0x39800000#32 = ((1 / 4096 : ℝ) : EReal) := by
  simp [Ideal.ofBits, Ideal.ieee]
  rw [← EReal.coe_mul]
  norm_num

theorem eighth_k : Ideal.ofBits .f32 0x39000000#32 = ((1 / 8192 : ℝ) : EReal) := by
  simp [Ideal.ofBits, Ideal.ieee]
  rw [← EReal.coe_mul]
  norm_num

theorem half : Ideal.ofBits .f32 0x3F000000#32 = ((1 / 2 : ℝ) : EReal) := by
  simp [Ideal.ofBits, Ideal.ieee]
  rw [← EReal.coe_mul]
  norm_num

theorem two : Ideal.ofBits .f32 0x40000000#32 = ((2 : ℝ) : EReal) := by
  simp [Ideal.ofBits, Ideal.ieee]
  rw [← EReal.coe_mul]
  norm_num

theorem slope_eq (e : EReal) :
    Ideal.div (Ideal.ofBits .f32 0x3F000000#32 * Ideal.ofBits .f32 0x3F800000#32) (Ideal.ofBits .f32 0x45800000#32) * (Ideal.ofBits .f32 0x40000000#32 * e) = e * Ideal.ofBits .f32 0x39800000#32 := by
  rw [Ideal.ofBits_one_f32, mul_one, half, width, div_real _ _ (by norm_num), two, quarter_k, ← mul_assoc, ← EReal.coe_mul, mul_comm]
  norm_num

/-- Row `r` of block `s`. -/
def rowOf (s : Fin 16) (r : Fin 256) : Fin 4096 := ⟨s.val * 256 + r.val, by omega⟩

/-- The loss of all rows, and block by block. -/
theorem loss_eq (e : Fin 4096 → Fin 4096 → EReal) :
    Ideal.ofBits .f32 0x3F000000#32 * ∑ u, Ideal.div (∑ k, e u k * e u k) (Ideal.ofBits .f32 0x45800000#32)
      = ∑ s, (∑ r, ∑ k, e (rowOf s r) k * e (rowOf s r) k) * Ideal.ofBits .f32 0x39000000#32 := by
  simp only [div_width, half, eighth_k]
  rw [← coe_mul_sum _ (by norm_num)]
  refine (sum_blocks _ (fun s r => ((1 / 8192 : ℝ) : EReal) * ∑ k, e (rowOf s r) k * e (rowOf s r) k) fun s r u hu => ?_).trans (Finset.sum_congr rfl fun s _ => ?_)
  · obtain rfl : u = rowOf s r := Fin.ext hu
    rw [mul_comm _ (((1 / 4096 : ℝ) : EReal)), ← mul_assoc, ← EReal.coe_mul]
    norm_num
  · rw [coe_mul_sum _ (by norm_num), mul_comm]

end Cert.Loss

open Cert.Loss

namespace Cert.LossGradIdeal.Value

open Cert.LossGradIdeal Cert.LossGradIdeal.Gen

/-- A token's distance from its target. -/
def far (x0 : (⟨S4096x4096, .f32⟩ : BufTy).Contents (Elt Ideal)) (x1 : (⟨S1x4096, .f32⟩ : BufTy).Contents (Elt Ideal)) (x2 : (⟨S4096x4096, .f32⟩ : BufTy).Contents (Elt Ideal)) (u k : Fin 4096) : EReal :=
  miss (fun k => x0 (ix2 u k)) (fun k => x1 (ix2 0 k)) (fun k => x2 (ix2 u k)) k
/-- The gradient of the loss in the norm's argument. -/
def total (x0 : (⟨S4096x4096, .f32⟩ : BufTy).Contents (Elt Ideal)) (x1 : (⟨S1x4096, .f32⟩ : BufTy).Contents (Elt Ideal)) (x2 : (⟨S4096x4096, .f32⟩ : BufTy).Contents (Elt Ideal)) : S4096x4096.Idx → EReal :=
  fun i => rowGrad (fun k => x0 (ix2 (i 0) k)) (fun k => tilt (fun k => x0 (ix2 (i 0) k)) (fun k => x1 (ix2 0 k)) (fun k => x2 (ix2 (i 0) k)) k * x1 (ix2 0 k)) (i 1)
/-- One token's share of a gain's gradient. -/
def share (x0 : (⟨S4096x4096, .f32⟩ : BufTy).Contents (Elt Ideal)) (x1 : (⟨S1x4096, .f32⟩ : BufTy).Contents (Elt Ideal)) (x2 : (⟨S4096x4096, .f32⟩ : BufTy).Contents (Elt Ideal)) (u j : Fin 4096) : EReal :=
  tilt (fun k => x0 (ix2 u k)) (fun k => x1 (ix2 0 k)) (fun k => x2 (ix2 u k)) j * ((x0 (ix2 u j) : EReal) * scale (fun k => x0 (ix2 u k)))
/-- The gains' gradient. -/
def gains (x0 : (⟨S4096x4096, .f32⟩ : BufTy).Contents (Elt Ideal)) (x1 : (⟨S1x4096, .f32⟩ : BufTy).Contents (Elt Ideal)) (x2 : (⟨S4096x4096, .f32⟩ : BufTy).Contents (Elt Ideal)) : S1x4096.Idx → EReal := fun i => ∑ u : Fin 4096, share x0 x1 x2 u (i 1)
/-- The loss of one block of tokens. -/
def blockLoss (x0 : (⟨S4096x4096, .f32⟩ : BufTy).Contents (Elt Ideal)) (x1 : (⟨S1x4096, .f32⟩ : BufTy).Contents (Elt Ideal)) (x2 : (⟨S4096x4096, .f32⟩ : BufTy).Contents (Elt Ideal)) (s : Fin 16) : EReal :=
  (∑ r : Fin 256, ∑ k : Fin 4096, far x0 x1 x2 (rowOf s r) k * far x0 x1 x2 (rowOf s r) k) * Ideal.ofBits .f32 0x39000000#32
/-- The loss. -/
def loss (x0 : (⟨S4096x4096, .f32⟩ : BufTy).Contents (Elt Ideal)) (x1 : (⟨S1x4096, .f32⟩ : BufTy).Contents (Elt Ideal)) (x2 : (⟨S4096x4096, .f32⟩ : BufTy).Contents (Elt Ideal)) : S8x128.Idx → EReal := fun _ => ∑ s : Fin 16, blockLoss x0 x1 x2 s

/-! ## What a point computes -/

theorem pay3_apply (x0 : Vec Ideal S256x4096 .f32) (r : Fin 256) : k0_pay3 (F := Ideal) x0 (ix2 r 0) = scale (fun k => x0 (ix2 r k)) := by
  unfold k0_pay3
  refine congrArg Ideal.rsqrt (congrArg (fun s => Ideal.div s (Ideal.ofBits .f32 0x45800000#32) + Ideal.ofBits .f32 0x3727C5AC#32) ?_)
  refine (shapeCast_a_a1_apply _ shapeCasts_S256_S256x1 r 0).trans ?_
  exact rowSum_apply (mulf x0 x0) _ reduces_S256x4096_S256 _ _ r

theorem pay4_apply (x0 : Vec Ideal S256x4096 .f32) (r : Fin 256) (j : Fin 4096) : k0_pay4 (F := Ideal) x0 (ix2 r j) = (x0 (ix2 r j) : EReal) * scale (fun k => x0 (ix2 r k)) := by
  unfold k0_pay4
  exact congrArg (x0 (ix2 r j) * ·) ((spread_apply _ broadcasts_S256x1_S256x4096 r j).trans (pay3_apply x0 r))

theorem pay5_apply (x0 : Vec Ideal S256x4096 .f32) (x1 : Vec Ideal S1x4096 .f32) (x2 : Vec Ideal S256x4096 .f32) (r : Fin 256) (j : Fin 4096) :
    k0_pay5 (F := Ideal) x0 x1 x2 (ix2 r j) = miss (fun k => x0 (ix2 r k)) (fun k => x1 (ix2 0 k)) (fun k => x2 (ix2 r k)) j := by
  unfold k0_pay5 miss
  exact congrArg (· - x2 (ix2 r j)) (congrArg₂ (· * ·) (pay4_apply x0 r j) (broadcastTo_1b_ab_apply x1 broadcasts_S1x4096_S256x4096 r j))

theorem pay6_apply (x0 : Vec Ideal S256x4096 .f32) (x1 : Vec Ideal S1x4096 .f32) (x2 : Vec Ideal S256x4096 .f32) (r : Fin 256) (j : Fin 4096) :
    k0_pay6 (F := Ideal) x0 x1 x2 (ix2 r j) = tilt (fun k => x0 (ix2 r k)) (fun k => x1 (ix2 0 k)) (fun k => x2 (ix2 r k)) j := by
  unfold k0_pay6 tilt
  exact congrArg (· * Ideal.ofBits .f32 0x39800000#32) (pay5_apply x0 x1 x2 r j)

theorem weigh_apply (x0 : Vec Ideal S256x4096 .f32) (x1 : Vec Ideal S1x4096 .f32) (x2 : Vec Ideal S256x4096 .f32) (r : Fin 256) (j : Fin 4096) :
    mulf (F := Ideal) (φ := .f32) (k0_pay6 x0 x1 x2) (broadcastTo S256x4096 (α := EReal) x1 broadcasts_S1x4096_S256x4096) (ix2 r j)
      = tilt (fun k => x0 (ix2 r k)) (fun k => x1 (ix2 0 k)) (fun k => x2 (ix2 r k)) j * (x1 (ix2 0 j) : EReal) :=
  congrArg₂ (· * ·) (pay6_apply x0 x1 x2 r j) (broadcastTo_1b_ab_apply x1 broadcasts_S1x4096_S256x4096 r j)

/-- An element of a block's result. -/
def row (x0 : Vec Ideal S256x4096 .f32) (x1 : Vec Ideal S1x4096 .f32) (x2 : Vec Ideal S256x4096 .f32) (r : Fin 256) (j : Fin 4096) : EReal :=
  rowGrad (fun k => x0 (ix2 r k)) (fun k => tilt (fun k => x0 (ix2 r k)) (fun k => x1 (ix2 0 k)) (fun k => x2 (ix2 r k)) k * (x1 (ix2 0 k) : EReal)) j

theorem pay7_apply (x0 : Vec Ideal S256x4096 .f32) (x1 : Vec Ideal S1x4096 .f32) (x2 : Vec Ideal S256x4096 .f32) (r : Fin 256) (j : Fin 4096) : k0_pay7 (F := Ideal) x0 x1 x2 (ix2 r j) = row x0 x1 x2 r j := by
  unfold k0_pay7 row rowGrad
  refine congrArg₂ (· * ·) ((spread_apply _ broadcasts_S256x1_S256x4096 r j).trans (pay3_apply x0 r)) ?_
  refine congrArg₂ (· - ·) (weigh_apply x0 x1 x2 r j) (congrArg₂ (· * ·) (pay4_apply x0 r j) ?_)
  refine (spread_apply _ broadcasts_S256x1_S256x4096 r j).trans ?_
  unfold mean
  refine congrArg (fun s => Ideal.div s (Ideal.ofBits .f32 0x45800000#32)) ?_
  refine (shapeCast_a_a1_apply _ shapeCasts_S256_S256x1 r 0).trans ?_
  refine (rowSum_apply _ _ reduces_S256x4096_S256 _ _ r).trans ?_
  exact Finset.sum_congr rfl fun k _ => congrArg₂ (· * ·) (weigh_apply x0 x1 x2 r k) (pay4_apply x0 r k)

/-- What a block of tokens adds to the gains' gradient. -/
def part (x0 : Vec Ideal S256x4096 .f32) (x1 : Vec Ideal S1x4096 .f32) (x2 : Vec Ideal S256x4096 .f32) (j : Fin 4096) : EReal :=
  ∑ r : Fin 256, tilt (fun k => x0 (ix2 r k)) (fun k => x1 (ix2 0 k)) (fun k => x2 (ix2 r k)) j * ((x0 (ix2 r j) : EReal) * scale (fun k => x0 (ix2 r k)))

theorem pay1_apply (x0 : Vec Ideal S256x4096 .f32) (x1 : Vec Ideal S1x4096 .f32) (x2 : Vec Ideal S256x4096 .f32) (v : Vec Ideal S1x4096 .f32) (j : Fin 4096) :
    k0_pay1 (F := Ideal) (k0_pay4 x0) (k0_pay6 x0 x1 x2) v (ix2 0 j) = (v (ix2 0 j) : EReal) + part x0 x1 x2 j := by
  unfold k0_pay1
  rw [shapeCast_self]
  refine congrArg (v (ix2 0 j) + ·) ?_
  refine (shapeCast_a_1a_apply _ shapeCasts_S4096_S1x4096 0 j).trans ?_
  refine (colSum_apply _ _ reduces_S256x4096_S4096 _ _ j).trans ?_
  exact Finset.sum_congr rfl fun r _ => congrArg₂ (· * ·) (pay6_apply x0 x1 x2 r j) (pay4_apply x0 r j)

/-- What a block of tokens adds to the loss. -/
def bit (x0 : Vec Ideal S256x4096 .f32) (x1 : Vec Ideal S1x4096 .f32) (x2 : Vec Ideal S256x4096 .f32) : EReal :=
  (∑ r : Fin 256, ∑ k : Fin 4096, miss (fun k => x0 (ix2 r k)) (fun k => x1 (ix2 0 k)) (fun k => x2 (ix2 r k)) k * miss (fun k => x0 (ix2 r k)) (fun k => x1 (ix2 0 k)) (fun k => x2 (ix2 r k)) k) * Ideal.ofBits .f32 0x39000000#32

/-- The sum over a block, as the kernel takes it. -/
theorem allSum_apply (v : FVec Ideal S256x4096 .f32) (j : S1.Idx) :
    multiReduction (F := Ideal) .add [1, 2] S1 (shapeCast S1x256x4096 v shapeCasts_S256x4096_S1x256x4096) 0x00000000#32 reduces_S1x256x4096_S1 (.inl rfl) rfl j
      = ∑ r : Fin 256, ∑ k : Fin 4096, (v (ix2 r k) : EReal) := by
  refine (Ideal.multiReduction_add_total _ _ reduces_S1x256x4096_S1 (by decide) _ _ j).trans ?_
  rw [← Fintype.sum_equiv ⟨fun p : Fin 1 × Fin 256 × Fin 4096 => (ix3 p.1 p.2.1 p.2.2 : S1x256x4096.Idx), fun i => (i 0, i 1, i 2), fun _ => rfl, fun i => (eq_ix3 i).symm⟩
    (fun p => shapeCast S1x256x4096 v shapeCasts_S256x4096_S1x256x4096 (ix3 p.1 p.2.1 p.2.2)) _ fun _ => rfl]
  simp only [Fintype.sum_prod_type]
  rw [Fin.sum_univ_one]
  exact Finset.sum_congr rfl fun r _ => Finset.sum_congr rfl fun k _ => shapeCast_ab_1ab_apply v shapeCasts_S256x4096_S1x256x4096 0 r k

theorem pay2_apply (x0 : Vec Ideal S256x4096 .f32) (x1 : Vec Ideal S1x4096 .f32) (x2 : Vec Ideal S256x4096 .f32) (v : Vec Ideal S8x128 .f32) (y : S8x128.Idx) :
    k0_pay2 (F := Ideal) (k0_pay5 x0 x1 x2) v y = (v y : EReal) + bit x0 x1 x2 := by
  unfold k0_pay2 bit
  rw [shapeCast_self]
  refine congrArg (v y + ·) (congrArg (· * Ideal.ofBits .f32 0x39000000#32) ?_)
  refine (allSum_apply _ _).trans ?_
  exact Finset.sum_congr rfl fun r _ => Finset.sum_congr rfl fun k _ => congrArg₂ (· * ·) (pay5_apply x0 x1 x2 r k) (pay5_apply x0 x1 x2 r k)

theorem out3_A_apply (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S8x128 .f32) (harg7 : arg7.IsWhole) (hc0 : cond0_0 i) (x0 : Vec Ideal S256x4096 .f32) (x1 : Vec Ideal S1x4096 .f32) (x2 : Vec Ideal S256x4096 .f32) (r : Fin 256) (j : Fin 4096) :
    out0_A_3 (F := Ideal) c i arg1 harg1 arg2 harg2 arg3 harg3 arg4 harg4 arg5 harg5 arg6 harg6 arg7 harg7 hc0 x0 x1 x2 (ix2 r j) = row x0 x1 x2 r j := by
  unfold out0_A_3
  rw [View.read_writes_eq_canon _ _ _ (cover0_A_3 c i arg1 harg1 arg2 harg2 arg3 harg3 arg4 harg4 arg5 harg5 arg6 harg6 arg7 harg7 hc0 x0 x1 x2)]
  unfold kernelRun0_A
  dsimp only
  sl_unfold_words
  rw [View.canon_unit_zero (S := S256x4096) hz2]
  try dsimp only
  simp only [View.readAt_eq_ld, Memref.IsWhole.read_unread]
  simp only [View.ld_unit_zero (S := S256x4096) hz2, View.ld_unit_zero (S := S1x4096) hz2]
  exact pay7_apply x0 x1 x2 r j

theorem out4_A_apply (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S8x128 .f32) (harg7 : arg7.IsWhole) (hc0 : cond0_0 i) (x0 : Vec Ideal S256x4096 .f32) (x1 : Vec Ideal S1x4096 .f32) (x2 : Vec Ideal S256x4096 .f32) (r : Fin 256) (j : Fin 4096) :
    out0_A_4 (F := Ideal) c i arg1 harg1 arg2 harg2 arg3 harg3 arg4 harg4 arg5 harg5 arg6 harg6 arg7 harg7 hc0 x0 x1 x2 (ix2 r j) = row x0 x1 x2 r j := by
  unfold out0_A_4
  rw [View.read_writes_eq_canon _ _ _ (cover0_A_4 c i arg1 harg1 arg2 harg2 arg3 harg3 arg4 harg4 arg5 harg5 arg6 harg6 arg7 harg7 hc0 x0 x1 x2)]
  unfold kernelRun0_A
  dsimp only
  sl_unfold_words
  rw [View.canon_unit_zero (S := S256x4096) hz2]
  try dsimp only
  simp only [View.readAt_eq_ld, Memref.IsWhole.read_unread]
  simp only [View.ld_unit_zero (S := S256x4096) hz2, View.ld_unit_zero (S := S1x4096) hz2]
  unfold k0_pay8
  exact pay7_apply x0 x1 x2 r j

theorem out5_A_apply (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S8x128 .f32) (harg7 : arg7.IsWhole) (hc0 : cond0_0 i) (x0 : Vec Ideal S256x4096 .f32) (x1 : Vec Ideal S1x4096 .f32) (x2 : Vec Ideal S256x4096 .f32) (j : Fin 4096) :
    out0_A_5 (F := Ideal) c i arg1 harg1 arg2 harg2 arg3 harg3 arg4 harg4 arg5 harg5 arg6 harg6 arg7 harg7 hc0 x0 x1 x2 (ix2 0 j) = part x0 x1 x2 j := by
  unfold out0_A_5
  rw [View.read_writes_eq_canon _ _ _ (cover0_A_5 c i arg1 harg1 arg2 harg2 arg3 harg3 arg4 harg4 arg5 harg5 arg6 harg6 arg7 harg7 hc0 x0 x1 x2)]
  unfold kernelRun0_A
  dsimp only
  sl_unfold_words
  rw [View.canon_cons_unit_zero (S := S1x4096) hz2]
  try dsimp only
  simp only [View.readAt_eq_ld, Memref.IsWhole.read_unread]
  simp only [View.ld_unit_zero (S := S256x4096) hz2, View.ld_unit_zero (S := S1x4096) hz2]
  refine (pay1_apply ..).trans ?_
  rw [View.readCov_eq_canon', View.canon_unit_zero (S := S1x4096) hz2]
  refine (congrArg (· + _) (show _ = (0 : EReal) from zero_f32)).trans ?_
  rw [zero_add]

theorem out6_A_apply (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S8x128 .f32) (harg7 : arg7.IsWhole) (hc0 : cond0_0 i) (x0 : Vec Ideal S256x4096 .f32) (x1 : Vec Ideal S1x4096 .f32) (x2 : Vec Ideal S256x4096 .f32) (y : S8x128.Idx) :
    out0_A_6 (F := Ideal) c i arg1 harg1 arg2 harg2 arg3 harg3 arg4 harg4 arg5 harg5 arg6 harg6 arg7 harg7 hc0 x0 x1 x2 y = bit x0 x1 x2 := by
  unfold out0_A_6
  rw [View.read_writes_eq_canon _ _ _ (cover0_A_6 c i arg1 harg1 arg2 harg2 arg3 harg3 arg4 harg4 arg5 harg5 arg6 harg6 arg7 harg7 hc0 x0 x1 x2)]
  unfold kernelRun0_A
  dsimp only
  sl_unfold_words
  rw [View.canon_cons_unit_zero (S := S8x128) hz2]
  try dsimp only
  simp only [View.readAt_eq_ld, Memref.IsWhole.read_unread]
  simp only [View.ld_unit_zero (S := S256x4096) hz2, View.ld_unit_zero (S := S1x4096) hz2]
  refine (pay2_apply ..).trans ?_
  rw [View.readCov_eq_canon', View.canon_unit_zero (S := S8x128) hz2]
  refine (congrArg (· + _) (show _ = (0 : EReal) from zero_f32)).trans ?_
  rw [zero_add]

theorem out3_B_apply (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S8x128 .f32) (harg7 : arg7.IsWhole) (hc0 : ¬cond0_0 i) (x0 : Vec Ideal S256x4096 .f32) (x1 : Vec Ideal S1x4096 .f32) (x2 : Vec Ideal S256x4096 .f32) (xo5 : Vec Ideal S1x4096 .f32) (xo6 : Vec Ideal S8x128 .f32) (r : Fin 256) (j : Fin 4096) :
    out0_B_3 (F := Ideal) c i arg1 harg1 arg2 harg2 arg3 harg3 arg4 harg4 arg5 harg5 arg6 harg6 arg7 harg7 hc0 x0 x1 x2 xo5 xo6 (ix2 r j) = row x0 x1 x2 r j := by
  unfold out0_B_3
  rw [View.read_writes_eq_canon _ _ _ (cover0_B_3 c i arg1 harg1 arg2 harg2 arg3 harg3 arg4 harg4 arg5 harg5 arg6 harg6 arg7 harg7 hc0 x0 x1 x2 xo5 xo6)]
  unfold kernelRun0_B
  dsimp only
  sl_unfold_words
  rw [View.canon_unit_zero (S := S256x4096) hz2]
  try dsimp only
  simp only [View.readAt_eq_ld, Memref.IsWhole.read_unread]
  simp only [View.ld_unit_zero (S := S256x4096) hz2, View.ld_unit_zero (S := S1x4096) hz2]
  exact pay7_apply x0 x1 x2 r j

theorem out4_B_apply (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S8x128 .f32) (harg7 : arg7.IsWhole) (hc0 : ¬cond0_0 i) (x0 : Vec Ideal S256x4096 .f32) (x1 : Vec Ideal S1x4096 .f32) (x2 : Vec Ideal S256x4096 .f32) (xo5 : Vec Ideal S1x4096 .f32) (xo6 : Vec Ideal S8x128 .f32) (r : Fin 256) (j : Fin 4096) :
    out0_B_4 (F := Ideal) c i arg1 harg1 arg2 harg2 arg3 harg3 arg4 harg4 arg5 harg5 arg6 harg6 arg7 harg7 hc0 x0 x1 x2 xo5 xo6 (ix2 r j) = row x0 x1 x2 r j := by
  unfold out0_B_4
  rw [View.read_writes_eq_canon _ _ _ (cover0_B_4 c i arg1 harg1 arg2 harg2 arg3 harg3 arg4 harg4 arg5 harg5 arg6 harg6 arg7 harg7 hc0 x0 x1 x2 xo5 xo6)]
  unfold kernelRun0_B
  dsimp only
  sl_unfold_words
  rw [View.canon_unit_zero (S := S256x4096) hz2]
  try dsimp only
  simp only [View.readAt_eq_ld, Memref.IsWhole.read_unread]
  simp only [View.ld_unit_zero (S := S256x4096) hz2, View.ld_unit_zero (S := S1x4096) hz2]
  unfold k0_pay8
  exact pay7_apply x0 x1 x2 r j

theorem out5_B_apply (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S8x128 .f32) (harg7 : arg7.IsWhole) (hc0 : ¬cond0_0 i) (x0 : Vec Ideal S256x4096 .f32) (x1 : Vec Ideal S1x4096 .f32) (x2 : Vec Ideal S256x4096 .f32) (xo5 : Vec Ideal S1x4096 .f32) (xo6 : Vec Ideal S8x128 .f32) (j : Fin 4096) :
    out0_B_5 (F := Ideal) c i arg1 harg1 arg2 harg2 arg3 harg3 arg4 harg4 arg5 harg5 arg6 harg6 arg7 harg7 hc0 x0 x1 x2 xo5 xo6 (ix2 0 j) = (xo5 (ix2 0 j) : EReal) + part x0 x1 x2 j := by
  unfold out0_B_5
  rw [View.read_writes_eq_canon _ _ _ (cover0_B_5 c i arg1 harg1 arg2 harg2 arg3 harg3 arg4 harg4 arg5 harg5 arg6 harg6 arg7 harg7 hc0 x0 x1 x2 xo5 xo6)]
  unfold kernelRun0_B
  dsimp only
  sl_unfold_words
  rw [View.canon_unit_zero (S := S1x4096) hz2]
  try dsimp only
  simp only [View.readAt_eq_ld, Memref.IsWhole.read_unread]
  simp only [View.ld_unit_zero (S := S256x4096) hz2, View.ld_unit_zero (S := S1x4096) hz2]
  exact pay1_apply ..

theorem out6_B_apply (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S8x128 .f32) (harg7 : arg7.IsWhole) (hc0 : ¬cond0_0 i) (x0 : Vec Ideal S256x4096 .f32) (x1 : Vec Ideal S1x4096 .f32) (x2 : Vec Ideal S256x4096 .f32) (xo5 : Vec Ideal S1x4096 .f32) (xo6 : Vec Ideal S8x128 .f32) (y : S8x128.Idx) :
    out0_B_6 (F := Ideal) c i arg1 harg1 arg2 harg2 arg3 harg3 arg4 harg4 arg5 harg5 arg6 harg6 arg7 harg7 hc0 x0 x1 x2 xo5 xo6 y = (xo6 y : EReal) + bit x0 x1 x2 := by
  unfold out0_B_6
  rw [View.read_writes_eq_canon _ _ _ (cover0_B_6 c i arg1 harg1 arg2 harg2 arg3 harg3 arg4 harg4 arg5 harg5 arg6 harg6 arg7 harg7 hc0 x0 x1 x2 xo5 xo6)]
  unfold kernelRun0_B
  dsimp only
  sl_unfold_words
  rw [View.canon_unit_zero (S := S8x128) hz2]
  try dsimp only
  simp only [View.readAt_eq_ld, Memref.IsWhole.read_unread]
  simp only [View.ld_unit_zero (S := S256x4096) hz2, View.ld_unit_zero (S := S1x4096) hz2]
  simp only [View.ld_unit_zero (S := S8x128) hz2]
  exact pay2_apply ..

variable (m : (ℓ : Loc nD τ sig) → Buf (Elt Ideal) ℓ) (c : Dev nD)

abbrev a0 : (⟨S4096x4096, .f32⟩ : BufTy).Contents (Elt Ideal) := m ((c : Thread nD τ).loc main_arg0)
abbrev a1 : (⟨S1x4096, .f32⟩ : BufTy).Contents (Elt Ideal) := m ((c : Thread nD τ).loc main_arg1)
abbrev a2 : (⟨S4096x4096, .f32⟩ : BufTy).Contents (Elt Ideal) := m ((c : Thread nD τ).loc main_arg2)
theorem index_0 : ∀ t : Fin cfg0.N, win0_0.index t 0 = t.val ∧ win0_0.index t 1 = 0 :=
  (by decide +kernel : ∀ t : Fin grid0.N, win0_0.index t 0 = t.val ∧ win0_0.index t 1 = 0)
theorem index_1 : ∀ t : Fin cfg0.N, win0_1.index t 0 = 0 ∧ win0_1.index t 1 = 0 :=
  (by decide +kernel : ∀ t : Fin grid0.N, win0_1.index t 0 = 0 ∧ win0_1.index t 1 = 0)
theorem index_2 : ∀ t : Fin cfg0.N, win0_2.index t 0 = t.val ∧ win0_2.index t 1 = 0 :=
  (by decide +kernel : ∀ t : Fin grid0.N, win0_2.index t 0 = t.val ∧ win0_2.index t 1 = 0)
theorem index_3 : ∀ t : Fin cfg0.N, win0_3.index t 0 = t.val ∧ win0_3.index t 1 = 0 :=
  (by decide +kernel : ∀ t : Fin grid0.N, win0_3.index t 0 = t.val ∧ win0_3.index t 1 = 0)
theorem index_4 : ∀ t : Fin cfg0.N, win0_4.index t 0 = t.val ∧ win0_4.index t 1 = 0 :=
  (by decide +kernel : ∀ t : Fin grid0.N, win0_4.index t 0 = t.val ∧ win0_4.index t 1 = 0)
theorem index_5 : ∀ t : Fin cfg0.N, win0_5.index t 0 = 0 ∧ win0_5.index t 1 = 0 :=
  (by decide +kernel : ∀ t : Fin grid0.N, win0_5.index t 0 = 0 ∧ win0_5.index t 1 = 0)
theorem index_6 : ∀ t : Fin cfg0.N, win0_6.index t 0 = 0 ∧ win0_6.index t 1 = 0 :=
  (by decide +kernel : ∀ t : Fin grid0.N, win0_6.index t 0 = 0 ∧ win0_6.index t 1 = 0)

def rowAt (t : Fin cfg0.N) (r : Fin 256) : Fin 4096 := rowOf t r

theorem blk0 (t : Fin cfg0.N) (r : Fin 256) (j : Fin 4096) :
    (iblk m c 0 t : Vec Ideal S256x4096 .f32) (ix2 r j) = a0 m c (ix2 (rowAt t r) j) := by
  unfold iblk
  rw [View.read_apply]
  show V m c main_arg0 _ = _
  rw [V_main_arg0]
  refine congrArg (a0 m c) (funext fun a => Fin.ext ?_)
  match a with
  | ⟨0, _⟩ => show win0_0.index t 0 * 256 + 1 * r.val = t.val * 256 + r.val; rw [(index_0 t).1]; omega
  | ⟨1, _⟩ => show win0_0.index t 1 * 4096 + 1 * j.val = j.val; rw [(index_0 t).2]; omega

theorem blk2 (t : Fin cfg0.N) (r : Fin 256) (j : Fin 4096) :
    (iblk m c 2 t : Vec Ideal S256x4096 .f32) (ix2 r j) = a2 m c (ix2 (rowAt t r) j) := by
  unfold iblk
  rw [View.read_apply]
  show V m c main_arg2 _ = _
  rw [V_main_arg2]
  refine congrArg (a2 m c) (funext fun a => Fin.ext ?_)
  match a with
  | ⟨0, _⟩ => show win0_2.index t 0 * 256 + 1 * r.val = t.val * 256 + r.val; rw [(index_2 t).1]; omega
  | ⟨1, _⟩ => show win0_2.index t 1 * 4096 + 1 * j.val = j.val; rw [(index_2 t).2]; omega

theorem blk1 (t : Fin cfg0.N) (j : Fin 4096) :
    (iblk m c 1 t : Vec Ideal S1x4096 .f32) (ix2 0 j) = a1 m c (ix2 0 j) := by
  unfold iblk
  rw [View.read_apply]
  show V m c main_arg1 _ = _
  rw [V_main_arg1]
  refine congrArg (a1 m c) (funext fun a => Fin.ext ?_)
  match a with
  | ⟨0, _⟩ => show win0_1.index t 0 * 1 + 1 * 0 = 0; rw [(index_1 t).1]
  | ⟨1, _⟩ => show win0_1.index t 1 * 4096 + 1 * j.val = j.val; rw [(index_1 t).2]; omega

abbrev result : S4096x4096.Idx → EReal := total (a0 m c) (a1 m c) (a2 m c)
abbrev gain : S1x4096.Idx → EReal := gains (a0 m c) (a1 m c) (a2 m c)
abbrev cost : S8x128.Idx → EReal := loss (a0 m c) (a1 m c) (a2 m c)

theorem row0 (t : Fin cfg0.N) (r : Fin 256) : (fun k => (iblk m c 0 t : Vec Ideal S256x4096 .f32) (ix2 r k)) = fun k => a0 m c (ix2 (rowAt t r) k) := funext fun k => blk0 m c t r k
theorem row1 (t : Fin cfg0.N) : (fun k => (iblk m c 1 t : Vec Ideal S1x4096 .f32) (ix2 0 k)) = fun k => a1 m c (ix2 0 k) := funext fun k => blk1 m c t k
theorem row2 (t : Fin cfg0.N) (r : Fin 256) : (fun k => (iblk m c 2 t : Vec Ideal S256x4096 .f32) (ix2 r k)) = fun k => a2 m c (ix2 (rowAt t r) k) := funext fun k => blk2 m c t r k

theorem row_blk (t : Fin cfg0.N) (r : Fin 256) (j : Fin 4096) :
    row (iblk m c 0 t) (iblk m c 1 t) (iblk m c 2 t) r j = result m c (ix2 (rowAt t r) j) := by
  unfold row
  rw [row0, row1, row2]
  exact congrArg (fun g => rowGrad _ g j) (funext fun k => by rw [blk1])

theorem part_blk (t : Fin cfg0.N) (j : Fin 4096) :
    part (iblk m c 0 t) (iblk m c 1 t) (iblk m c 2 t) j = ∑ r : Fin 256, share (a0 m c) (a1 m c) (a2 m c) (rowAt t r) j := by
  refine Finset.sum_congr rfl fun r _ => ?_
  rw [row0, row1, row2, blk0]
  rfl

theorem bit_blk (t : Fin cfg0.N) :
    bit (iblk m c 0 t) (iblk m c 1 t) (iblk m c 2 t) = blockLoss (a0 m c) (a1 m c) (a2 m c) t := by
  unfold bit blockLoss far
  refine congrArg (· * _) (Finset.sum_congr rfl fun r _ => Finset.sum_congr rfl fun k _ => ?_)
  rw [row0, row1, row2]
  rfl

theorem flushed3_eq (t : Fin cfg0.N) : (dats m 0 c).flushed 3 t = ((cfg0.win 3).blk t).view.read (Elt Ideal) (result m c) := by
  have e : ∀ (r : Fin 256) (j : Fin 4096), (dats m 0 c).flushed 3 t (ix2 r j) = result m c (ix2 (rowAt t r) j) := fun r j => by
    by_cases h : t.val % 16 = 0
    · rw [flushed3_A m c t h]
      exact (out3_A_apply ..).trans (row_blk m c t r j)
    · rw [flushed3_B m c t h]
      exact (out3_B_apply ..).trans (row_blk m c t r j)
  funext y
  obtain ⟨r, j, rfl⟩ : ∃ (r : Fin 256) (j : Fin 4096), y = ix2 r j := ⟨_, _, eq_ix2 y⟩
  rw [View.read_apply]
  refine (e r j).trans ?_
  refine congrArg (result m c) (funext fun a => Fin.ext ?_)
  match a with
  | ⟨0, _⟩ => show t.val * 256 + r.val = win0_3.index t 0 * 256 + 1 * r.val; rw [(index_3 t).1]; omega
  | ⟨1, _⟩ => show j.val = win0_3.index t 1 * 4096 + 1 * j.val; rw [(index_3 t).2]; omega

theorem flushed4_eq (t : Fin cfg0.N) : (dats m 0 c).flushed 4 t = ((cfg0.win 4).blk t).view.read (Elt Ideal) (result m c) := by
  have e : ∀ (r : Fin 256) (j : Fin 4096), (dats m 0 c).flushed 4 t (ix2 r j) = result m c (ix2 (rowAt t r) j) := fun r j => by
    by_cases h : t.val % 16 = 0
    · rw [flushed4_A m c t h]
      exact (out4_A_apply ..).trans (row_blk m c t r j)
    · rw [flushed4_B m c t h]
      exact (out4_B_apply ..).trans (row_blk m c t r j)
  funext y
  obtain ⟨r, j, rfl⟩ : ∃ (r : Fin 256) (j : Fin 4096), y = ix2 r j := ⟨_, _, eq_ix2 y⟩
  rw [View.read_apply]
  refine (e r j).trans ?_
  refine congrArg (result m c) (funext fun a => Fin.ext ?_)
  match a with
  | ⟨0, _⟩ => show t.val * 256 + r.val = win0_4.index t 0 * 256 + 1 * r.val; rw [(index_4 t).1]; omega
  | ⟨1, _⟩ => show j.val = win0_4.index t 1 * 4096 + 1 * j.val; rw [(index_4 t).2]; omega

/-- The point that writes back the block holding an index of the result. -/
def pointOf (i : S4096x4096.Idx) : Fin cfg0.N :=
  ⟨(i 0).val / 256, by
    have h0 : (i 0).val < 4096 := (i 0).isLt
    show _ < 16; omega⟩

theorem final3_eq : (dats m 0 c).arrAt 3 cfg0.N = result m c :=
  (dats m 0 c).arrAt_eq_of_cover 3 (result m c) (fun t _ => flushed3_eq m c t) fun i => ⟨pointOf i, flush0_3 _, by
    have h0 : (i 0).val < 4096 := (i 0).isLt
    have h1 : (i 1).val < 4096 := (i 1).isLt
    show i ∈ ((View.whole main_v0_0).slice (win0_3.rect (pointOf i))).set
    rw [View.set_slice_whole, Rect.mem_set_unit]
    have hp : (pointOf i).val = (i 0).val / 256 := rfl
    intro a
    match a with
    | ⟨0, _⟩ => show win0_3.index (pointOf i) 0 * 256 ≤ (i 0 : Nat) ∧ (i 0 : Nat) < win0_3.index (pointOf i) 0 * 256 + 256
                rw [(index_3 _).1, hp]; omega
    | ⟨1, _⟩ => show win0_3.index (pointOf i) 1 * 4096 ≤ (i 1 : Nat) ∧ (i 1 : Nat) < win0_3.index (pointOf i) 1 * 4096 + 4096
                rw [(index_3 _).2]; omega⟩

theorem final4_eq : (dats m 0 c).arrAt 4 cfg0.N = result m c :=
  (dats m 0 c).arrAt_eq_of_cover 4 (result m c) (fun t _ => flushed4_eq m c t) fun i => ⟨pointOf i, flush0_4 _, by
    have h0 : (i 0).val < 4096 := (i 0).isLt
    have h1 : (i 1).val < 4096 := (i 1).isLt
    show i ∈ ((View.whole main_v0_1).slice (win0_4.rect (pointOf i))).set
    rw [View.set_slice_whole, Rect.mem_set_unit]
    have hp : (pointOf i).val = (i 0).val / 256 := rfl
    intro a
    match a with
    | ⟨0, _⟩ => show win0_4.index (pointOf i) 0 * 256 ≤ (i 0 : Nat) ∧ (i 0 : Nat) < win0_4.index (pointOf i) 0 * 256 + 256
                rw [(index_4 _).1, hp]; omega
    | ⟨1, _⟩ => show win0_4.index (pointOf i) 1 * 4096 ≤ (i 1 : Nat) ∧ (i 1 : Nat) < win0_4.index (pointOf i) 1 * 4096 + 4096
                rw [(index_4 _).2]; omega⟩

/-- The gains' gradient after a point: the blocks so far. -/
theorem carried (n : Nat) (hn : n < cfg0.N) (j : Fin 4096) :
    (outsAt0 m c n hn).2.2.1 (ix2 0 j) = ∑ q : Fin (n + 1), ∑ r : Fin 256, share (a0 m c) (a1 m c) (a2 m c) (rowAt ⟨q.val, Nat.lt_of_le_of_lt (Nat.le_of_lt_succ q.isLt) hn⟩ r) j := by
  induction n with
  | zero =>
    have e := outsAt0_A m c ⟨0, hn⟩ (Nat.zero_mod _)
    refine (congrFun (congrArg (fun p => p.2.2.1) e) (ix2 0 j)).trans ?_
    dsimp only
    refine (out5_A_apply ..).trans ((part_blk m c ⟨0, hn⟩ j).trans ?_)
    rw [Fin.sum_univ_one]
    rfl
  | succ n ih =>
    have h16 : n + 1 < 16 := hn
    have e := outsAt0_B m c ⟨n + 1, hn⟩ (by show ¬(n + 1) % 16 = 0; omega)
    refine (congrFun (congrArg (fun p => p.2.2.1) e) (ix2 0 j)).trans ?_
    dsimp only
    refine (out5_B_apply ..).trans ?_
    rw [Fin.sum_univ_castSucc]
    exact congrArg₂ (· + ·) (ih (Nat.lt_of_succ_lt hn)) (part_blk m c ⟨n + 1, hn⟩ j)

/-- The loss after a point: the blocks so far. -/
theorem paid (n : Nat) (hn : n < cfg0.N) (y : S8x128.Idx) :
    (outsAt0 m c n hn).2.2.2 y = ∑ q : Fin (n + 1), blockLoss (a0 m c) (a1 m c) (a2 m c) ⟨q.val, Nat.lt_of_le_of_lt (Nat.le_of_lt_succ q.isLt) hn⟩ := by
  induction n with
  | zero =>
    have e := outsAt0_A m c ⟨0, hn⟩ (Nat.zero_mod _)
    refine (congrFun (congrArg (fun p => p.2.2.2) e) y).trans ?_
    dsimp only
    refine (out6_A_apply ..).trans ((bit_blk m c ⟨0, hn⟩).trans ?_)
    rw [Fin.sum_univ_one]
    rfl
  | succ n ih =>
    have h16 : n + 1 < 16 := hn
    have e := outsAt0_B m c ⟨n + 1, hn⟩ (by show ¬(n + 1) % 16 = 0; omega)
    refine (congrFun (congrArg (fun p => p.2.2.2) e) y).trans ?_
    dsimp only
    refine (out6_B_apply ..).trans ?_
    rw [Fin.sum_univ_castSucc]
    exact congrArg₂ (· + ·) (ih (Nat.lt_of_succ_lt hn)) (bit_blk m c ⟨n + 1, hn⟩)

theorem gain_eq (n : Nat) (hn : n < cfg0.N) (h : n = 15) (j : Fin 4096) : (outsAt0 m c n hn).2.2.1 (ix2 0 j) = gain m c (ix2 0 j) := by
  refine (carried m c n hn j).trans ?_
  subst h
  exact (sum_blocks _ _ fun s r u hu => congrArg (fun v => share (a0 m c) (a1 m c) (a2 m c) v j) (Fin.ext hu)).symm

theorem cost_sum (n : Nat) (hn : n < cfg0.N) (h : n = 15) (y : S8x128.Idx) : (outsAt0 m c n hn).2.2.2 y = loss (a0 m c) (a1 m c) (a2 m c) y := by
  refine (paid m c n hn y).trans ?_
  subst h
  rfl

theorem at_last (t : Fin cfg0.N) (ht : t.val % 16 = 15) : t.val = 15 := by
  have h16 : t.val < 16 := t.isLt
  omega

theorem flushed5_eq (t : Fin cfg0.N) (ht : t.val % 16 = 15) : (dats m 0 c).flushed 5 t = ((cfg0.win 5).blk t).view.read (Elt Ideal) (gain m c) := by
  funext y
  obtain ⟨z, j, rfl⟩ : ∃ (z : Fin 1) (j : Fin 4096), y = ix2 z j := ⟨_, _, eq_ix2 y⟩
  obtain rfl : z = 0 := Subsingleton.elim _ _
  rw [View.read_apply, flushed5]
  refine (gain_eq m c t.val t.isLt (at_last t ht) j).trans (congrArg (gain m c) (funext fun a => Fin.ext ?_))
  match a with
  | ⟨0, _⟩ => show 0 = win0_5.index t 0 * 1 + 1 * 0; rw [(index_5 _).1]
  | ⟨1, _⟩ => show j.val = win0_5.index t 1 * 4096 + 1 * j.val; rw [(index_5 _).2]; omega

theorem flushed6_eq (t : Fin cfg0.N) (ht : t.val % 16 = 15) : (dats m 0 c).flushed 6 t = ((cfg0.win 6).blk t).view.read (Elt Ideal) (cost m c) := by
  funext y
  rw [View.read_apply, flushed6]
  exact (cost_sum m c t.val t.isLt (at_last t ht) y).trans rfl

def last : Fin cfg0.N := ⟨15, (show 15 < 16 by omega)⟩

theorem final5_eq : (dats m 0 c).arrAt 5 cfg0.N = gain m c :=
  (dats m 0 c).arrAt_eq_of_cover 5 (gain m c) (fun t h => flushed5_eq m c t ((flush0_5 t).mp h)) fun i => ⟨last, (flush0_5 _).mpr rfl, by
    have h0 : (i 0).val < 1 := (i 0).isLt
    have h1 : (i 1).val < 4096 := (i 1).isLt
    show i ∈ ((View.whole main_v0_2).slice (win0_5.rect last)).set
    rw [View.set_slice_whole, Rect.mem_set_unit]
    intro a
    match a with
    | ⟨0, _⟩ => show win0_5.index last 0 * 1 ≤ (i 0 : Nat) ∧ (i 0 : Nat) < win0_5.index last 0 * 1 + 1
                rw [(index_5 _).1]; omega
    | ⟨1, _⟩ => show win0_5.index last 1 * 4096 ≤ (i 1 : Nat) ∧ (i 1 : Nat) < win0_5.index last 1 * 4096 + 4096
                rw [(index_5 _).2]; omega⟩

theorem final6_eq : (dats m 0 c).arrAt 6 cfg0.N = cost m c :=
  (dats m 0 c).arrAt_eq_of_cover 6 (cost m c) (fun t h => flushed6_eq m c t ((flush0_6 t).mp h)) fun i => ⟨last, (flush0_6 _).mpr rfl, by
    have h0 : (i 0).val < 8 := (i 0).isLt
    have h1 : (i 1).val < 128 := (i 1).isLt
    show i ∈ ((View.whole main_v0_3).slice (win0_6.rect last)).set
    rw [View.set_slice_whole, Rect.mem_set_unit]
    intro a
    match a with
    | ⟨0, _⟩ => show win0_6.index last 0 * 8 ≤ (i 0 : Nat) ∧ (i 0 : Nat) < win0_6.index last 0 * 8 + 8
                rw [(index_6 _).1]; omega
    | ⟨1, _⟩ => show win0_6.index last 1 * 128 ≤ (i 1 : Nat) ∧ (i 1 : Nat) < win0_6.index last 1 * 128 + 128
                rw [(index_6 _).2]; omega⟩

end Cert.LossGradIdeal.Value

namespace Cert.LossGradRefIdeal.Value

open Cert.LossGradRefIdeal Cert.LossGradRefIdeal.Read
open Cert.LossGradIdeal.Value (far total share gains loss blockLoss)

theorem squares_apply (x0 : (⟨S4096x4096, .f32⟩ : BufTy).Contents (Elt Ideal)) (i : S4096.Idx) :
    val_main_v1 (F := Ideal) x0 i = ∑ k : Fin 4096, (x0 (ix2 (i 0) k) : EReal) * x0 (ix2 (i 0) k) := by
  rw [val_main_v1_apply]
  refine (congrArg (· + _) (show val_main_cst (F := Ideal) _ = (0 : EReal) from zero_f32)).trans ?_
  rw [zero_add]
  refine Finset.sum_congr rfl fun k _ => ?_
  refine (show _ = (x0 (idx_main_v1 i k) : EReal) * x0 (idx_main_v1 i k) from rfl).trans ?_
  rw [show idx_main_v1 i k = ix2 (i 0) k from funext fun a => match a with
    | ⟨0, _⟩ => rfl
    | ⟨1, _⟩ => rfl]
  try rfl

theorem square_apply (x0 : (⟨S4096x4096, .f32⟩ : BufTy).Contents (Elt Ideal)) (i : S4096x1.Idx) : val_main_v6 (F := Ideal) x0 i = square (fun k => x0 (ix2 (i 0) k)) := by
  refine (show _ = Ideal.div (val_main_v2 (F := Ideal) x0 i) (Ideal.ofBits .f32 0x45800000#32) + Ideal.ofBits .f32 0x3727C5AC#32 from rfl).trans ?_
  rw [val_main_v2_apply, squares_apply]
  rfl

theorem scale_apply (x0 : (⟨S4096x4096, .f32⟩ : BufTy).Contents (Elt Ideal)) (i : S4096x1.Idx) : val_main_v7 (F := Ideal) x0 i = scale (fun k => x0 (ix2 (i 0) k)) :=
  congrArg Ideal.rsqrt (square_apply x0 i)

theorem turn_apply (x0 : (⟨S4096x4096, .f32⟩ : BufTy).Contents (Elt Ideal)) (i : S4096x1.Idx) :
    val_main_v10 (F := Ideal) x0 i = Ideal.ofBits .f32 0xBF000000#32 * Ideal.div (scale (fun k => x0 (ix2 (i 0) k))) (square (fun k => x0 (ix2 (i 0) k))) :=
  congrArg (_ * ·) (congrArg₂ Ideal.div (scale_apply x0 i) (square_apply x0 i))

theorem scaled_apply (x0 : (⟨S4096x4096, .f32⟩ : BufTy).Contents (Elt Ideal)) (u k : Fin 4096) : val_main_v12 (F := Ideal) x0 (ix2 u k) = (x0 (ix2 u k) : EReal) * scale (fun k => x0 (ix2 u k)) := by
  refine (show _ = (x0 (ix2 u k) : EReal) * val_main_v11 (F := Ideal) x0 (ix2 u k) from rfl).trans ?_
  rw [val_main_v11_apply, scale_apply]
  rfl

theorem far_apply (x0 : (⟨S4096x4096, .f32⟩ : BufTy).Contents (Elt Ideal)) (x1 : (⟨S1x4096, .f32⟩ : BufTy).Contents (Elt Ideal)) (x2 : (⟨S4096x4096, .f32⟩ : BufTy).Contents (Elt Ideal)) (u k : Fin 4096) : val_main_v15 (F := Ideal) x0 x1 x2 (ix2 u k) = far x0 x1 x2 u k := by
  refine (show _ = val_main_v12 (F := Ideal) x0 (ix2 u k) * val_main_v13 (F := Ideal) x1 (ix2 u k) - x2 (ix2 u k) from rfl).trans ?_
  rw [scaled_apply, val_main_v13_apply, show idx_main_v13 (ix2 u k) = ix2 0 k from funext fun a => match a with
    | ⟨0, _⟩ => rfl
    | ⟨1, _⟩ => rfl]
  rfl

theorem slope_apply (x0 : (⟨S4096x4096, .f32⟩ : BufTy).Contents (Elt Ideal)) (x1 : (⟨S1x4096, .f32⟩ : BufTy).Contents (Elt Ideal)) (x2 : (⟨S4096x4096, .f32⟩ : BufTy).Contents (Elt Ideal)) (u k : Fin 4096) :
    val_main_v29 (F := Ideal) x0 x1 x2 (ix2 u k) = tilt (fun k => x0 (ix2 u k)) (fun k => x1 (ix2 0 k)) (fun k => x2 (ix2 u k)) k := by
  refine (show _ = val_main_v28 (F := Ideal) (ix2 u k) * (val_main_v17 (F := Ideal) (ix2 u k) * val_main_v15 (F := Ideal) x0 x1 x2 (ix2 u k)) from rfl).trans ?_
  rw [far_apply, val_main_v28_apply, val_main_v17_apply]
  refine Eq.trans ?_ (slope_eq _)
  refine congrArg (· * _) ?_
  refine (show _ = Ideal.div (val_main_v25 (F := Ideal) (idx_main_v28 (ix2 u k))) (val_main_v26 (F := Ideal) (idx_main_v28 (ix2 u k))) from rfl).trans ?_
  rw [val_main_v25_apply, val_main_v26_apply]
  rfl

theorem weigh_apply (x0 : (⟨S4096x4096, .f32⟩ : BufTy).Contents (Elt Ideal)) (x1 : (⟨S1x4096, .f32⟩ : BufTy).Contents (Elt Ideal)) (x2 : (⟨S4096x4096, .f32⟩ : BufTy).Contents (Elt Ideal)) (u k : Fin 4096) :
    val_main_v34 (F := Ideal) x0 x1 x2 (ix2 u k) = tilt (fun k => x0 (ix2 u k)) (fun k => x1 (ix2 0 k)) (fun k => x2 (ix2 u k)) k * x1 (ix2 0 k) := by
  refine (show _ = val_main_v29 (F := Ideal) x0 x1 x2 (ix2 u k) * val_main_v33 (F := Ideal) x1 (ix2 u k) from rfl).trans ?_
  rw [slope_apply, val_main_v33_apply, show idx_main_v33 (ix2 u k) = ix2 0 k from funext fun a => match a with
    | ⟨0, _⟩ => rfl
    | ⟨1, _⟩ => rfl]

theorem dot_apply (x0 : (⟨S4096x4096, .f32⟩ : BufTy).Contents (Elt Ideal)) (x1 : (⟨S1x4096, .f32⟩ : BufTy).Contents (Elt Ideal)) (x2 : (⟨S4096x4096, .f32⟩ : BufTy).Contents (Elt Ideal)) (i : S4096.Idx) :
    val_main_v36 (F := Ideal) x0 x1 x2 i = ∑ k : Fin 4096, (x0 (ix2 (i 0) k) : EReal) * (tilt (fun k => x0 (ix2 (i 0) k)) (fun k => x1 (ix2 0 k)) (fun k => x2 (ix2 (i 0) k)) k * x1 (ix2 0 k)) := by
  rw [val_main_v36_apply]
  refine (congrArg (· + _) (show val_main_cst_12 (F := Ideal) _ = (0 : EReal) from zero_f32)).trans ?_
  rw [zero_add]
  refine Finset.sum_congr rfl fun k _ => ?_
  rw [show idx_main_v36 i k = ix2 (i 0) k from funext fun a => match a with
    | ⟨0, _⟩ => rfl
    | ⟨1, _⟩ => rfl]
  exact congrArg (x0 (ix2 (i 0) k) * ·) (weigh_apply x0 x1 x2 (i 0) k)

theorem through_apply (x0 : (⟨S4096x4096, .f32⟩ : BufTy).Contents (Elt Ideal)) (x1 : (⟨S1x4096, .f32⟩ : BufTy).Contents (Elt Ideal)) (x2 : (⟨S4096x4096, .f32⟩ : BufTy).Contents (Elt Ideal)) (i : S4096x4096.Idx) :
    val_main_v44 (F := Ideal) x0 x1 x2 i = through (fun k => x0 (ix2 (i 0) k)) (fun k => tilt (fun k => x0 (ix2 (i 0) k)) (fun k => x1 (ix2 0 k)) (fun k => x2 (ix2 (i 0) k)) k * x1 (ix2 0 k)) := by
  rw [val_main_v44_apply, val_main_v43_apply]
  refine (congrArg (· + _) (show val_main_cst_14 (F := Ideal) _ = (0 : EReal) from zero_f32)).trans ?_
  rw [zero_add, Fin.sum_univ_one]
  refine (show _ = Ideal.div (val_main_v37 (F := Ideal) x0 x1 x2 (idx_main_v43 (idx_main_v44 i) 0) * val_main_v10 (F := Ideal) x0 (idx_main_v43 (idx_main_v44 i) 0)) (Ideal.ofBits .f32 0x45800000#32) from rfl).trans ?_
  rw [val_main_v37_apply, dot_apply, turn_apply]
  have e : idx_main_v37 (idx_main_v43 (idx_main_v44 i) 0) 0 = i 0 := Fin.ext (by show (i 0).val * 1 + 0 = (i 0).val; omega)
  rw [e]
  rfl

theorem grad_apply (x0 : (⟨S4096x4096, .f32⟩ : BufTy).Contents (Elt Ideal)) (x1 : (⟨S1x4096, .f32⟩ : BufTy).Contents (Elt Ideal)) (x2 : (⟨S4096x4096, .f32⟩ : BufTy).Contents (Elt Ideal)) (i : S4096x4096.Idx) :
    val_main_v48 (F := Ideal) x0 x1 x2 i = rowGradRef (fun k => x0 (ix2 (i 0) k)) (fun k => tilt (fun k => x0 (ix2 (i 0) k)) (fun k => x1 (ix2 0 k)) (fun k => x2 (ix2 (i 0) k)) k * x1 (ix2 0 k)) (i 1) := by
  obtain ⟨u, j, rfl⟩ : ∃ (u j : Fin 4096), i = ix2 u j := ⟨_, _, eq_ix2 i⟩
  refine (show _ = val_main_v34 (F := Ideal) x0 x1 x2 (ix2 u j) * val_main_v38 (F := Ideal) x0 (ix2 u j) + x0 (ix2 u j) * val_main_v44 (F := Ideal) x0 x1 x2 (ix2 u j) + val_main_v44 (F := Ideal) x0 x1 x2 (ix2 u j) * x0 (ix2 u j) from rfl).trans ?_
  rw [through_apply, val_main_v38_apply, scale_apply, weigh_apply]
  rfl

theorem gain_apply (x0 : (⟨S4096x4096, .f32⟩ : BufTy).Contents (Elt Ideal)) (x1 : (⟨S1x4096, .f32⟩ : BufTy).Contents (Elt Ideal)) (x2 : (⟨S4096x4096, .f32⟩ : BufTy).Contents (Elt Ideal)) (i : S1x4096.Idx) : val_main_v32 (F := Ideal) x0 x1 x2 i = gains x0 x1 x2 i := by
  rw [val_main_v32_apply, val_main_v31_apply]
  refine (congrArg (· + _) (show val_main_cst_11 (F := Ideal) _ = (0 : EReal) from zero_f32)).trans ?_
  rw [zero_add]
  refine Finset.sum_congr rfl fun u _ => ?_
  rw [show idx_main_v31 (idx_main_v32 i) u = ix2 u (i 1) from funext fun a => match a with
    | ⟨0, _⟩ => rfl
    | ⟨1, _⟩ => Fin.ext (by have h0 : (i 0).val < 1 := (i 0).isLt; show (i 0).val * 4096 + (i 1).val = (i 1).val; omega)]
  refine (congrArg₂ (· * ·) (scaled_apply x0 u (i 1)) (slope_apply x0 x1 x2 u (i 1))).trans ?_
  rw [mul_comm]
  rfl

theorem misses_apply (x0 : (⟨S4096x4096, .f32⟩ : BufTy).Contents (Elt Ideal)) (x1 : (⟨S1x4096, .f32⟩ : BufTy).Contents (Elt Ideal)) (x2 : (⟨S4096x4096, .f32⟩ : BufTy).Contents (Elt Ideal)) (i : S4096.Idx) :
    val_main_v19 (F := Ideal) x0 x1 x2 i = ∑ k : Fin 4096, far x0 x1 x2 (i 0) k * far x0 x1 x2 (i 0) k := by
  rw [val_main_v19_apply]
  refine (congrArg (· + _) (show val_main_cst_4 (F := Ideal) _ = (0 : EReal) from zero_f32)).trans ?_
  rw [zero_add]
  refine Finset.sum_congr rfl fun k _ => ?_
  rw [show idx_main_v19 i k = ix2 (i 0) k from funext fun a => match a with
    | ⟨0, _⟩ => rfl
    | ⟨1, _⟩ => rfl]
  exact congrArg₂ (· * ·) (far_apply x0 x1 x2 (i 0) k) (far_apply x0 x1 x2 (i 0) k)

theorem loss_apply (x0 : (⟨S4096x4096, .f32⟩ : BufTy).Contents (Elt Ideal)) (x1 : (⟨S1x4096, .f32⟩ : BufTy).Contents (Elt Ideal)) (x2 : (⟨S4096x4096, .f32⟩ : BufTy).Contents (Elt Ideal)) (i : S8x128.Idx) :
    val_main_v50 (F := Ideal) x0 x1 x2 i = Ideal.ofBits .f32 0x3F000000#32 * ∑ u, Ideal.div (∑ k, far x0 x1 x2 u k * far x0 x1 x2 u k) (Ideal.ofBits .f32 0x45800000#32) := by
  rw [val_main_v50_apply]
  refine (show _ = Ideal.ofBits .f32 0x3F000000#32 * val_main_v22 (F := Ideal) x0 x1 x2 (idx_main_v50 i) from rfl).trans (congrArg (_ * ·) ?_)
  rw [val_main_v22_apply]
  refine (congrArg (· + _) (show val_main_cst_6 (F := Ideal) _ = (0 : EReal) from zero_f32)).trans ?_
  rw [zero_add]
  refine (Fintype.sum_equiv ⟨fun i : S4096.Idx => (i 0 : Fin 4096), fun u => ix1 u, fun i => (eq_ix1 i).symm, fun _ => rfl⟩ _ _ fun i => ?_)
  refine (show _ = Ideal.div (val_main_v19 (F := Ideal) x0 x1 x2 i) (val_main_v20 (F := Ideal) i) from rfl).trans ?_
  rw [misses_apply, val_main_v20_apply]
  rfl

/-- The reference runs to its end. -/
theorem frame : Cert.quiescent_LossGradRefIdeal := fun m g _ =>
  (θ_run Cert.LossGradRefIdeal.defs _ _).mono (fun r h => ⟨fun c => (h c).2.2.2.2, Idealize.ShloMosaic.sem_eq_zero_of_no_sems (by decide) r.2⟩)
    (Cert.LossGradRefIdeal.Value.run (F := Ideal) m g)

theorem result_eq (x0 : (⟨S4096x4096, .f32⟩ : BufTy).Contents (Elt Ideal)) (x1 : (⟨S1x4096, .f32⟩ : BufTy).Contents (Elt Ideal)) (x2 : (⟨S4096x4096, .f32⟩ : BufTy).Contents (Elt Ideal)) (i : S4096x4096.Idx) :
    val_main_v48 (F := Ideal) x0 x1 x2 i = total x0 x1 x2 i := by
  rw [grad_apply]
  exact (rowGrad_eq _ _ _).symm

theorem cost_eq (x0 : (⟨S4096x4096, .f32⟩ : BufTy).Contents (Elt Ideal)) (x1 : (⟨S1x4096, .f32⟩ : BufTy).Contents (Elt Ideal)) (x2 : (⟨S4096x4096, .f32⟩ : BufTy).Contents (Elt Ideal)) (i : S8x128.Idx) :
    val_main_v50 (F := Ideal) x0 x1 x2 i = loss x0 x1 x2 i := by
  rw [loss_apply]
  exact loss_eq _

/-- The kernel computes what the reference computes. -/
theorem algebraic : Cert.algebraic_LossGradIdeal_LossGradRefIdeal := by
  intro m g m' g' _ hargs
  refine ⟨fun c => Cert.LossGradIdeal.Value.result m c, fun c => Cert.LossGradIdeal.Value.result m c, fun c => Cert.LossGradIdeal.Value.gain m c, fun c => Cert.LossGradIdeal.Value.cost m c, ?_, ?_⟩
  · refine (θ_run Cert.LossGradIdeal.defs _ _).mono (fun r h c => ?_) (Cert.LossGradIdeal.Value.run_blocks (F := Ideal) m g)
    obtain ⟨h3, h4, h5, h6, h⟩ := h c
    exact ⟨h3.trans (Cert.LossGradIdeal.Value.final3_eq m c), h4.trans (Cert.LossGradIdeal.Value.final4_eq m c), h5.trans (Cert.LossGradIdeal.Value.final5_eq m c), h6.trans (Cert.LossGradIdeal.Value.final6_eq m c), h⟩
  · refine (θ_run Cert.LossGradRefIdeal.defs _ _).mono (fun r h c => ?_) (Cert.LossGradRefIdeal.Value.run (F := Ideal) m' g')
    obtain ⟨h3, h4, h5, h6, h⟩ := h c
    obtain ⟨e0, e1, e2⟩ := hargs c
    refine ⟨h3.trans ?_, h4.trans ?_, h5.trans ?_, h6.trans ?_, h⟩
    · refine (val_main_v48_eq _ _).trans ?_
      rw [e0, e1, e2]
      funext i
      exact result_eq _ _ _ i
    · refine (val_main_v49_eq _ _).trans ?_
      rw [e0, e1, e2]
      funext i
      exact result_eq _ _ _ i
    · refine (val_main_v32_eq _ _ _).trans ?_
      rw [e0, e1, e2]
      funext i
      exact gain_apply _ _ _ i
    · refine (val_main_v50_eq _ _ _).trans ?_
      rw [e0, e1, e2]
      funext i
      exact cost_eq _ _ _ i

end Cert.LossGradRefIdeal.Value

end
-- ==== Proof.GateProjValue.lean ====
/-
  The gate's projection: what the kernel leaves in its result, over the extended reals, and that the reference leaves the same.
-/
module

public import proofs.«01_k».proof.Defs
public import proofs.«01_k».proof.Proof.Common
public import proofs.«01_k».proof.Proof.Gen.GateProjIdeal.Value
public import proofs.«01_k».proof.Proof.Gen.GateProjRefIdeal.Run
public import proofs.«01_k».proof.Proof.Gen.GateProjRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Common

namespace Cert.GateProjIdeal.Value

open Cert.GateProjIdeal Cert.GateProjIdeal.Gen

/-- The product at one element of a block. -/
def prod (x0 : Vec Ideal S512x4096 .bf16) (x1 : Vec Ideal S1x1376x4096 .bf16) (r : Fin 512) (j : Fin 1376) : EReal :=
  ∑ k : Fin 4096, (x0 (ix2 r k) : EReal) * x1 (ix3 0 j k)

theorem pay1_apply (x0 : Vec Ideal S512x4096 .bf16) (x1 : Vec Ideal S1x1376x4096 .bf16) (r : Fin 512) (j : Fin 1376) :
    k0_pay1 (F := Ideal) x0 x1 (ix2 r j) = prod x0 x1 r j := by
  unfold k0_pay1 prod
  rw [shapeCast_self]
  refine (Ideal.matmul_transposedRhs_apply none x0 (shapeCast S1376x4096 x1 shapeCasts_S1x1376x4096_S1376x4096) _ r j).trans ?_
  rw [constant_apply, zero_f32, zero_add]
  refine Finset.sum_congr rfl fun k _ => ?_
  rw [shapeCast_1ab_ab_apply]

theorem pay2_apply (v : Vec Ideal S512x1376 .f32) (u : Fin 1) (r : Fin 512) (j : Fin 1376) :
    k0_pay2 (F := Ideal) v (ix3 u r j) = v (ix2 r j) := by
  unfold k0_pay2
  exact (shapeCast_ab_1ab_apply _ shapeCasts_S512x1376_S1x512x1376 u r j)

/-- The column of the whole that column `j` of shard `s` is. -/
def unitOf (s : Fin 8) (j : Fin 1376) : Fin 11008 := ⟨s.val * 1376 + j.val, by omega⟩

/-- The product of a token's row and a weight's column. -/
def total (x0 : (⟨S4096x4096, .bf16⟩ : BufTy).Contents (Elt Ideal)) (x1 : (⟨S4096x11008, .bf16⟩ : BufTy).Contents (Elt Ideal)) : S8x4096x1376.Idx → EReal :=
  fun i => ∑ k : Fin 4096, (x0 (ix2 (i 1) k) : EReal) * x1 (ix2 k (unitOf (i 0) (i 2)))

/-- What a point leaves in its block of the result. -/
theorem out_apply (c : Dev nD) (i : grid0.Coords) (arg3 : Memref sig .tc .vmem S512x4096 .bf16) (harg3 : arg3.IsWhole) (arg4 : Memref sig .tc .vmem S1x1376x4096 .bf16) (harg4 : arg4.IsWhole) (arg5 : Memref sig .tc .vmem S1x512x1376 .bf16) (harg5 : arg5.IsWhole) (arg6 : Memref sig .tc .vmem S512x1376 .f32) (harg6 : arg6.IsWhole) (x0 : Vec Ideal S512x4096 .bf16) (x1 : Vec Ideal S1x1376x4096 .bf16) (u : Fin 1) (r : Fin 512) (j : Fin 1376) :
    out0_A_2 (F := Ideal) c i arg3 harg3 arg4 harg4 arg5 harg5 arg6 harg6 x0 x1 (ix3 u r j) = prod x0 x1 r j := by
  unfold out0_A_2
  rw [View.read_writes_eq_canon _ _ _ (cover0_A_2 c i arg3 harg3 arg4 harg4 arg5 harg5 arg6 harg6 x0 x1)]
  unfold kernelRun0_A
  dsimp only
  sl_unfold_words
  rw [View.canon_unit_zero (S := S1x512x1376) hz3]
  refine (pay2_apply ..).trans ?_
  rw [View.readCov_eq_canon', View.canon_unit_zero (S := S512x1376) hz2]
  dsimp only
  simp only [View.readAt_eq_ld, Memref.IsWhole.read_unread]
  rw [View.ld_unit_zero (S := S512x4096) hz2, View.ld_unit_zero (S := S1x1376x4096) hz3]
  refine Eq.trans ?_ (pay1_apply x0 x1 r j)
  refine congrArg (k0_pay1 (F := Ideal) x0 x1) (funext fun a => Fin.ext ?_)
  match a with
  | ⟨0, _⟩ => show 0 + 1 * r.val = r.val; omega
  | ⟨1, _⟩ => show 0 + 1 * j.val = j.val; omega

variable (m : (ℓ : Loc nD τ sig) → Buf (Elt Ideal) ℓ) (c : Dev nD)

abbrev a0 : (⟨S4096x4096, .bf16⟩ : BufTy).Contents (Elt Ideal) := m ((c : Thread nD τ).loc main_arg0)
abbrev a1 : (⟨S4096x11008, .bf16⟩ : BufTy).Contents (Elt Ideal) := m ((c : Thread nD τ).loc main_arg1)

theorem V1 : V m c main_v1 = shapeCast S8x1376x4096 (transpose S11008x4096 [1, 0] (a1 m c) transposes_S4096x11008_S11008x4096_1_0) shapeCasts_S11008x4096_S8x1376x4096 := rfl

theorem index_0 : ∀ t : Fin cfg0.N, win0_0.index t 0 = t.val % 8 ∧ win0_0.index t 1 = 0 :=
  (by decide +kernel : ∀ t : Fin grid0.N, win0_0.index t 0 = t.val % 8 ∧ win0_0.index t 1 = 0)
theorem index_1 : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
theorem index_2 : ∀ t : Fin cfg0.N, win0_2.index t 0 = t.val / 8 ∧ win0_2.index t 1 = t.val % 8 ∧ win0_2.index t 2 = 0 :=
  (by decide +kernel : ∀ t : Fin grid0.N, win0_2.index t 0 = t.val / 8 ∧ win0_2.index t 1 = t.val % 8 ∧ win0_2.index t 2 = 0)

theorem lt (t : Fin cfg0.N) : t.val < 64 := t.isLt

theorem blk0 (t : Fin cfg0.N) (p : Fin 512) (q : Fin 4096) :
    (iblk m c 0 t : Vec Ideal S512x4096 .bf16) (ix2 p q) = a0 m c (ix2 (⟨t.val % 8 * 512 + p.val, by have := lt t; omega⟩ : Fin 4096) (⟨q.val, by have := lt t; omega⟩ : Fin 4096)) := by
  unfold iblk
  rw [View.read_apply]
  show V m c main_arg0 _ = _
  rw [V_main_arg0]
  refine congrArg (a0 m c) (funext fun a => Fin.ext ?_)
  match a with
  | ⟨0, _⟩ => show win0_0.index t 0 * 512 + 1 * p.val = t.val % 8 * 512 + p.val; rw [(index_0 t).1]; omega
  | ⟨1, _⟩ => show win0_0.index t 1 * 4096 + 1 * q.val = q.val; rw [(index_0 t).2]; omega

theorem blk1 (t : Fin cfg0.N) (u : Fin 1) (p : Fin 1376) (q : Fin 4096) :
    (iblk m c 1 t : Vec Ideal S1x1376x4096 .bf16) (ix3 u p q) = shapeCast S8x1376x4096 (transpose S11008x4096 [1, 0] (a1 m c) transposes_S4096x11008_S11008x4096_1_0) shapeCasts_S11008x4096_S8x1376x4096 (ix3 (⟨t.val / 8, by have := lt t; omega⟩ : Fin 8) (⟨p.val, by have := lt t; omega⟩ : Fin 1376) (⟨q.val, by have := lt t; omega⟩ : Fin 4096)) := by
  unfold iblk
  rw [View.read_apply]
  show V m c main_v1 _ = _
  rw [V1]
  refine congrArg (shapeCast S8x1376x4096 (transpose S11008x4096 [1, 0] (a1 m c) transposes_S4096x11008_S11008x4096_1_0) shapeCasts_S11008x4096_S8x1376x4096) (funext fun a => Fin.ext ?_)
  match a with
  | ⟨0, _⟩ => show win0_1.index t 0 * 1 + 1 * u.val = t.val / 8; rw [(index_1 t).1]; omega
  | ⟨1, _⟩ => show win0_1.index t 1 * 1376 + 1 * p.val = p.val; rw [(index_1 t).2.1]; omega
  | ⟨2, _⟩ => show win0_1.index t 2 * 4096 + 1 * q.val = q.val; rw [(index_1 t).2.2]; omega

abbrev result : S8x4096x1376.Idx → EReal := total (a0 m c) (a1 m c)

theorem flushed_eq (t : Fin cfg0.N) : (dats m 0 c).flushed 2 t = ((cfg0.win 2).blk t).view.read (Elt Ideal) (result m c) := by
  rw [flushed2_A]
  funext y
  obtain ⟨u, r, j, rfl⟩ : ∃ (u : Fin 1) (r : Fin 512) (j : Fin 1376), y = ix3 u r j := ⟨_, _, _, eq_ix3 y⟩
  rw [View.read_apply]
  refine (out_apply ..).trans ?_
  refine (show _ = result m c (ix3 (⟨t.val / 8, by have := lt t; omega⟩ : Fin 8) (⟨t.val % 8 * 512 + r.val, by have := lt t; omega⟩ : Fin 4096) (⟨j.val, by have := lt t; omega⟩ : Fin 1376)) from ?_).trans ?_
  · refine Finset.sum_congr rfl fun k _ => ?_
    rw [blk0, blk1]
    exact congrArg (_ * ·) (swapShard_apply (a1 m c) transposes_S4096x11008_S11008x4096_1_0 shapeCasts_S11008x4096_S8x1376x4096 _ _ _ _ rfl)
  · refine congrArg (result m c) (funext fun a => Fin.ext ?_)
    match a with
    | ⟨0, _⟩ => show t.val / 8 = win0_2.index t 0 * 1 + 1 * u.val; rw [(index_2 t).1]; omega
    | ⟨1, _⟩ => show t.val % 8 * 512 + r.val = win0_2.index t 1 * 512 + 1 * r.val; rw [(index_2 t).2.1]; omega
    | ⟨2, _⟩ => show j.val = win0_2.index t 2 * 1376 + 1 * j.val; rw [(index_2 t).2.2]; omega

/-- The point whose block holds an index of the result. -/
def pointOf (i : S8x4096x1376.Idx) : Fin cfg0.N :=
  ⟨(i 0).val * 8 + (i 1).val / 512, by
    have h0 : (i 0).val < 8 := (i 0).isLt
    have h1 : (i 1).val < 4096 := (i 1).isLt
    have h2 : (i 2).val < 1376 := (i 2).isLt
    show _ < 64; omega⟩

theorem final_eq : (dats m 0 c).arrAt 2 cfg0.N = result m c :=
  (dats m 0 c).arrAt_eq_of_cover 2 (result m c) (fun t _ => flushed_eq m c t) fun i => ⟨pointOf i, flush0_2 _, by
    have h0 : (i 0).val < 8 := (i 0).isLt
    have h1 : (i 1).val < 4096 := (i 1).isLt
    have h2 : (i 2).val < 1376 := (i 2).isLt
    show i ∈ ((View.whole main_v2).slice (win0_2.rect (pointOf i))).set
    rw [View.set_slice_whole, Rect.mem_set_unit]
    have hp : (pointOf i).val = (i 0).val * 8 + (i 1).val / 512 := rfl
    intro a
    match a with
    | ⟨0, _⟩ => show win0_2.index (pointOf i) 0 * 1 ≤ (i 0 : Nat) ∧ (i 0 : Nat) < win0_2.index (pointOf i) 0 * 1 + 1
                rw [(index_2 _).1, hp]; omega
    | ⟨1, _⟩ => show win0_2.index (pointOf i) 1 * 512 ≤ (i 1 : Nat) ∧ (i 1 : Nat) < win0_2.index (pointOf i) 1 * 512 + 512
                rw [(index_2 _).2.1, hp]; omega
    | ⟨2, _⟩ => show win0_2.index (pointOf i) 2 * 1376 ≤ (i 2 : Nat) ∧ (i 2 : Nat) < win0_2.index (pointOf i) 2 * 1376 + 1376
                rw [(index_2 _).2.2]; omega⟩

end Cert.GateProjIdeal.Value

namespace Cert.GateProjRefIdeal.Value

open Cert.GateProjRefIdeal Cert.GateProjRefIdeal.Read

theorem result_eq (x0 : (⟨S4096x4096, .bf16⟩ : BufTy).Contents (Elt Ideal)) (x1 : (⟨S4096x11008, .bf16⟩ : BufTy).Contents (Elt Ideal)) (i : S8x4096x1376.Idx) :
    val_main_v5 (F := Ideal) x0 x1 i = Cert.GateProjIdeal.Value.total x0 x1 i := by
  have h0 : (i 0).val < 8 := (i 0).isLt
  have h1 : (i 1).val < 4096 := (i 1).isLt
  have h2 : (i 2).val < 1376 := (i 2).isLt
  rw [val_main_v5_apply, val_main_v4_apply]
  refine (show _ = val_main_v2 (F := Ideal) x0 x1 _ from rfl).trans ?_
  rw [val_main_v2_apply]
  refine Finset.sum_congr rfl fun k _ => ?_
  refine congrArg₂ (· * ·) (show x0 _ = x0 _ from congrArg x0 (funext fun a => Fin.ext ?_)) (show x1 _ = x1 _ from congrArg x1 (funext fun a => Fin.ext ?_))
  · match a with
    | ⟨0, _⟩ => show ((((i 1).val * 8 + (i 0).val) * 1376 + (i 2).val) / 11008) = (i 1).val; omega
    | ⟨1, _⟩ => rfl
  · match a with
    | ⟨0, _⟩ => rfl
    | ⟨1, _⟩ => show ((((i 1).val * 8 + (i 0).val) * 1376 + (i 2).val) % 11008) = (i 0).val * 1376 + (i 2).val; omega

/-- The reference runs to its end. -/
theorem frame : Cert.quiescent_GateProjRefIdeal := fun m g _ =>
  (θ_run Cert.GateProjRefIdeal.defs _ _).mono (fun r h => ⟨fun c => (h c).2, Idealize.ShloMosaic.sem_eq_zero_of_no_sems (by decide) r.2⟩)
    (Cert.GateProjRefIdeal.Value.run (F := Ideal) m g)

/-- The kernel computes what the reference computes. -/
theorem algebraic : Cert.algebraic_GateProjIdeal_GateProjRefIdeal := by
  intro m g m' g' _ hargs
  refine ⟨fun c => Cert.GateProjIdeal.Value.result m c, ?_, ?_⟩
  · refine (θ_run Cert.GateProjIdeal.defs _ _).mono (fun r h c => ?_) (Cert.GateProjIdeal.Value.run_blocks (F := Ideal) m g)
    obtain ⟨h2, h⟩ := h c
    exact ⟨h2.trans (Cert.GateProjIdeal.Value.final_eq m c), h⟩
  · refine (θ_run Cert.GateProjRefIdeal.defs _ _).mono (fun r h c => ?_) (Cert.GateProjRefIdeal.Value.run (F := Ideal) m' g')
    obtain ⟨h2, h⟩ := h c
    obtain ⟨e0, e1⟩ := hargs c
    refine ⟨h2.trans ?_, h⟩
    refine (val_main_v5_eq _ _).trans ?_
    rw [e0, e1]
    funext i
    exact result_eq _ _ i

end Cert.GateProjRefIdeal.Value

end
-- ==== Proof.UpActValue.lean ====
/-
  The FFN's up projection with the gate: what the kernel leaves in its results, over the extended reals, and that the reference leaves the same.
-/
module

public import proofs.«01_k».proof.Defs
public import proofs.«01_k».proof.Proof.Common
public import proofs.«01_k».proof.Proof.Gen.UpActIdeal.Value
public import proofs.«01_k».proof.Proof.Gen.UpActRefIdeal.Run
public import proofs.«01_k».proof.Proof.Gen.UpActRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Common

namespace Cert.UpActIdeal.Value

open Cert.UpActIdeal Cert.UpActIdeal.Gen

/-- The hidden unit that column `j` of shard `s` is. -/
def unitOf (s : Fin 8) (j : Fin 1376) : Fin 11008 := ⟨s.val * 1376 + j.val, by omega⟩

/-- The product of a token's row and a weight's column. -/
def upAt (x0 : (⟨S4096x4096, .bf16⟩ : BufTy).Contents (Elt Ideal)) (x1 : (⟨S4096x11008, .bf16⟩ : BufTy).Contents (Elt Ideal)) (r : Fin 4096) (u : Fin 11008) : EReal :=
  ∑ k : Fin 4096, (x0 (ix2 r k) : EReal) * x1 (ix2 k u)
/-- The gated unit. -/
def act (g u : EReal) : EReal := g * Ideal.logistic g * u
def ups (x0 : (⟨S4096x4096, .bf16⟩ : BufTy).Contents (Elt Ideal)) (x1 : (⟨S4096x11008, .bf16⟩ : BufTy).Contents (Elt Ideal)) : S8x4096x1376.Idx → EReal := fun i => upAt x0 x1 (i 1) (unitOf (i 0) (i 2))
def acts (x0 : (⟨S4096x4096, .bf16⟩ : BufTy).Contents (Elt Ideal)) (x1 : (⟨S4096x11008, .bf16⟩ : BufTy).Contents (Elt Ideal)) (x2 : (⟨S4096x11008, .bf16⟩ : BufTy).Contents (Elt Ideal)) : S8x4096x1376.Idx → EReal :=
  fun i => act (x2 (ix2 (i 1) (unitOf (i 0) (i 2)))) (upAt x0 x1 (i 1) (unitOf (i 0) (i 2)))

/-- The product at one element of a tile. -/
def prod (x0 : Vec Ideal S512x4096 .bf16) (x1 : Vec Ideal S1x1376x4096 .bf16) (r : Fin 512) (j : Fin 1376) : EReal :=
  ∑ k : Fin 4096, (x0 (ix2 r k) : EReal) * x1 (ix3 0 j k)

theorem pay3_apply (x0 : Vec Ideal S512x4096 .bf16) (x1 : Vec Ideal S1x1376x4096 .bf16) (r : Fin 512) (j : Fin 1376) :
    k0_pay3 (F := Ideal) x0 x1 (ix2 r j) = prod x0 x1 r j := by
  unfold k0_pay3 prod
  rw [shapeCast_self]
  refine (Ideal.matmul_transposedRhs_apply none x0 (shapeCast S1376x4096 x1 shapeCasts_S1x1376x4096_S1376x4096) _ r j).trans ?_
  rw [constant_apply, zero_f32, zero_add]
  refine Finset.sum_congr rfl fun k _ => ?_
  rw [shapeCast_1ab_ab_apply]

section
variable (v : Vec Ideal S256x1376 .f32) (w : Vec Ideal S1x256x1376 .bf16) (u : Fin 1) (r : Fin 256) (c : Fin 1376)

theorem pay4_apply : k0_pay4 (F := Ideal) v (ix3 u r c) = v (ix2 r c) := by
  unfold k0_pay4
  exact shapeCast_ab_1ab_apply _ shapeCasts_S256x1376_S1x256x1376 u r c
theorem pay7_apply : k0_pay1 (F := Ideal) (k0_pay7 (F := Ideal) v) (ix3 u r c) = v (ix2 r c) := by
  unfold k0_pay1
  exact shapeCast_ab_1ab_apply _ shapeCasts_S256x1376_S1x256x1376 u r c
theorem pay6_apply : k0_pay6 (F := Ideal) w (ix2 r c) = w (ix3 0 r c) := shapeCast_1ab_ab_apply ..
theorem pay2_apply : k0_pay2 (F := Ideal) v (k0_pay6 (F := Ideal) w) (ix3 u r c) = act (w (ix3 0 r c)) (v (ix2 r c)) := by
  unfold k0_pay2
  refine (shapeCast_ab_1ab_apply _ shapeCasts_S256x1376_S1x256x1376 u r c).trans ?_
  show k0_pay6 (F := Ideal) w (ix2 r c) * Ideal.logistic (k0_pay6 (F := Ideal) w (ix2 r c)) * v (ix2 r c) = _
  rw [pay6_apply]; rfl
theorem pay5_apply : k0_pay5 (F := Ideal) v w (ix3 u r c) = act (w (ix3 0 r c)) (v (ix2 r c)) := by
  unfold k0_pay5
  refine (shapeCast_ab_1ab_apply _ shapeCasts_S256x1376_S1x256x1376 u r c).trans ?_
  show k0_pay6 (F := Ideal) w (ix2 r c) * Ideal.logistic (k0_pay6 (F := Ideal) w (ix2 r c)) * v (ix2 r c) = _
  rw [pay6_apply]; rfl
end

/-- An index of the tile's upper or lower half, in the whole tile. -/
theorem emb_half (o : Nat) (inb : ∀ a, (![0, o, 0] : Fin 3 → Nat) a + (![1, 256, 1376] : Fin 3 → Nat) a ≤ S1x512x1376.size a)
    (u : Fin 1) (r : Fin 256) (c : Fin 1376) (h : o + r.val < 512) :
    (Rect.unit (s := S1x512x1376) ![0, o, 0] ![1, 256, 1376] inb).emb (ix3 u r c) = ix3 (0 : Fin 1) (⟨o + r.val, h⟩ : Fin 512) c := by
  funext a; apply Fin.ext
  match a with
  | ⟨0, _⟩ => show 0 + 1 * u.val = 0; omega
  | ⟨1, _⟩ => show o + 1 * r.val = o + r.val; omega
  | ⟨2, _⟩ => show 0 + 1 * c.val = c.val; omega
theorem ld_half (o : Nat) (inb : ∀ a, (![0, o, 0] : Fin 3 → Nat) a + (![1, 256, 1376] : Fin 3 → Nat) a ≤ S1x512x1376.size a)
    (x : Vec Ideal S1x512x1376 .bf16) (r : Fin 256) (c : Fin 1376) (h : o + r.val < 512) :
    View.ld x (Rect.unit (s := S1x512x1376) ![0, o, 0] ![1, 256, 1376] inb) (ix3 0 r c) = x (ix3 (0 : Fin 1) (⟨o + r.val, h⟩ : Fin 512) c) :=
  congrArg x (emb_half o inb 0 r c h)
theorem emb_half2 (o : Nat) (inb : ∀ a, (![o, 0] : Fin 2 → Nat) a + (![256, 1376] : Fin 2 → Nat) a ≤ S512x1376.size a)
    (r : Fin 256) (c : Fin 1376) (h : o + r.val < 512) :
    (Rect.unit (s := S512x1376) ![o, 0] ![256, 1376] inb).toLoadRect.idx (ix2 r c) = ix2 (⟨o + r.val, h⟩ : Fin 512) c := by
  funext a; apply Fin.ext
  match a with
  | ⟨0, _⟩ => show o + 1 * r.val = o + r.val; omega
  | ⟨1, _⟩ => show 0 + 1 * c.val = c.val; omega

theorem out3_apply (c : Dev nD) (i : grid0.Coords) (arg3 : Memref sig .tc .vmem S512x4096 .bf16) (harg3 : arg3.IsWhole) (arg4 : Memref sig .tc .vmem S1x1376x4096 .bf16) (harg4 : arg4.IsWhole) (arg5 : Memref sig .tc .vmem S1x512x1376 .bf16) (harg5 : arg5.IsWhole) (arg6 : Memref sig .tc .vmem S1x512x1376 .bf16) (harg6 : arg6.IsWhole) (arg7 : Memref sig .tc .vmem S1x512x1376 .bf16) (harg7 : arg7.IsWhole) (arg8 : Memref sig .tc .vmem S512x1376 .f32) (harg8 : arg8.IsWhole) (x0 : Vec Ideal S512x4096 .bf16) (x1 : Vec Ideal S1x1376x4096 .bf16) (x2 : Vec Ideal S1x512x1376 .bf16) (y : S1x512x1376.Idx) :
    out0_A_3 (F := Ideal) c i arg3 harg3 arg4 harg4 arg5 harg5 arg6 harg6 arg7 harg7 arg8 harg8 x0 x1 x2 y = prod x0 x1 (y 1) (y 2) := by
  unfold out0_A_3
  rw [View.read_writes_eq_canon _ _ _ (cover0_A_3 c i arg3 harg3 arg4 harg4 arg5 harg5 arg6 harg6 arg7 harg7 arg8 harg8 x0 x1 x2)]
  refine View.canon_apply_of_pieces (fun y => prod x0 x1 (y 1) (y 2)) _ ?_ y (cover0_A_3 c i arg3 harg3 arg4 harg4 arg5 harg5 arg6 harg6 arg7 harg7 arg8 harg8 x0 x1 x2 y)
  unfold kernelRun0_A
  dsimp only
  sl_unfold_words
  intro p hp
  fin_cases hp
  · intro x
    obtain ⟨u, r, cc, rfl⟩ : ∃ (u : Fin 1) (r : Fin 256) (cc : Fin 1376), x = ix3 u r cc := ⟨_, _, _, eq_ix3 x⟩
    have hr : 256 + r.val < 512 := by omega
    dsimp only
    rw [emb_half 256 _ u r cc hr]
    refine (pay7_apply _ u r cc).trans ?_
    rw [View.readCov_eq_canon', View.canon_unit_zero (S := S512x1376) hz2]
    dsimp only
    simp only [View.readAt_eq_ld, Memref.IsWhole.read_unread]
    rw [emb_half2 256 _ r cc hr]
    rw [View.ld_unit_zero (S := S512x4096) hz2, View.ld_unit_zero (S := S1x1376x4096) hz3, pay3_apply]
    try rfl
  · intro x
    obtain ⟨u, r, cc, rfl⟩ : ∃ (u : Fin 1) (r : Fin 256) (cc : Fin 1376), x = ix3 u r cc := ⟨_, _, _, eq_ix3 x⟩
    have hr : 0 + r.val < 512 := by omega
    dsimp only
    rw [emb_half 0 _ u r cc hr]
    refine (pay4_apply _ u r cc).trans ?_
    rw [View.readCov_eq_canon', View.canon_unit_zero (S := S512x1376) hz2]
    dsimp only
    simp only [View.readAt_eq_ld, Memref.IsWhole.read_unread]
    rw [emb_half2 0 _ r cc hr]
    rw [View.ld_unit_zero (S := S512x4096) hz2, View.ld_unit_zero (S := S1x1376x4096) hz3, pay3_apply]
    try rfl

theorem out4_apply (c : Dev nD) (i : grid0.Coords) (arg3 : Memref sig .tc .vmem S512x4096 .bf16) (harg3 : arg3.IsWhole) (arg4 : Memref sig .tc .vmem S1x1376x4096 .bf16) (harg4 : arg4.IsWhole) (arg5 : Memref sig .tc .vmem S1x512x1376 .bf16) (harg5 : arg5.IsWhole) (arg6 : Memref sig .tc .vmem S1x512x1376 .bf16) (harg6 : arg6.IsWhole) (arg7 : Memref sig .tc .vmem S1x512x1376 .bf16) (harg7 : arg7.IsWhole) (arg8 : Memref sig .tc .vmem S512x1376 .f32) (harg8 : arg8.IsWhole) (x0 : Vec Ideal S512x4096 .bf16) (x1 : Vec Ideal S1x1376x4096 .bf16) (x2 : Vec Ideal S1x512x1376 .bf16) (y : S1x512x1376.Idx) :
    out0_A_4 (F := Ideal) c i arg3 harg3 arg4 harg4 arg5 harg5 arg6 harg6 arg7 harg7 arg8 harg8 x0 x1 x2 y = act (x2 y) (prod x0 x1 (y 1) (y 2)) := by
  unfold out0_A_4
  rw [View.read_writes_eq_canon _ _ _ (cover0_A_4 c i arg3 harg3 arg4 harg4 arg5 harg5 arg6 harg6 arg7 harg7 arg8 harg8 x0 x1 x2)]
  refine View.canon_apply_of_pieces (fun y => act (x2 y) (prod x0 x1 (y 1) (y 2))) _ ?_ y (cover0_A_4 c i arg3 harg3 arg4 harg4 arg5 harg5 arg6 harg6 arg7 harg7 arg8 harg8 x0 x1 x2 y)
  unfold kernelRun0_A
  dsimp only
  sl_unfold_words
  intro p hp
  fin_cases hp
  · intro x
    obtain ⟨u, r, cc, rfl⟩ : ∃ (u : Fin 1) (r : Fin 256) (cc : Fin 1376), x = ix3 u r cc := ⟨_, _, _, eq_ix3 x⟩
    have hr : 256 + r.val < 512 := by omega
    dsimp only
    rw [emb_half 256 _ u r cc hr]
    refine (pay2_apply _ _ u r cc).trans ?_
    rw [View.readCov_eq_canon', View.canon_unit_zero (S := S512x1376) hz2]
    dsimp only
    simp only [View.readAt_eq_ld, Memref.IsWhole.read_unread]
    rw [emb_half2 256 _ r cc hr]
    rw [View.ld_unit_zero (S := S512x4096) hz2, View.ld_unit_zero (S := S1x1376x4096) hz3, pay3_apply]
    exact congrArg (fun g => act g _) (ld_half 256 _ _ r cc hr)
  · intro x
    obtain ⟨u, r, cc, rfl⟩ : ∃ (u : Fin 1) (r : Fin 256) (cc : Fin 1376), x = ix3 u r cc := ⟨_, _, _, eq_ix3 x⟩
    have hr : 0 + r.val < 512 := by omega
    dsimp only
    rw [emb_half 0 _ u r cc hr]
    refine (pay5_apply _ _ u r cc).trans ?_
    rw [View.readCov_eq_canon', View.canon_unit_zero (S := S512x1376) hz2]
    dsimp only
    simp only [View.readAt_eq_ld, Memref.IsWhole.read_unread]
    rw [emb_half2 0 _ r cc hr]
    rw [View.ld_unit_zero (S := S512x4096) hz2, View.ld_unit_zero (S := S1x1376x4096) hz3, pay3_apply]
    exact congrArg (fun g => act g _) (ld_half 0 _ _ r cc hr)

variable (m : (ℓ : Loc nD τ sig) → Buf (Elt Ideal) ℓ) (c : Dev nD)

abbrev a0 : (⟨S4096x4096, .bf16⟩ : BufTy).Contents (Elt Ideal) := m ((c : Thread nD τ).loc main_arg0)
abbrev a1 : (⟨S4096x11008, .bf16⟩ : BufTy).Contents (Elt Ideal) := m ((c : Thread nD τ).loc main_arg1)
abbrev a2 : (⟨S4096x11008, .bf16⟩ : BufTy).Contents (Elt Ideal) := m ((c : Thread nD τ).loc main_arg2)
theorem V1 : V m c main_v1 = shapeCast S8x1376x4096 (transpose S11008x4096 [1, 0] (a1 m c) transposes_S4096x11008_S11008x4096_1_0) shapeCasts_S11008x4096_S8x1376x4096 := rfl
theorem V3 : V m c main_v3 = transpose S8x4096x1376 [1, 0, 2] (shapeCast S4096x8x1376 (a2 m c) shapeCasts_S4096x11008_S4096x8x1376) transposes_S4096x8x1376_S8x4096x1376_1_0_2 := rfl

theorem index_0 : ∀ t : Fin cfg0.N, win0_0.index t 0 = t.val % 8 ∧ win0_0.index t 1 = 0 :=
  (by decide +kernel : ∀ t : Fin grid0.N, win0_0.index t 0 = t.val % 8 ∧ win0_0.index t 1 = 0)
theorem index_1 : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
theorem index_2 : ∀ t : Fin cfg0.N, win0_2.index t 0 = t.val / 8 ∧ win0_2.index t 1 = t.val % 8 ∧ win0_2.index t 2 = 0 :=
  (by decide +kernel : ∀ t : Fin grid0.N, win0_2.index t 0 = t.val / 8 ∧ win0_2.index t 1 = t.val % 8 ∧ win0_2.index t 2 = 0)
theorem index_3 : ∀ t : Fin cfg0.N, win0_3.index t 0 = t.val / 8 ∧ win0_3.index t 1 = t.val % 8 ∧ win0_3.index t 2 = 0 :=
  (by decide +kernel : ∀ t : Fin grid0.N, win0_3.index t 0 = t.val / 8 ∧ win0_3.index t 1 = t.val % 8 ∧ win0_3.index t 2 = 0)
theorem index_4 : ∀ t : Fin cfg0.N, win0_4.index t 0 = t.val / 8 ∧ win0_4.index t 1 = t.val % 8 ∧ win0_4.index t 2 = 0 :=
  (by decide +kernel : ∀ t : Fin grid0.N, win0_4.index t 0 = t.val / 8 ∧ win0_4.index t 1 = t.val % 8 ∧ win0_4.index t 2 = 0)

/-- The shard and the row of the whole array that a point's tile holds. -/
def shardAt (t : Fin cfg0.N) : Fin 8 := ⟨t.val / 8, by have : t.val < 64 := t.isLt; omega⟩
def rowAt (t : Fin cfg0.N) (r : Fin 512) : Fin 4096 := ⟨t.val % 8 * 512 + r.val, by omega⟩

theorem blk0 (t : Fin cfg0.N) (r : Fin 512) (k : Fin 4096) :
    (iblk m c 0 t : Vec Ideal S512x4096 .bf16) (ix2 r k) = a0 m c (ix2 (rowAt t r) k) := by
  unfold iblk
  rw [View.read_apply]
  show V m c main_arg0 _ = _
  rw [V_main_arg0]
  refine congrArg (a0 m c) (funext fun a => Fin.ext ?_)
  match a with
  | ⟨0, _⟩ => show win0_0.index t 0 * 512 + 1 * r.val = t.val % 8 * 512 + r.val; rw [(index_0 t).1]; omega
  | ⟨1, _⟩ => show win0_0.index t 1 * 4096 + 1 * k.val = k.val; rw [(index_0 t).2]; omega

theorem blk1 (t : Fin cfg0.N) (j : Fin 1376) (k : Fin 4096) :
    (iblk m c 1 t : Vec Ideal S1x1376x4096 .bf16) (ix3 0 j k) = a1 m c (ix2 k (unitOf (shardAt t) j)) := by
  unfold iblk
  rw [View.read_apply]
  show V m c main_v1 _ = _
  rw [V1]
  refine Eq.trans ?_ (swapShard_apply (a1 m c) transposes_S4096x11008_S11008x4096_1_0 shapeCasts_S11008x4096_S8x1376x4096 (shardAt t) j k (unitOf (shardAt t) j) rfl)
  refine congrArg (shapeCast S8x1376x4096 (transpose S11008x4096 [1, 0] (a1 m c) transposes_S4096x11008_S11008x4096_1_0) shapeCasts_S11008x4096_S8x1376x4096) (funext fun a => Fin.ext ?_)
  match a with
  | ⟨0, _⟩ => show win0_1.index t 0 * 1 + 1 * 0 = t.val / 8; rw [(index_1 t).1]; omega
  | ⟨1, _⟩ => show win0_1.index t 1 * 1376 + 1 * j.val = j.val; rw [(index_1 t).2.1]; omega
  | ⟨2, _⟩ => show win0_1.index t 2 * 4096 + 1 * k.val = k.val; rw [(index_1 t).2.2]; omega

theorem blk2 (t : Fin cfg0.N) (u : Fin 1) (r : Fin 512) (j : Fin 1376) :
    (iblk m c 2 t : Vec Ideal S1x512x1376 .bf16) (ix3 u r j) = a2 m c (ix2 (rowAt t r) (unitOf (shardAt t) j)) := by
  unfold iblk
  rw [View.read_apply]
  show V m c main_v3 _ = _
  rw [V3]
  refine Eq.trans ?_ (byShard_apply (a2 m c) shapeCasts_S4096x11008_S4096x8x1376 transposes_S4096x8x1376_S8x4096x1376_1_0_2 rfl (shardAt t) (rowAt t r) j _ rfl)
  refine congrArg (transpose S8x4096x1376 [1, 0, 2] (shapeCast S4096x8x1376 (a2 m c) shapeCasts_S4096x11008_S4096x8x1376) transposes_S4096x8x1376_S8x4096x1376_1_0_2) (funext fun a => Fin.ext ?_)
  match a with
  | ⟨0, _⟩ => show win0_2.index t 0 * 1 + 1 * u.val = t.val / 8; rw [(index_2 t).1]; omega
  | ⟨1, _⟩ => show win0_2.index t 1 * 512 + 1 * r.val = t.val % 8 * 512 + r.val; rw [(index_2 t).2.1]; omega
  | ⟨2, _⟩ => show win0_2.index t 2 * 1376 + 1 * j.val = j.val; rw [(index_2 t).2.2]; omega

theorem prod_blk (t : Fin cfg0.N) (r : Fin 512) (j : Fin 1376) :
    prod (iblk m c 0 t) (iblk m c 1 t) r j = upAt (a0 m c) (a1 m c) (rowAt t r) (unitOf (shardAt t) j) :=
  Finset.sum_congr rfl fun k _ => by rw [blk0, blk1]

/-- The point whose tile holds an index of a result. -/
def pointOf (i : S8x4096x1376.Idx) : Fin cfg0.N :=
  ⟨(i 0).val * 8 + (i 1).val / 512, by
    have h0 : (i 0).val < 8 := (i 0).isLt
    have h1 : (i 1).val < 4096 := (i 1).isLt
    show _ < 64; omega⟩

theorem flushed_up (t : Fin cfg0.N) :
    (dats m 0 c).flushed 3 t = ((cfg0.win 3).blk t).view.read (Elt Ideal) (ups (a0 m c) (a1 m c)) := by
  rw [flushed3_A]
  funext y
  obtain ⟨u, r, j, rfl⟩ : ∃ (u : Fin 1) (r : Fin 512) (j : Fin 1376), y = ix3 u r j := ⟨_, _, _, eq_ix3 y⟩
  rw [View.read_apply]
  refine (out3_apply ..).trans ?_
  show prod (iblk m c 0 t) (iblk m c 1 t) r j = _
  rw [prod_blk]
  refine (show _ = (ups (a0 m c) (a1 m c)) (ix3 (shardAt t) (rowAt t r) j) from rfl).trans ?_
  refine congrArg (ups (a0 m c) (a1 m c)) (funext fun a => Fin.ext ?_)
  match a with
  | ⟨0, _⟩ => show t.val / 8 = win0_3.index t 0 * 1 + 1 * u.val; rw [(index_3 t).1]; omega
  | ⟨1, _⟩ => show t.val % 8 * 512 + r.val = win0_3.index t 1 * 512 + 1 * r.val; rw [(index_3 t).2.1]; omega
  | ⟨2, _⟩ => show j.val = win0_3.index t 2 * 1376 + 1 * j.val; rw [(index_3 t).2.2]; omega

theorem final_up : (dats m 0 c).arrAt 3 cfg0.N = ups (a0 m c) (a1 m c) :=
  (dats m 0 c).arrAt_eq_of_cover 3 (ups (a0 m c) (a1 m c)) (fun t _ => flushed_up m c t) fun i =>
    ⟨pointOf i, flush0_3 _, by
      have h0 : (i 0).val < 8 := (i 0).isLt
      have h1 : (i 1).val < 4096 := (i 1).isLt
      have h2 : (i 2).val < 1376 := (i 2).isLt
      show i ∈ ((View.whole main_v4_0).slice (win0_3.rect (pointOf i))).set
      rw [View.set_slice_whole, Rect.mem_set_unit]
      have hp : (pointOf i).val = (i 0).val * 8 + (i 1).val / 512 := rfl
      intro a
      match a with
      | ⟨0, _⟩ => show win0_3.index (pointOf i) 0 * 1 ≤ (i 0 : Nat) ∧ (i 0 : Nat) < win0_3.index (pointOf i) 0 * 1 + 1
                  rw [(index_3 _).1, hp]; omega
      | ⟨1, _⟩ => show win0_3.index (pointOf i) 1 * 512 ≤ (i 1 : Nat) ∧ (i 1 : Nat) < win0_3.index (pointOf i) 1 * 512 + 512
                  rw [(index_3 _).2.1, hp]; omega
      | ⟨2, _⟩ => show win0_3.index (pointOf i) 2 * 1376 ≤ (i 2 : Nat) ∧ (i 2 : Nat) < win0_3.index (pointOf i) 2 * 1376 + 1376
                  rw [(index_3 _).2.2]; omega⟩

theorem flushed_act (t : Fin cfg0.N) :
    (dats m 0 c).flushed 4 t = ((cfg0.win 4).blk t).view.read (Elt Ideal) (acts (a0 m c) (a1 m c) (a2 m c)) := by
  rw [flushed4_A]
  funext y
  obtain ⟨u, r, j, rfl⟩ : ∃ (u : Fin 1) (r : Fin 512) (j : Fin 1376), y = ix3 u r j := ⟨_, _, _, eq_ix3 y⟩
  rw [View.read_apply]
  refine (out4_apply ..).trans ?_
  show act ((iblk m c 2 t : Vec Ideal S1x512x1376 .bf16) (ix3 u r j)) (prod (iblk m c 0 t) (iblk m c 1 t) r j) = _
  rw [blk2, prod_blk]
  refine (show _ = (acts (a0 m c) (a1 m c) (a2 m c)) (ix3 (shardAt t) (rowAt t r) j) from rfl).trans ?_
  refine congrArg (acts (a0 m c) (a1 m c) (a2 m c)) (funext fun a => Fin.ext ?_)
  match a with
  | ⟨0, _⟩ => show t.val / 8 = win0_4.index t 0 * 1 + 1 * u.val; rw [(index_4 t).1]; omega
  | ⟨1, _⟩ => show t.val % 8 * 512 + r.val = win0_4.index t 1 * 512 + 1 * r.val; rw [(index_4 t).2.1]; omega
  | ⟨2, _⟩ => show j.val = win0_4.index t 2 * 1376 + 1 * j.val; rw [(index_4 t).2.2]; omega

theorem final_act : (dats m 0 c).arrAt 4 cfg0.N = acts (a0 m c) (a1 m c) (a2 m c) :=
  (dats m 0 c).arrAt_eq_of_cover 4 (acts (a0 m c) (a1 m c) (a2 m c)) (fun t _ => flushed_act m c t) fun i =>
    ⟨pointOf i, flush0_4 _, by
      have h0 : (i 0).val < 8 := (i 0).isLt
      have h1 : (i 1).val < 4096 := (i 1).isLt
      have h2 : (i 2).val < 1376 := (i 2).isLt
      show i ∈ ((View.whole main_v4_1).slice (win0_4.rect (pointOf i))).set
      rw [View.set_slice_whole, Rect.mem_set_unit]
      have hp : (pointOf i).val = (i 0).val * 8 + (i 1).val / 512 := rfl
      intro a
      match a with
      | ⟨0, _⟩ => show win0_4.index (pointOf i) 0 * 1 ≤ (i 0 : Nat) ∧ (i 0 : Nat) < win0_4.index (pointOf i) 0 * 1 + 1
                  rw [(index_4 _).1, hp]; omega
      | ⟨1, _⟩ => show win0_4.index (pointOf i) 1 * 512 ≤ (i 1 : Nat) ∧ (i 1 : Nat) < win0_4.index (pointOf i) 1 * 512 + 512
                  rw [(index_4 _).2.1, hp]; omega
      | ⟨2, _⟩ => show win0_4.index (pointOf i) 2 * 1376 ≤ (i 2 : Nat) ∧ (i 2 : Nat) < win0_4.index (pointOf i) 2 * 1376 + 1376
                  rw [(index_4 _).2.2]; omega⟩

end Cert.UpActIdeal.Value

namespace Cert.UpActRefIdeal.Value

open Cert.UpActRefIdeal Cert.UpActRefIdeal.Read
open Cert.UpActIdeal.Value (unitOf upAt act ups acts)

variable (x0 : (⟨S4096x4096, .bf16⟩ : BufTy).Contents (Elt Ideal)) (x1 x2 : (⟨S4096x11008, .bf16⟩ : BufTy).Contents (Elt Ideal))

theorem up_apply (r : Fin 4096) (u : Fin 11008) : val_main_v2 (F := Ideal) x0 x1 (ix2 r u) = upAt x0 x1 r u := by
  rw [val_main_v2_apply]
  refine Finset.sum_congr rfl fun k _ => ?_
  refine congrArg₂ (· * ·) (show x0 _ = x0 _ from congrArg x0 (funext fun a => Fin.ext ?_)) (show x1 _ = x1 _ from congrArg x1 (funext fun a => Fin.ext ?_))
  · match a with
    | ⟨0, _⟩ => rfl
    | ⟨1, _⟩ => rfl
  · match a with
    | ⟨0, _⟩ => rfl
    | ⟨1, _⟩ => rfl

theorem sigma_apply (i : S4096x11008.Idx) : val_main_call0_v5 (F := Ideal) x2 i = Ideal.logistic (x2 i) := by
  rw [val_main_call0_v5_apply, val_main_call0_v4_apply, val_main_call0_v3_apply, val_main_call0_v2_apply]
  show Ideal.div (Ideal.ofBits .f32 0x3F800000#32) (Ideal.ofBits .f32 0x3F800000#32 + Ideal.exp (-(x2 i))) = _
  rw [Ideal.ofBits_one_f32]; rfl

theorem act_apply (r : Fin 4096) (u : Fin 11008) : val_main_v5 (F := Ideal) x0 x1 x2 (ix2 r u) = act (x2 (ix2 r u)) (upAt x0 x1 r u) := by
  show x2 (ix2 r u) * val_main_call0_v5 (F := Ideal) x2 (ix2 r u) * val_main_v2 (F := Ideal) x0 x1 (ix2 r u) = _
  rw [sigma_apply, up_apply]; rfl

theorem idx_eq (i : S8x4096x1376.Idx) : idx_main_v7 (idx_main_v8 i) = ix2 (i 1) (unitOf (i 0) (i 2)) := by
  have h0 : (i 0).val < 8 := (i 0).isLt
  have h1 : (i 1).val < 4096 := (i 1).isLt
  have h2 : (i 2).val < 1376 := (i 2).isLt
  funext a; apply Fin.ext
  match a with
  | ⟨0, _⟩ => show (((i 1).val * 8 + (i 0).val) * 1376 + (i 2).val) / 11008 = (i 1).val; omega
  | ⟨1, _⟩ => show (((i 1).val * 8 + (i 0).val) * 1376 + (i 2).val) % 11008 = (i 0).val * 1376 + (i 2).val; omega

theorem result_up (i : S8x4096x1376.Idx) : val_main_v8 (F := Ideal) x0 x1 i = ups x0 x1 i := by
  rw [val_main_v8_apply, val_main_v7_apply, idx_eq]
  exact up_apply x0 x1 _ _

theorem result_act (i : S8x4096x1376.Idx) : val_main_v11 (F := Ideal) x0 x1 x2 i = acts x0 x1 x2 i := by
  rw [val_main_v11_apply, val_main_v10_apply]
  rw [show idx_main_v10 (idx_main_v11 i) = ix2 (i 1) (unitOf (i 0) (i 2)) from idx_eq i]
  exact act_apply x0 x1 x2 _ _

/-- The reference runs to its end. -/
theorem frame : Cert.quiescent_UpActRefIdeal := fun m g _ =>
  (θ_run Cert.UpActRefIdeal.defs _ _).mono (fun r h => ⟨fun c => (h c).2.2, Idealize.ShloMosaic.sem_eq_zero_of_no_sems (by decide) r.2⟩)
    (Cert.UpActRefIdeal.Value.run (F := Ideal) m g)

/-- The kernel computes what the reference computes. -/
theorem algebraic : Cert.algebraic_UpActIdeal_UpActRefIdeal := by
  intro m g m' g' _ hargs
  refine ⟨fun c => ups (Cert.UpActIdeal.Value.a0 m c) (Cert.UpActIdeal.Value.a1 m c), fun c => acts (Cert.UpActIdeal.Value.a0 m c) (Cert.UpActIdeal.Value.a1 m c) (Cert.UpActIdeal.Value.a2 m c), ?_, ?_⟩
  · refine (θ_run Cert.UpActIdeal.defs _ _).mono (fun r h c => ?_) (Cert.UpActIdeal.Value.run_blocks (F := Ideal) m g)
    obtain ⟨h3, h4, h⟩ := h c
    exact ⟨h3.trans (Cert.UpActIdeal.Value.final_up m c), h4.trans (Cert.UpActIdeal.Value.final_act m c), h⟩
  · refine (θ_run Cert.UpActRefIdeal.defs _ _).mono (fun r h c => ?_) (Cert.UpActRefIdeal.Value.run (F := Ideal) m' g')
    obtain ⟨h3, h4, h⟩ := h c
    obtain ⟨e0, e1, e2⟩ := hargs c
    refine ⟨h3.trans ?_, h4.trans ?_, h⟩
    · refine (val_main_v8_eq _ _).trans ?_
      rw [e0, e1]; funext i; exact result_up _ _ i
    · refine (val_main_v11_eq _ _ _).trans ?_
      rw [e0, e1, e2]; funext i; exact result_act _ _ _ i

end Cert.UpActRefIdeal.Value

end
-- ==== Proof.DownProjValue.lean ====
/-
  The FFN's output projection, on the residual path: what the kernel leaves in its result, over the extended reals, and that the reference leaves the same.
-/
module

public import proofs.«01_k».proof.Defs
public import proofs.«01_k».proof.Proof.Common
public import proofs.«01_k».proof.Proof.Gen.DownProjIdeal.Value
public import proofs.«01_k».proof.Proof.Gen.DownProjRefIdeal.Run
public import proofs.«01_k».proof.Proof.Gen.DownProjRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Common

namespace Cert.DownProjIdeal.Value

open Cert.DownProjIdeal Cert.DownProjIdeal.Gen

/-- The hidden unit that column `j` of shard `s` is. -/
def unitOf (s : Fin 8) (j : Fin 1376) : Fin 11008 := ⟨s.val * 1376 + j.val, by omega⟩

/-- One shard's share of the product. -/
def shard (x : (⟨S4096x11008, .bf16⟩ : BufTy).Contents (Elt Ideal)) (w : (⟨S11008x4096, .bf16⟩ : BufTy).Contents (Elt Ideal)) (r d : Fin 4096) (s : Fin 8) : EReal :=
  ∑ k : Fin 1376, (x (ix2 r (unitOf s k)) : EReal) * w (ix2 (unitOf s k) d)

/-- The residual, and the product of a token's row and a weight's column. -/
def total (x0 : (⟨S4096x11008, .bf16⟩ : BufTy).Contents (Elt Ideal)) (x1 : (⟨S11008x4096, .bf16⟩ : BufTy).Contents (Elt Ideal)) (x2 : (⟨S4096x4096, .f32⟩ : BufTy).Contents (Elt Ideal)) : S4096x4096.Idx → EReal :=
  fun i => (x2 i : EReal) + ∑ k : Fin 11008, (x0 (ix2 (i 0) k) : EReal) * x1 (ix2 k (i 1))

theorem total_apply (x0 : (⟨S4096x11008, .bf16⟩ : BufTy).Contents (Elt Ideal)) (x1 : (⟨S11008x4096, .bf16⟩ : BufTy).Contents (Elt Ideal)) (x2 : (⟨S4096x4096, .f32⟩ : BufTy).Contents (Elt Ideal)) (r d : Fin 4096) :
    total x0 x1 x2 (ix2 r d) = x2 (ix2 r d) + ∑ s : Fin 8, shard x0 x1 r d s := by
  refine congrArg (x2 (ix2 r d) + ·) ?_
  unfold shard
  refine sum_shards (n := 1376) rfl _ _ fun s j u hu => ?_
  obtain rfl : u = unitOf s j := Fin.ext hu
  rfl

/-! ## What a point adds -/

def mul (v : Vec Ideal S1x512x1376 .bf16) (w : Vec Ideal S1x1376x1024 .bf16) (r : Fin 512) (j : Fin 1024) : EReal :=
  ∑ k : Fin 1376, (v (ix3 0 r k) : EReal) * w (ix3 0 k j)

/-- One of a point's four shards. -/
def quarter (x : Vec Ideal S4x512x1376 .bf16) (w : Vec Ideal S4x1376x1024 .bf16) (r : Fin 512) (j : Fin 1024) (s : Fin 4) : EReal :=
  ∑ k : Fin 1376, (x (ix3 s r k) : EReal) * w (ix3 s k j)

def part (x0 : Vec Ideal S4x512x1376 .bf16) (x1 : Vec Ideal S4x1376x1024 .bf16) (r : Fin 512) (j : Fin 1024) : EReal :=
  quarter x0 x1 r j 0 + quarter x0 x1 r j 1 + quarter x0 x1 r j 2 + quarter x0 x1 r j 3

theorem matmul_apply (v : Vec Ideal S1x512x1376 .bf16) (w : Vec Ideal S1x1376x1024 .bf16) (r : Fin 512) (j : Fin 1024) :
    matmul (F := Ideal) (φ₁ := .bf16) (φ₂ := .bf16) dot_S512x1376_S1376x1024_S512x1024_1_0_0_1_n_n none (shapeCast S512x1376 v shapeCasts_S1x512x1376_S512x1376)
      (shapeCast S1376x1024 w shapeCasts_S1x1376x1024_S1376x1024) (constant S512x1024 .f32 0x00000000#32) (ix2 r j) = mul v w r j := by
  refine (Ideal.matmul_plain_apply none (shapeCast S512x1376 v shapeCasts_S1x512x1376_S512x1376) (shapeCast S1376x1024 w shapeCasts_S1x1376x1024_S1376x1024) _ r j).trans ?_
  rw [constant_apply, zero_f32, zero_add]
  refine Finset.sum_congr rfl fun k _ => ?_
  rw [shapeCast_1ab_ab_apply, shapeCast_1ab_ab_apply]

theorem mul_ld (x : Vec Ideal S4x512x1376 .bf16) (w : Vec Ideal S4x1376x1024 .bf16) (r : Fin 512) (j : Fin 1024) (s : Fin 4) (n : Nat) (hn : s.val = n)
    (h0 : ∀ a, (![n, 0, 0] : Fin 3 → Nat) a + S1x512x1376.size a ≤ S4x512x1376.size a)
    (h1 : ∀ a, (![n, 0, 0] : Fin 3 → Nat) a + S1x1376x1024.size a ≤ S4x1376x1024.size a) :
    mul (View.ld x (Rect.unit (s := S4x512x1376) ![n, 0, 0] S1x512x1376.size h0)) (View.ld w (Rect.unit (s := S4x1376x1024) ![n, 0, 0] S1x1376x1024.size h1)) r j
      = quarter x w r j s := by
  subst hn
  refine Finset.sum_congr rfl fun k _ => congrArg₂ (· * ·) (show x _ = x _ from congrArg x (funext fun a => Fin.ext ?_)) (show w _ = w _ from congrArg w (funext fun a => Fin.ext ?_))
  · match a with
    | ⟨0, _⟩ => show s.val + 1 * 0 = s.val; omega
    | ⟨1, _⟩ => show 0 + 1 * r.val = r.val; omega
    | ⟨2, _⟩ => show 0 + 1 * k.val = k.val; omega
  · match a with
    | ⟨0, _⟩ => show s.val + 1 * 0 = s.val; omega
    | ⟨1, _⟩ => show 0 + 1 * k.val = k.val; omega
    | ⟨2, _⟩ => show 0 + 1 * j.val = j.val; omega

theorem pay3_apply (v0 v5 v11 v17 : Vec Ideal S1x512x1376 .bf16) (v2 v7 v13 v19 : Vec Ideal S1x1376x1024 .bf16) (r : Fin 512) (j : Fin 1024) :
    k0_pay3 (F := Ideal) v0 v2 v5 v7 v11 v13 v17 v19 (ix2 r j) = mul v0 v2 r j + mul v5 v7 r j + mul v11 v13 r j + mul v17 v19 r j := by
  unfold k0_pay3
  rw [addf_apply, addf_apply, addf_apply]
  exact congrArg₂ (· + ·) (congrArg₂ (· + ·) (congrArg₂ (· + ·) (matmul_apply v0 v2 r j) (matmul_apply v5 v7 r j)) (matmul_apply v11 v13 r j)) (matmul_apply v17 v19 r j)

theorem pay3_ld (x0 : Vec Ideal S4x512x1376 .bf16) (x1 : Vec Ideal S4x1376x1024 .bf16) (r : Fin 512) (j : Fin 1024) :
    k0_pay3 (F := Ideal) (View.ld x0 (Rect.unit (s := S4x512x1376) ![0, 0, 0] S1x512x1376.size inb_S4x512x1376_S1x512x1376_0_0_0)) (View.ld x1 (Rect.unit (s := S4x1376x1024) ![0, 0, 0] S1x1376x1024.size inb_S4x1376x1024_S1x1376x1024_0_0_0)) (View.ld x0 (Rect.unit (s := S4x512x1376) ![1, 0, 0] S1x512x1376.size inb_S4x512x1376_S1x512x1376_1_0_0)) (View.ld x1 (Rect.unit (s := S4x1376x1024) ![1, 0, 0] S1x1376x1024.size inb_S4x1376x1024_S1x1376x1024_1_0_0)) (View.ld x0 (Rect.unit (s := S4x512x1376) ![2, 0, 0] S1x512x1376.size inb_S4x512x1376_S1x512x1376_2_0_0)) (View.ld x1 (Rect.unit (s := S4x1376x1024) ![2, 0, 0] S1x1376x1024.size inb_S4x1376x1024_S1x1376x1024_2_0_0)) (View.ld x0 (Rect.unit (s := S4x512x1376) ![3, 0, 0] S1x512x1376.size inb_S4x512x1376_S1x512x1376_3_0_0)) (View.ld x1 (Rect.unit (s := S4x1376x1024) ![3, 0, 0] S1x1376x1024.size inb_S4x1376x1024_S1x1376x1024_3_0_0)) (ix2 r j)
      = part x0 x1 r j := by
  refine (pay3_apply ..).trans ?_
  exact congrArg₂ (· + ·) (congrArg₂ (· + ·) (congrArg₂ (· + ·) (mul_ld x0 x1 r j 0 0 rfl _ _) (mul_ld x0 x1 r j 1 1 rfl _ _)) (mul_ld x0 x1 r j 2 2 rfl _ _)) (mul_ld x0 x1 r j 3 3 rfl _ _)

theorem pay2_apply (v w : Vec Ideal S512x1024 .f32) (y : S512x1024.Idx) : k0_pay2 (F := Ideal) v w y = (v y : EReal) + w y := rfl

theorem sout_A_apply (c : Dev nD) (i : grid0.Coords) (arg3 : Memref sig .tc .vmem S4x512x1376 .bf16) (harg3 : arg3.IsWhole) (arg4 : Memref sig .tc .vmem S4x1376x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (hc0 : cond0_0 i) (hc1 : ¬cond0_1 i) (hc2 : ¬cond0_2 i) (x0 : Vec Ideal S4x512x1376 .bf16) (x1 : Vec Ideal S4x1376x1024 .bf16) (x2 : Vec Ideal S512x1024 .f32) (r : Fin 512) (j : Fin 1024) :
    sout0_A_0 (F := Ideal) c i arg3 harg3 arg4 harg4 arg5 harg5 arg6 harg6 arg7 harg7 hc0 hc1 hc2 x0 x1 x2 (ix2 r j) = part x0 x1 r j := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  dsimp only
  sl_unfold_words
  rw [View.canon_unit_zero (S := S512x1024) hz2]
  try dsimp only
  simp only [View.readAt_eq_ld, Memref.IsWhole.read_unread]
  unfold k0_pay4
  rw [shapeCast_self]
  exact pay3_ld x0 x1 r j

theorem out_B_apply (c : Dev nD) (i : grid0.Coords) (arg3 : Memref sig .tc .vmem S4x512x1376 .bf16) (harg3 : arg3.IsWhole) (arg4 : Memref sig .tc .vmem S4x1376x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i) (hc2 : cond0_2 i) (x0 : Vec Ideal S4x512x1376 .bf16) (x1 : Vec Ideal S4x1376x1024 .bf16) (x2 : Vec Ideal S512x1024 .f32) (xs0 : Vec Ideal S512x1024 .f32) (r : Fin 512) (j : Fin 1024) :
    out0_B_3 (F := Ideal) c i arg3 harg3 arg4 harg4 arg5 harg5 arg6 harg6 arg7 harg7 hc0 hc1 hc2 x0 x1 x2 xs0 (ix2 r j) = xs0 (ix2 r j) + part x0 x1 r j + x2 (ix2 r j) := by
  unfold out0_B_3
  rw [View.read_writes_eq_canon _ _ _ (cover0_B_3 c i arg3 harg3 arg4 harg4 arg5 harg5 arg6 harg6 arg7 harg7 hc0 hc1 hc2 x0 x1 x2 xs0)]
  unfold kernelRun0_B
  dsimp only
  sl_unfold_words
  rw [View.canon_unit_zero (S := S512x1024) hz2]
  refine (pay2_apply ..).trans ?_
  rw [View.readCov_eq_canon', View.canon_unit_zero (S := S512x1024) hz2]
  try dsimp only
  simp only [View.readAt_eq_ld, Memref.IsWhole.read_unread]
  unfold k0_pay1
  rw [shapeCast_self]
  simp only [View.ld_unit_zero (S := S512x1024) hz2]
  rw [show (Rect.unit (s := S512x1024) ![0, 0] S512x1024.size inb_S512x1024_S512x1024_0_0).toLoadRect.idx (ix2 r j) = ix2 r j from funext fun a => Fin.ext (match a with
    | ⟨0, _⟩ => by show 0 + 1 * r.val = r.val; omega
    | ⟨1, _⟩ => by show 0 + 1 * j.val = j.val; omega)]
  rw [addf_apply]
  refine congrArg₂ (· + ·) (congrArg (xs0 (ix2 r j) + ·) (pay3_ld x0 x1 r j)) ?_
  show View.ld x2 (Rect.unit (s := S512x1024) ![0, 0] S512x1024.size inb_S512x1024_S512x1024_0_0) (ix2 r j) = _
  rw [View.ld_unit_zero (S := S512x1024) hz2]

variable (m : (ℓ : Loc nD τ sig) → Buf (Elt Ideal) ℓ) (c : Dev nD)

abbrev a0 : (⟨S4096x11008, .bf16⟩ : BufTy).Contents (Elt Ideal) := m ((c : Thread nD τ).loc main_arg0)
abbrev a1 : (⟨S11008x4096, .bf16⟩ : BufTy).Contents (Elt Ideal) := m ((c : Thread nD τ).loc main_arg1)
abbrev a2 : (⟨S4096x4096, .f32⟩ : BufTy).Contents (Elt Ideal) := m ((c : Thread nD τ).loc main_arg2)
theorem V1 : V m c main_v1 = transpose S8x4096x1376 [1, 0, 2] (shapeCast S4096x8x1376 (a0 m c) shapeCasts_S4096x11008_S4096x8x1376) transposes_S4096x8x1376_S8x4096x1376_1_0_2 := rfl
theorem V2 : V m c main_v2 = shapeCast S8x1376x4096 (a1 m c) shapeCasts_S11008x4096_S8x1376x4096 := rfl

theorem index_0 : ∀ t : Fin cfg0.N, win0_0.index t 0 = t.val % 2 ∧ win0_0.index t 1 = t.val / 8 ∧ win0_0.index t 2 = 0 :=
  (by decide +kernel : ∀ t : Fin grid0.N, win0_0.index t 0 = t.val % 2 ∧ win0_0.index t 1 = t.val / 8 ∧ win0_0.index t 2 = 0)
theorem index_1 : ∀ t : Fin cfg0.N, win0_1.index t 0 = t.val % 2 ∧ win0_1.index t 1 = 0 ∧ win0_1.index t 2 = t.val / 2 % 4 :=
  (by decide +kernel : ∀ t : Fin grid0.N, win0_1.index t 0 = t.val % 2 ∧ win0_1.index t 1 = 0 ∧ win0_1.index t 2 = t.val / 2 % 4)
theorem index_2 : ∀ t : Fin cfg0.N, win0_2.index t 0 = t.val / 8 ∧ win0_2.index t 1 = t.val / 2 % 4 :=
  (by decide +kernel : ∀ t : Fin grid0.N, win0_2.index t 0 = t.val / 8 ∧ win0_2.index t 1 = t.val / 2 % 4)
theorem index_3 : ∀ t : Fin cfg0.N, win0_3.index t 0 = t.val / 8 ∧ win0_3.index t 1 = t.val / 2 % 4 :=
  (by decide +kernel : ∀ t : Fin grid0.N, win0_3.index t 0 = t.val / 8 ∧ win0_3.index t 1 = t.val / 2 % 4)

theorem lt (t : Fin cfg0.N) : t.val < 64 := t.isLt
def rowAt (t : Fin cfg0.N) (r : Fin 512) : Fin 4096 := ⟨t.val / 8 * 512 + r.val, by have := lt t; omega⟩
def colAt (t : Fin cfg0.N) (j : Fin 1024) : Fin 4096 := ⟨t.val / 2 % 4 * 1024 + j.val, by omega⟩
def shardAt (t : Fin cfg0.N) (s : Fin 4) : Fin 8 := ⟨t.val % 2 * 4 + s.val, by omega⟩

theorem blk0 (t : Fin cfg0.N) (s : Fin 4) (r : Fin 512) (k : Fin 1376) :
    (iblk m c 0 t : Vec Ideal S4x512x1376 .bf16) (ix3 s r k) = a0 m c (ix2 (rowAt t r) (unitOf (shardAt t s) k)) := by
  unfold iblk
  rw [View.read_apply]
  show V m c main_v1 _ = _
  rw [V1]
  refine Eq.trans ?_ (byShard_apply (a0 m c) shapeCasts_S4096x11008_S4096x8x1376 transposes_S4096x8x1376_S8x4096x1376_1_0_2 rfl (shardAt t s) (rowAt t r) k _ rfl)
  refine congrArg (transpose S8x4096x1376 [1, 0, 2] (shapeCast S4096x8x1376 (a0 m c) shapeCasts_S4096x11008_S4096x8x1376) transposes_S4096x8x1376_S8x4096x1376_1_0_2) (funext fun a => Fin.ext ?_)
  match a with
  | ⟨0, _⟩ => show win0_0.index t 0 * 4 + 1 * s.val = t.val % 2 * 4 + s.val; rw [(index_0 t).1]; omega
  | ⟨1, _⟩ => show win0_0.index t 1 * 512 + 1 * r.val = t.val / 8 * 512 + r.val; rw [(index_0 t).2.1]; omega
  | ⟨2, _⟩ => show win0_0.index t 2 * 1376 + 1 * k.val = k.val; rw [(index_0 t).2.2]; omega

theorem blk1 (t : Fin cfg0.N) (s : Fin 4) (k : Fin 1376) (j : Fin 1024) :
    (iblk m c 1 t : Vec Ideal S4x1376x1024 .bf16) (ix3 s k j) = a1 m c (ix2 (unitOf (shardAt t s) k) (colAt t j)) := by
  unfold iblk
  rw [View.read_apply]
  show V m c main_v2 _ = _
  rw [V2]
  refine Eq.trans ?_ (shapeCast_apply (a1 m c) shapeCasts_S11008x4096_S8x1376x4096 (ix3 (shardAt t s) k (colAt t j)) (ix2 (unitOf (shardAt t s) k) (colAt t j)) ?_)
  · refine congrArg (shapeCast S8x1376x4096 (a1 m c) shapeCasts_S11008x4096_S8x1376x4096) (funext fun a => Fin.ext ?_)
    match a with
    | ⟨0, _⟩ => show win0_1.index t 0 * 4 + 1 * s.val = t.val % 2 * 4 + s.val; rw [(index_1 t).1]; omega
    | ⟨1, _⟩ => show win0_1.index t 1 * 1376 + 1 * k.val = k.val; rw [(index_1 t).2.1]; omega
    | ⟨2, _⟩ => show win0_1.index t 2 * 1024 + 1 * j.val = t.val / 2 % 4 * 1024 + j.val; rw [(index_1 t).2.2]; omega
  · rw [Shape.rowMajor_val_two, Shape.rowMajor_val_three]
    rfl

theorem blk2 (t : Fin cfg0.N) (r : Fin 512) (j : Fin 1024) :
    (iblk m c 2 t : Vec Ideal S512x1024 .f32) (ix2 r j) = a2 m c (ix2 (rowAt t r) (colAt t j)) := by
  unfold iblk
  rw [View.read_apply]
  show V m c main_arg2 _ = _
  rw [V_main_arg2]
  refine congrArg (a2 m c) (funext fun a => Fin.ext ?_)
  match a with
  | ⟨0, _⟩ => show win0_2.index t 0 * 512 + 1 * r.val = t.val / 8 * 512 + r.val; rw [(index_2 t).1]; omega
  | ⟨1, _⟩ => show win0_2.index t 1 * 1024 + 1 * j.val = t.val / 2 % 4 * 1024 + j.val; rw [(index_2 t).2]; omega

theorem quarter_blk (t : Fin cfg0.N) (r : Fin 512) (j : Fin 1024) (s : Fin 4) :
    quarter (iblk m c 0 t) (iblk m c 1 t) r j s = shard (a0 m c) (a1 m c) (rowAt t r) (colAt t j) (shardAt t s) :=
  Finset.sum_congr rfl fun k _ => by rw [blk0, blk1]

/-- What a point adds, in the arrays' terms. -/
def added (R C : Fin 4096) (s0 s1 s2 s3 : Fin 8) : EReal :=
  shard (a0 m c) (a1 m c) R C s0 + shard (a0 m c) (a1 m c) R C s1 + shard (a0 m c) (a1 m c) R C s2 + shard (a0 m c) (a1 m c) R C s3
theorem part_blk (t : Fin cfg0.N) (r : Fin 512) (j : Fin 1024) :
    part (iblk m c 0 t) (iblk m c 1 t) r j = added m c (rowAt t r) (colAt t j) (shardAt t 0) (shardAt t 1) (shardAt t 2) (shardAt t 3) := by
  unfold part added
  rw [quarter_blk, quarter_blk, quarter_blk, quarter_blk]

theorem carried_A (n : Nat) (hn : n < cfg0.N) (h : n % 2 = 0) (r : Fin 512) (j : Fin 1024) :
    (outsAt0 m c n hn).2 (ix2 r j) = added m c (rowAt ⟨n, hn⟩ r) (colAt ⟨n, hn⟩ j) (shardAt ⟨n, hn⟩ 0) (shardAt ⟨n, hn⟩ 1) (shardAt ⟨n, hn⟩ 2) (shardAt ⟨n, hn⟩ 3) := by
  have e := outsAt0_A m c ⟨n, hn⟩ h (show ¬n % 2 = 1 by omega) (show ¬n % 2 = 1 by omega)
  refine (congrFun (congrArg Prod.snd e) (ix2 r j)).trans ?_
  dsimp only
  exact (sout_A_apply ..).trans (part_blk m c ⟨n, hn⟩ r j)

abbrev result : S4096x4096.Idx → EReal := total (a0 m c) (a1 m c) (a2 m c)

theorem added_at (q : Nat) (k : Nat) (hk : k < 2) (hq : 2 * q + k < cfg0.N) (hq' : 2 * q + 1 < cfg0.N) (r : Fin 512) (j : Fin 1024) :
    added m c (rowAt ⟨2 * q + k, hq⟩ r) (colAt ⟨2 * q + k, hq⟩ j) (shardAt ⟨2 * q + k, hq⟩ 0) (shardAt ⟨2 * q + k, hq⟩ 1) (shardAt ⟨2 * q + k, hq⟩ 2) (shardAt ⟨2 * q + k, hq⟩ 3)
      = added m c (rowAt ⟨2 * q + 1, hq'⟩ r) (colAt ⟨2 * q + 1, hq'⟩ j) ⟨4 * k, by omega⟩ ⟨4 * k + 1, by omega⟩ ⟨4 * k + 2, by omega⟩ ⟨4 * k + 3, by omega⟩ := by
  have hr : rowAt ⟨2 * q + k, hq⟩ r = rowAt ⟨2 * q + 1, hq'⟩ r := Fin.ext (by show (2 * q + k) / 8 * 512 + r.val = (2 * q + 1) / 8 * 512 + r.val; omega)
  have hc : colAt ⟨2 * q + k, hq⟩ j = colAt ⟨2 * q + 1, hq'⟩ j := Fin.ext (by show (2 * q + k) / 2 % 4 * 1024 + j.val = (2 * q + 1) / 2 % 4 * 1024 + j.val; omega)
  have s0 : shardAt ⟨2 * q + k, hq⟩ 0 = ⟨4 * k, by omega⟩ := Fin.ext (by show (2 * q + k) % 2 * 4 + 0 = 4 * k; omega)
  have s1 : shardAt ⟨2 * q + k, hq⟩ 1 = ⟨4 * k + 1, by omega⟩ := Fin.ext (by show (2 * q + k) % 2 * 4 + 1 = 4 * k + 1; omega)
  have s2 : shardAt ⟨2 * q + k, hq⟩ 2 = ⟨4 * k + 2, by omega⟩ := Fin.ext (by show (2 * q + k) % 2 * 4 + 2 = 4 * k + 2; omega)
  have s3 : shardAt ⟨2 * q + k, hq⟩ 3 = ⟨4 * k + 3, by omega⟩ := Fin.ext (by show (2 * q + k) % 2 * 4 + 3 = 4 * k + 3; omega)
  rw [hr, hc, s0, s1, s2, s3]

theorem flushed_eq (t : Fin cfg0.N) (ht : t.val % 2 = 1) : (dats m 0 c).flushed 3 t = ((cfg0.win 3).blk t).view.read (Elt Ideal) (result m c) := by
  obtain ⟨n, hn⟩ := t
  obtain ⟨q, rfl⟩ : ∃ q, n = 2 * q + 1 := ⟨n / 2, by dsimp only at ht; omega⟩
  rw [flushed3_B m c ⟨2 * q + 1, hn⟩ (by dsimp only; omega) ht ht]
  funext y
  obtain ⟨r, j, rfl⟩ : ∃ (r : Fin 512) (j : Fin 1024), y = ix2 r j := ⟨_, _, eq_ix2 y⟩
  rw [View.read_apply]
  refine (out_B_apply ..).trans ?_
  refine (show _ = result m c (ix2 (rowAt ⟨2 * q + 1, hn⟩ r) (colAt ⟨2 * q + 1, hn⟩ j)) from ?_).trans ?_
  · rw [part_blk, blk2]
    show _ = total _ _ _ _
    rw [total_apply, Fin.sum_univ_eight]
    have h0 : 2 * q + 0 < cfg0.N := Nat.lt_of_succ_lt hn
    have e0 := carried_A m c (2 * q) h0 (by omega) r j
    refine (congrArg (· + _) (congrArg (· + _) (show _ = _ from e0))).trans ?_
    rw [show added m c (rowAt ⟨2 * q, h0⟩ r) (colAt ⟨2 * q, h0⟩ j) (shardAt ⟨2 * q, h0⟩ 0) (shardAt ⟨2 * q, h0⟩ 1) (shardAt ⟨2 * q, h0⟩ 2) (shardAt ⟨2 * q, h0⟩ 3) = _ from added_at m c q 0 (by omega) h0 hn r j,
      added_at m c q 1 (by omega) hn hn r j]
    generalize rowAt ⟨2 * q + 1, hn⟩ r = R
    generalize colAt ⟨2 * q + 1, hn⟩ j = C
    unfold added
    show shard _ _ R C 0 + shard _ _ R C 1 + shard _ _ R C 2 + shard _ _ R C 3 + (shard _ _ R C 4 + shard _ _ R C 5 + shard _ _ R C 6 + shard _ _ R C 7) + _ = _
    abel
  · refine congrArg (result m c) (funext fun a => Fin.ext ?_)
    match a with
    | ⟨0, _⟩ => show (2 * q + 1) / 8 * 512 + r.val = win0_3.index ⟨2 * q + 1, hn⟩ 0 * 512 + 1 * r.val; rw [(index_3 _).1]; dsimp only; omega
    | ⟨1, _⟩ => show (2 * q + 1) / 2 % 4 * 1024 + j.val = win0_3.index ⟨2 * q + 1, hn⟩ 1 * 1024 + 1 * j.val; rw [(index_3 _).2]; dsimp only; omega

/-- The point that writes back the block holding an index of the result. -/
def pointOf (i : S4096x4096.Idx) : Fin cfg0.N :=
  ⟨((i 0).val / 512 * 4 + (i 1).val / 1024) * 2 + 1, by
    have h0 : (i 0).val < 4096 := (i 0).isLt
    have h1 : (i 1).val < 4096 := (i 1).isLt
    show _ < 64; omega⟩

theorem final_eq : (dats m 0 c).arrAt 3 cfg0.N = result m c :=
  (dats m 0 c).arrAt_eq_of_cover 3 (result m c) (fun t h => flushed_eq m c t ((flush0_3 t).mp h)) fun i => ⟨pointOf i, (flush0_3 _).mpr (by show (((i 0).val / 512 * 4 + (i 1).val / 1024) * 2 + 1) % 2 = 1; omega), by
    have h0 : (i 0).val < 4096 := (i 0).isLt
    have h1 : (i 1).val < 4096 := (i 1).isLt
    show i ∈ ((View.whole main_v3).slice (win0_3.rect (pointOf i))).set
    rw [View.set_slice_whole, Rect.mem_set_unit]
    have hp : (pointOf i).val = ((i 0).val / 512 * 4 + (i 1).val / 1024) * 2 + 1 := rfl
    intro a
    match a with
    | ⟨0, _⟩ => show win0_3.index (pointOf i) 0 * 512 ≤ (i 0 : Nat) ∧ (i 0 : Nat) < win0_3.index (pointOf i) 0 * 512 + 512
                rw [(index_3 _).1, hp]; omega
    | ⟨1, _⟩ => show win0_3.index (pointOf i) 1 * 1024 ≤ (i 1 : Nat) ∧ (i 1 : Nat) < win0_3.index (pointOf i) 1 * 1024 + 1024
                rw [(index_3 _).2, hp]; omega⟩

end Cert.DownProjIdeal.Value

namespace Cert.DownProjRefIdeal.Value

open Cert.DownProjRefIdeal Cert.DownProjRefIdeal.Read

theorem result_eq (x0 : (⟨S4096x11008, .bf16⟩ : BufTy).Contents (Elt Ideal)) (x1 : (⟨S11008x4096, .bf16⟩ : BufTy).Contents (Elt Ideal)) (x2 : (⟨S4096x4096, .f32⟩ : BufTy).Contents (Elt Ideal)) (i : S4096x4096.Idx) :
    val_main_v3 (F := Ideal) x0 x1 x2 i = Cert.DownProjIdeal.Value.total x0 x1 x2 i := by
  refine (show _ = (x2 i : EReal) + val_main_v2 (F := Ideal) x0 x1 i from rfl).trans ?_
  rw [val_main_v2_apply]
  refine congrArg (_ + ·) (Finset.sum_congr rfl fun k _ => ?_)
  refine congrArg₂ (· * ·) (show x0 _ = x0 _ from congrArg x0 (funext fun a => Fin.ext ?_)) (show x1 _ = x1 _ from congrArg x1 (funext fun a => Fin.ext ?_))
  · match a with
    | ⟨0, _⟩ => rfl
    | ⟨1, _⟩ => rfl
  · match a with
    | ⟨0, _⟩ => rfl
    | ⟨1, _⟩ => rfl

/-- The reference runs to its end. -/
theorem frame : Cert.quiescent_DownProjRefIdeal := fun m g _ =>
  (θ_run Cert.DownProjRefIdeal.defs _ _).mono (fun r h => ⟨fun c => (h c).2, Idealize.ShloMosaic.sem_eq_zero_of_no_sems (by decide) r.2⟩)
    (Cert.DownProjRefIdeal.Value.run (F := Ideal) m g)

/-- The kernel computes what the reference computes. -/
theorem algebraic : Cert.algebraic_DownProjIdeal_DownProjRefIdeal := by
  intro m g m' g' _ hargs
  refine ⟨fun c => Cert.DownProjIdeal.Value.result m c, ?_, ?_⟩
  · refine (θ_run Cert.DownProjIdeal.defs _ _).mono (fun r h c => ?_) (Cert.DownProjIdeal.Value.run_blocks (F := Ideal) m g)
    obtain ⟨h2, h⟩ := h c
    exact ⟨h2.trans (Cert.DownProjIdeal.Value.final_eq m c), h⟩
  · refine (θ_run Cert.DownProjRefIdeal.defs _ _).mono (fun r h c => ?_) (Cert.DownProjRefIdeal.Value.run (F := Ideal) m' g')
    obtain ⟨h2, h⟩ := h c
    obtain ⟨e0, e1, e2⟩ := hargs c
    refine ⟨h2.trans ?_, h⟩
    refine (val_main_v3_eq _ _ _).trans ?_
    rw [e0, e1, e2]
    funext i
    exact result_eq _ _ _ i

end Cert.DownProjRefIdeal.Value

end
-- ==== Proof.OutProjValue.lean ====
/-
  The output projection, on the residual path: what the kernel leaves in its result, over the extended reals, and that the reference leaves the same.
-/
module

public import proofs.«01_k».proof.Defs
public import proofs.«01_k».proof.Proof.Common
public import proofs.«01_k».proof.Proof.Gen.OutProjIdeal.Value
public import proofs.«01_k».proof.Proof.Gen.OutProjRefIdeal.Run
public import proofs.«01_k».proof.Proof.Gen.OutProjRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Common

namespace Cert.OutProjIdeal.Value

open Cert.OutProjIdeal Cert.OutProjIdeal.Gen

/-- The product at one element of a block. -/
def prod (x0 : Vec Ideal S512x4096 .bf16) (x1 : Vec Ideal S4096x1024 .bf16) (r : Fin 512) (j : Fin 1024) : EReal :=
  ∑ k : Fin 4096, (x0 (ix2 r k) : EReal) * x1 (ix2 k j)

theorem pay1_apply (x0 : Vec Ideal S512x4096 .bf16) (x1 : Vec Ideal S4096x1024 .bf16) (r : Fin 512) (j : Fin 1024) :
    k0_pay1 (F := Ideal) x0 x1 (ix2 r j) = prod x0 x1 r j := by
  unfold k0_pay1 prod
  rw [shapeCast_self]
  refine (Ideal.matmul_plain_apply none x0 x1 _ r j).trans ?_
  rw [constant_apply, zero_f32, zero_add]

theorem pay2_apply (v w : Vec Ideal S512x1024 .f32) (y : S512x1024.Idx) :
    k0_pay2 (F := Ideal) v w y = (v y : EReal) + w y := rfl

/-- The residual, and the product of a token's row and a weight's column. -/
def total (x0 : (⟨S4096x4096, .bf16⟩ : BufTy).Contents (Elt Ideal)) (x1 : (⟨S4096x4096, .bf16⟩ : BufTy).Contents (Elt Ideal)) (x2 : (⟨S4096x4096, .f32⟩ : BufTy).Contents (Elt Ideal)) : S4096x4096.Idx → EReal :=
  fun i => (x2 i : EReal) + ∑ k : Fin 4096, (x0 (ix2 (i 0) k) : EReal) * x1 (ix2 k (i 1))

/-- What a point leaves in its block of the result. -/
theorem out_apply (c : Dev nD) (i : grid0.Coords) (arg3 : Memref sig .tc .vmem S512x4096 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (x0 : Vec Ideal S512x4096 .bf16) (x1 : Vec Ideal S4096x1024 .bf16) (x2 : Vec Ideal S512x1024 .f32) (r : Fin 512) (j : Fin 1024) :
    out0_A_3 (F := Ideal) c i arg3 harg3 arg4 harg4 arg5 harg5 arg6 harg6 arg7 harg7 x0 x1 x2 (ix2 r j) = prod x0 x1 r j + x2 (ix2 r j) := by
  unfold out0_A_3
  rw [View.read_writes_eq_canon _ _ _ (cover0_A_3 c i arg3 harg3 arg4 harg4 arg5 harg5 arg6 harg6 arg7 harg7 x0 x1 x2)]
  unfold kernelRun0_A
  dsimp only
  sl_unfold_words
  rw [View.canon_unit_zero (S := S512x1024) hz2]
  refine (pay2_apply ..).trans ?_
  rw [View.readCov_eq_canon', View.canon_unit_zero (S := S512x1024) hz2]
  dsimp only
  simp only [View.readAt_eq_ld, Memref.IsWhole.read_unread]
  rw [View.ld_unit_zero (S := S512x4096) hz2, View.ld_unit_zero (S := S4096x1024) hz2, View.ld_unit_zero (S := S512x1024) hz2]
  refine congrArg (· + _) (Eq.trans ?_ (pay1_apply x0 x1 r j))
  refine congrArg (k0_pay1 (F := Ideal) x0 x1) (funext fun a => Fin.ext ?_)
  match a with
  | ⟨0, _⟩ => show 0 + 1 * r.val = r.val; omega
  | ⟨1, _⟩ => show 0 + 1 * j.val = j.val; omega

variable (m : (ℓ : Loc nD τ sig) → Buf (Elt Ideal) ℓ) (c : Dev nD)

abbrev a0 : (⟨S4096x4096, .bf16⟩ : BufTy).Contents (Elt Ideal) := m ((c : Thread nD τ).loc main_arg0)
abbrev a1 : (⟨S4096x4096, .bf16⟩ : BufTy).Contents (Elt Ideal) := m ((c : Thread nD τ).loc main_arg1)
abbrev a2 : (⟨S4096x4096, .f32⟩ : BufTy).Contents (Elt Ideal) := m ((c : Thread nD τ).loc main_arg2)

theorem index_0 : ∀ t : Fin cfg0.N, win0_0.index t 0 = t.val % 8 ∧ win0_0.index t 1 = 0 :=
  (by decide +kernel : ∀ t : Fin grid0.N, win0_0.index t 0 = t.val % 8 ∧ win0_0.index t 1 = 0)
theorem index_1 : ∀ t : Fin cfg0.N, win0_1.index t 0 = 0 ∧ win0_1.index t 1 = t.val / 8 :=
  (by decide +kernel : ∀ t : Fin grid0.N, win0_1.index t 0 = 0 ∧ win0_1.index t 1 = t.val / 8)
theorem index_2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)
theorem index_3 : ∀ t : Fin cfg0.N, win0_3.index t 0 = t.val % 8 ∧ win0_3.index t 1 = t.val / 8 :=
  (by decide +kernel : ∀ t : Fin grid0.N, win0_3.index t 0 = t.val % 8 ∧ win0_3.index t 1 = t.val / 8)

theorem lt (t : Fin cfg0.N) : t.val < 32 := t.isLt

theorem blk0 (t : Fin cfg0.N) (p : Fin 512) (q : Fin 4096) :
    (iblk m c 0 t : Vec Ideal S512x4096 .bf16) (ix2 p q) = a0 m c (ix2 (⟨t.val % 8 * 512 + p.val, by have := lt t; omega⟩ : Fin 4096) (⟨q.val, by have := lt t; omega⟩ : Fin 4096)) := by
  unfold iblk
  rw [View.read_apply]
  show V m c main_arg0 _ = _
  rw [V_main_arg0]
  refine congrArg (a0 m c) (funext fun a => Fin.ext ?_)
  match a with
  | ⟨0, _⟩ => show win0_0.index t 0 * 512 + 1 * p.val = t.val % 8 * 512 + p.val; rw [(index_0 t).1]; omega
  | ⟨1, _⟩ => show win0_0.index t 1 * 4096 + 1 * q.val = q.val; rw [(index_0 t).2]; omega

theorem blk1 (t : Fin cfg0.N) (p : Fin 4096) (q : Fin 1024) :
    (iblk m c 1 t : Vec Ideal S4096x1024 .bf16) (ix2 p q) = a1 m c (ix2 p (⟨t.val / 8 * 1024 + q.val, by have := lt t; omega⟩ : Fin 4096)) := by
  unfold iblk
  rw [View.read_apply]
  show V m c main_arg1 _ = _
  rw [V_main_arg1]
  refine congrArg (a1 m c) (funext fun a => Fin.ext ?_)
  match a with
  | ⟨0, _⟩ => show win0_1.index t 0 * 4096 + 1 * p.val = p.val; rw [(index_1 t).1]; omega
  | ⟨1, _⟩ => show win0_1.index t 1 * 1024 + 1 * q.val = t.val / 8 * 1024 + q.val; rw [(index_1 t).2]; omega

theorem blk2 (t : Fin cfg0.N) (p : Fin 512) (q : Fin 1024) :
    (iblk m c 2 t : Vec Ideal S512x1024 .f32) (ix2 p q) = a2 m c (ix2 (⟨t.val % 8 * 512 + p.val, by have := lt t; omega⟩ : Fin 4096) (⟨t.val / 8 * 1024 + q.val, by have := lt t; omega⟩ : Fin 4096)) := by
  unfold iblk
  rw [View.read_apply]
  show V m c main_arg2 _ = _
  rw [V_main_arg2]
  refine congrArg (a2 m c) (funext fun a => Fin.ext ?_)
  match a with
  | ⟨0, _⟩ => show win0_2.index t 0 * 512 + 1 * p.val = t.val % 8 * 512 + p.val; rw [(index_2 t).1]; omega
  | ⟨1, _⟩ => show win0_2.index t 1 * 1024 + 1 * q.val = t.val / 8 * 1024 + q.val; rw [(index_2 t).2]; omega

abbrev result : S4096x4096.Idx → EReal := total (a0 m c) (a1 m c) (a2 m c)

theorem flushed_eq (t : Fin cfg0.N) : (dats m 0 c).flushed 3 t = ((cfg0.win 3).blk t).view.read (Elt Ideal) (result m c) := by
  rw [flushed3_A]
  funext y
  obtain ⟨r, j, rfl⟩ : ∃ (r : Fin 512) (j : Fin 1024), y = ix2 r j := ⟨_, _, eq_ix2 y⟩
  rw [View.read_apply]
  refine (out_apply ..).trans ?_
  refine (show _ = result m c (ix2 (⟨t.val % 8 * 512 + r.val, by have := lt t; omega⟩ : Fin 4096) (⟨t.val / 8 * 1024 + j.val, by have := lt t; omega⟩ : Fin 4096)) from ?_).trans ?_
  · rw [blk2, add_comm]
    refine congrArg (_ + ·) (Finset.sum_congr rfl fun k _ => ?_)
    rw [blk0, blk1]

  · refine congrArg (result m c) (funext fun a => Fin.ext ?_)
    match a with
    | ⟨0, _⟩ => show t.val % 8 * 512 + r.val = win0_3.index t 0 * 512 + 1 * r.val; rw [(index_3 t).1]; omega
    | ⟨1, _⟩ => show t.val / 8 * 1024 + j.val = win0_3.index t 1 * 1024 + 1 * j.val; rw [(index_3 t).2]; omega

/-- The point whose block holds an index of the result. -/
def pointOf (i : S4096x4096.Idx) : Fin cfg0.N :=
  ⟨(i 1).val / 1024 * 8 + (i 0).val / 512, by
    have h0 : (i 0).val < 4096 := (i 0).isLt
    have h1 : (i 1).val < 4096 := (i 1).isLt
    show _ < 32; omega⟩

theorem final_eq : (dats m 0 c).arrAt 3 cfg0.N = result m c :=
  (dats m 0 c).arrAt_eq_of_cover 3 (result m c) (fun t _ => flushed_eq m c t) fun i => ⟨pointOf i, flush0_3 _, by
    have h0 : (i 0).val < 4096 := (i 0).isLt
    have h1 : (i 1).val < 4096 := (i 1).isLt
    show i ∈ ((View.whole main_v0).slice (win0_3.rect (pointOf i))).set
    rw [View.set_slice_whole, Rect.mem_set_unit]
    have hp : (pointOf i).val = (i 1).val / 1024 * 8 + (i 0).val / 512 := rfl
    intro a
    match a with
    | ⟨0, _⟩ => show win0_3.index (pointOf i) 0 * 512 ≤ (i 0 : Nat) ∧ (i 0 : Nat) < win0_3.index (pointOf i) 0 * 512 + 512
                rw [(index_3 _).1, hp]; omega
    | ⟨1, _⟩ => show win0_3.index (pointOf i) 1 * 1024 ≤ (i 1 : Nat) ∧ (i 1 : Nat) < win0_3.index (pointOf i) 1 * 1024 + 1024
                rw [(index_3 _).2, hp]; omega⟩

end Cert.OutProjIdeal.Value

namespace Cert.OutProjRefIdeal.Value

open Cert.OutProjRefIdeal Cert.OutProjRefIdeal.Read

theorem result_eq (x0 x1 : (⟨S4096x4096, .bf16⟩ : BufTy).Contents (Elt Ideal)) (x2 : (⟨S4096x4096, .f32⟩ : BufTy).Contents (Elt Ideal)) (i : S4096x4096.Idx) :
    val_main_v3 (F := Ideal) x0 x1 x2 i = Cert.OutProjIdeal.Value.total x0 x1 x2 i := by
  refine (show _ = (x2 i : EReal) + val_main_v2 (F := Ideal) x0 x1 i from rfl).trans ?_
  rw [val_main_v2_apply]
  refine congrArg (_ + ·) (Finset.sum_congr rfl fun k _ => ?_)
  refine congrArg₂ (· * ·) (show x0 _ = x0 _ from congrArg x0 (funext fun a => Fin.ext ?_)) (show x1 _ = x1 _ from congrArg x1 (funext fun a => Fin.ext ?_))
  · match a with
    | ⟨0, _⟩ => rfl
    | ⟨1, _⟩ => rfl
  · match a with
    | ⟨0, _⟩ => rfl
    | ⟨1, _⟩ => rfl

/-- The reference runs to its end. -/
theorem frame : Cert.quiescent_OutProjRefIdeal := fun m g _ =>
  (θ_run Cert.OutProjRefIdeal.defs _ _).mono (fun r h => ⟨fun c => (h c).2, Idealize.ShloMosaic.sem_eq_zero_of_no_sems (by decide) r.2⟩)
    (Cert.OutProjRefIdeal.Value.run (F := Ideal) m g)

/-- The kernel computes what the reference computes. -/
theorem algebraic : Cert.algebraic_OutProjIdeal_OutProjRefIdeal := by
  intro m g m' g' _ hargs
  refine ⟨fun c => Cert.OutProjIdeal.Value.result m c, ?_, ?_⟩
  · refine (θ_run Cert.OutProjIdeal.defs _ _).mono (fun r h c => ?_) (Cert.OutProjIdeal.Value.run_blocks (F := Ideal) m g)
    obtain ⟨h2, h⟩ := h c
    exact ⟨h2.trans (Cert.OutProjIdeal.Value.final_eq m c), h⟩
  · refine (θ_run Cert.OutProjRefIdeal.defs _ _).mono (fun r h c => ?_) (Cert.OutProjRefIdeal.Value.run (F := Ideal) m' g')
    obtain ⟨h2, h⟩ := h c
    obtain ⟨e0, e1, e2⟩ := hargs c
    refine ⟨h2.trans ?_, h⟩
    refine (val_main_v3_eq _ _ _).trans ?_
    rw [e0, e1, e2]
    funext i
    exact result_eq _ _ _ i

end Cert.OutProjRefIdeal.Value

end
-- ==== Proof.InProjValue.lean ====
/-
  The input projection with its rotary embedding: what the kernel leaves in its result, over the extended reals.
-/
module

public import proofs.«01_k».proof.Defs
public import proofs.«01_k».proof.Proof.Common
public import proofs.«01_k».proof.Proof.Gen.InProjIdeal.Value
public import proofs.«01_k».proof.Proof.Gen.InProjRefIdeal.Run
public import proofs.«01_k».proof.Proof.Gen.InProjRefIdeal.Read
public import Idealize.ShloMosaic.Lib.KernelVsHost

@[expose] public section

set_option maxRecDepth 16384

noncomputable section

open Idealize.ShloMosaic Idealize.ShloMosaic.TcCoe Idealize.SL.Sem Idealize.ShloMosaic.ValueIdx
open Idealize.ShloMosaic.Pipeline (Dat)
open Cert.Common

namespace Cert.InProjIdeal.Value

open Cert.InProjIdeal Cert.InProjIdeal.Gen

/-- The product at one element of a tile. -/
def prod (x0 : Vec Ideal S512x4096 .bf16) (x1 : Vec Ideal S1x4096x1536 .bf16) (r : Fin 512) (e : Fin 1536) : EReal :=
  ∑ k : Fin 4096, (x0 (ix2 r k) : EReal) * x1 (ix3 0 k e)

/-- The place of a column in its head. -/
def lane (e : Fin 1536) : Fin 128 := ⟨e.val % 128, Nat.mod_lt _ (by omega)⟩
/-- The column sixteen places back in its head, around the end. -/
def back (e : Fin 1536) : Fin 1536 := ⟨e.val / 128 * 128 + (e.val % 128 + 112) % 128, by omega⟩
/-- The column sixteen places ahead in its head, around the end. -/
def ahead (e : Fin 1536) : Fin 1536 := ⟨e.val / 128 * 128 + (e.val % 128 + 16) % 128, by omega⟩

/-- One element of a tile of the result: turned by the three tables where its head is one of the first thirty-two. -/
def tile (s : Fin 8) (x0 : Vec Ideal S512x4096 .bf16) (x1 : Vec Ideal S1x4096x1536 .bf16) (x2 x3 x4 : Vec Ideal S512x128 .f32)
    (r : Fin 512) (e : Fin 1536) : EReal :=
  if s.val * 12 + e.val / 128 < 32 then
    prod x0 x1 r e * x2 (ix2 r (lane e)) + prod x0 x1 r (back e) * x3 (ix2 r (lane e)) + prod x0 x1 r (ahead e) * x4 (ix2 r (lane e))
  else prod x0 x1 r e

theorem pay2_apply (x0 : Vec Ideal S512x4096 .bf16) (x1 : Vec Ideal S1x4096x1536 .bf16) (r : Fin 512) (e : Fin 1536) :
    k0_pay2 (F := Ideal) x0 x1 (ix2 r e) = prod x0 x1 r e := by
  unfold k0_pay2 prod
  rw [shapeCast_self]
  refine (Ideal.matmul_plain_apply none x0 (shapeCast S4096x1536 x1 shapeCasts_S1x4096x1536_S4096x1536) _ r e).trans ?_
  rw [constant_apply, zero_f32, zero_add]
  refine Finset.sum_congr rfl fun k _ => ?_
  rw [shapeCast_1ab_ab_apply]

theorem self3 (v : Vec Ideal S256x128 .f32) : k0_pay3 (F := Ideal) v = v := shapeCast_self ..
theorem self4 (v : Vec Ideal S256x128 .f32) : k0_pay4 (F := Ideal) v = v := shapeCast_self ..
theorem self5 (v : Vec Ideal S256x128 .f32) : k0_pay5 (F := Ideal) v = v := shapeCast_self ..
theorem self23 (v : Vec Ideal S256x128 .f32) : k0_pay23 (F := Ideal) v = v := shapeCast_self ..
theorem self24 (v : Vec Ideal S256x128 .f32) : k0_pay24 (F := Ideal) v = v := shapeCast_self ..
theorem self25 (v : Vec Ideal S256x128 .f32) : k0_pay25 (F := Ideal) v = v := shapeCast_self ..

/-- Whether a head is one of those the embedding turns. -/
def isTurned (s hh : BitVec 32) : BitVec 1 := Scalar.cmpi .slt (Scalar.addi (Scalar.muli s 12#32) hh) 32#32
theorem isTurned_iff : ∀ (s : Fin 8) (hh : Fin 12), isTurned (BitVec.ofNat 32 s.val) (BitVec.ofNat 32 hh.val) = 1 ↔ s.val * 12 + hh.val < 32 := by
  decide +kernel

/-- A head's columns, turned by the tables or left. -/
def turned (b : BitVec 1) (t0 t1 t2 a : FVec Ideal S256x128 .f32) : FVec Ideal S256x128 .bf16 :=
  truncf .bf16 (Scalar.select b (addf (addf (mulf a t0) (mulf (dynamicRotate 1 16#32 none a rotates_S256x128_d1) t1))
    (mulf (dynamicRotate 1 112#32 none a rotates_S256x128_d1) t2)) a) bitsLt_bf16_f32

theorem roll_apply (n : BitVec 32) (p : Nat) (hp : n.toNat = p) (hp128 : p < 128) (a : FVec Ideal S256x128 .f32) (r : Fin 256) (l : Fin 128) :
    dynamicRotate 1 n none a rotates_S256x128_d1 (ix2 r l) = a (ix2 r (⟨(l.val + (128 - p)) % 128, Nat.mod_lt _ (by omega)⟩ : Fin 128)) := by
  refine dynamicRotate_apply _ n a _ _ _ fun b => ?_
  match b with
  | ⟨0, _⟩ => rfl
  | ⟨1, _⟩ =>
    show (l.val + (128 - p)) % 128 = (l.val + 128 - n.toNat % 128) % 128
    rw [hp]; omega

theorem turned_apply (b : BitVec 1) (t0 t1 t2 a : FVec Ideal S256x128 .f32) (r : Fin 256) (l : Fin 128) :
    turned b t0 t1 t2 a (ix2 r l) = if b = 1 then
      a (ix2 r l) * t0 (ix2 r l) + a (ix2 r (⟨(l.val + 112) % 128, Nat.mod_lt _ (by omega)⟩ : Fin 128)) * t1 (ix2 r l)
        + a (ix2 r (⟨(l.val + 16) % 128, Nat.mod_lt _ (by omega)⟩ : Fin 128)) * t2 (ix2 r l)
      else a (ix2 r l) := by
  have h1 := roll_apply 16#32 16 rfl (by omega) a r l
  have h2 := roll_apply 112#32 112 rfl (by omega) a r l
  by_cases hb : b = 1
  · rw [if_pos hb]
    refine (show turned b t0 t1 t2 a (ix2 r l) = _ from congrFun (if_pos hb) (ix2 r l)).trans ?_
    show a (ix2 r l) * t0 (ix2 r l) + dynamicRotate 1 16#32 none a rotates_S256x128_d1 (ix2 r l) * t1 (ix2 r l)
        + dynamicRotate 1 112#32 none a rotates_S256x128_d1 (ix2 r l) * t2 (ix2 r l) = _
    rw [h1, h2]
  · rw [if_neg hb]
    exact congrFun (if_neg hb) (ix2 r l)

def rowIn (o : Nat) (ho : o + 256 ≤ 512) (r : Fin 256) : Fin 512 := ⟨o + r.val, by omega⟩
def colIn (hh : Fin 12) (l : Fin 128) : Fin 1536 := ⟨hh.val * 128 + l.val, by omega⟩

section
variable (s : Fin 8) (x0 : Vec Ideal S512x4096 .bf16) (x1 : Vec Ideal S1x4096x1536 .bf16) (x2 x3 x4 : Vec Ideal S512x128 .f32)
variable (o : Nat) (hh : Fin 12) (ho : o + 256 ≤ 512)

theorem turned_tile (t0 t1 t2 a : FVec Ideal S256x128 .f32)
    (ha : ∀ r l, a (ix2 r l) = prod x0 x1 (rowIn o ho r) (colIn hh l))
    (h0 : ∀ r l, t0 (ix2 r l) = x2 (ix2 (rowIn o ho r) l)) (h1 : ∀ r l, t1 (ix2 r l) = x3 (ix2 (rowIn o ho r) l))
    (h2 : ∀ r l, t2 (ix2 r l) = x4 (ix2 (rowIn o ho r) l)) (r : Fin 256) (l : Fin 128) :
    turned (isTurned (BitVec.ofNat 32 s.val) (BitVec.ofNat 32 hh.val)) t0 t1 t2 a (ix2 r l) = tile s x0 x1 x2 x3 x4 (rowIn o ho r) (colIn hh l) := by
  have hd : (colIn hh l).val / 128 = hh.val := by show (hh.val * 128 + l.val) / 128 = _; omega
  have hl : lane (colIn hh l) = l := Fin.ext (by show (hh.val * 128 + l.val) % 128 = _; omega)
  have hb : back (colIn hh l) = colIn hh (⟨(l.val + 112) % 128, Nat.mod_lt _ (by omega)⟩ : Fin 128) :=
    Fin.ext (by show (hh.val * 128 + l.val) / 128 * 128 + ((hh.val * 128 + l.val) % 128 + 112) % 128 = hh.val * 128 + (l.val + 112) % 128; omega)
  have hf : ahead (colIn hh l) = colIn hh (⟨(l.val + 16) % 128, Nat.mod_lt _ (by omega)⟩ : Fin 128) :=
    Fin.ext (by show (hh.val * 128 + l.val) / 128 * 128 + ((hh.val * 128 + l.val) % 128 + 16) % 128 = hh.val * 128 + (l.val + 16) % 128; omega)
  rw [turned_apply, tile, hd, hl, hb, hf]
  by_cases hs : s.val * 12 + hh.val < 32
  · rw [if_pos ((isTurned_iff s hh).mpr hs), if_pos hs, ha, ha, ha, h0, h1, h2]
  · rw [if_neg (fun h => hs ((isTurned_iff s hh).mp h)), if_neg hs, ha]

theorem emb_piece (q : Nat) (hq : hh.val * 128 = q) (inb : ∀ a, (![o, q] : Fin 2 → Nat) a + (![256, 128] : Fin 2 → Nat) a ≤ S512x1536.size a)
    (r : Fin 256) (l : Fin 128) :
    (Rect.unit (s := S512x1536) ![o, q] ![256, 128] inb).emb (ix2 r l) = ix2 (rowIn o ho r) (colIn hh l) := by
  subst hq
  funext a; apply Fin.ext
  match a with
  | ⟨0, _⟩ => show o + 1 * r.val = o + r.val; omega
  | ⟨1, _⟩ => show hh.val * 128 + 1 * l.val = hh.val * 128 + l.val; omega
theorem ld_piece (q : Nat) (hq : hh.val * 128 = q) (inb : ∀ a, (![o, q] : Fin 2 → Nat) a + (![256, 128] : Fin 2 → Nat) a ≤ S512x1536.size a)
    (r : Fin 256) (l : Fin 128) :
    (Rect.unit (s := S512x1536) ![o, q] ![256, 128] inb).toLoadRect.idx (ix2 r l) = ix2 (rowIn o ho r) (colIn hh l) :=
  emb_piece o hh ho q hq inb r l
theorem ld_table (inb : ∀ a, (![o, 0] : Fin 2 → Nat) a + (![256, 128] : Fin 2 → Nat) a ≤ S512x128.size a)
    (r : Fin 256) (l : Fin 128) (x : Vec Ideal S512x128 .f32) :
    View.ld x (Rect.unit (s := S512x128) ![o, 0] ![256, 128] inb) (ix2 r l) = x (ix2 (rowIn o ho r) l) := by
  refine congrArg x (funext fun a => Fin.ext ?_)
  match a with
  | ⟨0, _⟩ => show o + 1 * r.val = o + r.val; omega
  | ⟨1, _⟩ => show 0 + 1 * l.val = l.val; omega
end

theorem out5_apply (c : Dev nD) (i : grid0.Coords) (arg3 : Memref sig .tc .vmem S512x4096 .bf16) (harg3 : arg3.IsWhole) (arg4 : Memref sig .tc .vmem S1x4096x1536 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1536 .bf16) (harg8 : arg8.IsWhole) (arg9 : Memref sig .tc .vmem S512x1536 .f32) (harg9 : arg9.IsWhole) (x0 : Vec Ideal S512x4096 .bf16) (x1 : Vec Ideal S1x4096x1536 .bf16) (x2 : Vec Ideal S512x128 .f32) (x3 : Vec Ideal S512x128 .f32) (x4 : Vec Ideal S512x128 .f32) (y : S512x1536.Idx) :
    out0_A_5 (F := Ideal) c i arg3 harg3 arg4 harg4 arg5 harg5 arg6 harg6 arg7 harg7 arg8 harg8 arg9 harg9 x0 x1 x2 x3 x4 y = tile (i 0) x0 x1 x2 x3 x4 (y 0) (y 1) := by
  unfold out0_A_5
  rw [View.read_writes_eq_canon _ _ _ (cover0_A_5 c i arg3 harg3 arg4 harg4 arg5 harg5 arg6 harg6 arg7 harg7 arg8 harg8 arg9 harg9 x0 x1 x2 x3 x4)]
  refine View.canon_apply_of_pieces (fun y => tile (i 0) x0 x1 x2 x3 x4 (y 0) (y 1)) _ ?_ y (cover0_A_5 c i arg3 harg3 arg4 harg4 arg5 harg5 arg6 harg6 arg7 harg7 arg8 harg8 arg9 harg9 x0 x1 x2 x3 x4 y)
  unfold kernelRun0_A
  dsimp only
  sl_unfold_words
  intro p hp
  fin_cases hp
  · intro x
    obtain ⟨r, l, rfl⟩ : ∃ (r : Fin 256) (l : Fin 128), x = ix2 r l := ⟨_, _, eq_ix2 x⟩
    dsimp only
    rw [emb_piece 256 (⟨11, by decide⟩ : Fin 12) (by decide) 1408 rfl _ r l]
    refine (congrFun (show _ = turned (isTurned (BitVec.ofNat 32 (i 0).val) 11#32) _ _ _ _ from rfl) (ix2 r l)).trans ?_
    refine turned_tile (i 0) x0 x1 x2 x3 x4 256 (⟨11, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 256 (⟨11, by decide⟩ : Fin 12) (by decide) 1408 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
  · intro x
    obtain ⟨r, l, rfl⟩ : ∃ (r : Fin 256) (l : Fin 128), x = ix2 r l := ⟨_, _, eq_ix2 x⟩
    dsimp only
    rw [emb_piece 256 (⟨10, by decide⟩ : Fin 12) (by decide) 1280 rfl _ r l]
    refine (congrFun (show _ = turned (isTurned (BitVec.ofNat 32 (i 0).val) 10#32) _ _ _ _ from rfl) (ix2 r l)).trans ?_
    refine turned_tile (i 0) x0 x1 x2 x3 x4 256 (⟨10, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 256 (⟨10, by decide⟩ : Fin 12) (by decide) 1280 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
  · intro x
    obtain ⟨r, l, rfl⟩ : ∃ (r : Fin 256) (l : Fin 128), x = ix2 r l := ⟨_, _, eq_ix2 x⟩
    dsimp only
    rw [emb_piece 256 (⟨9, by decide⟩ : Fin 12) (by decide) 1152 rfl _ r l]
    refine (congrFun (show _ = turned (isTurned (BitVec.ofNat 32 (i 0).val) 9#32) _ _ _ _ from rfl) (ix2 r l)).trans ?_
    refine turned_tile (i 0) x0 x1 x2 x3 x4 256 (⟨9, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 256 (⟨9, by decide⟩ : Fin 12) (by decide) 1152 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
  · intro x
    obtain ⟨r, l, rfl⟩ : ∃ (r : Fin 256) (l : Fin 128), x = ix2 r l := ⟨_, _, eq_ix2 x⟩
    dsimp only
    rw [emb_piece 256 (⟨8, by decide⟩ : Fin 12) (by decide) 1024 rfl _ r l]
    refine (congrFun (show _ = turned (isTurned (BitVec.ofNat 32 (i 0).val) 8#32) _ _ _ _ from rfl) (ix2 r l)).trans ?_
    refine turned_tile (i 0) x0 x1 x2 x3 x4 256 (⟨8, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 256 (⟨8, by decide⟩ : Fin 12) (by decide) 1024 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
  · intro x
    obtain ⟨r, l, rfl⟩ : ∃ (r : Fin 256) (l : Fin 128), x = ix2 r l := ⟨_, _, eq_ix2 x⟩
    dsimp only
    rw [emb_piece 256 (⟨7, by decide⟩ : Fin 12) (by decide) 896 rfl _ r l]
    refine (congrFun (show _ = turned (isTurned (BitVec.ofNat 32 (i 0).val) 7#32) _ _ _ _ from rfl) (ix2 r l)).trans ?_
    refine turned_tile (i 0) x0 x1 x2 x3 x4 256 (⟨7, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 256 (⟨7, by decide⟩ : Fin 12) (by decide) 896 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
  · intro x
    obtain ⟨r, l, rfl⟩ : ∃ (r : Fin 256) (l : Fin 128), x = ix2 r l := ⟨_, _, eq_ix2 x⟩
    dsimp only
    rw [emb_piece 256 (⟨6, by decide⟩ : Fin 12) (by decide) 768 rfl _ r l]
    refine (congrFun (show _ = turned (isTurned (BitVec.ofNat 32 (i 0).val) 6#32) _ _ _ _ from rfl) (ix2 r l)).trans ?_
    refine turned_tile (i 0) x0 x1 x2 x3 x4 256 (⟨6, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 256 (⟨6, by decide⟩ : Fin 12) (by decide) 768 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
  · intro x
    obtain ⟨r, l, rfl⟩ : ∃ (r : Fin 256) (l : Fin 128), x = ix2 r l := ⟨_, _, eq_ix2 x⟩
    dsimp only
    rw [emb_piece 256 (⟨5, by decide⟩ : Fin 12) (by decide) 640 rfl _ r l]
    refine (congrFun (show _ = turned (isTurned (BitVec.ofNat 32 (i 0).val) 5#32) _ _ _ _ from rfl) (ix2 r l)).trans ?_
    refine turned_tile (i 0) x0 x1 x2 x3 x4 256 (⟨5, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 256 (⟨5, by decide⟩ : Fin 12) (by decide) 640 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
  · intro x
    obtain ⟨r, l, rfl⟩ : ∃ (r : Fin 256) (l : Fin 128), x = ix2 r l := ⟨_, _, eq_ix2 x⟩
    dsimp only
    rw [emb_piece 256 (⟨4, by decide⟩ : Fin 12) (by decide) 512 rfl _ r l]
    refine (congrFun (show _ = turned (isTurned (BitVec.ofNat 32 (i 0).val) 4#32) _ _ _ _ from rfl) (ix2 r l)).trans ?_
    refine turned_tile (i 0) x0 x1 x2 x3 x4 256 (⟨4, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 256 (⟨4, by decide⟩ : Fin 12) (by decide) 512 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
  · intro x
    obtain ⟨r, l, rfl⟩ : ∃ (r : Fin 256) (l : Fin 128), x = ix2 r l := ⟨_, _, eq_ix2 x⟩
    dsimp only
    rw [emb_piece 256 (⟨3, by decide⟩ : Fin 12) (by decide) 384 rfl _ r l]
    refine (congrFun (show _ = turned (isTurned (BitVec.ofNat 32 (i 0).val) 3#32) _ _ _ _ from rfl) (ix2 r l)).trans ?_
    refine turned_tile (i 0) x0 x1 x2 x3 x4 256 (⟨3, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 256 (⟨3, by decide⟩ : Fin 12) (by decide) 384 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
  · intro x
    obtain ⟨r, l, rfl⟩ : ∃ (r : Fin 256) (l : Fin 128), x = ix2 r l := ⟨_, _, eq_ix2 x⟩
    dsimp only
    rw [emb_piece 256 (⟨2, by decide⟩ : Fin 12) (by decide) 256 rfl _ r l]
    refine (congrFun (show _ = turned (isTurned (BitVec.ofNat 32 (i 0).val) 2#32) _ _ _ _ from rfl) (ix2 r l)).trans ?_
    refine turned_tile (i 0) x0 x1 x2 x3 x4 256 (⟨2, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 256 (⟨2, by decide⟩ : Fin 12) (by decide) 256 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
  · intro x
    obtain ⟨r, l, rfl⟩ : ∃ (r : Fin 256) (l : Fin 128), x = ix2 r l := ⟨_, _, eq_ix2 x⟩
    dsimp only
    rw [emb_piece 256 (⟨1, by decide⟩ : Fin 12) (by decide) 128 rfl _ r l]
    refine (congrFun (show _ = turned (isTurned (BitVec.ofNat 32 (i 0).val) 1#32) _ _ _ _ from rfl) (ix2 r l)).trans ?_
    refine turned_tile (i 0) x0 x1 x2 x3 x4 256 (⟨1, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 256 (⟨1, by decide⟩ : Fin 12) (by decide) 128 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
  · intro x
    obtain ⟨r, l, rfl⟩ : ∃ (r : Fin 256) (l : Fin 128), x = ix2 r l := ⟨_, _, eq_ix2 x⟩
    dsimp only
    rw [emb_piece 256 (⟨0, by decide⟩ : Fin 12) (by decide) 0 rfl _ r l]
    refine (congrFun (show _ = turned (isTurned (BitVec.ofNat 32 (i 0).val) 0#32) _ _ _ _ from rfl) (ix2 r l)).trans ?_
    refine turned_tile (i 0) x0 x1 x2 x3 x4 256 (⟨0, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 256 (⟨0, by decide⟩ : Fin 12) (by decide) 0 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
    · intro r l
      simp only [self3, self4, self5, self23, self24, self25, View.readAt_eq_ld, Memref.IsWhole.read_unread]
      exact ld_table 256 (by decide) _ r l _
  · intro x
    obtain ⟨r, l, rfl⟩ : ∃ (r : Fin 256) (l : Fin 128), x = ix2 r l := ⟨_, _, eq_ix2 x⟩
    dsimp only
    rw [emb_piece 0 (⟨11, by decide⟩ : Fin 12) (by decide) 1408 rfl _ r l]
    refine (congrFun (show _ = turned (isTurned (BitVec.ofNat 32 (i 0).val) 11#32) _ _ _ _ from rfl) (ix2 r l)).trans ?_
    refine turned_tile (i 0) x0 x1 x2 x3 x4 0 (⟨11, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 0 (⟨11, by decide⟩ : Fin 12) (by decide) 1408 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _
  · intro x
    obtain ⟨r, l, rfl⟩ : ∃ (r : Fin 256) (l : Fin 128), x = ix2 r l := ⟨_, _, eq_ix2 x⟩
    dsimp only
    rw [emb_piece 0 (⟨10, by decide⟩ : Fin 12) (by decide) 1280 rfl _ r l]
    refine (congrFun (show _ = turned (isTurned (BitVec.ofNat 32 (i 0).val) 10#32) _ _ _ _ from rfl) (ix2 r l)).trans ?_
    refine turned_tile (i 0) x0 x1 x2 x3 x4 0 (⟨10, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 0 (⟨10, by decide⟩ : Fin 12) (by decide) 1280 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _
  · intro x
    obtain ⟨r, l, rfl⟩ : ∃ (r : Fin 256) (l : Fin 128), x = ix2 r l := ⟨_, _, eq_ix2 x⟩
    dsimp only
    rw [emb_piece 0 (⟨9, by decide⟩ : Fin 12) (by decide) 1152 rfl _ r l]
    refine (congrFun (show _ = turned (isTurned (BitVec.ofNat 32 (i 0).val) 9#32) _ _ _ _ from rfl) (ix2 r l)).trans ?_
    refine turned_tile (i 0) x0 x1 x2 x3 x4 0 (⟨9, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 0 (⟨9, by decide⟩ : Fin 12) (by decide) 1152 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _
  · intro x
    obtain ⟨r, l, rfl⟩ : ∃ (r : Fin 256) (l : Fin 128), x = ix2 r l := ⟨_, _, eq_ix2 x⟩
    dsimp only
    rw [emb_piece 0 (⟨8, by decide⟩ : Fin 12) (by decide) 1024 rfl _ r l]
    refine (congrFun (show _ = turned (isTurned (BitVec.ofNat 32 (i 0).val) 8#32) _ _ _ _ from rfl) (ix2 r l)).trans ?_
    refine turned_tile (i 0) x0 x1 x2 x3 x4 0 (⟨8, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 0 (⟨8, by decide⟩ : Fin 12) (by decide) 1024 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _
  · intro x
    obtain ⟨r, l, rfl⟩ : ∃ (r : Fin 256) (l : Fin 128), x = ix2 r l := ⟨_, _, eq_ix2 x⟩
    dsimp only
    rw [emb_piece 0 (⟨7, by decide⟩ : Fin 12) (by decide) 896 rfl _ r l]
    refine (congrFun (show _ = turned (isTurned (BitVec.ofNat 32 (i 0).val) 7#32) _ _ _ _ from rfl) (ix2 r l)).trans ?_
    refine turned_tile (i 0) x0 x1 x2 x3 x4 0 (⟨7, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 0 (⟨7, by decide⟩ : Fin 12) (by decide) 896 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _
  · intro x
    obtain ⟨r, l, rfl⟩ : ∃ (r : Fin 256) (l : Fin 128), x = ix2 r l := ⟨_, _, eq_ix2 x⟩
    dsimp only
    rw [emb_piece 0 (⟨6, by decide⟩ : Fin 12) (by decide) 768 rfl _ r l]
    refine (congrFun (show _ = turned (isTurned (BitVec.ofNat 32 (i 0).val) 6#32) _ _ _ _ from rfl) (ix2 r l)).trans ?_
    refine turned_tile (i 0) x0 x1 x2 x3 x4 0 (⟨6, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 0 (⟨6, by decide⟩ : Fin 12) (by decide) 768 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _
  · intro x
    obtain ⟨r, l, rfl⟩ : ∃ (r : Fin 256) (l : Fin 128), x = ix2 r l := ⟨_, _, eq_ix2 x⟩
    dsimp only
    rw [emb_piece 0 (⟨5, by decide⟩ : Fin 12) (by decide) 640 rfl _ r l]
    refine (congrFun (show _ = turned (isTurned (BitVec.ofNat 32 (i 0).val) 5#32) _ _ _ _ from rfl) (ix2 r l)).trans ?_
    refine turned_tile (i 0) x0 x1 x2 x3 x4 0 (⟨5, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 0 (⟨5, by decide⟩ : Fin 12) (by decide) 640 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _
  · intro x
    obtain ⟨r, l, rfl⟩ : ∃ (r : Fin 256) (l : Fin 128), x = ix2 r l := ⟨_, _, eq_ix2 x⟩
    dsimp only
    rw [emb_piece 0 (⟨4, by decide⟩ : Fin 12) (by decide) 512 rfl _ r l]
    refine (congrFun (show _ = turned (isTurned (BitVec.ofNat 32 (i 0).val) 4#32) _ _ _ _ from rfl) (ix2 r l)).trans ?_
    refine turned_tile (i 0) x0 x1 x2 x3 x4 0 (⟨4, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 0 (⟨4, by decide⟩ : Fin 12) (by decide) 512 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _
  · intro x
    obtain ⟨r, l, rfl⟩ : ∃ (r : Fin 256) (l : Fin 128), x = ix2 r l := ⟨_, _, eq_ix2 x⟩
    dsimp only
    rw [emb_piece 0 (⟨3, by decide⟩ : Fin 12) (by decide) 384 rfl _ r l]
    refine (congrFun (show _ = turned (isTurned (BitVec.ofNat 32 (i 0).val) 3#32) _ _ _ _ from rfl) (ix2 r l)).trans ?_
    refine turned_tile (i 0) x0 x1 x2 x3 x4 0 (⟨3, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 0 (⟨3, by decide⟩ : Fin 12) (by decide) 384 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _
  · intro x
    obtain ⟨r, l, rfl⟩ : ∃ (r : Fin 256) (l : Fin 128), x = ix2 r l := ⟨_, _, eq_ix2 x⟩
    dsimp only
    rw [emb_piece 0 (⟨2, by decide⟩ : Fin 12) (by decide) 256 rfl _ r l]
    refine (congrFun (show _ = turned (isTurned (BitVec.ofNat 32 (i 0).val) 2#32) _ _ _ _ from rfl) (ix2 r l)).trans ?_
    refine turned_tile (i 0) x0 x1 x2 x3 x4 0 (⟨2, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 0 (⟨2, by decide⟩ : Fin 12) (by decide) 256 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _
  · intro x
    obtain ⟨r, l, rfl⟩ : ∃ (r : Fin 256) (l : Fin 128), x = ix2 r l := ⟨_, _, eq_ix2 x⟩
    dsimp only
    rw [emb_piece 0 (⟨1, by decide⟩ : Fin 12) (by decide) 128 rfl _ r l]
    refine (congrFun (show _ = turned (isTurned (BitVec.ofNat 32 (i 0).val) 1#32) _ _ _ _ from rfl) (ix2 r l)).trans ?_
    refine turned_tile (i 0) x0 x1 x2 x3 x4 0 (⟨1, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 0 (⟨1, by decide⟩ : Fin 12) (by decide) 128 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _
  · intro x
    obtain ⟨r, l, rfl⟩ : ∃ (r : Fin 256) (l : Fin 128), x = ix2 r l := ⟨_, _, eq_ix2 x⟩
    dsimp only
    rw [emb_piece 0 (⟨0, by decide⟩ : Fin 12) (by decide) 0 rfl _ r l]
    refine (congrFun (show _ = turned (isTurned (BitVec.ofNat 32 (i 0).val) 0#32) _ _ _ _ from rfl) (ix2 r l)).trans ?_
    refine turned_tile (i 0) x0 x1 x2 x3 x4 0 (⟨0, by decide⟩ : Fin 12) (by decide) _ _ _ _ ?_ ?_ ?_ ?_ r l
    · intro r l
      rw [View.readCov_eq_canon', View.canon_unit_zero (S := S512x1536) hz2]
      dsimp only
      simp only [View.readAt_eq_ld, Memref.IsWhole.read_unread]
      rw [ld_piece 0 (⟨0, by decide⟩ : Fin 12) (by decide) 0 rfl _ r l]
      rw [View.ld_unit_zero (S := S512x4096) hz2, View.ld_unit_zero (S := S1x4096x1536) hz3, pay2_apply]
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _
    · intro r l
      simp only [self3, self4, self5, self23, self24, self25, View.readAt_eq_ld, Memref.IsWhole.read_unread]
      exact ld_table 0 (by decide) _ r l _

/-! ## The tables and the whole result -/

variable (m : (ℓ : Loc nD τ sig) → Buf (Elt Ideal) ℓ) (c : Dev nD)

abbrev a0 : (⟨S4096x4096, .bf16⟩ : BufTy).Contents (Elt Ideal) := m ((c : Thread nD τ).loc main_arg0)
abbrev a1 : (⟨S4096x12288, .bf16⟩ : BufTy).Contents (Elt Ideal) := m ((c : Thread nD τ).loc main_arg1)
abbrev a2 : (⟨S4096, .i32⟩ : BufTy).Contents (Elt Ideal) := m ((c : Thread nD τ).loc main_arg2)

/-- The sixteen frequencies. -/
abbrev freqs : (⟨S16, .f32⟩ : BufTy).Contents (Elt Ideal) := Cert.InProjRefIdeal.Read.val_main_v12 (F := Ideal)

/-- The angle of a position at a frequency. -/
def angle (p : (⟨S4096, .i32⟩ : BufTy).Contents (Elt Ideal)) (u : Fin 4096) (f : Fin 16) : EReal :=
  Cert.InProjRefIdeal.Read.val_main_v13 (F := Ideal) p (ix1 u) * freqs (ix1 f)

/-- All the angles, as the host makes them. -/
def angles (p : (⟨S4096, .i32⟩ : BufTy).Contents (Elt Ideal)) : (⟨S4096x16, .f32⟩ : BufTy).Contents (Elt Ideal) :=
  mulf (F := Ideal) (φ := .f32)
    (broadcastInDim S4096x16 ![0, 1] bcast_S4096x1_S4096x16_0_1 (shapeCast S4096x1 (sitofp (F := Ideal) .f32 p) shapeCasts_S4096_S4096x1))
    (broadcastInDim S4096x16 ![0, 1] bcast_S1x16_S4096x16_0_1 (broadcastInDim S1x16 ![1] bcast_S16_S1x16_1 freqs))

def zeros16 : (⟨S4096x16, .f32⟩ : BufTy).Contents (Elt Ideal) := broadcastInDim S4096x16 ![] bcast_S_S4096x16 (constant (F := Ideal) S_ .f32 0x00000000#32)
def zeros96 : (⟨S4096x96, .f32⟩ : BufTy).Contents (Elt Ideal) := broadcastInDim S4096x96 ![] bcast_S_S4096x96 (constant (F := Ideal) S_ .f32 0x00000000#32)
def ones96 : (⟨S4096x96, .f32⟩ : BufTy).Contents (Elt Ideal) := broadcastInDim S4096x96 ![] bcast_S_S4096x96 (constant (F := Ideal) S_ .f32 0x3F800000#32)

/-- Three tables beside each other. -/
def beside (x y : (⟨S4096x16, .f32⟩ : BufTy).Contents (Elt Ideal)) (z : (⟨S4096x96, .f32⟩ : BufTy).Contents (Elt Ideal)) : (⟨S4096x128, .f32⟩ : BufTy).Contents (Elt Ideal) :=
  concatenate S4096x128 1 [⟨S4096x16, x⟩, ⟨S4096x16, y⟩, ⟨S4096x96, z⟩] concatenates_S4096x16_S4096x16_S4096x96_S4096x128_d1

theorem V23 : V m c main_v23 = transpose S8x4096x1536 [1, 0, 2] (shapeCast S4096x8x1536 (a1 m c) shapeCasts_S4096x12288_S4096x8x1536) transposes_S4096x8x1536_S8x4096x1536_1_0_2 := rfl
set_option maxHeartbeats 8000000 in
theorem V16 : V m c main_v16 = beside (Host.cos (F := Ideal) (φ := .f32) (angles (a2 m c))) (Host.cos (F := Ideal) (φ := .f32) (angles (a2 m c))) ones96 := rfl
set_option maxHeartbeats 8000000 in
theorem V18 : V m c main_v18 = beside zeros16 (Host.sin (F := Ideal) (φ := .f32) (angles (a2 m c))) zeros96 := rfl
set_option maxHeartbeats 8000000 in
theorem V21 : V m c main_v21 = beside (Host.negf (F := Ideal) (φ := .f32) (Host.sin (F := Ideal) (φ := .f32) (angles (a2 m c)))) zeros16 zeros96 := rfl

theorem angles_apply (p : (⟨S4096, .i32⟩ : BufTy).Contents (Elt Ideal)) (u : Fin 4096) (f : Fin 16) : angles p (ix2 u f) = angle p u f := by
  refine congrArg₂ (· * ·) ?_ ?_
  · refine (broadcastInDim_apply _ _ _ (ix2 u f) (ix2 u (0 : Fin 1)) ?_).trans ?_
    · intro b; match b with
      | ⟨0, _⟩ => rfl
      | ⟨1, _⟩ => rfl
    · refine shapeCast_apply _ _ (ix2 u (0 : Fin 1)) (ix1 u) ?_
      rw [Shape.rowMajor_val_two, Shape.rowMajor_val_one]
      show u.val = u.val * 1 + 0
      omega
  · refine (broadcastInDim_apply _ _ _ (ix2 u f) (ix2 (0 : Fin 1) f) ?_).trans ?_
    · intro b; match b with
      | ⟨0, _⟩ => rfl
      | ⟨1, _⟩ => rfl
    · refine broadcastInDim_apply _ _ _ (ix2 (0 : Fin 1) f) (ix1 f) ?_
      intro b; match b with
      | ⟨0, _⟩ => rfl

theorem beside_apply (x y : (⟨S4096x16, .f32⟩ : BufTy).Contents (Elt Ideal)) (z : (⟨S4096x96, .f32⟩ : BufTy).Contents (Elt Ideal)) (u : Fin 4096) (l : Fin 128) :
    beside x y z (ix2 u l) = if h : l.val < 16 then x (ix2 u ⟨l.val, h⟩) else if h' : l.val < 32 then y (ix2 u ⟨l.val - 16, by omega⟩) else z (ix2 u ⟨l.val - 32, by omega⟩) := by
  split_ifs with h h'
  · refine concatenate_apply_piece 1 _ _ (ix2 u l) 0 (by simp) S4096x16 x rfl rfl 0 rfl _ (fun b hb => ?_) ?_
    · match b with
      | ⟨0, _⟩ => rfl
      | ⟨1, _⟩ => exact absurd rfl hb
    · show 0 + l.val = l.val; omega
  · refine concatenate_apply_piece 1 _ _ (ix2 u l) 1 (by simp) S4096x16 y rfl rfl 16 rfl _ (fun b hb => ?_) ?_
    · match b with
      | ⟨0, _⟩ => rfl
      | ⟨1, _⟩ => exact absurd rfl hb
    · show 16 + (l.val - 16) = l.val; omega
  · refine concatenate_apply_piece 1 _ _ (ix2 u l) 2 (by simp) S4096x96 z rfl rfl 32 rfl _ (fun b hb => ?_) ?_
    · match b with
      | ⟨0, _⟩ => rfl
      | ⟨1, _⟩ => exact absurd rfl hb
    · show 32 + (l.val - 32) = l.val; omega

/-- One element of a head turned by its position: the first sixteen places against the next sixteen, the others left. -/
def rope (p : (⟨S4096, .i32⟩ : BufTy).Contents (Elt Ideal)) (a : Fin 128 → EReal) (u : Fin 4096) (l : Fin 128) : EReal :=
  if h : l.val < 16 then a l * Ideal.cos (angle p u ⟨l.val, h⟩) - a ⟨l.val + 16, by omega⟩ * Ideal.sin (angle p u ⟨l.val, h⟩)
  else if h' : l.val < 32 then
    a l * Ideal.cos (angle p u ⟨l.val - 16, by omega⟩) + a ⟨l.val - 16, by omega⟩ * Ideal.sin (angle p u ⟨l.val - 16, by omega⟩)
  else a l

theorem rope_of_tables (p : (⟨S4096, .i32⟩ : BufTy).Contents (Elt Ideal)) (a : Fin 128 → EReal) (u : Fin 4096) (l : Fin 128) :
    a l * beside (Host.cos (F := Ideal) (φ := .f32) (angles p)) (Host.cos (F := Ideal) (φ := .f32) (angles p)) ones96 (ix2 u l)
      + a ⟨(l.val + 112) % 128, Nat.mod_lt _ (by omega)⟩ * beside zeros16 (Host.sin (F := Ideal) (φ := .f32) (angles p)) zeros96 (ix2 u l)
      + a ⟨(l.val + 16) % 128, Nat.mod_lt _ (by omega)⟩ * beside (Host.negf (F := Ideal) (φ := .f32) (Host.sin (F := Ideal) (φ := .f32) (angles p))) zeros16 zeros96 (ix2 u l)
      = rope p a u l := by
  have hc : ∀ f : Fin 16, Host.cos (F := Ideal) (φ := .f32) (angles p) (ix2 u f) = Ideal.cos (angle p u f) := fun f => congrArg Ideal.cos (angles_apply p u f)
  have hs : ∀ f : Fin 16, Host.sin (F := Ideal) (φ := .f32) (angles p) (ix2 u f) = Ideal.sin (angle p u f) := fun f => congrArg Ideal.sin (angles_apply p u f)
  have hn : ∀ f : Fin 16, Host.negf (F := Ideal) (φ := .f32) (Host.sin (F := Ideal) (φ := .f32) (angles p)) (ix2 u f) = -Ideal.sin (angle p u f) :=
    fun f => congrArg (fun x : EReal => -x) (hs f)
  have hz : ∀ f : Fin 16, zeros16 (ix2 u f) = (0 : EReal) := fun _ => zero_f32
  have hz' : ∀ f : Fin 96, zeros96 (ix2 u f) = (0 : EReal) := fun _ => zero_f32
  have ho : ∀ f : Fin 96, ones96 (ix2 u f) = (1 : EReal) := fun _ => Ideal.ofBits_one_f32
  rw [beside_apply, beside_apply, beside_apply, rope]
  by_cases h : l.val < 16
  · simp only [dif_pos h]
    rw [hc, hz, hn, mul_zero, add_zero, mul_neg, ← sub_eq_add_neg]
    rw [show (⟨(l.val + 16) % 128, Nat.mod_lt _ (by omega)⟩ : Fin 128) = ⟨l.val + 16, by omega⟩ from Fin.ext (by show (l.val + 16) % 128 = l.val + 16; omega)]
  · by_cases h' : l.val < 32
    · simp only [dif_neg h, dif_pos h']
      rw [hc, hz, hs, mul_zero, add_zero]
      rw [show (⟨(l.val + 112) % 128, Nat.mod_lt _ (by omega)⟩ : Fin 128) = ⟨l.val - 16, by omega⟩ from Fin.ext (by show (l.val + 112) % 128 = l.val - 16; omega)]
    · simp only [dif_neg h, dif_neg h']
      rw [ho, hz', mul_zero, mul_zero, add_zero, add_zero, mul_one]

/-- The column that a place of a head is. -/
def colOf (g : Fin 96) (l : Fin 128) : Fin 12288 := ⟨g.val * 128 + l.val, by omega⟩
/-- The product of a token's row and a weight's column. -/
def projAt (x0 : (⟨S4096x4096, .bf16⟩ : BufTy).Contents (Elt Ideal)) (x1 : (⟨S4096x12288, .bf16⟩ : BufTy).Contents (Elt Ideal)) (u : Fin 4096) (e : Fin 12288) : EReal :=
  ∑ k : Fin 4096, (x0 (ix2 u k) : EReal) * x1 (ix2 k e)
/-- One element of the result: turned in the heads of the queries and the keys. -/
def headAt (x0 : (⟨S4096x4096, .bf16⟩ : BufTy).Contents (Elt Ideal)) (x1 : (⟨S4096x12288, .bf16⟩ : BufTy).Contents (Elt Ideal)) (x2 : (⟨S4096, .i32⟩ : BufTy).Contents (Elt Ideal))
    (u : Fin 4096) (g : Fin 96) (l : Fin 128) : EReal :=
  if g.val < 32 then rope x2 (fun l => projAt x0 x1 u (colOf g l)) u l else projAt x0 x1 u (colOf g l)
/-- The head and the place of a column. -/
def headOf (e : Fin 12288) : Fin 96 := ⟨e.val / 128, by omega⟩
def placeOf (e : Fin 12288) : Fin 128 := ⟨e.val % 128, Nat.mod_lt _ (by omega)⟩
def total (x0 : (⟨S4096x4096, .bf16⟩ : BufTy).Contents (Elt Ideal)) (x1 : (⟨S4096x12288, .bf16⟩ : BufTy).Contents (Elt Ideal)) (x2 : (⟨S4096, .i32⟩ : BufTy).Contents (Elt Ideal)) :
    S4096x12288.Idx → EReal := fun i => headAt x0 x1 x2 (i 0) (headOf (i 1)) (placeOf (i 1))

theorem index_0 : ∀ t : Fin cfg0.N, win0_0.index t 0 = t.val % 8 ∧ win0_0.index t 1 = 0 :=
  (by decide +kernel : ∀ t : Fin grid0.N, win0_0.index t 0 = t.val % 8 ∧ win0_0.index t 1 = 0)
theorem index_1 : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
theorem index_2 : ∀ t : Fin cfg0.N, win0_2.index t 0 = t.val % 8 ∧ win0_2.index t 1 = 0 :=
  (by decide +kernel : ∀ t : Fin grid0.N, win0_2.index t 0 = t.val % 8 ∧ win0_2.index t 1 = 0)
theorem index_3 : ∀ t : Fin cfg0.N, win0_3.index t 0 = t.val % 8 ∧ win0_3.index t 1 = 0 :=
  (by decide +kernel : ∀ t : Fin grid0.N, win0_3.index t 0 = t.val % 8 ∧ win0_3.index t 1 = 0)
theorem index_4 : ∀ t : Fin cfg0.N, win0_4.index t 0 = t.val % 8 ∧ win0_4.index t 1 = 0 :=
  (by decide +kernel : ∀ t : Fin grid0.N, win0_4.index t 0 = t.val % 8 ∧ win0_4.index t 1 = 0)
theorem index_5 : ∀ t : Fin cfg0.N, win0_5.index t 0 = t.val % 8 ∧ win0_5.index t 1 = t.val / 8 :=
  (by decide +kernel : ∀ t : Fin grid0.N, win0_5.index t 0 = t.val % 8 ∧ win0_5.index t 1 = t.val / 8)
theorem coord_0 : ∀ t : Fin cfg0.N, (grid0.coords t 0).val = t.val / 8 :=
  (by decide +kernel : ∀ t : Fin grid0.N, (grid0.coords t 0).val = t.val / 8)

/-- The shard and the row of the whole array that a point's tile holds. -/
def shardAt (t : Fin cfg0.N) : Fin 8 := ⟨t.val / 8, by have : t.val < 64 := t.isLt; omega⟩
def rowAt (t : Fin cfg0.N) (r : Fin 512) : Fin 4096 := ⟨t.val % 8 * 512 + r.val, by omega⟩
def columnAt (s : Fin 8) (e : Fin 1536) : Fin 12288 := ⟨s.val * 1536 + e.val, by omega⟩

theorem blk0 (t : Fin cfg0.N) (r : Fin 512) (k : Fin 4096) :
    (iblk m c 0 t : Vec Ideal S512x4096 .bf16) (ix2 r k) = a0 m c (ix2 (rowAt t r) k) := by
  unfold iblk
  rw [View.read_apply]
  show V m c main_arg0 _ = _
  rw [V_main_arg0]
  refine congrArg (a0 m c) (funext fun a => Fin.ext ?_)
  match a with
  | ⟨0, _⟩ => show win0_0.index t 0 * 512 + 1 * r.val = t.val % 8 * 512 + r.val; rw [(index_0 t).1]; omega
  | ⟨1, _⟩ => show win0_0.index t 1 * 4096 + 1 * k.val = k.val; rw [(index_0 t).2]; omega

theorem blk1 (t : Fin cfg0.N) (k : Fin 4096) (e : Fin 1536) :
    (iblk m c 1 t : Vec Ideal S1x4096x1536 .bf16) (ix3 0 k e) = a1 m c (ix2 k (columnAt (shardAt t) e)) := by
  unfold iblk
  rw [View.read_apply]
  show V m c main_v23 _ = _
  rw [V23]
  refine Eq.trans ?_ (byShard_apply (a1 m c) shapeCasts_S4096x12288_S4096x8x1536 transposes_S4096x8x1536_S8x4096x1536_1_0_2 rfl (shardAt t) k e _ rfl)
  refine congrArg (transpose S8x4096x1536 [1, 0, 2] (shapeCast S4096x8x1536 (a1 m c) shapeCasts_S4096x12288_S4096x8x1536) transposes_S4096x8x1536_S8x4096x1536_1_0_2) (funext fun a => Fin.ext ?_)
  match a with
  | ⟨0, _⟩ => show win0_1.index t 0 * 1 + 1 * 0 = t.val / 8; rw [(index_1 t).1]; omega
  | ⟨1, _⟩ => show win0_1.index t 1 * 4096 + 1 * k.val = k.val; rw [(index_1 t).2.1]; omega
  | ⟨2, _⟩ => show win0_1.index t 2 * 1536 + 1 * e.val = e.val; rw [(index_1 t).2.2]; omega

theorem blk2 (t : Fin cfg0.N) (r : Fin 512) (l : Fin 128) :
    (iblk m c 2 t : Vec Ideal S512x128 .f32) (ix2 r l) = beside (Host.cos (F := Ideal) (φ := .f32) (angles (a2 m c))) (Host.cos (F := Ideal) (φ := .f32) (angles (a2 m c))) ones96 (ix2 (rowAt t r) l) := by
  unfold iblk
  rw [View.read_apply]
  show V m c main_v16 _ = _
  rw [V16]
  refine congrArg (beside (Host.cos (F := Ideal) (φ := .f32) (angles (a2 m c))) (Host.cos (F := Ideal) (φ := .f32) (angles (a2 m c))) ones96) (funext fun a => Fin.ext ?_)
  match a with
  | ⟨0, _⟩ => show win0_2.index t 0 * 512 + 1 * r.val = t.val % 8 * 512 + r.val; rw [(index_2 t).1]; omega
  | ⟨1, _⟩ => show win0_2.index t 1 * 128 + 1 * l.val = l.val; rw [(index_2 t).2]; omega

theorem blk3 (t : Fin cfg0.N) (r : Fin 512) (l : Fin 128) :
    (iblk m c 3 t : Vec Ideal S512x128 .f32) (ix2 r l) = beside zeros16 (Host.sin (F := Ideal) (φ := .f32) (angles (a2 m c))) zeros96 (ix2 (rowAt t r) l) := by
  unfold iblk
  rw [View.read_apply]
  show V m c main_v18 _ = _
  rw [V18]
  refine congrArg (beside zeros16 (Host.sin (F := Ideal) (φ := .f32) (angles (a2 m c))) zeros96) (funext fun a => Fin.ext ?_)
  match a with
  | ⟨0, _⟩ => show win0_3.index t 0 * 512 + 1 * r.val = t.val % 8 * 512 + r.val; rw [(index_3 t).1]; omega
  | ⟨1, _⟩ => show win0_3.index t 1 * 128 + 1 * l.val = l.val; rw [(index_3 t).2]; omega

theorem blk4 (t : Fin cfg0.N) (r : Fin 512) (l : Fin 128) :
    (iblk m c 4 t : Vec Ideal S512x128 .f32) (ix2 r l) = beside (Host.negf (F := Ideal) (φ := .f32) (Host.sin (F := Ideal) (φ := .f32) (angles (a2 m c)))) zeros16 zeros96 (ix2 (rowAt t r) l) := by
  unfold iblk
  rw [View.read_apply]
  show V m c main_v21 _ = _
  rw [V21]
  refine congrArg (beside (Host.negf (F := Ideal) (φ := .f32) (Host.sin (F := Ideal) (φ := .f32) (angles (a2 m c)))) zeros16 zeros96) (funext fun a => Fin.ext ?_)
  match a with
  | ⟨0, _⟩ => show win0_4.index t 0 * 512 + 1 * r.val = t.val % 8 * 512 + r.val; rw [(index_4 t).1]; omega
  | ⟨1, _⟩ => show win0_4.index t 1 * 128 + 1 * l.val = l.val; rw [(index_4 t).2]; omega

theorem prod_blk (t : Fin cfg0.N) (r : Fin 512) (e : Fin 1536) :
    prod (iblk m c 0 t) (iblk m c 1 t) r e = projAt (a0 m c) (a1 m c) (rowAt t r) (columnAt (shardAt t) e) :=
  Finset.sum_congr rfl fun k _ => by rw [blk0, blk1]

theorem tile_blk (t : Fin cfg0.N) (r : Fin 512) (e : Fin 1536) :
    tile (shardAt t) (iblk m c 0 t) (iblk m c 1 t) (iblk m c 2 t) (iblk m c 3 t) (iblk m c 4 t) r e
      = total (a0 m c) (a1 m c) (a2 m c) (ix2 (rowAt t r) (columnAt (shardAt t) e)) := by
  have hg : (headOf (columnAt (shardAt t) e)).val = (shardAt t).val * 12 + e.val / 128 := by
    show ((shardAt t).val * 1536 + e.val) / 128 = _; omega
  have hp : placeOf (columnAt (shardAt t) e) = lane e := Fin.ext (by
    show ((shardAt t).val * 1536 + e.val) % 128 = e.val % 128; omega)
  have h1 : columnAt (shardAt t) e = colOf (headOf (columnAt (shardAt t) e)) (lane e) := Fin.ext (by
    show (shardAt t).val * 1536 + e.val = (headOf (columnAt (shardAt t) e)).val * 128 + e.val % 128; rw [hg]; omega)
  have h2 : columnAt (shardAt t) (back e) = colOf (headOf (columnAt (shardAt t) e)) ⟨((lane e).val + 112) % 128, Nat.mod_lt _ (by omega)⟩ := Fin.ext (by
    show (shardAt t).val * 1536 + (e.val / 128 * 128 + (e.val % 128 + 112) % 128) = (headOf (columnAt (shardAt t) e)).val * 128 + (e.val % 128 + 112) % 128; rw [hg]; omega)
  have h3 : columnAt (shardAt t) (ahead e) = colOf (headOf (columnAt (shardAt t) e)) ⟨((lane e).val + 16) % 128, Nat.mod_lt _ (by omega)⟩ := Fin.ext (by
    show (shardAt t).val * 1536 + (e.val / 128 * 128 + (e.val % 128 + 16) % 128) = (headOf (columnAt (shardAt t) e)).val * 128 + (e.val % 128 + 16) % 128; rw [hg]; omega)
  refine Eq.trans ?_ (show headAt (a0 m c) (a1 m c) (a2 m c) (rowAt t r) (headOf (columnAt (shardAt t) e)) (placeOf (columnAt (shardAt t) e)) = _ from rfl)
  rw [hp, tile, headAt, hg, prod_blk, prod_blk, prod_blk, blk2, blk3, blk4, h2, h3]
  by_cases hs : (shardAt t).val * 12 + e.val / 128 < 32
  · rw [if_pos hs, if_pos hs]
    refine Eq.trans ?_ (rope_of_tables (a2 m c) (fun l => projAt (a0 m c) (a1 m c) (rowAt t r) (colOf (headOf (columnAt (shardAt t) e)) l)) (rowAt t r) (lane e))
    dsimp only
    rw [← h1]
  · rw [if_neg hs, if_neg hs, ← h1]

theorem flushed_result (t : Fin cfg0.N) :
    (dats m 0 c).flushed 5 t = ((cfg0.win 5).blk t).view.read (Elt Ideal) (total (a0 m c) (a1 m c) (a2 m c)) := by
  rw [flushed5_A]
  funext y
  obtain ⟨r, e, rfl⟩ : ∃ (r : Fin 512) (e : Fin 1536), y = ix2 r e := ⟨_, _, eq_ix2 y⟩
  rw [View.read_apply]
  refine (out5_apply ..).trans ?_
  show tile (grid0.coords t 0) (iblk m c 0 t) (iblk m c 1 t) (iblk m c 2 t) (iblk m c 3 t) (iblk m c 4 t) r e = _
  rw [show (grid0.coords t 0 : Fin 8) = shardAt t from Fin.ext (coord_0 t), tile_blk]
  refine congrArg (total (a0 m c) (a1 m c) (a2 m c)) (funext fun a => Fin.ext ?_)
  match a with
  | ⟨0, _⟩ => show t.val % 8 * 512 + r.val = win0_5.index t 0 * 512 + 1 * r.val; rw [(index_5 t).1]; omega
  | ⟨1, _⟩ => show t.val / 8 * 1536 + e.val = win0_5.index t 1 * 1536 + 1 * e.val; rw [(index_5 t).2]; omega

/-- The point whose tile holds an index of the result. -/
def pointOf (i : S4096x12288.Idx) : Fin cfg0.N :=
  ⟨(i 1).val / 1536 * 8 + (i 0).val / 512, by
    have h0 : (i 0).val < 4096 := (i 0).isLt
    have h1 : (i 1).val < 12288 := (i 1).isLt
    show _ < 64; omega⟩

theorem final_result : (dats m 0 c).arrAt 5 cfg0.N = total (a0 m c) (a1 m c) (a2 m c) :=
  (dats m 0 c).arrAt_eq_of_cover 5 (total (a0 m c) (a1 m c) (a2 m c)) (fun t _ => flushed_result m c t) fun i =>
    ⟨pointOf i, flush0_5 _, by
      have h0 : (i 0).val < 4096 := (i 0).isLt
      have h1 : (i 1).val < 12288 := (i 1).isLt
      show i ∈ ((View.whole main_v24).slice (win0_5.rect (pointOf i))).set
      rw [View.set_slice_whole, Rect.mem_set_unit]
      have hp : (pointOf i).val = (i 1).val / 1536 * 8 + (i 0).val / 512 := rfl
      intro a
      match a with
      | ⟨0, _⟩ => show win0_5.index (pointOf i) 0 * 512 ≤ (i 0 : Nat) ∧ (i 0 : Nat) < win0_5.index (pointOf i) 0 * 512 + 512
                  rw [(index_5 _).1, hp]; omega
      | ⟨1, _⟩ => show win0_5.index (pointOf i) 1 * 1536 ≤ (i 1 : Nat) ∧ (i 1 : Nat) < win0_5.index (pointOf i) 1 * 1536 + 1536
                  rw [(index_5 _).2, hp]; omega⟩

end Cert.InProjIdeal.Value

namespace Cert.InProjRefIdeal.Value

open Cert.InProjRefIdeal Cert.InProjRefIdeal.Gen Cert.InProjRefIdeal.Read
open Cert.InProjIdeal.Value (angle rope projAt colOf headAt headOf placeOf total)

variable (x0 : (⟨S4096x4096, .bf16⟩ : BufTy).Contents (Elt Ideal)) (x1 : (⟨S4096x12288, .bf16⟩ : BufTy).Contents (Elt Ideal)) (x2 : (⟨S4096, .i32⟩ : BufTy).Contents (Elt Ideal))

theorem proj_apply (u : Fin 4096) (e : Fin 12288) : val_main_v2 (F := Ideal) x0 x1 (ix2 u e) = projAt x0 x1 u e := by
  rw [val_main_v2_apply]
  refine Finset.sum_congr rfl fun k _ => ?_
  refine congrArg₂ (· * ·) (show x0 _ = x0 _ from congrArg x0 (funext fun a => Fin.ext ?_)) (show x1 _ = x1 _ from congrArg x1 (funext fun a => Fin.ext ?_))
  · match a with
    | ⟨0, _⟩ => rfl
    | ⟨1, _⟩ => rfl
  · match a with
    | ⟨0, _⟩ => rfl
    | ⟨1, _⟩ => rfl

theorem angle_apply (u : Fin 4096) (f : Fin 16) : val_main_v18 (F := Ideal) x2 (ix2 u f) = angle x2 u f := by
  refine (show _ = val_main_v16 (F := Ideal) x2 (ix2 u f) * val_main_v17 (F := Ideal) (ix2 u f) from rfl).trans ?_
  rw [val_main_v16_apply, val_main_v14_apply, val_main_v17_apply, val_main_v15_apply]
  refine congrArg₂ (· * ·) (congrArg (val_main_v13 (F := Ideal) x2) (funext fun a => Fin.ext ?_)) (congrArg (val_main_v12 (F := Ideal)) (funext fun a => Fin.ext ?_))
  · match a with
    | ⟨0, _⟩ => rfl
  · match a with
    | ⟨0, _⟩ => rfl

theorem cos_apply (u : Fin 4096) (g f : Fin 16) : val_main_v25 (F := Ideal) x2 (ix3 u g f) = Ideal.cos (angle x2 u f) := by
  rw [val_main_v25_apply, val_main_v20_apply]
  refine Eq.trans ?_ (congrArg Ideal.cos (angle_apply x2 u f))
  refine congrArg (fun i => Ideal.cos (val_main_v18 (F := Ideal) x2 i)) (funext fun a => Fin.ext ?_)
  match a with
  | ⟨0, _⟩ => rfl
  | ⟨1, _⟩ => rfl

theorem sin_apply (u : Fin 4096) (g f : Fin 16) : val_main_v27 (F := Ideal) x2 (ix3 u g f) = Ideal.sin (angle x2 u f) := by
  rw [val_main_v27_apply, val_main_v22_apply]
  refine Eq.trans ?_ (congrArg Ideal.sin (angle_apply x2 u f))
  refine congrArg (fun i => Ideal.sin (val_main_v18 (F := Ideal) x2 i)) (funext fun a => Fin.ext ?_)
  match a with
  | ⟨0, _⟩ => rfl
  | ⟨1, _⟩ => rfl

/-- The heads of one projection, turned as the reference writes it. -/
def ropeHeads (h : (⟨S4096x16x128, .f32⟩ : BufTy).Contents (Elt Ideal)) : (⟨S4096x16x128, .f32⟩ : BufTy).Contents (Elt Ideal) :=
  concatenate S4096x16x128 2 [⟨S4096x16x32, concatenate S4096x16x32 2
      [⟨S4096x16x16, subf (F := Ideal) (φ := .f32)
          (mulf (F := Ideal) (φ := .f32) (extractStridedSlice S4096x16x16 ![0, 0, 0] h slices_S4096x16x128_S4096x16x16_0_0_0) (val_main_v25 (F := Ideal) x2))
          (mulf (F := Ideal) (φ := .f32) (extractStridedSlice S4096x16x16 ![0, 0, 16] h slices_S4096x16x128_S4096x16x16_0_0_16) (val_main_v27 (F := Ideal) x2))⟩,
       ⟨S4096x16x16, addf (F := Ideal) (φ := .f32)
          (mulf (F := Ideal) (φ := .f32) (extractStridedSlice S4096x16x16 ![0, 0, 16] h slices_S4096x16x128_S4096x16x16_0_0_16) (val_main_v25 (F := Ideal) x2))
          (mulf (F := Ideal) (φ := .f32) (extractStridedSlice S4096x16x16 ![0, 0, 0] h slices_S4096x16x128_S4096x16x16_0_0_0) (val_main_v27 (F := Ideal) x2))⟩]
      concatenates_S4096x16x16_S4096x16x16_S4096x16x32_d2⟩,
    ⟨S4096x16x96, extractStridedSlice S4096x16x96 ![0, 0, 32] h slices_S4096x16x128_S4096x16x96_0_0_32⟩] concatenates_S4096x16x32_S4096x16x96_S4096x16x128_d2

theorem v37_eq : val_main_v37 (F := Ideal) x0 x1 x2 = ropeHeads x2 (val_main_v6 (F := Ideal) x0 x1) := rfl
theorem v70_eq : val_main_v70 (F := Ideal) x0 x1 x2 = ropeHeads x2 (val_main_v39 (F := Ideal) x0 x1) := rfl

theorem first_apply (h : (⟨S4096x16x128, .f32⟩ : BufTy).Contents (Elt Ideal)) (u : Fin 4096) (g f : Fin 16) :
    extractStridedSlice S4096x16x16 ![0, 0, 0] h slices_S4096x16x128_S4096x16x16_0_0_0 (ix3 u g f) = h (ix3 u g (⟨f.val, by omega⟩ : Fin 128)) := by
  refine extractStridedSlice_apply _ h _ _ _ fun a => ?_
  match a with
  | ⟨0, _⟩ => show u.val = 0 + u.val; omega
  | ⟨1, _⟩ => show g.val = 0 + g.val; omega
  | ⟨2, _⟩ => show f.val = 0 + f.val; omega
theorem second_apply (h : (⟨S4096x16x128, .f32⟩ : BufTy).Contents (Elt Ideal)) (u : Fin 4096) (g f : Fin 16) :
    extractStridedSlice S4096x16x16 ![0, 0, 16] h slices_S4096x16x128_S4096x16x16_0_0_16 (ix3 u g f) = h (ix3 u g (⟨f.val + 16, by omega⟩ : Fin 128)) := by
  refine extractStridedSlice_apply _ h _ _ _ fun a => ?_
  match a with
  | ⟨0, _⟩ => show u.val = 0 + u.val; omega
  | ⟨1, _⟩ => show g.val = 0 + g.val; omega
  | ⟨2, _⟩ => show f.val + 16 = 16 + f.val; omega
theorem rest_apply (h : (⟨S4096x16x128, .f32⟩ : BufTy).Contents (Elt Ideal)) (u : Fin 4096) (g : Fin 16) (f : Fin 96) :
    extractStridedSlice S4096x16x96 ![0, 0, 32] h slices_S4096x16x128_S4096x16x96_0_0_32 (ix3 u g f) = h (ix3 u g (⟨f.val + 32, by omega⟩ : Fin 128)) := by
  refine extractStridedSlice_apply _ h _ _ _ fun a => ?_
  match a with
  | ⟨0, _⟩ => show u.val = 0 + u.val; omega
  | ⟨1, _⟩ => show g.val = 0 + g.val; omega
  | ⟨2, _⟩ => show f.val + 32 = 32 + f.val; omega

theorem ropeHeads_apply (h : (⟨S4096x16x128, .f32⟩ : BufTy).Contents (Elt Ideal)) (u : Fin 4096) (g : Fin 16) (l : Fin 128) :
    ropeHeads x2 h (ix3 u g l) = rope x2 (fun l => h (ix3 u g l)) u l := by
  unfold ropeHeads rope
  split_ifs with h1 h2
  · refine (concatenate_pair_apply_left (s₁ := S4096x16x32) (s₂ := S4096x16x96) 2 _ _ _ (ix3 u g l) (i := (ix3 u g (⟨l.val, by omega⟩ : Fin 32) : S4096x16x32.Idx)) rfl fun b => ?_).trans ?_
    · match b with
      | ⟨0, _⟩ => rfl
      | ⟨1, _⟩ => rfl
      | ⟨2, _⟩ => rfl
    refine (concatenate_pair_apply_left (s₁ := S4096x16x16) (s₂ := S4096x16x16) 2 _ _ _ (ix3 u g (⟨l.val, by omega⟩ : Fin 32)) (i := (ix3 u g (⟨l.val, h1⟩ : Fin 16) : S4096x16x16.Idx)) rfl fun b => ?_).trans ?_
    · match b with
      | ⟨0, _⟩ => rfl
      | ⟨1, _⟩ => rfl
      | ⟨2, _⟩ => rfl
    exact congrArg₂ (· - ·) (congrArg₂ (· * ·) (first_apply h u g ⟨l.val, h1⟩) (cos_apply x2 u g ⟨l.val, h1⟩)) (congrArg₂ (· * ·) (second_apply h u g ⟨l.val, h1⟩) (sin_apply x2 u g ⟨l.val, h1⟩))
  · refine (concatenate_pair_apply_left (s₁ := S4096x16x32) (s₂ := S4096x16x96) 2 _ _ _ (ix3 u g l) (i := (ix3 u g (⟨l.val, h2⟩ : Fin 32) : S4096x16x32.Idx)) rfl fun b => ?_).trans ?_
    · match b with
      | ⟨0, _⟩ => rfl
      | ⟨1, _⟩ => rfl
      | ⟨2, _⟩ => rfl
    refine (concatenate_pair_apply_right (s₁ := S4096x16x16) (s₂ := S4096x16x16) 2 _ _ _ (ix3 u g (⟨l.val, h2⟩ : Fin 32)) rfl (i := (ix3 u g (⟨l.val - 16, by omega⟩ : Fin 16) : S4096x16x16.Idx)) rfl (fun b hb => ?_) ?_).trans ?_
    · match b with
      | ⟨0, _⟩ => rfl
      | ⟨1, _⟩ => rfl
      | ⟨2, _⟩ => exact absurd rfl hb
    · show l.val - 16 + 16 = l.val; omega
    have hl : (⟨l.val - 16 + 16, by omega⟩ : Fin 128) = l := Fin.ext (by show l.val - 16 + 16 = l.val; omega)
    refine congrArg₂ (· + ·) (congrArg₂ (· * ·) ((second_apply h u g ⟨l.val - 16, by omega⟩).trans ?_) (cos_apply x2 u g ⟨l.val - 16, by omega⟩)) (congrArg₂ (· * ·) (first_apply h u g ⟨l.val - 16, by omega⟩) (sin_apply x2 u g ⟨l.val - 16, by omega⟩))
    exact congrArg (fun l => h (ix3 u g l)) hl
  · refine (concatenate_pair_apply_right (s₁ := S4096x16x32) (s₂ := S4096x16x96) 2 _ _ _ (ix3 u g l) rfl (i := (ix3 u g (⟨l.val - 32, by omega⟩ : Fin 96) : S4096x16x96.Idx)) rfl (fun b hb => ?_) ?_).trans ?_
    · match b with
      | ⟨0, _⟩ => rfl
      | ⟨1, _⟩ => rfl
      | ⟨2, _⟩ => exact absurd rfl hb
    · show l.val - 32 + 32 = l.val; omega
    have hl : (⟨l.val - 32 + 32, by omega⟩ : Fin 128) = l := Fin.ext (by show l.val - 32 + 32 = l.val; omega)
    exact (rest_apply h u g ⟨l.val - 32, by omega⟩).trans (congrArg (fun l => h (ix3 u g l)) hl)

/-- A place of a head in the columns of one projection. -/
def inHead (g : Fin 16) (l : Fin 128) : Fin 2048 := ⟨g.val * 128 + l.val, by omega⟩

theorem heads_apply (x : (⟨S4096x2048, .f32⟩ : BufTy).Contents (Elt Ideal)) (u : Fin 4096) (g : Fin 16) (l : Fin 128) :
    shapeCast S4096x16x128 x shapeCasts_S4096x2048_S4096x16x128 (ix3 u g l) = x (ix2 u (inHead g l)) := by
  refine shapeCast_apply x _ (ix3 u g l) (ix2 u (inHead g l)) ?_
  rw [Shape.rowMajor_val_two, Shape.rowMajor_val_three]
  show u.val * 2048 + (g.val * 128 + l.val) = (u.val * 16 + g.val) * 128 + l.val
  omega
theorem flat_apply (y : (⟨S4096x16x128, .f32⟩ : BufTy).Contents (Elt Ideal)) (u : Fin 4096) (g : Fin 16) (l : Fin 128) :
    shapeCast S4096x2048 y shapeCasts_S4096x16x128_S4096x2048 (ix2 u (inHead g l)) = y (ix3 u g l) := by
  refine shapeCast_apply y _ (ix2 u (inHead g l)) (ix3 u g l) ?_
  rw [Shape.rowMajor_val_two, Shape.rowMajor_val_three]
  show (u.val * 16 + g.val) * 128 + l.val = u.val * 2048 + (g.val * 128 + l.val)
  omega

theorem queries_apply (u : Fin 4096) (g : Fin 16) (l : Fin 128) :
    val_main_v38 (F := Ideal) x0 x1 x2 (ix2 u (inHead g l)) = rope x2 (fun l => projAt x0 x1 u (colOf ⟨g.val, by omega⟩ l)) u l := by
  refine (show _ = shapeCast S4096x2048 (val_main_v37 (F := Ideal) x0 x1 x2) shapeCasts_S4096x16x128_S4096x2048 (ix2 u (inHead g l)) from rfl).trans ?_
  rw [flat_apply, v37_eq, ropeHeads_apply]
  refine congrArg (fun a => rope x2 a u l) (funext fun l => ?_)
  refine (heads_apply (val_main_v3 (F := Ideal) x0 x1) u g l).trans ?_
  rw [val_main_v3_apply, ← proj_apply]
  refine congrArg (val_main_v2 (F := Ideal) x0 x1) (funext fun a => Fin.ext ?_)
  match a with
  | ⟨0, _⟩ => rfl
  | ⟨1, _⟩ => rfl

theorem keys_apply (u : Fin 4096) (g : Fin 16) (l : Fin 128) :
    val_main_v71 (F := Ideal) x0 x1 x2 (ix2 u (inHead g l)) = rope x2 (fun l => projAt x0 x1 u (colOf ⟨g.val + 16, by omega⟩ l)) u l := by
  refine (show _ = shapeCast S4096x2048 (val_main_v70 (F := Ideal) x0 x1 x2) shapeCasts_S4096x16x128_S4096x2048 (ix2 u (inHead g l)) from rfl).trans ?_
  rw [flat_apply, v70_eq, ropeHeads_apply]
  refine congrArg (fun a => rope x2 a u l) (funext fun l => ?_)
  refine (heads_apply (val_main_v4 (F := Ideal) x0 x1) u g l).trans ?_
  rw [val_main_v4_apply, ← proj_apply]
  refine congrArg (val_main_v2 (F := Ideal) x0 x1) (funext fun a => Fin.ext ?_)
  match a with
  | ⟨0, _⟩ => rfl
  | ⟨1, _⟩ => show 2048 + (g.val * 128 + l.val) = (g.val + 16) * 128 + l.val; omega

theorem values_apply (u : Fin 4096) (e : Fin 8192) :
    val_main_v5 (F := Ideal) x0 x1 (ix2 u e) = projAt x0 x1 u ⟨e.val + 4096, by omega⟩ := by
  rw [val_main_v5_apply, ← proj_apply]
  refine congrArg (val_main_v2 (F := Ideal) x0 x1) (funext fun a => Fin.ext ?_)
  match a with
  | ⟨0, _⟩ => rfl
  | ⟨1, _⟩ => show 4096 + e.val = e.val + 4096; omega

theorem result_apply (u : Fin 4096) (e : Fin 12288) : val_main_v73 (F := Ideal) x0 x1 x2 (ix2 u e) = headAt x0 x1 x2 u (headOf e) (placeOf e) := by
  refine (show _ = val_main_v72 (F := Ideal) x0 x1 x2 (ix2 u e) from rfl).trans ?_
  unfold val_main_v72 headAt
  have hg : (headOf e).val = e.val / 128 := rfl
  by_cases h1 : e.val < 2048
  · rw [if_pos (by omega : (headOf e).val < 32)]
    refine (concatenate_apply_piece 1 _ _ (ix2 u e) 0 (by simp) S4096x2048 (val_main_v38 (F := Ideal) x0 x1 x2) rfl rfl 0 rfl
      (ix2 u (inHead ⟨e.val / 128, by omega⟩ (placeOf e))) (fun b hb => ?_) ?_).trans ?_
    · match b with
      | ⟨0, _⟩ => rfl
      | ⟨1, _⟩ => exact absurd rfl hb
    · show 0 + (e.val / 128 * 128 + e.val % 128) = e.val; omega
    · exact queries_apply x0 x1 x2 u ⟨e.val / 128, by omega⟩ (placeOf e)
  · by_cases h2 : e.val < 4096
    · rw [if_pos (by omega : (headOf e).val < 32)]
      refine (concatenate_apply_piece 1 _ _ (ix2 u e) 1 (by simp) S4096x2048 (val_main_v71 (F := Ideal) x0 x1 x2) rfl rfl 2048 rfl
        (ix2 u (inHead ⟨e.val / 128 - 16, by omega⟩ (placeOf e))) (fun b hb => ?_) ?_).trans ?_
      · match b with
        | ⟨0, _⟩ => rfl
        | ⟨1, _⟩ => exact absurd rfl hb
      · show 2048 + ((e.val / 128 - 16) * 128 + e.val % 128) = e.val; omega
      · refine (keys_apply x0 x1 x2 u ⟨e.val / 128 - 16, by omega⟩ (placeOf e)).trans ?_
        rw [show (⟨e.val / 128 - 16 + 16, by omega⟩ : Fin 96) = headOf e from Fin.ext (by show e.val / 128 - 16 + 16 = e.val / 128; omega)]
    · rw [if_neg (by omega : ¬ (headOf e).val < 32)]
      refine (concatenate_apply_piece 1 _ _ (ix2 u e) 2 (by simp) S4096x8192 (val_main_v5 (F := Ideal) x0 x1) rfl rfl 4096 rfl
        (ix2 u ⟨e.val - 4096, by omega⟩) (fun b hb => ?_) ?_).trans ?_
      · match b with
        | ⟨0, _⟩ => rfl
        | ⟨1, _⟩ => exact absurd rfl hb
      · show 4096 + (e.val - 4096) = e.val; omega
      · refine (values_apply x0 x1 u ⟨e.val - 4096, by omega⟩).trans ?_
        refine congrArg (projAt x0 x1 u) (Fin.ext ?_)
        show e.val - 4096 + 4096 = e.val / 128 * 128 + e.val % 128
        omega

theorem result_eq : val_main_v73 (F := Ideal) x0 x1 x2 = total x0 x1 x2 := funext fun i => by
  obtain ⟨u, e, rfl⟩ : ∃ (u : Fin 4096) (e : Fin 12288), i = ix2 u e := ⟨_, _, eq_ix2 i⟩
  exact result_apply x0 x1 x2 u e

/-- The reference runs to its end. -/
theorem frame : Cert.quiescent_InProjRefIdeal := fun m g _ =>
  (θ_run Cert.InProjRefIdeal.defs _ _).mono (fun r h => ⟨fun c => (h c).2, Idealize.ShloMosaic.sem_eq_zero_of_no_sems (by decide) r.2⟩)
    (Cert.InProjRefIdeal.Value.run (F := Ideal) m g)

/-- The kernel computes what the reference computes. -/
theorem algebraic : Cert.algebraic_InProjIdeal_InProjRefIdeal := by
  intro m g m' g' _ hargs
  refine ⟨fun c => total (Cert.InProjIdeal.Value.a0 m c) (Cert.InProjIdeal.Value.a1 m c) (Cert.InProjIdeal.Value.a2 m c), ?_, ?_⟩
  · refine (θ_run Cert.InProjIdeal.defs _ _).mono (fun r h c => ?_) (Cert.InProjIdeal.Value.run_blocks (F := Ideal) m g)
    obtain ⟨h2, h⟩ := h c
    exact ⟨h2.trans (Cert.InProjIdeal.Value.final_result m c), h⟩
  · refine (θ_run Cert.InProjRefIdeal.defs _ _).mono (fun r h c => ?_) (Cert.InProjRefIdeal.Value.run (F := Ideal) m' g')
    obtain ⟨h2, h⟩ := h c
    obtain ⟨e0, e1, e2⟩ := hargs c
    refine ⟨h2.trans ?_, h⟩
    refine (val_main_v73_eq _ _).trans ?_
    rw [e0, e1, e2]
    exact result_eq _ _ _

end Cert.InProjRefIdeal.Value

end
-- ==== Proof.lean ====
module

public import proofs.«01_k».proof.Defs
public import proofs.«01_k».proof.Proof.Gen.ActGrad
public import proofs.«01_k».proof.Proof.Gen.ActGrad.Skeleton
public import proofs.«01_k».proof.Proof.Gen.ActGrad.Launch
public import proofs.«01_k».proof.Proof.Gen.ActGrad.Points
public import proofs.«01_k».proof.Proof.Gen.ActGrad.Frame
public import proofs.«01_k».proof.Proof.Gen.ActGradIdeal
public import proofs.«01_k».proof.Proof.Gen.ActGradIdeal.Skeleton
public import proofs.«01_k».proof.Proof.Gen.ActGradIdeal.Launch
public import proofs.«01_k».proof.Proof.Gen.ActGradIdeal.Points
public import proofs.«01_k».proof.Proof.Gen.ActGradIdeal.Frame
public import proofs.«01_k».proof.Proof.Gen.ActGradIdeal.Value
public import proofs.«01_k».proof.Proof.Gen.FfnWeightGrad
public import proofs.«01_k».proof.Proof.Gen.FfnWeightGrad.Skeleton
public import proofs.«01_k».proof.Proof.Gen.FfnWeightGrad.Launch
public import proofs.«01_k».proof.Proof.Gen.FfnWeightGrad.Points
public import proofs.«01_k».proof.Proof.Gen.FfnWeightGrad.Frame
public import proofs.«01_k».proof.Proof.Gen.FfnWeightGradIdeal
public import proofs.«01_k».proof.Proof.Gen.FfnWeightGradIdeal.Skeleton
public import proofs.«01_k».proof.Proof.Gen.FfnWeightGradIdeal.Launch
public import proofs.«01_k».proof.Proof.Gen.FfnWeightGradIdeal.Points
public import proofs.«01_k».proof.Proof.Gen.FfnWeightGradIdeal.Frame
public import proofs.«01_k».proof.Proof.Gen.FfnWeightGradIdeal.Value
public import proofs.«01_k».proof.Proof.Gen.FfnInputGrad
public import proofs.«01_k».proof.Proof.Gen.FfnInputGrad.Skeleton
public import proofs.«01_k».proof.Proof.Gen.FfnInputGrad.Launch
public import proofs.«01_k».proof.Proof.Gen.FfnInputGrad.Points
public import proofs.«01_k».proof.Proof.Gen.FfnInputGrad.Frame
public import proofs.«01_k».proof.Proof.Gen.FfnInputGradIdeal
public import proofs.«01_k».proof.Proof.Gen.FfnInputGradIdeal.Skeleton
public import proofs.«01_k».proof.Proof.Gen.FfnInputGradIdeal.Launch
public import proofs.«01_k».proof.Proof.Gen.FfnInputGradIdeal.Points
public import proofs.«01_k».proof.Proof.Gen.FfnInputGradIdeal.Frame
public import proofs.«01_k».proof.Proof.Gen.FfnInputGradIdeal.Value
public import proofs.«01_k».proof.Proof.Gen.InWeightGrad
public import proofs.«01_k».proof.Proof.Gen.InWeightGrad.Skeleton
public import proofs.«01_k».proof.Proof.Gen.InWeightGrad.Launch
public import proofs.«01_k».proof.Proof.Gen.InWeightGrad.Points
public import proofs.«01_k».proof.Proof.Gen.InWeightGrad.Frame
public import proofs.«01_k».proof.Proof.Gen.InWeightGradIdeal
public import proofs.«01_k».proof.Proof.Gen.InWeightGradIdeal.Skeleton
public import proofs.«01_k».proof.Proof.Gen.InWeightGradIdeal.Launch
public import proofs.«01_k».proof.Proof.Gen.InWeightGradIdeal.Points
public import proofs.«01_k».proof.Proof.Gen.InWeightGradIdeal.Frame
public import proofs.«01_k».proof.Proof.Gen.InWeightGradIdeal.Value
public import proofs.«01_k».proof.Proof.Gen.InInputGrad
public import proofs.«01_k».proof.Proof.Gen.InInputGrad.Skeleton
public import proofs.«01_k».proof.Proof.Gen.InInputGrad.Launch
public import proofs.«01_k».proof.Proof.Gen.InInputGrad.Points
public import proofs.«01_k».proof.Proof.Gen.InInputGrad.Frame
public import proofs.«01_k».proof.Proof.Gen.InInputGradIdeal
public import proofs.«01_k».proof.Proof.Gen.InInputGradIdeal.Skeleton
public import proofs.«01_k».proof.Proof.Gen.InInputGradIdeal.Launch
public import proofs.«01_k».proof.Proof.Gen.InInputGradIdeal.Points
public import proofs.«01_k».proof.Proof.Gen.InInputGradIdeal.Frame
public import proofs.«01_k».proof.Proof.Gen.InInputGradIdeal.Value
public import proofs.«01_k».proof.Proof.Gen.OutWeightGrad
public import proofs.«01_k».proof.Proof.Gen.OutWeightGrad.Skeleton
public import proofs.«01_k».proof.Proof.Gen.OutWeightGrad.Launch
public import proofs.«01_k».proof.Proof.Gen.OutWeightGrad.Points
public import proofs.«01_k».proof.Proof.Gen.OutWeightGrad.Frame
public import proofs.«01_k».proof.Proof.Gen.OutWeightGradIdeal
public import proofs.«01_k».proof.Proof.Gen.OutWeightGradIdeal.Skeleton
public import proofs.«01_k».proof.Proof.Gen.OutWeightGradIdeal.Launch
public import proofs.«01_k».proof.Proof.Gen.OutWeightGradIdeal.Points
public import proofs.«01_k».proof.Proof.Gen.OutWeightGradIdeal.Frame
public import proofs.«01_k».proof.Proof.Gen.OutWeightGradIdeal.Value
public import proofs.«01_k».proof.Proof.Gen.OutInputGrad
public import proofs.«01_k».proof.Proof.Gen.OutInputGrad.Skeleton
public import proofs.«01_k».proof.Proof.Gen.OutInputGrad.Launch
public import proofs.«01_k».proof.Proof.Gen.OutInputGrad.Points
public import proofs.«01_k».proof.Proof.Gen.OutInputGrad.Frame
public import proofs.«01_k».proof.Proof.Gen.OutInputGradIdeal
public import proofs.«01_k».proof.Proof.Gen.OutInputGradIdeal.Skeleton
public import proofs.«01_k».proof.Proof.Gen.OutInputGradIdeal.Launch
public import proofs.«01_k».proof.Proof.Gen.OutInputGradIdeal.Points
public import proofs.«01_k».proof.Proof.Gen.OutInputGradIdeal.Frame
public import proofs.«01_k».proof.Proof.Gen.OutInputGradIdeal.Value
public import proofs.«01_k».proof.Proof.Gen.FfnUpdate
public import proofs.«01_k».proof.Proof.Gen.FfnUpdate.Skeleton
public import proofs.«01_k».proof.Proof.Gen.FfnUpdate.Launch
public import proofs.«01_k».proof.Proof.Gen.FfnUpdate.Points
public import proofs.«01_k».proof.Proof.Gen.FfnUpdate.Frame
public import proofs.«01_k».proof.Proof.Gen.FfnUpdateIdeal
public import proofs.«01_k».proof.Proof.Gen.FfnUpdateIdeal.Skeleton
public import proofs.«01_k».proof.Proof.Gen.FfnUpdateIdeal.Launch
public import proofs.«01_k».proof.Proof.Gen.FfnUpdateIdeal.Points
public import proofs.«01_k».proof.Proof.Gen.FfnUpdateIdeal.Frame
public import proofs.«01_k».proof.Proof.Gen.FfnUpdateIdeal.Value
public import proofs.«01_k».proof.Proof.Gen.OutUpdate
public import proofs.«01_k».proof.Proof.Gen.OutUpdate.Skeleton
public import proofs.«01_k».proof.Proof.Gen.OutUpdate.Launch
public import proofs.«01_k».proof.Proof.Gen.OutUpdate.Points
public import proofs.«01_k».proof.Proof.Gen.OutUpdate.Frame
public import proofs.«01_k».proof.Proof.Gen.OutUpdateIdeal
public import proofs.«01_k».proof.Proof.Gen.OutUpdateIdeal.Skeleton
public import proofs.«01_k».proof.Proof.Gen.OutUpdateIdeal.Launch
public import proofs.«01_k».proof.Proof.Gen.OutUpdateIdeal.Points
public import proofs.«01_k».proof.Proof.Gen.OutUpdateIdeal.Frame
public import proofs.«01_k».proof.Proof.Gen.OutUpdateIdeal.Value
public import proofs.«01_k».proof.Proof.Gen.InUpdate
public import proofs.«01_k».proof.Proof.Gen.InUpdate.Skeleton
public import proofs.«01_k».proof.Proof.Gen.InUpdate.Launch
public import proofs.«01_k».proof.Proof.Gen.InUpdate.Points
public import proofs.«01_k».proof.Proof.Gen.InUpdate.Frame
public import proofs.«01_k».proof.Proof.Gen.InUpdateIdeal
public import proofs.«01_k».proof.Proof.Gen.InUpdateIdeal.Skeleton
public import proofs.«01_k».proof.Proof.Gen.InUpdateIdeal.Launch
public import proofs.«01_k».proof.Proof.Gen.InUpdateIdeal.Points
public import proofs.«01_k».proof.Proof.Gen.InUpdateIdeal.Frame
public import proofs.«01_k».proof.Proof.Gen.InUpdateIdeal.Value
public import proofs.«01_k».proof.Proof.Gen.GainUpdate
public import proofs.«01_k».proof.Proof.Gen.GainUpdate.Skeleton
public import proofs.«01_k».proof.Proof.Gen.GainUpdate.Launch
public import proofs.«01_k».proof.Proof.Gen.GainUpdate.Points
public import proofs.«01_k».proof.Proof.Gen.GainUpdate.Frame
public import proofs.«01_k».proof.Proof.Gen.GainUpdateIdeal
public import proofs.«01_k».proof.Proof.Gen.GainUpdateIdeal.Skeleton
public import proofs.«01_k».proof.Proof.Gen.GainUpdateIdeal.Launch
public import proofs.«01_k».proof.Proof.Gen.GainUpdateIdeal.Points
public import proofs.«01_k».proof.Proof.Gen.GainUpdateIdeal.Frame
public import proofs.«01_k».proof.Proof.Gen.GainUpdateIdeal.Value
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormGrad
public import proofs.«01_k».proof.Proof.Gen.NormGrad.Skeleton
public import proofs.«01_k».proof.Proof.Gen.NormGrad.Launch
public import proofs.«01_k».proof.Proof.Gen.NormGrad.Points
public import proofs.«01_k».proof.Proof.Gen.NormGrad.Frame
public import proofs.«01_k».proof.Proof.Gen.NormGradIdeal
public import proofs.«01_k».proof.Proof.Gen.NormGradIdeal.Skeleton
public import proofs.«01_k».proof.Proof.Gen.NormGradIdeal.Launch
public import proofs.«01_k».proof.Proof.Gen.NormGradIdeal.Points
public import proofs.«01_k».proof.Proof.Gen.NormGradIdeal.Frame
public import proofs.«01_k».proof.Proof.Gen.NormGradIdeal.Value
public import proofs.«01_k».proof.Proof.Gen.LossGrad
public import proofs.«01_k».proof.Proof.Gen.LossGrad.Skeleton
public import proofs.«01_k».proof.Proof.Gen.LossGrad.Launch
public import proofs.«01_k».proof.Proof.Gen.LossGrad.Points
public import proofs.«01_k».proof.Proof.Gen.LossGrad.Frame
public import proofs.«01_k».proof.Proof.Gen.LossGradIdeal
public import proofs.«01_k».proof.Proof.Gen.LossGradIdeal.Skeleton
public import proofs.«01_k».proof.Proof.Gen.LossGradIdeal.Launch
public import proofs.«01_k».proof.Proof.Gen.LossGradIdeal.Points
public import proofs.«01_k».proof.Proof.Gen.LossGradIdeal.Frame
public import proofs.«01_k».proof.Proof.Gen.LossGradIdeal.Value
public import proofs.«01_k».proof.Proof.Gen.GateProj
public import proofs.«01_k».proof.Proof.Gen.GateProj.Skeleton
public import proofs.«01_k».proof.Proof.Gen.GateProj.Launch
public import proofs.«01_k».proof.Proof.Gen.GateProj.Points
public import proofs.«01_k».proof.Proof.Gen.GateProj.Frame
public import proofs.«01_k».proof.Proof.Gen.GateProjIdeal
public import proofs.«01_k».proof.Proof.Gen.GateProjIdeal.Skeleton
public import proofs.«01_k».proof.Proof.Gen.GateProjIdeal.Launch
public import proofs.«01_k».proof.Proof.Gen.GateProjIdeal.Points
public import proofs.«01_k».proof.Proof.Gen.GateProjIdeal.Frame
public import proofs.«01_k».proof.Proof.Gen.GateProjIdeal.Value
public import proofs.«01_k».proof.Proof.Gen.UpAct
public import proofs.«01_k».proof.Proof.Gen.UpAct.Skeleton
public import proofs.«01_k».proof.Proof.Gen.UpAct.Launch
public import proofs.«01_k».proof.Proof.Gen.UpAct.Points
public import proofs.«01_k».proof.Proof.Gen.UpAct.Frame
public import proofs.«01_k».proof.Proof.Gen.UpActIdeal
public import proofs.«01_k».proof.Proof.Gen.UpActIdeal.Skeleton
public import proofs.«01_k».proof.Proof.Gen.UpActIdeal.Launch
public import proofs.«01_k».proof.Proof.Gen.UpActIdeal.Points
public import proofs.«01_k».proof.Proof.Gen.UpActIdeal.Frame
public import proofs.«01_k».proof.Proof.Gen.UpActIdeal.Value
public import proofs.«01_k».proof.Proof.Gen.DownProj
public import proofs.«01_k».proof.Proof.Gen.DownProj.Skeleton
public import proofs.«01_k».proof.Proof.Gen.DownProj.Launch
public import proofs.«01_k».proof.Proof.Gen.DownProj.Points
public import proofs.«01_k».proof.Proof.Gen.DownProj.Frame
public import proofs.«01_k».proof.Proof.Gen.DownProjIdeal
public import proofs.«01_k».proof.Proof.Gen.DownProjIdeal.Skeleton
public import proofs.«01_k».proof.Proof.Gen.DownProjIdeal.Launch
public import proofs.«01_k».proof.Proof.Gen.DownProjIdeal.Points
public import proofs.«01_k».proof.Proof.Gen.DownProjIdeal.Frame
public import proofs.«01_k».proof.Proof.Gen.DownProjIdeal.Value
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.StickHeads
public import proofs.«01_k».proof.Proof.Gen.StickHeads.Skeleton
public import proofs.«01_k».proof.Proof.Gen.StickHeads.Loops
public import proofs.«01_k».proof.Proof.Gen.StickHeads.Launch
public import proofs.«01_k».proof.Proof.Gen.StickHeads.Points
public import proofs.«01_k».proof.Proof.Gen.StickHeads.Frame
public import proofs.«01_k».proof.Proof.Gen.StickHeadsIdeal
public import proofs.«01_k».proof.Proof.Gen.StickHeadsIdeal.Skeleton
public import proofs.«01_k».proof.Proof.Gen.StickHeadsIdeal.Loops
public import proofs.«01_k».proof.Proof.Gen.StickHeadsIdeal.Launch
public import proofs.«01_k».proof.Proof.Gen.StickHeadsIdeal.Points
public import proofs.«01_k».proof.Proof.Gen.StickHeadsIdeal.Frame
public import proofs.«01_k».proof.Proof.Gen.ActGradRefIdeal
public import proofs.«01_k».proof.Proof.Gen.ActGradRefIdeal.Run
public import proofs.«01_k».proof.Proof.Gen.ActGradRefIdeal.Read
public import proofs.«01_k».proof.Proof.Gen.DownWeightRefIdeal
public import proofs.«01_k».proof.Proof.Gen.DownWeightRefIdeal.Run
public import proofs.«01_k».proof.Proof.Gen.DownWeightRefIdeal.Read
public import proofs.«01_k».proof.Proof.Gen.GateWeightRefIdeal
public import proofs.«01_k».proof.Proof.Gen.GateWeightRefIdeal.Run
public import proofs.«01_k».proof.Proof.Gen.GateWeightRefIdeal.Read
public import proofs.«01_k».proof.Proof.Gen.FfnInputGradRefIdeal
public import proofs.«01_k».proof.Proof.Gen.FfnInputGradRefIdeal.Run
public import proofs.«01_k».proof.Proof.Gen.FfnInputGradRefIdeal.Read
public import proofs.«01_k».proof.Proof.Gen.InWeightGradRefIdeal
public import proofs.«01_k».proof.Proof.Gen.InWeightGradRefIdeal.Run
public import proofs.«01_k».proof.Proof.Gen.InWeightGradRefIdeal.Read
public import proofs.«01_k».proof.Proof.Gen.InInputGradRefIdeal
public import proofs.«01_k».proof.Proof.Gen.InInputGradRefIdeal.Run
public import proofs.«01_k».proof.Proof.Gen.InInputGradRefIdeal.Read
public import proofs.«01_k».proof.Proof.Gen.OutWeightGradRefIdeal
public import proofs.«01_k».proof.Proof.Gen.OutWeightGradRefIdeal.Run
public import proofs.«01_k».proof.Proof.Gen.OutWeightGradRefIdeal.Read
public import proofs.«01_k».proof.Proof.Gen.OutInputGradRefIdeal
public import proofs.«01_k».proof.Proof.Gen.OutInputGradRefIdeal.Run
public import proofs.«01_k».proof.Proof.Gen.OutInputGradRefIdeal.Read
public import proofs.«01_k».proof.Proof.Gen.FfnUpdateRefIdeal
public import proofs.«01_k».proof.Proof.Gen.FfnUpdateRefIdeal.Run
public import proofs.«01_k».proof.Proof.Gen.FfnUpdateRefIdeal.Read
public import proofs.«01_k».proof.Proof.Gen.OutUpdateRefIdeal
public import proofs.«01_k».proof.Proof.Gen.OutUpdateRefIdeal.Run
public import proofs.«01_k».proof.Proof.Gen.OutUpdateRefIdeal.Read
public import proofs.«01_k».proof.Proof.Gen.InUpdateRefIdeal
public import proofs.«01_k».proof.Proof.Gen.InUpdateRefIdeal.Run
public import proofs.«01_k».proof.Proof.Gen.InUpdateRefIdeal.Read
public import proofs.«01_k».proof.Proof.Gen.GainUpdateRefIdeal
public import proofs.«01_k».proof.Proof.Gen.GainUpdateRefIdeal.Run
public import proofs.«01_k».proof.Proof.Gen.GainUpdateRefIdeal.Read
public import proofs.«01_k».proof.Proof.Gen.NormRefIdeal
public import proofs.«01_k».proof.Proof.Gen.NormRefIdeal.Run
public import proofs.«01_k».proof.Proof.Gen.NormRefIdeal.Read
public import proofs.«01_k».proof.Proof.Gen.NormGradRefIdeal
public import proofs.«01_k».proof.Proof.Gen.NormGradRefIdeal.Run
public import proofs.«01_k».proof.Proof.Gen.NormGradRefIdeal.Read
public import proofs.«01_k».proof.Proof.Gen.LossGradRefIdeal
public import proofs.«01_k».proof.Proof.Gen.LossGradRefIdeal.Run
public import proofs.«01_k».proof.Proof.Gen.LossGradRefIdeal.Read
public import proofs.«01_k».proof.Proof.Gen.GateProjRefIdeal
public import proofs.«01_k».proof.Proof.Gen.GateProjRefIdeal.Run
public import proofs.«01_k».proof.Proof.Gen.GateProjRefIdeal.Read
public import proofs.«01_k».proof.Proof.Gen.UpActRefIdeal
public import proofs.«01_k».proof.Proof.Gen.UpActRefIdeal.Run
public import proofs.«01_k».proof.Proof.Gen.UpActRefIdeal.Read
public import proofs.«01_k».proof.Proof.Gen.DownProjRefIdeal
public import proofs.«01_k».proof.Proof.Gen.DownProjRefIdeal.Run
public import proofs.«01_k».proof.Proof.Gen.DownProjRefIdeal.Read
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.StickHeadsRefIdeal
public import proofs.«01_k».proof.Proof.Gen.StickHeadsRefIdeal.Run
public import proofs.«01_k».proof.Proof.Gen.StickHeadsRefIdeal.Read
public import proofs.«01_k».proof.Proof.Gen.Pre_finite
public import proofs.«01_k».proof.Proof.ActClaim
public import proofs.«01_k».proof.Proof.FfnWeightGradValue
public import proofs.«01_k».proof.Proof.FfnInputGradValue
public import proofs.«01_k».proof.Proof.InWeightGradValue
public import proofs.«01_k».proof.Proof.InInputGradValue
public import proofs.«01_k».proof.Proof.OutWeightGradValue
public import proofs.«01_k».proof.Proof.OutInputGradValue
public import proofs.«01_k».proof.Proof.StickRun
public import proofs.«01_k».proof.Proof.StickHeadsValue
public import proofs.«01_k».proof.Proof.FfnUpdateValue
public import proofs.«01_k».proof.Proof.OutUpdateValue
public import proofs.«01_k».proof.Proof.InUpdateValue
public import proofs.«01_k».proof.Proof.GainUpdateValue
public import proofs.«01_k».proof.Proof.NormValue
public import proofs.«01_k».proof.Proof.NormGradValue
public import proofs.«01_k».proof.Proof.LossGradValue
public import proofs.«01_k».proof.Proof.GateProjValue
public import proofs.«01_k».proof.Proof.UpActValue
public import proofs.«01_k».proof.Proof.DownProjValue
public import proofs.«01_k».proof.Proof.OutProjValue
public import proofs.«01_k».proof.Proof.InProjValue

@[expose] public section

noncomputable section

namespace Cert.Proof

open Idealize.ShloMosaic Idealize.SL.Sem Cert.ActGrad

/-- The reference runs on the host alone: its arguments are kept, and it declares no semaphore. -/
theorem frame_act_ref : Cert.quiescent_ActGradRefIdeal := fun m g _ =>
  (θ_run Cert.ActGradRefIdeal.defs _ _).mono (fun r h => ⟨fun c => (h c).2.2,
      Idealize.ShloMosaic.sem_eq_zero_of_no_sems (by decide) r.2⟩)
    (Cert.ActGradRefIdeal.Value.run (F := Ideal) m g)

theorem claim : Cert.Claim := ⟨
  Cert.ActGrad.Gen.facts,
  Cert.ActGradIdeal.Gen.facts,
  Cert.ActGradRefIdeal.Gen.facts,
  Cert.FfnWeightGrad.Gen.facts,
  Cert.FfnWeightGradIdeal.Gen.facts,
  Cert.DownWeightRefIdeal.Gen.facts,
  Cert.GateWeightRefIdeal.Gen.facts,
  Cert.FfnInputGrad.Gen.facts,
  Cert.FfnInputGradIdeal.Gen.facts,
  Cert.FfnInputGradRefIdeal.Gen.facts,
  Cert.InWeightGrad.Gen.facts,
  Cert.InWeightGradIdeal.Gen.facts,
  Cert.InWeightGradRefIdeal.Gen.facts,
  Cert.InInputGrad.Gen.facts,
  Cert.InInputGradIdeal.Gen.facts,
  Cert.InInputGradRefIdeal.Gen.facts,
  Cert.OutWeightGrad.Gen.facts,
  Cert.OutWeightGradIdeal.Gen.facts,
  Cert.OutWeightGradRefIdeal.Gen.facts,
  Cert.OutInputGrad.Gen.facts,
  Cert.OutInputGradIdeal.Gen.facts,
  Cert.OutInputGradRefIdeal.Gen.facts,
  Cert.FfnUpdate.Gen.facts,
  Cert.FfnUpdateIdeal.Gen.facts,
  Cert.FfnUpdateRefIdeal.Gen.facts,
  Cert.OutUpdate.Gen.facts,
  Cert.OutUpdateIdeal.Gen.facts,
  Cert.OutUpdateRefIdeal.Gen.facts,
  Cert.InUpdate.Gen.facts,
  Cert.InUpdateIdeal.Gen.facts,
  Cert.InUpdateRefIdeal.Gen.facts,
  Cert.GainUpdate.Gen.facts,
  Cert.GainUpdateIdeal.Gen.facts,
  Cert.GainUpdateRefIdeal.Gen.facts,
  Cert.Norm.Gen.facts,
  Cert.NormIdeal.Gen.facts,
  Cert.NormRefIdeal.Gen.facts,
  Cert.NormGrad.Gen.facts,
  Cert.NormGradIdeal.Gen.facts,
  Cert.NormGradRefIdeal.Gen.facts,
  Cert.LossGrad.Gen.facts,
  Cert.LossGradIdeal.Gen.facts,
  Cert.LossGradRefIdeal.Gen.facts,
  Cert.GateProj.Gen.facts,
  Cert.GateProjIdeal.Gen.facts,
  Cert.GateProjRefIdeal.Gen.facts,
  Cert.UpAct.Gen.facts,
  Cert.UpActIdeal.Gen.facts,
  Cert.UpActRefIdeal.Gen.facts,
  Cert.DownProj.Gen.facts,
  Cert.DownProjIdeal.Gen.facts,
  Cert.DownProjRefIdeal.Gen.facts,
  Cert.OutProj.Gen.facts,
  Cert.OutProjIdeal.Gen.facts,
  Cert.OutProjRefIdeal.Gen.facts,
  Cert.InProj.Gen.facts,
  Cert.InProjIdeal.Gen.facts,
  Cert.InProjRefIdeal.Gen.facts,
  Cert.StickHeads.Gen.facts,
  Cert.StickHeadsIdeal.Gen.facts,
  Cert.StickHeadsRefIdeal.Gen.facts,
  Cert.Pre_finite.Gen.facts,
  fun m g _ => Cert.ActGrad.Gen.frame m g,
  fun m g _ => Cert.ActGradIdeal.Gen.frame m g,
  fun m g _ => Cert.ActGradIdeal.Gen.frame m g,
  frame_act_ref,
  fun m g _ => frame_act_ref m g True.intro,
  fun m g _ => Cert.FfnWeightGrad.Gen.frame m g,
  fun m g _ => Cert.FfnWeightGradIdeal.Gen.frame m g,
  Cert.DownWeightRefIdeal.Value.frame,
  Cert.GateWeightRefIdeal.Value.frame,
  fun m g _ => Cert.FfnInputGrad.Gen.frame m g,
  fun m g _ => Cert.FfnInputGradIdeal.Gen.frame m g,
  Cert.FfnInputGradRefIdeal.Value.frame,
  fun m g _ => Cert.InWeightGrad.Gen.frame m g,
  fun m g _ => Cert.InWeightGradIdeal.Gen.frame m g,
  Cert.InWeightGradRefIdeal.Value.frame,
  fun m g _ => Cert.InInputGrad.Gen.frame m g,
  fun m g _ => Cert.InInputGradIdeal.Gen.frame m g,
  Cert.InInputGradRefIdeal.Value.frame,
  fun m g _ => Cert.OutWeightGrad.Gen.frame m g,
  fun m g _ => Cert.OutWeightGradIdeal.Gen.frame m g,
  Cert.OutWeightGradRefIdeal.Value.frame,
  fun m g _ => Cert.OutInputGrad.Gen.frame m g,
  fun m g _ => Cert.OutInputGradIdeal.Gen.frame m g,
  Cert.OutInputGradRefIdeal.Value.frame,
  fun m g _ => Cert.FfnUpdate.Gen.frame m g,
  fun m g _ => Cert.FfnUpdateIdeal.Gen.frame m g,
  Cert.FfnUpdateRefIdeal.Value.frame,
  fun m g _ => Cert.OutUpdate.Gen.frame m g,
  fun m g _ => Cert.OutUpdateIdeal.Gen.frame m g,
  Cert.OutUpdateRefIdeal.Value.frame,
  fun m g _ => Cert.InUpdate.Gen.frame m g,
  fun m g _ => Cert.InUpdateIdeal.Gen.frame m g,
  Cert.InUpdateRefIdeal.Value.frame,
  fun m g _ => Cert.GainUpdate.Gen.frame m g,
  fun m g _ => Cert.GainUpdateIdeal.Gen.frame m g,
  Cert.GainUpdateRefIdeal.Value.frame,
  fun m g _ => Cert.Norm.Gen.frame m g,
  fun m g _ => Cert.NormIdeal.Gen.frame m g,
  Cert.NormRefIdeal.Value.frame,
  fun m g _ => Cert.NormGrad.Gen.frame m g,
  fun m g _ => Cert.NormGradIdeal.Gen.frame m g,
  Cert.NormGradRefIdeal.Value.frame,
  fun m g _ => Cert.LossGrad.Gen.frame m g,
  fun m g _ => Cert.LossGradIdeal.Gen.frame m g,
  Cert.LossGradRefIdeal.Value.frame,
  fun m g _ => Cert.GateProj.Gen.frame m g,
  fun m g _ => Cert.GateProjIdeal.Gen.frame m g,
  Cert.GateProjRefIdeal.Value.frame,
  fun m g _ => Cert.UpAct.Gen.frame m g,
  fun m g _ => Cert.UpActIdeal.Gen.frame m g,
  Cert.UpActRefIdeal.Value.frame,
  fun m g _ => Cert.DownProj.Gen.frame m g,
  fun m g _ => Cert.DownProjIdeal.Gen.frame m g,
  Cert.DownProjRefIdeal.Value.frame,
  fun m g _ => Cert.OutProj.Gen.frame m g,
  fun m g _ => Cert.OutProjIdeal.Gen.frame m g,
  Cert.OutProjRefIdeal.Value.frame,
  fun m g _ => Cert.InProj.Gen.frame m g,
  fun m g _ => Cert.InProjIdeal.Gen.frame m g,
  Cert.InProjRefIdeal.Value.frame,
  fun m g _ => Cert.StickHeads.Hand.frame m g,
  fun m g _ => Cert.StickHeadsIdeal.Hand.frame m g,
  Cert.StickHeadsRefIdeal.Value.frame,
  trivial,
  Cert.ActProof.algebraic,
  trivial,
  Cert.DownWeightRefIdeal.Value.algebraic,
  Cert.GateWeightRefIdeal.Value.algebraic,
  trivial,
  Cert.FfnInputGradRefIdeal.Value.algebraic,
  trivial,
  Cert.InWeightGradRefIdeal.Value.algebraic,
  trivial,
  Cert.InInputGradRefIdeal.Value.algebraic,
  trivial,
  Cert.OutWeightGradRefIdeal.Value.algebraic,
  trivial,
  Cert.OutInputGradRefIdeal.Value.algebraic,
  trivial,
  Cert.FfnUpdateRefIdeal.Value.algebraic,
  trivial,
  Cert.OutUpdateRefIdeal.Value.algebraic,
  trivial,
  Cert.InUpdateRefIdeal.Value.algebraic,
  trivial,
  Cert.GainUpdateRefIdeal.Value.algebraic,
  trivial,
  Cert.NormRefIdeal.Value.algebraic,
  trivial,
  Cert.NormGradRefIdeal.Value.algebraic,
  trivial,
  Cert.LossGradRefIdeal.Value.algebraic,
  trivial,
  Cert.GateProjRefIdeal.Value.algebraic,
  trivial,
  Cert.UpActRefIdeal.Value.algebraic,
  trivial,
  Cert.DownProjRefIdeal.Value.algebraic,
  trivial,
  Cert.OutProjRefIdeal.Value.algebraic,
  trivial,
  Cert.InProjRefIdeal.Value.algebraic,
  trivial,
  Cert.StickHeadsRefIdeal.Value.algebraic⟩

end Cert.Proof

end
